-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def preserves_Kernel_KernelIdeal : Prop :=
  IdealRules.named_const.Statement Cert.KernelIdeal.κ "exp2_scale" .f32 0x3E0293EE#32 ((((Real.log 2) * (Real.sqrt 128))⁻¹ : ℝ) : EReal)
  ∧ IdealRules.named_const.Statement Cert.KernelIdeal.κ "scale" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v68) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v7_0)) (v2 : (c : Dev Cert.Kernel2Ideal.nD) → Buf (Elt Ideal) ((c.tc : Thread Cert.Kernel2Ideal.nD Cert.Kernel2Ideal.τ).loc Cert.Kernel2Ideal.main_v9)) (v3 : (c : Dev Cert.Kernel2Ideal.nD) → Buf (Elt Ideal) ((c.tc : Thread Cert.Kernel2Ideal.nD Cert.Kernel2Ideal.τ).loc Cert.Kernel2Ideal.main_v11)) (v4 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v7_0) = v1 c
          ∧ r.2.mem ((c.tc : Thread Cert.Kernel2Ideal.nD Cert.Kernel2Ideal.τ).loc Cert.Kernel2Ideal.main_v9) = v2 c
          ∧ r.2.mem ((c.tc : Thread Cert.Kernel2Ideal.nD Cert.Kernel2Ideal.τ).loc Cert.Kernel2Ideal.main_v11) = v3 c
          ∧ r.2.mem ((c.tc : Thread Cert.Kernel2Ideal.nD Cert.Kernel2Ideal.τ).loc Cert.Kernel2Ideal.main_v8_1) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v56) = v1 c
          ∧ r.2.mem ((c.tc : Thread Cert.Reference2Ideal.nD Cert.Reference2Ideal.τ).loc Cert.Reference2Ideal.main_v41) = v2 c
          ∧ r.2.mem ((c.tc : Thread Cert.Reference2Ideal.nD Cert.Reference2Ideal.τ).loc Cert.Reference2Ideal.main_v57) = v3 c
          ∧ r.2.mem ((c.tc : Thread Cert.Reference2Ideal.nD Cert.Reference2Ideal.τ).loc Cert.Reference2Ideal.main_v58) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v8)) (v1 : (c : Dev Cert.Kernel3Ideal.nD) → Buf (Elt Ideal) ((c.tc : Thread Cert.Kernel3Ideal.nD Cert.Kernel3Ideal.τ).loc Cert.Kernel3Ideal.main_v6_0)) (v2 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_v6_0) = v1 c
          ∧ r.2.mem ((c.tc : Thread Cert.Kernel3Ideal.nD Cert.Kernel3Ideal.τ).loc Cert.Kernel3Ideal.main_v9) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_v69) = v1 c
          ∧ r.2.mem ((c.tc : Thread Cert.Reference3Ideal.nD Cert.Reference3Ideal.τ).loc Cert.Reference3Ideal.main_v55) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v10_0)) (v2 : (c : Dev Cert.Kernel4Ideal.nD) → Buf (Elt Ideal) ((c.tc : Thread Cert.Kernel4Ideal.nD Cert.Kernel4Ideal.τ).loc Cert.Kernel4Ideal.main_v11)) (v3 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v10_0) = v1 c
          ∧ r.2.mem ((c.tc : Thread Cert.Kernel4Ideal.nD Cert.Kernel4Ideal.τ).loc Cert.Kernel4Ideal.main_v11) = v2 c
          ∧ r.2.mem ((c.tc : Thread Cert.Kernel4Ideal.nD Cert.Kernel4Ideal.τ).loc Cert.Kernel4Ideal.main_v13) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_v40) = v1 c
          ∧ r.2.mem ((c.tc : Thread Cert.Reference4Ideal.nD Cert.Reference4Ideal.τ).loc Cert.Reference4Ideal.main_v25) = v2 c
          ∧ r.2.mem ((c.tc : Thread Cert.Reference4Ideal.nD Cert.Reference4Ideal.τ).loc Cert.Reference4Ideal.main_v41) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v45_0)) (v1 : (c : Dev Cert.Kernel5Ideal.nD) → Buf (Elt Ideal) ((c.tc : Thread Cert.Kernel5Ideal.nD Cert.Kernel5Ideal.τ).loc Cert.Kernel5Ideal.main_v45_4)) (v2 : (c : Dev Cert.Kernel5Ideal.nD) → Buf (Elt Ideal) ((c.tc : Thread Cert.Kernel5Ideal.nD Cert.Kernel5Ideal.τ).loc Cert.Kernel5Ideal.main_v51_0)) (v3 : (c : Dev Cert.Kernel5Ideal.nD) → Buf (Elt Ideal) ((c.tc : Thread Cert.Kernel5Ideal.nD Cert.Kernel5Ideal.τ).loc Cert.Kernel5Ideal.main_v52)) (v4 : (c : Dev Cert.Kernel5Ideal.nD) → Buf (Elt Ideal) ((c.tc : Thread Cert.Kernel5Ideal.nD Cert.Kernel5Ideal.τ).loc Cert.Kernel5Ideal.main_v53)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v45_0) = v0 c
          ∧ r.2.mem ((c.tc : Thread Cert.Kernel5Ideal.nD Cert.Kernel5Ideal.τ).loc Cert.Kernel5Ideal.main_v45_4) = v1 c
          ∧ r.2.mem ((c.tc : Thread Cert.Kernel5Ideal.nD Cert.Kernel5Ideal.τ).loc Cert.Kernel5Ideal.main_v51_0) = v2 c
          ∧ r.2.mem ((c.tc : Thread Cert.Kernel5Ideal.nD Cert.Kernel5Ideal.τ).loc Cert.Kernel5Ideal.main_v52) = v3 c
          ∧ r.2.mem ((c.tc : Thread Cert.Kernel5Ideal.nD Cert.Kernel5Ideal.τ).loc Cert.Kernel5Ideal.main_v53) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_v42) = v1 c
          ∧ r.2.mem ((c.tc : Thread Cert.Reference5Ideal.nD Cert.Reference5Ideal.τ).loc Cert.Reference5Ideal.main_v40) = v2 c
          ∧ r.2.mem ((c.tc : Thread Cert.Reference5Ideal.nD Cert.Reference5Ideal.τ).loc Cert.Reference5Ideal.main_v25) = v3 c
          ∧ r.2.mem ((c.tc : Thread Cert.Reference5Ideal.nD Cert.Reference5Ideal.τ).loc Cert.Reference5Ideal.main_v43) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_v3) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v66)) (v1 : (c : Dev Cert.Kernel10Ideal.nD) → Buf (Elt Ideal) ((c.tc : Thread Cert.Kernel10Ideal.nD Cert.Kernel10Ideal.τ).loc Cert.Kernel10Ideal.main_v67)) (v2 : (c : Dev Cert.Kernel10Ideal.nD) → Buf (Elt Ideal) ((c.tc : Thread Cert.Kernel10Ideal.nD Cert.Kernel10Ideal.τ).loc Cert.Kernel10Ideal.main_v68)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v66) = v0 c
          ∧ r.2.mem ((c.tc : Thread Cert.Kernel10Ideal.nD Cert.Kernel10Ideal.τ).loc Cert.Kernel10Ideal.main_v67) = v1 c
          ∧ r.2.mem ((c.tc : Thread Cert.Kernel10Ideal.nD Cert.Kernel10Ideal.τ).loc Cert.Kernel10Ideal.main_v68) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v255) = v0 c
          ∧ r.2.mem ((c.tc : Thread Cert.Reference10Ideal.nD Cert.Reference10Ideal.τ).loc Cert.Reference10Ideal.main_v237) = v1 c
          ∧ r.2.mem ((c.tc : Thread Cert.Reference10Ideal.nD Cert.Reference10Ideal.τ).loc Cert.Reference10Ideal.main_v216) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S4096x1024 : Shape := ⟨2, ![4096, 1024]⟩
abbrev S4096x256 : Shape := ⟨2, ![4096, 256]⟩
abbrev S_ : Shape := ⟨0, ![]⟩

class Facts : Prop where
  bcast_S_S4096x1024 : S_.BroadcastsInDim S4096x1024 (![] : Fin 0 → Fin S4096x1024.rank)
  bcast_S_S4096x256 : S_.BroadcastsInDim S4096x256 (![] : Fin 0 → Fin S4096x256.rank)

variable [Facts]

def fn {F : FTy → Type} [FloatOps F] (main_arg0 : FVec F S4096x1024 .bf16) (main_arg1 : FVec F S4096x256 .bf16) (main_arg2 : FVec F S4096x256 .bf16) (main_arg3 : FVec F S4096x1024 .bf16) : IVec S4096x1024 1 × IVec S4096x256 1 × IVec S4096x256 1 × IVec S4096x1024 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_v3 : FVec F S4096x256 .bf16 := Host.absf main_arg1
  let main_cst_0 : FVec F S_ .bf16 := constant S_ .bf16 0x7F80#16
  let main_v4 : FVec F S4096x256 .bf16 := broadcastInDim S4096x256 ![] bcast_S_S4096x256 main_cst_0
  let main_v5 : IVec S4096x256 1 := cmpf .olt main_v3 main_v4
  let main_v6 : FVec F S4096x256 .bf16 := Host.absf main_arg2
  let main_cst_1 : FVec F S_ .bf16 := constant S_ .bf16 0x7F80#16
  let main_v7 : FVec F S4096x256 .bf16 := broadcastInDim S4096x256 ![] bcast_S_S4096x256 main_cst_1
  let main_v8 : IVec S4096x256 1 := cmpf .olt main_v6 main_v7
  let main_v9 : FVec F S4096x1024 .bf16 := Host.absf main_arg3
  let main_cst_2 : FVec F S_ .bf16 := constant S_ .bf16 0x7F80#16
  let main_v10 : FVec F S4096x1024 .bf16 := broadcastInDim S4096x1024 ![] bcast_S_S4096x1024 main_cst_2
  let main_v11 : IVec S4096x1024 1 := cmpf .olt main_v9 main_v10
  (main_v2, main_v5, main_v8, main_v11)
-- ==== Kernel.lean ====
abbrev S4096x1024 : Shape := ⟨2, ![4096, 1024]⟩
abbrev S4096x256 : Shape := ⟨2, ![4096, 256]⟩
abbrev S2048x128 : Shape := ⟨2, ![2048, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S2048x2048 : Shape := ⟨2, ![2048, 2048]⟩

abbrev nBuf : Space → Nat
  | .hbm => 8
  | .vmem => 26
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S4096x1024, .bf16⟩
  | .hbm, ⟨4, _⟩ => ⟨S4096x1024, .bf16⟩
  | .hbm, ⟨5, _⟩ => ⟨S4096x1024, .f32⟩
  | .hbm, ⟨6, _⟩ => ⟨S4096x256, .f32⟩
  | .hbm, ⟨7, _⟩ => ⟨S4096x256, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x2048, .bf16⟩
  | .local _ .vmem, ⟨25, _⟩ => ⟨S2048x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_scratch0 : Ref sig .tc := ⟨.vmem, 24, rfl⟩
abbrev cc1_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨4, ![2, 2, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c4_i32 : BitVec 32 := 4#32
  let v2 : BitVec 32 := Scalar.muli arg1 c4_i32
  let v3 : BitVec 32 := Scalar.addi v2 arg2
  let c0_i32 : BitVec 32 := 0#32
  ![v1.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c4_i32 : BitVec 32 := 4#32
  let v2 : BitVec 32 := Scalar.muli arg1 c4_i32
  let v3 : BitVec 32 := Scalar.addi v2 arg2
  let c0_i32 : BitVec 32 := 0#32
  ![v1.toNat, v3.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev grid1 : Pipeline.Grid := ⟨4, ![2, 2, 4, 1], ![false, false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c4_i32 : BitVec 32 := 4#32
  let v2 : BitVec 32 := Scalar.muli arg1 c4_i32
  let v3 : BitVec 32 := Scalar.addi v2 arg2
  let c0_i32 : BitVec 32 := 0#32
  ![v1.toNat, v3.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c4_i32 : BitVec 32 := 4#32
  let v2 : BitVec 32 := Scalar.muli arg1 c4_i32
  let v3 : BitVec 32 := Scalar.addi v2 arg2
  let c0_i32 : BitVec 32 := 0#32
  ![v1.toNat, v3.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c4_i32 : BitVec 32 := 4#32
  let v2 : BitVec 32 := Scalar.muli arg1 c4_i32
  let v3 : BitVec 32 := Scalar.addi v2 arg2
  let c0_i32 : BitVec 32 := 0#32
  ![v1.toNat, v3.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c4_i32 : BitVec 32 := 4#32
  let v2 : BitVec 32 := Scalar.muli arg1 c4_i32
  let v3 : BitVec 32 := Scalar.addi v2 arg2
  let c0_i32 : BitVec 32 := 0#32
  ![v1.toNat, v3.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false, false]

abbrev stage1_3 : Fin 2 → Memref sig .tc .vmem S2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true, true]

abbrev stage1_4 : Fin 2 → Memref sig .tc .vmem S2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true, true]

abbrev stage1_5 : Fin 2 → Memref sig .tc .vmem S2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true, true]

abbrev stage1_6 : Fin 2 → Memref sig .tc .vmem S2048x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false, false]

abbrev stage1_7 : Fin 2 → Memref sig .tc .vmem S2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false, false]
-- ==== KernelIdeal.lean ====
variable {F : FTy → Type} [FloatOps F] [Named F]
def κ : String → Option EReal := fun
  | "exp2_scale" => some ((((Real.log 2) * (Real.sqrt 128))⁻¹ : ℝ) : EReal)
  | "scale" => some (((Real.sqrt 128)⁻¹ : ℝ) : EReal)
  | _ => none
-- ==== ReferenceIdeal.lean ====
abbrev S4096x1024 : Shape := ⟨2, ![4096, 1024]⟩
abbrev S4096x256 : Shape := ⟨2, ![4096, 256]⟩
abbrev S2x2048x2x4x128 : Shape := ⟨5, ![2, 2048, 2, 4, 128]⟩
abbrev S2x2048x2x128 : Shape := ⟨4, ![2, 2048, 2, 128]⟩
abbrev S2x2x2048x2048x4 : Shape := ⟨5, ![2, 2, 2048, 2048, 4]⟩
abbrev S2x2x4x2048x2048 : Shape := ⟨5, ![2, 2, 4, 2048, 2048]⟩
abbrev S_ : Shape := ⟨0, ![]⟩
abbrev S2x2x4x2048 : Shape := ⟨4, ![2, 2, 4, 2048]⟩
abbrev S2x2x4x2048x1 : Shape := ⟨5, ![2, 2, 4, 2048, 1]⟩
abbrev S2x2x128x4x2048 : Shape := ⟨5, ![2, 2, 128, 4, 2048]⟩
abbrev S2x2x128x2048 : Shape := ⟨4, ![2, 2, 128, 2048]⟩
abbrev S2x2x2048x4x128 : Shape := ⟨5, ![2, 2, 2048, 4, 128]⟩
abbrev S2x2x2048x128 : Shape := ⟨4, ![2, 2, 2048, 128]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S4096x1024, .bf16⟩
  | .hbm, ⟨4, _⟩ => ⟨S4096x1024, .f32⟩
  | .hbm, ⟨5, _⟩ => ⟨S4096x256, .f32⟩
  | .hbm, ⟨6, _⟩ => ⟨S4096x256, .f32⟩
  | .hbm, ⟨7, _⟩ => ⟨S4096x1024, .f32⟩
  | .hbm, ⟨8, _⟩ => ⟨S2x2048x2x4x128, .f32⟩
  | .hbm, ⟨9, _⟩ => ⟨S2x2048x2x128, .f32⟩
  | .hbm, ⟨10, _⟩ => ⟨S2x2048x2x128, .f32⟩
  | .hbm, ⟨11, _⟩ => ⟨S2x2x2048x2048x4, .f32⟩
  | .hbm, ⟨12, _⟩ => ⟨S2x2x4x2048x2048, .f32⟩
  | .hbm, ⟨13, _⟩ => ⟨S_, .f32⟩
  | .hbm, ⟨14, _⟩ => ⟨S_, .f32⟩
  | .hbm, ⟨15, _⟩ => ⟨S2x2x4x2048x2048, .f32⟩
  | .hbm, ⟨16, _⟩ => ⟨S2x2x4x2048x2048, .f32⟩
  | .hbm, ⟨17, _⟩ => ⟨S_, .f32⟩
  | .hbm, ⟨18, _⟩ => ⟨S2x2x4x2048, .f32⟩
  | .hbm, ⟨19, _⟩ => ⟨S2x2x4x2048x1, .f32⟩
  | .hbm, ⟨20, _⟩ => ⟨S2x2x4x2048x2048, .f32⟩
  | .hbm, ⟨21, _⟩ => ⟨S2x2x4x2048x2048, .i1⟩
  | .hbm, ⟨22, _⟩ => ⟨S2x2x4x2048x2048, .f32⟩
  | .hbm, ⟨23, _⟩ => ⟨S_, .f32⟩
  | .hbm, ⟨24, _⟩ => ⟨S2x2x4x2048, .f32⟩
  | .hbm, ⟨25, _⟩ => ⟨S_, .f32⟩
  | .hbm, ⟨26, _⟩ => ⟨S2x2x4x2048, .f32⟩
  | .hbm, ⟨27, _⟩ => ⟨S2x2x4x2048, .f32⟩
  | .hbm, ⟨28, _⟩ => ⟨S_, .f32⟩
  | .hbm, ⟨29, _⟩ => ⟨S2x2x4x2048, .f32⟩
  | .hbm, ⟨30, _⟩ => ⟨S2x2x4x2048, .i1⟩
  | .hbm, ⟨31, _⟩ => ⟨S_, .f32⟩
  | .hbm, ⟨32, _⟩ => ⟨S2x2x4x2048, .f32⟩
  | .hbm, ⟨33, _⟩ => ⟨S2x2x4x2048, .i1⟩
  | .hbm, ⟨34, _⟩ => ⟨S_, .f32⟩
  | .hbm, ⟨35, _⟩ => ⟨S2x2x4x2048, .f32⟩
  | .hbm, ⟨36, _⟩ => ⟨S_, .f32⟩
  | .hbm, ⟨37, _⟩ => ⟨S2x2x4x2048, .f32⟩
  | .hbm, ⟨38, _⟩ => ⟨S_, .f32⟩
  | .hbm, ⟨39, _⟩ => ⟨S2x2x4x2048, .f32⟩
  | .hbm, ⟨40, _⟩ => ⟨S2x2x4x2048, .f32⟩
  | .hbm, ⟨41, _⟩ => ⟨S2x2x4x2048, .f32⟩
  | .hbm, ⟨42, _⟩ => ⟨S2x2x4x2048x1, .f32⟩
  | .hbm, ⟨43, _⟩ => ⟨S2x2x4x2048x2048, .f32⟩
  | .hbm, ⟨44, _⟩ => ⟨S2x2x4x2048x2048, .f32⟩
  | .hbm, ⟨45, _⟩ => ⟨S2x2x4x2048x2048, .f32⟩
  | .hbm, ⟨46, _⟩ => ⟨S_, .f32⟩
  | .hbm, ⟨47, _⟩ => ⟨S2x2x4x2048, .f32⟩
  | .hbm, ⟨48, _⟩ => ⟨S2x2x4x2048x1, .f32⟩
  | .hbm, ⟨49, _⟩ => ⟨S2x2x4x2048x2048, .f32⟩
  | .hbm, ⟨50, _⟩ => ⟨S2x2x4x2048x2048, .f32⟩
  | .hbm, ⟨51, _⟩ => ⟨S2x2x4x2048x1, .f32⟩
  | .hbm, ⟨52, _⟩ => ⟨S_, .f32⟩
  | .hbm, ⟨53, _⟩ => ⟨S2x2x4x2048x1, .f32⟩
  | .hbm, ⟨54, _⟩ => ⟨S2x2x4x2048x1, .f32⟩
  | .hbm, ⟨55, _⟩ => ⟨S2x2x128x4x2048, .f32⟩
  | .hbm, ⟨56, _⟩ => ⟨S2x2048x2x4x128, .f32⟩
  | .hbm, ⟨57, _⟩ => ⟨S4096x1024, .f32⟩
  | .hbm, ⟨58, _⟩ => ⟨S4096x1024, .bf16⟩
  | .hbm, ⟨59, _⟩ => ⟨S2x2048x2x4x128, .f32⟩
  | .hbm, ⟨60, _⟩ => ⟨S2x2x128x4x2048, .f32⟩
  | .hbm, ⟨61, _⟩ => ⟨S2x2x4x2048x2048, .f32⟩
  | .hbm, ⟨62, _⟩ => ⟨S2x2x128x2048, .f32⟩
  | .hbm, ⟨63, _⟩ => ⟨S2x2048x2x128, .f32⟩
  | .hbm, ⟨64, _⟩ => ⟨S2x2x4x2048x2048, .f32⟩
  | .hbm, ⟨65, _⟩ => ⟨S2x2x4x2048x2048, .f32⟩
  | .hbm, ⟨66, _⟩ => ⟨S2x2x4x2048x2048, .f32⟩
  | .hbm, ⟨67, _⟩ => ⟨S_, .f32⟩
  | .hbm, ⟨68, _⟩ => ⟨S2x2x4x2048, .f32⟩
  | .hbm, ⟨69, _⟩ => ⟨S2x2x4x2048x1, .f32⟩
  | .hbm, ⟨70, _⟩ => ⟨S2x2x4x2048x1, .f32⟩
  | .hbm, ⟨71, _⟩ => ⟨S2x2x4x2048x2048, .f32⟩
  | .hbm, ⟨72, _⟩ => ⟨S2x2x4x2048x2048, .f32⟩
  | .hbm, ⟨73, _⟩ => ⟨S_, .f32⟩
  | .hbm, ⟨74, _⟩ => ⟨S2x2x4x2048, .f32⟩
  | .hbm, ⟨75, _⟩ => ⟨S2x2x4x2048x2048, .f32⟩
  | .hbm, ⟨76, _⟩ => ⟨S2x2x4x2048x2048, .f32⟩
  | .hbm, ⟨77, _⟩ => ⟨S2x2x4x2048x2048, .f32⟩
  | .hbm, ⟨78, _⟩ => ⟨S2x2x4x2048x2048, .f32⟩
  | .hbm, ⟨79, _⟩ => ⟨S2x2x4x2048x2048, .f32⟩
  | .hbm, ⟨80, _⟩ => ⟨S2x2x2048x2048x4, .f32⟩
  | .hbm, ⟨81, _⟩ => ⟨S2x2x2048x4x128, .f32⟩
  | .hbm, ⟨82, _⟩ => ⟨S2x2048x2x4x128, .f32⟩
  | .hbm, ⟨83, _⟩ => ⟨S2x2x2048x128, .f32⟩
  | .hbm, ⟨84, _⟩ => ⟨S2x2048x2x128, .f32⟩
  | .hbm, ⟨85, _⟩ => ⟨S4096x256, .f32⟩
  | .hbm, ⟨86, _⟩ => ⟨S4096x256, .f32⟩
  | .hbm, ⟨87, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S1024x4096 : Shape := ⟨2, ![1024, 4096]⟩
abbrev S1024x8x512 : Shape := ⟨3, ![1024, 8, 512]⟩
abbrev S8x1024x512 : Shape := ⟨3, ![8, 1024, 512]⟩
abbrev S1x1024 : Shape := ⟨2, ![1, 1024]⟩
abbrev S4096x4096 : Shape := ⟨2, ![4096, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S4096x512 : Shape := ⟨2, ![4096, 512]⟩
abbrev S1024x1024 : Shape := ⟨2, ![1024, 1024]⟩

abbrev nBuf : Space → Nat
  | .hbm => 23
  | .vmem => 37
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S1024x4096, .bf16⟩
  | .hbm, ⟨6, _⟩ => ⟨S1024x8x512, .bf16⟩
  | .hbm, ⟨7, _⟩ => ⟨S8x1024x512, .bf16⟩
  | .hbm, ⟨8, _⟩ => ⟨S4096x1024, .bf16⟩
  | .hbm, ⟨9, _⟩ => ⟨S1x1024, .f32⟩
  | .hbm, ⟨10, _⟩ => ⟨S4096x1024, .f32⟩
  | .hbm, ⟨11, _⟩ => ⟨S4096x4096, .bf16⟩
  | .hbm, ⟨12, _⟩ => ⟨S4096x1024, .bf16⟩
  | .hbm, ⟨13, _⟩ => ⟨S1x1024, .f32⟩
  | .hbm, ⟨14, _⟩ => ⟨S4096x1024, .f32⟩
  | .hbm, ⟨15, _⟩ => ⟨S4096x4096, .bf16⟩
  | .hbm, ⟨16, _⟩ => ⟨S4096x1024, .bf16⟩
  | .hbm, ⟨17, _⟩ => ⟨S1x1024, .f32⟩
  | .hbm, ⟨18, _⟩ => ⟨S8x1024x512, .bf16⟩
  | .hbm, ⟨19, _⟩ => ⟨S4096x1024, .bf16⟩
  | .hbm, ⟨20, _⟩ => ⟨S1024, .f32⟩
  | .hbm, ⟨21, _⟩ => ⟨S1024x8x512, .bf16⟩
  | .hbm, ⟨22, _⟩ => ⟨S1024x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x512, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | .local _ .vmem, ⟨7, _⟩ => ⟨S512x4096, .bf16⟩
  | .local _ .vmem, ⟨8, _⟩ => ⟨S512x4096, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x4096, .bf16⟩
  | .local _ .vmem, ⟨16, _⟩ => ⟨S512x4096, .bf16⟩
  | .local _ .vmem, ⟨17, _⟩ => ⟨S1x1024, .f32⟩
  | .local _ .vmem, ⟨18, _⟩ => ⟨S8x1024x512, .bf16⟩
  | .local _ .vmem, ⟨19, _⟩ => ⟨S4096x1024, .bf16⟩
  | .local _ .vmem, ⟨20, _⟩ => ⟨S512x1024, .f32⟩
  | .local _ .vmem, ⟨21, _⟩ => ⟨S512x1024, .f32⟩
  | .local _ .vmem, ⟨22, _⟩ => ⟨S512x4096, .bf16⟩
  | .local _ .vmem, ⟨23, _⟩ => ⟨S512x4096, .bf16⟩
  | .local _ .vmem, ⟨24, _⟩ => ⟨S512x1024, .bf16⟩
  | .local _ .vmem, ⟨25, _⟩ => ⟨S512x1024, .bf16⟩
  | .local _ .vmem, ⟨26, _⟩ => ⟨S1x1024, .f32⟩
  | .local _ .vmem, ⟨27, _⟩ => ⟨S4096x1024, .bf16⟩
  | .local _ .vmem, ⟨28, _⟩ => ⟨S4096x512, .bf16⟩
  | .local _ .vmem, ⟨29, _⟩ => ⟨S4096x512, .bf16⟩
  | .local _ .vmem, ⟨30, _⟩ => ⟨S4096x512, .bf16⟩
  | .local _ .vmem, ⟨31, _⟩ => ⟨S4096x512, .bf16⟩
  | .local _ .vmem, ⟨32, _⟩ => ⟨S4096x1024, .bf16⟩
  | .local _ .vmem, ⟨33, _⟩ => ⟨S1x1024x512, .bf16⟩
  | .local _ .vmem, ⟨34, _⟩ => ⟨S1x1024x512, .bf16⟩
  | .local _ .vmem, ⟨35, _⟩ => ⟨S512x1024, .bf16⟩
  | .local _ .vmem, ⟨36, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v8_0 : Ref sig .tc := ⟨.hbm, 18, rfl⟩
abbrev main_v8_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc2_stg0_0 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg4_1 : Ref sig .tc := ⟨.vmem, 34, rfl⟩
abbrev cc2_stg5_0 : Ref sig .tc := ⟨.vmem, 35, rfl⟩
abbrev cc2_stg5_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc2_sem0_0 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem4_1 : DmaSem sig := 34
abbrev cc2_sem5_0 : DmaSem sig := 35
abbrev cc2_sem5_1 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x1024x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4096x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x4096 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S4096x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S4096x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x1024x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== Reference2Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .i1⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S1024x4096, .f32⟩
  | .hbm, ⟨39, _⟩ => ⟨S4096x1024, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4096x1024, .f32⟩
  | .hbm, ⟨48, _⟩ => ⟨S1024x4096, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S1024x4096, .bf16⟩
  | .hbm, ⟨77, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S1024x4096 : Shape := ⟨2, ![1024, 4096]⟩
abbrev S1024x8x512 : Shape := ⟨3, ![1024, 8, 512]⟩
abbrev S8x1024x512 : Shape := ⟨3, ![8, 1024, 512]⟩
abbrev S1x1024 : Shape := ⟨2, ![1, 1024]⟩
abbrev S4096x4096 : Shape := ⟨2, ![4096, 4096]⟩
abbrev S1x128 : Shape := ⟨2, ![1, 128]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1 : Shape := ⟨1, ![1]⟩
abbrev S1x1 : Shape := ⟨2, ![1, 1]⟩
abbrev S_ : Shape := ⟨0, ![]⟩

abbrev nBuf : Space → Nat
  | .hbm => 20
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S1024x4096, .bf16⟩
  | .hbm, ⟨7, _⟩ => ⟨S1024x8x512, .bf16⟩
  | .hbm, ⟨8, _⟩ => ⟨S8x1024x512, .bf16⟩
  | .hbm, ⟨9, _⟩ => ⟨S1x1024, .f32⟩
  | .hbm, ⟨10, _⟩ => ⟨S4096x1024, .bf16⟩
  | .hbm, ⟨11, _⟩ => ⟨S1x1024, .f32⟩
  | .hbm, ⟨12, _⟩ => ⟨S4096x1024, .f32⟩
  | .hbm, ⟨13, _⟩ => ⟨S4096x4096, .bf16⟩
  | .hbm, ⟨14, _⟩ => ⟨S4096x1024, .bf16⟩
  | .hbm, ⟨15, _⟩ => ⟨S1x128, .f32⟩
  | .hbm, ⟨16, _⟩ => ⟨S1x1024, .f32⟩
  | .hbm, ⟨17, _⟩ => ⟨S1x1, .f32⟩
  | .hbm, ⟨18, _⟩ => ⟨S_, .f32⟩
  | .hbm, ⟨19, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x512, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x4096, .bf16⟩
  | .local _ .vmem, ⟨11, _⟩ => ⟨S512x4096, .bf16⟩
  | .local _ .vmem, ⟨12, _⟩ => ⟨S512x1024, .bf16⟩
  | .local _ .vmem, ⟨13, _⟩ => ⟨S512x1024, .bf16⟩
  | .local _ .vmem, ⟨14, _⟩ => ⟨S1x128, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference3Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 98
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S4096, .f32⟩
  | .hbm, ⟨67, _⟩ => ⟨S_, .f32⟩
  | .hbm, ⟨68, _⟩ => ⟨S4096, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S1024, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S4096x1024, .f32⟩
  | .hbm, ⟨86, _⟩ => ⟨S4096x1024, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S_, .f32⟩
  | .hbm, ⟨92, _⟩ => ⟨S4096, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_cst_11 : Ref sig .tc := ⟨.hbm, 63, rfl⟩
abbrev main_cst_12 : Ref sig .tc := ⟨.hbm, 64, rfl⟩
abbrev main_v43 : Ref sig .tc := ⟨.hbm, 65, rfl⟩
abbrev main_v44 : Ref sig .tc := ⟨.hbm, 66, rfl⟩
abbrev main_cst_13 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_15 : Ref sig .tc := ⟨.hbm, 79, rfl⟩
abbrev main_v55 : Ref sig .tc := ⟨.hbm, 80, rfl⟩
abbrev main_v56 : Ref sig .tc := ⟨.hbm, 81, rfl⟩
abbrev main_cst_16 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_17 : Ref sig .tc := ⟨.hbm, 88, rfl⟩
abbrev main_v62 : Ref sig .tc := ⟨.hbm, 89, rfl⟩
abbrev main_v63 : Ref sig .tc := ⟨.hbm, 90, rfl⟩
abbrev main_cst_18 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]
-- ==== Kernel4.lean ====
abbrev S4096x1024 : Shape := ⟨2, ![4096, 1024]⟩
abbrev S1024 : Shape := ⟨1, ![1024]⟩
abbrev S1024x2048 : Shape := ⟨2, ![1024, 2048]⟩
abbrev S4096x2048 : Shape := ⟨2, ![4096, 2048]⟩
abbrev S1024x8x256 : Shape := ⟨3, ![1024, 8, 256]⟩
abbrev S8x1024x256 : Shape := ⟨3, ![8, 1024, 256]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S4096x2x1024 : Shape := ⟨3, ![4096, 2, 1024]⟩
abbrev S2x4096x1024 : Shape := ⟨3, ![2, 4096, 1024]⟩
abbrev S1x4096x512 : Shape := ⟨3, ![1, 4096, 512]⟩
abbrev S2x1024x256 : Shape := ⟨3, ![2, 1024, 256]⟩
abbrev S2x1024x1024 : Shape := ⟨3, ![2, 1024, 1024]⟩
abbrev S1x512x256 : Shape := ⟨3, ![1, 512, 256]⟩

abbrev nBuf : Space → Nat
  | .hbm => 21
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x1024, .f32⟩
  | .hbm, ⟨4, _⟩ => ⟨S4096x2048, .f32⟩
  | .hbm, ⟨5, _⟩ => ⟨S1024x2048, .bf16⟩
  | .hbm, ⟨6, _⟩ => ⟨S1024x8x256, .bf16⟩
  | .hbm, ⟨7, _⟩ => ⟨S8x1024x256, .bf16⟩
  | .hbm, ⟨8, _⟩ => ⟨S1x1024, .f32⟩
  | .hbm, ⟨9, _⟩ => ⟨S4096x2048, .f32⟩
  | .hbm, ⟨10, _⟩ => ⟨S4096x1024, .bf16⟩
  | .hbm, ⟨11, _⟩ => ⟨S4096x2048, .bf16⟩
  | .hbm, ⟨12, _⟩ => ⟨S4096x2x1024, .bf16⟩
  | .hbm, ⟨13, _⟩ => ⟨S2x4096x1024, .bf16⟩
  | .hbm, ⟨14, _⟩ => ⟨S8x1024x256, .bf16⟩
  | .hbm, ⟨15, _⟩ => ⟨S1x1024, .f32⟩
  | .hbm, ⟨16, _⟩ => ⟨S4096x1024, .f32⟩
  | .hbm, ⟨17, _⟩ => ⟨S1x1024, .f32⟩
  | .hbm, ⟨18, _⟩ => ⟨S1024, .f32⟩
  | .hbm, ⟨19, _⟩ => ⟨S1024x8x256, .bf16⟩
  | .hbm, ⟨20, _⟩ => ⟨S1024x2048, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S8x1024x256, .bf16⟩
  | .local _ .vmem, ⟨4, _⟩ => ⟨S1024x2048, .f32⟩
  | .local _ .vmem, ⟨5, _⟩ => ⟨S1024x2048, .f32⟩
  | .local _ .vmem, ⟨6, _⟩ => ⟨S1024x1024, .bf16⟩
  | .local _ .vmem, ⟨7, _⟩ => ⟨S1024x1024, .bf16⟩
  | .local _ .vmem, ⟨8, _⟩ => ⟨S4096x1024, .bf16⟩
  | .local _ .vmem, ⟨9, _⟩ => ⟨S1x4096x512, .bf16⟩
  | .local _ .vmem, ⟨10, _⟩ => ⟨S1x4096x512, .bf16⟩
  | .local _ .vmem, ⟨11, _⟩ => ⟨S2x1024x256, .bf16⟩
  | .local _ .vmem, ⟨12, _⟩ => ⟨S2x1024x256, .bf16⟩
  | .local _ .vmem, ⟨13, _⟩ => ⟨S2x1024x1024, .bf16⟩
  | .local _ .vmem, ⟨14, _⟩ => ⟨S2x1024x1024, .bf16⟩
  | .local _ .vmem, ⟨15, _⟩ => ⟨S8x1024x256, .bf16⟩
  | .local _ .vmem, ⟨16, _⟩ => ⟨S1024x1024, .f32⟩
  | .local _ .vmem, ⟨17, _⟩ => ⟨S1024x1024, .f32⟩
  | .local _ .vmem, ⟨18, _⟩ => ⟨S1x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | .local _ .vmem, ⟨23, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc2_stg6_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem4_1 : DmaSem sig := 20
abbrev cc2_sem5_0 : DmaSem sig := 21
abbrev cc2_sem5_1 : DmaSem sig := 22
abbrev cc2_sem6_0 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c2_i32 : BitVec 32 := 2#32
  let v0 : BitVec 32 := Scalar.muli arg0 c2_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32_4 : BitVec 32 := 2#32
  let v18 : BitVec 32 := Scalar.muli arg0 c2_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c2_i32_11 : BitVec 32 := 2#32
  let v29 : BitVec 32 := Scalar.divsi v28 c2_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c2_i32_11 c0_i32_14
  let v36 : BitVec 32 := Scalar.extui v35
  let c0_i32_15 : BitVec 32 := 0#32
  let v37 : BitVec 1 := Scalar.cmpi .slt c2_i32_11 c0_i32_15
  let v38 : BitVec 32 := Scalar.extui v37
  let v39 : BitVec 32 := Scalar.subi v36 v38
  let v40 : BitVec 1 := Scalar.cmpi .ne v34 v39
  let v41 : BitVec 32 := Scalar.remsi v28 c2_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  let c0_i32_19 : BitVec 32 := 0#32
  ![v17.toNat, c0_i32_18.toNat, v45.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S4096x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2x1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x1024x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1024x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]
-- ==== Reference4Ideal.lean ====
abbrev S4096x1024 : Shape := ⟨2, ![4096, 1024]⟩
abbrev S1024 : Shape := ⟨1, ![1024]⟩
abbrev S1024x2048 : Shape := ⟨2, ![1024, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S2048x1024 : Shape := ⟨2, ![2048, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x1024, .f32⟩
  | .hbm, ⟨4, _⟩ => ⟨S4096x2048, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x2048, .f32⟩
  | .hbm, ⟨26, _⟩ => ⟨S2048x1024, .f32⟩
  | .hbm, ⟨27, _⟩ => ⟨S1024x2048, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1024x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel5.lean ====
abbrev S4096x1024 : Shape := ⟨2, ![4096, 1024]⟩
abbrev S1024 : Shape := ⟨1, ![1024]⟩
abbrev S1024x1536 : Shape := ⟨2, ![1024, 1536]⟩
abbrev S128 : Shape := ⟨1, ![128]⟩
abbrev S4096x1536 : Shape := ⟨2, ![4096, 1536]⟩
abbrev S1536x1024 : Shape := ⟨2, ![1536, 1024]⟩
abbrev S3x512x1024 : Shape := ⟨3, ![3, 512, 1024]⟩
abbrev S2048 : Shape := ⟨1, ![2048]⟩
abbrev S_ : Shape := ⟨0, ![]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S8x256x128 : Shape := ⟨3, ![8, 256, 128]⟩
abbrev S256x8x128 : Shape := ⟨3, ![256, 8, 128]⟩
abbrev S1x1024 : Shape := ⟨2, ![1, 1024]⟩
abbrev S1x128 : Shape := ⟨2, ![1, 128]⟩
abbrev S4096x256 : Shape := ⟨2, ![4096, 256]⟩
abbrev S1024x1024 : Shape := ⟨2, ![1024, 1024]⟩
abbrev S1024x128 : Shape := ⟨2, ![1024, 128]⟩
abbrev S1024x256 : Shape := ⟨2, ![1024, 256]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S512x512 : Shape := ⟨2, ![512, 512]⟩
abbrev S512x128 : Shape := ⟨2, ![512, 128]⟩
abbrev S512x256 : Shape := ⟨2, ![512, 256]⟩
abbrev S1x4096x1024 : Shape := ⟨3, ![1, 4096, 1024]⟩
abbrev S1x4096x512 : Shape := ⟨3, ![1, 4096, 512]⟩
abbrev S1536x512 : Shape := ⟨2, ![1536, 512]⟩
abbrev S1x1024x512 : Shape := ⟨3, ![1, 1024, 512]⟩
abbrev S1024x512 : Shape := ⟨2, ![1024, 512]⟩
abbrev S1x4096x1536 : Shape := ⟨3, ![1, 4096, 1536]⟩
abbrev S1x1024x1536 : Shape := ⟨3, ![1, 1024, 1536]⟩
abbrev S1x512x512 : Shape := ⟨3, ![1, 512, 512]⟩

abbrev nBuf : Space → Nat
  | .hbm => 106
  | .vmem => 36
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1536, .f32⟩
  | .hbm, ⟨3, _⟩ => ⟨S128, .f32⟩
  | .hbm, ⟨4, _⟩ => ⟨S128, .f32⟩
  | .hbm, ⟨5, _⟩ => ⟨S4096x1024, .f32⟩
  | .hbm, ⟨6, _⟩ => ⟨S4096x1536, .f32⟩
  | .hbm, ⟨7, _⟩ => ⟨S1024x1536, .bf16⟩
  | .hbm, ⟨8, _⟩ => ⟨S1536x1024, .bf16⟩
  | .hbm, ⟨9, _⟩ => ⟨S3x512x1024, .bf16⟩
  | .hbm, ⟨10, _⟩ => ⟨S2048, .i32⟩
  | .hbm, ⟨11, _⟩ => ⟨S_, .i32⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S2048, .i32⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S2048, .i1⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S2048, .i32⟩
  | .hbm, ⟨29, _⟩ => ⟨S2048, .f32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S_, .i32⟩
  | .hbm, ⟨42, _⟩ => ⟨S2048, .i32⟩
  | .hbm, ⟨43, _⟩ => ⟨S2048, .i1⟩
  | .hbm, ⟨44, _⟩ => ⟨S_, .i32⟩
  | .hbm, ⟨45, _⟩ => ⟨S_, .i1⟩
  | .hbm, ⟨46, _⟩ => ⟨S2048, .i1⟩
  | .hbm, ⟨47, _⟩ => ⟨S2048, .i1⟩
  | .hbm, ⟨48, _⟩ => ⟨S2048, .i1⟩
  | .hbm, ⟨49, _⟩ => ⟨S2048, .i32⟩
  | .hbm, ⟨50, _⟩ => ⟨S2048, .i32⟩
  | .hbm, ⟨51, _⟩ => ⟨S2048, .i32⟩
  | .hbm, ⟨52, _⟩ => ⟨S2048, .f32⟩
  | .hbm, ⟨53, _⟩ => ⟨S32, .f32⟩
  | .hbm, ⟨54, _⟩ => ⟨S32, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S_, .f32⟩
  | .hbm, ⟨59, _⟩ => ⟨S32, .f32⟩
  | .hbm, ⟨60, _⟩ => ⟨S32, .f32⟩
  | .hbm, ⟨61, _⟩ => ⟨S2048x1, .f32⟩
  | .hbm, ⟨62, _⟩ => ⟨S1x32, .f32⟩
  | .hbm, ⟨63, _⟩ => ⟨S2048x32, .f32⟩
  | .hbm, ⟨64, _⟩ => ⟨S2048x32, .f32⟩
  | .hbm, ⟨65, _⟩ => ⟨S2048x32, .f32⟩
  | .hbm, ⟨66, _⟩ => ⟨S2048x1, .f32⟩
  | .hbm, ⟨67, _⟩ => ⟨S1x32, .f32⟩
  | .hbm, ⟨68, _⟩ => ⟨S2048x32, .f32⟩
  | .hbm, ⟨69, _⟩ => ⟨S2048x32, .f32⟩
  | .hbm, ⟨70, _⟩ => ⟨S2048x32, .f32⟩
  | .hbm, ⟨71, _⟩ => ⟨S2048x32, .f32⟩
  | .hbm, ⟨72, _⟩ => ⟨S2048x32, .f32⟩
  | .hbm, ⟨73, _⟩ => ⟨S2048x32, .f32⟩
  | .hbm, ⟨74, _⟩ => ⟨S2048x32, .f32⟩
  | .hbm, ⟨75, _⟩ => ⟨S2048x128, .f32⟩
  | .hbm, ⟨76, _⟩ => ⟨S2048x32, .f32⟩
  | .hbm, ⟨77, _⟩ => ⟨S2048x32, .f32⟩
  | .hbm, ⟨78, _⟩ => ⟨S2048x32, .f32⟩
  | .hbm, ⟨79, _⟩ => ⟨S2048x32, .f32⟩
  | .hbm, ⟨80, _⟩ => ⟨S2048x32, .f32⟩
  | .hbm, ⟨81, _⟩ => ⟨S2048x32, .f32⟩
  | .hbm, ⟨82, _⟩ => ⟨S2048x128, .f32⟩
  | .hbm, ⟨83, _⟩ => ⟨S8x256x128, .f32⟩
  | .hbm, ⟨84, _⟩ => ⟨S256x8x128, .f32⟩
  | .hbm, ⟨85, _⟩ => ⟨S2048x128, .f32⟩
  | .hbm, ⟨86, _⟩ => ⟨S8x256x128, .f32⟩
  | .hbm, ⟨87, _⟩ => ⟨S256x8x128, .f32⟩
  | .hbm, ⟨88, _⟩ => ⟨S2048x128, .f32⟩
  | .hbm, ⟨89, _⟩ => ⟨S1x1024, .f32⟩
  | .hbm, ⟨90, _⟩ => ⟨S1x128, .f32⟩
  | .hbm, ⟨91, _⟩ => ⟨S1x128, .f32⟩
  | .hbm, ⟨92, _⟩ => ⟨S4096x1536, .f32⟩
  | .hbm, ⟨93, _⟩ => ⟨S4096x1024, .bf16⟩
  | .hbm, ⟨94, _⟩ => ⟨S4096x1024, .bf16⟩
  | .hbm, ⟨95, _⟩ => ⟨S4096x256, .bf16⟩
  | .hbm, ⟨96, _⟩ => ⟨S4096x256, .bf16⟩
  | .hbm, ⟨97, _⟩ => ⟨S4096x1536, .bf16⟩
  | .hbm, ⟨98, _⟩ => ⟨S1x4096x1024, .bf16⟩
  | .hbm, ⟨99, _⟩ => ⟨S1536x1024, .bf16⟩
  | .hbm, ⟨100, _⟩ => ⟨S1x4096x1536, .bf16⟩
  | .hbm, ⟨101, _⟩ => ⟨S1x1024, .f32⟩
  | .hbm, ⟨102, _⟩ => ⟨S4096x1024, .f32⟩
  | .hbm, ⟨103, _⟩ => ⟨S1x1024, .f32⟩
  | .hbm, ⟨104, _⟩ => ⟨S1024, .f32⟩
  | .hbm, ⟨105, _⟩ => ⟨S1024x1536, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S3x512x1024, .bf16⟩
  | .local _ .vmem, ⟨4, _⟩ => ⟨S1x128, .f32⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1536, .f32⟩
  | .local _ .vmem, ⟨11, _⟩ => ⟨S1024x1536, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S4096x1536, .bf16⟩
  | .local _ .vmem, ⟨21, _⟩ => ⟨S1x4096x512, .bf16⟩
  | .local _ .vmem, ⟨22, _⟩ => ⟨S1x4096x512, .bf16⟩
  | .local _ .vmem, ⟨23, _⟩ => ⟨S1536x512, .bf16⟩
  | .local _ .vmem, ⟨24, _⟩ => ⟨S1536x512, .bf16⟩
  | .local _ .vmem, ⟨25, _⟩ => ⟨S1x1024x1536, .bf16⟩
  | .local _ .vmem, ⟨26, _⟩ => ⟨S1x1024x1536, .bf16⟩
  | .local _ .vmem, ⟨27, _⟩ => ⟨S3x512x1024, .bf16⟩
  | .local _ .vmem, ⟨28, _⟩ => ⟨S1024x1024, .f32⟩
  | .local _ .vmem, ⟨29, _⟩ => ⟨S1024x1024, .f32⟩
  | .local _ .vmem, ⟨30, _⟩ => ⟨S1x1024, .f32⟩
  | .local _ .vmem, ⟨31, _⟩ => ⟨S1024x1024, .f32⟩
  | .local _ .vmem, ⟨32, _⟩ => ⟨S1024x1024, .f32⟩
  | .local _ .vmem, ⟨33, _⟩ => ⟨S1024x1024, .f32⟩
  | .local _ .vmem, ⟨34, _⟩ => ⟨S1024x1024, .f32⟩
  | .local _ .vmem, ⟨35, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_v5 : Ref sig .tc := ⟨.hbm, 39, rfl⟩
abbrev main_call1_v6 : Ref sig .tc := ⟨.hbm, 40, rfl⟩
abbrev main_call1_c_2 : Ref sig .tc := ⟨.hbm, 41, rfl⟩
abbrev main_call1_v7 : Ref sig .tc := ⟨.hbm, 42, rfl⟩
abbrev main_call1_v8 : Ref sig .tc := ⟨.hbm, 43, rfl⟩
abbrev main_call1_c_3 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_v6 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_cst : Ref sig .tc := ⟨.hbm, 55, rfl⟩
abbrev main_v10 : Ref sig .tc := ⟨.hbm, 56, rfl⟩
abbrev main_v11 : Ref sig .tc := ⟨.hbm, 57, rfl⟩
abbrev main_cst_1 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45_0 : Ref sig .tc := ⟨.hbm, 92, rfl⟩
abbrev main_v45_1 : Ref sig .tc := ⟨.hbm, 93, rfl⟩
abbrev main_v45_2 : Ref sig .tc := ⟨.hbm, 94, rfl⟩
abbrev main_v45_3 : Ref sig .tc := ⟨.hbm, 95, rfl⟩
abbrev main_v45_4 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51_0 : Ref sig .tc := ⟨.hbm, 102, rfl⟩
abbrev main_v51_1 : Ref sig .tc := ⟨.hbm, 103, rfl⟩
abbrev main_v52 : Ref sig .tc := ⟨.hbm, 104, rfl⟩
abbrev main_v53 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc1_stg0_0 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg4_1 : Ref sig .tc := ⟨.vmem, 32, rfl⟩
abbrev cc2_stg5_0 : Ref sig .tc := ⟨.vmem, 33, rfl⟩
abbrev cc2_stg5_1 : Ref sig .tc := ⟨.vmem, 34, rfl⟩
abbrev cc2_stg6_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc1_sem0_0 : DmaSem sig := 20
abbrev cc1_sem1_0 : DmaSem sig := 21
abbrev cc1_sem1_1 : DmaSem sig := 22
abbrev cc1_sem2_0 : DmaSem sig := 23
abbrev cc1_sem2_1 : DmaSem sig := 24
abbrev cc2_sem0_0 : DmaSem sig := 25
abbrev cc2_sem0_1 : DmaSem sig := 26
abbrev cc2_sem1_0 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem4_1 : DmaSem sig := 32
abbrev cc2_sem5_0 : DmaSem sig := 33
abbrev cc2_sem5_1 : DmaSem sig := 34
abbrev cc2_sem6_0 : DmaSem sig := 35

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c1_i32 : BitVec 32 := 1#32
  let v0 : BitVec 32 := Scalar.muli arg0 c1_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c1_i32_5 : BitVec 32 := 1#32
  let v18 : BitVec 32 := Scalar.muli arg0 c1_i32_5
  let c2_i32_6 : BitVec 32 := 2#32
  let c0_i32_7 : BitVec 32 := 0#32
  let v19 : BitVec 1 := Scalar.cmpi .eq c2_i32_6 c0_i32_7
  let c1_i32_8 : BitVec 32 := 1#32
  let v20 : BitVec 32 := Scalar.select v19 c1_i32_8 c2_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1_i32_12 : BitVec 32 := 1#32
  let v29 : BitVec 32 := Scalar.divsi v28 c1_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c1_i32_12 c0_i32_15
  let v36 : BitVec 32 := Scalar.extui v35
  let c0_i32_16 : BitVec 32 := 0#32
  let v37 : BitVec 1 := Scalar.cmpi .slt c1_i32_12 c0_i32_16
  let v38 : BitVec 32 := Scalar.extui v37
  let v39 : BitVec 32 := Scalar.subi v36 v38
  let v40 : BitVec 1 := Scalar.cmpi .ne v34 v39
  let v41 : BitVec 32 := Scalar.remsi v28 c1_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c0_i32_19 : BitVec 32 := 0#32
  let c0_i32_20 : BitVec 32 := 0#32
  ![v17.toNat, c0_i32_19.toNat, v45.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S4096x1536 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1536x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x1024x1536 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3x512x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1024x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]
-- ==== Reference5Ideal.lean ====
abbrev S4096x1024 : Shape := ⟨2, ![4096, 1024]⟩
abbrev S1024 : Shape := ⟨1, ![1024]⟩
abbrev S1024x1536 : Shape := ⟨2, ![1024, 1536]⟩
abbrev S128 : Shape := ⟨1, ![128]⟩
abbrev S4096x1536 : Shape := ⟨2, ![4096, 1536]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1536x1024 : Shape := ⟨2, ![1536, 1024]⟩
abbrev S4096x256 : Shape := ⟨2, ![4096, 256]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1536, .f32⟩
  | .hbm, ⟨3, _⟩ => ⟨S128, .f32⟩
  | .hbm, ⟨4, _⟩ => ⟨S128, .f32⟩
  | .hbm, ⟨5, _⟩ => ⟨S4096x1024, .f32⟩
  | .hbm, ⟨6, _⟩ => ⟨S4096x1536, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1536, .f32⟩
  | .hbm, ⟨28, _⟩ => ⟨S1536x1024, .f32⟩
  | .hbm, ⟨29, _⟩ => ⟨S1024x1536, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x256, .f32⟩
  | .hbm, ⟨58, _⟩ => ⟨S4096x256, .bf16⟩
  | .hbm, ⟨59, _⟩ => ⟨S1024x1536, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩
abbrev S1x4096x1024 : Shape := ⟨3, ![1, 4096, 1024]⟩
abbrev S1x4096x512 : Shape := ⟨3, ![1, 4096, 512]⟩
abbrev S1024x512 : Shape := ⟨2, ![1024, 512]⟩
abbrev S1x1024x512 : Shape := ⟨3, ![1, 1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1x4096x1024, .bf16⟩
  | .hbm, ⟨5, _⟩ => ⟨S1024x1024, .bf16⟩
  | .local _ .vmem, ⟨0, _⟩ => ⟨S4096x1024, .bf16⟩
  | .local _ .vmem, ⟨1, _⟩ => ⟨S1x4096x512, .bf16⟩
  | .local _ .vmem, ⟨2, _⟩ => ⟨S1x4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.muli arg0 c1_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c1_i32_5 : BitVec 32 := 1#32
  let v18 : BitVec 32 := Scalar.muli arg0 c1_i32_5
  let c2_i32_6 : BitVec 32 := 2#32
  let c0_i32_7 : BitVec 32 := 0#32
  let v19 : BitVec 1 := Scalar.cmpi .eq c2_i32_6 c0_i32_7
  let c1_i32_8 : BitVec 32 := 1#32
  let v20 : BitVec 32 := Scalar.select v19 c1_i32_8 c2_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1_i32_12 : BitVec 32 := 1#32
  let v29 : BitVec 32 := Scalar.divsi v28 c1_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c1_i32_12 c0_i32_15
  let v36 : BitVec 32 := Scalar.extui v35
  let c0_i32_16 : BitVec 32 := 0#32
  let v37 : BitVec 1 := Scalar.cmpi .slt c1_i32_12 c0_i32_16
  let v38 : BitVec 32 := Scalar.extui v37
  let v39 : BitVec 32 := Scalar.subi v36 v38
  let v40 : BitVec 1 := Scalar.cmpi .ne v34 v39
  let v41 : BitVec 32 := Scalar.remsi v28 c1_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c0_i32_19 : BitVec 32 := 0#32
  let c0_i32_20 : BitVec 32 := 0#32
  ![v17.toNat, c0_i32_19.toNat, v45.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S4096x1024 : Shape := ⟨2, ![4096, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S4096x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S1024x1024 : Shape := ⟨2, ![1024, 1024]⟩
abbrev S4096x1024 : Shape := ⟨2, ![4096, 1024]⟩
abbrev S512x1024 : Shape := ⟨2, ![512, 1024]⟩
abbrev S3x512x1024 : Shape := ⟨3, ![3, 512, 1024]⟩
abbrev S3 : Shape := ⟨1, ![3]⟩
abbrev S1 : Shape := ⟨1, ![1]⟩
abbrev S_ : Shape := ⟨0, ![]⟩
abbrev S1x512x1024 : Shape := ⟨3, ![1, 512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S1024x1024, .bf16⟩
  | .hbm, ⟨3, _⟩ => ⟨S4096x1024, .bf16⟩
  | .hbm, ⟨4, _⟩ => ⟨S4096x1024, .bf16⟩
  | .local _ .vmem, ⟨0, _⟩ => ⟨S1024x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S3x512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_17 : BitVec 32 := 0#32
  c0_i32_17
def k0_mult2 : BitVec 32 :=
  let c512_i32_23 : BitVec 32 := 512#32
  c512_i32_23
def k0_mult3 : BitVec 32 :=
  let c1024_i32 : BitVec 32 := 1024#32
  c1024_i32
def k0_mult4 (i : grid0.Coords) : BitVec 32 :=
  let arg0 : BitVec 32 := BitVec.ofNat 32 (i 0).val
  let c512_i32 : BitVec 32 := 512#32
  let v13 : BitVec 32 := Scalar.muli arg0 c512_i32
  v13
def k0_off1 (i : grid0.Coords) : Fin 1 → Nat :=
  let arg0 : BitVec 32 := BitVec.ofNat 32 (i 0).val
  let c3_i32 : BitVec 32 := 3#32
  let c0_i32_1 : BitVec 32 := 0#32
  let v3 : BitVec 1 := Scalar.cmpi .eq c3_i32 c0_i32_1
  let c1_i32 : BitVec 32 := 1#32
  let v4 : BitVec 32 := Scalar.select v3 c1_i32 c3_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  ![v12.toNat]
def k0_off2 (i : grid0.Coords) : Fin 3 → Nat :=
  let arg0 : BitVec 32 := BitVec.ofNat 32 (i 0).val
  let c3_i32 : BitVec 32 := 3#32
  let c0_i32_1 : BitVec 32 := 0#32
  let v3 : BitVec 1 := Scalar.cmpi .eq c3_i32 c0_i32_1
  let c1_i32 : BitVec 32 := 1#32
  let v4 : BitVec 32 := Scalar.select v3 c1_i32 c3_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let c0_i32_6 : BitVec 32 := 0#32
  ![v12.toNat, 0, 0]
def k0_off3 (i : grid0.Coords) : Fin 2 → Nat :=
  let arg0 : BitVec 32 := BitVec.ofNat 32 (i 0).val
  let c512_i32 : BitVec 32 := 512#32
  let v13 : BitVec 32 := Scalar.muli arg0 c512_i32
  let v14 : BitVec 32 := v13
  let c0_i32_7 : BitVec 32 := 0#32
  ![v14.toNat, 0]
def k0_off4 (i : grid0.Coords) : Fin 3 → Nat :=
  let arg0 : BitVec 32 := BitVec.ofNat 32 (i 0).val
  let c3_i32 : BitVec 32 := 3#32
  let c0_i32_1 : BitVec 32 := 0#32
  let v3 : BitVec 1 := Scalar.cmpi .eq c3_i32 c0_i32_1
  let c1_i32 : BitVec 32 := 1#32
  let v4 : BitVec 32 := Scalar.select v3 c1_i32 c3_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v20 : Index := Scalar.indexCast v12
  let c0 : Index := 0#32
  let c0_8 : Index := 0#32
  ![v20.toNat, 0, 0]
def k0_cond2 (i : grid0.Coords) : BitVec 1 :=
  let arg0 : BitVec 32 := BitVec.ofNat 32 (i 0).val
  let c3_i32_15 : BitVec 32 := 3#32
  let v30 : BitVec 32 := Scalar.addi arg0 c3_i32_15
  let c8_i32 : BitVec 32 := 8#32
  let v31 : BitVec 1 := Scalar.cmpi .slt v30 c8_i32
  let v32 : BitVec 32 := Scalar.extui v31
  let c0_i32_16 : BitVec 32 := 0#32
  let v33 : BitVec 1 := Scalar.cmpi .ne v32 c0_i32_16
  v33

def k0_mult5 (i : grid0.Coords) : BitVec 32 :=
  let arg0 : BitVec 32 := BitVec.ofNat 32 (i 0).val
  let c3_i32_17 : BitVec 32 := 3#32
  let v34 : BitVec 32 := Scalar.addi arg0 c3_i32_17
  let c512_i32_18 : BitVec 32 := 512#32
  let v35 : BitVec 32 := Scalar.muli v34 c512_i32_18
  v35
def k0_off5 (i : grid0.Coords) : Fin 1 → Nat :=
  let arg0 : BitVec 32 := BitVec.ofNat 32 (i 0).val
  let c3_i32 : BitVec 32 := 3#32
  let c0_i32_1 : BitVec 32 := 0#32
  let v3 : BitVec 1 := Scalar.cmpi .eq c3_i32 c0_i32_1
  let c1_i32 : BitVec 32 := 1#32
  let v4 : BitVec 32 := Scalar.select v3 c1_i32 c3_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  ![v12.toNat]
def k0_off6 (i : grid0.Coords) : Fin 3 → Nat :=
  let arg0 : BitVec 32 := BitVec.ofNat 32 (i 0).val
  let c3_i32 : BitVec 32 := 3#32
  let c0_i32_1 : BitVec 32 := 0#32
  let v3 : BitVec 1 := Scalar.cmpi .eq c3_i32 c0_i32_1
  let c1_i32 : BitVec 32 := 1#32
  let v4 : BitVec 32 := Scalar.select v3 c1_i32 c3_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_19 : BitVec 32 := 0#32
  let c0_i32_20 : BitVec 32 := 0#32
  ![v12.toNat, 0, 0]
def k0_off7 (i : grid0.Coords) : Fin 2 → Nat :=
  let arg0 : BitVec 32 := BitVec.ofNat 32 (i 0).val
  let c3_i32_17 : BitVec 32 := 3#32
  let v34 : BitVec 32 := Scalar.addi arg0 c3_i32_17
  let c512_i32_18 : BitVec 32 := 512#32
  let v35 : BitVec 32 := Scalar.muli v34 c512_i32_18
  let v36 : BitVec 32 := v35
  let c0_i32_21 : BitVec 32 := 0#32
  ![v36.toNat, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S1024x1024 : Shape := ⟨2, ![1024, 1024]⟩
abbrev S4096x1024 : Shape := ⟨2, ![4096, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S4096x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S512x1024 : Shape := ⟨2, ![512, 1024]⟩
abbrev S3x512x1024 : Shape := ⟨3, ![3, 512, 1024]⟩
abbrev S2x3 : Shape := ⟨2, ![2, 3]⟩
abbrev S1x1 : Shape := ⟨2, ![1, 1]⟩
abbrev S_ : Shape := ⟨0, ![]⟩
abbrev S1x512x1024 : Shape := ⟨3, ![1, 512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1024x1024, .bf16⟩
  | .hbm, ⟨4, _⟩ => ⟨S4096x1024, .f32⟩
  | .local _ .vmem, ⟨0, _⟩ => ⟨S1024x1024, .bf16⟩
  | .local _ .vmem, ⟨1, _⟩ => ⟨S512x1024, .f32⟩
  | .local _ .vmem, ⟨2, _⟩ => ⟨S512x1024, .f32⟩
  | .local _ .vmem, ⟨3, _⟩ => ⟨S3x512x1024, .bf16⟩
  | .local _ .vmem, ⟨4, _⟩ => ⟨S3x512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_22 : BitVec 32 := 0#32
  c0_i32_22
def k0_mult2 : BitVec 32 :=
  let c512_i32_35 : BitVec 32 := 512#32
  c512_i32_35
def k0_mult3 : BitVec 32 :=
  let c1024_i32 : BitVec 32 := 1024#32
  c1024_i32
def k0_mult4 (i : grid0.Coords) : BitVec 32 :=
  let arg0 : BitVec 32 := BitVec.ofNat 32 (i 0).val
  let c512_i32 : BitVec 32 := 512#32
  let v13 : BitVec 32 := Scalar.muli arg0 c512_i32
  v13
def k0_off1 (i : grid0.Coords) : Fin 2 → Nat :=
  let c0_i32_5 : BitVec 32 := 0#32
  let arg0 : BitVec 32 := BitVec.ofNat 32 (i 0).val
  let c3_i32 : BitVec 32 := 3#32
  let c0_i32_1 : BitVec 32 := 0#32
  let v3 : BitVec 1 := Scalar.cmpi .eq c3_i32 c0_i32_1
  let c1_i32 : BitVec 32 := 1#32
  let v4 : BitVec 32 := Scalar.select v3 c1_i32 c3_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  ![0, v12.toNat]
def k0_off2 (i : grid0.Coords) : Fin 3 → Nat :=
  let arg0 : BitVec 32 := BitVec.ofNat 32 (i 0).val
  let c3_i32 : BitVec 32 := 3#32
  let c0_i32_1 : BitVec 32 := 0#32
  let v3 : BitVec 1 := Scalar.cmpi .eq c3_i32 c0_i32_1
  let c1_i32 : BitVec 32 := 1#32
  let v4 : BitVec 32 := Scalar.select v3 c1_i32 c3_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_6 : BitVec 32 := 0#32
  let c0_i32_7 : BitVec 32 := 0#32
  ![v12.toNat, 0, 0]
def k0_off3 (i : grid0.Coords) : Fin 2 → Nat :=
  let arg0 : BitVec 32 := BitVec.ofNat 32 (i 0).val
  let c512_i32 : BitVec 32 := 512#32
  let v13 : BitVec 32 := Scalar.muli arg0 c512_i32
  let v14 : BitVec 32 := v13
  let c0_i32_8 : BitVec 32 := 0#32
  ![v14.toNat, 0]
def k0_off4 (i : grid0.Coords) : Fin 2 → Nat :=
  let c1_i32_9 : BitVec 32 := 1#32
  let arg0 : BitVec 32 := BitVec.ofNat 32 (i 0).val
  let c3_i32 : BitVec 32 := 3#32
  let c0_i32_1 : BitVec 32 := 0#32
  let v3 : BitVec 1 := Scalar.cmpi .eq c3_i32 c0_i32_1
  let c1_i32 : BitVec 32 := 1#32
  let v4 : BitVec 32 := Scalar.select v3 c1_i32 c3_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  ![1, v12.toNat]
def k0_off5 (i : grid0.Coords) : Fin 3 → Nat :=
  let arg0 : BitVec 32 := BitVec.ofNat 32 (i 0).val
  let c3_i32 : BitVec 32 := 3#32
  let c0_i32_1 : BitVec 32 := 0#32
  let v3 : BitVec 1 := Scalar.cmpi .eq c3_i32 c0_i32_1
  let c1_i32 : BitVec 32 := 1#32
  let v4 : BitVec 32 := Scalar.select v3 c1_i32 c3_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v25 : Index := Scalar.indexCast v12
  let c0 : Index := 0#32
  let c0_13 : Index := 0#32
  ![v25.toNat, 0, 0]
def k0_cond2 (i : grid0.Coords) : BitVec 1 :=
  let arg0 : BitVec 32 := BitVec.ofNat 32 (i 0).val
  let c3_i32_20 : BitVec 32 := 3#32
  let v36 : BitVec 32 := Scalar.addi arg0 c3_i32_20
  let c8_i32 : BitVec 32 := 8#32
  let v37 : BitVec 1 := Scalar.cmpi .slt v36 c8_i32
  let v38 : BitVec 32 := Scalar.extui v37
  let c0_i32_21 : BitVec 32 := 0#32
  let v39 : BitVec 1 := Scalar.cmpi .ne v38 c0_i32_21
  v39

def k0_mult5 (i : grid0.Coords) : BitVec 32 :=
  let arg0 : BitVec 32 := BitVec.ofNat 32 (i 0).val
  let c3_i32_22 : BitVec 32 := 3#32
  let v40 : BitVec 32 := Scalar.addi arg0 c3_i32_22
  let c512_i32_23 : BitVec 32 := 512#32
  let v41 : BitVec 32 := Scalar.muli v40 c512_i32_23
  v41
def k0_off6 (i : grid0.Coords) : Fin 2 → Nat :=
  let c0_i32_24 : BitVec 32 := 0#32
  let arg0 : BitVec 32 := BitVec.ofNat 32 (i 0).val
  let c3_i32 : BitVec 32 := 3#32
  let c0_i32_1 : BitVec 32 := 0#32
  let v3 : BitVec 1 := Scalar.cmpi .eq c3_i32 c0_i32_1
  let c1_i32 : BitVec 32 := 1#32
  let v4 : BitVec 32 := Scalar.select v3 c1_i32 c3_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  ![0, v12.toNat]
def k0_off7 (i : grid0.Coords) : Fin 3 → Nat :=
  let arg0 : BitVec 32 := BitVec.ofNat 32 (i 0).val
  let c3_i32 : BitVec 32 := 3#32
  let c0_i32_1 : BitVec 32 := 0#32
  let v3 : BitVec 1 := Scalar.cmpi .eq c3_i32 c0_i32_1
  let c1_i32 : BitVec 32 := 1#32
  let v4 : BitVec 32 := Scalar.select v3 c1_i32 c3_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_25 : BitVec 32 := 0#32
  let c0_i32_26 : BitVec 32 := 0#32
  ![v12.toNat, 0, 0]
def k0_off8 (i : grid0.Coords) : Fin 2 → Nat :=
  let arg0 : BitVec 32 := BitVec.ofNat 32 (i 0).val
  let c3_i32_22 : BitVec 32 := 3#32
  let v40 : BitVec 32 := Scalar.addi arg0 c3_i32_22
  let c512_i32_23 : BitVec 32 := 512#32
  let v41 : BitVec 32 := Scalar.muli v40 c512_i32_23
  let v42 : BitVec 32 := v41
  let c0_i32_27 : BitVec 32 := 0#32
  ![v42.toNat, 0]
def k0_off9 (i : grid0.Coords) : Fin 2 → Nat :=
  let c1_i32_28 : BitVec 32 := 1#32
  let arg0 : BitVec 32 := BitVec.ofNat 32 (i 0).val
  let c3_i32 : BitVec 32 := 3#32
  let c0_i32_1 : BitVec 32 := 0#32
  let v3 : BitVec 1 := Scalar.cmpi .eq c3_i32 c0_i32_1
  let c1_i32 : BitVec 32 := 1#32
  let v4 : BitVec 32 := Scalar.select v3 c1_i32 c3_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  ![1, v12.toNat]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference8Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S1024x1024 : Shape := ⟨2, ![1024, 1024]⟩
abbrev S4096x1024 : Shape := ⟨2, ![4096, 1024]⟩
abbrev S512x1024 : Shape := ⟨2, ![512, 1024]⟩
abbrev S3x512x1024 : Shape := ⟨3, ![3, 512, 1024]⟩
abbrev S3 : Shape := ⟨1, ![3]⟩
abbrev S1 : Shape := ⟨1, ![1]⟩
abbrev S_ : Shape := ⟨0, ![]⟩
abbrev S1x512x1024 : Shape := ⟨3, ![1, 512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S1024x1024, .bf16⟩
  | .hbm, ⟨3, _⟩ => ⟨S4096x1024, .f32⟩
  | .hbm, ⟨4, _⟩ => ⟨S4096x1024, .bf16⟩
  | .local _ .vmem, ⟨0, _⟩ => ⟨S1024x1024, .bf16⟩
  | .local _ .vmem, ⟨1, _⟩ => ⟨S512x1024, .f32⟩
  | .local _ .vmem, ⟨2, _⟩ => ⟨S512x1024, .f32⟩
  | .local _ .vmem, ⟨3, _⟩ => ⟨S512x1024, .bf16⟩
  | .local _ .vmem, ⟨4, _⟩ => ⟨S512x1024, .bf16⟩
  | .local _ .vmem, ⟨5, _⟩ => ⟨S3x512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_17 : BitVec 32 := 0#32
  c0_i32_17
def k0_mult2 : BitVec 32 :=
  let c512_i32_23 : BitVec 32 := 512#32
  c512_i32_23
def k0_mult3 : BitVec 32 :=
  let c1024_i32 : BitVec 32 := 1024#32
  c1024_i32
def k0_mult4 (i : grid0.Coords) : BitVec 32 :=
  let arg0 : BitVec 32 := BitVec.ofNat 32 (i 0).val
  let c512_i32 : BitVec 32 := 512#32
  let v13 : BitVec 32 := Scalar.muli arg0 c512_i32
  v13
def k0_off1 (i : grid0.Coords) : Fin 1 → Nat :=
  let arg0 : BitVec 32 := BitVec.ofNat 32 (i 0).val
  let c3_i32 : BitVec 32 := 3#32
  let c0_i32_1 : BitVec 32 := 0#32
  let v3 : BitVec 1 := Scalar.cmpi .eq c3_i32 c0_i32_1
  let c1_i32 : BitVec 32 := 1#32
  let v4 : BitVec 32 := Scalar.select v3 c1_i32 c3_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  ![v12.toNat]
def k0_off2 (i : grid0.Coords) : Fin 3 → Nat :=
  let arg0 : BitVec 32 := BitVec.ofNat 32 (i 0).val
  let c3_i32 : BitVec 32 := 3#32
  let c0_i32_1 : BitVec 32 := 0#32
  let v3 : BitVec 1 := Scalar.cmpi .eq c3_i32 c0_i32_1
  let c1_i32 : BitVec 32 := 1#32
  let v4 : BitVec 32 := Scalar.select v3 c1_i32 c3_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let c0_i32_6 : BitVec 32 := 0#32
  ![v12.toNat, 0, 0]
def k0_off3 (i : grid0.Coords) : Fin 2 → Nat :=
  let arg0 : BitVec 32 := BitVec.ofNat 32 (i 0).val
  let c512_i32 : BitVec 32 := 512#32
  let v13 : BitVec 32 := Scalar.muli arg0 c512_i32
  let v14 : BitVec 32 := v13
  let c0_i32_7 : BitVec 32 := 0#32
  ![v14.toNat, 0]
def k0_off4 (i : grid0.Coords) : Fin 3 → Nat :=
  let arg0 : BitVec 32 := BitVec.ofNat 32 (i 0).val
  let c3_i32 : BitVec 32 := 3#32
  let c0_i32_1 : BitVec 32 := 0#32
  let v3 : BitVec 1 := Scalar.cmpi .eq c3_i32 c0_i32_1
  let c1_i32 : BitVec 32 := 1#32
  let v4 : BitVec 32 := Scalar.select v3 c1_i32 c3_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v20 : Index := Scalar.indexCast v12
  let c0 : Index := 0#32
  let c0_8 : Index := 0#32
  ![v20.toNat, 0, 0]
def k0_cond2 (i : grid0.Coords) : BitVec 1 :=
  let arg0 : BitVec 32 := BitVec.ofNat 32 (i 0).val
  let c3_i32_15 : BitVec 32 := 3#32
  let v29 : BitVec 32 := Scalar.addi arg0 c3_i32_15
  let c8_i32 : BitVec 32 := 8#32
  let v30 : BitVec 1 := Scalar.cmpi .slt v29 c8_i32
  let v31 : BitVec 32 := Scalar.extui v30
  let c0_i32_16 : BitVec 32 := 0#32
  let v32 : BitVec 1 := Scalar.cmpi .ne v31 c0_i32_16
  v32

def k0_mult5 (i : grid0.Coords) : BitVec 32 :=
  let arg0 : BitVec 32 := BitVec.ofNat 32 (i 0).val
  let c3_i32_17 : BitVec 32 := 3#32
  let v33 : BitVec 32 := Scalar.addi arg0 c3_i32_17
  let c512_i32_18 : BitVec 32 := 512#32
  let v34 : BitVec 32 := Scalar.muli v33 c512_i32_18
  v34
def k0_off5 (i : grid0.Coords) : Fin 1 → Nat :=
  let arg0 : BitVec 32 := BitVec.ofNat 32 (i 0).val
  let c3_i32 : BitVec 32 := 3#32
  let c0_i32_1 : BitVec 32 := 0#32
  let v3 : BitVec 1 := Scalar.cmpi .eq c3_i32 c0_i32_1
  let c1_i32 : BitVec 32 := 1#32
  let v4 : BitVec 32 := Scalar.select v3 c1_i32 c3_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  ![v12.toNat]
def k0_off6 (i : grid0.Coords) : Fin 3 → Nat :=
  let arg0 : BitVec 32 := BitVec.ofNat 32 (i 0).val
  let c3_i32 : BitVec 32 := 3#32
  let c0_i32_1 : BitVec 32 := 0#32
  let v3 : BitVec 1 := Scalar.cmpi .eq c3_i32 c0_i32_1
  let c1_i32 : BitVec 32 := 1#32
  let v4 : BitVec 32 := Scalar.select v3 c1_i32 c3_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_19 : BitVec 32 := 0#32
  let c0_i32_20 : BitVec 32 := 0#32
  ![v12.toNat, 0, 0]
def k0_off7 (i : grid0.Coords) : Fin 2 → Nat :=
  let arg0 : BitVec 32 := BitVec.ofNat 32 (i 0).val
  let c3_i32_17 : BitVec 32 := 3#32
  let v33 : BitVec 32 := Scalar.addi arg0 c3_i32_17
  let c512_i32_18 : BitVec 32 := 512#32
  let v34 : BitVec 32 := Scalar.muli v33 c512_i32_18
  let v35 : BitVec 32 := v34
  let c0_i32_21 : BitVec 32 := 0#32
  ![v35.toNat, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S1024x1024 : Shape := ⟨2, ![1024, 1024]⟩
abbrev S4096x1024 : Shape := ⟨2, ![4096, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S4096x1536 : Shape := ⟨2, ![4096, 1536]⟩
abbrev S128 : Shape := ⟨1, ![128]⟩
abbrev S4096x1024 : Shape := ⟨2, ![4096, 1024]⟩
abbrev S4096x256 : Shape := ⟨2, ![4096, 256]⟩
abbrev S2048 : Shape := ⟨1, ![2048]⟩
abbrev S_ : Shape := ⟨0, ![]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S8x256x128 : Shape := ⟨3, ![8, 256, 128]⟩
abbrev S256x8x128 : Shape := ⟨3, ![256, 8, 128]⟩
abbrev S2x2048x1536 : Shape := ⟨3, ![2, 2048, 1536]⟩
abbrev S2x8x256x1536 : Shape := ⟨4, ![2, 8, 256, 1536]⟩
abbrev S2x256x8x1536 : Shape := ⟨4, ![2, 256, 8, 1536]⟩
abbrev S2x2048x1024 : Shape := ⟨3, ![2, 2048, 1024]⟩
abbrev S2x8x256x1024 : Shape := ⟨4, ![2, 8, 256, 1024]⟩
abbrev S2x256x8x1024 : Shape := ⟨4, ![2, 256, 8, 1024]⟩
abbrev S2x2048x256 : Shape := ⟨3, ![2, 2048, 256]⟩
abbrev S2x8x256x256 : Shape := ⟨4, ![2, 8, 256, 256]⟩
abbrev S2x256x8x256 : Shape := ⟨4, ![2, 256, 8, 256]⟩
abbrev S1x128 : Shape := ⟨2, ![1, 128]⟩
abbrev S1024x1536 : Shape := ⟨2, ![1024, 1536]⟩
abbrev S1024x1024 : Shape := ⟨2, ![1024, 1024]⟩
abbrev S1024x256 : Shape := ⟨2, ![1024, 256]⟩
abbrev S1024x128 : Shape := ⟨2, ![1024, 128]⟩
abbrev S1024 : Shape := ⟨1, ![1024]⟩
abbrev S1024x1 : Shape := ⟨2, ![1024, 1]⟩

abbrev nBuf : Space → Nat
  | .hbm => 117
  | .vmem => 18
  | .smem => 0
  | _ => 0

abbrev bufTy : (tb : Table) → Fin (tcTables nBuf tb) → BufTy
  | .hbm, ⟨0, _⟩ => ⟨S4096x1536, .f32⟩
  | .hbm, ⟨1, _⟩ => ⟨S128, .f32⟩
  | .hbm, ⟨2, _⟩ => ⟨S128, .f32⟩
  | .hbm, ⟨3, _⟩ => ⟨S4096x1024, .f32⟩
  | .hbm, ⟨4, _⟩ => ⟨S4096x256, .f32⟩
  | .hbm, ⟨5, _⟩ => ⟨S4096x256, .f32⟩
  | .hbm, ⟨6, _⟩ => ⟨S2048, .i32⟩
  | .hbm, ⟨7, _⟩ => ⟨S_, .i32⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S_, .i32⟩
  | .hbm, ⟨13, _⟩ => ⟨S2048, .i32⟩
  | .hbm, ⟨14, _⟩ => ⟨S2048, .i1⟩
  | .hbm, ⟨15, _⟩ => ⟨S2048, .i32⟩
  | .hbm, ⟨16, _⟩ => ⟨S2048, .i32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S2048, .i1⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S2048, .f32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S_, .i32⟩
  | .hbm, ⟨38, _⟩ => ⟨S2048, .i32⟩
  | .hbm, ⟨39, _⟩ => ⟨S2048, .i1⟩
  | .hbm, ⟨40, _⟩ => ⟨S_, .i32⟩
  | .hbm, ⟨41, _⟩ => ⟨S_, .i1⟩
  | .hbm, ⟨42, _⟩ => ⟨S2048, .i1⟩
  | .hbm, ⟨43, _⟩ => ⟨S2048, .i1⟩
  | .hbm, ⟨44, _⟩ => ⟨S2048, .i1⟩
  | .hbm, ⟨45, _⟩ => ⟨S2048, .i32⟩
  | .hbm, ⟨46, _⟩ => ⟨S2048, .i32⟩
  | .hbm, ⟨47, _⟩ => ⟨S2048, .i32⟩
  | .hbm, ⟨48, _⟩ => ⟨S2048, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S2048x1, .f32⟩
  | .hbm, ⟨58, _⟩ => ⟨S1x32, .f32⟩
  | .hbm, ⟨59, _⟩ => ⟨S2048x32, .f32⟩
  | .hbm, ⟨60, _⟩ => ⟨S2048x32, .f32⟩
  | .hbm, ⟨61, _⟩ => ⟨S2048x32, .f32⟩
  | .hbm, ⟨62, _⟩ => ⟨S2048x1, .f32⟩
  | .hbm, ⟨63, _⟩ => ⟨S1x32, .f32⟩
  | .hbm, ⟨64, _⟩ => ⟨S2048x32, .f32⟩
  | .hbm, ⟨65, _⟩ => ⟨S2048x32, .f32⟩
  | .hbm, ⟨66, _⟩ => ⟨S2048x32, .f32⟩
  | .hbm, ⟨67, _⟩ => ⟨S2048x32, .f32⟩
  | .hbm, ⟨68, _⟩ => ⟨S2048x32, .f32⟩
  | .hbm, ⟨69, _⟩ => ⟨S2048x32, .f32⟩
  | .hbm, ⟨70, _⟩ => ⟨S2048x32, .f32⟩
  | .hbm, ⟨71, _⟩ => ⟨S2048x128, .f32⟩
  | .hbm, ⟨72, _⟩ => ⟨S2048x32, .f32⟩
  | .hbm, ⟨73, _⟩ => ⟨S2048x32, .f32⟩
  | .hbm, ⟨74, _⟩ => ⟨S2048x32, .f32⟩
  | .hbm, ⟨75, _⟩ => ⟨S2048x32, .f32⟩
  | .hbm, ⟨76, _⟩ => ⟨S2048x32, .f32⟩
  | .hbm, ⟨77, _⟩ => ⟨S2048x32, .f32⟩
  | .hbm, ⟨78, _⟩ => ⟨S2048x128, .f32⟩
  | .hbm, ⟨79, _⟩ => ⟨S8x256x128, .f32⟩
  | .hbm, ⟨80, _⟩ => ⟨S256x8x128, .f32⟩
  | .hbm, ⟨81, _⟩ => ⟨S2048x128, .f32⟩
  | .hbm, ⟨82, _⟩ => ⟨S8x256x128, .f32⟩
  | .hbm, ⟨83, _⟩ => ⟨S256x8x128, .f32⟩
  | .hbm, ⟨84, _⟩ => ⟨S2048x128, .f32⟩
  | .hbm, ⟨85, _⟩ => ⟨S2x2048x1536, .f32⟩
  | .hbm, ⟨86, _⟩ => ⟨S2x8x256x1536, .f32⟩
  | .hbm, ⟨87, _⟩ => ⟨S2x256x8x1536, .f32⟩
  | .hbm, ⟨88, _⟩ => ⟨S2x2048x1536, .f32⟩
  | .hbm, ⟨89, _⟩ => ⟨S4096x1536, .f32⟩
  | .hbm, ⟨90, _⟩ => ⟨S2x2048x1024, .f32⟩
  | .hbm, ⟨91, _⟩ => ⟨S2x8x256x1024, .f32⟩
  | .hbm, ⟨92, _⟩ => ⟨S2x256x8x1024, .f32⟩
  | .hbm, ⟨93, _⟩ => ⟨S2x2048x1024, .f32⟩
  | .hbm, ⟨94, _⟩ => ⟨S4096x1024, .f32⟩
  | .hbm, ⟨95, _⟩ => ⟨S2x2048x256, .f32⟩
  | .hbm, ⟨96, _⟩ => ⟨S2x8x256x256, .f32⟩
  | .hbm, ⟨97, _⟩ => ⟨S2x256x8x256, .f32⟩
  | .hbm, ⟨98, _⟩ => ⟨S2x2048x256, .f32⟩
  | .hbm, ⟨99, _⟩ => ⟨S4096x256, .f32⟩
  | .hbm, ⟨100, _⟩ => ⟨S2x2048x256, .f32⟩
  | .hbm, ⟨101, _⟩ => ⟨S2x8x256x256, .f32⟩
  | .hbm, ⟨102, _⟩ => ⟨S2x256x8x256, .f32⟩
  | .hbm, ⟨103, _⟩ => ⟨S2x2048x256, .f32⟩
  | .hbm, ⟨104, _⟩ => ⟨S4096x256, .f32⟩
  | .hbm, ⟨105, _⟩ => ⟨S1x128, .f32⟩
  | .hbm, ⟨106, _⟩ => ⟨S1x128, .f32⟩
  | .hbm, ⟨107, _⟩ => ⟨S4096x1536, .bf16⟩
  | .hbm, ⟨108, _⟩ => ⟨S1x128, .f32⟩
  | .hbm, ⟨109, _⟩ => ⟨S1x128, .f32⟩
  | .hbm, ⟨110, _⟩ => ⟨S2x2048x1536, .bf16⟩
  | .hbm, ⟨111, _⟩ => ⟨S2x256x8x1536, .bf16⟩
  | .hbm, ⟨112, _⟩ => ⟨S2x8x256x1536, .bf16⟩
  | .hbm, ⟨113, _⟩ => ⟨S2x2048x1536, .bf16⟩
  | .hbm, ⟨114, _⟩ => ⟨S4096x1536, .bf16⟩
  | .hbm, ⟨115, _⟩ => ⟨S128, .f32⟩
  | .hbm, ⟨116, _⟩ => ⟨S128, .f32⟩
  | .local _ .vmem, ⟨0, _⟩ => ⟨S1024x1536, .f32⟩
  | .local _ .vmem, ⟨1, _⟩ => ⟨S1024x1536, .f32⟩
  | .local _ .vmem, ⟨2, _⟩ => ⟨S1024x1024, .f32⟩
  | .local _ .vmem, ⟨3, _⟩ => ⟨S1024x1024, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1x128, .f32⟩
  | .local _ .vmem, ⟨9, _⟩ => ⟨S1x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x1536, .bf16⟩
  | .local _ .vmem, ⟨15, _⟩ => ⟨S1024x1536, .bf16⟩
  | .local _ .vmem, ⟨16, _⟩ => ⟨S1x128, .f32⟩
  | .local _ .vmem, ⟨17, _⟩ => ⟨S1x128, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_cst : Ref sig .tc := ⟨.hbm, 51, rfl⟩
abbrev main_v7 : Ref sig .tc := ⟨.hbm, 52, rfl⟩
abbrev main_v8 : Ref sig .tc := ⟨.hbm, 53, rfl⟩
abbrev main_cst_1 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61_0 : Ref sig .tc := ⟨.hbm, 107, rfl⟩
abbrev main_v61_1 : Ref sig .tc := ⟨.hbm, 108, rfl⟩
abbrev main_v61_2 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference10Ideal.lean ====
abbrev S4096x1536 : Shape := ⟨2, ![4096, 1536]⟩
abbrev S128 : Shape := ⟨1, ![128]⟩
abbrev S4096x1024 : Shape := ⟨2, ![4096, 1024]⟩
abbrev S4096x256 : Shape := ⟨2, ![4096, 256]⟩
abbrev S2x2048x1536 : Shape := ⟨3, ![2, 2048, 1536]⟩
abbrev S2x2048x1024 : Shape := ⟨3, ![2, 2048, 1024]⟩
abbrev S2x2048x256 : Shape := ⟨3, ![2, 2048, 256]⟩
abbrev S2x2048x8x128 : Shape := ⟨4, ![2, 2048, 8, 128]⟩
abbrev S_ : Shape := ⟨0, ![]⟩
abbrev S2x2048x8 : Shape := ⟨3, ![2, 2048, 8]⟩
abbrev S2x2048x8x1 : Shape := ⟨4, ![2, 2048, 8, 1]⟩
abbrev S1x1x1x128 : Shape := ⟨4, ![1, 1, 1, 128]⟩
abbrev S2x2048x2x128 : Shape := ⟨4, ![2, 2048, 2, 128]⟩
abbrev S2x2048x2 : Shape := ⟨3, ![2, 2048, 2]⟩
abbrev S2x2048x2x1 : Shape := ⟨4, ![2, 2048, 2, 1]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S2x2048x8x64 : Shape := ⟨4, ![2, 2048, 8, 64]⟩
abbrev S2x2048x8x32 : Shape := ⟨4, ![2, 2048, 8, 32]⟩
abbrev S1x2048x1x32 : Shape := ⟨4, ![1, 2048, 1, 32]⟩
abbrev S2x2048x2x64 : Shape := ⟨4, ![2, 2048, 2, 64]⟩
abbrev S2x2048x2x32 : Shape := ⟨4, ![2, 2048, 2, 32]⟩

abbrev nBuf : Space → Nat
  | .hbm => 282
  | .vmem => 0
  | .smem => 0
  | _ => 0

abbrev hbmTy0_0 (i : Nat) : BufTy := match i % 128 with
  | 0 => ⟨S4096x1536, .f32⟩
  | 1 => ⟨S128, .f32⟩
  | 2 => ⟨S128, .f32⟩
  | 3 => ⟨S4096x1024, .f32⟩
  | 4 => ⟨S4096x256, .f32⟩
  | 5 => ⟨S4096x256, .f32⟩
  | 6 => ⟨S2x2048x1536, .f32⟩
  | 7 => ⟨S2x2048x1024, .f32⟩
  | 8 => ⟨S2x2048x256, .f32⟩
  | 9 => ⟨S2x2048x256, .f32⟩
  | 10 => ⟨S2x2048x8x128, .f32⟩
  | 11 => ⟨S2x2048x8x128, .f32⟩
  | 12 => ⟨S_, .f32⟩
  | 13 => ⟨S2x2048x8, .f32⟩
  | 14 => ⟨S2x2048x8x1, .f32⟩
  | 15 => ⟨S_, .f32⟩
  | 16 => ⟨S2x2048x8x1, .f32⟩
  | 17 => ⟨S2x2048x8x1, .f32⟩
  | 18 => ⟨S_, .f32⟩
  | 19 => ⟨S2x2048x8x1, .f32⟩
  | 20 => ⟨S2x2048x8x1, .f32⟩
  | 21 => ⟨S2x2048x8x1, .f32⟩
  | 22 => ⟨S2x2048x8x1, .f32⟩
  | 23 => ⟨S_, .f32⟩
  | 24 => ⟨S2x2048x8x1, .f32⟩
  | 25 => ⟨S2x2048x8x1, .f32⟩
  | 26 => ⟨S2x2048x8x128, .f32⟩
  | 27 => ⟨S2x2048x8x128, .f32⟩
  | 28 => ⟨S1x1x1x128, .f32⟩
  | 29 => ⟨S2x2048x8x128, .f32⟩
  | 30 => ⟨S2x2048x8x128, .f32⟩
  | 31 => ⟨S2x2048x2x128, .f32⟩
  | 32 => ⟨S2x2048x2x128, .f32⟩
  | 33 => ⟨S_, .f32⟩
  | 34 => ⟨S2x2048x2, .f32⟩
  | 35 => ⟨S2x2048x2x1, .f32⟩
  | 36 => ⟨S_, .f32⟩
  | 37 => ⟨S2x2048x2x1, .f32⟩
  | 38 => ⟨S2x2048x2x1, .f32⟩
  | 39 => ⟨S_, .f32⟩
  | 40 => ⟨S2x2048x2x1, .f32⟩
  | 41 => ⟨S2x2048x2x1, .f32⟩
  | 42 => ⟨S2x2048x2x1, .f32⟩
  | 43 => ⟨S2x2048x2x1, .f32⟩
  | 44 => ⟨S_, .f32⟩
  | 45 => ⟨S2x2048x2x1, .f32⟩
  | 46 => ⟨S2x2048x2x1, .f32⟩
  | 47 => ⟨S2x2048x2x128, .f32⟩
  | 48 => ⟨S2x2048x2x128, .f32⟩
  | 49 => ⟨S1x1x1x128, .f32⟩
  | 50 => ⟨S2x2048x2x128, .f32⟩
  | 51 => ⟨S2x2048x2x128, .f32⟩
  | 52 => ⟨S32, .f32⟩
  | 53 => ⟨S32x64, .f32⟩
  | 54 => ⟨S2048, .f32⟩
  | 55 => ⟨S64, .f32⟩
  | 56 => ⟨S1x64, .f32⟩
  | 57 => ⟨S32x64, .f32⟩
  | 58 => ⟨S2048, .f32⟩
  | 59 => ⟨S32, .f32⟩
  | 60 => ⟨S32, .f32⟩
  | 61 => ⟨S_, .f32⟩
  | 62 => ⟨S32, .f32⟩
  | 63 => ⟨S32, .f32⟩
  | 64 => ⟨S_, .f32⟩
  | 65 => ⟨S32, .f32⟩
  | 66 => ⟨S32, .f32⟩
  | 67 => ⟨S2048x1, .f32⟩
  | 68 => ⟨S1x32, .f32⟩
  | 69 => ⟨S2048x32, .f32⟩
  | 70 => ⟨S2048x32, .f32⟩
  | 71 => ⟨S2048x32, .f32⟩
  | 72 => ⟨S2048x1, .f32⟩
  | 73 => ⟨S1x32, .f32⟩
  | 74 => ⟨S2048x32, .f32⟩
  | 75 => ⟨S2048x32, .f32⟩
  | 76 => ⟨S2048x32, .f32⟩
  | 77 => ⟨S2048x32, .f32⟩
  | 78 => ⟨S2048x1x32, .f32⟩
  | 79 => ⟨S2048x32, .f32⟩
  | 80 => ⟨S2048x1x32, .f32⟩
  | 81 => ⟨S2048x32, .f32⟩
  | 82 => ⟨S2048x1x32, .f32⟩
  | 83 => ⟨S2048x32, .f32⟩
  | 84 => ⟨S2048x1x32, .f32⟩
  | 85 => ⟨S2x2048x8x64, .f32⟩
  | 86 => ⟨S2x2048x8x64, .f32⟩
  | 87 => ⟨S2x2048x8x32, .f32⟩
  | 88 => ⟨S2x2048x8x32, .f32⟩
  | 89 => ⟨S1x2048x1x32, .f32⟩
  | 90 => ⟨S2x2048x8x32, .f32⟩
  | 91 => ⟨S2x2048x8x32, .f32⟩
  | 92 => ⟨S1x2048x1x32, .f32⟩
  | 93 => ⟨S2x2048x8x32, .f32⟩
  | 94 => ⟨S2x2048x8x32, .f32⟩
  | 95 => ⟨S2x2048x8x32, .f32⟩
  | 96 => ⟨S1x2048x1x32, .f32⟩
  | 97 => ⟨S2x2048x8x32, .f32⟩
  | 98 => ⟨S2x2048x8x32, .f32⟩
  | 99 => ⟨S1x2048x1x32, .f32⟩
  | 100 => ⟨S2x2048x8x32, .f32⟩
  | 101 => ⟨S2x2048x8x32, .f32⟩
  | 102 => ⟨S2x2048x8x32, .f32⟩
  | 103 => ⟨S2x2048x8x64, .f32⟩
  | 104 => ⟨S2x2048x8x32, .f32⟩
  | 105 => ⟨S2x2048x8x32, .f32⟩
  | 106 => ⟨S1x2048x1x32, .f32⟩
  | 107 => ⟨S2x2048x8x32, .f32⟩
  | 108 => ⟨S2x2048x8x32, .f32⟩
  | 109 => ⟨S1x2048x1x32, .f32⟩
  | 110 => ⟨S2x2048x8x32, .f32⟩
  | 111 => ⟨S2x2048x8x32, .f32⟩
  | 112 => ⟨S2x2048x8x32, .f32⟩
  | 113 => ⟨S1x2048x1x32, .f32⟩
  | 114 => ⟨S2x2048x8x32, .f32⟩
  | 115 => ⟨S2x2048x8x32, .f32⟩
  | 116 => ⟨S1x2048x1x32, .f32⟩
  | 117 => ⟨S2x2048x8x32, .f32⟩
  | 118 => ⟨S2x2048x8x32, .f32⟩
  | 119 => ⟨S2x2048x8x32, .f32⟩
  | 120 => ⟨S2x2048x8x64, .f32⟩
  | 121 => ⟨S2x2048x8x128, .f32⟩
  | 122 => ⟨S2x2048x2x64, .f32⟩
  | 123 => ⟨S2x2048x2x64, .f32⟩
  | 124 => ⟨S2x2048x2x32, .f32⟩
  | 125 => ⟨S2x2048x2x32, .f32⟩
  | 126 => ⟨S1x2048x1x32, .f32⟩
  | 127 => ⟨S2x2048x2x32, .f32⟩
  | _ => ⟨S4096x1536, .f32⟩

abbrev hbmTy0_1 (i : Nat) : BufTy := match i % 128 with
  | 0 => ⟨S2x2048x2x32, .f32⟩
  | 1 => ⟨S1x2048x1x32, .f32⟩
  | 2 => ⟨S2x2048x2x32, .f32⟩
  | 3 => ⟨S2x2048x2x32, .f32⟩
  | 4 => ⟨S2x2048x2x32, .f32⟩
  | 5 => ⟨S1x2048x1x32, .f32⟩
  | 6 => ⟨S2x2048x2x32, .f32⟩
  | 7 => ⟨S2x2048x2x32, .f32⟩
  | 8 => ⟨S1x2048x1x32, .f32⟩
  | 9 => ⟨S2x2048x2x32, .f32⟩
  | 10 => ⟨S2x2048x2x32, .f32⟩
  | 11 => ⟨S2x2048x2x32, .f32⟩
  | 12 => ⟨S2x2048x2x64, .f32⟩
  | 13 => ⟨S2x2048x2x32, .f32⟩
  | 14 => ⟨S2x2048x2x32, .f32⟩
  | 15 => ⟨S1x2048x1x32, .f32⟩
  | 16 => ⟨S2x2048x2x32, .f32⟩
  | 17 => ⟨S2x2048x2x32, .f32⟩
  | 18 => ⟨S1x2048x1x32, .f32⟩
  | 19 => ⟨S2x2048x2x32, .f32⟩
  | 20 => ⟨S2x2048x2x32, .f32⟩
  | 21 => ⟨S2x2048x2x32, .f32⟩
  | 22 => ⟨S1x2048x1x32, .f32⟩
  | 23 => ⟨S2x2048x2x32, .f32⟩
  | 24 => ⟨S2x2048x2x32, .f32⟩
  | 25 => ⟨S1x2048x1x32, .f32⟩
  | 26 => ⟨S2x2048x2x32, .f32⟩
  | 27 => ⟨S2x2048x2x32, .f32⟩
  | 28 => ⟨S2x2048x2x32, .f32⟩
  | 29 => ⟨S2x2048x2x64, .f32⟩
  | 30 => ⟨S2x2048x2x128, .f32⟩
  | 31 => ⟨S4096x1024, .f32⟩
  | 32 => ⟨S4096x256, .f32⟩
  | 33 => ⟨S4096x256, .f32⟩
  | 34 => ⟨S2x2048x256, .f32⟩
  | 35 => ⟨S2x2048x2x128, .f32⟩
  | 36 => ⟨S2x2048x8x128, .f32⟩
  | 37 => ⟨S2x2048x2x64, .f32⟩
  | 38 => ⟨S2x2048x2x64, .f32⟩
  | 39 => ⟨S2x2048x2x32, .f32⟩
  | 40 => ⟨S2x2048x2x32, .f32⟩
  | 41 => ⟨S2x2048x2x32, .f32⟩
  | 42 => ⟨S2x2048x2x32, .f32⟩
  | 43 => ⟨S2x2048x2x32, .f32⟩
  | 44 => ⟨S2x2048x2x32, .f32⟩
  | 45 => ⟨S2x2048x2x32, .f32⟩
  | 46 => ⟨S2x2048x2x32, .f32⟩
  | 47 => ⟨S2x2048x2x32, .f32⟩
  | 48 => ⟨S2x2048x2x32, .f32⟩
  | 49 => ⟨S2x2048x2x32, .f32⟩
  | 50 => ⟨S2x2048x2x32, .f32⟩
  | 51 => ⟨S2x2048x2x32, .f32⟩
  | 52 => ⟨S2x2048x2x64, .f32⟩
  | 53 => ⟨S2x2048x2x32, .f32⟩
  | 54 => ⟨S2x2048x2x32, .f32⟩
  | 55 => ⟨S2x2048x2x32, .f32⟩
  | 56 => ⟨S2x2048x2x32, .f32⟩
  | 57 => ⟨S2x2048x2x32, .f32⟩
  | 58 => ⟨S2x2048x2x32, .f32⟩
  | 59 => ⟨S2x2048x2x32, .f32⟩
  | 60 => ⟨S2x2048x2x32, .f32⟩
  | 61 => ⟨S2x2048x2x32, .f32⟩
  | 62 => ⟨S2x2048x2x32, .f32⟩
  | 63 => ⟨S2x2048x2x32, .f32⟩
  | 64 => ⟨S2x2048x2x32, .f32⟩
  | 65 => ⟨S2x2048x2x32, .f32⟩
  | 66 => ⟨S2x2048x2x64, .f32⟩
  | 67 => ⟨S2x2048x2x128, .f32⟩
  | 68 => ⟨S2x2048x8x64, .f32⟩
  | 69 => ⟨S2x2048x8x64, .f32⟩
  | 70 => ⟨S2x2048x8x32, .f32⟩
  | 71 => ⟨S2x2048x8x32, .f32⟩
  | 72 => ⟨S2x2048x8x32, .f32⟩
  | 73 => ⟨S2x2048x8x32, .f32⟩
  | 74 => ⟨S2x2048x8x32, .f32⟩
  | 75 => ⟨S2x2048x8x32, .f32⟩
  | 76 => ⟨S2x2048x8x32, .f32⟩
  | 77 => ⟨S2x2048x8x32, .f32⟩
  | 78 => ⟨S2x2048x8x32, .f32⟩
  | 79 => ⟨S2x2048x8x32, .f32⟩
  | 80 => ⟨S2x2048x8x32, .f32⟩
  | 81 => ⟨S2x2048x8x32, .f32⟩
  | 82 => ⟨S2x2048x8x32, .f32⟩
  | 83 => ⟨S2x2048x8x64, .f32⟩
  | 84 => ⟨S2x2048x8x32, .f32⟩
  | 85 => ⟨S2x2048x8x32, .f32⟩
  | 86 => ⟨S2x2048x8x32, .f32⟩
  | 87 => ⟨S2x2048x8x32, .f32⟩
  | 88 => ⟨S2x2048x8x32, .f32⟩
  | 89 => ⟨S2x2048x8x32, .f32⟩
  | 90 => ⟨S2x2048x8x32, .f32⟩
  | 91 => ⟨S2x2048x8x32, .f32⟩
  | 92 => ⟨S2x2048x8x32, .f32⟩
  | 93 => ⟨S2x2048x8x32, .f32⟩
  | 94 => ⟨S2x2048x8x32, .f32⟩
  | 95 => ⟨S2x2048x8x32, .f32⟩
  | 96 => ⟨S2x2048x8x32, .f32⟩
  | 97 => ⟨S2x2048x8x64, .f32⟩
  | 98 => ⟨S2x2048x8x128, .f32⟩
  | 99 => ⟨S2x2048x2x128, .f32⟩
  | 100 => ⟨S_, .f32⟩
  | 101 => ⟨S128, .f32⟩
  | 102 => ⟨S1x1x1x128, .f32⟩
  | 103 => ⟨S2x2048x2x128, .f32⟩
  | 104 => ⟨S2x2048x2x128, .f32⟩
  | 105 => ⟨S_, .f32⟩
  | 106 => ⟨S128, .f32⟩
  | 107 => ⟨S2x2048x2x128, .f32⟩
  | 108 => ⟨S_, .f32⟩
  | 109 => ⟨S2x2048x2, .f32⟩
  | 110 => ⟨S2x2048x2x1, .f32⟩
  | 111 => ⟨S2x2048x2x128, .f32⟩
  | 112 => ⟨S2x2048x2x128, .f32⟩
  | 113 => ⟨S2x2048x2x1, .f32⟩
  | 114 => ⟨S_, .f32⟩
  | 115 => ⟨S2x2048x2x1, .f32⟩
  | 116 => ⟨S2x2048x2x1, .f32⟩
  | 117 => ⟨S_, .f32⟩
  | 118 => ⟨S2x2048x2, .f32⟩
  | 119 => ⟨S2x2048x2x128, .f32⟩
  | 120 => ⟨S2x2048x2x128, .f32⟩
  | 121 => ⟨S2x2048x2x128, .f32⟩
  | 122 => ⟨S2x2048x2x128, .f32⟩
  | 123 => ⟨S2x2048x2x128, .f32⟩
  | 124 => ⟨S2x2048x256, .f32⟩
  | 125 => ⟨S2x2048x8x128, .f32⟩
  | 126 => ⟨S_, .f32⟩
  | 127 => ⟨S128, .f32⟩
  | _ => ⟨S4096x1536, .f32⟩

abbrev hbmTy0_2 (i : Nat) : BufTy := match i % 128 with
  | 0 => ⟨S1x1x1x128, .f32⟩
  | 1 => ⟨S2x2048x8x128, .f32⟩
  | 2 => ⟨S2x2048x8x128, .f32⟩
  | 3 => ⟨S_, .f32⟩
  | 4 => ⟨S128, .f32⟩
  | 5 => ⟨S2x2048x8x128, .f32⟩
  | 6 => ⟨S_, .f32⟩
  | 7 => ⟨S2x2048x8, .f32⟩
  | 8 => ⟨S2x2048x8x1, .f32⟩
  | 9 => ⟨S2x2048x8x128, .f32⟩
  | 10 => ⟨S2x2048x8x128, .f32⟩
  | 11 => ⟨S2x2048x8x1, .f32⟩
  | 12 => ⟨S_, .f32⟩
  | 13 => ⟨S2x2048x8x1, .f32⟩
  | 14 => ⟨S2x2048x8x1, .f32⟩
  | 15 => ⟨S_, .f32⟩
  | 16 => ⟨S2x2048x8, .f32⟩
  | 17 => ⟨S2x2048x8x128, .f32⟩
  | 18 => ⟨S2x2048x8x128, .f32⟩
  | 19 => ⟨S2x2048x8x128, .f32⟩
  | 20 => ⟨S2x2048x8x128, .f32⟩
  | 21 => ⟨S2x2048x8x128, .f32⟩
  | 22 => ⟨S2x2048x1024, .f32⟩
  | 23 => ⟨S2x2048x1536, .f32⟩
  | 24 => ⟨S4096x1536, .f32⟩
  | 25 => ⟨S4096x1536, .bf16⟩
  | _ => ⟨S4096x1536, .f32⟩

abbrev hbmTy (i : Nat) : BufTy := match i / 128 with
  | 0 => hbmTy0_0 i
  | 1 => hbmTy0_1 i
  | 2 => hbmTy0_2 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_cst_9 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_cst_10 : Ref sig .tc := ⟨.hbm, 233, rfl⟩
abbrev main_v216 : Ref sig .tc := ⟨.hbm, 234, rfl⟩
abbrev main_v217 : Ref sig .tc := ⟨.hbm, 235, rfl⟩
abbrev main_cst_11 : Ref sig .tc := ⟨.hbm, 236, rfl⟩
abbrev main_v218 : Ref sig .tc := ⟨.hbm, 237, rfl⟩
abbrev main_v219 : Ref sig .tc := ⟨.hbm, 238, rfl⟩
abbrev main_v220 : Ref sig .tc := ⟨.hbm, 239, rfl⟩
abbrev main_v221 : Ref sig .tc := ⟨.hbm, 240, rfl⟩
abbrev main_v222 : Ref sig .tc := ⟨.hbm, 241, rfl⟩
abbrev main_cst_12 : Ref sig .tc := ⟨.hbm, 242, rfl⟩
abbrev main_v223 : Ref sig .tc := ⟨.hbm, 243, rfl⟩
abbrev main_v224 : Ref sig .tc := ⟨.hbm, 244, rfl⟩
abbrev main_cst_13 : Ref sig .tc := ⟨.hbm, 245, rfl⟩
abbrev main_v225 : Ref sig .tc := ⟨.hbm, 246, rfl⟩
abbrev main_v226 : Ref sig .tc := ⟨.hbm, 247, rfl⟩
abbrev main_v227 : Ref sig .tc := ⟨.hbm, 248, rfl⟩
abbrev main_v228 : Ref sig .tc := ⟨.hbm, 249, rfl⟩
abbrev main_v229 : Ref sig .tc := ⟨.hbm, 250, rfl⟩
abbrev main_v230 : Ref sig .tc := ⟨.hbm, 251, rfl⟩
abbrev main_v231 : Ref sig .tc := ⟨.hbm, 252, rfl⟩
abbrev main_v232 : Ref sig .tc := ⟨.hbm, 253, rfl⟩
abbrev main_cst_14 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_cst_15 : Ref sig .tc := ⟨.hbm, 259, rfl⟩
abbrev main_v237 : Ref sig .tc := ⟨.hbm, 260, rfl⟩
abbrev main_v238 : Ref sig .tc := ⟨.hbm, 261, rfl⟩
abbrev main_cst_16 : Ref sig .tc := ⟨.hbm, 262, rfl⟩
abbrev main_v239 : Ref sig .tc := ⟨.hbm, 263, rfl⟩
abbrev main_v240 : Ref sig .tc := ⟨.hbm, 264, rfl⟩
abbrev main_v241 : Ref sig .tc := ⟨.hbm, 265, rfl⟩
abbrev main_v242 : Ref sig .tc := ⟨.hbm, 266, rfl⟩
abbrev main_v243 : Ref sig .tc := ⟨.hbm, 267, rfl⟩
abbrev main_cst_17 : Ref sig .tc := ⟨.hbm, 268, rfl⟩
abbrev main_v244 : Ref sig .tc := ⟨.hbm, 269, rfl⟩
abbrev main_v245 : Ref sig .tc := ⟨.hbm, 270, rfl⟩
abbrev main_cst_18 : Ref sig .tc := ⟨.hbm, 271, rfl⟩
abbrev main_v246 : Ref sig .tc := ⟨.hbm, 272, rfl⟩
abbrev main_v247 : Ref sig .tc := ⟨.hbm, 273, rfl⟩
abbrev main_v248 : Ref sig .tc := ⟨.hbm, 274, rfl⟩
abbrev main_v249 : Ref sig .tc := ⟨.hbm, 275, rfl⟩
abbrev main_v250 : Ref sig .tc := ⟨.hbm, 276, rfl⟩
abbrev main_v251 : Ref sig .tc := ⟨.hbm, 277, rfl⟩
abbrev main_v252 : Ref sig .tc := ⟨.hbm, 278, rfl⟩
abbrev main_v253 : Ref sig .tc := ⟨.hbm, 279, rfl⟩
abbrev main_v254 : Ref sig .tc := ⟨.hbm, 280, rfl⟩
abbrev main_v255 : Ref sig .tc := ⟨.hbm, 281, rfl⟩

abbrev nD : Nat := 1
abbrev τ : Topo := Topo.v7x

variable {F : FTy → Type} [FloatOps F]
-- ==== Proof.Attn.Real.lean ====
/- The attention of one query row over the real numbers: its softmax weights, and the gradient of its scores.
   Nothing here mentions a program. -/
module

public import Idealize.ShloMosaic.PureOps.Ideal

@[expose] public section

noncomputable section

namespace Cert.Attn

open Finset

variable {n d : ℕ}

/-- The inner product of a query row and key row `j`. -/
def score (q : Fin d → ℝ) (K : Fin n → Fin d → ℝ) (j : Fin n) : ℝ := ∑ x, q x * K j x

/-- The scale of the scores, `1 / √128`. -/
def sc : ℝ := (Real.sqrt 128)⁻¹

/-- The softmax weight of key `j` in a row of scores. -/
def wt (s : Fin n → ℝ) (j : Fin n) : ℝ := Real.exp (s j * sc) / ∑ i, Real.exp (s i * sc)

/-- The gradient of the (scaled) scores of a row, from the gradient `g` of its softmax weights. -/
def dsc (s g : Fin n → ℝ) (j : Fin n) : ℝ := wt s j * (g j - ∑ i, wt s i * g i)

/-- Subtracting one number from every score leaves the weights as they are. -/
theorem wt_shift (s : Fin n → ℝ) (M : ℝ) (j : Fin n) :
    Real.exp ((s j - M) * sc) / ∑ i, Real.exp ((s i - M) * sc) = wt s j := by
  have h : ∀ i, Real.exp ((s i - M) * sc) = Real.exp (s i * sc) * Real.exp (-(M * sc)) := fun i => by
    rw [← Real.exp_add]; ring_nf
  unfold wt
  simp only [h, ← Finset.sum_mul]
  exact mul_div_mul_right _ _ (Real.exp_ne_zero _)

/-- A power of two, at an exponent scaled by `1 / (log 2 · √128)`, is the exponential of the scaled exponent. -/
theorem two_rpow_scaled (x : ℝ) : (2 : ℝ) ^ (x * ((Real.log 2) * (Real.sqrt 128))⁻¹) = Real.exp (x * sc) := by
  rw [Real.rpow_def_of_pos (by norm_num)]
  congr 1
  have h2 : Real.log 2 ≠ 0 := (Real.log_pos (by norm_num)).ne'
  have h128 : Real.sqrt 128 ≠ 0 := (Real.sqrt_pos.mpr (by norm_num)).ne'
  unfold sc
  field_simp

/-- The exponentials of a nonempty row add up to a positive number. -/
theorem sum_exp_pos (hn : 0 < n) (f : Fin n → ℝ) : 0 < ∑ i, Real.exp (f i) :=
  Finset.sum_pos (fun _ _ => Real.exp_pos _) ⟨⟨0, hn⟩, Finset.mem_univ _⟩

/-- The output row against `g` is the weighted sum of the values' products with `g`: the row sum the gradient subtracts. -/
theorem rowsum (p : Fin n → ℝ) (V : Fin n → Fin d → ℝ) (g : Fin d → ℝ) :
    ∑ x, g x * ∑ j, p j * V j x = ∑ j, p j * ∑ x, g x * V j x := by
  simp only [Finset.mul_sum]
  rw [Finset.sum_comm]
  exact Finset.sum_congr rfl fun j _ => Finset.sum_congr rfl fun x _ => by ring

/-- A finite sum of real numbers is the same sum in the extended reals. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The greatest of finitely many real numbers (at least one) is a real number. -/
theorem fold_max_coe {ι : Type*} (S : Finset ι) (hS : S.Nonempty) (f : ι → ℝ) :
    ∃ M : ℝ, S.fold max (⊥ : EReal) (fun i => (f i : EReal)) = (M : EReal) := by
  classical
  induction hS using Finset.Nonempty.cons_induction with
  | singleton a => exact ⟨f a, by simp⟩
  | cons a S ha hS ih =>
    obtain ⟨M, hM⟩ := ih
    exact ⟨max (f a) M, by rw [Finset.fold_cons, hM]; exact (EReal.coe_strictMono.monotone.map_max).symm⟩

end Cert.Attn

end
-- ==== Proof.Attn.Row.lean ====
/- Arithmetic of one row of attention scores, as the two kernels spell it, over blocks of finite numbers:
   the exponentials are powers of two of scaled differences from the row's greatest score. -/
module

public import proofs.«01_k».proof.Proof.Gen.KernelIdeal.Frame
public import proofs.«01_k».proof.Proof.Attn.Real
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Attn

theorem bot_bits : Ideal.ofBits FTy.f32 4286578688#32 = (⊥ : EReal) := by
  simp [Ideal.ofBits, Ideal.ieee]

/-- The constant the exponents are scaled by is `1 / (log 2 · √128)`. -/
theorem exp2_scale : (Named.named κ "exp2_scale" 1040356334#32 : Ideal .f32) = (((Real.log 2 * Real.sqrt 128)⁻¹ : ℝ) : EReal) :=
  IdealRules.named_const.ideal_named_scalar _ _ _ _ rfl

/-- The constant the gradients of the scores are scaled by is `1 / √128`. -/
theorem scale_eq : (Named.named κ "scale" 0x3DB504F3#32 : Ideal .f32) = ((sc : ℝ) : EReal) :=
  IdealRules.named_const.ideal_named_scalar _ _ _ _ rfl

/-- Row `i` of a block of 2048 rows of 128. -/
def row (M : S2048x128.Idx → ℝ) (i : Fin 2048) : Fin 128 → ℝ := fun a => M (ix2 i a)

/-- The inner products of row `i` with every row of a block. -/
theorem scores_eq {x0 x1 : Vec Ideal S2048x128 .bf16} {Q K : S2048x128.Idx → ℝ}
    (h0 : ∀ i, x0 i = (Q i : EReal)) (h1 : ∀ i, x1 i = (K i : EReal)) (i j : Fin 2048) :
    (∑ a : Fin 128, (x0 (ix2 i a) : EReal) * (x1 (ix2 j a) : EReal)) = ((score (row Q i) (row K) j : ℝ) : EReal) := by
  simp only [h0, h1, score, row, ← EReal.coe_mul, ← coe_sum]

/-- The powers of two the kernels take of a row of finite scores are the exponentials of the scaled scores, all shifted by one number. -/
theorem exp2_row (s : Fin 2048 → ℝ) : ∃ M : ℝ, ∀ j,
    (FloatOps.exp2 ((((s j : ℝ) : EReal) - Finset.fold max (Ideal.ofBits FTy.f32 4286578688#32) (fun j => ((s j : ℝ) : EReal)) Finset.univ)
      * (Named.named κ "exp2_scale" 1040356334#32 : Ideal .f32) : Ideal .f32) : Ideal .f32) = ((Real.exp ((s j - M) * sc) : ℝ) : EReal) := by
  obtain ⟨M, hM⟩ := fold_max_coe Finset.univ ⟨0, Finset.mem_univ _⟩ s
  refine ⟨M, fun j => ?_⟩
  rw [bot_bits, hM, exp2_scale]
  rw [← two_rpow_scaled]
  show Ideal.exp2 _ = _
  rw [← EReal.coe_sub, ← EReal.coe_mul, Ideal.exp2_coe]; rfl

/-- A function of a row and a column takes one value at indices that are the same numbers. -/
theorem at_congr {n m : ℕ} {α : Type} (f : Fin n → Fin m → α) {i i' : Fin n} {d d' : Fin m} (hi : i.val = i'.val) (hd : d.val = d'.val) : f i d = f i' d' := by
  rw [Fin.ext hi, Fin.ext hd]

/-- A quotient of real numbers by a nonzero one. -/
theorem div_real (a : ℝ) {b : ℝ} (h : b ≠ 0) : Ideal.div (a : EReal) (b : EReal) = ((a / b : ℝ) : EReal) := by
  rw [Ideal.div_coe h, ← EReal.coe_mul, mul_one_div]

/-- A row of the forward kernel: the values weighted by the exponentials, over the exponentials' sum, is the values weighted by the softmax. -/
theorem row_out {x0 x1 x2 : Vec Ideal S2048x128 .bf16} {Q K V : S2048x128.Idx → ℝ}
    (h0 : ∀ i, x0 i = (Q i : EReal)) (h1 : ∀ i, x1 i = (K i : EReal)) (h2 : ∀ i, x2 i = (V i : EReal)) (i : Fin 2048) (d : Fin 128) :
    (Ideal.div
      (∑ j : Fin 2048, (FloatOps.exp2 (F := Ideal) (φ := .f32) (((∑ a : Fin 128, (x0 (ix2 i a) : EReal) * (x1 (ix2 j a) : EReal))
          - Finset.fold max (Ideal.ofBits FTy.f32 4286578688#32) (fun j : Fin 2048 => ∑ a : Fin 128, (x0 (ix2 i a) : EReal) * (x1 (ix2 j a) : EReal)) Finset.univ)
          * (Named.named κ "exp2_scale" 1040356334#32 : Ideal .f32)) : EReal) * (x2 (ix2 j d) : EReal))
      (∑ j : Fin 2048, (FloatOps.exp2 (F := Ideal) (φ := .f32) (((∑ a : Fin 128, (x0 (ix2 i a) : EReal) * (x1 (ix2 j a) : EReal))
          - Finset.fold max (Ideal.ofBits FTy.f32 4286578688#32) (fun j : Fin 2048 => ∑ a : Fin 128, (x0 (ix2 i a) : EReal) * (x1 (ix2 j a) : EReal)) Finset.univ)
          * (Named.named κ "exp2_scale" 1040356334#32 : Ideal .f32)) : EReal)))
      = ((∑ j, wt (score (row Q i) (row K)) j * row V j d : ℝ) : EReal) := by
  obtain ⟨M, hM⟩ := exp2_row (score (row Q i) (row K))
  simp only [scores_eq h0 h1, hM, h2, ← EReal.coe_mul, ← coe_sum]
  rw [div_real _ (sum_exp_pos (by norm_num) _).ne', Finset.sum_div]
  congr 1
  refine Finset.sum_congr rfl fun j _ => ?_
  rw [← wt_shift _ M, row]; ring

/-- A row of weights of the backward kernel: each exponential times the inverse of their sum is the softmax. -/
theorem row_wt {x0 x1 : Vec Ideal S2048x128 .bf16} {Q K : S2048x128.Idx → ℝ}
    (h0 : ∀ i, x0 i = (Q i : EReal)) (h1 : ∀ i, x1 i = (K i : EReal)) (i : Fin 2048) (j : Fin 2048) :
    ((FloatOps.exp2 (F := Ideal) (φ := .f32) (((∑ a : Fin 128, (x0 (ix2 i a) : EReal) * (x1 (ix2 j a) : EReal))
          - Finset.fold max (Ideal.ofBits FTy.f32 4286578688#32) (fun j : Fin 2048 => ∑ a : Fin 128, (x0 (ix2 i a) : EReal) * (x1 (ix2 j a) : EReal)) Finset.univ)
          * (Named.named κ "exp2_scale" 1040356334#32 : Ideal .f32)) : EReal)
      * Ideal.div 1 (∑ j : Fin 2048, (FloatOps.exp2 (F := Ideal) (φ := .f32) (((∑ a : Fin 128, (x0 (ix2 i a) : EReal) * (x1 (ix2 j a) : EReal))
          - Finset.fold max (Ideal.ofBits FTy.f32 4286578688#32) (fun j : Fin 2048 => ∑ a : Fin 128, (x0 (ix2 i a) : EReal) * (x1 (ix2 j a) : EReal)) Finset.univ)
          * (Named.named κ "exp2_scale" 1040356334#32 : Ideal .f32)) : EReal)))
      = ((wt (score (row Q i) (row K)) j : ℝ) : EReal) := by
  obtain ⟨M, hM⟩ := exp2_row (score (row Q i) (row K))
  simp only [scores_eq h0 h1, hM, ← EReal.coe_mul, ← coe_sum]
  rw [← EReal.coe_one, div_real _ (sum_exp_pos (by norm_num) _).ne', ← EReal.coe_mul, ← wt_shift _ M, mul_one_div]

/-- A weight times the difference of two row products, over finite blocks. -/
theorem row_ds {x2 x3 x4 : Vec Ideal S2048x128 .bf16} {V D O : S2048x128.Idx → ℝ}
    (h2 : ∀ i, x2 i = (V i : EReal)) (h3 : ∀ i, x3 i = (D i : EReal)) (h4 : ∀ i, x4 i = (O i : EReal))
    {a : EReal} {w : ℝ} (hw : a = (w : EReal)) (i j : Fin 2048) :
    a * ((∑ a : Fin 128, (x3 (ix2 i a) : EReal) * (x2 (ix2 j a) : EReal)) - ∑ a : Fin 128, (x3 (ix2 i a) : EReal) * (x4 (ix2 i a) : EReal))
      = ((w * ((∑ a, row D i a * row V j a) - ∑ a, row D i a * row O i a) : ℝ) : EReal) := by
  simp only [hw, h2, h3, h4, row, ← EReal.coe_mul, ← coe_sum, ← EReal.coe_sub]

end Cert.KernelIdeal.Value

end
-- ==== Proof.Attn.Fwd.lean ====
/- What one grid point of the forward kernel leaves in its block of the output, of finite blocks. -/
module

public import proofs.«01_k».proof.Proof.Attn.Row
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Attn

/-- The eight row tiles the point stores are together the attention of the block's rows: row `i` is the values weighted by the softmax of the row's scores. -/
theorem out_block {x0 x1 x2 : Vec Ideal S2048x128 .bf16} {Q K V : S2048x128.Idx → ℝ}
    (h0 : ∀ i, x0 i = (Q i : EReal)) (h1 : ∀ i, x1 i = (K i : EReal)) (h2 : ∀ i, x2 i = (V i : EReal)) (i : Fin 2048) (d : Fin 128) :
    out0_3 (F := Ideal) x0 x1 x2 (ix2 i d) = ((∑ j, wt (score (row Q i) (row K)) j * row V j d : ℝ) : EReal) := by
  generalize hy : (ix2 i d : S2048x128.Idx) = y
  obtain rfl : i = y 0 := by rw [← hy]; rfl
  obtain rfl : d = y 1 := by rw [← hy]; rfl
  unfold out0_3
  canon_tiles x e
  all_goals
    open_payloads
    pointwise
    exact (row_out h0 h1 h2 _ _).trans (at_congr (fun i d => ((∑ j, wt (score (row Q i) (row K)) j * row V j d : ℝ) : EReal)) e0.symm e1.symm)

end Cert.KernelIdeal.Value

end
-- ==== Proof.Attn.Bwd.lean ====
/- What one grid point of the backward kernel keeps in its two scratch arrays, of finite blocks:
   the softmax weights of its 2048 query rows, and the gradients of their scores. -/
module

public import proofs.«01_k».proof.Proof.Attn.Row
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Attn

/-- Reading the whole of a stored array back is the array its stores leave. -/
theorem readCov_whole (b : View sig .tc .vmem S2048x2048 .bf16) (L : List (View.Piece (Elt Ideal) S2048x2048 .bf16)) :
    b.readCov L (Rect.unit ![0, 0] ![2048, 2048] inb_S2048x2048_S2048x2048_0_0).toLoadRect = (View.canon L : Vec Ideal S2048x2048 .bf16) := by
  rw [View.readCov_eq_canon']
  exact View.ld_unit_lit' inb_S2048x2048_S2048x2048_0_0 (View.canon L) (by decide)

/-- The gradients of the scores as the point reads them back from the scratch array: eight stored row tiles. -/
def dsOf (x0 x1 x2 x3 x4 : Vec Ideal S2048x128 .bf16) : Vec Ideal S2048x2048 .bf16 :=
  View.canon
    [⟨Rect.unit ![1792, 0] ![256, 2048] inb_S2048x2048_S256x2048_1792_0,
        k1_pay34 (View.ld x3 (Rect.unit ![1792, 0] ![256, 128] inb_S2048x128_S256x128_1792_0))
          (k1_pay32 (View.ld x0 (Rect.unit ![1792, 0] ![256, 128] inb_S2048x128_S256x128_1792_0)) x1)
          (k1_pay33 (View.ld x3 (Rect.unit ![1792, 0] ![256, 128] inb_S2048x128_S256x128_1792_0))
            (View.ld x4 (Rect.unit ![1792, 0] ![256, 128] inb_S2048x128_S256x128_1792_0)))
          x2 (constant S256x2048 FTy.f32 0#32)⟩,
      ⟨Rect.unit ![1536, 0] ![256, 2048] inb_S2048x2048_S256x2048_1536_0,
        k1_pay30 (View.ld x3 (Rect.unit ![1536, 0] ![256, 128] inb_S2048x128_S256x128_1536_0))
          (k1_pay28 (View.ld x0 (Rect.unit ![1536, 0] ![256, 128] inb_S2048x128_S256x128_1536_0)) x1)
          (k1_pay29 (View.ld x3 (Rect.unit ![1536, 0] ![256, 128] inb_S2048x128_S256x128_1536_0))
            (View.ld x4 (Rect.unit ![1536, 0] ![256, 128] inb_S2048x128_S256x128_1536_0)))
          x2 (constant S256x2048 FTy.f32 0#32)⟩,
      ⟨Rect.unit ![1280, 0] ![256, 2048] inb_S2048x2048_S256x2048_1280_0,
        k1_pay26 (View.ld x3 (Rect.unit ![1280, 0] ![256, 128] inb_S2048x128_S256x128_1280_0))
          (k1_pay24 (View.ld x0 (Rect.unit ![1280, 0] ![256, 128] inb_S2048x128_S256x128_1280_0)) x1)
          (k1_pay25 (View.ld x3 (Rect.unit ![1280, 0] ![256, 128] inb_S2048x128_S256x128_1280_0))
            (View.ld x4 (Rect.unit ![1280, 0] ![256, 128] inb_S2048x128_S256x128_1280_0)))
          x2 (constant S256x2048 FTy.f32 0#32)⟩,
      ⟨Rect.unit ![1024, 0] ![256, 2048] inb_S2048x2048_S256x2048_1024_0,
        k1_pay22 (View.ld x3 (Rect.unit ![1024, 0] ![256, 128] inb_S2048x128_S256x128_1024_0))
          (k1_pay20 (View.ld x0 (Rect.unit ![1024, 0] ![256, 128] inb_S2048x128_S256x128_1024_0)) x1)
          (k1_pay21 (View.ld x3 (Rect.unit ![1024, 0] ![256, 128] inb_S2048x128_S256x128_1024_0))
            (View.ld x4 (Rect.unit ![1024, 0] ![256, 128] inb_S2048x128_S256x128_1024_0)))
          x2 (constant S256x2048 FTy.f32 0#32)⟩,
      ⟨Rect.unit ![768, 0] ![256, 2048] inb_S2048x2048_S256x2048_768_0,
        k1_pay18 (View.ld x3 (Rect.unit ![768, 0] ![256, 128] inb_S2048x128_S256x128_768_0))
          (k1_pay16 (View.ld x0 (Rect.unit ![768, 0] ![256, 128] inb_S2048x128_S256x128_768_0)) x1)
          (k1_pay17 (View.ld x3 (Rect.unit ![768, 0] ![256, 128] inb_S2048x128_S256x128_768_0))
            (View.ld x4 (Rect.unit ![768, 0] ![256, 128] inb_S2048x128_S256x128_768_0)))
          x2 (constant S256x2048 FTy.f32 0#32)⟩,
      ⟨Rect.unit ![512, 0] ![256, 2048] inb_S2048x2048_S256x2048_512_0,
        k1_pay14 (View.ld x3 (Rect.unit ![512, 0] ![256, 128] inb_S2048x128_S256x128_512_0))
          (k1_pay12 (View.ld x0 (Rect.unit ![512, 0] ![256, 128] inb_S2048x128_S256x128_512_0)) x1)
          (k1_pay13 (View.ld x3 (Rect.unit ![512, 0] ![256, 128] inb_S2048x128_S256x128_512_0))
            (View.ld x4 (Rect.unit ![512, 0] ![256, 128] inb_S2048x128_S256x128_512_0)))
          x2 (constant S256x2048 FTy.f32 0#32)⟩,
      ⟨Rect.unit ![256, 0] ![256, 2048] inb_S2048x2048_S256x2048_256_0,
        k1_pay10 (View.ld x3 (Rect.unit ![256, 0] ![256, 128] inb_S2048x128_S256x128_256_0))
          (k1_pay8 (View.ld x0 (Rect.unit ![256, 0] ![256, 128] inb_S2048x128_S256x128_256_0)) x1)
          (k1_pay9 (View.ld x3 (Rect.unit ![256, 0] ![256, 128] inb_S2048x128_S256x128_256_0))
            (View.ld x4 (Rect.unit ![256, 0] ![256, 128] inb_S2048x128_S256x128_256_0)))
          x2 (constant S256x2048 FTy.f32 0#32)⟩,
      ⟨Rect.unit ![0, 0] ![256, 2048] inb_S2048x2048_S256x2048_0_0,
        k1_pay6 (View.ld x3 (Rect.unit ![0, 0] ![256, 128] inb_S2048x128_S256x128_0_0))
          (k1_pay4 (View.ld x0 (Rect.unit ![0, 0] ![256, 128] inb_S2048x128_S256x128_0_0)) x1)
          (k1_pay5 (View.ld x3 (Rect.unit ![0, 0] ![256, 128] inb_S2048x128_S256x128_0_0))
            (View.ld x4 (Rect.unit ![0, 0] ![256, 128] inb_S2048x128_S256x128_0_0)))
          x2 (constant S256x2048 FTy.f32 0#32)⟩]

/-- The softmax weights as the point reads them back from the scratch array: eight stored row tiles. -/
def pOf (x0 x1 : Vec Ideal S2048x128 .bf16) : Vec Ideal S2048x2048 .bf16 :=
  View.canon
    [⟨Rect.unit ![1792, 0] ![256, 2048] inb_S2048x2048_S256x2048_1792_0,
        k1_pay35 (k1_pay32 (View.ld x0 (Rect.unit ![1792, 0] ![256, 128] inb_S2048x128_S256x128_1792_0)) x1)⟩,
      ⟨Rect.unit ![1536, 0] ![256, 2048] inb_S2048x2048_S256x2048_1536_0,
        k1_pay31 (k1_pay28 (View.ld x0 (Rect.unit ![1536, 0] ![256, 128] inb_S2048x128_S256x128_1536_0)) x1)⟩,
      ⟨Rect.unit ![1280, 0] ![256, 2048] inb_S2048x2048_S256x2048_1280_0,
        k1_pay27 (k1_pay24 (View.ld x0 (Rect.unit ![1280, 0] ![256, 128] inb_S2048x128_S256x128_1280_0)) x1)⟩,
      ⟨Rect.unit ![1024, 0] ![256, 2048] inb_S2048x2048_S256x2048_1024_0,
        k1_pay23 (k1_pay20 (View.ld x0 (Rect.unit ![1024, 0] ![256, 128] inb_S2048x128_S256x128_1024_0)) x1)⟩,
      ⟨Rect.unit ![768, 0] ![256, 2048] inb_S2048x2048_S256x2048_768_0,
        k1_pay19 (k1_pay16 (View.ld x0 (Rect.unit ![768, 0] ![256, 128] inb_S2048x128_S256x128_768_0)) x1)⟩,
      ⟨Rect.unit ![512, 0] ![256, 2048] inb_S2048x2048_S256x2048_512_0,
        k1_pay15 (k1_pay12 (View.ld x0 (Rect.unit ![512, 0] ![256, 128] inb_S2048x128_S256x128_512_0)) x1)⟩,
      ⟨Rect.unit ![256, 0] ![256, 2048] inb_S2048x2048_S256x2048_256_0,
        k1_pay11 (k1_pay8 (View.ld x0 (Rect.unit ![256, 0] ![256, 128] inb_S2048x128_S256x128_256_0)) x1)⟩,
      ⟨Rect.unit ![0, 0] ![256, 2048] inb_S2048x2048_S256x2048_0_0,
        k1_pay7 (k1_pay4 (View.ld x0 (Rect.unit ![0, 0] ![256, 128] inb_S2048x128_S256x128_0_0)) x1)⟩]

/-- The weight of key `j` for query row `i`. -/
def wtAt (Q K : S2048x128.Idx → ℝ) (i j : Fin 2048) : ℝ := wt (score (row Q i) (row K)) j

/-- The gradient of the score of key `j` for query row `i`, by an output gradient `D` and an output `O`. -/
def dsAt (Q K V D O : S2048x128.Idx → ℝ) (i j : Fin 2048) : ℝ :=
  wtAt Q K i j * ((∑ a, row D i a * row V j a) - ∑ a, row D i a * row O i a)

/-- The scratch array of the weights holds the softmax of each row. -/
theorem pOf_at {x0 x1 : Vec Ideal S2048x128 .bf16} {Q K : S2048x128.Idx → ℝ}
    (h0 : ∀ i, x0 i = (Q i : EReal)) (h1 : ∀ i, x1 i = (K i : EReal)) (i j : Fin 2048) :
    pOf x0 x1 (ix2 i j) = ((wtAt Q K i j : ℝ) : EReal) := by
  generalize hy : (ix2 i j : S2048x2048.Idx) = y
  obtain rfl : i = y 0 := by rw [← hy]; rfl
  obtain rfl : j = y 1 := by rw [← hy]; rfl
  unfold pOf
  canon_tiles x e
  all_goals
    open_payloads

    pointwise
    exact (row_wt h0 h1 _ _).trans (at_congr (fun i j => ((wtAt Q K i j : ℝ) : EReal)) e0.symm e1.symm)

/-- The scratch array of the scores' gradients holds, for each row, the weight times the difference of the weight's gradient and the row's sum. -/
theorem dsOf_at {x0 x1 x2 x3 x4 : Vec Ideal S2048x128 .bf16} {Q K V D O : S2048x128.Idx → ℝ}
    (h0 : ∀ i, x0 i = (Q i : EReal)) (h1 : ∀ i, x1 i = (K i : EReal)) (h2 : ∀ i, x2 i = (V i : EReal))
    (h3 : ∀ i, x3 i = (D i : EReal)) (h4 : ∀ i, x4 i = (O i : EReal)) (i j : Fin 2048) :
    dsOf x0 x1 x2 x3 x4 (ix2 i j) = ((dsAt Q K V D O i j : ℝ) : EReal) := by
  generalize hy : (ix2 i j : S2048x2048.Idx) = y
  obtain rfl : i = y 0 := by rw [← hy]; rfl
  obtain rfl : j = y 1 := by rw [← hy]; rfl
  unfold dsOf
  canon_tiles x e
  all_goals
    open_payloads
    pointwise
    exact (row_ds h2 h3 h4 (row_wt h0 h1 _ _) _ _).trans (at_congr (fun i j => ((dsAt Q K V D O i j : ℝ) : EReal)) e0.symm e1.symm)

/-- The gradient of the queries: the scores' gradients against the keys, scaled. -/
theorem dq_pay {ds : Vec Ideal S2048x2048 .bf16} {k : Vec Ideal S2048x128 .bf16} {s : Fin 2048 → Fin 2048 → ℝ} {K : S2048x128.Idx → ℝ}
    (hs : ∀ i j, ds (ix2 i j) = (s i j : EReal)) (hk : ∀ i, k i = (K i : EReal)) (i : Fin 2048) (d : Fin 128) :
    k1_pay36 ds k (ix2 i d) = (((∑ j, s i j * row K j d) * sc : ℝ) : EReal) := by
  pointwise [k1_pay36]
  rw [scale_eq]
  simp only [hs, hk, row, ← EReal.coe_mul, ← coe_sum]

/-- What the point adds to the gradient of the keys: the scores' gradients, transposed, against the queries. -/
theorem dk_pay {ds : Vec Ideal S2048x2048 .bf16} {q : Vec Ideal S2048x128 .bf16} {acc : Vec Ideal S2048x128 .f32} {s : Fin 2048 → Fin 2048 → ℝ} {Q : S2048x128.Idx → ℝ}
    (hs : ∀ i j, ds (ix2 i j) = (s i j : EReal)) (hq : ∀ i, q i = (Q i : EReal)) (j : Fin 2048) (d : Fin 128) {r : ℝ} (ha : acc (ix2 j d) = (r : EReal)) :
    k1_pay37 ds acc q (ix2 j d) = ((r + ∑ i, s i j * row Q i d : ℝ) : EReal) := by
  pointwise [k1_pay37]
  simp only [hs, hq, ha, row, ← EReal.coe_mul, ← coe_sum, ← EReal.coe_add]

/-- What the point adds to the gradient of the values: the weights, transposed, against the output's gradients. -/
theorem dv_pay {p : Vec Ideal S2048x2048 .bf16} {g : Vec Ideal S2048x128 .bf16} {acc : Vec Ideal S2048x128 .f32} {s : Fin 2048 → Fin 2048 → ℝ} {D : S2048x128.Idx → ℝ}
    (hs : ∀ i j, p (ix2 i j) = (s i j : EReal)) (hq : ∀ i, g i = (D i : EReal)) (j : Fin 2048) (d : Fin 128) {r : ℝ} (ha : acc (ix2 j d) = (r : EReal)) :
    k1_pay38 acc p g (ix2 j d) = ((r + ∑ i, s i j * row D i d : ℝ) : EReal) := by
  pointwise [k1_pay38]
  simp only [hs, hq, ha, row, ← EReal.coe_mul, ← coe_sum, ← EReal.coe_add]

/-- The last point of a group scales the gradient of the keys. -/
theorem dk_last {acc : Vec Ideal S2048x128 .f32} (j : Fin 2048) (d : Fin 128) {r : ℝ} (ha : acc (ix2 j d) = (r : EReal)) :
    k1_pay1 acc (ix2 j d) = ((r * sc : ℝ) : EReal) := by
  pointwise [k1_pay1]
  rw [scale_eq, ha, ← EReal.coe_mul]

/-- The first point of a group starts from zero. -/
theorem zero_dk (j : Fin 2048) (d : Fin 128) : k1_pay2 (F := Ideal) (ix2 j d) = ((0 : ℝ) : EReal) := by
  pointwise [k1_pay2]
  exact EReal.coe_zero.symm
theorem zero_dv (j : Fin 2048) (d : Fin 128) : k1_pay3 (F := Ideal) (ix2 j d) = ((0 : ℝ) : EReal) := by
  pointwise [k1_pay3]
  exact EReal.coe_zero.symm

end Cert.KernelIdeal.Value

end
-- ==== Proof.Attn.Grad.lean ====
/- Grouped-query attention of one device's rows over the real numbers, and its gradients: what both programs compute.
   An array is a function of a row and a column number; batch element `b` is rows `b * 2048 …`, head `h` is columns `h * 128 …`,
   and query head `h` reads key head `h / 4`. Nothing here mentions a program. -/
module

public import proofs.«01_k».proof.Proof.Attn.Real

@[expose] public section

noncomputable section

namespace Cert.Attn

/-- Rows of batch element `b`, columns of head `h`. -/
def blk (M : ℕ → ℕ → ℝ) (b h : ℕ) (i : Fin 2048) (a : Fin 128) : ℝ := M (b * 2048 + i.val) (h * 128 + a.val)

/-- An array given by its value at each batch element, head, row and column of the head. -/
def unblk (f : ℕ → ℕ → Fin 2048 → Fin 128 → ℝ) (r c : ℕ) : ℝ :=
  f (r / 2048) (c / 128) ⟨r % 2048, Nat.mod_lt _ (by norm_num)⟩ ⟨c % 128, Nat.mod_lt _ (by norm_num)⟩

theorem unblk_at (f : ℕ → ℕ → Fin 2048 → Fin 128 → ℝ) (b h : ℕ) (i : Fin 2048) (a : Fin 128) {r c : ℕ}
    (hr : r = b * 2048 + i.val) (hc : c = h * 128 + a.val) : unblk f r c = f b h i a := by
  subst hr hc
  have hi := i.isLt
  have ha := a.isLt
  have e1 : (b * 2048 + i.val) / 2048 = b := by omega
  have e2 : (h * 128 + a.val) / 128 = h := by omega
  have e3 : (⟨(b * 2048 + i.val) % 2048, Nat.mod_lt _ (by norm_num)⟩ : Fin 2048) = i := Fin.ext (by simp only; omega)
  have e4 : (⟨(h * 128 + a.val) % 128, Nat.mod_lt _ (by norm_num)⟩ : Fin 128) = a := Fin.ext (by simp only; omega)
  unfold unblk
  rw [e1, e2, e3, e4]

theorem blk_unblk (f : ℕ → ℕ → Fin 2048 → Fin 128 → ℝ) (b h : ℕ) : blk (unblk f) b h = f b h := by
  funext i a
  exact unblk_at f b h i a rfl rfl

variable (Q K V D : ℕ → ℕ → ℝ)

/-- The softmax weight of key `j` for query `i` of head `h`. -/
def weight (b h : ℕ) (i j : Fin 2048) : ℝ := wt (score (blk Q b h i) (blk K b (h / 4))) j

/-- The attention's output. -/
def out (b h : ℕ) (i : Fin 2048) (d : Fin 128) : ℝ := ∑ j, weight Q K b h i j * blk V b (h / 4) j d

/-- The gradient of the weights, by the output's gradient `D`. -/
def dweight (b h : ℕ) (i j : Fin 2048) : ℝ := ∑ a, blk D b h i a * blk V b (h / 4) j a

/-- The gradient of the scaled scores. -/
def dscore (b h : ℕ) (i j : Fin 2048) : ℝ := weight Q K b h i j * (dweight V D b h i j - ∑ k, weight Q K b h i k * dweight V D b h i k)

/-- The gradient of the queries. -/
def dq (b h : ℕ) (i : Fin 2048) (d : Fin 128) : ℝ := (∑ j, dscore Q K V D b h i j * blk K b (h / 4) j d) * sc

/-- The gradient of the keys: the four query heads that read key head `g`, every query of each. -/
def dk (b g : ℕ) (j : Fin 2048) (d : Fin 128) : ℝ :=
  (∑ u : Fin 4, ∑ i, dscore Q K V D b (g * 4 + u.val) i j * blk Q b (g * 4 + u.val) i d) * sc

/-- The gradient of the values. -/
def dv (b g : ℕ) (j : Fin 2048) (d : Fin 128) : ℝ :=
  ∑ u : Fin 4, ∑ i, weight Q K b (g * 4 + u.val) i j * blk D b (g * 4 + u.val) i d

/-- The row sum the gradient of the scores subtracts may be taken from the output and its gradient. -/
theorem dscore_eq (b h : ℕ) (i j : Fin 2048) :
    weight Q K b h i j * (dweight V D b h i j - ∑ a, blk D b h i a * out Q K V b h i a) = dscore Q K V D b h i j := by
  unfold dscore out
  rw [rowsum]
  rfl

end Cert.Attn

end
-- ==== Proof.Attn.Array.lean ====
/- What the two kernels leave in their output arrays, of finite arrays: the attention's output, and the gradients of
   its queries, keys and values. The point `t` of either grid takes batch element `t / 8` and query head `t % 8`. -/
module

public import proofs.«01_k».proof.Proof.Attn.Fwd
public import proofs.«01_k».proof.Proof.Attn.Bwd
public import proofs.«01_k».proof.Proof.Attn.Grad
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Attn

/-- The block of rows and columns each window of the forward kernel is at. -/
theorem idx0 : ∀ t : Fin cfg0.N, win0_0.index t = ![t.val / 8, t.val % 8] ∧ win0_1.index t = ![t.val / 8, t.val % 8 / 4]
    ∧ win0_2.index t = ![t.val / 8, t.val % 8 / 4] ∧ win0_3.index t = ![t.val / 8, t.val % 8] :=
  (by decide +kernel : ∀ t : Fin grid0.N, _)

/-- The block of rows and columns each window of the backward kernel is at. -/
theorem idx1 : ∀ t : Fin cfg1.N, win1_0.index t = ![t.val / 8, t.val % 8] ∧ win1_1.index t = ![t.val / 8, t.val % 8 / 4]
    ∧ win1_2.index t = ![t.val / 8, t.val % 8 / 4] ∧ win1_3.index t = ![t.val / 8, t.val % 8]
    ∧ win1_4.index t = ![t.val / 8, t.val % 8] ∧ win1_5.index t = ![t.val / 8, t.val % 8]
    ∧ win1_6.index t = ![t.val / 8, t.val % 8 / 4] ∧ win1_7.index t = ![t.val / 8, t.val % 8 / 4] :=
  (by decide +kernel : ∀ t : Fin grid1.N, _)

/-- Batch element `b` and head `h` of an array, as a block. -/
def bk (M : ℕ → ℕ → ℝ) (b h : ℕ) : S2048x128.Idx → ℝ := fun y => M (b * 2048 + (y 0).val) (h * 128 + (y 1).val)

theorem row_bk (M : ℕ → ℕ → ℝ) (b h : ℕ) : row (bk M b h) = blk M b h := rfl

section blocks

variable (W : (c : Dev nD) → (b : Ref sig .tc) → Buf (Elt Ideal) ((c : Thread nD τ).loc b)) (c : Dev nD)
variable {Q K V D O : ℕ → ℕ → ℝ}

/-- The arrays at the launch hold finite numbers. -/
structure Holds (Q K V D : ℕ → ℕ → ℝ) : Prop where
  q : ∀ i, (W c main_arg0 : Vec Ideal S4096x1024 .bf16) i = ((Q (i 0).val (i 1).val : ℝ) : EReal)
  k : ∀ i, (W c main_arg1 : Vec Ideal S4096x256 .bf16) i = ((K (i 0).val (i 1).val : ℝ) : EReal)
  v : ∀ i, (W c main_arg2 : Vec Ideal S4096x256 .bf16) i = ((V (i 0).val (i 1).val : ℝ) : EReal)
  d : ∀ i, (W c main_arg3 : Vec Ideal S4096x1024 .bf16) i = ((D (i 0).val (i 1).val : ℝ) : EReal)

variable {W c}

/-! The input blocks of each grid point, by number. -/

theorem blk0_q (H : Holds W c Q K V D) (t : Fin cfg0.N) (y : S2048x128.Idx) :
    (iblk0 W c 0 t : Vec Ideal S2048x128 .bf16) y = ((bk Q (t.val / 8) (t.val % 8) y : ℝ) : EReal) := by
  refine (H.q _).trans (congrArg (fun x : ℝ => (x : EReal)) ?_)
  refine congrArg₂ Q ?_ ?_ <;> blk_simp [idx0 t]
theorem blk0_k (H : Holds W c Q K V D) (t : Fin cfg0.N) (y : S2048x128.Idx) :
    (iblk0 W c 1 t : Vec Ideal S2048x128 .bf16) y = ((bk K (t.val / 8) (t.val % 8 / 4) y : ℝ) : EReal) := by
  refine (H.k _).trans (congrArg (fun x : ℝ => (x : EReal)) ?_)
  refine congrArg₂ K ?_ ?_ <;> blk_simp [idx0 t]
theorem blk0_v (H : Holds W c Q K V D) (t : Fin cfg0.N) (y : S2048x128.Idx) :
    (iblk0 W c 2 t : Vec Ideal S2048x128 .bf16) y = ((bk V (t.val / 8) (t.val % 8 / 4) y : ℝ) : EReal) := by
  refine (H.v _).trans (congrArg (fun x : ℝ => (x : EReal)) ?_)
  refine congrArg₂ V ?_ ?_ <;> blk_simp [idx0 t]
theorem blk1_q (H : Holds W c Q K V D) (t : Fin cfg1.N) (y : S2048x128.Idx) :
    (iblk1 W c 0 t : Vec Ideal S2048x128 .bf16) y = ((bk Q (t.val / 8) (t.val % 8) y : ℝ) : EReal) := by
  refine (H.q _).trans (congrArg (fun x : ℝ => (x : EReal)) ?_)
  refine congrArg₂ Q ?_ ?_ <;> blk_simp [idx1 t]
theorem blk1_k (H : Holds W c Q K V D) (t : Fin cfg1.N) (y : S2048x128.Idx) :
    (iblk1 W c 1 t : Vec Ideal S2048x128 .bf16) y = ((bk K (t.val / 8) (t.val % 8 / 4) y : ℝ) : EReal) := by
  refine (H.k _).trans (congrArg (fun x : ℝ => (x : EReal)) ?_)
  refine congrArg₂ K ?_ ?_ <;> blk_simp [idx1 t]
theorem blk1_v (H : Holds W c Q K V D) (t : Fin cfg1.N) (y : S2048x128.Idx) :
    (iblk1 W c 2 t : Vec Ideal S2048x128 .bf16) y = ((bk V (t.val / 8) (t.val % 8 / 4) y : ℝ) : EReal) := by
  refine (H.v _).trans (congrArg (fun x : ℝ => (x : EReal)) ?_)
  refine congrArg₂ V ?_ ?_ <;> blk_simp [idx1 t]
theorem blk1_d (H : Holds W c Q K V D) (t : Fin cfg1.N) (y : S2048x128.Idx) :
    (iblk1 W c 3 t : Vec Ideal S2048x128 .bf16) y = ((bk D (t.val / 8) (t.val % 8) y : ℝ) : EReal) := by
  refine (H.d _).trans (congrArg (fun x : ℝ => (x : EReal)) ?_)
  refine congrArg₂ D ?_ ?_ <;> blk_simp [idx1 t]
theorem blk1_o (hO : ∀ i, (W c main_v0 : Vec Ideal S4096x1024 .bf16) i = ((O (i 0).val (i 1).val : ℝ) : EReal)) (t : Fin cfg1.N) (y : S2048x128.Idx) :
    (iblk1 W c 4 t : Vec Ideal S2048x128 .bf16) y = ((bk O (t.val / 8) (t.val % 8) y : ℝ) : EReal) := by
  refine (hO _).trans (congrArg (fun x : ℝ => (x : EReal)) ?_)
  refine congrArg₂ O ?_ ?_ <;> blk_simp [idx1 t]

/-- The forward kernel leaves the attention's output. -/
theorem out_final (H : Holds W c Q K V D) :
    (dat0 (F := Ideal) W c).arrAt 3 cfg0.N
      = (fun i => ((unblk (out Q K V) (i 0).val (i 1).val : ℝ) : EReal) : Vec Ideal S4096x1024 .bf16) := by
  refine (dat0 W c).arrAt_eq_of_covers 3 _ (by decide +kernel) fun t hf y => ?_
  blk_simp
  rw [after0_3]
  obtain ⟨i, d, rfl⟩ : ∃ (i : Fin 2048) (d : Fin 128), y = (ix2 i d : S2048x128.Idx) := ⟨y 0, y 1, (eq_ix2 y)⟩
  refine (out_block (blk0_q H t) (blk0_k H t) (blk0_v H t) i d).trans (congrArg (fun x : ℝ => (x : EReal)) ?_)
  refine (unblk_at (out Q K V) (t.val / 8) (t.val % 8) i d ?_ ?_).symm
  all_goals blk_simp [idx0 t]

/-! One point of the backward kernel: what it leaves in each output block, by the scratch arrays and what the point before left. -/

theorem dq_outs (t : Fin cfg1.N) : (outsAt1 (F := Ideal) W c t.val t.isLt).1 = k1_pay36 (dsOf (iblk1 W c 0 t) (iblk1 W c 1 t) (iblk1 W c 2 t) (iblk1 W c 3 t) (iblk1 W c 4 t)) (iblk1 W c 1 t) := by
  by_cases h0 : t.val % 4 = 0
  · rw [outsAt1_A W c t h0 (by omega)]
    frame_out
    rw [readCov_whole]
  · by_cases h1 : t.val % 4 = 3
    · rw [outsAt1_C W c t h0 h1]
      frame_out
      rw [readCov_whole]
    · rw [outsAt1_B W c t h0 h1]
      frame_out
      rw [readCov_whole]

theorem dk_outs_A (t : Fin cfg1.N) (h0 : t.val % 4 = 0) :
    (outsAt1 (F := Ideal) W c t.val t.isLt).2.1 = k1_pay37 (dsOf (iblk1 W c 0 t) (iblk1 W c 1 t) (iblk1 W c 2 t) (iblk1 W c 3 t) (iblk1 W c 4 t)) (k1_pay2 (F := Ideal)) (iblk1 W c 0 t) := by
  rw [outsAt1_A W c t h0 (by omega)]
  frame_out
  rw [readCov_whole]

theorem dk_outs_B (t : Fin cfg1.N) (h0 : ¬t.val % 4 = 0) (h1 : ¬t.val % 4 = 3) :
    (outsAt1 (F := Ideal) W c t.val t.isLt).2.1 = k1_pay37 (dsOf (iblk1 W c 0 t) (iblk1 W c 1 t) (iblk1 W c 2 t) (iblk1 W c 3 t) (iblk1 W c 4 t)) (outsAt1 (F := Ideal) W c (t.val - 1) (Nat.lt_of_le_of_lt (Nat.sub_le _ _) t.isLt)).2.1 (iblk1 W c 0 t) := by
  rw [outsAt1_B W c t h0 h1]
  frame_out
  rw [readCov_whole]

theorem dk_outs_C (t : Fin cfg1.N) (h0 : ¬t.val % 4 = 0) (h1 : t.val % 4 = 3) :
    (outsAt1 (F := Ideal) W c t.val t.isLt).2.1 = k1_pay1 (k1_pay37 (dsOf (iblk1 W c 0 t) (iblk1 W c 1 t) (iblk1 W c 2 t) (iblk1 W c 3 t) (iblk1 W c 4 t)) (outsAt1 (F := Ideal) W c (t.val - 1) (Nat.lt_of_le_of_lt (Nat.sub_le _ _) t.isLt)).2.1 (iblk1 W c 0 t)) := by
  rw [outsAt1_C W c t h0 h1]
  frame_out
  rw [readCov_whole]

theorem dv_outs_A (t : Fin cfg1.N) (h0 : t.val % 4 = 0) :
    (outsAt1 (F := Ideal) W c t.val t.isLt).2.2 = k1_pay38 (k1_pay3 (F := Ideal)) (pOf (iblk1 W c 0 t) (iblk1 W c 1 t)) (iblk1 W c 3 t) := by
  rw [outsAt1_A W c t h0 (by omega)]
  frame_out
  rw [readCov_whole]

theorem dv_outs_B (t : Fin cfg1.N) (h0 : ¬t.val % 4 = 0) (h1 : ¬t.val % 4 = 3) :
    (outsAt1 (F := Ideal) W c t.val t.isLt).2.2 = k1_pay38 (outsAt1 (F := Ideal) W c (t.val - 1) (Nat.lt_of_le_of_lt (Nat.sub_le _ _) t.isLt)).2.2 (pOf (iblk1 W c 0 t) (iblk1 W c 1 t)) (iblk1 W c 3 t) := by
  rw [outsAt1_B W c t h0 h1]
  frame_out
  rw [readCov_whole]

theorem dv_outs_C (t : Fin cfg1.N) (h0 : ¬t.val % 4 = 0) (h1 : t.val % 4 = 3) :
    (outsAt1 (F := Ideal) W c t.val t.isLt).2.2 = k1_pay38 (outsAt1 (F := Ideal) W c (t.val - 1) (Nat.lt_of_le_of_lt (Nat.sub_le _ _) t.isLt)).2.2 (pOf (iblk1 W c 0 t) (iblk1 W c 1 t)) (iblk1 W c 3 t) := by
  rw [outsAt1_C W c t h0 h1]
  frame_out
  rw [readCov_whole]

/-! The accumulated blocks, over the four points of a group. -/

/-- The scratch array of the scores' gradients at a point, when the output array holds the attention's output. -/
theorem ds_point (H : Holds W c Q K V D)
    (hO : ∀ i, (W c main_v0 : Vec Ideal S4096x1024 .bf16) i = ((unblk (out Q K V) (i 0).val (i 1).val : ℝ) : EReal)) (t : Fin cfg1.N) (i j : Fin 2048) :
    dsOf (iblk1 W c 0 t) (iblk1 W c 1 t) (iblk1 W c 2 t) (iblk1 W c 3 t) (iblk1 W c 4 t) (ix2 i j)
      = ((dscore Q K V D (t.val / 8) (t.val % 8) i j : ℝ) : EReal) := by
  refine (dsOf_at (blk1_q H t) (blk1_k H t) (blk1_v H t) (blk1_d H t) (blk1_o hO t) i j).trans (congrArg (fun x : ℝ => (x : EReal)) ?_)
  rw [← dscore_eq]
  unfold dsAt wtAt
  rw [row_bk, row_bk, row_bk, row_bk, row_bk, blk_unblk]
  rfl

/-- The scratch array of the weights at a point. -/
theorem p_point (H : Holds W c Q K V D) (t : Fin cfg1.N) (i j : Fin 2048) :
    pOf (iblk1 W c 0 t) (iblk1 W c 1 t) (ix2 i j) = ((weight Q K (t.val / 8) (t.val % 8) i j : ℝ) : EReal) :=
  pOf_at (blk1_q H t) (blk1_k H t) i j

/-- What one query head adds to the gradient of its keys, unscaled. -/
def dkPart (Q K V D : ℕ → ℕ → ℝ) (b h : ℕ) (j : Fin 2048) (d : Fin 128) : ℝ := ∑ i, dscore Q K V D b h i j * blk Q b h i d

/-- What one query head adds to the gradient of its values. -/
def dvPart (Q K D : ℕ → ℕ → ℝ) (b h : ℕ) (j : Fin 2048) (d : Fin 128) : ℝ := ∑ i, weight Q K b h i j * blk D b h i d

/-- The sum over the heads of a group up to a point's, from the sum up to the point before's. -/
theorem group_step (f : ℕ → ℕ → ℝ) {n m : ℕ} (hn : n = m + 1) (h : ¬n % 4 = 0) :
    ∑ u ∈ Finset.range (n % 4 + 1), f (n / 8) (n % 8 / 4 * 4 + u)
      = (∑ u ∈ Finset.range (m % 4 + 1), f (m / 8) (m % 8 / 4 * 4 + u)) + f (n / 8) (n % 8) := by
  rw [Finset.sum_range_succ, show n % 8 / 4 * 4 + n % 4 = n % 8 by omega, show n % 4 = m % 4 + 1 by omega, show n / 8 = m / 8 by omega,
    show n % 8 / 4 = m % 8 / 4 by omega]

/-- Before a group's last point, the block of the keys' gradient holds the sum over the heads so far. -/
theorem dk_acc (H : Holds W c Q K V D)
    (hO : ∀ i, (W c main_v0 : Vec Ideal S4096x1024 .bf16) i = ((unblk (out Q K V) (i 0).val (i 1).val : ℝ) : EReal)) (j : Fin 2048) (d : Fin 128) :
    ∀ (n : ℕ) (hn : n < cfg1.N), n % 4 < 3 → (outsAt1 (F := Ideal) W c n hn).2.1 (ix2 j d)
      = ((∑ u ∈ Finset.range (n % 4 + 1), dkPart Q K V D (n / 8) (n % 8 / 4 * 4 + u) j d : ℝ) : EReal) := by
  intro n
  induction n with
  | zero =>
    intro hn _
    rw [dk_outs_A ⟨0, hn⟩ (Nat.zero_mod _)]
    refine (dk_pay (ds_point H hO ⟨0, hn⟩) (blk1_q H ⟨0, hn⟩) j d (zero_dk j d)).trans (congrArg (fun x : ℝ => (x : EReal)) ?_)
    rw [show 0 % 4 + 1 = 1 from rfl, Finset.sum_range_one, zero_add]
    rfl
  | succ m ih =>
    intro hn hlt
    by_cases h0 : (m + 1) % 4 = 0
    · rw [dk_outs_A ⟨m + 1, hn⟩ h0]
      refine (dk_pay (ds_point H hO ⟨m + 1, hn⟩) (blk1_q H ⟨m + 1, hn⟩) j d (zero_dk j d)).trans (congrArg (fun x : ℝ => (x : EReal)) ?_)
      rw [h0, Finset.sum_range_one, zero_add, show (m + 1) % 8 / 4 * 4 + 0 = (m + 1) % 8 by omega]
      rfl
    · rw [dk_outs_B ⟨m + 1, hn⟩ h0 (by simp only; omega)]
      refine (dk_pay (ds_point H hO ⟨m + 1, hn⟩) (blk1_q H ⟨m + 1, hn⟩) j d (ih (by omega) (by omega))).trans (congrArg (fun x : ℝ => (x : EReal)) ?_)
      exact (group_step (fun b h => dkPart Q K V D b h j d) rfl h0).symm

/-- The block of the values' gradient holds the sum over the heads so far. -/
theorem dv_acc (H : Holds W c Q K V D) (j : Fin 2048) (d : Fin 128) :
    ∀ (n : ℕ) (hn : n < cfg1.N), (outsAt1 (F := Ideal) W c n hn).2.2 (ix2 j d)
      = ((∑ u ∈ Finset.range (n % 4 + 1), dvPart Q K D (n / 8) (n % 8 / 4 * 4 + u) j d : ℝ) : EReal) := by
  intro n
  induction n with
  | zero =>
    intro hn
    rw [dv_outs_A ⟨0, hn⟩ (Nat.zero_mod _)]
    refine (dv_pay (p_point H ⟨0, hn⟩) (blk1_d H ⟨0, hn⟩) j d (zero_dv j d)).trans (congrArg (fun x : ℝ => (x : EReal)) ?_)
    rw [show 0 % 4 + 1 = 1 from rfl, Finset.sum_range_one, zero_add]
    rfl
  | succ m ih =>
    intro hn
    by_cases h0 : (m + 1) % 4 = 0
    · rw [dv_outs_A ⟨m + 1, hn⟩ h0]
      refine (dv_pay (p_point H ⟨m + 1, hn⟩) (blk1_d H ⟨m + 1, hn⟩) j d (zero_dv j d)).trans (congrArg (fun x : ℝ => (x : EReal)) ?_)
      rw [h0, Finset.sum_range_one, zero_add, show (m + 1) % 8 / 4 * 4 + 0 = (m + 1) % 8 by omega]
      rfl
    · have step : (outsAt1 (F := Ideal) W c (m + 1) hn).2.2
          = k1_pay38 (outsAt1 (F := Ideal) W c m (by omega)).2.2 (pOf (iblk1 W c 0 ⟨m + 1, hn⟩) (iblk1 W c 1 ⟨m + 1, hn⟩)) (iblk1 W c 3 ⟨m + 1, hn⟩) := by
        by_cases h1 : (m + 1) % 4 = 3
        · exact dv_outs_C ⟨m + 1, hn⟩ h0 h1
        · exact dv_outs_B ⟨m + 1, hn⟩ h0 h1
      rw [step]
      refine (dv_pay (p_point H ⟨m + 1, hn⟩) (blk1_d H ⟨m + 1, hn⟩) j d (ih (by omega))).trans (congrArg (fun x : ℝ => (x : EReal)) ?_)
      exact (group_step (fun b h => dvPart Q K D b h j d) rfl h0).symm

/-- The backward kernel leaves the gradient of the queries. -/
theorem dq_final (H : Holds W c Q K V D)
    (hO : ∀ i, (W c main_v0 : Vec Ideal S4096x1024 .bf16) i = ((unblk (out Q K V) (i 0).val (i 1).val : ℝ) : EReal)) :
    (dat1 (F := Ideal) W c).arrAt 5 cfg1.N
      = (fun i => ((unblk (dq Q K V D) (i 0).val (i 1).val : ℝ) : EReal) : Vec Ideal S4096x1024 .f32) := by
  refine (dat1 W c).arrAt_eq_of_covers 5 _ (by decide +kernel) fun t hf y => ?_
  blk_simp
  rw [after1_5, dq_outs]
  obtain ⟨i, d, rfl⟩ : ∃ (i : Fin 2048) (d : Fin 128), y = (ix2 i d : S2048x128.Idx) := ⟨y 0, y 1, (eq_ix2 y)⟩
  refine (dq_pay (ds_point H hO t) (blk1_k H t) i d).trans (congrArg (fun x : ℝ => (x : EReal)) ?_)
  refine Eq.trans ?_ (unblk_at (dq Q K V D) (t.val / 8) (t.val % 8) i d ?_ ?_).symm
  · rfl
  all_goals blk_simp [idx1 t]

/-- The backward kernel leaves the gradient of the keys. -/
theorem dk_final (H : Holds W c Q K V D)
    (hO : ∀ i, (W c main_v0 : Vec Ideal S4096x1024 .bf16) i = ((unblk (out Q K V) (i 0).val (i 1).val : ℝ) : EReal)) :
    (dat1 (F := Ideal) W c).arrAt 6 cfg1.N
      = (fun i => ((unblk (dk Q K V D) (i 0).val (i 1).val : ℝ) : EReal) : Vec Ideal S4096x256 .f32) := by
  refine (dat1 W c).arrAt_eq_of_covers 6 _ (by decide +kernel) fun t hf y => ?_
  blk_simp
  have h3 := (flush1_6 t).mp hf
  have hN : cfg1.N = 16 := N_1
  have hlt := t.isLt
  rw [after1_6, dk_outs_C t (by omega) h3]
  obtain ⟨j, d, rfl⟩ : ∃ (i : Fin 2048) (d : Fin 128), y = (ix2 i d : S2048x128.Idx) := ⟨y 0, y 1, (eq_ix2 y)⟩
  refine (dk_last j d (dk_pay (ds_point H hO t) (blk1_q H t) j d (dk_acc H hO j d (t.val - 1) (by omega) (by omega)))).trans
    (congrArg (fun x : ℝ => (x : EReal)) ?_)
  refine Eq.trans ?_ (unblk_at (dk Q K V D) (t.val / 8) (t.val % 8 / 4) j d ?_ ?_).symm
  · refine congrArg (fun x : ℝ => x * sc) ?_
    refine (group_step (fun b h => dkPart Q K V D b h j d) (n := t.val) (m := t.val - 1) (by omega) (by omega)).symm.trans ?_
    rw [h3]; exact Finset.sum_range (fun u => dkPart Q K V D (t.val / 8) (t.val % 8 / 4 * 4 + u) j d)
  all_goals blk_simp [idx1 t]

/-- The backward kernel leaves the gradient of the values. -/
theorem dv_final (H : Holds W c Q K V D) :
    (dat1 (F := Ideal) W c).arrAt 7 cfg1.N
      = (fun i => ((unblk (dv Q K D) (i 0).val (i 1).val : ℝ) : EReal) : Vec Ideal S4096x256 .f32) := by
  refine (dat1 W c).arrAt_eq_of_covers 7 _ (by decide +kernel) fun t hf y => ?_
  blk_simp
  have h3 := (flush1_7 t).mp hf
  rw [after1_7]
  obtain ⟨j, d, rfl⟩ : ∃ (i : Fin 2048) (d : Fin 128), y = (ix2 i d : S2048x128.Idx) := ⟨y 0, y 1, (eq_ix2 y)⟩
  refine (dv_acc H j d t.val t.isLt).trans (congrArg (fun x : ℝ => (x : EReal)) ?_)
  refine Eq.trans ?_ (unblk_at (dv Q K D) (t.val / 8) (t.val % 8 / 4) j d ?_ ?_).symm
  · rw [h3]; exact Finset.sum_range (fun u => dvPart Q K D (t.val / 8) (t.val % 8 / 4 * 4 + u) j d)
  all_goals blk_simp [idx1 t]

end blocks

end Cert.KernelIdeal.Value

end
-- ==== Proof.Attn.Run.lean ====
/- The run of the two calls, naming what every result array ends with: the output as the forward call's write-backs leave
   it, and the three gradients as the backward call's do. -/
module

public import proofs.«01_k».proof.Proof.Gen.KernelIdeal.Frame
public import proofs.«01_k».proof.Proof.Attn.Array

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section
variable {F : FTy → Type} [FloatOps F] [Named F]
variable (m : (ℓ : Loc nD τ sig) → Buf (Elt F) ℓ) (ρ : Dev nD → PrngReg)

set_option backward.isDefEq.respectTransparency.types false in
/-- From any memory with zero counters every weakly fair execution terminates with every result array at the last
    boundary's contents and the arguments as launched. -/
theorem run : θ_run defs (onTc (τ := τ) (main (F := F))) ⟨m, fun _ => 0, ρ⟩ (fun r => ∀ c : Dev nD,
      (r.2.mem ((c.tc : Thread nD τ).loc main_v0) = (dat0 (V0 m ρ) c).arrAt 3 cfg0.N
      ∧ r.2.mem ((c.tc : Thread nD τ).loc main_v1_0) = (dat1 (V1 m ρ) c).arrAt 5 cfg1.N
      ∧ r.2.mem ((c.tc : Thread nD τ).loc main_v1_1) = (dat1 (V1 m ρ) c).arrAt 6 cfg1.N
      ∧ r.2.mem ((c.tc : Thread nD τ).loc main_v1_2) = (dat1 (V1 m ρ) c).arrAt 7 cfg1.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => fun c =>
      ⟨⟨((h c _ (mem_uc main_v0 (by decide))).trans (W2_of m ρ c main_v0 (by decide +kernel))).trans (W1_arr m ρ c 3),
        (h c _ (mem_uc main_v1_0 (by decide))).trans (W2_arr m ρ c 5),
        (h c _ (mem_uc main_v1_1 (by decide))).trans (W2_arr m ρ c 6),
        (h c _ (mem_uc main_v1_2 (by decide))).trans (W2_arr m ρ c 7)⟩,
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end

section
open Cert.Attn
variable (m : (ℓ : Loc nD τ sig) → Buf (Elt Ideal) ℓ) (ρ : Dev nD → PrngReg)
variable {Q K V D : ℕ → ℕ → ℝ} {c : Dev nD}

/-- What the backward call reads of the arguments is what the launch holds. -/
theorem holds_entry (H : Holds (V0 m ρ) c Q K V D) : Holds (V1 m ρ) c Q K V D where
  q i := (congrFun (W1_of m ρ c main_arg0 (by decide +kernel)) i).trans (H.q i)
  k i := (congrFun (W1_of m ρ c main_arg1 (by decide +kernel)) i).trans (H.k i)
  v i := (congrFun (W1_of m ρ c main_arg2 (by decide +kernel)) i).trans (H.v i)
  d i := (congrFun (W1_of m ρ c main_arg3 (by decide +kernel)) i).trans (H.d i)

/-- The output the backward call reads is the forward call's. -/
theorem out_entry (H : Holds (V0 m ρ) c Q K V D) (i : S4096x1024.Idx) :
    (V1 m ρ c main_v0 : Vec Ideal S4096x1024 .bf16) i = ((unblk (out Q K V) (i 0).val (i 1).val : ℝ) : EReal) :=
  (congrFun (W1_arr m ρ c 3) i).trans (congrFun (out_final H) i)

end

end Cert.KernelIdeal.Value

end
-- ==== Proof.Attn.RefReal.lean ====
/- The plain attention's own arithmetic over the reals: a row's weights from scores shifted by the row's maximum, and the
   softmax's gradient as differentiating the quotient gives it. Both are the weights and the gradient of `Grad`. -/
module

public import proofs.«01_k».proof.Proof.Attn.Grad

@[expose] public section

noncomputable section

namespace Cert.Attn

/-- A row's maximum. -/
def top (f : Fin 2048 → ℝ) : ℝ := (fold_max_coe Finset.univ ⟨0, Finset.mem_univ _⟩ f).choose

theorem top_spec (f : Fin 2048 → ℝ) : (Finset.univ : Finset (Fin 2048)).fold max (⊥ : EReal) (fun i => (f i : EReal)) = (top f : EReal) :=
  (fold_max_coe Finset.univ ⟨0, Finset.mem_univ _⟩ f).choose_spec

variable (Q K V D : ℕ → ℕ → ℝ)

/-- The scaled score of key `j` for query `i`. -/
def scaled (b h : ℕ) (i j : Fin 2048) : ℝ := score (blk Q b h i) (blk K b (h / 4)) j * sc

/-- The exponential of the scaled score less the row's maximum. -/
def ex (b h : ℕ) (i j : Fin 2048) : ℝ := Real.exp (scaled Q K b h i j - top (scaled Q K b h i))

/-- The row's sum of them. -/
def den (b h : ℕ) (i : Fin 2048) : ℝ := ∑ j, ex Q K b h i j

theorem den_pos (b h : ℕ) (i : Fin 2048) : 0 < den Q K b h i := sum_exp_pos (by norm_num) _

theorem sc_ne : sc ≠ 0 := inv_ne_zero (Real.sqrt_pos.mpr (by norm_num)).ne'

/-- The quotients are the softmax weights. -/
theorem ex_div_den (b h : ℕ) (i j : Fin 2048) : ex Q K b h i j / den Q K b h i = weight Q K b h i j := by
  have e : ∀ j, ex Q K b h i j
      = Real.exp ((score (blk Q b h i) (blk K b (h / 4)) j - top (scaled Q K b h i) / sc) * sc) := fun j => by
    unfold ex
    congr 1
    rw [sub_mul, div_mul_cancel₀ _ sc_ne]
    rfl
  unfold den weight
  rw [← wt_shift _ (top (scaled Q K b h i) / sc) j]
  simp only [e]

/-- The gradient of the scaled scores, as the quotient rule states it. -/
theorem quotient_rule (b h : ℕ) (i j : Fin 2048) :
    (dweight V D b h i j / den Q K b h i
        + -∑ k, dweight V D b h i k * (1 / (den Q K b h i * den Q K b h i)) * ex Q K b h i k) * ex Q K b h i j
      = dscore Q K V D b h i j := by
  have hd := (den_pos Q K b h i).ne'
  have e : ∑ k, dweight V D b h i k * (1 / (den Q K b h i * den Q K b h i)) * ex Q K b h i k
      = (∑ k, weight Q K b h i k * dweight V D b h i k) / den Q K b h i := by
    rw [Finset.sum_div]
    refine Finset.sum_congr rfl fun k _ => ?_
    rw [← ex_div_den]
    field_simp
  unfold dscore
  rw [e, ← ex_div_den Q K b h i j]
  field_simp
  ring

/-- Key head `g` is read by the query heads `g * 4 + u`. -/
theorem key_head (g u : ℕ) (hu : u < 4) : (g * 4 + u) / 4 = g := by omega

end Cert.Attn

end
-- ==== Proof.Attn.RefRow.lean ====
/- The plain attention read at an index: scores, exponentials, row sums, weights and the gradient of the scores, each a
   real formula of the arguments' elements. -/
module

public import proofs.«01_k».proof.Proof.Attn.RefReal
public import proofs.«01_k».proof.Proof.Attn.Row
public import proofs.«01_k».proof.Proof.Gen.ReferenceIdeal.Read

@[expose] public section

set_option maxRecDepth 16384

noncomputable section

open Idealize.ShloMosaic Idealize.ShloMosaic.TcCoe Idealize.SL.Sem

namespace Cert.ReferenceIdeal.Read

open Cert.ReferenceIdeal Cert.ReferenceIdeal.Gen Cert.Attn Cert.KernelIdeal

/-- A function of batch, query head, query and key, read at an index of the scores. -/
def at5 (f : ℕ → ℕ → Fin 2048 → Fin 2048 → ℝ) (i : S2x2x4x2048x2048.Idx) : ℝ := f (i 0).val ((i 1).val * 4 + (i 2).val) (i 3) (i 4)

/-- A function of batch, query head and query, read at an index of the rows. -/
def at4 (f : ℕ → ℕ → Fin 2048 → ℝ) (i : S2x2x4x2048.Idx) : ℝ := f (i 0).val ((i 1).val * 4 + (i 2).val) (i 3)

/-- A function of batch, query head, query and column, read at an index of the queries. -/
def atQ (f : ℕ → ℕ → Fin 2048 → Fin 128 → ℝ) (i : S2x2048x2x4x128.Idx) : ℝ := f (i 0).val ((i 2).val * 4 + (i 3).val) (i 1) (i 4)

/-- A function of batch, key head, key and column, read at an index of the keys. -/
def atK (f : ℕ → ℕ → Fin 2048 → Fin 128 → ℝ) (i : S2x2048x2x128.Idx) : ℝ := f (i 0).val (i 2).val (i 1) (i 3)

variable {x0 x3 : (⟨S4096x1024, .bf16⟩ : BufTy).Contents (Elt Ideal)} {x1 x2 : (⟨S4096x256, .bf16⟩ : BufTy).Contents (Elt Ideal)}
variable {Q K V D : ℕ → ℕ → ℝ}

/-- The queries by batch, row, key head and group member. -/
theorem v4_at (h0 : ∀ i, x0 i = ((Q (i 0).val (i 1).val : ℝ) : EReal)) (i : S2x2048x2x4x128.Idx) :
    val_main_v4 (F := Ideal) x0 i = ((atQ (blk Q) i : ℝ) : EReal) := by
  rw [val_main_v4_apply]
  refine (h0 _).trans (congrArg Real.toEReal ?_)
  have b0 : (i 0).val < 2 := (i 0).isLt
  have b1 : (i 1).val < 2048 := (i 1).isLt
  have b2 : (i 2).val < 2 := (i 2).isLt
  have b3 : (i 3).val < 4 := (i 3).isLt
  have b4 : (i 4).val < 128 := (i 4).isLt
  unfold atQ blk
  refine congrArg₂ Q ?_ ?_
  · show _ / 1024 = (_ : ℕ)
    omega
  · show _ % 1024 = (_ : ℕ)
    omega

/-- The keys by batch, row and head. -/
theorem v5_at (h1 : ∀ i, x1 i = ((K (i 0).val (i 1).val : ℝ) : EReal)) (i : S2x2048x2x128.Idx) :
    val_main_v5 (F := Ideal) x1 i = ((atK (blk K) i : ℝ) : EReal) := by
  rw [val_main_v5_apply]
  refine (h1 _).trans (congrArg Real.toEReal ?_)
  have b0 : (i 0).val < 2 := (i 0).isLt
  have b1 : (i 1).val < 2048 := (i 1).isLt
  have b2 : (i 2).val < 2 := (i 2).isLt
  have b3 : (i 3).val < 128 := (i 3).isLt
  unfold atK blk
  refine congrArg₂ K ?_ ?_
  · show _ / 256 = (_ : ℕ)
    omega
  · show _ % 256 = (_ : ℕ)
    omega

/-- The values by batch, row and head. -/
theorem v6_at (h2 : ∀ i, x2 i = ((V (i 0).val (i 1).val : ℝ) : EReal)) (i : S2x2048x2x128.Idx) :
    val_main_v6 (F := Ideal) x2 i = ((atK (blk V) i : ℝ) : EReal) := by
  rw [val_main_v6_apply]
  refine (h2 _).trans (congrArg Real.toEReal ?_)
  have b0 : (i 0).val < 2 := (i 0).isLt
  have b1 : (i 1).val < 2048 := (i 1).isLt
  have b2 : (i 2).val < 2 := (i 2).isLt
  have b3 : (i 3).val < 128 := (i 3).isLt
  unfold atK blk
  refine congrArg₂ V ?_ ?_
  · show _ / 256 = (_ : ℕ)
    omega
  · show _ % 256 = (_ : ℕ)
    omega

/-- The output's gradient by batch, row, key head and group member. -/
theorem v44_at (h3 : ∀ i, x3 i = ((D (i 0).val (i 1).val : ℝ) : EReal)) (i : S2x2048x2x4x128.Idx) :
    val_main_v44 (F := Ideal) x3 i = ((atQ (blk D) i : ℝ) : EReal) := by
  rw [val_main_v44_apply]
  refine (h3 _).trans (congrArg Real.toEReal ?_)
  have b0 : (i 0).val < 2 := (i 0).isLt
  have b1 : (i 1).val < 2048 := (i 1).isLt
  have b2 : (i 2).val < 2 := (i 2).isLt
  have b3 : (i 3).val < 4 := (i 3).isLt
  have b4 : (i 4).val < 128 := (i 4).isLt
  unfold atQ blk
  refine congrArg₂ D ?_ ?_
  · show _ / 1024 = (_ : ℕ)
    omega
  · show _ % 1024 = (_ : ℕ)
    omega

variable (h0 : ∀ i, x0 i = ((Q (i 0).val (i 1).val : ℝ) : EReal)) (h1 : ∀ i, x1 i = ((K (i 0).val (i 1).val : ℝ) : EReal))
variable (h2 : ∀ i, x2 i = ((V (i 0).val (i 1).val : ℝ) : EReal)) (h3 : ∀ i, x3 i = ((D (i 0).val (i 1).val : ℝ) : EReal))

/-- The square root the scores are divided by. -/
theorem v9_at (i : S_.Idx) : val_main_v9 (F := Ideal) i = ((Real.sqrt 128 : ℝ) : EReal) := by
  rw [val_main_v9_apply, val_main_cst_apply]
  have e : (FloatOps.ofBits (F := Ideal) .f32 0x43000000#32) = ((128 : ℝ) : EReal) := by
    show Ideal.ofBits .f32 0x43000000#32 = _
    simp [Ideal.ofBits, Ideal.ieee]
    rw [← EReal.coe_mul]
    norm_num
  rw [e]
  refine (Ideal.sqrt_coe _).trans ?_
  rw [if_neg (by norm_num)]

section
include h0 h1

/-- The scores, keys before queries. -/
theorem v7_at (i : S2x2x2048x2048x4.Idx) : val_main_v7 (F := Ideal) x0 x1 i
    = ((score (blk Q (i 0).val ((i 1).val * 4 + (i 4).val) (i 3)) (blk K (i 0).val (((i 1).val * 4 + (i 4).val) / 4)) (i 2) : ℝ) : EReal) := by
  have b4 : (i 4).val < 4 := (i 4).isLt
  rw [val_main_v7_apply, key_head _ _ b4]
  unfold score
  rw [coe_sum]
  refine Finset.sum_congr rfl fun k _ => ?_
  rw [v5_at h1, v4_at h0, ← EReal.coe_mul, mul_comm]
  rfl

/-- The scaled scores. -/
theorem v11_at (i : S2x2x4x2048x2048.Idx) : val_main_v11 (F := Ideal) x0 x1 i = ((at5 (scaled Q K) i : ℝ) : EReal) := by
  rw [val_main_v11_apply, val_main_v8_apply, v7_at h0 h1, val_main_v10_apply, v9_at]
  exact Value.div_real _ (Real.sqrt_pos.mpr (by norm_num)).ne'

/-- The rows' maxima. -/
theorem v19_at (i : S2x2x4x2048.Idx) : val_main_v19 (F := Ideal) x0 x1 i
    = ((at4 (fun b h q => top (scaled Q K b h q)) i : ℝ) : EReal) := by
  have e : val_main_v12 (F := Ideal) x0 x1 i = ((at4 (fun b h q => top (scaled Q K b h q)) i : ℝ) : EReal) := by
    unfold val_main_v12 at4
    rw [Host.reduce_eq_fold_single (a := 4) _ _ _ reducesTo_S2x2x4x2048x2048_S2x2x4x2048_d4 (by decide)]
    rw [← top_spec]
    refine congrArg₂ (fun (b : EReal) (f : Fin 2048 → EReal) => Finset.univ.fold max b f) Value.bot_bits (funext fun k => ?_)
    exact (v11_at h0 h1 _).trans rfl
  rw [val_main_v19_apply, e, val_main_v18_apply]
  exact max_eq_right (le_of_eq_of_le Value.bot_bits bot_le)

/-- The exponentials. -/
theorem v32_at (i : S2x2x4x2048x2048.Idx) : val_main_v32 (F := Ideal) x0 x1 i = ((at5 (ex Q K) i : ℝ) : EReal) := by
  rw [val_main_v32_apply, val_main_v31_apply, v11_at h0 h1, val_main_v30_apply, val_main_v29_apply, v19_at h0 h1]
  refine (congrArg Ideal.exp (EReal.coe_sub _ _).symm).trans ?_
  rfl

/-- The rows' sums. -/
theorem v33_at (i : S2x2x4x2048.Idx) : val_main_v33 (F := Ideal) x0 x1 i = ((at4 (den Q K) i : ℝ) : EReal) := by
  rw [val_main_v33_apply]
  unfold at4 den
  rw [coe_sum]
  have z : (val_main_cst_8 (F := Ideal)) (Shape.Idx.first h_S_) = 0 := by
    rw [val_main_cst_8_apply]
    exact Ideal.ofBits_zero_f32
  rw [z, zero_add]
  exact Finset.sum_congr rfl fun k _ => v32_at h0 h1 _

/-- The softmax weights. -/
theorem v36_at (i : S2x2x4x2048x2048.Idx) : val_main_v36 (F := Ideal) x0 x1 i = ((at5 (weight Q K) i : ℝ) : EReal) := by
  rw [val_main_v36_apply, v32_at h0 h1, val_main_v35_apply, val_main_v34_apply, v33_at h0 h1]
  exact (Value.div_real _ (den_pos Q K _ _ _).ne').trans (congrArg Real.toEReal (ex_div_den Q K _ _ _ _))

/-- The reciprocals of the squared row sums. -/
theorem v39_at (i : S2x2x4x2048x1.Idx) : val_main_v39 (F := Ideal) x0 x1 i
    = ((at4 (fun b h q => 1 / (den Q K b h q * den Q K b h q)) (idx_main_v34 i) : ℝ) : EReal) := by
  rw [val_main_v39_apply, val_main_v38_apply, val_main_cst_9_apply, val_main_v37_apply, val_main_v34_apply, v33_at h0 h1]
  have o : (FloatOps.ofBits (F := Ideal) .f32 0x3F800000#32) = ((1 : ℝ) : EReal) := by
    show Ideal.ofBits .f32 0x3F800000#32 = _
    simp [Ideal.ofBits, Ideal.ieee]
    rw [← EReal.coe_mul]
    norm_num
  rw [o]
  refine (congrArg (Ideal.div _) (EReal.coe_mul _ _).symm).trans ?_
  exact Value.div_real _ (mul_ne_zero (den_pos Q K _ _ _).ne' (den_pos Q K _ _ _).ne')

end

section
include h2 h3

/-- The gradient of the weights. -/
theorem v46_at (i : S2x2x4x2048x2048.Idx) : val_main_v46 (F := Ideal) x2 x3 i = ((at5 (dweight V D) i : ℝ) : EReal) := by
  have b2 : (i 2).val < 4 := (i 2).isLt
  rw [val_main_v46_apply]
  unfold at5 dweight
  rw [key_head _ _ b2, coe_sum]
  refine Finset.sum_congr rfl fun k _ => ?_
  rw [val_main_v45_apply, v44_at h3, v6_at h2, ← EReal.coe_mul]
  rfl

end

section
include h0 h1 h2 h3

/-- The summand of the quotient rule's row sum. -/
theorem v51_at (i : S2x2x4x2048x2048.Idx) : val_main_v51 (F := Ideal) x0 x1 x2 x3 i
    = ((at5 (fun b h q j => dweight V D b h q j * (1 / (den Q K b h q * den Q K b h q)) * ex Q K b h q j) i : ℝ) : EReal) := by
  rw [val_main_v51_apply, val_main_v50_apply, v46_at h2 h3, val_main_v49_apply, v39_at h0 h1, v32_at h0 h1]
  refine (congrArg (fun x : EReal => x * _) (EReal.coe_mul _ _).symm).trans ((EReal.coe_mul _ _).symm.trans ?_)
  rfl

/-- The quotient rule's row sum. -/
theorem v52_at (i : S2x2x4x2048.Idx) : val_main_v52 (F := Ideal) x0 x1 x2 x3 i
    = ((at4 (fun b h q => ∑ j, dweight V D b h q j * (1 / (den Q K b h q * den Q K b h q)) * ex Q K b h q j) i : ℝ) : EReal) := by
  rw [val_main_v52_apply]
  unfold at4
  rw [coe_sum]
  have z : (val_main_cst_10 (F := Ideal)) (Shape.Idx.first h_S_) = 0 := by
    rw [val_main_cst_10_apply]
    exact Ideal.ofBits_zero_f32
  rw [z, zero_add]
  exact Finset.sum_congr rfl fun k _ => v51_at h0 h1 h2 h3 _

/-- The quotient rule's row sum, negated. -/
theorem v57_at (i : S2x2x4x2048.Idx) : val_main_v57 (F := Ideal) x0 x1 x2 x3 i
    = ((at4 (fun b h q => -∑ j, dweight V D b h q j * (1 / (den Q K b h q * den Q K b h q)) * ex Q K b h q j) i : ℝ) : EReal) := by
  have z : (val_main_cst_11 (F := Ideal)) (Shape.Idx.first h_S_) = 0 := by
    rw [val_main_cst_11_apply]
    exact Ideal.ofBits_zero_f32
  have b0 : (i 0).val < 2 := (i 0).isLt
  have b1 : (i 1).val < 2 := (i 1).isLt
  have b2 : (i 2).val < 4 := (i 2).isLt
  have b3 : (i 3).val < 2048 := (i 3).isLt
  have j : idx_main_v53 (idx_main_v57 i 0) = i := funext fun a => Fin.ext (by
    match a with
    | ⟨0, _⟩ => show ((((((i 0).val * 2 + (i 1).val) * 4 + (i 2).val) * 2048 + (i 3).val) * 1 + 0) / 16384) = (i 0).val; omega
    | ⟨1, _⟩ => show ((((((i 0).val * 2 + (i 1).val) * 4 + (i 2).val) * 2048 + (i 3).val) * 1 + 0) / 8192 % 2) = (i 1).val; omega
    | ⟨2, _⟩ => show ((((((i 0).val * 2 + (i 1).val) * 4 + (i 2).val) * 2048 + (i 3).val) * 1 + 0) / 2048 % 4) = (i 2).val; omega
    | ⟨3, _⟩ => show ((((((i 0).val * 2 + (i 1).val) * 4 + (i 2).val) * 2048 + (i 3).val) * 1 + 0) % 2048) = (i 3).val; omega)
  rw [val_main_v57_apply, z, zero_add, Fin.sum_univ_one, val_main_v54_apply, val_main_v53_apply, j, v52_at h0 h1 h2 h3]
  exact (EReal.coe_neg _).symm

/-- The gradient of the scores before the scale. -/
theorem v60_at (i : S2x2x4x2048x2048.Idx) : val_main_v60 (F := Ideal) x0 x1 x2 x3 i = ((at5 (dscore Q K V D) i : ℝ) : EReal) := by
  rw [val_main_v60_apply, val_main_v59_apply, val_main_v56_apply, v46_at h2 h3, val_main_v55_apply, val_main_v34_apply,
    v33_at h0 h1, val_main_v58_apply, v57_at h0 h1 h2 h3, v32_at h0 h1]
  refine (congrArg (fun x : EReal => (x + _) * _) (Value.div_real _ (den_pos Q K _ _ _).ne')).trans ?_
  refine (congrArg (fun x : EReal => x * _) (EReal.coe_add _ _).symm).trans ((EReal.coe_mul _ _).symm.trans ?_)
  exact congrArg Real.toEReal (quotient_rule Q K V D _ _ _ _)

/-- The gradient of the scores. -/
theorem v62_at (i : S2x2x4x2048x2048.Idx) : val_main_v62 (F := Ideal) x0 x1 x2 x3 i
    = ((at5 (fun b h q j => dscore Q K V D b h q j * sc) i : ℝ) : EReal) := by
  rw [val_main_v62_apply, v60_at h0 h1 h2 h3, val_main_v61_apply, v9_at]
  exact Value.div_real _ (Real.sqrt_pos.mpr (by norm_num)).ne'

end

end Cert.ReferenceIdeal.Read

end
-- ==== Proof.Attn.RefOut.lean ====
/- The plain attention's four results: the output, and the gradients of the queries, keys and values, each the array
   `Grad` names. -/
module

public import proofs.«01_k».proof.Proof.Attn.RefRow
public import Idealize.ShloMosaic.Lib.TwoAxisContraction

@[expose] public section

set_option maxRecDepth 16384

noncomputable section

open Idealize.ShloMosaic Idealize.ShloMosaic.TcCoe Idealize.SL.Sem

namespace Cert.ReferenceIdeal.Read

open Cert.ReferenceIdeal Cert.ReferenceIdeal.Gen Cert.Attn Cert.KernelIdeal

variable {x0 x3 : (⟨S4096x1024, .bf16⟩ : BufTy).Contents (Elt Ideal)} {x1 x2 : (⟨S4096x256, .bf16⟩ : BufTy).Contents (Elt Ideal)}
variable {Q K V D : ℕ → ℕ → ℝ}

/-- The element of the transposed output gradient that meets group member `u`, query `q` in the values' gradient. -/
abbrev lV (i : S2x2x128x2048.Idx) (u : Fin 4) (q : Fin 2048) : S2x2x128x4x2048.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨u.val, u.isLt⟩
  | ⟨4, _⟩ => ⟨q.val, q.isLt⟩

/-- The weight that meets it. -/
abbrev rV (i : S2x2x128x2048.Idx) (u : Fin 4) (q : Fin 2048) : S2x2x4x2048x2048.Idx := fun a => match a with
  | ⟨0, _⟩ => ⟨(i 0).val, (i 0).isLt⟩
  | ⟨1, _⟩ => ⟨(i 1).val, (i 1).isLt⟩
  | ⟨2, _⟩ => ⟨u.val, u.isLt⟩
  | ⟨3, _⟩ => ⟨q.val, q.isLt⟩
  | ⟨4, _⟩ => ⟨(i 3).val, (i 3).isLt⟩

/-- The values' gradient sums over the group's members and their queries. -/
theorem v47_sum (y : (⟨S2x2x128x4x2048, .f32⟩ : BufTy).Contents (Elt Ideal)) (z : (⟨S2x2x4x2048x2048, .f32⟩ : BufTy).Contents (Elt Ideal))
    (i : S2x2x128x2048.Idx) :
    Host.dotGeneral (F := Ideal) (φ₁ := .f32) (φ₂ := .f32) dot_S2x2x128x4x2048_S2x2x4x2048x2048_S2x2x128x2048_34_23_2_4_01_01 none y z i
      = ∑ u : Fin 4, ∑ q : Fin 2048, y (lV i u q) * z (rV i u q) := by
  simp only [Host.dotGeneral]
  rw [Ideal.dotGeneral_apply, ValueIdx.sum_contr2 dot_S2x2x128x4x2048_S2x2x4x2048x2048_S2x2x128x2048_34_23_2_4_01_01 4 2048 rfl rfl rfl]
  refine Finset.sum_congr rfl fun u _ => Finset.sum_congr rfl fun q _ => ?_
  have k0 := ValueIdx.contrEquiv2_symm_val0 dot_S2x2x128x4x2048_S2x2x4x2048x2048_S2x2x128x2048_34_23_2_4_01_01 4 2048 rfl rfl rfl (u, q)
  have k1 := ValueIdx.contrEquiv2_symm_val1 dot_S2x2x128x4x2048_S2x2x4x2048x2048_S2x2x128x2048_34_23_2_4_01_01 4 2048 rfl rfl rfl (u, q)
  generalize (ValueIdx.contrEquiv2 dot_S2x2x128x4x2048_S2x2x4x2048x2048_S2x2x128x2048_34_23_2_4_01_01 4 2048 rfl rfl rfl).symm (u, q) = k at k0 k1 ⊢
  have el : DotDims.lhsIdx dot_S2x2x128x4x2048_S2x2x4x2048x2048_S2x2x128x2048_34_23_2_4_01_01 i k = lV i u q := funext fun a => Fin.ext (by
    match a with
    | ⟨0, _⟩ => rfl
    | ⟨1, _⟩ => rfl
    | ⟨2, _⟩ => rfl
    | ⟨3, _⟩ => exact k0
    | ⟨4, _⟩ => exact k1)
  have er : DotDims.rhsIdx dot_S2x2x128x4x2048_S2x2x4x2048x2048_S2x2x128x2048_34_23_2_4_01_01 i k = rV i u q := funext fun a => Fin.ext (by
    match a with
    | ⟨0, _⟩ => rfl
    | ⟨1, _⟩ => rfl
    | ⟨2, _⟩ => exact k0
    | ⟨3, _⟩ => exact k1
    | ⟨4, _⟩ => rfl)
  rw [el, er]

/-- The scores' gradient that meets query `q` of group member `u` in the keys' gradient. -/
abbrev lK (i : S2x2x2048x128.Idx) (q : Fin 2048) (u : Fin 4) : S2x2x2048x2048x4.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨q.val, q.isLt⟩
  | ⟨4, _⟩ => ⟨u.val, u.isLt⟩

/-- The query that meets it. -/
abbrev rK (i : S2x2x2048x128.Idx) (q : Fin 2048) (u : Fin 4) : S2x2048x2x4x128.Idx := fun a => match a with
  | ⟨0, _⟩ => ⟨(i 0).val, (i 0).isLt⟩
  | ⟨1, _⟩ => ⟨q.val, q.isLt⟩
  | ⟨2, _⟩ => ⟨(i 1).val, (i 1).isLt⟩
  | ⟨3, _⟩ => ⟨u.val, u.isLt⟩
  | ⟨4, _⟩ => ⟨(i 3).val, (i 3).isLt⟩

/-- The keys' gradient sums over the queries and the group's members. -/
theorem v66_sum (y : (⟨S2x2x2048x2048x4, .f32⟩ : BufTy).Contents (Elt Ideal)) (z : (⟨S2x2048x2x4x128, .f32⟩ : BufTy).Contents (Elt Ideal))
    (i : S2x2x2048x128.Idx) :
    Host.dotGeneral (F := Ideal) (φ₁ := .f32) (φ₂ := .f32) dot_S2x2x2048x2048x4_S2x2048x2x4x128_S2x2x2048x128_34_13_2_4_01_02 none y z i
      = ∑ q : Fin 2048, ∑ u : Fin 4, y (lK i q u) * z (rK i q u) := by
  simp only [Host.dotGeneral]
  rw [Ideal.dotGeneral_apply, ValueIdx.sum_contr2 dot_S2x2x2048x2048x4_S2x2048x2x4x128_S2x2x2048x128_34_13_2_4_01_02 2048 4 rfl rfl rfl]
  refine Finset.sum_congr rfl fun q _ => Finset.sum_congr rfl fun u _ => ?_
  have k0 := ValueIdx.contrEquiv2_symm_val0 dot_S2x2x2048x2048x4_S2x2048x2x4x128_S2x2x2048x128_34_13_2_4_01_02 2048 4 rfl rfl rfl (q, u)
  have k1 := ValueIdx.contrEquiv2_symm_val1 dot_S2x2x2048x2048x4_S2x2048x2x4x128_S2x2x2048x128_34_13_2_4_01_02 2048 4 rfl rfl rfl (q, u)
  generalize (ValueIdx.contrEquiv2 dot_S2x2x2048x2048x4_S2x2048x2x4x128_S2x2x2048x128_34_13_2_4_01_02 2048 4 rfl rfl rfl).symm (q, u) = k at k0 k1 ⊢
  have el : DotDims.lhsIdx dot_S2x2x2048x2048x4_S2x2048x2x4x128_S2x2x2048x128_34_13_2_4_01_02 i k = lK i q u := funext fun a => Fin.ext (by
    match a with
    | ⟨0, _⟩ => rfl
    | ⟨1, _⟩ => rfl
    | ⟨2, _⟩ => rfl
    | ⟨3, _⟩ => exact k0
    | ⟨4, _⟩ => exact k1)
  have er : DotDims.rhsIdx dot_S2x2x2048x2048x4_S2x2048x2x4x128_S2x2x2048x128_34_13_2_4_01_02 i k = rK i q u := funext fun a => Fin.ext (by
    match a with
    | ⟨0, _⟩ => rfl
    | ⟨1, _⟩ => exact k0
    | ⟨2, _⟩ => rfl
    | ⟨3, _⟩ => exact k1
    | ⟨4, _⟩ => rfl)
  rw [el, er]

/-- An array of the queries' shape, its rows and columns split, read at a row and a column. -/
theorem atQ_split (f : ℕ → ℕ → Fin 2048 → Fin 128 → ℝ) (i : S4096x1024.Idx) :
    atQ f (idx_main_v42 i) = unblk f (i 0).val (i 1).val := by
  have b0 : (i 0).val < 4096 := (i 0).isLt
  have b1 : (i 1).val < 1024 := (i 1).isLt
  refine (unblk_at f _ _ _ _ ?_ ?_).symm
  · show (i 0).val = ((i 0).val * 1024 + (i 1).val) / 2097152 * 2048 + ((i 0).val * 1024 + (i 1).val) / 1024 % 2048
    omega
  · show (i 1).val = (((i 0).val * 1024 + (i 1).val) / 512 % 2 * 4 + ((i 0).val * 1024 + (i 1).val) / 128 % 4) * 128
      + ((i 0).val * 1024 + (i 1).val) % 128
    omega

/-- An array of the keys' shape, its rows and columns split, read at a row and a column. -/
theorem atK_split (f : ℕ → ℕ → Fin 2048 → Fin 128 → ℝ) (i : S4096x256.Idx) :
    atK f (idx_main_v68 i) = unblk f (i 0).val (i 1).val := by
  have b0 : (i 0).val < 4096 := (i 0).isLt
  have b1 : (i 1).val < 256 := (i 1).isLt
  refine (unblk_at f _ _ _ _ ?_ ?_).symm
  · show (i 0).val = ((i 0).val * 256 + (i 1).val) / 524288 * 2048 + ((i 0).val * 256 + (i 1).val) / 256 % 2048
    omega
  · show (i 1).val = ((i 0).val * 256 + (i 1).val) / 128 % 2 * 128 + ((i 0).val * 256 + (i 1).val) % 128
    omega

variable (h0 : ∀ i, x0 i = ((Q (i 0).val (i 1).val : ℝ) : EReal)) (h1 : ∀ i, x1 i = ((K (i 0).val (i 1).val : ℝ) : EReal))
variable (h2 : ∀ i, x2 i = ((V (i 0).val (i 1).val : ℝ) : EReal)) (h3 : ∀ i, x3 i = ((D (i 0).val (i 1).val : ℝ) : EReal))

section
include h0 h1 h2

/-- The output. -/
theorem out_at (i : S4096x1024.Idx) : val_main_v43 (F := Ideal) x0 x1 x2 i = ((unblk (out Q K V) (i 0).val (i 1).val : ℝ) : EReal) := by
  have e : ∀ i : S2x2048x2x4x128.Idx, val_main_v41 (F := Ideal) x0 x1 x2 i = ((atQ (out Q K V) i : ℝ) : EReal) := fun i => by
    have b3 : (i 3).val < 4 := (i 3).isLt
    rw [val_main_v41_apply, val_main_v40_apply]
    unfold atQ out
    rw [key_head _ _ b3, coe_sum]
    refine Finset.sum_congr rfl fun k _ => ?_
    rw [v6_at h2, v36_at h0 h1, ← EReal.coe_mul, mul_comm]
    rfl
  rw [← atQ_split]
  exact (val_main_v42_apply x0 x1 x2 i).trans (e _)

end

section
include h0 h1 h3

/-- The gradient of the values. -/
theorem dv_at (i : S4096x256.Idx) : val_main_v68 (F := Ideal) x0 x1 x3 i = ((unblk (dv Q K D) (i 0).val (i 1).val : ℝ) : EReal) := by
  have e : ∀ i : S2x2048x2x128.Idx, val_main_v48 (F := Ideal) x0 x1 x3 i = ((atK (dv Q K D) i : ℝ) : EReal) := fun i => by
    rw [val_main_v48_apply]
    refine (v47_sum _ _ _).trans ?_
    unfold atK dv
    rw [coe_sum]
    refine Finset.sum_congr rfl fun u _ => ?_
    rw [coe_sum]
    refine Finset.sum_congr rfl fun q _ => ?_
    rw [val_main_v45_apply, v44_at h3, v36_at h0 h1, ← EReal.coe_mul, mul_comm]
    rfl
  rw [val_main_v68_apply, ← atK_split]
  exact e _

end

section
include h0 h1 h2 h3

/-- The gradient of the queries. -/
theorem dq_at (i : S4096x1024.Idx) : val_main_v70 (F := Ideal) x0 x1 x2 x3 i = ((unblk (dq Q K V D) (i 0).val (i 1).val : ℝ) : EReal) := by
  have e : ∀ i : S2x2048x2x4x128.Idx, val_main_v65 (F := Ideal) x0 x1 x2 x3 i = ((atQ (dq Q K V D) i : ℝ) : EReal) := fun i => by
    have b3 : (i 3).val < 4 := (i 3).isLt
    rw [val_main_v65_apply, val_main_v64_apply]
    unfold atQ dq
    rw [key_head _ _ b3, Finset.sum_mul, coe_sum]
    refine Finset.sum_congr rfl fun k _ => ?_
    rw [val_main_v63_apply, v62_at h0 h1 h2 h3, v5_at h1, ← EReal.coe_mul, mul_right_comm]
    rfl
  rw [val_main_v70_apply, ← atQ_split]
  exact e _

/-- The gradient of the keys. -/
theorem dk_at (i : S4096x256.Idx) : val_main_v69 (F := Ideal) x0 x1 x2 x3 i = ((unblk (dk Q K V D) (i 0).val (i 1).val : ℝ) : EReal) := by
  have e : ∀ i : S2x2048x2x128.Idx, val_main_v67 (F := Ideal) x0 x1 x2 x3 i = ((atK (dk Q K V D) i : ℝ) : EReal) := fun i => by
    rw [val_main_v67_apply]
    refine (v66_sum _ _ _).trans ?_
    unfold atK dk
    rw [Finset.sum_comm, Finset.sum_mul, coe_sum]
    refine Finset.sum_congr rfl fun u _ => ?_
    rw [Finset.sum_mul, coe_sum]
    refine Finset.sum_congr rfl fun q _ => ?_
    rw [val_main_v63_apply, v62_at h0 h1 h2 h3, v4_at h0, ← EReal.coe_mul, mul_right_comm]
    rfl
  rw [val_main_v69_apply, ← atK_split]
  exact e _

end

end Cert.ReferenceIdeal.Read

end
-- ==== Proof.Attn.Pre.lean ====
/- What the precondition says over the extended reals: every element of every argument is a real number. -/
module

public import proofs.«01_k».proof.Pre_finite
public import Idealize.ShloMosaic.PureOps.Ideal.Laws
public import Idealize.ShloMosaic.Lib.ValueIdx

@[expose] public section

noncomputable section

namespace Cert.Pre_finite

open Idealize.ShloMosaic

/-- The shape relations the precondition states. -/
theorem facts : Facts where
  bcast_S_S4096x1024 := by decide
  bcast_S_S4096x256 := by decide

/-- An extended real of finite magnitude is the real number it reads as. -/
theorem real_of_lt {x : EReal} (h : max x (-x) < ⊤) : ((x.toReal : ℝ) : EReal) = x := by
  refine EReal.coe_toReal (fun e => ?_) (fun e => ?_)
  · rw [e] at h; simp at h
  · rw [e] at h; simp at h

/-- The bound the magnitudes are compared with is the top. -/
theorem bound_bits : Ideal.ofBits .bf16 0x7F80#16 = (⊤ : EReal) := by
  simp [Ideal.ofBits, Ideal.ieee]

/-- The comparison's answer read back. -/
theorem real_of_cmp {x y : EReal} (hy : y = ⊤) (h : Ideal.cmp .olt (max x (-x)) y = 1#1) : ((x.toReal : ℝ) : EReal) = x := by
  subst hy
  refine real_of_lt ?_
  by_contra hn
  have e : Ideal.cmp .olt (max x (-x)) ⊤ = 0#1 := by
    unfold Ideal.cmp
    simp only [decide_eq_false hn]
    rfl
  rw [e] at h
  exact absurd h (by decide)

variable [Facts]
variable {x0 x3 : FVec Ideal S4096x1024 .bf16} {x1 x2 : FVec Ideal S4096x256 .bf16}

theorem real0 (h : (fn (F := Ideal) x0 x1 x2 x3).1 = fun _ => 1#1) (i : S4096x1024.Idx) : ((EReal.toReal (x0 i) : ℝ) : EReal) = x0 i :=
  real_of_cmp bound_bits (congrFun h i)

theorem real1 (h : (fn (F := Ideal) x0 x1 x2 x3).2.1 = fun _ => 1#1) (i : S4096x256.Idx) : ((EReal.toReal (x1 i) : ℝ) : EReal) = x1 i :=
  real_of_cmp bound_bits (congrFun h i)

theorem real2 (h : (fn (F := Ideal) x0 x1 x2 x3).2.2.1 = fun _ => 1#1) (i : S4096x256.Idx) : ((EReal.toReal (x2 i) : ℝ) : EReal) = x2 i :=
  real_of_cmp bound_bits (congrFun h i)

theorem real3 (h : (fn (F := Ideal) x0 x1 x2 x3).2.2.2 = fun _ => 1#1) (i : S4096x1024.Idx) : ((EReal.toReal (x3 i) : ℝ) : EReal) = x3 i :=
  real_of_cmp bound_bits (congrFun h i)

/-- The real numbers an array of `n0 × n1` holds, by row and column. -/
def reals {n0 n1 : ℕ} (x : (⟨2, ![n0, n1]⟩ : Shape).Idx → EReal) (r c : ℕ) : ℝ :=
  if h : r < n0 ∧ c < n1 then (x (ValueIdx.ix2 ⟨r, h.1⟩ ⟨c, h.2⟩)).toReal else 0

omit [Facts] in
theorem reals_at {n0 n1 : ℕ} (x : (⟨2, ![n0, n1]⟩ : Shape).Idx → EReal) (h : ∀ i, (((x i).toReal : ℝ) : EReal) = x i)
    (i : (⟨2, ![n0, n1]⟩ : Shape).Idx) : x i = ((reals x (i 0).val (i 1).val : ℝ) : EReal) := by
  have h0 : (i 0).val < n0 := (i 0).isLt
  have h1 : (i 1).val < n1 := (i 1).isLt
  have e : ValueIdx.ix2 (⟨(i 0).val, h0⟩ : Fin n0) (⟨(i 1).val, h1⟩ : Fin n1) = i := funext fun a => by
    match a with
    | ⟨0, _⟩ => rfl
    | ⟨1, _⟩ => rfl
  unfold reals
  rw [dif_pos ⟨h0, h1⟩, e]
  exact (h i).symm

end Cert.Pre_finite

end
-- ==== Proof.Attn.Equation.lean ====
/- The equation: over finite arguments the kernel's two calls and the plain attention with its gradient end with the same
   four arrays. -/
module

public import proofs.«01_k».proof.Defs
public import proofs.«01_k».proof.Proof.Attn.Run
public import proofs.«01_k».proof.Proof.Attn.RefOut
public import proofs.«01_k».proof.Proof.Attn.Pre
public import proofs.«01_k».proof.Proof.Gen.ReferenceIdeal.Run

@[expose] public section

set_option maxRecDepth 16384

noncomputable section

namespace Cert.Attn

open Idealize.ShloMosaic Idealize.ShloMosaic.TcCoe Idealize.SL.Sem

/-- An array of real numbers given by row and column. -/
abbrev arr {n0 n1 : ℕ} (M : ℕ → ℕ → ℝ) : (⟨2, ![n0, n1]⟩ : Shape).Idx → EReal := fun i => ((M (i 0).val (i 1).val : ℝ) : EReal)

/-- The reference ends with its arguments as launched, and has no semaphore to leave set. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2.2.2.2, sem_eq_zero_of_no_sems (by decide) r.2⟩) (Cert.ReferenceIdeal.Value.run m g)

section
variable [Cert.Pre_finite.Facts]
variable (m : (ℓ : Loc Cert.KernelIdeal.nD Cert.KernelIdeal.τ Cert.KernelIdeal.sig) → Buf (Elt Ideal) ℓ) (g : Dev Cert.KernelIdeal.nD → PrngReg)

/-- The real numbers the argument arrays hold on a device. -/
def argQ (c : Dev Cert.KernelIdeal.nD) : ℕ → ℕ → ℝ :=
  Cert.Pre_finite.reals (n0 := 4096) (n1 := 1024) (m ((c.tc : Thread Cert.KernelIdeal.nD Cert.KernelIdeal.τ).loc Cert.KernelIdeal.main_arg0))
def argK (c : Dev Cert.KernelIdeal.nD) : ℕ → ℕ → ℝ :=
  Cert.Pre_finite.reals (n0 := 4096) (n1 := 256) (m ((c.tc : Thread Cert.KernelIdeal.nD Cert.KernelIdeal.τ).loc Cert.KernelIdeal.main_arg1))
def argV (c : Dev Cert.KernelIdeal.nD) : ℕ → ℕ → ℝ :=
  Cert.Pre_finite.reals (n0 := 4096) (n1 := 256) (m ((c.tc : Thread Cert.KernelIdeal.nD Cert.KernelIdeal.τ).loc Cert.KernelIdeal.main_arg2))
def argD (c : Dev Cert.KernelIdeal.nD) : ℕ → ℕ → ℝ :=
  Cert.Pre_finite.reals (n0 := 4096) (n1 := 1024) (m ((c.tc : Thread Cert.KernelIdeal.nD Cert.KernelIdeal.τ).loc Cert.KernelIdeal.main_arg3))

/-- Under the precondition the arguments are those real numbers. -/
theorem holds (hp : Cert.Pre_KernelIdeal_finite m) (c : Dev Cert.KernelIdeal.nD) :
    Cert.KernelIdeal.Value.Holds (Cert.KernelIdeal.Gen.V0 m g) c (argQ m c) (argK m c) (argV m c) (argD m c) where
  q := Cert.Pre_finite.reals_at _ (Cert.Pre_finite.real0 (hp c).1)
  k := Cert.Pre_finite.reals_at _ (Cert.Pre_finite.real1 (hp c).2.1)
  v := Cert.Pre_finite.reals_at _ (Cert.Pre_finite.real2 (hp c).2.2.1)
  d := Cert.Pre_finite.reals_at _ (Cert.Pre_finite.real3 (hp c).2.2.2)

end

/-- Both programs end with the output and the three gradients. -/
theorem equation : Cert.algebraic_KernelIdeal_ReferenceIdeal_pre_finite (hKernelIdeal := Cert.KernelIdeal.Gen.facts)
    (hReferenceIdeal := Cert.ReferenceIdeal.Gen.facts) (hPre_finite := Cert.Pre_finite.facts) := by
  letI := Cert.Pre_finite.facts
  intro m g m' g' hp ha
  have H := holds m g hp
  refine ⟨fun c => arr (unblk (out (argQ m c) (argK m c) (argV m c))), fun c => arr (unblk (dq (argQ m c) (argK m c) (argV m c) (argD m c))),
    fun c => arr (unblk (dk (argQ m c) (argK m c) (argV m c) (argD m c))), fun c => arr (unblk (dv (argQ m c) (argK m c) (argD m c))), ?_, ?_⟩
  · refine (θ_run _ _ _).mono (fun r h c => ?_) (Cert.KernelIdeal.Value.run m g)
    have H1 := Cert.KernelIdeal.Value.holds_entry m g (H c)
    have hO := Cert.KernelIdeal.Value.out_entry m g (H c)
    exact ⟨(h c).1.1.trans (Cert.KernelIdeal.Value.out_final (H c)), (h c).1.2.1.trans (Cert.KernelIdeal.Value.dq_final H1 hO),
      (h c).1.2.2.1.trans (Cert.KernelIdeal.Value.dk_final H1 hO), (h c).1.2.2.2.trans (Cert.KernelIdeal.Value.dv_final H1), (h c).2⟩
  · refine (θ_run _ _ _).mono (fun r h c => ?_) (Cert.ReferenceIdeal.Value.run m' g')
    have e0 : ∀ i : Cert.ReferenceIdeal.S4096x1024.Idx, m' ((c.tc : Thread Cert.ReferenceIdeal.nD Cert.ReferenceIdeal.τ).loc Cert.ReferenceIdeal.main_arg0) i
        = ((argQ m c (i 0).val (i 1).val : ℝ) : EReal) := fun i => (congrFun (ha c).1 i).trans ((H c).q i)
    have e1 : ∀ i : Cert.ReferenceIdeal.S4096x256.Idx, m' ((c.tc : Thread Cert.ReferenceIdeal.nD Cert.ReferenceIdeal.τ).loc Cert.ReferenceIdeal.main_arg1) i
        = ((argK m c (i 0).val (i 1).val : ℝ) : EReal) := fun i => (congrFun (ha c).2.1 i).trans ((H c).k i)
    have e2 : ∀ i : Cert.ReferenceIdeal.S4096x256.Idx, m' ((c.tc : Thread Cert.ReferenceIdeal.nD Cert.ReferenceIdeal.τ).loc Cert.ReferenceIdeal.main_arg2) i
        = ((argV m c (i 0).val (i 1).val : ℝ) : EReal) := fun i => (congrFun (ha c).2.2.1 i).trans ((H c).v i)
    have e3 : ∀ i : Cert.ReferenceIdeal.S4096x1024.Idx, m' ((c.tc : Thread Cert.ReferenceIdeal.nD Cert.ReferenceIdeal.τ).loc Cert.ReferenceIdeal.main_arg3) i
        = ((argD m c (i 0).val (i 1).val : ℝ) : EReal) := fun i => (congrFun (ha c).2.2.2 i).trans ((H c).d i)
    refine ⟨(h c).1.trans ?_, (h c).2.1.trans ?_, (h c).2.2.1.trans ?_, (h c).2.2.2.1.trans ?_, (h c).2.2.2.2⟩
    · exact (Cert.ReferenceIdeal.Read.val_main_v43_eq _ _ _).trans (funext fun i => Cert.ReferenceIdeal.Read.out_at e0 e1 e2 i)
    · exact (Cert.ReferenceIdeal.Read.val_main_v70_eq m' c).trans (funext fun i => Cert.ReferenceIdeal.Read.dq_at e0 e1 e2 e3 i)
    · exact (Cert.ReferenceIdeal.Read.val_main_v69_eq m' c).trans (funext fun i => Cert.ReferenceIdeal.Read.dk_at e0 e1 e2 e3 i)
    · exact (Cert.ReferenceIdeal.Read.val_main_v68_eq _ _ _).trans (funext fun i => Cert.ReferenceIdeal.Read.dv_at e0 e1 e3 i)

end Cert.Attn

end
-- ==== Proof.Mlp.Mixer.lean ====
/- The channel mixer of one layer over the extended real numbers: a row scaled by its root mean square, two products with a
   squared ramp between them, and the gradients of all four arguments. Nothing here mentions a program. -/
module

public import Idealize.ShloMosaic.PureOps.Ideal

@[expose] public section

noncomputable section

namespace Cert.Mlp

open Finset Idealize.ShloMosaic

/-- What is added to the mean square of a row. -/
def eps : EReal := ((8796093 / 8796093022208 : ℝ) : EReal)

variable (X : ℕ → ℕ → EReal) (G : ℕ → EReal) (U W D : ℕ → ℕ → EReal)

/-- The mean square of row `p`. -/
def ms (p : ℕ) : EReal := (∑ q : Fin 1024, X p q * X p q) / 1024 + eps

/-- The inverse root of the mean square. -/
def rinv (p : ℕ) : EReal := Ideal.rsqrt (ms X p)

/-- The row over its root mean square. -/
def xh (p q : ℕ) : EReal := X p q * rinv X p

/-- The scaled row. -/
def hid (p q : ℕ) : EReal := X p q * rinv X p * G q

/-- The gradient of the row through its scaling, where `B` is the gradient of the scaled row before the gains. -/
def dnorm (B : ℕ → ℕ → EReal) (p q : ℕ) : EReal :=
  rinv X p * (B p q - xh X p q * ((∑ c : Fin 1024, B p c * xh X p c) / 1024))

/-- The first product. -/
def up (p f : ℕ) : EReal := ∑ q : Fin 1024, hid X G p q * U q f

/-- The ramp of the first product. -/
def act (p f : ℕ) : EReal := max (up X G U p f) 0

/-- The output: the row itself and the second product of the squared ramp. -/
def outp (p c : ℕ) : EReal := X p c + ∑ f : Fin 4096, act X G U p f * act X G U p f * W f c

/-- The gradient of the squared ramp. -/
def dsq (p f : ℕ) : EReal := ∑ c : Fin 1024, D p c * W f c

/-- The gradient of the first product. -/
def dup (p f : ℕ) : EReal := dsq W D p f * (2 * act X G U p f)

/-- The gradient of the scaled row. -/
def dh (p q : ℕ) : EReal := ∑ f : Fin 4096, dup X G U W D p f * U q f

/-- The gradient of the row. -/
def dx (p q : ℕ) : EReal := D p q + dnorm X (fun p q => dh X G U W D p q * G q) p q

/-- The gradient of the gains. -/
def dg (q : ℕ) : EReal := ∑ p : Fin 4096, dh X G U W D p q * xh X p q

/-- The gradient of the first weights. -/
def dwu (q f : ℕ) : EReal := ∑ p : Fin 4096, hid X G p q * dup X G U W D p f

/-- The gradient of the second weights. -/
def dwd (f c : ℕ) : EReal := ∑ p : Fin 4096, act X G U p f * act X G U p f * D p c

theorem eps_pos : 0 < eps := by
  unfold eps
  rw [EReal.coe_pos]
  norm_num

theorem sq_nonneg' (a : EReal) : 0 ≤ a * a := by
  rcases le_total 0 a with h | h
  · exact mul_nonneg h h
  · rw [← neg_mul_neg]
    exact mul_nonneg (EReal.neg_nonneg.mpr h) (EReal.neg_nonneg.mpr h)

theorem ms_pos (p : ℕ) : 0 < ms X p :=
  eps_pos.trans_le (le_add_of_nonneg_left (EReal.div_nonneg (Finset.sum_nonneg fun _ _ => sq_nonneg' _) (by norm_num)))

/-- A real number that is not negative may be taken out of a sum. -/
theorem sum_mul_coe {ι : Type*} (s : Finset ι) (f : ι → EReal) {r : ℝ} (h : 0 ≤ r) : (∑ i ∈ s, f i) * (r : EReal) = ∑ i ∈ s, f i * (r : EReal) := by
  classical
  refine Finset.induction_on s (by simp) fun a s ha ih => ?_
  rw [Finset.sum_insert ha, Finset.sum_insert ha, ← ih]
  exact EReal.right_distrib_of_nonneg_of_ne_top (EReal.coe_nonneg.mpr h) (EReal.coe_ne_top r) _ _

/-- The mean square is infinite, and its inverse root zero, or both are positive real numbers. -/
theorem ms_cases (p : ℕ) : (ms X p = ⊤ ∧ rinv X p = 0) ∨ ∃ m : ℝ, 0 < m ∧ ms X p = (m : EReal) ∧ rinv X p = (((Real.sqrt m)⁻¹ : ℝ) : EReal) := by
  have h := ms_pos X p
  unfold rinv
  generalize ms X p = a at h
  induction a with
  | bot => exact absurd h (by simp)
  | top => exact Or.inl ⟨rfl, rfl⟩
  | coe m =>
    have hm : 0 < m := EReal.coe_pos.mp h
    exact Or.inr ⟨m, hm, rfl, (Ideal.rsqrt_coe m).trans ((if_neg hm.not_gt).trans (if_neg hm.ne'))⟩

/-- A real number that is not negative, or zero in its place, taken out of a sum of products. -/
theorem sum_mul_inv {n : ℕ} (x b : Fin n → EReal) {r : EReal} (h : r = 0 ∨ ∃ ρ : ℝ, 0 ≤ ρ ∧ r = (ρ : EReal)) :
    (∑ c, b c * (x c * r)) = (∑ c, x c * b c) * r := by
  rcases h with rfl | ⟨ρ, hρ, rfl⟩
  · simp
  · rw [sum_mul_coe _ _ hρ]
    exact Finset.sum_congr rfl fun c _ => by rw [← mul_assoc, mul_comm (b c)]

/-- The gradient of a row of `k` columns through its mean square `a`, in the two equal halves the rule for a product gives: `r` is the
    mean square's inverse root and `S` what the row and its gradient have in common. -/
theorem halves {S x b a r : EReal} {k : ℝ} (hk : 0 < k)
    (h : (a = ⊤ ∧ r = 0) ∨ ∃ m : ℝ, 0 < m ∧ a = (m : EReal) ∧ r = (((Real.sqrt m)⁻¹ : ℝ) : EReal)) :
    b * r + x * (S * (((-(1 / 2) : ℝ) : EReal) * (r / a)) / (k : EReal)) + (S * (((-(1 / 2) : ℝ) : EReal) * (r / a)) / (k : EReal)) * x
      = r * (b - x * r * (S * r / (k : EReal))) := by
  rcases h with ⟨_, hr⟩ | ⟨m, hm, hms, hr⟩
  · rw [hr]
    simp
  · set ρ : ℝ := (Real.sqrt m)⁻¹ with hρ
    have hp : 0 < ρ := inv_pos.mpr (Real.sqrt_pos.mpr hm)
    have hmρ : ρ / m = ρ * ρ * ρ := by
      have h2 : ρ * ρ = m⁻¹ := by rw [hρ, ← mul_inv, Real.mul_self_sqrt hm.le]
      rw [h2, div_eq_mul_inv, mul_comm]
    rw [hr, hms]
    have hq : 0 ≤ ρ * ρ * ρ / (2 * k) := by positivity
    have hh : S * (((-(1 / 2) : ℝ) : EReal) * ((ρ : EReal) / (m : EReal))) / (k : EReal) = -S * ((ρ * ρ * ρ / (2 * k) : ℝ) : EReal) := by
      rw [EReal.div_eq_inv_mul, ← EReal.coe_div, hmρ, ← EReal.coe_mul, ← EReal.coe_inv,
        mul_comm, mul_assoc, ← EReal.coe_mul, EReal.neg_mul, mul_comm S, mul_comm S, ← EReal.neg_mul, ← EReal.coe_neg]
      congr 2
      field_simp
    have hd : S * (ρ : EReal) / (k : EReal) = S * ((ρ / k : ℝ) : EReal) := by
      rw [EReal.div_eq_inv_mul, ← EReal.coe_inv, mul_comm, mul_assoc, ← EReal.coe_mul]
      congr 2
    rw [hh, hd, sub_eq_add_neg, EReal.left_distrib_of_nonneg_of_ne_top (EReal.coe_nonneg.mpr hp.le) (EReal.coe_ne_top ρ), add_assoc,
      mul_comm b]
    refine congrArg (((ρ : EReal) * b) + ·) ?_
    rw [mul_comm x (-S * _), mul_right_comm (-S), ← EReal.left_distrib_of_nonneg (EReal.coe_nonneg.mpr hq) (EReal.coe_nonneg.mpr hq),
      ← EReal.coe_add, EReal.neg_mul, EReal.neg_mul, mul_comm _ (-_), EReal.neg_mul]
    refine congrArg (fun z => -z) ?_
    rw [show x * (ρ : EReal) * (S * ((ρ / k : ℝ) : EReal)) = S * x * ((ρ : EReal) * ((ρ / k : ℝ) : EReal)) by
        rw [mul_mul_mul_comm, mul_comm x S], ← EReal.coe_mul, mul_assoc (S * x), ← EReal.coe_mul]
    congr 2
    field_simp
    ring

/-- The gradient of a row of 1024 columns through its mean square. -/
theorem dnorm_halves (B : ℕ → ℕ → EReal) (p q : ℕ) :
    B p q * rinv X p
        + X p q * ((∑ c : Fin 1024, X p c * B p c) * (((-(1 / 2) : ℝ) : EReal) * (rinv X p / ms X p)) / 1024)
        + ((∑ c : Fin 1024, X p c * B p c) * (((-(1 / 2) : ℝ) : EReal) * (rinv X p / ms X p)) / 1024) * X p q
      = dnorm X B p q := by
  unfold dnorm xh
  rw [sum_mul_inv (fun c : Fin 1024 => X p c) (fun c => B p c)
    ((ms_cases X p).imp And.right fun ⟨m, _, _, h⟩ => ⟨_, inv_nonneg.mpr (Real.sqrt_nonneg m), h⟩)]
  exact halves (k := 1024) (by norm_num) (ms_cases X p)

/-- The gradient through a squared ramp: twice the ramp where it rises, nothing where it does not. -/
theorem dup_ite (a s : EReal) : (if 0 < a then max a 0 * s + s * max a 0 else 0) = s * (2 * max a 0) := by
  by_cases h : 0 < a
  · have hn : 0 ≤ max a 0 := le_max_right _ _
    rw [if_pos h, mul_comm (max a 0) s, ← EReal.left_distrib_of_nonneg hn hn, ← one_add_one_eq_two,
      EReal.right_distrib_of_nonneg zero_le_one zero_le_one, one_mul]
  · rw [if_neg h, max_eq_right (not_lt.mp h), mul_zero, mul_zero]

/-- A sum over consecutive runs of one length. -/
theorem sum_runs (φ : ℕ → EReal) (n k : ℕ) : ∑ i ∈ range (n * k), φ i = ∑ j ∈ range n, ∑ a : Fin k, φ (j * k + a) := by
  induction n with
  | zero => simp
  | succ n ih =>
    rw [Nat.succ_mul, Finset.sum_range_add, ih, Finset.sum_range_succ]
    exact congrArg _ (Finset.sum_range fun a => φ (n * k + a))

theorem sum_runs8 (φ : ℕ → EReal) : ∑ i : Fin 4096, φ i = ∑ j ∈ range 8, ∑ a : Fin 512, φ (j * 512 + a) :=
  (Finset.sum_range φ).symm.trans (sum_runs φ 8 512)

theorem sum_runs4 (φ : ℕ → EReal) : ∑ i : Fin 4096, φ i = ∑ j ∈ range 4, ∑ a : Fin 1024, φ (j * 1024 + a) :=
  (Finset.sum_range φ).symm.trans (sum_runs φ 4 1024)

/-! The literals and the quotient of the programs. -/

theorem lit1024 : Ideal.ofBits .f32 0x44800000#32 = (1024 : EReal) := by
  rw [show (1024 : EReal) = ((1024 : ℝ) : EReal) from rfl]
  simp [Ideal.ofBits, Ideal.ieee]
  rw [← EReal.coe_mul]
  norm_num
theorem lit2 : Ideal.ofBits .f32 0x40000000#32 = (2 : EReal) := by
  rw [show (2 : EReal) = ((2 : ℝ) : EReal) from rfl]
  simp [Ideal.ofBits, Ideal.ieee]
  rw [← EReal.coe_mul]
  norm_num
theorem lit_half : Ideal.ofBits .f32 0xBF000000#32 = ((-(1 / 2) : ℝ) : EReal) := by
  simp [Ideal.ofBits, Ideal.ieee]
  rw [← EReal.coe_mul]
  norm_num
theorem lit_eps : Ideal.ofBits .f32 0x358637BD#32 = eps := by
  simp [Ideal.ofBits, Ideal.ieee, eps]
  rw [← EReal.coe_mul]
  norm_num

theorem div_ne {a b : EReal} (h : b ≠ 0) : Ideal.div a b = a / b := by
  rw [Ideal.div, if_neg h, EReal.div_eq_inv_mul, mul_comm]

theorem div1024 (a : EReal) : Ideal.div a (Ideal.ofBits .f32 0x44800000#32) = a / 1024 := by
  rw [lit1024]
  exact div_ne (by norm_num)

/-- The inverse root of a row's mean square. -/
theorem rsqrt_row (X : ℕ → ℕ → EReal) (p : ℕ) :
    Ideal.rsqrt ((∑ q : Fin 1024, X p q * X p q) / 1024 + Ideal.ofBits .f32 0x358637BD#32) = rinv X p := by
  rw [lit_eps]
  rfl

end Cert.Mlp

end
-- ==== Proof.Mlp.Block0.lean ====
/- One block of rows through the forward kernel: the output, the first product and the scaled rows. -/
module

public import proofs.«01_k».proof.Proof.Gen.Kernel2Ideal.Frame
public import proofs.«01_k».proof.Proof.Mlp.Mixer
public import Idealize.ShloMosaic.Lib.Pipeline.ValueKit

@[expose] public section

set_option maxRecDepth 16384

noncomputable section

open Idealize.ShloMosaic Idealize.ShloMosaic.TcCoe Idealize.SL.Sem

namespace Cert.Kernel2Ideal.Value

open Cert.Kernel2Ideal Cert.Kernel2Ideal.Gen Cert.Mlp

variable {X : ℕ → ℕ → EReal} {G : ℕ → EReal} {U W : ℕ → ℕ → EReal}
variable {x0 : Vec Ideal S512x1024 .f32} {x1 : Vec Ideal S1x1024 .f32} {x2 : Vec Ideal S8x1024x512 .bf16} {x3 : Vec Ideal S4096x1024 .bf16}

theorem out0_block (h0 : ∀ (i : Fin 512) (q : Fin 1024), x0 (ix2 i q) = X i.val q.val)
    (h1 : ∀ q : Fin 1024, x1 (ix2 0 q) = G q.val)
    (h2 : ∀ (j : Fin 8) (q : Fin 1024) (a : Fin 512), x2 (ix3 j q a) = (U q.val (j.val * 512 + a.val)))
    (h3 : ∀ (f : Fin 4096) (c : Fin 1024), x3 (ix2 f c) = W f.val c.val) (i : Fin 512) (c : Fin 1024) :
    out0_4 (F := Ideal) x0 x1 x2 x3 (ix2 i c) = outp X G U W i.val c.val := by
  unfold_out out0_4
  canon_tiles x e
  obtain ⟨i', c', rfl⟩ : ∃ (i : Fin 512) (c : Fin 1024), x = (ix2 i c : S512x1024.Idx) := ⟨x 0, x 1, eq_ix2 x⟩
  obtain rfl : i = i' := Fin.ext e0
  obtain rfl : c = c' := Fin.ext e1
  open_payloads
  pointwise
  simp only [h0, h1, h2, h3, div1024, rsqrt_row]
  unfold outp
  rw [sum_runs8 (fun f => act X G U i.val f * act X G U i.val f * W f c.val)]
  simp only [Finset.sum_range_succ, Finset.sum_range_zero, zero_add, ← add_assoc]
  simp only [← add_assoc, Fin.isValue, Nat.reduceMul, Nat.reduceMod, zero_add, Fin.val_zero, Fin.val_one, Fin.val_two,
    Fin.val_ofNat]
  rfl

theorem act0_block (h0 : ∀ (i : Fin 512) (q : Fin 1024), x0 (ix2 i q) = X i.val q.val)
    (h1 : ∀ q : Fin 1024, x1 (ix2 0 q) = G q.val)
    (h2 : ∀ (j : Fin 8) (q : Fin 1024) (a : Fin 512), x2 (ix3 j q a) = (U q.val (j.val * 512 + a.val))) (i : Fin 512) (f : Fin 4096) :
    out0_5 (F := Ideal) x0 x1 x2 x3 (ix2 i f) = up X G U i.val f.val := by
  unfold_out out0_5
  canon_tiles x e
  all_goals
    obtain ⟨a, b, rfl⟩ : ∃ (a : Fin 512) (b : Fin 512), x = (ix2 a b : S512x512.Idx) := ⟨x 0, x 1, eq_ix2 x⟩
    obtain rfl : i = a := Fin.ext e0
    first
    | have hf : f.val = _ + b.val := e1
    | have hf : f.val = 0 + b.val := e1.trans (Nat.zero_add _).symm
    open_payloads
    pointwise
    simp only [h0, h1, h2, div1024, rsqrt_row]
    rw [‹f.val = _ + b.val›]
    rfl

theorem hid0_block (h0 : ∀ (i : Fin 512) (q : Fin 1024), x0 (ix2 i q) = X i.val q.val)
    (h1 : ∀ q : Fin 1024, x1 (ix2 0 q) = G q.val) (i : Fin 512) (q : Fin 1024) :
    out0_6 (F := Ideal) x0 x1 x2 x3 (ix2 i q) = hid X G i.val q.val := by
  unfold_out out0_6
  canon_tiles x e
  obtain ⟨i', c', rfl⟩ : ∃ (i : Fin 512) (c : Fin 1024), x = (ix2 i c : S512x1024.Idx) := ⟨x 0, x 1, eq_ix2 x⟩
  obtain rfl : i = i' := Fin.ext e0
  obtain rfl : q = c' := Fin.ext e1
  open_payloads
  pointwise
  simp only [h0, h1, div1024, rsqrt_row]
  rfl

end Cert.Kernel2Ideal.Value
-- ==== Proof.Mlp.Block1.lean ====
/- One block of rows through the first backward kernel: the gradient of the first product, of the
   rows and, summed over the block's rows, of the gains. -/
module

public import proofs.«01_k».proof.Proof.Gen.Kernel2Ideal.Frame
public import proofs.«01_k».proof.Proof.Mlp.Mixer
public import Idealize.ShloMosaic.Lib.Pipeline.ValueKit

@[expose] public section

set_option maxRecDepth 16384

noncomputable section

open Idealize.ShloMosaic Idealize.ShloMosaic.TcCoe Idealize.SL.Sem

namespace Cert.Kernel2Ideal.Value

open Cert.Kernel2Ideal Cert.Kernel2Ideal.Gen Cert.Mlp

section

variable (x0 x1 : Vec Ideal S512x1024 .f32) (x2 : Vec Ideal S512x4096 .bf16) (x3 : Vec Ideal S1x1024 .f32) (x4 : Vec Ideal S8x1024x512 .bf16)
  (x5 : Vec Ideal S4096x1024 .bf16)

/-- The sum of the products of the first seven slices. -/
def dhTo7 : FVec Ideal S512x1024 .f32 :=
  k1_pay22 (k1_pay4 x1)
    (k1_pay17 (k1_pay4 x1)
      (k1_pay11 (k1_pay4 x1)
        (k1_pay6 x1 (View.ld x5 (Rect.unit ![0, 0] ![512, 1024] inb_S4096x1024_S512x1024_0_0))
          (View.ld x2 (Rect.unit ![0, 0] ![512, 512] inb_S512x4096_S512x512_0_0))
          (View.ld x4 (Rect.unit ![0, 0, 0] ![1, 1024, 512] inb_S8x1024x512_S1x1024x512_0_0_0)))
        (k1_pay7 x1 (View.ld x5 (Rect.unit ![512, 0] ![512, 1024] inb_S4096x1024_S512x1024_512_0)))
        (k1_pay8 (View.ld x2 (Rect.unit ![0, 512] ![512, 512] inb_S512x4096_S512x512_0_512)))
        (FloatOps.ofBits FTy.f32 1073741824#32)
        (View.ld x4 (Rect.unit ![1, 0, 0] ![1, 1024, 512] inb_S8x1024x512_S1x1024x512_1_0_0))
        (View.ld x5 (Rect.unit ![1024, 0] ![512, 1024] inb_S4096x1024_S512x1024_1024_0))
        (View.ld x2 (Rect.unit ![0, 1024] ![512, 512] inb_S512x4096_S512x512_0_1024))
        (View.ld x4 (Rect.unit ![2, 0, 0] ![1, 1024, 512] inb_S8x1024x512_S1x1024x512_2_0_0)))
      (k1_pay12 (k1_pay4 x1) (View.ld x5 (Rect.unit ![1536, 0] ![512, 1024] inb_S4096x1024_S512x1024_1536_0)))
      (k1_pay13 (View.ld x2 (Rect.unit ![0, 1536] ![512, 512] inb_S512x4096_S512x512_0_1536)))
      k1_pay14 (View.ld x4 (Rect.unit ![3, 0, 0] ![1, 1024, 512] inb_S8x1024x512_S1x1024x512_3_0_0))
      (View.ld x5 (Rect.unit ![2048, 0] ![512, 1024] inb_S4096x1024_S512x1024_2048_0))
      (View.ld x2 (Rect.unit ![0, 2048] ![512, 512] inb_S512x4096_S512x512_0_2048))
      (View.ld x4 (Rect.unit ![4, 0, 0] ![1, 1024, 512] inb_S8x1024x512_S1x1024x512_4_0_0)))
    (k1_pay18 (k1_pay4 x1) (View.ld x5 (Rect.unit ![2560, 0] ![512, 1024] inb_S4096x1024_S512x1024_2560_0)))
    (k1_pay19 (View.ld x2 (Rect.unit ![0, 2560] ![512, 512] inb_S512x4096_S512x512_0_2560)))
    (View.ld x4 (Rect.unit ![5, 0, 0] ![1, 1024, 512] inb_S8x1024x512_S1x1024x512_5_0_0))
    (View.ld x5 (Rect.unit ![3072, 0] ![512, 1024] inb_S4096x1024_S512x1024_3072_0))
    (View.ld x2 (Rect.unit ![0, 3072] ![512, 512] inb_S512x4096_S512x512_0_3072))
    (View.ld x4 (Rect.unit ![6, 0, 0] ![1, 1024, 512] inb_S8x1024x512_S1x1024x512_6_0_0))

/-- The gradient of the last slice's squared ramps. -/
def ds8 : FVec Ideal S512x512 .f32 :=
  k1_pay23 (k1_pay4 x1) (View.ld x5 (Rect.unit ![3584, 0] ![512, 1024] inb_S4096x1024_S512x1024_3584_0))

/-- The last slice of the saved first product. -/
def a8 : Vec Ideal S512x512 .bf16 := View.ld x2 (Rect.unit ![0, 3584] ![512, 512] inb_S512x4096_S512x512_0_3584)

/-- The last slice of the first weights. -/
def w8 : Vec Ideal S1x1024x512 .bf16 := View.ld x4 (Rect.unit ![7, 0, 0] ![1, 1024, 512] inb_S8x1024x512_S1x1024x512_7_0_0)

/-- The gradient of the scaled rows. -/
def dhOf : FVec Ideal S512x1024 .f32 := k1_pay25 (dhTo7 x1 x2 x4 x5) (ds8 x1 x5) (a8 x2) (w8 x4)

/-- The gradient of the rows. -/
def dxOf : FVec Ideal S512x1024 .f32 := k1_pay1 x1 (k1_pay29 (dhTo7 x1 x2 x4 x5) (ds8 x1 x5) (a8 x2) (w8 x4) x0 x3)

/-- The block's part of the gradient of the gains. -/
def dgOf : FVec Ideal S1x1024 .f32 := k1_pay28 (dhTo7 x1 x2 x4 x5) (ds8 x1 x5) (a8 x2) (w8 x4) x0

end

variable {X D A : ℕ → ℕ → EReal} {G : ℕ → EReal} {U W : ℕ → ℕ → EReal}
variable {x0 x1 : Vec Ideal S512x1024 .f32} {x2 : Vec Ideal S512x4096 .bf16} {x3 : Vec Ideal S1x1024 .f32} {x4 : Vec Ideal S8x1024x512 .bf16}
  {x5 : Vec Ideal S4096x1024 .bf16}

theorem dh_block (h1 : ∀ (i : Fin 512) (c : Fin 1024), x1 (ix2 i c) = D i.val c.val)
    (h2 : ∀ (i : Fin 512) (f : Fin 4096), x2 (ix2 i f) = up X G U i.val f.val)
    (h4 : ∀ (j : Fin 8) (q : Fin 1024) (a : Fin 512), x4 (ix3 j q a) = (U q.val (j.val * 512 + a.val)))
    (h5 : ∀ (f : Fin 4096) (c : Fin 1024), x5 (ix2 f c) = W f.val c.val) (i : Fin 512) (q : Fin 1024) :
    dhOf x1 x2 x4 x5 (ix2 i q) = dh X G U W D i.val q.val := by
  unfold dhOf dhTo7 ds8 a8 w8
  open_payloads
  pointwise
  simp only [h1, h2, h4, h5, lit2]
  unfold dh
  rw [sum_runs8 (fun f => dup X G U W D i.val f * U q.val f)]
  simp only [Finset.sum_range_succ, Finset.sum_range_zero, zero_add, ← add_assoc, dup, dsq, act]
  simp only [← add_assoc, Fin.isValue, Nat.reduceMul, Nat.reduceMod, zero_add, Fin.val_zero, Fin.val_one, Fin.val_two,
    Fin.val_ofNat]
  rfl

theorem dx_block (h0 : ∀ (i : Fin 512) (c : Fin 1024), x0 (ix2 i c) = X i.val c.val)
    (h1 : ∀ (i : Fin 512) (c : Fin 1024), x1 (ix2 i c) = D i.val c.val)
    (h2 : ∀ (i : Fin 512) (f : Fin 4096), x2 (ix2 i f) = up X G U i.val f.val)
    (h3 : ∀ q : Fin 1024, x3 (ix2 0 q) = G q.val)
    (h4 : ∀ (j : Fin 8) (q : Fin 1024) (a : Fin 512), x4 (ix3 j q a) = (U q.val (j.val * 512 + a.val)))
    (h5 : ∀ (f : Fin 4096) (c : Fin 1024), x5 (ix2 f c) = W f.val c.val) (i : Fin 512) (q : Fin 1024) :
    dxOf x0 x1 x2 x3 x4 x5 (ix2 i q) = dx X G U W D i.val q.val := by
  unfold dxOf k1_pay1 k1_pay29
  rw [show k1_pay25 (dhTo7 x1 x2 x4 x5) (ds8 x1 x5) (a8 x2) (w8 x4) = dhOf x1 x2 x4 x5 from rfl]
  unfold k1_pay27 k1_pay26
  pointwise
  simp only [dh_block h1 h2 h4 h5, h0, h1, h3, div1024, rsqrt_row]
  rfl

theorem dg_block (h0 : ∀ (i : Fin 512) (c : Fin 1024), x0 (ix2 i c) = X i.val c.val)
    (h1 : ∀ (i : Fin 512) (c : Fin 1024), x1 (ix2 i c) = D i.val c.val)
    (h2 : ∀ (i : Fin 512) (f : Fin 4096), x2 (ix2 i f) = up X G U i.val f.val)
    (h4 : ∀ (j : Fin 8) (q : Fin 1024) (a : Fin 512), x4 (ix3 j q a) = (U q.val (j.val * 512 + a.val)))
    (h5 : ∀ (f : Fin 4096) (c : Fin 1024), x5 (ix2 f c) = W f.val c.val) (o : Fin 1) (q : Fin 1024) :
    dgOf x0 x1 x2 x4 x5 (ix2 o q) = (∑ i : Fin 512, dh X G U W D i.val q.val * xh X i.val q.val) := by
  unfold dgOf k1_pay28
  rw [show k1_pay25 (dhTo7 x1 x2 x4 x5) (ds8 x1 x5) (a8 x2) (w8 x4) = dhOf x1 x2 x4 x5 from rfl]
  unfold k1_pay27 k1_pay26
  pointwise
  simp only [dh_block h1 h2 h4 h5, h0, div1024, rsqrt_row]
  rfl

/-! One point of the grid: what it leaves in each output block. -/

variable (V : (c : Dev nD) → (b : Ref sig .tc) → Buf (Elt Ideal) ((c : Thread nD τ).loc b)) (c : Dev nD)

theorem dx_outs (t : Fin cfg1.N) : (outsAt1 (F := Ideal) V c t.val t.isLt).1
    = dxOf (iblk1 V c 0 t) (iblk1 V c 1 t) (iblk1 V c 2 t) (iblk1 V c 3 t) (iblk1 V c 4 t) (iblk1 V c 5 t) := by
  by_cases h0 : t.val % 8 = 0
  · rw [outsAt1_A V c t h0]
    frame_out
    rfl
  · rw [outsAt1_B V c t h0]
    frame_out
    rfl

theorem dob_outs (t : Fin cfg1.N) : (outsAt1 (F := Ideal) V c t.val t.isLt).2.2.1 = k1_pay4 (iblk1 V c 1 t) := by
  by_cases h0 : t.val % 8 = 0
  · rw [outsAt1_A V c t h0]
    frame_out
  · rw [outsAt1_B V c t h0]
    frame_out

theorem dg_outs_A (t : Fin cfg1.N) (h0 : t.val % 8 = 0) : (outsAt1 (F := Ideal) V c t.val t.isLt).2.2.2
    = k1_pay2 (dgOf (iblk1 V c 0 t) (iblk1 V c 1 t) (iblk1 V c 2 t) (iblk1 V c 4 t) (iblk1 V c 5 t)) (k1_pay3 (F := Ideal)) := by
  rw [outsAt1_A V c t h0]
  frame_out
  rfl

theorem dg_outs_B (t : Fin cfg1.N) (h0 : ¬t.val % 8 = 0) : (outsAt1 (F := Ideal) V c t.val t.isLt).2.2.2
    = k1_pay2 (dgOf (iblk1 V c 0 t) (iblk1 V c 1 t) (iblk1 V c 2 t) (iblk1 V c 4 t) (iblk1 V c 5 t))
      (outsAt1 (F := Ideal) V c (t.val - 1) (Nat.lt_of_le_of_lt (Nat.sub_le _ _) t.isLt)).2.2.2 := by
  rw [outsAt1_B V c t h0]
  frame_out
  rfl

theorem da_outs (t : Fin cfg1.N) (h1 : ∀ (i : Fin 512) (c' : Fin 1024), (iblk1 V c 1 t : Vec Ideal S512x1024 .f32) (ix2 i c') = D i.val c'.val)
    (h2 : ∀ (i : Fin 512) (f : Fin 4096), (iblk1 V c 2 t : Vec Ideal S512x4096 .bf16) (ix2 i f) = up X G U i.val f.val)
    (h5 : ∀ (f : Fin 4096) (c' : Fin 1024), (iblk1 V c 5 t : Vec Ideal S4096x1024 .bf16) (ix2 f c') = W f.val c'.val) (i : Fin 512) (f : Fin 4096) :
    (outsAt1 (F := Ideal) V c t.val t.isLt).2.1 (ix2 i f) = dup X G U W D i.val f.val := by
  by_cases h0 : t.val % 8 = 0
  on_goal 1 => rw [outsAt1_A V c t h0]
  on_goal 2 => rw [outsAt1_B V c t h0]
  all_goals
    frame_out
    generalize (iblk1 V c 1 t : Vec Ideal S512x1024 .f32) = x1 at h1 ⊢
    generalize (iblk1 V c 2 t : Vec Ideal S512x4096 .bf16) = x2 at h2 ⊢
    generalize (iblk1 V c 5 t : Vec Ideal S4096x1024 .bf16) = x5 at h5 ⊢
    canon_tiles x e
    all_goals
      obtain ⟨a, b, rfl⟩ : ∃ (a : Fin 512) (b : Fin 512), x = (ix2 a b : S512x512.Idx) := ⟨x 0, x 1, eq_ix2 x⟩
      obtain rfl : i = a := Fin.ext e0
      first
      | have hf : f.val = _ + b.val := e1
      | have hf : f.val = 0 + b.val := e1.trans (Nat.zero_add _).symm
      open_payloads
      pointwise
      simp only [h1, h2, h5, lit2]
      rw [‹f.val = _ + b.val›]
      first | rfl | (simp only [Nat.zero_add]; rfl)

end Cert.Kernel2Ideal.Value
-- ==== Proof.Mlp.Block2.lean ====
/- One block of columns of the two weight gradients. -/
module

public import proofs.«01_k».proof.Proof.Gen.Kernel2Ideal.Frame
public import proofs.«01_k».proof.Proof.Mlp.Mixer
public import Idealize.ShloMosaic.Lib.Pipeline.ValueKit

@[expose] public section

set_option maxRecDepth 16384

noncomputable section

open Idealize.ShloMosaic Idealize.ShloMosaic.TcCoe Idealize.SL.Sem

namespace Cert.Kernel2Ideal.Value

open Cert.Kernel2Ideal Cert.Kernel2Ideal.Gen Cert.Mlp

variable {H E A D : ℕ → ℕ → EReal}
variable {x0 : Vec Ideal S4096x1024 .bf16} {x1 : Vec Ideal S4096x512 .bf16} {x2 : Vec Ideal S4096x512 .bf16} {x3 : Vec Ideal S4096x1024 .bf16}

theorem dwu2_block (h0 : ∀ (p : Fin 4096) (q : Fin 1024), x0 (ix2 p q) = H p.val q.val)
    (h1 : ∀ (p : Fin 4096) (b : Fin 512), x1 (ix2 p b) = E p.val b.val) (o : Fin 1) (q : Fin 1024) (b : Fin 512) :
    out2_4 (F := Ideal) x0 x1 x2 x3 (ix3 o q b) = (∑ p : Fin 4096, H p.val q.val * E p.val b.val) := by
  unfold out2_4
  canon_tiles x e
  obtain ⟨o', q', b', rfl⟩ : ∃ (o : Fin 1) (q : Fin 1024) (b : Fin 512), x = (ix3 o q b : S1x1024x512.Idx) := ⟨x 0, x 1, x 2, eq_ix3 x⟩
  obtain rfl : q = q' := Fin.ext e1
  obtain rfl : b = b' := Fin.ext e2
  open_payloads
  pointwise
  simp only [h0, h1]
  rw [sum_runs4 (fun p => H p q.val * E p b.val)]
  simp only [Finset.sum_range_succ, Finset.sum_range_zero, zero_add]
  simp only [Nat.reduceMul, zero_mul, zero_add, one_mul]

theorem dwd2_block (h2 : ∀ (p : Fin 4096) (b : Fin 512), x2 (ix2 p b) = A p.val b.val)
    (h3 : ∀ (p : Fin 4096) (c : Fin 1024), x3 (ix2 p c) = D p.val c.val) (b : Fin 512) (c : Fin 1024) :
    out2_5 (F := Ideal) x0 x1 x2 x3 (ix2 b c)
      = (∑ p : Fin 4096, max (A p.val b.val) 0 * max (A p.val b.val) 0 * D p.val c.val) := by
  unfold out2_5
  canon_tiles x e
  obtain ⟨b', c', rfl⟩ : ∃ (b : Fin 512) (c : Fin 1024), x = (ix2 b c : S512x1024.Idx) := ⟨x 0, x 1, eq_ix2 x⟩
  obtain rfl : b = b' := Fin.ext e0
  obtain rfl : c = c' := Fin.ext e1
  open_payloads
  pointwise
  simp only [h2, h3]
  rw [sum_runs4 (fun p => max (A p b.val) 0 * max (A p b.val) 0 * D p c.val)]
  simp only [Finset.sum_range_succ, Finset.sum_range_zero, zero_add]
  simp only [Nat.reduceMul, zero_mul, zero_add, one_mul]

end Cert.Kernel2Ideal.Value
-- ==== Proof.Mlp.Array.lean ====
/- What the three kernels leave in their output arrays. A grid point takes 512 rows in the first two
   kernels and 512 columns of the weights in the third. -/
module

public import proofs.«01_k».proof.Proof.Mlp.Block0
public import proofs.«01_k».proof.Proof.Mlp.Block1
public import proofs.«01_k».proof.Proof.Mlp.Block2

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Mlp

/-- The block of rows and columns each window of the forward kernel is at. -/
theorem idx0 : ∀ t : Fin cfg0.N, win0_0.index t = ![t.val, 0] ∧ win0_1.index t = ![0, 0] ∧ win0_2.index t = ![0, 0, 0]
    ∧ win0_3.index t = ![0, 0] ∧ win0_4.index t = ![t.val, 0] ∧ win0_5.index t = ![t.val, 0] ∧ win0_6.index t = ![t.val, 0] :=
  (by decide +kernel : ∀ t : Fin grid0.N, _)

/-- The block of rows and columns each window of the first backward kernel is at. -/
theorem idx1 : ∀ t : Fin cfg1.N, win1_0.index t = ![t.val, 0] ∧ win1_1.index t = ![t.val, 0] ∧ win1_2.index t = ![t.val, 0]
    ∧ win1_3.index t = ![0, 0] ∧ win1_4.index t = ![0, 0, 0] ∧ win1_5.index t = ![0, 0] ∧ win1_6.index t = ![t.val, 0]
    ∧ win1_7.index t = ![t.val, 0] ∧ win1_8.index t = ![t.val, 0] ∧ win1_9.index t = ![0, 0] :=
  (by decide +kernel : ∀ t : Fin grid1.N, _)

/-- The block of rows and columns each window of the second backward kernel is at. -/
theorem idx2 : ∀ t : Fin cfg2.N, win2_0.index t = ![0, 0] ∧ win2_1.index t = ![0, t.val] ∧ win2_2.index t = ![0, t.val]
    ∧ win2_3.index t = ![0, 0] ∧ win2_4.index t = ![t.val, 0, 0] ∧ win2_5.index t = ![t.val, 0] :=
  (by decide +kernel : ∀ t : Fin grid2.N, _)

/-- Rows from the `t`-th block of 512 on. -/
def rows (M : ℕ → ℕ → EReal) (t : ℕ) : ℕ → ℕ → EReal := fun p q => M (t * 512 + p) q

/-- Columns from the `t`-th block of 512 on. -/
def cols (M : ℕ → ℕ → EReal) (t : ℕ) : ℕ → ℕ → EReal := fun p q => M p (t * 512 + q)

variable {V : (c : Dev nD) → (b : Ref sig .tc) → Buf (Elt Ideal) ((c : Thread nD τ).loc b)} {c : Dev nD}
variable {X D : ℕ → ℕ → EReal} {G : ℕ → EReal} {U W : ℕ → ℕ → EReal}

/-! ## The forward kernel -/

section fwd

variable (V c X G U W) in
/-- The arrays the forward kernel reads. -/
structure Holds0 : Prop where
  x : ∀ i, (V c main_arg0 : Vec Ideal S4096x1024 .f32) i = X (i 0).val (i 1).val
  g : ∀ i, (V c main_v4 : Vec Ideal S1x1024 .f32) i = G (i 1).val
  u : ∀ i, (V c main_v2 : Vec Ideal S8x1024x512 .bf16) i = (U (i 1).val ((i 0).val * 512 + (i 2).val))
  w : ∀ i, (V c main_v3 : Vec Ideal S4096x1024 .bf16) i = W (i 0).val (i 1).val

variable (H : Holds0 V c X G U W) (t : Fin cfg0.N)
include H

theorem blk0_x (i : Fin 512) (q : Fin 1024) : (iblk0 V c 0 t : Vec Ideal S512x1024 .f32) (ix2 i q) = rows X t.val i.val q.val := by
  refine (H.x _).trans ?_
  refine congrArg₂ X ?_ ?_ <;> blk_simp [idx0 t]
theorem blk0_g (q : Fin 1024) : (iblk0 V c 1 t : Vec Ideal S1x1024 .f32) (ix2 0 q) = G q.val := by
  refine (H.g _).trans ?_
  refine congrArg G ?_
  blk_simp [idx0 t]
theorem blk0_u (j : Fin 8) (q : Fin 1024) (a : Fin 512) :
    (iblk0 V c 2 t : Vec Ideal S8x1024x512 .bf16) (ix3 j q a) = (U q.val (j.val * 512 + a.val)) := by
  refine (H.u _).trans ?_
  refine congrArg₂ U ?_ ?_ <;> blk_simp [idx0 t]
theorem blk0_w (f : Fin 4096) (q : Fin 1024) : (iblk0 V c 3 t : Vec Ideal S4096x1024 .bf16) (ix2 f q) = W f.val q.val := by
  refine (H.w _).trans ?_
  refine congrArg₂ W ?_ ?_ <;> blk_simp [idx0 t]

omit t in
/-- The output. -/
theorem out0_final : (dat0 (F := Ideal) V c).arrAt 4 cfg0.N
    = (fun i => outp X G U W (i 0).val (i 1).val : Vec Ideal S4096x1024 .f32) := by
  refine (dat0 V c).arrAt_eq_of_covers 4 _ (by decide +kernel) fun t hf y => ?_
  blk_simp
  rw [after0_4]
  obtain ⟨i, q, rfl⟩ : ∃ (i : Fin 512) (q : Fin 1024), y = (ix2 i q : S512x1024.Idx) := ⟨y 0, y 1, eq_ix2 y⟩
  refine (out0_block (blk0_x H t) (blk0_g H t) (blk0_u H t) (blk0_w H t) i q).trans ?_
  refine (show _ = outp X G U W (t.val * 512 + i.val) q.val from rfl).trans ?_
  refine congrArg₂ (outp X G U W) ?_ ?_ <;> blk_simp [idx0 t]

omit t in
/-- The first product. -/
theorem act0_final : (dat0 (F := Ideal) V c).arrAt 5 cfg0.N
    = (fun i => up X G U (i 0).val (i 1).val : Vec Ideal S4096x4096 .bf16) := by
  refine (dat0 V c).arrAt_eq_of_covers 5 _ (by decide +kernel) fun t hf y => ?_
  blk_simp
  rw [after0_5]
  obtain ⟨i, q, rfl⟩ : ∃ (i : Fin 512) (q : Fin 4096), y = (ix2 i q : S512x4096.Idx) := ⟨y 0, y 1, eq_ix2 y⟩
  refine (act0_block (blk0_x H t) (blk0_g H t) (blk0_u H t) i q).trans ?_
  refine (show _ = up X G U (t.val * 512 + i.val) q.val from rfl).trans ?_
  refine congrArg₂ (up X G U) ?_ ?_ <;> blk_simp [idx0 t]

omit t in
/-- The scaled rows. -/
theorem hid0_final : (dat0 (F := Ideal) V c).arrAt 6 cfg0.N
    = (fun i => hid X G (i 0).val (i 1).val : Vec Ideal S4096x1024 .bf16) := by
  refine (dat0 V c).arrAt_eq_of_covers 6 _ (by decide +kernel) fun t hf y => ?_
  blk_simp
  rw [after0_6]
  obtain ⟨i, q, rfl⟩ : ∃ (i : Fin 512) (q : Fin 1024), y = (ix2 i q : S512x1024.Idx) := ⟨y 0, y 1, eq_ix2 y⟩
  refine (hid0_block (blk0_x H t) (blk0_g H t) i q).trans ?_
  refine (show _ = hid X G (t.val * 512 + i.val) q.val from rfl).trans ?_
  refine congrArg₂ (hid X G) ?_ ?_ <;> blk_simp [idx0 t]

end fwd

/-! ## The first backward kernel -/

section bwd

variable (V c X D G U W) in
/-- The arrays the first backward kernel reads. -/
structure Holds1 : Prop where
  x : ∀ i, (V c main_arg0 : Vec Ideal S4096x1024 .f32) i = X (i 0).val (i 1).val
  d : ∀ i, (V c main_arg4 : Vec Ideal S4096x1024 .f32) i = D (i 0).val (i 1).val
  a : ∀ i, (V c main_v5_1 : Vec Ideal S4096x4096 .bf16) i = up X G U (i 0).val (i 1).val
  g : ∀ i, (V c main_v6 : Vec Ideal S1x1024 .f32) i = G (i 1).val
  u : ∀ i, (V c main_v2 : Vec Ideal S8x1024x512 .bf16) i = (U (i 1).val ((i 0).val * 512 + (i 2).val))
  w : ∀ i, (V c main_v3 : Vec Ideal S4096x1024 .bf16) i = W (i 0).val (i 1).val

variable (H : Holds1 V c X D G U W) (t : Fin cfg1.N)
include H

theorem blk1_x (i : Fin 512) (q : Fin 1024) : (iblk1 V c 0 t : Vec Ideal S512x1024 .f32) (ix2 i q) = rows X t.val i.val q.val := by
  refine (H.x _).trans ?_
  refine congrArg₂ X ?_ ?_ <;> blk_simp [idx1 t]
theorem blk1_d (i : Fin 512) (q : Fin 1024) : (iblk1 V c 1 t : Vec Ideal S512x1024 .f32) (ix2 i q) = rows D t.val i.val q.val := by
  refine (H.d _).trans ?_
  refine congrArg₂ D ?_ ?_ <;> blk_simp [idx1 t]
theorem blk1_a (i : Fin 512) (f : Fin 4096) :
    (iblk1 V c 2 t : Vec Ideal S512x4096 .bf16) (ix2 i f) = up (rows X t.val) G U i.val f.val := by
  refine (H.a _).trans ?_
  refine Eq.trans ?_ (show up X G U (t.val * 512 + i.val) f.val = _ from rfl)
  refine congrArg₂ (up X G U) ?_ ?_ <;> blk_simp [idx1 t]
theorem blk1_g (q : Fin 1024) : (iblk1 V c 3 t : Vec Ideal S1x1024 .f32) (ix2 0 q) = G q.val := by
  refine (H.g _).trans ?_
  refine congrArg G ?_
  blk_simp [idx1 t]
theorem blk1_u (j : Fin 8) (q : Fin 1024) (a : Fin 512) :
    (iblk1 V c 4 t : Vec Ideal S8x1024x512 .bf16) (ix3 j q a) = (U q.val (j.val * 512 + a.val)) := by
  refine (H.u _).trans ?_
  refine congrArg₂ U ?_ ?_ <;> blk_simp [idx1 t]
theorem blk1_w (f : Fin 4096) (q : Fin 1024) : (iblk1 V c 5 t : Vec Ideal S4096x1024 .bf16) (ix2 f q) = W f.val q.val := by
  refine (H.w _).trans ?_
  refine congrArg₂ W ?_ ?_ <;> blk_simp [idx1 t]

omit t in
/-- The gradient of the rows. -/
theorem dx_final : (dat1 (F := Ideal) V c).arrAt 6 cfg1.N
    = (fun i => dx X G U W D (i 0).val (i 1).val : Vec Ideal S4096x1024 .f32) := by
  refine (dat1 V c).arrAt_eq_of_covers 6 _ (by decide +kernel) fun t hf y => ?_
  blk_simp
  rw [after1_6, dx_outs]
  obtain ⟨i, q, rfl⟩ : ∃ (i : Fin 512) (q : Fin 1024), y = (ix2 i q : S512x1024.Idx) := ⟨y 0, y 1, eq_ix2 y⟩
  refine (dx_block (blk1_x H t) (blk1_d H t) (blk1_a H t) (blk1_g H t) (blk1_u H t) (blk1_w H t) i q).trans
    ?_
  refine (show _ = dx X G U W D (t.val * 512 + i.val) q.val from rfl).trans ?_
  refine congrArg₂ (dx X G U W D) ?_ ?_ <;> blk_simp [idx1 t]

omit t in
/-- The gradient of the first product. -/
theorem da_final : (dat1 (F := Ideal) V c).arrAt 7 cfg1.N
    = (fun i => dup X G U W D (i 0).val (i 1).val : Vec Ideal S4096x4096 .bf16) := by
  refine (dat1 V c).arrAt_eq_of_covers 7 _ (by decide +kernel) fun t hf y => ?_
  blk_simp
  rw [after1_7]
  obtain ⟨i, q, rfl⟩ : ∃ (i : Fin 512) (q : Fin 4096), y = (ix2 i q : S512x4096.Idx) := ⟨y 0, y 1, eq_ix2 y⟩
  refine (da_outs V c t (blk1_d H t) (blk1_a H t) (blk1_w H t) i q).trans ?_
  refine (show _ = dup X G U W D (t.val * 512 + i.val) q.val from rfl).trans ?_
  refine congrArg₂ (dup X G U W D) ?_ ?_ <;> blk_simp [idx1 t]

omit t in
/-- The output's gradient, as it is kept for the second backward kernel. -/
theorem dob_final : (dat1 (F := Ideal) V c).arrAt 8 cfg1.N
    = (fun i => D (i 0).val (i 1).val : Vec Ideal S4096x1024 .bf16) := by
  refine (dat1 V c).arrAt_eq_of_covers 8 _ (by decide +kernel) fun t hf y => ?_
  blk_simp
  rw [after1_8, dob_outs]
  obtain ⟨i, q, rfl⟩ : ∃ (i : Fin 512) (q : Fin 1024), y = (ix2 i q : S512x1024.Idx) := ⟨y 0, y 1, eq_ix2 y⟩
  refine (blk1_d H t i q).trans ?_
  refine congrArg₂ D ?_ ?_ <;> blk_simp [idx1 t]

/-- What block `u` of rows adds to the gradient of gain `q`. -/
def dgPart (X : ℕ → ℕ → EReal) (G : ℕ → EReal) (U W D : ℕ → ℕ → EReal) (q u : ℕ) : EReal :=
  ∑ i : Fin 512, dh X G U W D (u * 512 + i.val) q * xh X (u * 512 + i.val) q

omit t in
/-- The block of the gains' gradient holds the sum over the rows so far. -/
theorem dg_acc (q : Fin 1024) : ∀ (n : ℕ) (hn : n < cfg1.N), (outsAt1 (F := Ideal) V c n hn).2.2.2 (ix2 0 q)
    = (∑ u ∈ Finset.range (n + 1), dgPart X G U W D q.val u) := by
  intro n
  induction n with
  | zero =>
    intro hn
    rw [dg_outs_A V c ⟨0, hn⟩ (Nat.zero_mod _)]
    unfold k1_pay2 k1_pay3
    pointwise
    refine (dg_block (blk1_x H ⟨0, hn⟩) (blk1_d H ⟨0, hn⟩) (blk1_a H ⟨0, hn⟩) (blk1_u H ⟨0, hn⟩) (blk1_w H ⟨0, hn⟩) 0 q).trans ?_
    rw [Finset.sum_range_one]
    rfl
  | succ m ih =>
    intro hn
    have hN : cfg1.N = 8 := N_1
    rw [dg_outs_B V c ⟨m + 1, hn⟩ (by simp only; omega)]
    unfold k1_pay2
    pointwise
    rw [dg_block (blk1_x H ⟨m + 1, hn⟩) (blk1_d H ⟨m + 1, hn⟩) (blk1_a H ⟨m + 1, hn⟩) (blk1_u H ⟨m + 1, hn⟩) (blk1_w H ⟨m + 1, hn⟩)]
    refine (congrArg (· + _) (ih (by omega))).trans ?_
    rw [Finset.sum_range_succ _ (m + 1)]
    rfl

omit t in
/-- The gradient of the gains. -/
theorem dg_final : (dat1 (F := Ideal) V c).arrAt 9 cfg1.N
    = (fun i => dg X G U W D (i 1).val : Vec Ideal S1x1024 .f32) := by
  refine (dat1 V c).arrAt_eq_of_covers 9 _ (by decide +kernel) fun t hf y => ?_
  blk_simp
  have h3 := (flush1_9 t).mp hf
  rw [after1_9]
  obtain ⟨o, q, rfl⟩ : ∃ (o : Fin 1) (q : Fin 1024), y = (ix2 o q : S1x1024.Idx) := ⟨y 0, y 1, eq_ix2 y⟩
  obtain rfl : o = 0 := Subsingleton.elim _ _
  refine (dg_acc H q t.val t.isLt).trans ?_
  have hN : cfg1.N = 8 := N_1
  rw [show t.val + 1 = 8 by omega]
  refine ((sum_runs8 (fun p => dh X G U W D p q.val * xh X p q.val)).symm.trans (show _ = dg X G U W D q.val from rfl)).trans ?_
  refine congrArg (dg X G U W D) ?_
  blk_simp [idx1 t]

end bwd

/-! ## The second backward kernel -/

section wgt

variable (V c X D G U W) in
/-- The arrays the second backward kernel reads. -/
structure Holds2 : Prop where
  h : ∀ i, (V c main_v5_2 : Vec Ideal S4096x1024 .bf16) i = hid X G (i 0).val (i 1).val
  e : ∀ i, (V c main_v7_1 : Vec Ideal S4096x4096 .bf16) i = dup X G U W D (i 0).val (i 1).val
  a : ∀ i, (V c main_v5_1 : Vec Ideal S4096x4096 .bf16) i = up X G U (i 0).val (i 1).val
  d : ∀ i, (V c main_v7_2 : Vec Ideal S4096x1024 .bf16) i = D (i 0).val (i 1).val

variable (H : Holds2 V c X D G U W) (t : Fin cfg2.N)
include H

theorem blk2_h (p : Fin 4096) (q : Fin 1024) : (iblk2 V c 0 t : Vec Ideal S4096x1024 .bf16) (ix2 p q) = hid X G p.val q.val := by
  refine (H.h _).trans ?_
  refine congrArg₂ (hid X G) ?_ ?_ <;> blk_simp [idx2 t]
theorem blk2_e (p : Fin 4096) (b : Fin 512) :
    (iblk2 V c 1 t : Vec Ideal S4096x512 .bf16) (ix2 p b) = cols (dup X G U W D) t.val p.val b.val := by
  refine (H.e _).trans ?_
  refine congrArg₂ (dup X G U W D) ?_ ?_ <;> blk_simp [idx2 t]
theorem blk2_a (p : Fin 4096) (b : Fin 512) :
    (iblk2 V c 2 t : Vec Ideal S4096x512 .bf16) (ix2 p b) = cols (up X G U) t.val p.val b.val := by
  refine (H.a _).trans ?_
  refine congrArg₂ (up X G U) ?_ ?_ <;> blk_simp [idx2 t]
theorem blk2_d (p : Fin 4096) (q : Fin 1024) : (iblk2 V c 3 t : Vec Ideal S4096x1024 .bf16) (ix2 p q) = D p.val q.val := by
  refine (H.d _).trans ?_
  refine congrArg₂ D ?_ ?_ <;> blk_simp [idx2 t]

omit t in
/-- The gradient of the first weights, by column slices. -/
theorem dwu_final : (dat2 (F := Ideal) V c).arrAt 4 cfg2.N
    = (fun i => (dwu X G U W D (i 1).val ((i 0).val * 512 + (i 2).val)) : Vec Ideal S8x1024x512 .bf16) := by
  refine (dat2 V c).arrAt_eq_of_covers 4 _ (by decide +kernel) fun t hf y => ?_
  blk_simp
  rw [after2_4]
  obtain ⟨o, q, b, rfl⟩ : ∃ (o : Fin 1) (q : Fin 1024) (b : Fin 512), y = (ix3 o q b : S1x1024x512.Idx) := ⟨y 0, y 1, y 2, eq_ix3 y⟩
  refine (dwu2_block (blk2_h H t) (blk2_e H t) o q b).trans ?_
  refine (show _ = dwu X G U W D q.val (t.val * 512 + b.val) from rfl).trans ?_
  refine congrArg₂ (dwu X G U W D) ?_ ?_ <;> blk_simp [idx2 t]

omit t in
/-- The gradient of the second weights. -/
theorem dwd_final : (dat2 (F := Ideal) V c).arrAt 5 cfg2.N
    = (fun i => dwd X G U D (i 0).val (i 1).val : Vec Ideal S4096x1024 .bf16) := by
  refine (dat2 V c).arrAt_eq_of_covers 5 _ (by decide +kernel) fun t hf y => ?_
  blk_simp
  rw [after2_5]
  obtain ⟨b, q, rfl⟩ : ∃ (b : Fin 512) (q : Fin 1024), y = (ix2 b q : S512x1024.Idx) := ⟨y 0, y 1, eq_ix2 y⟩
  refine (dwd2_block (blk2_a H t) (blk2_d H t) b q).trans ?_
  refine (show _ = dwd X G U D (t.val * 512 + b.val) q.val from rfl).trans ?_
  refine congrArg₂ (dwd X G U D) ?_ ?_ <;> blk_simp [idx2 t]

end wgt

end Cert.Kernel2Ideal.Value
-- ==== Proof.Mlp.Run.lean ====
/- The run of the three calls, naming what every result array ends with, and the arrays each call reads as the host operations
   and the earlier calls leave them. -/
module

public import proofs.«01_k».proof.Proof.Gen.Kernel2Ideal.Frame
public import proofs.«01_k».proof.Proof.Mlp.Array

@[expose] public section

set_option maxRecDepth 16384

noncomputable section

namespace Cert.Kernel2Ideal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

section
variable {F : FTy → Type} [FloatOps F] [Named F]
variable (m : (ℓ : Loc nD τ sig) → Buf (Elt F) ℓ) (ρ : Dev nD → PrngReg)

set_option backward.isDefEq.respectTransparency.types false in
/-- From any memory with zero counters every weakly fair execution terminates with every result array at the last
    boundary's contents and the arguments as launched. -/
theorem run : θ_run defs (onTc (τ := τ) (main (F := F))) ⟨m, fun _ => 0, ρ⟩ (fun r => ∀ c : Dev nD,
      (r.2.mem ((c.tc : Thread nD τ).loc main_v5_0) = (dat0 (V1 m ρ) c).arrAt 4 cfg0.N
      ∧ r.2.mem ((c.tc : Thread nD τ).loc main_v7_0) = (dat1 (V3 m ρ) c).arrAt 6 cfg1.N
      ∧ r.2.mem ((c.tc : Thread nD τ).loc main_v9) = W6 m ρ c (Proc.devRef .tc main_v9)
      ∧ r.2.mem ((c.tc : Thread nD τ).loc main_v11) = W6 m ρ c (Proc.devRef .tc main_v11)
      ∧ r.2.mem ((c.tc : Thread nD τ).loc main_v8_1) = (dat2 (V4 m ρ) c).arrAt 5 cfg2.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => fun c =>
      ⟨⟨((((((h c _ (mem_uc main_v5_0 (by decide))).trans (W6_of m ρ c main_v5_0 (by decide +kernel))).trans
            (W5_of m ρ c main_v5_0 (by decide +kernel))).trans (W4_of m ρ c main_v5_0 (by decide +kernel))).trans
            (W3_of m ρ c main_v5_0 (by decide +kernel))).trans (W2_arr m ρ c 4)),
        (((h c _ (mem_uc main_v7_0 (by decide))).trans (W6_of m ρ c main_v7_0 (by decide +kernel))).trans
            (W5_of m ρ c main_v7_0 (by decide +kernel))).trans (W4_arr m ρ c 6),
        h c _ (mem_uc main_v9 (by decide)),
        h c _ (mem_uc main_v11 (by decide)),
        ((h c _ (mem_uc main_v8_1 (by decide))).trans (W6_of m ρ c main_v8_1 (by decide +kernel))).trans (W5_arr m ρ c 5)⟩,
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

/-! ## What the host operations leave -/

/-- The first weights, rounded and cut into eight slices of columns. -/
theorem host_u (c : Dev nD) : W1 m ρ c (Proc.devRef .tc main_v2)
    = (transpose S8x1024x512 [1, 0, 2] (shapeCast S1024x8x512 (truncf .bf16 (m ((c.tc : Thread nD τ).loc main_arg2)
        : FVec F S1024x4096 .f32) bitsLt_bf16_f32 : FVec F S1024x4096 .bf16) shapeCasts_S1024x4096_S1024x8x512)
        transposes_S1024x8x512_S8x1024x512_1_0_2 : FVec F S8x1024x512 .bf16) := by
  show StableHlo.after hostOps0 (W0 m ρ c) _ = _
  simp only [hostOps0, StableHlo.TRef.toBuf, StableHlo.TRef.ofBuf, cast_eq]
  after_results_simp <;> rfl

/-- The second weights, rounded. -/
theorem host_w (c : Dev nD) : W1 m ρ c (Proc.devRef .tc main_v3)
    = (truncf .bf16 (m ((c.tc : Thread nD τ).loc main_arg3) : FVec F S4096x1024 .f32) bitsLt_bf16_f32 : FVec F S4096x1024 .bf16) := by
  show StableHlo.after hostOps0 (W0 m ρ c) _ = _
  simp only [hostOps0, StableHlo.TRef.toBuf, StableHlo.TRef.ofBuf, cast_eq]
  after_results_simp <;> rfl

/-- The gains as a row, for the forward call. -/
theorem host_g (c : Dev nD) : W1 m ρ c (Proc.devRef .tc main_v4)
    = (broadcastInDim S1x1024 ![1] bcast_S1024_S1x1024_1 (m ((c.tc : Thread nD τ).loc main_arg1) : FVec F S1024 .f32) : FVec F S1x1024 .f32) := by
  show StableHlo.after hostOps0 (W0 m ρ c) _ = _
  simp only [hostOps0, StableHlo.TRef.toBuf, StableHlo.TRef.ofBuf, cast_eq]
  after_results_simp <;> rfl

/-- The gains as a row, for the backward call. -/
theorem host_g' (c : Dev nD) : W3 m ρ c (Proc.devRef .tc main_v6)
    = (broadcastInDim S1x1024 ![1] bcast_S1024_S1x1024_1 (W2 m ρ c (Proc.devRef .tc main_arg1) : FVec F S1024 .f32) : FVec F S1x1024 .f32) := by
  show StableHlo.after hostOps1 (W2 m ρ c) _ = _
  simp only [hostOps1, StableHlo.TRef.toBuf, StableHlo.TRef.ofBuf, cast_eq]
  after_results_simp <;> rfl

/-- The gradient of the gains, as a vector. -/
theorem host_dg (c : Dev nD) : W6 m ρ c (Proc.devRef .tc main_v9)
    = (shapeCast S1024 (W5 m ρ c (Proc.devRef .tc main_v7_3) : FVec F S1x1024 .f32) shapeCasts_S1x1024_S1024 : FVec F S1024 .f32) := by
  show StableHlo.after hostOps3 (W5 m ρ c) _ = _
  simp only [hostOps3, StableHlo.TRef.toBuf, StableHlo.TRef.ofBuf, cast_eq]
  after_results_simp <;> rfl

/-- The gradient of the first weights, its eight slices side by side. -/
theorem host_dwu (c : Dev nD) : W6 m ρ c (Proc.devRef .tc main_v11)
    = (shapeCast S1024x4096 (transpose S1024x8x512 [1, 0, 2] (W5 m ρ c (Proc.devRef .tc main_v8_0) : FVec F S8x1024x512 .bf16)
        transposes_S8x1024x512_S1024x8x512_1_0_2 : FVec F S1024x8x512 .bf16) shapeCasts_S1024x8x512_S1024x4096 : FVec F S1024x4096 .bf16) := by
  show StableHlo.after hostOps3 (W5 m ρ c) _ = _
  simp only [hostOps3, StableHlo.TRef.toBuf, StableHlo.TRef.ofBuf, cast_eq]
  after_results_simp <;> rfl

end

section
open Cert.Mlp
variable (m : (ℓ : Loc nD τ sig) → Buf (Elt Ideal) ℓ) (ρ : Dev nD → PrngReg)
variable (X D : ℕ → ℕ → EReal) (G : ℕ → EReal) (U W : ℕ → ℕ → EReal) (c : Dev nD)

/-- The numbers the arguments hold. -/
structure Args : Prop where
  x : ∀ i, (m ((c.tc : Thread nD τ).loc main_arg0) : FVec Ideal S4096x1024 .f32) i = X (i 0).val (i 1).val
  g : ∀ i, (m ((c.tc : Thread nD τ).loc main_arg1) : FVec Ideal S1024 .f32) i = G (i 0).val
  u : ∀ i, (m ((c.tc : Thread nD τ).loc main_arg2) : FVec Ideal S1024x4096 .f32) i = U (i 0).val (i 1).val
  w : ∀ i, (m ((c.tc : Thread nD τ).loc main_arg3) : FVec Ideal S4096x1024 .f32) i = W (i 0).val (i 1).val
  d : ∀ i, (m ((c.tc : Thread nD τ).loc main_arg4) : FVec Ideal S4096x1024 .f32) i = D (i 0).val (i 1).val

variable {m X D G U W c}

/-- The gains read as a row. -/
theorem row_at {y : FVec Ideal S1024 .f32} (h : ∀ i, y i = G (i 0).val) (i : S1x1024.Idx) :
    (broadcastInDim S1x1024 ![1] bcast_S1024_S1x1024_1 y : FVec Ideal S1x1024 .f32) i = G (i 1).val :=
  (broadcastInDim_apply _ bcast_S1024_S1x1024_1 y i (fun a => match a with | ⟨0, _⟩ => ⟨(i 1).val, (i 1).isLt⟩) (fun a => match a with
    | ⟨0, _⟩ => by show (i 1).val = if (1024 : Nat) = 1 then 0 else (i 1).val; rw [if_neg (by decide)])).trans (h _)

/-- The sliced first weights at an index. -/
theorem slices_at (H : Args m X D G U W c) (i : S8x1024x512.Idx) :
    (W1 m ρ c (Proc.devRef .tc main_v2) : FVec Ideal S8x1024x512 .bf16) i = (U (i 1).val ((i 0).val * 512 + (i 2).val)) := by
  have b0 : (i 0).val < 8 := (i 0).isLt
  have b1 : (i 1).val < 1024 := (i 1).isLt
  have b2 : (i 2).val < 512 := (i 2).isLt
  refine (congrFun (host_u m ρ c) i).trans ?_
  refine (transpose_apply [1, 0, 2] _ transposes_S1024x8x512_S8x1024x512_1_0_2 i
    (fun a => match a with | ⟨0, _⟩ => ⟨(i 1).val, (i 1).isLt⟩ | ⟨1, _⟩ => ⟨(i 0).val, (i 0).isLt⟩ | ⟨2, _⟩ => ⟨(i 2).val, (i 2).isLt⟩)
    (fun b => match b with | ⟨0, _⟩ => rfl | ⟨1, _⟩ => rfl | ⟨2, _⟩ => rfl)).trans ?_
  refine (shapeCast_apply _ shapeCasts_S1024x4096_S1024x8x512 _
    (fun a => match a with | ⟨0, _⟩ => ⟨(i 1).val, (i 1).isLt⟩ | ⟨1, _⟩ => ⟨(i 0).val * 512 + (i 2).val, by show _ < 4096; omega⟩)
    (by rewrite [Shape.rowMajor_val_two, Shape.rowMajor_val_three]
        show (i 1).val * 4096 + ((i 0).val * 512 + (i 2).val) = ((i 1).val * 8 + (i 0).val) * 512 + (i 2).val
        omega)).trans ?_
  exact H.u _

/-- What the forward call reads. -/
theorem entry0 (H : Args m X D G U W c) : Holds0 (V1 m ρ) c X G U W where
  x i := (congrFun (W1_of m ρ c main_arg0 (by decide +kernel)) i).trans (H.x i)
  g i := (congrFun (host_g m ρ c) i).trans (row_at H.g i)
  u i := slices_at ρ H i
  w i := (congrFun (host_w m ρ c) i).trans (H.w i)

/-- What the first backward call reads. -/
theorem entry1 (H : Args m X D G U W c) : Holds1 (V3 m ρ) c X D G U W where
  x i := (congrFun (W3_args m ρ c main_arg0 (by decide)) i).trans (H.x i)
  d i := (congrFun (W3_args m ρ c main_arg4 (by decide)) i).trans (H.d i)
  a i := (congrFun ((W3_of m ρ c main_v5_1 (by decide +kernel)).trans (W2_arr m ρ c 5)) i).trans (congrFun (act0_final (entry0 ρ H)) i)
  g i := (congrFun (host_g' m ρ c) i).trans (row_at (fun j => (congrFun (W2_args m ρ c main_arg1 (by decide)) j).trans (H.g j)) i)
  u i := (congrFun ((W3_of m ρ c main_v2 (by decide +kernel)).trans (W2_of m ρ c main_v2 (by decide +kernel))) i).trans (slices_at ρ H i)
  w i := (congrFun ((W3_of m ρ c main_v3 (by decide +kernel)).trans (W2_of m ρ c main_v3 (by decide +kernel))) i).trans
    ((congrFun (host_w m ρ c) i).trans (H.w i))

/-- What the second backward call reads. -/
theorem entry2 (H : Args m X D G U W c) : Holds2 (V4 m ρ) c X D G U W where
  h i := (congrFun (((W4_of m ρ c main_v5_2 (by decide +kernel)).trans (W3_of m ρ c main_v5_2 (by decide +kernel))).trans (W2_arr m ρ c 6)) i).trans
    (congrFun (hid0_final (entry0 ρ H)) i)
  e i := (congrFun (W4_arr m ρ c 7) i).trans (congrFun (da_final (entry1 ρ H)) i)
  a i := (congrFun (((W4_of m ρ c main_v5_1 (by decide +kernel)).trans (W3_of m ρ c main_v5_1 (by decide +kernel))).trans (W2_arr m ρ c 5)) i).trans
    (congrFun (act0_final (entry0 ρ H)) i)
  d i := (congrFun (W4_arr m ρ c 8) i).trans (congrFun (dob_final (entry1 ρ H)) i)

/-- The gradient of the gains at the end. -/
theorem dg_end (H : Args m X D G U W c) (i : S1024.Idx) :
    (W6 m ρ c (Proc.devRef .tc main_v9) : FVec Ideal S1024 .f32) i = dg X G U W D (i 0).val := by
  refine (congrFun (host_dg m ρ c) i).trans ?_
  refine (shapeCast_apply _ shapeCasts_S1x1024_S1024 i
    (fun a => match a with | ⟨0, _⟩ => ⟨0, Nat.one_pos⟩ | ⟨1, _⟩ => ⟨(i 0).val, (i 0).isLt⟩)
    (by rewrite [Shape.rowMajor_val_two, Shape.rowMajor_val_one]
        show 0 * 1024 + (i 0).val = (i 0).val
        omega)).trans ?_
  exact (congrFun ((W5_of m ρ c main_v7_3 (by decide +kernel)).trans (W4_arr m ρ c 9)) _).trans (congrFun (dg_final (entry1 ρ H)) _)

/-- The gradient of the first weights at the end. -/
theorem dwu_end (H : Args m X D G U W c) (i : S1024x4096.Idx) :
    (W6 m ρ c (Proc.devRef .tc main_v11) : FVec Ideal S1024x4096 .bf16) i = dwu X G U W D (i 0).val (i 1).val := by
  have b0 : (i 0).val < 1024 := (i 0).isLt
  have b1 : (i 1).val < 4096 := (i 1).isLt
  refine (congrFun (host_dwu m ρ c) i).trans ?_
  refine (shapeCast_apply _ shapeCasts_S1024x8x512_S1024x4096 i
    (fun a => match a with | ⟨0, _⟩ => ⟨(i 0).val, (i 0).isLt⟩ | ⟨1, _⟩ => ⟨(i 1).val / 512, by show _ < 8; omega⟩ | ⟨2, _⟩ => ⟨(i 1).val % 512, by show _ < 512; omega⟩)
    (by rewrite [Shape.rowMajor_val_three, Shape.rowMajor_val_two]
        show ((i 0).val * 8 + (i 1).val / 512) * 512 + (i 1).val % 512 = (i 0).val * 4096 + (i 1).val
        omega)).trans ?_
  refine (transpose_apply [1, 0, 2] _ transposes_S8x1024x512_S1024x8x512_1_0_2 _
    (fun a => match a with | ⟨0, _⟩ => ⟨(i 1).val / 512, by show _ < 8; omega⟩ | ⟨1, _⟩ => ⟨(i 0).val, (i 0).isLt⟩ | ⟨2, _⟩ => ⟨(i 1).val % 512, by show _ < 512; omega⟩)
    (fun b => match b with | ⟨0, _⟩ => rfl | ⟨1, _⟩ => rfl | ⟨2, _⟩ => rfl)).trans ?_
  refine ((congrFun (W5_arr m ρ c 4) _).trans (congrFun (dwu_final (entry2 ρ H)) _)).trans ?_
  refine congrArg (dwu X G U W D _) ?_
  show (i 1).val / 512 * 512 + (i 1).val % 512 = (i 1).val
  omega

end

end Cert.Kernel2Ideal.Value

end
-- ==== Proof.Mlp.Ref.lean ====
/- The plain channel mixer and its gradient read at an index: each value a formula of the arguments' elements. -/
module

public import proofs.«01_k».proof.Proof.Mlp.Mixer
public import proofs.«01_k».proof.Proof.Gen.Reference2Ideal.Read

@[expose] public section

set_option maxRecDepth 16384

noncomputable section

open Idealize.ShloMosaic Idealize.ShloMosaic.TcCoe Idealize.SL.Sem

namespace Cert.Reference2Ideal.Read

open Cert.Reference2Ideal Cert.Reference2Ideal.Gen Cert.Mlp

variable {x0 x3 x4 : (⟨S4096x1024, .f32⟩ : BufTy).Contents (Elt Ideal)} {x1 : (⟨S1024, .f32⟩ : BufTy).Contents (Elt Ideal)}
variable {x2 : (⟨S1024x4096, .f32⟩ : BufTy).Contents (Elt Ideal)}
variable {X U W D : ℕ → ℕ → EReal} {G : ℕ → EReal}

/-- The literals zero and one half. -/
theorem zero_bits : FloatOps.ofBits (F := Ideal) .f32 0x00000000#32 = (0 : EReal) := Ideal.ofBits_zero_f32
theorem half_bits : FloatOps.ofBits (F := Ideal) .f32 0xBF000000#32 = (-(1 / 2)) := lit_half
theorem eps_bits : FloatOps.ofBits (F := Ideal) .f32 0x358637BD#32 = eps := lit_eps

variable (h0 : ∀ i, x0 i = X (i 0).val (i 1).val) (h1 : ∀ i, x1 i = G (i 0).val)
variable (h2 : ∀ i, x2 i = U (i 0).val (i 1).val) (h3 : ∀ i, x3 i = W (i 0).val (i 1).val)
variable (h4 : ∀ i, x4 i = D (i 0).val (i 1).val)

section
include h0

/-- The sum of squares of a row. -/
theorem v1_at (i : S4096.Idx) : val_main_v1 (F := Ideal) x0 i = (∑ q : Fin 1024, X (i 0).val q.val * X (i 0).val q.val) := by
  rw [val_main_v1_apply, val_main_cst_apply, zero_bits, zero_add]
  refine Finset.sum_congr rfl fun q _ => ?_
  rw [val_main_v0_apply, h0]
  rfl

/-- The mean square. -/
theorem v6_at (i : S4096x1.Idx) : val_main_v6 (F := Ideal) x0 i = ms X (i 0).val := by
  rw [val_main_v6_apply, val_main_v4_apply, val_main_v2_apply, val_main_v3_apply, val_main_cst_0_apply, val_main_v5_apply,
    val_main_cst_1_apply, v1_at h0, eps_bits]
  exact congrArg (· + _) (div1024 _)

/-- Its inverse root. -/
theorem v7_at (i : S4096x1.Idx) : val_main_v7 (F := Ideal) x0 i = rinv X (i 0).val := by
  rw [val_main_v7_apply, v6_at h0]
  rfl

/-- The slope of the inverse root. -/
theorem v10_at (i : S4096x1.Idx) :
    val_main_v10 (F := Ideal) x0 i = (-(1 / 2) * (rinv X (i 0).val / ms X (i 0).val)) := by
  rw [val_main_v10_apply, val_main_v9_apply, val_main_cst_2_apply, val_main_v8_apply, v7_at h0, v6_at h0, half_bits]
  exact congrArg (_ * ·) (div_ne (ms_pos X _).ne')

/-- The row over its root mean square. -/
theorem v12_at (i : S4096x1024.Idx) : val_main_v12 (F := Ideal) x0 i = xh X (i 0).val (i 1).val := by
  rw [val_main_v12_apply, val_main_v11_apply, v7_at h0, h0]
  rfl

include h1

/-- The scaled row. -/
theorem v15_at (i : S4096x1024.Idx) : val_main_v15 (F := Ideal) x0 x1 i = hid X G (i 0).val (i 1).val := by
  rw [val_main_v15_apply, v12_at h0, val_main_v14_apply, val_main_v13_apply, h1]
  rfl

include h2

/-- The first product. -/
theorem v16_at (i : S4096x4096.Idx) : val_main_v16 (F := Ideal) x0 x1 x2 i = up X G U (i 0).val (i 1).val := by
  rw [val_main_v16_apply]
  unfold up
  refine Finset.sum_congr rfl fun q _ => ?_
  rw [v15_at h0 h1, h2]

/-- Its ramp. -/
theorem v17_at (i : S4096x4096.Idx) : val_main_v17 (F := Ideal) x0 x1 x2 i = act X G U (i 0).val (i 1).val := by
  rw [val_main_v17_apply, v16_at h0 h1 h2, val_main_call0_v0_apply, val_main_call0_cst_apply, zero_bits]
  rfl

/-- The ramp's square. -/
theorem v21_at (i : S4096x4096.Idx) : val_main_v21 (F := Ideal) x0 x1 x2 i
    = (act X G U (i 0).val (i 1).val * act X G U (i 0).val (i 1).val) := by
  rw [val_main_v21_apply, v17_at h0 h1 h2]
  rfl

include h3

/-- The output. -/
theorem out_at (i : S4096x1024.Idx) : val_main_v23 (F := Ideal) x0 x1 x2 x3 i = outp X G U W (i 0).val (i 1).val := by
  rw [val_main_v23_apply, val_main_v22_apply, h0]
  refine (congrArg (_ + ·) (Finset.sum_congr rfl fun f _ => ?_))
  rw [v21_at h0 h1 h2, h3]

include h4

omit h0 h1 h2 h3 in
/-- The output's gradient. -/
theorem v24_at (i : S4096x1024.Idx) : val_main_v24 (F := Ideal) x4 i = D (i 0).val (i 1).val := by
  rw [val_main_v24_apply]
  refine (h4 _).trans ?_
  have b0 : (i 0).val < 4096 := (i 0).isLt
  have b1 : (i 1).val < 1024 := (i 1).isLt
  refine congrArg₂ D ?_ ?_
  · show _ / 1024 = (_ : ℕ)
    omega
  · show _ % 1024 = (_ : ℕ)
    omega

omit h0 h1 h2 in
/-- The gradient of the squared ramp. -/
theorem v27_at (i : S4096x4096.Idx) : val_main_v27 (F := Ideal) x3 x4 i = dsq W D (i 0).val (i 1).val := by
  rw [val_main_v27_apply]
  unfold dsq
  refine Finset.sum_congr rfl fun c _ => ?_
  rw [v24_at h4, h3]

/-- The gradient of the first product. -/
theorem v32_at (i : S4096x4096.Idx) : val_main_v32 (F := Ideal) x0 x1 x2 x3 x4 i = dup X G U W D (i 0).val (i 1).val := by
  rw [val_main_v32_apply, val_main_v19_apply, val_main_v30_apply, val_main_v28_apply, val_main_v29_apply, val_main_v31_apply,
    val_main_cst_5_apply, val_main_v18_apply, val_main_cst_3_apply, zero_bits, v16_at h0 h1 h2, v17_at h0 h1 h2, v27_at h3 h4]
  unfold dup act
  rw [← dup_ite]
  by_cases hp : 0 < up X G U (i 0).val (i 1).val
  · have e : FloatOps.cmpf (F := Ideal) (φ := .f32) .ogt (up X G U (i 0).val (i 1).val) 0 = 1#1 := by
      show Ideal.cmp .ogt _ _ = _
      unfold Ideal.cmp
      simp only [gt_iff_lt, hp, decide_true, decide_false]
      first | done | rfl
    rw [e, if_pos hp]
    rfl
  · have e : FloatOps.cmpf (F := Ideal) (φ := .f32) .ogt (up X G U (i 0).val (i 1).val) 0 = 0#1 := by
      show Ideal.cmp .ogt _ _ = _
      unfold Ideal.cmp
      simp only [gt_iff_lt, hp, decide_false]
      first | done | rfl
    rw [e, if_neg hp]
    rfl

/-- The gradient of the scaled row. -/
theorem v35_at (i : S4096x1024.Idx) : val_main_v35 (F := Ideal) x0 x1 x2 x3 x4 i = dh X G U W D (i 0).val (i 1).val := by
  rw [val_main_v35_apply]
  unfold dh
  refine Finset.sum_congr rfl fun f _ => ?_
  rw [v32_at h0 h1 h2 h3 h4, h2]

/-- The gradient of the row over its root mean square. -/
theorem v40_at (i : S4096x1024.Idx) :
    val_main_v40 (F := Ideal) x0 x1 x2 x3 x4 i = (dh X G U W D (i 0).val (i 1).val * G (i 1).val) := by
  rw [val_main_v40_apply, v35_at h0 h1 h2 h3 h4, val_main_v39_apply, val_main_v13_apply, h1]
  rfl

/-- The sum over the rows of the scaled row's gradient by the row over its root mean square. -/
theorem v37_at (i : S1024.Idx) : val_main_v37 (F := Ideal) x0 x1 x2 x3 x4 i = dg X G U W D (i 0).val := by
  rw [val_main_v37_apply, val_main_cst_6_apply, zero_bits, zero_add]
  unfold dg
  refine Finset.sum_congr rfl fun p _ => ?_
  rw [val_main_v36_apply, v12_at h0, v35_at h0 h1 h2 h3 h4]
  exact mul_comm _ _

/-- The gradient of the gains. -/
theorem dg_at (i : S1024.Idx) : val_main_v41 (F := Ideal) x0 x1 x2 x3 x4 i = dg X G U W D (i 0).val := by
  rw [val_main_v41_apply, val_main_cst_7_apply, zero_bits, zero_add, Fin.sum_univ_one, val_main_v38_apply, v37_at h0 h1 h2 h3 h4]
  refine congrArg (dg X G U W D) ?_
  show 0 * 1024 + (i 0).val = (i 0).val
  omega

/-- What a row and its gradient have in common. -/
theorem v43_at (i : S4096.Idx) : val_main_v43 (F := Ideal) x0 x1 x2 x3 x4 i
    = (∑ c : Fin 1024, X (i 0).val c.val * (dh X G U W D (i 0).val c.val * G c.val)) := by
  rw [val_main_v43_apply, val_main_cst_8_apply, zero_bits, zero_add]
  refine Finset.sum_congr rfl fun c _ => ?_
  rw [val_main_v42_apply, h0, v40_at h0 h1 h2 h3 h4]
  rfl

/-- The same, as a column. -/
theorem v44_at (i : S4096x1.Idx) : val_main_v44 (F := Ideal) x0 x1 x2 x3 x4 i
    = (∑ c : Fin 1024, X (i 0).val c.val * (dh X G U W D (i 0).val c.val * G c.val)) := by
  rw [val_main_v44_apply, v43_at h0 h1 h2 h3 h4]
  have b1 : (i 1).val < 1 := (i 1).isLt
  have e : ((idx_main_v44 i) 0).val = (i 0).val := by
    show (i 0).val * 1 + (i 1).val = (i 0).val
    omega
  rw [e]

/-- The gradient of the mean square, spread over the row. -/
theorem v52_at (i : S4096x1024.Idx) : val_main_v52 (F := Ideal) x0 x1 x2 x3 x4 i
    = ((∑ c : Fin 1024, X (i 0).val c.val * (dh X G U W D (i 0).val c.val * G c.val))
        * (-(1 / 2) * (rinv X (i 0).val / ms X (i 0).val)) / 1024) := by
  rw [val_main_v52_apply, val_main_v51_apply, val_main_cst_10_apply, zero_bits, zero_add, Fin.sum_univ_one, val_main_v50_apply,
    val_main_v48_apply, v44_at h0 h1 h2 h3 h4, val_main_v49_apply, val_main_cst_9_apply, v10_at h0]
  exact div1024 _

/-- The gradient of the row. -/
theorem dx_at (i : S4096x1024.Idx) : val_main_v56 (F := Ideal) x0 x1 x2 x3 x4 i = dx X G U W D (i 0).val (i 1).val := by
  rw [val_main_v56_apply, val_main_v54_apply, val_main_v47_apply, val_main_v46_apply, val_main_v45_apply, val_main_v53_apply,
    val_main_v55_apply, v52_at h0 h1 h2 h3 h4, v40_at h0 h1 h2 h3 h4, v7_at h0, h0, h4]
  refine (show _ = ((_ + _ * _) + _ * _ + _ * _ : EReal) from rfl).trans ?_
  rw [add_assoc, add_assoc, ← add_assoc (_ * _)]
  exact congrArg (_ + ·) (dnorm_halves X (fun p q => dh X G U W D p q * G q) _ _)

/-- The gradient of the first weights. -/
theorem dwu_at (i : S1024x4096.Idx) : val_main_v57 (F := Ideal) x0 x1 x2 x3 x4 i = dwu X G U W D (i 0).val (i 1).val := by
  refine (show _ = val_main_v34 (F := Ideal) x0 x1 x2 x3 x4 i from rfl).trans ?_
  rw [val_main_v34_apply, val_main_v33_apply]
  unfold dwu
  refine Finset.sum_congr rfl fun p _ => ?_
  rw [v32_at h0 h1 h2 h3 h4, v15_at h0 h1, mul_comm]

omit h3 in
/-- The gradient of the second weights. -/
theorem dwd_at (i : S4096x1024.Idx) : val_main_v58 (F := Ideal) x0 x1 x2 x4 i = dwd X G U D (i 0).val (i 1).val := by
  refine (show _ = val_main_v26 (F := Ideal) x0 x1 x2 x4 i from rfl).trans ?_
  rw [val_main_v26_apply, val_main_v25_apply]
  unfold dwd
  refine Finset.sum_congr rfl fun p _ => ?_
  rw [v24_at h4, v21_at h0 h1 h2, mul_comm]

end

end Cert.Reference2Ideal.Read

end
-- ==== Proof.Mlp.Arr.lean ====
/- Arrays of extended real numbers given by row and column. -/
module

public import Idealize.ShloMosaic.PureOps.Ideal

@[expose] public section

noncomputable section

namespace Cert.Mlp

open Idealize.ShloMosaic

/-- The array with a given element at each row and column. -/
abbrev arr {n0 n1 : ℕ} (M : ℕ → ℕ → EReal) : (⟨2, ![n0, n1]⟩ : Shape).Idx → EReal := fun i => M (i 0).val (i 1).val

/-- The vector with a given element at each place. -/
abbrev arr1 {n : ℕ} (M : ℕ → EReal) : (⟨1, ![n]⟩ : Shape).Idx → EReal := fun i => M (i 0).val

/-- The element of an array at a row and column, and zero outside it. -/
def elem {n0 n1 : ℕ} (x : (⟨2, ![n0, n1]⟩ : Shape).Idx → EReal) (r c : ℕ) : EReal :=
  if h : r < n0 ∧ c < n1 then x (fun a => match a with | ⟨0, _⟩ => ⟨r, h.1⟩ | ⟨1, _⟩ => ⟨c, h.2⟩) else 0

theorem elem_at {n0 n1 : ℕ} (x : (⟨2, ![n0, n1]⟩ : Shape).Idx → EReal) (i : (⟨2, ![n0, n1]⟩ : Shape).Idx) :
    x i = elem x (i 0).val (i 1).val := by
  have h0 : (i 0).val < n0 := (i 0).isLt
  have h1 : (i 1).val < n1 := (i 1).isLt
  unfold elem
  rw [dif_pos ⟨h0, h1⟩]
  exact congrArg x (funext fun a => by
    match a with
    | ⟨0, _⟩ => rfl
    | ⟨1, _⟩ => rfl)

/-- The element of a vector at a place, and zero outside it. -/
def elem1 {n : ℕ} (x : (⟨1, ![n]⟩ : Shape).Idx → EReal) (r : ℕ) : EReal :=
  if h : r < n then x (fun a => match a with | ⟨0, _⟩ => ⟨r, h⟩) else 0

theorem elem1_at {n : ℕ} (x : (⟨1, ![n]⟩ : Shape).Idx → EReal) (i : (⟨1, ![n]⟩ : Shape).Idx) : x i = elem1 x (i 0).val := by
  have h0 : (i 0).val < n := (i 0).isLt
  unfold elem1
  rw [dif_pos h0]
  exact congrArg x (funext fun a => by
    match a with
    | ⟨0, _⟩ => rfl)

end Cert.Mlp

end
-- ==== Proof.Mlp.Equation.lean ====
/- The equation of the channel mixer: the kernel's three calls and the plain mixer with its gradient end
   with the same five arrays. -/
module

public import proofs.«01_k».proof.Defs
public import proofs.«01_k».proof.Proof.Mlp.Run
public import proofs.«01_k».proof.Proof.Mlp.Ref
public import proofs.«01_k».proof.Proof.Mlp.Arr
public import proofs.«01_k».proof.Proof.Gen.Reference2Ideal.Run

@[expose] public section

set_option maxRecDepth 16384

noncomputable section

namespace Cert.Mlp

open Idealize.ShloMosaic Idealize.ShloMosaic.TcCoe Idealize.SL.Sem

/-- The reference ends with its arguments as launched, and has no semaphore to leave set. -/
theorem reference_frame (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0) :=
  (θ_run _ _ _).mono (fun r h => ⟨fun c => (h c).2.2.2.2.2, sem_eq_zero_of_no_sems (by decide) r.2⟩) (Cert.Reference2Ideal.Value.run m g)

section
variable (m : (ℓ : Loc Cert.Kernel2Ideal.nD Cert.Kernel2Ideal.τ Cert.Kernel2Ideal.sig) → Buf (Elt Ideal) ℓ)

/-- The elements of the argument arrays on a device. -/
def argX (c : Dev Cert.Kernel2Ideal.nD) : ℕ → ℕ → EReal :=
  elem (n0 := 4096) (n1 := 1024) (m ((c.tc : Thread Cert.Kernel2Ideal.nD Cert.Kernel2Ideal.τ).loc Cert.Kernel2Ideal.main_arg0))
def argG (c : Dev Cert.Kernel2Ideal.nD) : ℕ → EReal :=
  elem1 (n := 1024) (m ((c.tc : Thread Cert.Kernel2Ideal.nD Cert.Kernel2Ideal.τ).loc Cert.Kernel2Ideal.main_arg1))
def argU (c : Dev Cert.Kernel2Ideal.nD) : ℕ → ℕ → EReal :=
  elem (n0 := 1024) (n1 := 4096) (m ((c.tc : Thread Cert.Kernel2Ideal.nD Cert.Kernel2Ideal.τ).loc Cert.Kernel2Ideal.main_arg2))
def argW (c : Dev Cert.Kernel2Ideal.nD) : ℕ → ℕ → EReal :=
  elem (n0 := 4096) (n1 := 1024) (m ((c.tc : Thread Cert.Kernel2Ideal.nD Cert.Kernel2Ideal.τ).loc Cert.Kernel2Ideal.main_arg3))
def argD (c : Dev Cert.Kernel2Ideal.nD) : ℕ → ℕ → EReal :=
  elem (n0 := 4096) (n1 := 1024) (m ((c.tc : Thread Cert.Kernel2Ideal.nD Cert.Kernel2Ideal.τ).loc Cert.Kernel2Ideal.main_arg4))

/-- The arguments are the arrays of those elements. -/
theorem args (c : Dev Cert.Kernel2Ideal.nD) :
    Cert.Kernel2Ideal.Value.Args m (argX m c) (argD m c) (argG m c) (argU m c) (argW m c) c where
  x := elem_at _
  g := elem1_at _
  u := elem_at _
  w := elem_at _
  d := elem_at _

end

/-- Both programs end with the output and the four gradients. -/
theorem equation : Cert.algebraic_Kernel2Ideal_Reference2Ideal (hKernel2Ideal := Cert.Kernel2Ideal.Gen.facts)
    (hReference2Ideal := Cert.Reference2Ideal.Gen.facts) := by
  intro m g m' g' _ ha
  have H := args m
  refine ⟨fun c => arr (outp (argX m c) (argG m c) (argU m c) (argW m c)), fun c => arr (dx (argX m c) (argG m c) (argU m c) (argW m c) (argD m c)),
    fun c => arr1 (dg (argX m c) (argG m c) (argU m c) (argW m c) (argD m c)), fun c => arr (dwu (argX m c) (argG m c) (argU m c) (argW m c) (argD m c)),
    fun c => arr (dwd (argX m c) (argG m c) (argU m c) (argD m c)), ?_, ?_⟩
  · refine (θ_run _ _ _).mono (fun r h c => ?_) (Cert.Kernel2Ideal.Value.run m g)
    exact ⟨(h c).1.1.trans (Cert.Kernel2Ideal.Value.out0_final (Cert.Kernel2Ideal.Value.entry0 g (H c))),
      (h c).1.2.1.trans (Cert.Kernel2Ideal.Value.dx_final (Cert.Kernel2Ideal.Value.entry1 g (H c))),
      (h c).1.2.2.1.trans (funext fun i => Cert.Kernel2Ideal.Value.dg_end g (H c) i),
      (h c).1.2.2.2.1.trans (funext fun i => Cert.Kernel2Ideal.Value.dwu_end g (H c) i),
      (h c).1.2.2.2.2.trans (Cert.Kernel2Ideal.Value.dwd_final (Cert.Kernel2Ideal.Value.entry2 g (H c))), (h c).2⟩
  · refine (θ_run _ _ _).mono (fun r h c => ?_) (Cert.Reference2Ideal.Value.run m' g')
    have e0 : ∀ i : Cert.Reference2Ideal.S4096x1024.Idx, m' ((c.tc : Thread Cert.Reference2Ideal.nD Cert.Reference2Ideal.τ).loc Cert.Reference2Ideal.main_arg0) i
        = argX m c (i 0).val (i 1).val := fun i => (congrFun (ha c).1 i).trans ((H c).x i)
    have e1 : ∀ i : Cert.Reference2Ideal.S1024.Idx, m' ((c.tc : Thread Cert.Reference2Ideal.nD Cert.Reference2Ideal.τ).loc Cert.Reference2Ideal.main_arg1) i
        = argG m c (i 0).val := fun i => (congrFun (ha c).2.1 i).trans ((H c).g i)
    have e2 : ∀ i : Cert.Reference2Ideal.S1024x4096.Idx, m' ((c.tc : Thread Cert.Reference2Ideal.nD Cert.Reference2Ideal.τ).loc Cert.Reference2Ideal.main_arg2) i
        = argU m c (i 0).val (i 1).val := fun i => (congrFun (ha c).2.2.1 i).trans ((H c).u i)
    have e3 : ∀ i : Cert.Reference2Ideal.S4096x1024.Idx, m' ((c.tc : Thread Cert.Reference2Ideal.nD Cert.Reference2Ideal.τ).loc Cert.Reference2Ideal.main_arg3) i
        = argW m c (i 0).val (i 1).val := fun i => (congrFun (ha c).2.2.2.1 i).trans ((H c).w i)
    have e4 : ∀ i : Cert.Reference2Ideal.S4096x1024.Idx, m' ((c.tc : Thread Cert.Reference2Ideal.nD Cert.Reference2Ideal.τ).loc Cert.Reference2Ideal.main_arg4) i
        = argD m c (i 0).val (i 1).val := fun i => (congrFun (ha c).2.2.2.2 i).trans ((H c).d i)
    refine ⟨(h c).1.trans ?_, (h c).2.1.trans ?_, (h c).2.2.1.trans ?_, (h c).2.2.2.1.trans ?_, (h c).2.2.2.2.1.trans ?_, (h c).2.2.2.2.2⟩
    · exact (Cert.Reference2Ideal.Read.val_main_v23_eq _ _ _ _).trans (funext fun i => Cert.Reference2Ideal.Read.out_at e0 e1 e2 e3 i)
    · exact (Cert.Reference2Ideal.Read.val_main_v56_eq m' c).trans (funext fun i => Cert.Reference2Ideal.Read.dx_at e0 e1 e2 e3 e4 i)
    · exact (Cert.Reference2Ideal.Read.val_main_v41_eq m' c).trans (funext fun i => Cert.Reference2Ideal.Read.dg_at e0 e1 e2 e3 e4 i)
    · exact (Cert.Reference2Ideal.Read.val_main_v57_eq m' c).trans (funext fun i => Cert.Reference2Ideal.Read.dwu_at e0 e1 e2 e3 e4 i)
    · exact (Cert.Reference2Ideal.Read.val_main_v58_eq _ _ _ _).trans (funext fun i => Cert.Reference2Ideal.Read.dwd_at e0 e1 e2 e4 i)

end Cert.Mlp

end
-- ==== Proof.Head.Head.lean ====
/- The last norm and the squared-error loss over the extended real numbers, of the channel mixer's output: the loss and the
   gradients of the rows and of the last gains. Nothing here mentions a program. -/
module

public import proofs.«01_k».proof.Proof.Mlp.Mixer

@[expose] public section

noncomputable section

namespace Cert.Head

open Finset Idealize.ShloMosaic Cert.Mlp

variable (O : ℕ → ℕ → EReal) (F : ℕ → EReal) (T : ℕ → ℕ → EReal)

/-- The normed row less its target. -/
def err (p q : ℕ) : EReal := O p q * rinv O p * F q - T p q

/-- The gradient of the normed row. -/
def ct (p q : ℕ) : EReal := err O F T p q * ((1 / 1024 : ℝ) : EReal)

/-- The sum of a row's squared errors. -/
def sqs (p : ℕ) : EReal := ∑ q : Fin 1024, err O F T p q * err O F T p q

/-- Half the sum over the rows of the mean squared error. -/
def loss : EReal := ((1 / 2 : ℝ) : EReal) * ∑ p : Fin 4096, sqs O F T p / 1024

/-- The gradient of the rows. -/
def dO (p q : ℕ) : EReal := dnorm O (fun p q => ct O F T p q * F q) p q

/-- The gradient of the last gains. -/
def dF (q : ℕ) : EReal := ∑ p : Fin 4096, ct O F T p q * xh O p q

/-- What the `u`-th block of 512 rows adds to the loss. -/
def lossPart (u : ℕ) : EReal := ((1 / 2048 : ℝ) : EReal) * ∑ i : Fin 512, sqs O F T (u * 512 + i)

/-- What the `u`-th block of 512 rows adds to the gradient of a gain. -/
def dFPart (q u : ℕ) : EReal := ∑ i : Fin 512, ct O F T (u * 512 + i) q * xh O (u * 512 + i) q

theorem sqs_nonneg (p : ℕ) : 0 ≤ sqs O F T p := Finset.sum_nonneg fun _ _ => sq_nonneg' _

/-- The loss by blocks of rows. -/
theorem loss_parts : ∑ u ∈ range 8, lossPart O F T u = loss O F T := by
  have hb : ∀ u, lossPart O F T u = (∑ i : Fin 512, sqs O F T (u * 512 + i)) * ((1 / 2048 : ℝ) : EReal) := fun u => mul_comm _ _
  have hd : ∀ p : ℕ, sqs O F T p / 1024 = sqs O F T p * ((1 / 1024 : ℝ) : EReal) := fun p => by
    rw [EReal.div_eq_inv_mul, show ((1024 : EReal)⁻¹) = (((1024 : ℝ)⁻¹ : ℝ) : EReal) from rfl, mul_comm, one_div]
  have h : (0 : ℝ) ≤ 1 / 2048 := by norm_num
  have h' : (0 : ℝ) ≤ 1 / 1024 := by norm_num
  unfold loss
  simp only [hb, hd]
  rw [← sum_mul_coe _ _ h, ← sum_mul_coe _ _ h', ← sum_runs8 (fun p => sqs O F T p), mul_left_comm, ← EReal.coe_mul]
  congr 2
  norm_num

/-- The gradient of the gains by blocks of rows. -/
theorem dF_parts (q : ℕ) : ∑ u ∈ range 8, dFPart O F T q u = dF O F T q :=
  (sum_runs8 (fun p => ct O F T p q * xh O p q)).symm

/-- The gradient of the normed row as the rule for a square gives it. -/
theorem ct_two (p q : ℕ) : ((1 / 2 : ℝ) : EReal) * 1 / 1024 * (2 * err O F T p q) = ct O F T p q := by
  unfold ct
  rw [mul_one, show (1024 : EReal) = ((1024 : ℝ) : EReal) from rfl, ← EReal.coe_div, show (2 : EReal) = ((2 : ℝ) : EReal) from rfl, ← mul_assoc,
    ← EReal.coe_mul, mul_comm]
  congr 2
  norm_num

/-! The literals of the programs. -/

theorem lit_inv1024 : Ideal.ofBits .f32 0x3A800000#32 = ((1 / 1024 : ℝ) : EReal) := by
  simp [Ideal.ofBits, Ideal.ieee]
  rw [← EReal.coe_mul]
  norm_num
theorem lit_inv2048 : Ideal.ofBits .f32 0x3A000000#32 = ((1 / 2048 : ℝ) : EReal) := by
  simp [Ideal.ofBits, Ideal.ieee]
  rw [← EReal.coe_mul]
  norm_num
theorem lit_half' : Ideal.ofBits .f32 0x3F000000#32 = ((1 / 2 : ℝ) : EReal) := by
  simp [Ideal.ofBits, Ideal.ieee]
  rw [← EReal.coe_mul]
  norm_num
theorem lit1 : Ideal.ofBits .f32 0x3F800000#32 = (1 : EReal) := by
  rw [show (1 : EReal) = ((1 : ℝ) : EReal) from rfl]
  simp [Ideal.ofBits, Ideal.ieee]
  rw [← EReal.coe_mul]
  norm_num

end Cert.Head

end
-- ==== Proof.Head.Block.lean ====
/- One block of rows through the forward kernel with the loss: the mixer's output, the gradient of the rows, and what the block
   adds to the loss and to the gradient of the last gains. -/
module

public import proofs.«01_k».proof.Proof.Gen.Kernel3Ideal.Frame
public import proofs.«01_k».proof.Proof.Head.Head
public import Idealize.ShloMosaic.Lib.Pipeline.ValueKit

@[expose] public section

set_option maxRecDepth 16384

noncomputable section

open Idealize.ShloMosaic Idealize.ShloMosaic.TcCoe Idealize.SL.Sem

namespace Cert.Kernel3Ideal.Value

open Cert.Kernel3Ideal Cert.Kernel3Ideal.Gen Cert.Mlp Cert.Head

section

variable (x0 : Vec Ideal S512x1024 .f32) (x1 : Vec Ideal S1x1024 .f32) (x2 : Vec Ideal S8x1024x512 .bf16) (x3 : Vec Ideal S4096x1024 .bf16)
  (x4 : Vec Ideal S512x1024 .f32) (x5 : Vec Ideal S1x1024 .f32)

/-- The rows and the products of the first six slices. -/
def outTo6 : FVec Ideal S512x1024 .f32 :=
  k0_pay19 (k0_pay3 x0 x1)
    (k0_pay11 (k0_pay3 x0 x1)
      (k0_pay6 x0 x1 (View.ld x2 (Rect.unit ![0, 0, 0] ![1, 1024, 512] inb_S8x1024x512_S1x1024x512_0_0_0))
        (View.ld x3 (Rect.unit ![0, 0] ![512, 1024] inb_S4096x1024_S512x1024_0_0)))
      (k0_pay7 x0 x1 (View.ld x2 (Rect.unit ![1, 0, 0] ![1, 1024, 512] inb_S8x1024x512_S1x1024x512_1_0_0)))
      (View.ld x3 (Rect.unit ![512, 0] ![512, 1024] inb_S4096x1024_S512x1024_512_0))
      (View.ld x2 (Rect.unit ![2, 0, 0] ![1, 1024, 512] inb_S8x1024x512_S1x1024x512_2_0_0))
      (View.ld x3 (Rect.unit ![1024, 0] ![512, 1024] inb_S4096x1024_S512x1024_1024_0)))
    (k0_pay14 (k0_pay3 x0 x1) (View.ld x2 (Rect.unit ![3, 0, 0] ![1, 1024, 512] inb_S8x1024x512_S1x1024x512_3_0_0)))
    (View.ld x3 (Rect.unit ![1536, 0] ![512, 1024] inb_S4096x1024_S512x1024_1536_0))
    (View.ld x2 (Rect.unit ![4, 0, 0] ![1, 1024, 512] inb_S8x1024x512_S1x1024x512_4_0_0))
    (View.ld x3 (Rect.unit ![2048, 0] ![512, 1024] inb_S4096x1024_S512x1024_2048_0))
    (View.ld x2 (Rect.unit ![5, 0, 0] ![1, 1024, 512] inb_S8x1024x512_S1x1024x512_5_0_0))
    (View.ld x3 (Rect.unit ![2560, 0] ![512, 1024] inb_S4096x1024_S512x1024_2560_0))

/-- The seventh slice of the first product. -/
def a7 : FVec Ideal S512x512 .f32 :=
  k0_pay20 (k0_pay3 x0 x1) (View.ld x2 (Rect.unit ![6, 0, 0] ![1, 1024, 512] inb_S8x1024x512_S1x1024x512_6_0_0))

/-- The seventh slice of the second weights, and the eighth of both. -/
def w7 : Vec Ideal S512x1024 .bf16 := View.ld x3 (Rect.unit ![3072, 0] ![512, 1024] inb_S4096x1024_S512x1024_3072_0)
def u8 : Vec Ideal S1x1024x512 .bf16 := View.ld x2 (Rect.unit ![7, 0, 0] ![1, 1024, 512] inb_S8x1024x512_S1x1024x512_7_0_0)
def w8 : Vec Ideal S512x1024 .bf16 := View.ld x3 (Rect.unit ![3584, 0] ![512, 1024] inb_S4096x1024_S512x1024_3584_0)

/-- The mixer's output. -/
def outOf : FVec Ideal S512x1024 .f32 := k0_pay24 (k0_pay3 x0 x1) (outTo6 x0 x1 x2 x3) (a7 x0 x1 x2) (w7 x3) (u8 x2) (w8 x3)

/-- The mean square of its rows. -/
def msOf : FVec Ideal S512x1 .f32 := k0_pay28 (k0_pay3 x0 x1) (outTo6 x0 x1 x2 x3) (a7 x0 x1 x2) (w7 x3) (u8 x2) (w8 x3)

/-- The gradient of the rows. -/
def dxOf : FVec Ideal S512x1024 .f32 := k0_pay34 (outOf x0 x1 x2 x3) x4 (k0_pay27 x5) (msOf x0 x1 x2 x3)

/-- The block's part of the loss. -/
def lossOf : FVec Ideal S1x1 .f32 := k0_pay35 (outOf x0 x1 x2 x3) x4 (k0_pay27 x5) (msOf x0 x1 x2 x3)

/-- The block's part of the gradient of the last gains. -/
def dgOf : FVec Ideal S1x1024 .f32 := k0_pay33 (outOf x0 x1 x2 x3) x4 (k0_pay27 x5) (msOf x0 x1 x2 x3)

end

variable {X T : ℕ → ℕ → EReal} {G F : ℕ → EReal} {U W : ℕ → ℕ → EReal}
variable {x0 : Vec Ideal S512x1024 .f32} {x1 : Vec Ideal S1x1024 .f32} {x2 : Vec Ideal S8x1024x512 .bf16} {x3 : Vec Ideal S4096x1024 .bf16}
  {x4 : Vec Ideal S512x1024 .f32} {x5 : Vec Ideal S1x1024 .f32}

theorem out_block (h0 : ∀ (i : Fin 512) (q : Fin 1024), x0 (ix2 i q) = X i.val q.val)
    (h1 : ∀ q : Fin 1024, x1 (ix2 0 q) = G q.val)
    (h2 : ∀ (j : Fin 8) (q : Fin 1024) (a : Fin 512), x2 (ix3 j q a) = (U q.val (j.val * 512 + a.val)))
    (h3 : ∀ (f : Fin 4096) (c : Fin 1024), x3 (ix2 f c) = W f.val c.val) (i : Fin 512) (c : Fin 1024) :
    outOf x0 x1 x2 x3 (ix2 i c) = outp X G U W i.val c.val := by
  unfold outOf outTo6 a7 w7 u8 w8
  open_payloads
  pointwise
  simp only [h0, h1, h2, h3, div1024, rsqrt_row]
  unfold outp
  rw [sum_runs8 (fun f => act X G U i.val f * act X G U i.val f * W f c.val)]
  simp only [Finset.sum_range_succ, Finset.sum_range_zero, zero_add, ← add_assoc]
  simp only [← add_assoc, Fin.isValue, Nat.reduceMul, Nat.reduceMod, zero_add, Fin.val_zero, Fin.val_one, Fin.val_two,
    Fin.val_ofNat]
  rfl

/-! The loss and its gradients from the mixer's output. -/

section

variable {O : ℕ → ℕ → EReal} {o : FVec Ideal S512x1024 .f32} {s : FVec Ideal S512x1 .f32}
variable (ho : ∀ (i : Fin 512) (q : Fin 1024), o (ix2 i q) = O i.val q.val)
  (hs : ∀ i : Fin 512, s (ix2 i 0) = (∑ q : Fin 1024, O i.val q.val * O i.val q.val) / 1024)
  (h4 : ∀ (i : Fin 512) (q : Fin 1024), x4 (ix2 i q) = T i.val q.val) (h5 : ∀ q : Fin 1024, x5 (ix2 0 q) = F q.val)
include ho hs h4 h5

theorem err_at (i : Fin 512) (q : Fin 1024) : k0_pay29 o x4 (k0_pay27 x5) s (ix2 i q) = err O F T i.val q.val := by
  unfold k0_pay29 k0_pay27
  pointwise
  simp only [ho, hs, h4, h5, rsqrt_row]
  rfl

theorem ct_at (i : Fin 512) (q : Fin 1024) : k0_pay30 o x4 (k0_pay27 x5) s (ix2 i q) = ct O F T i.val q.val := by
  unfold k0_pay30
  pointwise
  rw [err_at ho hs h4 h5, lit_inv1024]
  rfl

theorem dx_at (i : Fin 512) (q : Fin 1024) : k0_pay34 o x4 (k0_pay27 x5) s (ix2 i q) = dO O F T i.val q.val := by
  unfold k0_pay34 k0_pay32 k0_pay31
  generalize hy : k0_pay30 o x4 (k0_pay27 x5) s = y
  have hc : ∀ (i : Fin 512) (q : Fin 1024), y (ix2 i q) = ct O F T i.val q.val := fun i q => by rw [← hy]; exact ct_at ho hs h4 h5 i q
  unfold k0_pay27
  pointwise
  simp only [ho, hc, h5, div1024, rsqrt_row]
  rfl

theorem dg_at (e : Fin 1) (q : Fin 1024) :
    k0_pay33 o x4 (k0_pay27 x5) s (ix2 e q) = ∑ i : Fin 512, ct O F T i.val q.val * xh O i.val q.val := by
  unfold k0_pay33 k0_pay32 k0_pay31
  generalize hy : k0_pay30 o x4 (k0_pay27 x5) s = y
  have hc : ∀ (i : Fin 512) (q : Fin 1024), y (ix2 i q) = ct O F T i.val q.val := fun i q => by rw [← hy]; exact ct_at ho hs h4 h5 i q
  pointwise
  simp only [ho, hc, div1024, rsqrt_row]
  rfl

theorem loss_at (e e' : Fin 1) :
    k0_pay35 o x4 (k0_pay27 x5) s (ix2 e e') = ((1 / 2048 : ℝ) : EReal) * ∑ i : Fin 512, sqs O F T i.val := by
  unfold k0_pay35
  generalize hy : k0_pay29 o x4 (k0_pay27 x5) s = y
  have hc : ∀ (i : Fin 512) (q : Fin 1024), y (ix2 i q) = err O F T i.val q.val := fun i q => by rw [← hy]; exact err_at ho hs h4 h5 i q
  pointwise
  simp only [hc, lit_inv2048]
  rfl

end

/-! The same of the block the kernel computes. -/

section

variable (h0 : ∀ (i : Fin 512) (q : Fin 1024), x0 (ix2 i q) = X i.val q.val)
    (h1 : ∀ q : Fin 1024, x1 (ix2 0 q) = G q.val)
    (h2 : ∀ (j : Fin 8) (q : Fin 1024) (a : Fin 512), x2 (ix3 j q a) = (U q.val (j.val * 512 + a.val)))
    (h3 : ∀ (f : Fin 4096) (c : Fin 1024), x3 (ix2 f c) = W f.val c.val)
include h0 h1 h2 h3

theorem ms_block (i : Fin 512) : msOf x0 x1 x2 x3 (ix2 i 0)
    = (∑ q : Fin 1024, outp X G U W i.val q.val * outp X G U W i.val q.val) / 1024 := by
  unfold msOf k0_pay28
  rw [show k0_pay24 (k0_pay3 x0 x1) (outTo6 x0 x1 x2 x3) (a7 x0 x1 x2) (w7 x3) (u8 x2) (w8 x3) = outOf x0 x1 x2 x3 from rfl]
  pointwise
  simp only [out_block h0 h1 h2 h3, div1024]

variable (h4 : ∀ (i : Fin 512) (q : Fin 1024), x4 (ix2 i q) = T i.val q.val) (h5 : ∀ q : Fin 1024, x5 (ix2 0 q) = F q.val)
include h4 h5

theorem dx_block (i : Fin 512) (q : Fin 1024) : dxOf x0 x1 x2 x3 x4 x5 (ix2 i q) = dO (outp X G U W) F T i.val q.val :=
  dx_at (out_block h0 h1 h2 h3) (ms_block h0 h1 h2 h3) h4 h5 i q

theorem dg_block (e : Fin 1) (q : Fin 1024) :
    dgOf x0 x1 x2 x3 x4 x5 (ix2 e q) = ∑ i : Fin 512, ct (outp X G U W) F T i.val q.val * xh (outp X G U W) i.val q.val :=
  dg_at (out_block h0 h1 h2 h3) (ms_block h0 h1 h2 h3) h4 h5 e q

theorem loss_block (e e' : Fin 1) :
    lossOf x0 x1 x2 x3 x4 x5 (ix2 e e') = ((1 / 2048 : ℝ) : EReal) * ∑ i : Fin 512, sqs (outp X G U W) F T i.val :=
  loss_at (out_block h0 h1 h2 h3) (ms_block h0 h1 h2 h3) h4 h5 e e'

end

/-! One point of the grid: what it leaves in each output block. -/

variable (m : (ℓ : Loc nD τ sig) → Buf (Elt Ideal) ℓ) (c : Dev nD)

theorem dx_outs (t : Fin cfg0.N) : (outsAt0 (F := Ideal) m c t.val t.isLt).1
    = dxOf (iblk m c 0 t) (iblk m c 1 t) (iblk m c 2 t) (iblk m c 3 t) (iblk m c 4 t) (iblk m c 5 t) := by
  by_cases h0 : t.val % 8 = 0
  · rw [outsAt0_A m c t h0]
    frame_out
    rfl
  · rw [outsAt0_B m c t h0]
    frame_out
    rfl

theorem loss_outs_A (t : Fin cfg0.N) (h0 : t.val % 8 = 0) : (outsAt0 (F := Ideal) m c t.val t.isLt).2.2.2.1
    = k0_pay1 (lossOf (iblk m c 0 t) (iblk m c 1 t) (iblk m c 2 t) (iblk m c 3 t) (iblk m c 4 t) (iblk m c 5 t)) (k0_pay25 (F := Ideal)) := by
  rw [outsAt0_A m c t h0]
  frame_out
  rfl

theorem loss_outs_B (t : Fin cfg0.N) (h0 : ¬t.val % 8 = 0) : (outsAt0 (F := Ideal) m c t.val t.isLt).2.2.2.1
    = k0_pay1 (lossOf (iblk m c 0 t) (iblk m c 1 t) (iblk m c 2 t) (iblk m c 3 t) (iblk m c 4 t) (iblk m c 5 t))
      (outsAt0 (F := Ideal) m c (t.val - 1) (Nat.lt_of_le_of_lt (Nat.sub_le _ _) t.isLt)).2.2.2.1 := by
  rw [outsAt0_B m c t h0]
  frame_out
  rfl

theorem dg_outs_A (t : Fin cfg0.N) (h0 : t.val % 8 = 0) : (outsAt0 (F := Ideal) m c t.val t.isLt).2.2.2.2
    = k0_pay2 (dgOf (iblk m c 0 t) (iblk m c 1 t) (iblk m c 2 t) (iblk m c 3 t) (iblk m c 4 t) (iblk m c 5 t)) (k0_pay26 (F := Ideal)) := by
  rw [outsAt0_A m c t h0]
  frame_out
  rfl

theorem dg_outs_B (t : Fin cfg0.N) (h0 : ¬t.val % 8 = 0) : (outsAt0 (F := Ideal) m c t.val t.isLt).2.2.2.2
    = k0_pay2 (dgOf (iblk m c 0 t) (iblk m c 1 t) (iblk m c 2 t) (iblk m c 3 t) (iblk m c 4 t) (iblk m c 5 t))
      (outsAt0 (F := Ideal) m c (t.val - 1) (Nat.lt_of_le_of_lt (Nat.sub_le _ _) t.isLt)).2.2.2.2 := by
  rw [outsAt0_B m c t h0]
  frame_out
  rfl

end Cert.Kernel3Ideal.Value

end
-- ==== Proof.Head.Array.lean ====
/- What the forward kernel with the loss leaves in its output arrays. A grid point takes 512 rows. -/
module

public import proofs.«01_k».proof.Proof.Head.Block

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen Cert.Mlp Cert.Head

/-- The block of rows and columns each window is at. -/
theorem idx0 : ∀ t : Fin cfg0.N, win0_0.index t = ![t.val, 0] ∧ win0_1.index t = ![0, 0] ∧ win0_2.index t = ![0, 0, 0]
    ∧ win0_3.index t = ![0, 0] ∧ win0_4.index t = ![t.val, 0] ∧ win0_5.index t = ![0, 0] ∧ win0_6.index t = ![t.val, 0]
    ∧ win0_9.index t = ![0, 0] ∧ win0_10.index t = ![0, 0] :=
  (by decide +kernel : ∀ t : Fin grid0.N, _)

/-- Rows from the `t`-th block of 512 on. -/
def rows (M : ℕ → ℕ → EReal) (t : ℕ) : ℕ → ℕ → EReal := fun p q => M (t * 512 + p) q

variable {m : (ℓ : Loc nD τ sig) → Buf (Elt Ideal) ℓ} {c : Dev nD}
variable {X T : ℕ → ℕ → EReal} {G F : ℕ → EReal} {U W : ℕ → ℕ → EReal}

variable (m c X T G F U W) in
/-- The arrays the kernel reads. -/
structure Holds : Prop where
  x : ∀ i, (V m c main_arg0 : Vec Ideal S4096x1024 .f32) i = X (i 0).val (i 1).val
  g : ∀ i, (V m c main_v3 : Vec Ideal S1x1024 .f32) i = G (i 1).val
  u : ∀ i, (V m c main_v2 : Vec Ideal S8x1024x512 .bf16) i = (U (i 1).val ((i 0).val * 512 + (i 2).val))
  w : ∀ i, (V m c main_v4 : Vec Ideal S4096x1024 .bf16) i = W (i 0).val (i 1).val
  t : ∀ i, (V m c main_arg5 : Vec Ideal S4096x1024 .f32) i = T (i 0).val (i 1).val
  f : ∀ i, (V m c main_v5 : Vec Ideal S1x1024 .f32) i = F (i 1).val

variable (H : Holds m c X T G F U W) (t : Fin cfg0.N)
include H

theorem blk_x (i : Fin 512) (q : Fin 1024) : (iblk m c 0 t : Vec Ideal S512x1024 .f32) (ix2 i q) = rows X t.val i.val q.val := by
  refine (H.x _).trans ?_
  refine congrArg₂ X ?_ ?_ <;> blk_simp [idx0 t]
theorem blk_g (q : Fin 1024) : (iblk m c 1 t : Vec Ideal S1x1024 .f32) (ix2 0 q) = G q.val := by
  refine (H.g _).trans ?_
  refine congrArg G ?_
  blk_simp [idx0 t]
theorem blk_u (j : Fin 8) (q : Fin 1024) (a : Fin 512) :
    (iblk m c 2 t : Vec Ideal S8x1024x512 .bf16) (ix3 j q a) = (U q.val (j.val * 512 + a.val)) := by
  refine (H.u _).trans ?_
  refine congrArg₂ U ?_ ?_ <;> blk_simp [idx0 t]
theorem blk_w (f : Fin 4096) (q : Fin 1024) : (iblk m c 3 t : Vec Ideal S4096x1024 .bf16) (ix2 f q) = W f.val q.val := by
  refine (H.w _).trans ?_
  refine congrArg₂ W ?_ ?_ <;> blk_simp [idx0 t]
theorem blk_t (i : Fin 512) (q : Fin 1024) : (iblk m c 4 t : Vec Ideal S512x1024 .f32) (ix2 i q) = rows T t.val i.val q.val := by
  refine (H.t _).trans ?_
  refine congrArg₂ T ?_ ?_ <;> blk_simp [idx0 t]
theorem blk_f (q : Fin 1024) : (iblk m c 5 t : Vec Ideal S1x1024 .f32) (ix2 0 q) = F q.val := by
  refine (H.f _).trans ?_
  refine congrArg F ?_
  blk_simp [idx0 t]

omit t in
/-- The gradient of the rows. -/
theorem dx_final : (dats (F := Ideal) m 0 c).arrAt 6 cfg0.N
    = (fun i => dO (outp X G U W) F T (i 0).val (i 1).val : Vec Ideal S4096x1024 .f32) := by
  refine (dats m 0 c).arrAt_eq_of_covers 6 _ (by decide +kernel) fun t hf y => ?_
  blk_simp
  rw [after0_6, dx_outs]
  obtain ⟨i, q, rfl⟩ : ∃ (i : Fin 512) (q : Fin 1024), y = (ix2 i q : S512x1024.Idx) := ⟨y 0, y 1, eq_ix2 y⟩
  refine (dx_block (blk_x H t) (blk_g H t) (blk_u H t) (blk_w H t) (blk_t H t) (blk_f H t) i q).trans ?_
  refine (show _ = dO (outp X G U W) F T (t.val * 512 + i.val) q.val from rfl).trans ?_
  refine congrArg₂ (dO (outp X G U W) F T) ?_ ?_ <;> blk_simp [idx0 t]

/-- What a grid point adds to the loss and to the gradient of the last gains. -/
theorem loss_point (e e' : Fin 1) :
    lossOf (iblk m c 0 t) (iblk m c 1 t) (iblk m c 2 t) (iblk m c 3 t) (iblk m c 4 t) (iblk m c 5 t) (ix2 e e')
      = lossPart (outp X G U W) F T t.val :=
  (loss_block (blk_x H t) (blk_g H t) (blk_u H t) (blk_w H t) (blk_t H t) (blk_f H t) e e').trans rfl
theorem dg_point (e : Fin 1) (q : Fin 1024) :
    dgOf (iblk m c 0 t) (iblk m c 1 t) (iblk m c 2 t) (iblk m c 3 t) (iblk m c 4 t) (iblk m c 5 t) (ix2 e q)
      = dFPart (outp X G U W) F T q.val t.val :=
  (dg_block (blk_x H t) (blk_g H t) (blk_u H t) (blk_w H t) (blk_t H t) (blk_f H t) e q).trans rfl

omit t in
/-- The block of the loss holds the sum over the rows so far. -/
theorem loss_acc (l : Fin 128) : ∀ (n : ℕ) (hn : n < cfg0.N), (outsAt0 (F := Ideal) m c n hn).2.2.2.1 (ix2 0 l)
    = ∑ u ∈ Finset.range (n + 1), lossPart (outp X G U W) F T u := by
  intro n
  induction n with
  | zero =>
    intro hn
    rw [loss_outs_A m c ⟨0, hn⟩ (Nat.zero_mod _)]
    unfold k0_pay1 k0_pay25
    pointwise
    rw [Finset.sum_range_one]
    exact loss_point H ⟨0, hn⟩ 0 0
  | succ n ih =>
    intro hn
    have hN : cfg0.N = 8 := N_0
    rw [loss_outs_B m c ⟨n + 1, hn⟩ (by simp only; omega)]
    unfold k0_pay1
    pointwise
    rw [loss_point H ⟨n + 1, hn⟩, Finset.sum_range_succ _ (n + 1)]
    exact congrArg (· + _) (ih (by omega))

omit t in
/-- The block of the gains' gradient holds the sum over the rows so far. -/
theorem dg_acc (q : Fin 1024) : ∀ (n : ℕ) (hn : n < cfg0.N), (outsAt0 (F := Ideal) m c n hn).2.2.2.2 (ix2 0 q)
    = ∑ u ∈ Finset.range (n + 1), dFPart (outp X G U W) F T q.val u := by
  intro n
  induction n with
  | zero =>
    intro hn
    rw [dg_outs_A m c ⟨0, hn⟩ (Nat.zero_mod _)]
    unfold k0_pay2 k0_pay26
    pointwise
    rw [Finset.sum_range_one]
    exact dg_point H ⟨0, hn⟩ 0 q
  | succ n ih =>
    intro hn
    have hN : cfg0.N = 8 := N_0
    rw [dg_outs_B m c ⟨n + 1, hn⟩ (by simp only; omega)]
    unfold k0_pay2
    pointwise
    rw [dg_point H ⟨n + 1, hn⟩, Finset.sum_range_succ _ (n + 1)]
    exact congrArg (· + _) (ih (by omega))

omit t in
/-- The loss, in every lane of its row. -/
theorem loss_final : (dats (F := Ideal) m 0 c).arrAt 9 cfg0.N = (fun _ => loss (outp X G U W) F T : Vec Ideal S1x128 .f32) := by
  refine (dats m 0 c).arrAt_eq_of_covers 9 _ (by decide +kernel) fun t hf y => ?_
  blk_simp
  have h3 := (flush0_9 t).mp hf
  rw [after0_9]
  obtain ⟨o, q, rfl⟩ : ∃ (o : Fin 1) (q : Fin 128), y = (ix2 o q : S1x128.Idx) := ⟨y 0, y 1, eq_ix2 y⟩
  obtain rfl : o = 0 := Subsingleton.elim _ _
  refine (loss_acc H q t.val t.isLt).trans ?_
  have hN : cfg0.N = 8 := N_0
  rw [show t.val + 1 = 8 by omega]
  exact loss_parts _ _ _

omit t in
/-- The gradient of the last gains. -/
theorem dg_final : (dats (F := Ideal) m 0 c).arrAt 10 cfg0.N
    = (fun i => dF (outp X G U W) F T (i 1).val : Vec Ideal S1x1024 .f32) := by
  refine (dats m 0 c).arrAt_eq_of_covers 10 _ (by decide +kernel) fun t hf y => ?_
  blk_simp
  have h3 := (flush0_10 t).mp hf
  rw [after0_10]
  obtain ⟨o, q, rfl⟩ : ∃ (o : Fin 1) (q : Fin 1024), y = (ix2 o q : S1x1024.Idx) := ⟨y 0, y 1, eq_ix2 y⟩
  obtain rfl : o = 0 := Subsingleton.elim _ _
  refine (dg_acc H q t.val t.isLt).trans ?_
  have hN : cfg0.N = 8 := N_0
  rw [show t.val + 1 = 8 by omega]
  refine (dF_parts _ _ _ _).trans ?_
  refine congrArg (dF (outp X G U W) F T) ?_
  blk_simp [idx0 t]

end Cert.Kernel3Ideal.Value

end
-- ==== Proof.Head.Run.lean ====
/- The run of the forward call with the loss, naming what its three results end with, and the arrays the call reads as the host
   operations leave them. -/
module

public import proofs.«01_k».proof.Proof.Head.Array

@[expose] public section

set_option maxRecDepth 16384

noncomputable section

namespace Cert.Kernel3Ideal.Value

open Idealize.ShloMosaic Idealize.ShloMosaic.TcCoe Idealize.SL.Sem
open Idealize.ShloMosaic.Pipeline (Dat)
open Cert.Kernel3Ideal Cert.Kernel3Ideal.Gen

section
variable {F : FTy → Type} [FloatOps F]
variable (m : (ℓ : Loc nD τ sig) → Buf (Elt F) ℓ) (ρ : Dev nD → PrngReg)

/-- What a buffer holds at the end: what the host operations after the call make of the call's arrays. -/
abbrev atEnd (c : Dev nD) (b : Ref sig .tc) : Buf (Elt F) ((c.tc : Thread nD τ).loc b) :=
  Pipeline.afterTail₀ cfgs (dats m) 0 (V0 m) [hostOps1] c b

/-- From any memory with zero counters every weakly fair execution terminates with the results at `atEnd` or at the call's
    array, and the arguments as launched. -/
theorem run : θ_run defs (onTc (τ := τ) (main (F := F))) ⟨m, fun _ => 0, ρ⟩ (fun r => ∀ c : Dev nD,
      (r.2.mem ((c.tc : Thread nD τ).loc main_v8) = atEnd m c main_v8
      ∧ r.2.mem ((c.tc : Thread nD τ).loc main_v6_0) = (dats m 0 c).arrAt 6 cfg0.N
      ∧ r.2.mem ((c.tc : Thread nD τ).loc main_v9) = atEnd m c main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨⟨(h.1 c).2 main_v8 (Pipeline.mem_restRefs_of main_v8 (by decide) (by decide)), (h.1 c).1 6,
      (h.1 c).2 main_v9 (Pipeline.mem_restRefs_of main_v9 (by decide) (by decide))⟩, h.2 c⟩)
    (θ_run_and (run_main m ρ) (unchanged m ρ))

/-! ## What the host operations leave -/

variable (c : Dev nD)

/-- The first weights, rounded and cut into eight slices of columns. -/
theorem host_u : V m c main_v2
    = (transpose S8x1024x512 [1, 0, 2] (shapeCast S1024x8x512 (truncf .bf16 (m ((c.tc : Thread nD τ).loc main_arg2)
        : FVec F S1024x4096 .f32) bitsLt_bf16_f32 : FVec F S1024x4096 .bf16) shapeCasts_S1024x4096_S1024x8x512)
        transposes_S1024x8x512_S8x1024x512_1_0_2 : FVec F S8x1024x512 .bf16) := by
  show StableHlo.after hostOps0 _ _ = _
  simp only [hostOps0, StableHlo.TRef.toBuf, StableHlo.TRef.ofBuf, cast_eq]
  after_results_simp <;> rfl

/-- The second weights, rounded. -/
theorem host_w : V m c main_v4
    = (truncf .bf16 (m ((c.tc : Thread nD τ).loc main_arg3) : FVec F S4096x1024 .f32) bitsLt_bf16_f32 : FVec F S4096x1024 .bf16) := by
  show StableHlo.after hostOps0 _ _ = _
  simp only [hostOps0, StableHlo.TRef.toBuf, StableHlo.TRef.ofBuf, cast_eq]
  after_results_simp <;> rfl

/-- The layer's gains as a row. -/
theorem host_g : V m c main_v3
    = (broadcastInDim S1x1024 ![1] bcast_S1024_S1x1024_1 (m ((c.tc : Thread nD τ).loc main_arg1) : FVec F S1024 .f32) : FVec F S1x1024 .f32) := by
  show StableHlo.after hostOps0 _ _ = _
  simp only [hostOps0, StableHlo.TRef.toBuf, StableHlo.TRef.ofBuf, cast_eq]
  after_results_simp <;> rfl

/-- The last gains as a row. -/
theorem host_f : V m c main_v5
    = (broadcastInDim S1x1024 ![1] bcast_S1024_S1x1024_1 (m ((c.tc : Thread nD τ).loc main_arg4) : FVec F S1024 .f32) : FVec F S1x1024 .f32) := by
  show StableHlo.after hostOps0 _ _ = _
  simp only [hostOps0, StableHlo.TRef.toBuf, StableHlo.TRef.ofBuf, cast_eq]
  after_results_simp <;> rfl

/-- The buffers after the call. -/
abbrev exits : Valuation τ sig (Elt F) := Pipeline.withArrays spec0 c (V0 m c) fun w => (dats m 0 c).arrAt w cfg0.N

/-- Each array of the call holds what the call leaves in it. -/
theorem exits_arr (w : Fin cfg0.W) : exits m c (Proc.devRef .tc (Pipeline.arrRef spec0 w)) = (dats m 0 c).arrAt w cfg0.N :=
  Pipeline.withArrays_arr spec0 launch0.win.arr_inj c _ _ w

/-- The loss: the first entry of its row. -/
theorem host_loss : atEnd m c main_v8
    = (shapeCast S_ (extractStridedSlice S1x1 ![0, 0] (exits m c (Proc.devRef .tc main_v6_3) : FVec F S1x128 .f32) slices_S1x128_S1x1_0_0
        : FVec F S1x1 .f32) shapeCasts_S1x1_S_ : FVec F S_ .f32) := by
  show StableHlo.after hostOps1 (exits m c) _ = _
  simp only [hostOps1, StableHlo.TRef.toBuf, StableHlo.TRef.ofBuf, cast_eq]
  after_results_simp <;> rfl

/-- The gradient of the last gains, as a vector. -/
theorem host_df : atEnd m c main_v9
    = (shapeCast S1024 (exits m c (Proc.devRef .tc main_v6_4) : FVec F S1x1024 .f32) shapeCasts_S1x1024_S1024 : FVec F S1024 .f32) := by
  show StableHlo.after hostOps1 (exits m c) _ = _
  simp only [hostOps1, StableHlo.TRef.toBuf, StableHlo.TRef.ofBuf, cast_eq]
  after_results_simp <;> rfl

end

section
open Cert.Mlp Cert.Head
variable (m : (ℓ : Loc nD τ sig) → Buf (Elt Ideal) ℓ)
variable (X T : ℕ → ℕ → EReal) (G F : ℕ → EReal) (U W : ℕ → ℕ → EReal) (c : Dev nD)

/-- The numbers the arguments hold. -/
structure Args : Prop where
  x : ∀ i, (m ((c.tc : Thread nD τ).loc main_arg0) : FVec Ideal S4096x1024 .f32) i = X (i 0).val (i 1).val
  g : ∀ i, (m ((c.tc : Thread nD τ).loc main_arg1) : FVec Ideal S1024 .f32) i = G (i 0).val
  u : ∀ i, (m ((c.tc : Thread nD τ).loc main_arg2) : FVec Ideal S1024x4096 .f32) i = U (i 0).val (i 1).val
  w : ∀ i, (m ((c.tc : Thread nD τ).loc main_arg3) : FVec Ideal S4096x1024 .f32) i = W (i 0).val (i 1).val
  f : ∀ i, (m ((c.tc : Thread nD τ).loc main_arg4) : FVec Ideal S1024 .f32) i = F (i 0).val
  t : ∀ i, (m ((c.tc : Thread nD τ).loc main_arg5) : FVec Ideal S4096x1024 .f32) i = T (i 0).val (i 1).val

variable {m X T G F U W c}

/-- Gains read as a row. -/
theorem row_at {y : FVec Ideal S1024 .f32} (h : ∀ i, y i = G (i 0).val) (i : S1x1024.Idx) :
    (broadcastInDim S1x1024 ![1] bcast_S1024_S1x1024_1 y : FVec Ideal S1x1024 .f32) i = G (i 1).val :=
  (broadcastInDim_apply _ bcast_S1024_S1x1024_1 y i (fun a => match a with | ⟨0, _⟩ => ⟨(i 1).val, (i 1).isLt⟩) (fun a => match a with
    | ⟨0, _⟩ => by show (i 1).val = if (1024 : Nat) = 1 then 0 else (i 1).val; rw [if_neg (by decide)])).trans (h _)

/-- The sliced first weights at an index. -/
theorem slices_at (H : Args m X T G F U W c) (i : S8x1024x512.Idx) :
    (V m c main_v2 : FVec Ideal S8x1024x512 .bf16) i = (U (i 1).val ((i 0).val * 512 + (i 2).val)) := by
  have b0 : (i 0).val < 8 := (i 0).isLt
  have b1 : (i 1).val < 1024 := (i 1).isLt
  have b2 : (i 2).val < 512 := (i 2).isLt
  refine (congrFun (host_u m c) i).trans ?_
  refine (transpose_apply [1, 0, 2] _ transposes_S1024x8x512_S8x1024x512_1_0_2 i
    (fun a => match a with | ⟨0, _⟩ => ⟨(i 1).val, (i 1).isLt⟩ | ⟨1, _⟩ => ⟨(i 0).val, (i 0).isLt⟩ | ⟨2, _⟩ => ⟨(i 2).val, (i 2).isLt⟩)
    (fun b => match b with | ⟨0, _⟩ => rfl | ⟨1, _⟩ => rfl | ⟨2, _⟩ => rfl)).trans ?_
  refine (shapeCast_apply _ shapeCasts_S1024x4096_S1024x8x512 _
    (fun a => match a with | ⟨0, _⟩ => ⟨(i 1).val, (i 1).isLt⟩ | ⟨1, _⟩ => ⟨(i 0).val * 512 + (i 2).val, by show _ < 4096; omega⟩)
    (by rewrite [Shape.rowMajor_val_two, Shape.rowMajor_val_three]
        show (i 1).val * 4096 + ((i 0).val * 512 + (i 2).val) = ((i 1).val * 8 + (i 0).val) * 512 + (i 2).val
        omega)).trans ?_
  exact H.u _

/-- What the call reads. -/
theorem entry (H : Args m X T G F U W c) : Holds m c X T G F U W where
  x i := (congrFun (V_main_arg0 m c) i).trans (H.x i)
  g i := (congrFun (host_g m c) i).trans (row_at H.g i)
  u i := slices_at H i
  w i := (congrFun (host_w m c) i).trans (H.w i)
  t i := (congrFun (V_main_arg5 m c) i).trans (H.t i)
  f i := (congrFun (host_f m c) i).trans (row_at H.f i)

/-- The loss at the end. -/
theorem loss_end (H : Args m X T G F U W c) (i : S_.Idx) :
    (atEnd m c main_v8 : FVec Ideal S_ .f32) i = loss (outp X G U W) F T := by
  refine (congrFun (host_loss m c) i).trans ?_
  unfold shapeCast extractStridedSlice
  exact (congrFun (exits_arr m c 9) _).trans (congrFun (loss_final (entry H)) _)

/-- The gradient of the last gains at the end. -/
theorem dg_end (H : Args m X T G F U W c) (i : S1024.Idx) :
    (atEnd m c main_v9 : FVec Ideal S1024 .f32) i = dF (outp X G U W) F T (i 0).val := by
  refine (congrFun (host_df m c) i).trans ?_
  refine (shapeCast_apply _ shapeCasts_S1x1024_S1024 i
    (fun a => match a with | ⟨0, _⟩ => ⟨0, Nat.one_pos⟩ | ⟨1, _⟩ => ⟨(i 0).val, (i 0).isLt⟩)
    (by rewrite [Shape.rowMajor_val_two, Shape.rowMajor_val_one]
        show 0 * 1024 + (i 0).val = (i 0).val
        omega)).trans ?_
  exact (congrFun (exits_arr m c 10) _).trans (congrFun (dg_final (entry H)) _)

end

end Cert.Kernel3Ideal.Value

end
-- ==== Proof.Head.Ref.lean ====
/- The plain loss and its gradient read at an index: each value a formula of the arguments' elements. -/
module

public import proofs.«01_k».proof.Proof.Head.Head
public import proofs.«01_k».proof.Proof.Gen.Reference3Ideal.Read
public import Idealize.ShloMosaic.Lib.ValueIdxRank1

@[expose] public section

set_option maxRecDepth 16384

noncomputable section

open Idealize.ShloMosaic Idealize.ShloMosaic.TcCoe Idealize.SL.Sem

namespace Cert.Reference3Ideal.Read

open Cert.Reference3Ideal Cert.Reference3Ideal.Gen Cert.Mlp Cert.Head

variable {x0 x3 x5 : (⟨S4096x1024, .f32⟩ : BufTy).Contents (Elt Ideal)} {x1 x4 : (⟨S1024, .f32⟩ : BufTy).Contents (Elt Ideal)}
variable {x2 : (⟨S1024x4096, .f32⟩ : BufTy).Contents (Elt Ideal)}
variable {X U W T : ℕ → ℕ → EReal} {G F : ℕ → EReal}

/-- The literals. -/
theorem zero_bits : FloatOps.ofBits (F := Ideal) .f32 0x00000000#32 = (0 : EReal) := Ideal.ofBits_zero_f32
theorem half_neg_bits : FloatOps.ofBits (F := Ideal) .f32 0xBF000000#32 = (((-(1 / 2) : ℝ)) : EReal) := lit_half
theorem half_bits : FloatOps.ofBits (F := Ideal) .f32 0x3F000000#32 = (((1 / 2 : ℝ)) : EReal) := lit_half'
theorem one_bits : FloatOps.ofBits (F := Ideal) .f32 0x3F800000#32 = (1 : EReal) := lit1
theorem two_bits : FloatOps.ofBits (F := Ideal) .f32 0x40000000#32 = (2 : EReal) := lit2
theorem eps_bits : FloatOps.ofBits (F := Ideal) .f32 0x358637BD#32 = eps := lit_eps

variable (h0 : ∀ i, x0 i = X (i 0).val (i 1).val) (h1 : ∀ i, x1 i = G (i 0).val)
variable (h2 : ∀ i, x2 i = U (i 0).val (i 1).val) (h3 : ∀ i, x3 i = W (i 0).val (i 1).val)
variable (h4 : ∀ i, x4 i = F (i 0).val) (h5 : ∀ i, x5 i = T (i 0).val (i 1).val)

section
include h0

/-- The layer's mean square. -/
theorem v6_at (i : S4096x1.Idx) : val_main_v6 (F := Ideal) x0 i = ms X (i 0).val := by
  rw [val_main_v6_apply, val_main_v4_apply, val_main_v2_apply, val_main_v3_apply, val_main_cst_0_apply, val_main_v5_apply,
    val_main_cst_1_apply, val_main_v1_apply, val_main_cst_apply, zero_bits, zero_add, eps_bits]
  refine congrArg (· + _) ((div1024 _).trans (congrArg (· / 1024) (Finset.sum_congr rfl fun q _ => ?_)))
  rw [val_main_v0_apply, h0]
  rfl

include h1

/-- The layer's scaled row. -/
theorem v12_at (i : S4096x1024.Idx) : val_main_v12 (F := Ideal) x0 x1 i = hid X G (i 0).val (i 1).val := by
  rw [val_main_v12_apply, val_main_v9_apply, val_main_v8_apply, val_main_v7_apply, v6_at h0, h0, val_main_v11_apply, val_main_v10_apply, h1]
  rfl

include h2

/-- The ramp of the layer's first product. -/
theorem v14_at (i : S4096x4096.Idx) : val_main_v14 (F := Ideal) x0 x1 x2 i = act X G U (i 0).val (i 1).val := by
  rw [val_main_v14_apply, val_main_call0_v0_apply, val_main_call0_cst_apply, zero_bits, val_main_v13_apply]
  refine congrArg (max · 0) (Finset.sum_congr rfl fun q _ => ?_)
  rw [v12_at h0 h1, h2]

include h3

/-- The layer's output. -/
theorem v17_at (i : S4096x1024.Idx) : val_main_v17 (F := Ideal) x0 x1 x2 x3 i = outp X G U W (i 0).val (i 1).val := by
  rw [val_main_v17_apply, val_main_v16_apply, h0]
  refine congrArg (_ + ·) (Finset.sum_congr rfl fun f _ => ?_)
  rw [val_main_v15_apply, v14_at h0 h1 h2, h3]
  rfl

/-- Its mean square. -/
theorem v24_at (i : S4096x1.Idx) : val_main_v24 (F := Ideal) x0 x1 x2 x3 i = ms (outp X G U W) (i 0).val := by
  rw [val_main_v24_apply, val_main_v22_apply, val_main_v20_apply, val_main_v21_apply, val_main_cst_3_apply, val_main_v23_apply,
    val_main_cst_4_apply, val_main_v19_apply, val_main_cst_2_apply, zero_bits, zero_add, eps_bits]
  refine congrArg (· + _) ((div1024 _).trans (congrArg (· / 1024) (Finset.sum_congr rfl fun q _ => ?_)))
  rw [val_main_v18_apply, v17_at h0 h1 h2 h3]
  rfl

/-- The inverse root. -/
theorem v25_at (i : S4096x1.Idx) : val_main_v25 (F := Ideal) x0 x1 x2 x3 i = rinv (outp X G U W) (i 0).val := by
  rw [val_main_v25_apply, v24_at h0 h1 h2 h3]
  rfl

/-- The slope of the inverse root. -/
theorem v28_at (i : S4096x1.Idx) : val_main_v28 (F := Ideal) x0 x1 x2 x3 i
    = (((-(1 / 2) : ℝ)) : EReal) * (rinv (outp X G U W) (i 0).val / ms (outp X G U W) (i 0).val) := by
  rw [val_main_v28_apply, val_main_v27_apply, val_main_cst_5_apply, val_main_v26_apply, v25_at h0 h1 h2 h3, v24_at h0 h1 h2 h3, half_neg_bits]
  exact congrArg (_ * ·) (div_ne (ms_pos _ _).ne')

/-- The output over its root mean square. -/
theorem v30_at (i : S4096x1024.Idx) : val_main_v30 (F := Ideal) x0 x1 x2 x3 i = xh (outp X G U W) (i 0).val (i 1).val := by
  rw [val_main_v30_apply, val_main_v29_apply, v25_at h0 h1 h2 h3, v17_at h0 h1 h2 h3]
  rfl

include h4 h5

/-- The normed row less its target. -/
theorem v34_at (i : S4096x1024.Idx) : val_main_v34 (F := Ideal) x0 x1 x2 x3 x4 x5 i = err (outp X G U W) F T (i 0).val (i 1).val := by
  rw [val_main_v34_apply, val_main_v33_apply, v30_at h0 h1 h2 h3, val_main_v32_apply, val_main_v31_apply, h4, h5]
  rfl

/-- The mean squared error of a row. -/
theorem v40_at (i : S4096.Idx) : val_main_v40 (F := Ideal) x0 x1 x2 x3 x4 x5 i = sqs (outp X G U W) F T (i 0).val / 1024 := by
  rw [val_main_v40_apply, val_main_v39_apply, val_main_cst_8_apply, val_main_v38_apply, val_main_cst_7_apply, zero_bits, zero_add]
  refine (div1024 _).trans (congrArg (· / 1024) (Finset.sum_congr rfl fun q _ => ?_))
  rw [val_main_v35_apply, v34_at h0 h1 h2 h3 h4 h5]
  rfl

/-- The loss. -/
theorem loss_at (i : S_.Idx) : val_main_v42 (F := Ideal) x0 x1 x2 x3 x4 x5 i = loss (outp X G U W) F T := by
  rw [val_main_v42_apply, val_main_cst_10_apply, half_bits, val_main_v41_apply, val_main_cst_9_apply, zero_bits, zero_add]
  refine congrArg (_ * ·) ?_
  rw [← Equiv.sum_comp (ValueIdx.idxEquiv1 (n := 4096)).symm]
  exact Finset.sum_congr rfl fun p _ => v40_at h0 h1 h2 h3 h4 h5 _

/-- The gradient of the normed row. -/
theorem v48_at (i : S4096x1024.Idx) : val_main_v48 (F := Ideal) x0 x1 x2 x3 x4 x5 i = ct (outp X G U W) F T (i 0).val (i 1).val := by
  rw [val_main_v48_apply, val_main_v47_apply, val_main_v46_apply, val_main_v44_apply, val_main_v43_apply, val_main_cst_11_apply,
    val_main_cst_12_apply, half_bits, one_bits, val_main_v45_apply, val_main_cst_13_apply, val_main_v37_apply, val_main_v36_apply,
    val_main_cst_6_apply, two_bits, v34_at h0 h1 h2 h3 h4 h5, ← ct_two]
  exact congrArg (· * _) (div1024 _)

/-- The gradient of the row over its root mean square. -/
theorem v54_at (i : S4096x1024.Idx) :
    val_main_v54 (F := Ideal) x0 x1 x2 x3 x4 x5 i = ct (outp X G U W) F T (i 0).val (i 1).val * F (i 1).val := by
  rw [val_main_v54_apply, v48_at h0 h1 h2 h3 h4 h5, val_main_v53_apply, val_main_v31_apply, h4]
  rfl

/-- The gradient of the gains. -/
theorem dg_at (i : S1024.Idx) : val_main_v55 (F := Ideal) x0 x1 x2 x3 x4 x5 i = dF (outp X G U W) F T (i 0).val := by
  rw [val_main_v55_apply, val_main_cst_15_apply, zero_bits, zero_add, Fin.sum_univ_one, val_main_v52_apply, val_main_v51_apply,
    val_main_cst_14_apply, zero_bits, zero_add]
  refine (Finset.sum_congr rfl fun p _ => ?_).trans
    (congrArg (dF (outp X G U W) F T) (show 0 * 1024 + (i 0).val = (i 0).val by omega))
  rw [val_main_v50_apply, v30_at h0 h1 h2 h3, v48_at h0 h1 h2 h3 h4 h5]
  exact mul_comm _ _

/-- What a row and its gradient have in common. -/
theorem v58_at (i : S4096x1.Idx) : val_main_v58 (F := Ideal) x0 x1 x2 x3 x4 x5 i
    = ∑ q : Fin 1024, outp X G U W (i 0).val q.val * (ct (outp X G U W) F T (i 0).val q.val * F q.val) := by
  have b1 : (i 1).val < 1 := (i 1).isLt
  have e : ((idx_main_v58 i) 0).val = (i 0).val := by
    show (i 0).val * 1 + (i 1).val = (i 0).val
    omega
  rw [val_main_v58_apply, val_main_v57_apply, val_main_cst_16_apply, zero_bits, zero_add, ← e]
  refine Finset.sum_congr rfl fun q _ => ?_
  rw [val_main_v56_apply, v17_at h0 h1 h2 h3, v54_at h0 h1 h2 h3 h4 h5]
  rfl

/-- The gradient of the mean square, spread over the row. -/
theorem v65_at (i : S4096x1024.Idx) : val_main_v65 (F := Ideal) x0 x1 x2 x3 x4 x5 i
    = (∑ q : Fin 1024, outp X G U W (i 0).val q.val * (ct (outp X G U W) F T (i 0).val q.val * F q.val))
        * ((((-(1 / 2) : ℝ)) : EReal) * (rinv (outp X G U W) (i 0).val / ms (outp X G U W) (i 0).val)) / 1024 := by
  rw [val_main_v65_apply, val_main_v64_apply, val_main_cst_18_apply, zero_bits, zero_add, Fin.sum_univ_one, val_main_v63_apply,
    val_main_v61_apply, v58_at h0 h1 h2 h3 h4 h5, val_main_v62_apply, val_main_cst_17_apply, v28_at h0 h1 h2 h3]
  exact div1024 _

/-- The gradient of the rows. -/
theorem dx_at (i : S4096x1024.Idx) : val_main_v69 (F := Ideal) x0 x1 x2 x3 x4 x5 i = dO (outp X G U W) F T (i 0).val (i 1).val := by
  rw [val_main_v69_apply, val_main_v67_apply, val_main_v60_apply, val_main_v59_apply, val_main_v66_apply, val_main_v68_apply,
    v65_at h0 h1 h2 h3 h4 h5, v54_at h0 h1 h2 h3 h4 h5, v25_at h0 h1 h2 h3, v17_at h0 h1 h2 h3]
  exact dnorm_halves (outp X G U W) (fun p q => ct (outp X G U W) F T p q * F q) _ _

end

end Cert.Reference3Ideal.Read

end
-- ==== Proof.Head.Equation.lean ====
/- The equation of the channel mixer with the loss: the kernel's call and the plain loss with its gradient end with the same loss
   and the same two arrays. -/
module

public import proofs.«01_k».proof.Defs
public import proofs.«01_k».proof.Proof.Head.Run
public import proofs.«01_k».proof.Proof.Head.Ref
public import proofs.«01_k».proof.Proof.Mlp.Arr
public import proofs.«01_k».proof.Proof.Gen.Reference3Ideal.Run

@[expose] public section

set_option maxRecDepth 16384

noncomputable section

namespace Cert.Head

open Idealize.ShloMosaic Idealize.ShloMosaic.TcCoe Idealize.SL.Sem Cert.Mlp

/-- The plain loss ends with its arguments as launched, and has no semaphore to leave set. -/
theorem reference_frame (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0) :=
  (θ_run _ _ _).mono (fun r h => ⟨fun c => (h c).2.2.2, sem_eq_zero_of_no_sems (by decide) r.2⟩) (Cert.Reference3Ideal.Value.run m g)

section
variable (m : (ℓ : Loc Cert.Kernel3Ideal.nD Cert.Kernel3Ideal.τ Cert.Kernel3Ideal.sig) → Buf (Elt Ideal) ℓ)

/-- The elements of the argument arrays on a device. -/
def argX (c : Dev Cert.Kernel3Ideal.nD) : ℕ → ℕ → EReal :=
  elem (n0 := 4096) (n1 := 1024) (m ((c.tc : Thread Cert.Kernel3Ideal.nD Cert.Kernel3Ideal.τ).loc Cert.Kernel3Ideal.main_arg0))
def argG (c : Dev Cert.Kernel3Ideal.nD) : ℕ → EReal :=
  elem1 (n := 1024) (m ((c.tc : Thread Cert.Kernel3Ideal.nD Cert.Kernel3Ideal.τ).loc Cert.Kernel3Ideal.main_arg1))
def argU (c : Dev Cert.Kernel3Ideal.nD) : ℕ → ℕ → EReal :=
  elem (n0 := 1024) (n1 := 4096) (m ((c.tc : Thread Cert.Kernel3Ideal.nD Cert.Kernel3Ideal.τ).loc Cert.Kernel3Ideal.main_arg2))
def argW (c : Dev Cert.Kernel3Ideal.nD) : ℕ → ℕ → EReal :=
  elem (n0 := 4096) (n1 := 1024) (m ((c.tc : Thread Cert.Kernel3Ideal.nD Cert.Kernel3Ideal.τ).loc Cert.Kernel3Ideal.main_arg3))
def argF (c : Dev Cert.Kernel3Ideal.nD) : ℕ → EReal :=
  elem1 (n := 1024) (m ((c.tc : Thread Cert.Kernel3Ideal.nD Cert.Kernel3Ideal.τ).loc Cert.Kernel3Ideal.main_arg4))
def argT (c : Dev Cert.Kernel3Ideal.nD) : ℕ → ℕ → EReal :=
  elem (n0 := 4096) (n1 := 1024) (m ((c.tc : Thread Cert.Kernel3Ideal.nD Cert.Kernel3Ideal.τ).loc Cert.Kernel3Ideal.main_arg5))

/-- The arguments are the arrays of those elements. -/
theorem args (c : Dev Cert.Kernel3Ideal.nD) : Cert.Kernel3Ideal.Value.Args m (argX m c) (argT m c) (argG m c) (argF m c) (argU m c) (argW m c) c where
  x := elem_at _
  g := elem1_at _
  u := elem_at _
  w := elem_at _
  f := elem1_at _
  t := elem_at _

/-- The layer's output on a device. -/
abbrev argO (c : Dev Cert.Kernel3Ideal.nD) : ℕ → ℕ → EReal := outp (argX m c) (argG m c) (argU m c) (argW m c)

end

/-- Both programs end with the loss and the two gradients. -/
theorem equation : Cert.algebraic_Kernel3Ideal_Reference3Ideal (hKernel3Ideal := Cert.Kernel3Ideal.Gen.facts)
    (hReference3Ideal := Cert.Reference3Ideal.Gen.facts) := by
  intro m g m' g' _ ha
  have H := args m
  refine ⟨fun c _ => loss (argO m c) (argF m c) (argT m c), fun c => arr (dO (argO m c) (argF m c) (argT m c)),
    fun c => arr1 (dF (argO m c) (argF m c) (argT m c)), ?_, ?_⟩
  · refine (θ_run _ _ _).mono (fun r h c => ?_) (Cert.Kernel3Ideal.Value.run m g)
    exact ⟨(h c).1.1.trans (funext fun i => Cert.Kernel3Ideal.Value.loss_end (H c) i),
      (h c).1.2.1.trans (Cert.Kernel3Ideal.Value.dx_final (Cert.Kernel3Ideal.Value.entry (H c))),
      (h c).1.2.2.trans (funext fun i => Cert.Kernel3Ideal.Value.dg_end (H c) i), (h c).2⟩
  · refine (θ_run _ _ _).mono (fun r h c => ?_) (Cert.Reference3Ideal.Value.run m' g')
    have e0 : ∀ i : Cert.Reference3Ideal.S4096x1024.Idx, m' ((c.tc : Thread Cert.Reference3Ideal.nD Cert.Reference3Ideal.τ).loc Cert.Reference3Ideal.main_arg0) i
        = argX m c (i 0).val (i 1).val := fun i => (congrFun (ha c).1 i).trans ((H c).x i)
    have e1 : ∀ i : Cert.Reference3Ideal.S1024.Idx, m' ((c.tc : Thread Cert.Reference3Ideal.nD Cert.Reference3Ideal.τ).loc Cert.Reference3Ideal.main_arg1) i
        = argG m c (i 0).val := fun i => (congrFun (ha c).2.1 i).trans ((H c).g i)
    have e2 : ∀ i : Cert.Reference3Ideal.S1024x4096.Idx, m' ((c.tc : Thread Cert.Reference3Ideal.nD Cert.Reference3Ideal.τ).loc Cert.Reference3Ideal.main_arg2) i
        = argU m c (i 0).val (i 1).val := fun i => (congrFun (ha c).2.2.1 i).trans ((H c).u i)
    have e3 : ∀ i : Cert.Reference3Ideal.S4096x1024.Idx, m' ((c.tc : Thread Cert.Reference3Ideal.nD Cert.Reference3Ideal.τ).loc Cert.Reference3Ideal.main_arg3) i
        = argW m c (i 0).val (i 1).val := fun i => (congrFun (ha c).2.2.2.1 i).trans ((H c).w i)
    have e4 : ∀ i : Cert.Reference3Ideal.S1024.Idx, m' ((c.tc : Thread Cert.Reference3Ideal.nD Cert.Reference3Ideal.τ).loc Cert.Reference3Ideal.main_arg4) i
        = argF m c (i 0).val := fun i => (congrFun (ha c).2.2.2.2.1 i).trans ((H c).f i)
    have e5 : ∀ i : Cert.Reference3Ideal.S4096x1024.Idx, m' ((c.tc : Thread Cert.Reference3Ideal.nD Cert.Reference3Ideal.τ).loc Cert.Reference3Ideal.main_arg5) i
        = argT m c (i 0).val (i 1).val := fun i => (congrFun (ha c).2.2.2.2.2 i).trans ((H c).t i)
    refine ⟨(h c).1.trans ?_, (h c).2.1.trans ?_, (h c).2.2.1.trans ?_, (h c).2.2.2⟩
    · exact (Cert.Reference3Ideal.Read.val_main_v42_eq m' c).trans (funext fun i => Cert.Reference3Ideal.Read.loss_at e0 e1 e2 e3 e4 e5 i)
    · exact (Cert.Reference3Ideal.Read.val_main_v69_eq m' c).trans (funext fun i => Cert.Reference3Ideal.Read.dx_at e0 e1 e2 e3 e4 e5 i)
    · exact (Cert.Reference3Ideal.Read.val_main_v55_eq m' c).trans (funext fun i => Cert.Reference3Ideal.Read.dg_at e0 e1 e2 e3 e4 e5 i)

end Cert.Head

end
-- ==== Proof.In.In.lean ====
/- The product of the scaled rows with the input weights, and its gradients, over the extended real numbers. Nothing here mentions
   a program. -/
module

public import proofs.«01_k».proof.Proof.Mlp.Mixer

@[expose] public section

noncomputable section

namespace Cert.In

open Finset Idealize.ShloMosaic Cert.Mlp

variable (X : ℕ → ℕ → EReal) (G : ℕ → EReal) (U D Z : ℕ → ℕ → EReal)

/-- The product. -/
def prod (p f : ℕ) : EReal := ∑ q : Fin 1024, hid X G p q * U q f

/-- The gradient of the scaled row, where `Z` is the gradient of the product. -/
def dhid (p q : ℕ) : EReal := ∑ f : Fin 2048, Z p f * U q f

/-- The gradient of the row, where `D` is that of the row kept beside the product. -/
def drow (p q : ℕ) : EReal := D p q + dnorm X (fun p q => dhid U Z p q * G q) p q

/-- The gradient of the gains. -/
def dgain (q : ℕ) : EReal := ∑ p : Fin 4096, dhid U Z p q * xh X p q

/-- The gradient of the weights. -/
def dwgt (q f : ℕ) : EReal := ∑ p : Fin 4096, hid X G p q * Z p f

/-- What 512 rows add to the gradient of gain `q`. -/
def dgPart (q u : ℕ) : EReal := ∑ i : Fin 512, dhid U Z (u * 512 + i) q * xh X (u * 512 + i) q

theorem dg_parts (q : ℕ) : ∑ u ∈ range 8, dgPart X U Z q u = dgain X U Z q :=
  (sum_runs8 fun p => dhid U Z p q * xh X p q).symm

theorem sum_slices (φ : ℕ → EReal) : ∑ i : Fin 2048, φ i = ∑ j ∈ range 8, ∑ a : Fin 256, φ (j * 256 + a) :=
  (Finset.sum_range φ).symm.trans (sum_runs φ 8 256)

end Cert.In

end
-- ==== Proof.In.Block0.lean ====
/- One block of rows through the forward call, and one block of columns through the call for the weights' gradient. -/
module

public import proofs.«01_k».proof.Proof.Gen.Kernel4Ideal.Frame
public import proofs.«01_k».proof.Proof.In.In
public import Idealize.ShloMosaic.Lib.Pipeline.ValueKit

@[expose] public section

set_option maxRecDepth 16384

noncomputable section

open Idealize.ShloMosaic Idealize.ShloMosaic.TcCoe Idealize.SL.Sem

namespace Cert.Kernel4Ideal.Value

open Cert.Kernel4Ideal Cert.Kernel4Ideal.Gen Cert.Mlp Cert.In

section fwd

variable {X : ℕ → ℕ → EReal} {G : ℕ → EReal} {U : ℕ → ℕ → EReal}
variable {x0 : Vec Ideal S1024x1024 .f32} {x1 : Vec Ideal S1x1024 .f32} {x2 : Vec Ideal S8x1024x256 .bf16}

theorem prod_block (h0 : ∀ (i : Fin 1024) (q : Fin 1024), x0 (ix2 i q) = X i.val q.val)
    (h1 : ∀ q : Fin 1024, x1 (ix2 0 q) = G q.val)
    (h2 : ∀ (j : Fin 8) (q : Fin 1024) (a : Fin 256), x2 (ix3 j q a) = (U q.val (j.val * 256 + a.val))) (i : Fin 1024) (f : Fin 2048) :
    out0_3 (F := Ideal) x0 x1 x2 (ix2 i f) = In.prod X G U i.val f.val := by
  unfold_out out0_3
  canon_tiles x e
  all_goals
    obtain ⟨a, b, rfl⟩ : ∃ (a : Fin 512) (b : Fin 256), x = (ix2 a b : S512x256.Idx) := ⟨x 0, x 1, eq_ix2 x⟩
    first
    | have hi : i.val = _ + a.val := e0
    | have hi : i.val = 0 + a.val := e0.trans (Nat.zero_add _).symm
    first
    | have hf : f.val = _ + b.val := e1
    | have hf : f.val = 0 + b.val := e1.trans (Nat.zero_add _).symm
    open_payloads
    pointwise
    simp only [h0, h1, h2, div1024, rsqrt_row]
    rw [‹i.val = _ + a.val›, ‹f.val = _ + b.val›]
    try rw [Nat.zero_add a.val]
    rfl

theorem hid_block (h0 : ∀ (i : Fin 1024) (q : Fin 1024), x0 (ix2 i q) = X i.val q.val)
    (h1 : ∀ q : Fin 1024, x1 (ix2 0 q) = G q.val) (i : Fin 1024) (q : Fin 1024) :
    out0_4 (F := Ideal) x0 x1 x2 (ix2 i q) = hid X G i.val q.val := by
  unfold_out out0_4
  canon_tiles x e
  all_goals
    obtain ⟨a, b, rfl⟩ : ∃ (a : Fin 512) (b : Fin 1024), x = (ix2 a b : S512x1024.Idx) := ⟨x 0, x 1, eq_ix2 x⟩
    obtain rfl : q = b := Fin.ext e1
    first
    | have hi : i.val = _ + a.val := e0
    | have hi : i.val = 0 + a.val := e0.trans (Nat.zero_add _).symm
    open_payloads
    pointwise
    simp only [h0, h1, div1024, rsqrt_row]
    rw [‹i.val = _ + a.val›]
    try rw [Nat.zero_add a.val]
    rfl

end fwd

section wgt

variable {H E : ℕ → ℕ → EReal}
variable {x0 : Vec Ideal S4096x1024 .bf16} {x1 : Vec Ideal S1x4096x512 .bf16}

theorem dw_block (h0 : ∀ (p : Fin 4096) (q : Fin 1024), x0 (ix2 p q) = H p.val q.val)
    (h1 : ∀ (o : Fin 1) (p : Fin 4096) (b : Fin 512), x1 (ix3 o p b) = E p.val b.val) (j : Fin 2) (q : Fin 1024) (b : Fin 256) :
    out1_2 (F := Ideal) x0 x1 (ix3 j q b) = (∑ p : Fin 4096, H p.val q.val * E p.val (j.val * 256 + b.val)) := by
  unfold out1_2
  canon_tiles x e
  all_goals
    obtain ⟨o', q', b', rfl⟩ : ∃ (o : Fin 1) (q : Fin 1024) (b : Fin 256), x = (ix3 o q b : S1x1024x256.Idx) := ⟨x 0, x 1, x 2, eq_ix3 x⟩
    obtain rfl : q = q' := Fin.ext e1
    obtain rfl : b = b' := Fin.ext e2
    open_payloads
    pointwise
    simp only [h0, h1]
    have hj : j.val = _ := e0
    have ho : (ix3 o' q b 0 : Fin 1).val = 0 := by omega
    rw [hj, ho, sum_runs4 (fun p => H p q.val * E p _)]
    simp only [Finset.sum_range_succ, Finset.sum_range_zero, zero_add]
    simp only [Nat.reduceMul, zero_mul, zero_add, one_mul, add_zero]

end wgt

end Cert.Kernel4Ideal.Value
-- ==== Proof.In.Block2.lean ====
/- One block of rows through the backward call: the gradient of the rows and what the block's two halves add to the gradient of the
   gains. -/
module

public import proofs.«01_k».proof.Proof.Gen.Kernel4Ideal.Frame
public import proofs.«01_k».proof.Proof.In.In
public import Idealize.ShloMosaic.Lib.Pipeline.ValueKit

@[expose] public section

set_option maxRecDepth 16384

noncomputable section

open Idealize.ShloMosaic Idealize.ShloMosaic.TcCoe Idealize.SL.Sem

namespace Cert.Kernel4Ideal.Value

open Cert.Kernel4Ideal Cert.Kernel4Ideal.Gen Cert.Mlp Cert.In

section

variable (x0 : Vec Ideal S2x1024x1024 .bf16) (x1 : Vec Ideal S8x1024x256 .bf16) (x2 : Vec Ideal S1024x1024 .f32) (x3 : Vec Ideal S1x1024 .f32)
  (x4 : Vec Ideal S1024x1024 .f32)

/-- The gradient of the scaled rows, the first half of the block. -/
def dhA : FVec Ideal S512x1024 .f32 :=
  k2_pay5
    (k2_pay4 (View.ld x0 (Rect.unit ![0, 0, 0] ![1, 512, 256] inb_S2x1024x1024_S1x512x256_0_0_0))
      (View.ld x1 (Rect.unit ![0, 0, 0] ![1, 1024, 256] inb_S8x1024x256_S1x1024x256_0_0_0))
      (View.ld x0 (Rect.unit ![0, 0, 256] ![1, 512, 256] inb_S2x1024x1024_S1x512x256_0_0_256))
      (View.ld x1 (Rect.unit ![1, 0, 0] ![1, 1024, 256] inb_S8x1024x256_S1x1024x256_1_0_0))
      (View.ld x0 (Rect.unit ![0, 0, 512] ![1, 512, 256] inb_S2x1024x1024_S1x512x256_0_0_512))
      (View.ld x1 (Rect.unit ![2, 0, 0] ![1, 1024, 256] inb_S8x1024x256_S1x1024x256_2_0_0))
      (View.ld x0 (Rect.unit ![0, 0, 768] ![1, 512, 256] inb_S2x1024x1024_S1x512x256_0_0_768))
      (View.ld x1 (Rect.unit ![3, 0, 0] ![1, 1024, 256] inb_S8x1024x256_S1x1024x256_3_0_0)))
    (View.ld x0 (Rect.unit ![1, 0, 0] ![1, 512, 256] inb_S2x1024x1024_S1x512x256_1_0_0))
    (View.ld x1 (Rect.unit ![4, 0, 0] ![1, 1024, 256] inb_S8x1024x256_S1x1024x256_4_0_0))
    (View.ld x0 (Rect.unit ![1, 0, 256] ![1, 512, 256] inb_S2x1024x1024_S1x512x256_1_0_256))
    (View.ld x1 (Rect.unit ![5, 0, 0] ![1, 1024, 256] inb_S8x1024x256_S1x1024x256_5_0_0))
    (View.ld x0 (Rect.unit ![1, 0, 512] ![1, 512, 256] inb_S2x1024x1024_S1x512x256_1_0_512))
    (View.ld x1 (Rect.unit ![6, 0, 0] ![1, 1024, 256] inb_S8x1024x256_S1x1024x256_6_0_0))
    (View.ld x0 (Rect.unit ![1, 0, 768] ![1, 512, 256] inb_S2x1024x1024_S1x512x256_1_0_768))
    (View.ld x1 (Rect.unit ![7, 0, 0] ![1, 1024, 256] inb_S8x1024x256_S1x1024x256_7_0_0))

/-- The products of the first five slices, the second half of the block. -/
def dhTo5 : FVec Ideal S512x1024 .f32 :=
  k2_pay13
    (k2_pay12 (View.ld x0 (Rect.unit ![0, 512, 0] ![1, 512, 256] inb_S2x1024x1024_S1x512x256_0_512_0))
      (View.ld x1 (Rect.unit ![0, 0, 0] ![1, 1024, 256] inb_S8x1024x256_S1x1024x256_0_0_0)))
    (View.ld x0 (Rect.unit ![0, 512, 256] ![1, 512, 256] inb_S2x1024x1024_S1x512x256_0_512_256))
    (View.ld x1 (Rect.unit ![1, 0, 0] ![1, 1024, 256] inb_S8x1024x256_S1x1024x256_1_0_0))
    (View.ld x0 (Rect.unit ![0, 512, 512] ![1, 512, 256] inb_S2x1024x1024_S1x512x256_0_512_512))
    (View.ld x1 (Rect.unit ![2, 0, 0] ![1, 1024, 256] inb_S8x1024x256_S1x1024x256_2_0_0))
    (View.ld x0 (Rect.unit ![0, 512, 768] ![1, 512, 256] inb_S2x1024x1024_S1x512x256_0_512_768))
    (View.ld x1 (Rect.unit ![3, 0, 0] ![1, 1024, 256] inb_S8x1024x256_S1x1024x256_3_0_0))
    (View.ld x0 (Rect.unit ![1, 512, 0] ![1, 512, 256] inb_S2x1024x1024_S1x512x256_1_512_0))
    (View.ld x1 (Rect.unit ![4, 0, 0] ![1, 1024, 256] inb_S8x1024x256_S1x1024x256_4_0_0))

/-- The slices of the products' gradient and of the weights that are left. -/
def z5 : FVec Ideal S512x256 .bf16 := k2_pay14 (View.ld x0 (Rect.unit ![1, 512, 256] ![1, 512, 256] inb_S2x1024x1024_S1x512x256_1_512_256))
def w5 : FVec Ideal S1024x256 .bf16 := k2_pay15 (View.ld x1 (Rect.unit ![5, 0, 0] ![1, 1024, 256] inb_S8x1024x256_S1x1024x256_5_0_0))
def z6 : Vec Ideal S1x512x256 .bf16 := View.ld x0 (Rect.unit ![1, 512, 512] ![1, 512, 256] inb_S2x1024x1024_S1x512x256_1_512_512)
def w6 : Vec Ideal S1x1024x256 .bf16 := View.ld x1 (Rect.unit ![6, 0, 0] ![1, 1024, 256] inb_S8x1024x256_S1x1024x256_6_0_0)
def z7 : Vec Ideal S1x512x256 .bf16 := View.ld x0 (Rect.unit ![1, 512, 768] ![1, 512, 256] inb_S2x1024x1024_S1x512x256_1_512_768)
def w7 : Vec Ideal S1x1024x256 .bf16 := View.ld x1 (Rect.unit ![7, 0, 0] ![1, 1024, 256] inb_S8x1024x256_S1x1024x256_7_0_0)

/-- The gradient of the scaled rows, the second half of the block. -/
def dhB : FVec Ideal S512x1024 .f32 :=
  k2_pay16 (dhTo5 x0 x1) (z5 x0) (w5 x1) (constant S512x1024 .f32 0x00000000#32) (z6 x0) (w6 x1) (z7 x0) (w7 x1)

/-- The two halves of the block's rows. -/
def rowsA (x : Vec Ideal S1024x1024 .f32) : Vec Ideal S512x1024 .f32 :=
  View.ld x (Rect.unit ![0, 0] ![512, 1024] inb_S1024x1024_S512x1024_0_0)
def rowsB (x : Vec Ideal S1024x1024 .f32) : Vec Ideal S512x1024 .f32 :=
  View.ld x (Rect.unit ![512, 0] ![512, 1024] inb_S1024x1024_S512x1024_512_0)

/-- The gradient of the rows, by halves. -/
def dxA : FVec Ideal S512x1024 .f32 := k2_pay10 (dhA x0 x1) (rowsA x2) (k2_pay6 x3) (k2_pay7 (rowsA x2)) (rowsA x4)
def dxB : FVec Ideal S512x1024 .f32 :=
  k2_pay1 (k2_pay17 (rowsB x2)) (k2_pay18 (rowsB x2))
    (k2_pay20 (dhTo5 x0 x1) (z5 x0) (w5 x1) (constant S512x1024 .f32 0x00000000#32) (z6 x0) (w6 x1) (z7 x0) (w7 x1) x3)
    (k2_pay21 (dhTo5 x0 x1) (z5 x0) (w5 x1) (constant S512x1024 .f32 0x00000000#32) (z6 x0) (w6 x1) (z7 x0) (w7 x1) (rowsB x2) x3)
    k2_pay22 (rowsB x4)

/-- The gradient of the gains with what the block adds to it, from what it was. -/
def dgAB (prev : Vec Ideal S1x1024 .f32) : FVec Ideal S1x1024 .f32 :=
  k2_pay2
    (k2_pay19 (dhTo5 x0 x1) (z5 x0) (w5 x1) (constant S512x1024 .f32 0x00000000#32) (z6 x0) (w6 x1) (z7 x0) (w7 x1) (rowsB x2))
    (k2_pay11 (dhA x0 x1) (rowsA x2) (k2_pay7 (rowsA x2)) prev)

end

variable {X : ℕ → ℕ → EReal} {G : ℕ → EReal} {U D Z : ℕ → ℕ → EReal}
variable {x0 : Vec Ideal S2x1024x1024 .bf16} {x1 : Vec Ideal S8x1024x256 .bf16} {x2 : Vec Ideal S1024x1024 .f32} {x3 : Vec Ideal S1x1024 .f32}
  {x4 : Vec Ideal S1024x1024 .f32}

theorem rowsA_at (h2 : ∀ (i q : Fin 1024), x2 (ix2 i q) = X i.val q.val) (i : Fin 512) (q : Fin 1024) :
    rowsA x2 (ix2 i q) = X i.val q.val := by
  unfold rowsA
  pointwise
  simp only [h2]

theorem rowsB_at (h2 : ∀ (i q : Fin 1024), x2 (ix2 i q) = X i.val q.val) (i : Fin 512) (q : Fin 1024) :
    rowsB x2 (ix2 i q) = X (512 + i.val) q.val := by
  unfold rowsB
  pointwise
  simp only [h2]

section

variable (h0 : ∀ (s : Fin 2) (i c : Fin 1024), x0 (ix3 s i c) = Z i.val (s.val * 1024 + c.val))
    (h1 : ∀ (j : Fin 8) (q : Fin 1024) (a : Fin 256), x1 (ix3 j q a) = (U q.val (j.val * 256 + a.val)))
include h0 h1

theorem dhA_block (i : Fin 512) (q : Fin 1024) : dhA x0 x1 (ix2 i q) = dhid U Z i.val q.val := by
  unfold dhA
  open_payloads
  pointwise
  simp only [h0, h1]
  unfold dhid
  rw [sum_slices (fun f => Z i.val f * U q.val f)]
  simp only [Finset.sum_range_succ, Finset.sum_range_zero, zero_add, ← add_assoc]
  simp only [← add_assoc, Fin.isValue, Nat.reduceMul, Nat.reduceMod, Nat.reduceAdd, zero_add, Fin.val_zero, Fin.val_one, Fin.val_two,
    Fin.val_ofNat]
  rfl

theorem dhB_block (i : Fin 512) (q : Fin 1024) : dhB x0 x1 (ix2 i q) = dhid U Z (512 + i.val) q.val := by
  unfold dhB dhTo5 z5 w5 z6 w6 z7 w7
  open_payloads
  pointwise
  simp only [h0, h1]
  unfold dhid
  rw [sum_slices (fun f => Z (512 + i.val) f * U q.val f)]
  simp only [Finset.sum_range_succ, Finset.sum_range_zero, zero_add, ← add_assoc]
  simp only [← add_assoc, Fin.isValue, Nat.reduceMul, Nat.reduceMod, Nat.reduceAdd, zero_add, Fin.val_zero, Fin.val_one, Fin.val_two,
    Fin.val_ofNat]
  rfl

variable (h2 : ∀ (i q : Fin 1024), x2 (ix2 i q) = X i.val q.val)
include h2

theorem dg_block (prev : Vec Ideal S1x1024 .f32) (o : Fin 1) (q : Fin 1024) : dgAB x0 x1 x2 prev (ix2 o q)
    = prev (ix2 o q) + (∑ i : Fin 512, dhid U Z i.val q.val * xh X i.val q.val)
      + (∑ i : Fin 512, dhid U Z (512 + i.val) q.val * xh X (512 + i.val) q.val) := by
  unfold dgAB k2_pay19
  rw [show k2_pay16 (dhTo5 x0 x1) (z5 x0) (w5 x1) (constant S512x1024 .f32 0x00000000#32) (z6 x0) (w6 x1) (z7 x0) (w7 x1) = dhB x0 x1 from rfl]
  unfold k2_pay2 k2_pay11 k2_pay18 k2_pay17 k2_pay9 k2_pay8 k2_pay7
  pointwise
  simp only [dhA_block h0 h1, dhB_block h0 h1, rowsA_at h2, rowsB_at h2, div1024, rsqrt_row]
  rfl

variable (h3 : ∀ q : Fin 1024, x3 (ix2 0 q) = G q.val) (h4 : ∀ (i q : Fin 1024), x4 (ix2 i q) = D i.val q.val)
include h3 h4

theorem dxA_block (i : Fin 512) (q : Fin 1024) : dxA x0 x1 x2 x3 x4 (ix2 i q) = drow X G U D Z i.val q.val := by
  unfold dxA k2_pay10 k2_pay9 k2_pay8 k2_pay7 k2_pay6
  pointwise
  simp only [dhA_block h0 h1, rowsA_at h2, rowsA_at h4, h3, div1024, rsqrt_row]
  rfl

theorem dxB_block (i : Fin 512) (q : Fin 1024) : dxB x0 x1 x2 x3 x4 (ix2 i q) = drow X G U D Z (512 + i.val) q.val := by
  unfold dxB k2_pay1 k2_pay21 k2_pay20
  rw [show k2_pay16 (dhTo5 x0 x1) (z5 x0) (w5 x1) (constant S512x1024 .f32 0x00000000#32) (z6 x0) (w6 x1) (z7 x0) (w7 x1) = dhB x0 x1 from rfl]
  unfold k2_pay22 k2_pay18 k2_pay17
  pointwise
  simp only [dhB_block h0 h1, rowsB_at h2, rowsB_at h4, h3, div1024, rsqrt_row]
  rfl

end

/-! One point of the grid: what it leaves in each output block. -/

variable (V : (c : Dev nD) → (b : Ref sig .tc) → Buf (Elt Ideal) ((c : Thread nD τ).loc b)) (c : Dev nD)

theorem dg_outs_A (t : Fin cfg2.N) (h0 : t.val % 4 = 0) : (outsAt2 (F := Ideal) V c t.val t.isLt).2
    = dgAB (iblk2 V c 0 t) (iblk2 V c 1 t) (iblk2 V c 2 t) (k2_pay3 (F := Ideal)) := by
  rw [outsAt2_A V c t h0]
  frame_out
  rfl

theorem dg_outs_B (t : Fin cfg2.N) (h0 : ¬t.val % 4 = 0) : (outsAt2 (F := Ideal) V c t.val t.isLt).2
    = dgAB (iblk2 V c 0 t) (iblk2 V c 1 t) (iblk2 V c 2 t) (outsAt2 (F := Ideal) V c (t.val - 1) (Nat.lt_of_le_of_lt (Nat.sub_le _ _) t.isLt)).2 := by
  rw [outsAt2_B V c t h0]
  frame_out
  rfl

theorem dx_outs (t : Fin cfg2.N)
    (h0 : ∀ (s : Fin 2) (i c' : Fin 1024), (iblk2 V c 0 t : Vec Ideal S2x1024x1024 .bf16) (ix3 s i c') = Z i.val (s.val * 1024 + c'.val))
    (h1 : ∀ (j : Fin 8) (q : Fin 1024) (a : Fin 256), (iblk2 V c 1 t : Vec Ideal S8x1024x256 .bf16) (ix3 j q a) = (U q.val (j.val * 256 + a.val)))
    (h2 : ∀ (i q : Fin 1024), (iblk2 V c 2 t : Vec Ideal S1024x1024 .f32) (ix2 i q) = X i.val q.val)
    (h3 : ∀ q : Fin 1024, (iblk2 V c 3 t : Vec Ideal S1x1024 .f32) (ix2 0 q) = G q.val)
    (h4 : ∀ (i q : Fin 1024), (iblk2 V c 4 t : Vec Ideal S1024x1024 .f32) (ix2 i q) = D i.val q.val) (i q : Fin 1024) :
    (outsAt2 (F := Ideal) V c t.val t.isLt).1 (ix2 i q) = drow X G U D Z i.val q.val := by
  by_cases hc : t.val % 4 = 0
  on_goal 1 => rw [outsAt2_A V c t hc]
  on_goal 2 => rw [outsAt2_B V c t hc]
  all_goals
    frame_out
    canon_tiles x e
    all_goals
      obtain ⟨a, b, rfl⟩ : ∃ (a : Fin 512) (b : Fin 1024), x = (ix2 a b : S512x1024.Idx) := ⟨x 0, x 1, eq_ix2 x⟩
      obtain rfl : q = b := Fin.ext e1
      first
      | have hi : i.val = 512 + a.val := e0
        rw [hi]
        exact dxB_block h0 h1 h2 h3 h4 a q
      | have hi : i.val = a.val := e0
        rw [hi]
        exact dxA_block h0 h1 h2 h3 h4 a q

end Cert.Kernel4Ideal.Value
-- ==== Proof.In.Array.lean ====
/- What the three calls leave in their output arrays. A grid point takes 1024 rows in the forward call and in the backward call,
   and 512 columns of the weights in the call for their gradient. -/
module

public import proofs.«01_k».proof.Proof.In.Block0
public import proofs.«01_k».proof.Proof.In.Block2

@[expose] public section

set_option maxRecDepth 16384

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen Cert.Mlp Cert.In

/-- The block each window of the forward call is at. -/
theorem idx0 : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

/-- The block each window of the call for the weights' gradient is at. -/
theorem idx1 : ∀ t : Fin cfg1.N, win1_0.index t = ![0, 0] ∧ win1_1.index t = ![t.val / 2, 0, t.val % 2] ∧ win1_2.index t = ![t.val, 0, 0] :=
  (by decide +kernel : ∀ t : Fin grid1.N, _)

/-- The block each window of the backward call is at. -/
theorem idx2 : ∀ t : Fin cfg2.N, win2_0.index t = ![0, t.val, 0] ∧ win2_1.index t = ![0, 0, 0] ∧ win2_2.index t = ![t.val, 0]
    ∧ win2_3.index t = ![0, 0] ∧ win2_4.index t = ![t.val, 0] ∧ win2_5.index t = ![t.val, 0] ∧ win2_6.index t = ![0, 0] :=
  (by decide +kernel : ∀ t : Fin grid2.N, _)

/-- Rows from the `t`-th block of 1024 on. -/
def rows (M : ℕ → ℕ → EReal) (t : ℕ) : ℕ → ℕ → EReal := fun p q => M (t * 1024 + p) q

/-- Columns from the `t`-th block of 512 on. -/
def cols (M : ℕ → ℕ → EReal) (t : ℕ) : ℕ → ℕ → EReal := fun p q => M p (t * 512 + q)

variable {V : (c : Dev nD) → (b : Ref sig .tc) → Buf (Elt Ideal) ((c : Thread nD τ).loc b)} {c : Dev nD}
variable {X D Z : ℕ → ℕ → EReal} {G : ℕ → EReal} {U : ℕ → ℕ → EReal}

/-! ## The forward call -/

section fwd

variable (V c X G U) in
/-- The arrays the forward call reads. -/
structure Holds0 : Prop where
  x : ∀ i, (V c main_arg0 : Vec Ideal S4096x1024 .f32) i = X (i 0).val (i 1).val
  g : ∀ i, (V c main_v3 : Vec Ideal S1x1024 .f32) i = G (i 1).val
  u : ∀ i, (V c main_v2 : Vec Ideal S8x1024x256 .bf16) i = (U (i 1).val ((i 0).val * 256 + (i 2).val))

variable (H : Holds0 V c X G U) (t : Fin cfg0.N)
include H

theorem blk0_x (i : Fin 1024) (q : Fin 1024) : (iblk0 V c 0 t : Vec Ideal S1024x1024 .f32) (ix2 i q) = rows X t.val i.val q.val := by
  refine (H.x _).trans ?_
  refine congrArg₂ X ?_ ?_ <;> blk_simp [idx0 t]
theorem blk0_g (q : Fin 1024) : (iblk0 V c 1 t : Vec Ideal S1x1024 .f32) (ix2 0 q) = G q.val := by
  refine (H.g _).trans ?_
  refine congrArg G ?_
  blk_simp [idx0 t]
theorem blk0_u (j : Fin 8) (q : Fin 1024) (a : Fin 256) :
    (iblk0 V c 2 t : Vec Ideal S8x1024x256 .bf16) (ix3 j q a) = (U q.val (j.val * 256 + a.val)) := by
  refine (H.u _).trans ?_
  refine congrArg₂ U ?_ ?_ <;> blk_simp [idx0 t]

omit t in
/-- The product. -/
theorem prod_final : (dat0 (F := Ideal) V c).arrAt 3 cfg0.N
    = (fun i => In.prod X G U (i 0).val (i 1).val : Vec Ideal S4096x2048 .f32) := by
  refine (dat0 V c).arrAt_eq_of_covers 3 _ (by decide +kernel) fun t hf y => ?_
  blk_simp
  rw [after0_3]
  obtain ⟨i, q, rfl⟩ : ∃ (i : Fin 1024) (q : Fin 2048), y = (ix2 i q : S1024x2048.Idx) := ⟨y 0, y 1, eq_ix2 y⟩
  refine (prod_block (blk0_x H t) (blk0_g H t) (blk0_u H t) i q).trans ?_
  refine (show _ = In.prod X G U (t.val * 1024 + i.val) q.val from rfl).trans ?_
  refine congrArg₂ (In.prod X G U) ?_ ?_ <;> blk_simp [idx0 t]

omit t in
/-- The scaled rows. -/
theorem hid_final : (dat0 (F := Ideal) V c).arrAt 4 cfg0.N
    = (fun i => hid X G (i 0).val (i 1).val : Vec Ideal S4096x1024 .bf16) := by
  refine (dat0 V c).arrAt_eq_of_covers 4 _ (by decide +kernel) fun t hf y => ?_
  blk_simp
  rw [after0_4]
  obtain ⟨i, q, rfl⟩ : ∃ (i : Fin 1024) (q : Fin 1024), y = (ix2 i q : S1024x1024.Idx) := ⟨y 0, y 1, eq_ix2 y⟩
  refine (hid_block (blk0_x H t) (blk0_g H t) i q).trans ?_
  refine (show _ = hid X G (t.val * 1024 + i.val) q.val from rfl).trans ?_
  refine congrArg₂ (hid X G) ?_ ?_ <;> blk_simp [idx0 t]

end fwd

/-! ## The call for the weights' gradient -/

section wgt

variable (V c X G Z) in
/-- The arrays the call for the weights' gradient reads. -/
structure Holds1 : Prop where
  h : ∀ i, (V c main_v4_1 : Vec Ideal S4096x1024 .bf16) i = hid X G (i 0).val (i 1).val
  z : ∀ i, (V c main_v7 : Vec Ideal S2x4096x1024 .bf16) i = Z (i 1).val ((i 0).val * 1024 + (i 2).val)

variable (H : Holds1 V c X Z G) (t : Fin cfg1.N)
include H

theorem blk1_h (p : Fin 4096) (q : Fin 1024) : (iblk1 V c 0 t : Vec Ideal S4096x1024 .bf16) (ix2 p q) = hid X G p.val q.val := by
  refine (H.h _).trans ?_
  refine congrArg₂ (hid X G) ?_ ?_ <;> blk_simp [idx1 t]
theorem blk1_z (o : Fin 1) (p : Fin 4096) (b : Fin 512) :
    (iblk1 V c 1 t : Vec Ideal S1x4096x512 .bf16) (ix3 o p b) = cols Z t.val p.val b.val := by
  refine (H.z _).trans ?_
  have ho : o.val = 0 := by omega
  refine congrArg₂ Z ?_ ?_ <;> blk_simp [idx1 t]
  omega

omit t in
/-- The gradient of the weights, by column slices. -/
theorem dw_final : (dat1 (F := Ideal) V c).arrAt 2 cfg1.N
    = (fun i => (dwgt X G Z (i 1).val ((i 0).val * 256 + (i 2).val)) : Vec Ideal S8x1024x256 .bf16) := by
  refine (dat1 V c).arrAt_eq_of_covers 2 _ (by decide +kernel) fun t hf y => ?_
  blk_simp
  rw [after1_2]
  obtain ⟨j, q, b, rfl⟩ : ∃ (j : Fin 2) (q : Fin 1024) (b : Fin 256), y = (ix3 j q b : S2x1024x256.Idx) := ⟨y 0, y 1, y 2, eq_ix3 y⟩
  refine (dw_block (blk1_h H t) (blk1_z H t) j q b).trans ?_
  refine (show _ = dwgt X G Z q.val (t.val * 512 + (j.val * 256 + b.val)) from rfl).trans ?_
  refine congrArg₂ (dwgt X G Z) ?_ ?_ <;> blk_simp [idx1 t]
  omega

end wgt

/-! ## The backward call -/

section bwd

variable (V c X D Z G U) in
/-- The arrays the backward call reads. -/
structure Holds2 : Prop where
  z : ∀ i, (V c main_v7 : Vec Ideal S2x4096x1024 .bf16) i = Z (i 1).val ((i 0).val * 1024 + (i 2).val)
  u : ∀ i, (V c main_v2 : Vec Ideal S8x1024x256 .bf16) i = (U (i 1).val ((i 0).val * 256 + (i 2).val))
  x : ∀ i, (V c main_arg0 : Vec Ideal S4096x1024 .f32) i = X (i 0).val (i 1).val
  g : ∀ i, (V c main_v9 : Vec Ideal S1x1024 .f32) i = G (i 1).val
  d : ∀ i, (V c main_arg3 : Vec Ideal S4096x1024 .f32) i = D (i 0).val (i 1).val

variable (H : Holds2 V c X D Z G U) (t : Fin cfg2.N)
include H

theorem blk2_z (s : Fin 2) (i c' : Fin 1024) :
    (iblk2 V c 0 t : Vec Ideal S2x1024x1024 .bf16) (ix3 s i c') = rows Z t.val i.val (s.val * 1024 + c'.val) := by
  refine (H.z _).trans ?_
  refine congrArg₂ Z ?_ ?_ <;> blk_simp [idx2 t]
theorem blk2_u (j : Fin 8) (q : Fin 1024) (a : Fin 256) :
    (iblk2 V c 1 t : Vec Ideal S8x1024x256 .bf16) (ix3 j q a) = (U q.val (j.val * 256 + a.val)) := by
  refine (H.u _).trans ?_
  refine congrArg₂ U ?_ ?_ <;> blk_simp [idx2 t]
theorem blk2_x (i q : Fin 1024) : (iblk2 V c 2 t : Vec Ideal S1024x1024 .f32) (ix2 i q) = rows X t.val i.val q.val := by
  refine (H.x _).trans ?_
  refine congrArg₂ X ?_ ?_ <;> blk_simp [idx2 t]
theorem blk2_g (q : Fin 1024) : (iblk2 V c 3 t : Vec Ideal S1x1024 .f32) (ix2 0 q) = G q.val := by
  refine (H.g _).trans ?_
  refine congrArg G ?_
  blk_simp [idx2 t]
theorem blk2_d (i q : Fin 1024) : (iblk2 V c 4 t : Vec Ideal S1024x1024 .f32) (ix2 i q) = rows D t.val i.val q.val := by
  refine (H.d _).trans ?_
  refine congrArg₂ D ?_ ?_ <;> blk_simp [idx2 t]

omit t in
/-- The gradient of the rows. -/
theorem dx_final : (dat2 (F := Ideal) V c).arrAt 5 cfg2.N
    = (fun i => drow X G U D Z (i 0).val (i 1).val : Vec Ideal S4096x1024 .f32) := by
  refine (dat2 V c).arrAt_eq_of_covers 5 _ (by decide +kernel) fun t hf y => ?_
  blk_simp
  rw [after2_5]
  obtain ⟨i, q, rfl⟩ : ∃ (i : Fin 1024) (q : Fin 1024), y = (ix2 i q : S1024x1024.Idx) := ⟨y 0, y 1, eq_ix2 y⟩
  refine (dx_outs V c t (blk2_z H t) (blk2_u H t) (blk2_x H t) (blk2_g H t) (blk2_d H t) i q).trans ?_
  refine (show _ = drow X G U D Z (t.val * 1024 + i.val) q.val from rfl).trans ?_
  refine congrArg₂ (drow X G U D Z) ?_ ?_ <;> blk_simp [idx2 t]

omit H t in
/-- What the first half of block `n` adds to the gradient of gain `q`. -/
theorem half_first (n q : ℕ) : ∑ i : Fin 512, dhid U (rows Z n) i.val q * xh (rows X n) i.val q = dgPart X U Z q (2 * n) := by
  unfold dgPart
  refine Finset.sum_congr rfl fun i _ => ?_
  rw [show 2 * n * 512 + i.val = n * 1024 + i.val by omega]
  rfl

omit H t in
/-- What the second half adds. -/
theorem half_second (n q : ℕ) :
    ∑ i : Fin 512, dhid U (rows Z n) (512 + i.val) q * xh (rows X n) (512 + i.val) q = dgPart X U Z q (2 * n + 1) := by
  unfold dgPart
  refine Finset.sum_congr rfl fun i _ => ?_
  rw [show (2 * n + 1) * 512 + i.val = n * 1024 + (512 + i.val) by omega]
  rfl

omit t in
/-- The block of the gains' gradient holds the sum over the rows so far. -/
theorem dg_acc (q : Fin 1024) : ∀ (n : ℕ) (hn : n < cfg2.N), (outsAt2 (F := Ideal) V c n hn).2 (ix2 0 q)
    = (∑ u ∈ Finset.range (2 * n + 1 + 1), dgPart X U Z q.val u) := by
  intro n
  induction n with
  | zero =>
    intro hn
    rw [dg_outs_A V c ⟨0, hn⟩ (Nat.zero_mod _)]
    refine (dg_block (blk2_z H ⟨0, hn⟩) (blk2_u H ⟨0, hn⟩) (blk2_x H ⟨0, hn⟩) _ 0 q).trans ?_
    rw [Finset.sum_range_succ, Finset.sum_range_succ, half_first, half_second]
    refine congrArg (· + _ + _) ?_
    unfold k2_pay3
    pointwise
    rfl
  | succ m ih =>
    intro hn
    have hN : cfg2.N = 4 := N_2
    rw [dg_outs_B V c ⟨m + 1, hn⟩ (by simp only; omega)]
    refine (dg_block (blk2_z H ⟨m + 1, hn⟩) (blk2_u H ⟨m + 1, hn⟩) (blk2_x H ⟨m + 1, hn⟩) _ 0 q).trans ?_
    rw [Finset.sum_range_succ, Finset.sum_range_succ, half_first, half_second]
    refine congrArg (· + _ + _) ?_
    exact ih (by omega)

omit t in
/-- The gradient of the gains. -/
theorem dg_final : (dat2 (F := Ideal) V c).arrAt 6 cfg2.N
    = (fun i => dgain X U Z (i 1).val : Vec Ideal S1x1024 .f32) := by
  refine (dat2 V c).arrAt_eq_of_covers 6 _ (by decide +kernel) fun t hf y => ?_
  blk_simp
  have h3 := (flush2_6 t).mp hf
  rw [after2_6]
  obtain ⟨o, q, rfl⟩ : ∃ (o : Fin 1) (q : Fin 1024), y = (ix2 o q : S1x1024.Idx) := ⟨y 0, y 1, eq_ix2 y⟩
  obtain rfl : o = 0 := Subsingleton.elim _ _
  refine (dg_acc H q t.val t.isLt).trans ?_
  have hN : cfg2.N = 4 := N_2
  rw [show 2 * t.val + 1 + 1 = 8 by omega, dg_parts]
  refine congrArg (dgain X U Z) ?_
  blk_simp [idx2 t]

end bwd

end Cert.Kernel4Ideal.Value
-- ==== Proof.In.Run.lean ====
/- The run of the in-projection's three calls, naming what every result array ends with, and the arrays each call reads as the host operations
   and the earlier calls leave them. -/
module

public import proofs.«01_k».proof.Proof.Gen.Kernel4Ideal.Frame
public import proofs.«01_k».proof.Proof.In.Array

@[expose] public section

set_option maxRecDepth 16384

noncomputable section

namespace Cert.Kernel4Ideal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

section
variable {F : FTy → Type} [FloatOps F] [Named F]
variable (m : (ℓ : Loc nD τ sig) → Buf (Elt F) ℓ) (ρ : Dev nD → PrngReg)

set_option backward.isDefEq.respectTransparency.types false in
/-- From any memory with zero counters every weakly fair execution terminates with every result array at the last
    boundary's contents and the arguments as launched. -/
theorem run : θ_run defs (onTc (τ := τ) (main (F := F))) ⟨m, fun _ => 0, ρ⟩ (fun r => ∀ c : Dev nD,
      (r.2.mem ((c.tc : Thread nD τ).loc main_v4_0) = (dat0 (V1 m ρ) c).arrAt 3 cfg0.N
      ∧ r.2.mem ((c.tc : Thread nD τ).loc main_v10_0) = (dat2 (V5 m ρ) c).arrAt 5 cfg2.N
      ∧ r.2.mem ((c.tc : Thread nD τ).loc main_v11) = W7 m ρ c (Proc.devRef .tc main_v11)
      ∧ r.2.mem ((c.tc : Thread nD τ).loc main_v13) = W7 m ρ c (Proc.devRef .tc main_v13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => fun c =>
      ⟨⟨(((((((h c _ (mem_uc main_v4_0 (by decide))).trans (W7_of m ρ c main_v4_0 (by decide +kernel))).trans
            (W6_of m ρ c main_v4_0 (by decide +kernel))).trans (W5_of m ρ c main_v4_0 (by decide +kernel))).trans
            (W4_of m ρ c main_v4_0 (by decide +kernel))).trans (W3_of m ρ c main_v4_0 (by decide +kernel))).trans (W2_arr m ρ c 3)),
        ((h c _ (mem_uc main_v10_0 (by decide))).trans (W7_of m ρ c main_v10_0 (by decide +kernel))).trans (W6_arr m ρ c 5),
        h c _ (mem_uc main_v11 (by decide)),
        h c _ (mem_uc main_v13 (by decide))⟩,
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

/-! ## What the host operations leave -/

/-- The weights, rounded and cut into eight slices of columns. -/
theorem host_u (c : Dev nD) : W1 m ρ c (Proc.devRef .tc main_v2)
    = (transpose S8x1024x256 [1, 0, 2] (shapeCast S1024x8x256 (truncf .bf16 (m ((c.tc : Thread nD τ).loc main_arg2)
        : FVec F S1024x2048 .f32) bitsLt_bf16_f32 : FVec F S1024x2048 .bf16) shapeCasts_S1024x2048_S1024x8x256)
        transposes_S1024x8x256_S8x1024x256_1_0_2 : FVec F S8x1024x256 .bf16) := by
  show StableHlo.after hostOps0 (W0 m ρ c) _ = _
  simp only [hostOps0, StableHlo.TRef.toBuf, StableHlo.TRef.ofBuf, cast_eq]
  after_results_simp <;> rfl

/-- The gains as a row, for the forward call. -/
theorem host_g (c : Dev nD) : W1 m ρ c (Proc.devRef .tc main_v3)
    = (broadcastInDim S1x1024 ![1] bcast_S1024_S1x1024_1 (m ((c.tc : Thread nD τ).loc main_arg1) : FVec F S1024 .f32) : FVec F S1x1024 .f32) := by
  show StableHlo.after hostOps0 (W0 m ρ c) _ = _
  simp only [hostOps0, StableHlo.TRef.toBuf, StableHlo.TRef.ofBuf, cast_eq]
  after_results_simp <;> rfl

/-- The product's gradient, rounded and cut into its two halves of columns. -/
theorem host_z (c : Dev nD) : W3 m ρ c (Proc.devRef .tc main_v7)
    = (transpose S2x4096x1024 [1, 0, 2] (shapeCast S4096x2x1024 (truncf .bf16 (W2 m ρ c (Proc.devRef .tc main_arg4)
        : FVec F S4096x2048 .f32) bitsLt_bf16_f32 : FVec F S4096x2048 .bf16) shapeCasts_S4096x2048_S4096x2x1024)
        transposes_S4096x2x1024_S2x4096x1024_1_0_2 : FVec F S2x4096x1024 .bf16) := by
  show StableHlo.after hostOps1 (W2 m ρ c) _ = _
  simp only [hostOps1, StableHlo.TRef.toBuf, StableHlo.TRef.ofBuf, cast_eq]
  after_results_simp <;> rfl

/-- The gains as a row, for the backward call. -/
theorem host_g' (c : Dev nD) : W5 m ρ c (Proc.devRef .tc main_v9)
    = (broadcastInDim S1x1024 ![1] bcast_S1024_S1x1024_1 (W4 m ρ c (Proc.devRef .tc main_arg1) : FVec F S1024 .f32) : FVec F S1x1024 .f32) := by
  show StableHlo.after hostOps2 (W4 m ρ c) _ = _
  simp only [hostOps2, StableHlo.TRef.toBuf, StableHlo.TRef.ofBuf, cast_eq]
  after_results_simp <;> rfl

/-- The gradient of the gains, as a vector. -/
theorem host_dg (c : Dev nD) : W7 m ρ c (Proc.devRef .tc main_v11)
    = (shapeCast S1024 (W6 m ρ c (Proc.devRef .tc main_v10_1) : FVec F S1x1024 .f32) shapeCasts_S1x1024_S1024 : FVec F S1024 .f32) := by
  show StableHlo.after hostOps3 (W6 m ρ c) _ = _
  simp only [hostOps3, StableHlo.TRef.toBuf, StableHlo.TRef.ofBuf, cast_eq]
  after_results_simp <;> rfl

/-- The gradient of the weights, its eight slices side by side. -/
theorem host_dw (c : Dev nD) : W7 m ρ c (Proc.devRef .tc main_v13)
    = (shapeCast S1024x2048 (transpose S1024x8x256 [1, 0, 2] (W6 m ρ c (Proc.devRef .tc main_v8) : FVec F S8x1024x256 .bf16)
        transposes_S8x1024x256_S1024x8x256_1_0_2 : FVec F S1024x8x256 .bf16) shapeCasts_S1024x8x256_S1024x2048 : FVec F S1024x2048 .bf16) := by
  show StableHlo.after hostOps3 (W6 m ρ c) _ = _
  simp only [hostOps3, StableHlo.TRef.toBuf, StableHlo.TRef.ofBuf, cast_eq]
  after_results_simp <;> rfl

end

section
open Cert.Mlp Cert.In
variable (m : (ℓ : Loc nD τ sig) → Buf (Elt Ideal) ℓ) (ρ : Dev nD → PrngReg)
variable (X D Z : ℕ → ℕ → EReal) (G : ℕ → EReal) (U : ℕ → ℕ → EReal) (c : Dev nD)

/-- The numbers the arguments hold. -/
structure Args : Prop where
  x : ∀ i, (m ((c.tc : Thread nD τ).loc main_arg0) : FVec Ideal S4096x1024 .f32) i = X (i 0).val (i 1).val
  g : ∀ i, (m ((c.tc : Thread nD τ).loc main_arg1) : FVec Ideal S1024 .f32) i = G (i 0).val
  u : ∀ i, (m ((c.tc : Thread nD τ).loc main_arg2) : FVec Ideal S1024x2048 .f32) i = U (i 0).val (i 1).val
  d : ∀ i, (m ((c.tc : Thread nD τ).loc main_arg3) : FVec Ideal S4096x1024 .f32) i = D (i 0).val (i 1).val
  z : ∀ i, (m ((c.tc : Thread nD τ).loc main_arg4) : FVec Ideal S4096x2048 .f32) i = Z (i 0).val (i 1).val

variable {m X D Z G U c}

/-- The gains read as a row. -/
theorem row_at {y : FVec Ideal S1024 .f32} (h : ∀ i, y i = G (i 0).val) (i : S1x1024.Idx) :
    (broadcastInDim S1x1024 ![1] bcast_S1024_S1x1024_1 y : FVec Ideal S1x1024 .f32) i = G (i 1).val :=
  (broadcastInDim_apply _ bcast_S1024_S1x1024_1 y i (fun a => match a with | ⟨0, _⟩ => ⟨(i 1).val, (i 1).isLt⟩) (fun a => match a with
    | ⟨0, _⟩ => by show (i 1).val = if (1024 : Nat) = 1 then 0 else (i 1).val; rw [if_neg (by decide)])).trans (h _)

/-- The sliced weights at an index. -/
theorem slices_at (H : Args m X D Z G U c) (i : S8x1024x256.Idx) :
    (W1 m ρ c (Proc.devRef .tc main_v2) : FVec Ideal S8x1024x256 .bf16) i = (U (i 1).val ((i 0).val * 256 + (i 2).val)) := by
  have b0 : (i 0).val < 8 := (i 0).isLt
  have b1 : (i 1).val < 1024 := (i 1).isLt
  have b2 : (i 2).val < 256 := (i 2).isLt
  refine (congrFun (host_u m ρ c) i).trans ?_
  refine (transpose_apply [1, 0, 2] _ transposes_S1024x8x256_S8x1024x256_1_0_2 i
    (fun a => match a with | ⟨0, _⟩ => ⟨(i 1).val, (i 1).isLt⟩ | ⟨1, _⟩ => ⟨(i 0).val, (i 0).isLt⟩ | ⟨2, _⟩ => ⟨(i 2).val, (i 2).isLt⟩)
    (fun b => match b with | ⟨0, _⟩ => rfl | ⟨1, _⟩ => rfl | ⟨2, _⟩ => rfl)).trans ?_
  refine (shapeCast_apply _ shapeCasts_S1024x2048_S1024x8x256 _
    (fun a => match a with | ⟨0, _⟩ => ⟨(i 1).val, (i 1).isLt⟩ | ⟨1, _⟩ => ⟨(i 0).val * 256 + (i 2).val, by show _ < 2048; omega⟩)
    (by rewrite [Shape.rowMajor_val_two, Shape.rowMajor_val_three]
        show (i 1).val * 2048 + ((i 0).val * 256 + (i 2).val) = ((i 1).val * 8 + (i 0).val) * 256 + (i 2).val
        omega)).trans ?_
  exact H.u _

/-- The halves of the product's gradient at an index. -/
theorem halves_at (H : Args m X D Z G U c) (i : S2x4096x1024.Idx) :
    (W3 m ρ c (Proc.devRef .tc main_v7) : FVec Ideal S2x4096x1024 .bf16) i = Z (i 1).val ((i 0).val * 1024 + (i 2).val) := by
  have b0 : (i 0).val < 2 := (i 0).isLt
  have b1 : (i 1).val < 4096 := (i 1).isLt
  have b2 : (i 2).val < 1024 := (i 2).isLt
  refine (congrFun (host_z m ρ c) i).trans ?_
  refine (transpose_apply [1, 0, 2] _ transposes_S4096x2x1024_S2x4096x1024_1_0_2 i
    (fun a => match a with | ⟨0, _⟩ => ⟨(i 1).val, (i 1).isLt⟩ | ⟨1, _⟩ => ⟨(i 0).val, (i 0).isLt⟩ | ⟨2, _⟩ => ⟨(i 2).val, (i 2).isLt⟩)
    (fun b => match b with | ⟨0, _⟩ => rfl | ⟨1, _⟩ => rfl | ⟨2, _⟩ => rfl)).trans ?_
  refine (shapeCast_apply _ shapeCasts_S4096x2048_S4096x2x1024 _
    (fun a => match a with | ⟨0, _⟩ => ⟨(i 1).val, (i 1).isLt⟩ | ⟨1, _⟩ => ⟨(i 0).val * 1024 + (i 2).val, by show _ < 2048; omega⟩)
    (by rewrite [Shape.rowMajor_val_two, Shape.rowMajor_val_three]
        show (i 1).val * 2048 + ((i 0).val * 1024 + (i 2).val) = ((i 1).val * 2 + (i 0).val) * 1024 + (i 2).val
        omega)).trans ?_
  exact (congrFun (W2_args m ρ c main_arg4 (by decide)) _).trans (H.z _)

/-- What the forward call reads. -/
theorem entry0 (H : Args m X D Z G U c) : Holds0 (V1 m ρ) c X G U where
  x i := (congrFun (W1_of m ρ c main_arg0 (by decide +kernel)) i).trans (H.x i)
  g i := (congrFun (host_g m ρ c) i).trans (row_at H.g i)
  u i := slices_at ρ H i

/-- What the call for the weights' gradient reads. -/
theorem entry1 (H : Args m X D Z G U c) : Holds1 (V3 m ρ) c X Z G where
  h i := (congrFun ((W3_of m ρ c main_v4_1 (by decide +kernel)).trans (W2_arr m ρ c 4)) i).trans (congrFun (hid_final (entry0 ρ H)) i)
  z i := halves_at ρ H i

/-- What the backward call reads. -/
theorem entry2 (H : Args m X D Z G U c) : Holds2 (V5 m ρ) c X D Z G U where
  z i := (congrFun ((W5_of m ρ c main_v7 (by decide +kernel)).trans (W4_of m ρ c main_v7 (by decide +kernel))) i).trans (halves_at ρ H i)
  u i := (congrFun ((((W5_of m ρ c main_v2 (by decide +kernel)).trans (W4_of m ρ c main_v2 (by decide +kernel))).trans
    (W3_of m ρ c main_v2 (by decide +kernel))).trans (W2_of m ρ c main_v2 (by decide +kernel))) i).trans (slices_at ρ H i)
  x i := (congrFun (W5_args m ρ c main_arg0 (by decide)) i).trans (H.x i)
  g i := (congrFun (host_g' m ρ c) i).trans (row_at (fun j => (congrFun (W4_args m ρ c main_arg1 (by decide)) j).trans (H.g j)) i)
  d i := (congrFun (W5_args m ρ c main_arg3 (by decide)) i).trans (H.d i)

/-- The gradient of the gains at the end. -/
theorem dg_end (H : Args m X D Z G U c) (i : S1024.Idx) :
    (W7 m ρ c (Proc.devRef .tc main_v11) : FVec Ideal S1024 .f32) i = dgain X U Z (i 0).val := by
  refine (congrFun (host_dg m ρ c) i).trans ?_
  refine (shapeCast_apply _ shapeCasts_S1x1024_S1024 i
    (fun a => match a with | ⟨0, _⟩ => ⟨0, Nat.one_pos⟩ | ⟨1, _⟩ => ⟨(i 0).val, (i 0).isLt⟩)
    (by rewrite [Shape.rowMajor_val_two, Shape.rowMajor_val_one]
        show 0 * 1024 + (i 0).val = (i 0).val
        omega)).trans ?_
  exact (congrFun (W6_arr m ρ c 6) _).trans (congrFun (dg_final (entry2 ρ H)) _)

/-- The gradient of the weights at the end. -/
theorem dw_end (H : Args m X D Z G U c) (i : S1024x2048.Idx) :
    (W7 m ρ c (Proc.devRef .tc main_v13) : FVec Ideal S1024x2048 .bf16) i = dwgt X G Z (i 0).val (i 1).val := by
  have b0 : (i 0).val < 1024 := (i 0).isLt
  have b1 : (i 1).val < 2048 := (i 1).isLt
  refine (congrFun (host_dw m ρ c) i).trans ?_
  refine (shapeCast_apply _ shapeCasts_S1024x8x256_S1024x2048 i
    (fun a => match a with | ⟨0, _⟩ => ⟨(i 0).val, (i 0).isLt⟩ | ⟨1, _⟩ => ⟨(i 1).val / 256, by show _ < 8; omega⟩ | ⟨2, _⟩ => ⟨(i 1).val % 256, by show _ < 256; omega⟩)
    (by rewrite [Shape.rowMajor_val_three, Shape.rowMajor_val_two]
        show ((i 0).val * 8 + (i 1).val / 256) * 256 + (i 1).val % 256 = (i 0).val * 2048 + (i 1).val
        omega)).trans ?_
  refine (transpose_apply [1, 0, 2] _ transposes_S8x1024x256_S1024x8x256_1_0_2 _
    (fun a => match a with | ⟨0, _⟩ => ⟨(i 1).val / 256, by show _ < 8; omega⟩ | ⟨1, _⟩ => ⟨(i 0).val, (i 0).isLt⟩ | ⟨2, _⟩ => ⟨(i 1).val % 256, by show _ < 256; omega⟩)
    (fun b => match b with | ⟨0, _⟩ => rfl | ⟨1, _⟩ => rfl | ⟨2, _⟩ => rfl)).trans ?_
  refine ((congrFun (((W6_of m ρ c main_v8 (by decide +kernel)).trans (W5_of m ρ c main_v8 (by decide +kernel))).trans
    (W4_arr m ρ c 2)) _).trans (congrFun (dw_final (entry1 ρ H)) _)).trans ?_
  refine congrArg (dwgt X G Z _) ?_
  show (i 1).val / 256 * 256 + (i 1).val % 256 = (i 1).val
  omega

end

end Cert.Kernel4Ideal.Value

end
-- ==== Proof.In.Ref.lean ====
/- The plain product and its gradient read at an index: each value a formula of the arguments' elements. -/
module

public import proofs.«01_k».proof.Proof.In.In
public import proofs.«01_k».proof.Proof.Gen.Reference4Ideal.Read

@[expose] public section

set_option maxRecDepth 16384

noncomputable section

open Idealize.ShloMosaic Idealize.ShloMosaic.TcCoe Idealize.SL.Sem

namespace Cert.Reference4Ideal.Read

open Cert.Reference4Ideal Cert.Reference4Ideal.Gen Cert.Mlp Cert.In

variable {x0 x3 : (⟨S4096x1024, .f32⟩ : BufTy).Contents (Elt Ideal)} {x1 : (⟨S1024, .f32⟩ : BufTy).Contents (Elt Ideal)}
variable {x2 : (⟨S1024x2048, .f32⟩ : BufTy).Contents (Elt Ideal)} {x4 : (⟨S4096x2048, .f32⟩ : BufTy).Contents (Elt Ideal)}
variable {X U D Z : ℕ → ℕ → EReal} {G : ℕ → EReal}

/-- The literals. -/
theorem zero_bits : FloatOps.ofBits (F := Ideal) .f32 0x00000000#32 = (0 : EReal) := Ideal.ofBits_zero_f32
theorem half_bits : FloatOps.ofBits (F := Ideal) .f32 0xBF000000#32 = (((-(1 / 2) : ℝ)) : EReal) := lit_half
theorem eps_bits : FloatOps.ofBits (F := Ideal) .f32 0x358637BD#32 = eps := lit_eps

variable (h0 : ∀ i, x0 i = X (i 0).val (i 1).val) (h1 : ∀ i, x1 i = G (i 0).val)
variable (h2 : ∀ i, x2 i = U (i 0).val (i 1).val) (h3 : ∀ i, x3 i = D (i 0).val (i 1).val)
variable (h4 : ∀ i, x4 i = Z (i 0).val (i 1).val)

section
include h0

/-- The mean square. -/
theorem v6_at (i : S4096x1.Idx) : val_main_v6 (F := Ideal) x0 i = ms X (i 0).val := by
  rw [val_main_v6_apply, val_main_v4_apply, val_main_v2_apply, val_main_v3_apply, val_main_cst_0_apply, val_main_v5_apply,
    val_main_cst_1_apply, val_main_v1_apply, val_main_cst_apply, zero_bits, zero_add, eps_bits]
  refine congrArg (· + _) ((div1024 _).trans (congrArg (· / 1024) (Finset.sum_congr rfl fun q _ => ?_)))
  rw [val_main_v0_apply, h0]
  rfl

/-- Its inverse root. -/
theorem v7_at (i : S4096x1.Idx) : val_main_v7 (F := Ideal) x0 i = rinv X (i 0).val := by
  rw [val_main_v7_apply, v6_at h0]
  rfl

/-- The slope of the inverse root. -/
theorem v10_at (i : S4096x1.Idx) :
    val_main_v10 (F := Ideal) x0 i = ((((-(1 / 2) : ℝ)) : EReal) * (rinv X (i 0).val / ms X (i 0).val)) := by
  rw [val_main_v10_apply, val_main_v9_apply, val_main_cst_2_apply, val_main_v8_apply, v7_at h0, v6_at h0, half_bits]
  exact congrArg (_ * ·) (div_ne (ms_pos X _).ne')

/-- The row over its root mean square. -/
theorem v12_at (i : S4096x1024.Idx) : val_main_v12 (F := Ideal) x0 i = xh X (i 0).val (i 1).val := by
  rw [val_main_v12_apply, val_main_v11_apply, v7_at h0, h0]
  rfl

include h1

/-- The scaled row. -/
theorem v15_at (i : S4096x1024.Idx) : val_main_v15 (F := Ideal) x0 x1 i = hid X G (i 0).val (i 1).val := by
  rw [val_main_v15_apply, v12_at h0, val_main_v14_apply, val_main_v13_apply, h1]
  rfl

include h4 in
/-- The gradient of the weights. -/
theorem dw_at (i : S1024x2048.Idx) : val_main_v41 (F := Ideal) x0 x1 x4 i = dwgt X G Z (i 0).val (i 1).val := by
  refine (show _ = val_main_v18 (F := Ideal) x0 x1 x4 i from rfl).trans ?_
  rw [val_main_v18_apply, val_main_v17_apply]
  unfold dwgt
  refine Finset.sum_congr rfl fun p _ => ?_
  rw [v15_at h0 h1, h4, mul_comm]

include h2

/-- The product. -/
theorem prod_at (i : S4096x2048.Idx) : val_main_v16 (F := Ideal) x0 x1 x2 i = In.prod X G U (i 0).val (i 1).val := by
  rw [val_main_v16_apply]
  unfold In.prod
  refine Finset.sum_congr rfl fun q _ => ?_
  rw [v15_at h0 h1, h2]

include h4

omit h0 h1 in
/-- The gradient of the scaled row. -/
theorem v19_at (i : S4096x1024.Idx) : val_main_v19 (F := Ideal) x2 x4 i = dhid U Z (i 0).val (i 1).val := by
  rw [val_main_v19_apply]
  unfold dhid
  refine Finset.sum_congr rfl fun f _ => ?_
  rw [h4, h2]

omit h0 in
/-- The gradient of the row over its root mean square. -/
theorem v24_at (i : S4096x1024.Idx) :
    val_main_v24 (F := Ideal) x1 x2 x4 i = (dhid U Z (i 0).val (i 1).val * G (i 1).val) := by
  rw [val_main_v24_apply, v19_at h2 h4, val_main_v23_apply, val_main_v13_apply, h1]
  rfl

omit h1 in
/-- The gradient of the gains. -/
theorem dg_at (i : S1024.Idx) : val_main_v25 (F := Ideal) x0 x2 x4 i = dgain X U Z (i 0).val := by
  rw [val_main_v25_apply, val_main_cst_4_apply, zero_bits, zero_add, Fin.sum_univ_one, val_main_v22_apply, val_main_v21_apply,
    val_main_cst_3_apply, zero_bits, zero_add]
  refine (Finset.sum_congr rfl fun p _ => ?_).trans
    (congrArg (dgain X U Z) (show 0 * 1024 + (i 0).val = (i 0).val by omega))
  rw [val_main_v20_apply, v12_at h0, v19_at h2 h4]
  exact mul_comm _ _

/-- What a row and its gradient have in common. -/
theorem v28_at (i : S4096x1.Idx) : val_main_v28 (F := Ideal) x0 x1 x2 x4 i
    = (∑ q : Fin 1024, X (i 0).val q.val * (dhid U Z (i 0).val q.val * G q.val)) := by
  have b1 : (i 1).val < 1 := (i 1).isLt
  have e : ((idx_main_v28 i) 0).val = (i 0).val := by
    show (i 0).val * 1 + (i 1).val = (i 0).val
    omega
  rw [val_main_v28_apply, val_main_v27_apply, val_main_cst_5_apply, zero_bits, zero_add, ← e]
  refine Finset.sum_congr rfl fun q _ => ?_
  rw [val_main_v26_apply, h0, v24_at h1 h2 h4]
  rfl

/-- The gradient of the mean square, spread over the row. -/
theorem v36_at (i : S4096x1024.Idx) : val_main_v36 (F := Ideal) x0 x1 x2 x4 i
    = (∑ q : Fin 1024, X (i 0).val q.val * (dhid U Z (i 0).val q.val * G q.val))
        * ((((-(1 / 2) : ℝ)) : EReal) * (rinv X (i 0).val / ms X (i 0).val)) / 1024 := by
  rw [val_main_v36_apply, val_main_v35_apply, val_main_cst_7_apply, zero_bits, zero_add, Fin.sum_univ_one, val_main_v34_apply,
    val_main_v32_apply, v28_at h0 h1 h2 h4, val_main_v33_apply, val_main_cst_6_apply, v10_at h0]
  exact div1024 _

include h3

/-- The gradient of the rows. -/
theorem dx_at (i : S4096x1024.Idx) : val_main_v40 (F := Ideal) x0 x1 x2 x3 x4 i = drow X G U D Z (i 0).val (i 1).val := by
  rw [val_main_v40_apply, val_main_v38_apply, val_main_v31_apply, val_main_v30_apply, val_main_v29_apply, val_main_v37_apply,
    val_main_v39_apply, v36_at h0 h1 h2 h4, v24_at h1 h2 h4, v7_at h0, h0, h3]
  refine (show _ = ((_ + _ * _) + _ * _ + _ * _ : EReal) from rfl).trans ?_
  rw [add_assoc, add_assoc, ← add_assoc (_ * _)]
  exact congrArg (_ + ·) (dnorm_halves X (fun p q => dhid U Z p q * G q) _ _)

end

end Cert.Reference4Ideal.Read

end
-- ==== Proof.In.Equation.lean ====
/- The equation of the in-projection: the kernel's three calls and the plain product with its gradient end with the same four arrays. -/
module

public import proofs.«01_k».proof.Defs
public import proofs.«01_k».proof.Proof.In.Run
public import proofs.«01_k».proof.Proof.In.Ref
public import proofs.«01_k».proof.Proof.Mlp.Arr
public import proofs.«01_k».proof.Proof.Gen.Reference4Ideal.Run

@[expose] public section

set_option maxRecDepth 16384

noncomputable section

namespace Cert.In

open Idealize.ShloMosaic Idealize.ShloMosaic.TcCoe Idealize.SL.Sem Cert.Mlp

/-- The plain product and its gradient end with their arguments as launched, and have no semaphore to leave set. -/
theorem reference_frame (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0) :=
  (θ_run _ _ _).mono (fun r h => ⟨fun c => (h c).2.2.2.2, sem_eq_zero_of_no_sems (by decide) r.2⟩) (Cert.Reference4Ideal.Value.run m g)

section
variable (m : (ℓ : Loc Cert.Kernel4Ideal.nD Cert.Kernel4Ideal.τ Cert.Kernel4Ideal.sig) → Buf (Elt Ideal) ℓ)

/-- The elements of the argument arrays on a device. -/
def argX (c : Dev Cert.Kernel4Ideal.nD) : ℕ → ℕ → EReal :=
  elem (n0 := 4096) (n1 := 1024) (m ((c.tc : Thread Cert.Kernel4Ideal.nD Cert.Kernel4Ideal.τ).loc Cert.Kernel4Ideal.main_arg0))
def argG (c : Dev Cert.Kernel4Ideal.nD) : ℕ → EReal :=
  elem1 (n := 1024) (m ((c.tc : Thread Cert.Kernel4Ideal.nD Cert.Kernel4Ideal.τ).loc Cert.Kernel4Ideal.main_arg1))
def argU (c : Dev Cert.Kernel4Ideal.nD) : ℕ → ℕ → EReal :=
  elem (n0 := 1024) (n1 := 2048) (m ((c.tc : Thread Cert.Kernel4Ideal.nD Cert.Kernel4Ideal.τ).loc Cert.Kernel4Ideal.main_arg2))
def argD (c : Dev Cert.Kernel4Ideal.nD) : ℕ → ℕ → EReal :=
  elem (n0 := 4096) (n1 := 1024) (m ((c.tc : Thread Cert.Kernel4Ideal.nD Cert.Kernel4Ideal.τ).loc Cert.Kernel4Ideal.main_arg3))
def argZ (c : Dev Cert.Kernel4Ideal.nD) : ℕ → ℕ → EReal :=
  elem (n0 := 4096) (n1 := 2048) (m ((c.tc : Thread Cert.Kernel4Ideal.nD Cert.Kernel4Ideal.τ).loc Cert.Kernel4Ideal.main_arg4))

/-- The arguments are the arrays of those elements. -/
theorem args (c : Dev Cert.Kernel4Ideal.nD) : Cert.Kernel4Ideal.Value.Args m (argX m c) (argD m c) (argZ m c) (argG m c) (argU m c) c where
  x := elem_at _
  g := elem1_at _
  u := elem_at _
  d := elem_at _
  z := elem_at _

end

/-- Both programs end with the product and the three gradients. -/
theorem equation : Cert.algebraic_Kernel4Ideal_Reference4Ideal (hKernel4Ideal := Cert.Kernel4Ideal.Gen.facts)
    (hReference4Ideal := Cert.Reference4Ideal.Gen.facts) := by
  intro m g m' g' _ ha
  have H := args m
  refine ⟨fun c => arr (In.prod (argX m c) (argG m c) (argU m c)), fun c => arr (drow (argX m c) (argG m c) (argU m c) (argD m c) (argZ m c)),
    fun c => arr1 (dgain (argX m c) (argU m c) (argZ m c)), fun c => arr (dwgt (argX m c) (argG m c) (argZ m c)), ?_, ?_⟩
  · refine (θ_run _ _ _).mono (fun r h c => ?_) (Cert.Kernel4Ideal.Value.run m g)
    exact ⟨(h c).1.1.trans (Cert.Kernel4Ideal.Value.prod_final (Cert.Kernel4Ideal.Value.entry0 g (H c))),
      (h c).1.2.1.trans (Cert.Kernel4Ideal.Value.dx_final (Cert.Kernel4Ideal.Value.entry2 g (H c))),
      (h c).1.2.2.1.trans (funext fun i => Cert.Kernel4Ideal.Value.dg_end g (H c) i),
      (h c).1.2.2.2.trans (funext fun i => Cert.Kernel4Ideal.Value.dw_end g (H c) i), (h c).2⟩
  · refine (θ_run _ _ _).mono (fun r h c => ?_) (Cert.Reference4Ideal.Value.run m' g')
    have e0 : ∀ i : Cert.Reference4Ideal.S4096x1024.Idx, m' ((c.tc : Thread Cert.Reference4Ideal.nD Cert.Reference4Ideal.τ).loc Cert.Reference4Ideal.main_arg0) i
        = argX m c (i 0).val (i 1).val := fun i => (congrFun (ha c).1 i).trans ((H c).x i)
    have e1 : ∀ i : Cert.Reference4Ideal.S1024.Idx, m' ((c.tc : Thread Cert.Reference4Ideal.nD Cert.Reference4Ideal.τ).loc Cert.Reference4Ideal.main_arg1) i
        = argG m c (i 0).val := fun i => (congrFun (ha c).2.1 i).trans ((H c).g i)
    have e2 : ∀ i : Cert.Reference4Ideal.S1024x2048.Idx, m' ((c.tc : Thread Cert.Reference4Ideal.nD Cert.Reference4Ideal.τ).loc Cert.Reference4Ideal.main_arg2) i
        = argU m c (i 0).val (i 1).val := fun i => (congrFun (ha c).2.2.1 i).trans ((H c).u i)
    have e3 : ∀ i : Cert.Reference4Ideal.S4096x1024.Idx, m' ((c.tc : Thread Cert.Reference4Ideal.nD Cert.Reference4Ideal.τ).loc Cert.Reference4Ideal.main_arg3) i
        = argD m c (i 0).val (i 1).val := fun i => (congrFun (ha c).2.2.2.1 i).trans ((H c).d i)
    have e4 : ∀ i : Cert.Reference4Ideal.S4096x2048.Idx, m' ((c.tc : Thread Cert.Reference4Ideal.nD Cert.Reference4Ideal.τ).loc Cert.Reference4Ideal.main_arg4) i
        = argZ m c (i 0).val (i 1).val := fun i => (congrFun (ha c).2.2.2.2 i).trans ((H c).z i)
    refine ⟨(h c).1.trans ?_, (h c).2.1.trans ?_, (h c).2.2.1.trans ?_, (h c).2.2.2.1.trans ?_, (h c).2.2.2.2⟩
    · exact (Cert.Reference4Ideal.Read.val_main_v16_eq _ _ _).trans (funext fun i => Cert.Reference4Ideal.Read.prod_at e0 e1 e2 i)
    · exact (Cert.Reference4Ideal.Read.val_main_v40_eq m' c).trans (funext fun i => Cert.Reference4Ideal.Read.dx_at e0 e1 e2 e3 e4 i)
    · exact (Cert.Reference4Ideal.Read.val_main_v25_eq _ _ _).trans (funext fun i => Cert.Reference4Ideal.Read.dg_at e0 e2 e4 i)
    · exact (Cert.Reference4Ideal.Read.val_main_v41_eq _ _ _).trans (funext fun i => Cert.Reference4Ideal.Read.dw_at e0 e1 e4 i)

end Cert.In

end
-- ==== Proof.Qkv.Qkv.lean ====
/- The products of the queries, keys and values with their weights side by side, and the gradients, over the extended real numbers.
   Nothing here mentions a program. -/
module

public import proofs.«01_k».proof.Proof.In.In

@[expose] public section

noncomputable section

namespace Cert.Qkv

open Finset Idealize.ShloMosaic Cert.Mlp

variable (X : ℕ → ℕ → EReal) (G : ℕ → EReal) (U D Z : ℕ → ℕ → EReal)

/-- The gradient of the scaled row, where `Z` is the gradient of the 1536 products. -/
def dhid (p q : ℕ) : EReal := ∑ f : Fin 1536, Z p f * U q f

/-- The gradient of the row, where `D` is that of the row kept beside the products. -/
def drow (p q : ℕ) : EReal := D p q + dnorm X (fun p q => dhid U Z p q * G q) p q

/-- The gradient of the gains. -/
def dgain (q : ℕ) : EReal := ∑ p : Fin 4096, dhid U Z p q * xh X p q

/-- What 512 rows add to the gradient of gain `q`. -/
def dgPart (q u : ℕ) : EReal := ∑ i : Fin 512, dhid U Z (u * 512 + i) q * xh X (u * 512 + i) q

theorem dg_parts (q : ℕ) : ∑ u ∈ range 8, dgPart X U Z q u = dgain X U Z q :=
  (sum_runs8 fun p => dhid U Z p q * xh X p q).symm

/-- The gradient of the scaled row, from three slices of the products. -/
theorem dhid_slices (p q : ℕ) : dhid U Z p q
    = (∑ a : Fin 512, Z p a * U q a) + (∑ a : Fin 512, Z p (512 + a) * U q (512 + a)) + (∑ a : Fin 512, Z p (1024 + a) * U q (1024 + a)) := by
  refine (((Finset.sum_range fun f => Z p f * U q f).symm.trans (sum_runs (fun f => Z p f * U q f) 3 512))).trans ?_
  simp only [Finset.sum_range_succ, Finset.sum_range_zero, zero_add, zero_mul, one_mul, Nat.reduceMul]

end Cert.Qkv

end
-- ==== Proof.Qkv.Block0.lean ====
/- One block of rows through the forward call, and one block of rows of the weights through the call for their gradient. -/
module

public import proofs.«01_k».proof.Proof.Gen.Kernel5Ideal.Frame
public import proofs.«01_k».proof.Proof.Qkv.Qkv
public import Idealize.ShloMosaic.Lib.Pipeline.ValueKit

@[expose] public section

set_option maxRecDepth 16384

noncomputable section

open Idealize.ShloMosaic Idealize.ShloMosaic.TcCoe Idealize.SL.Sem

namespace Cert.Kernel5Ideal.Value

open Cert.Kernel5Ideal Cert.Kernel5Ideal.Gen Cert.Mlp Cert.Qkv

/-- A load that reads inside the last stored piece reads that piece. -/
theorem read_last {sig : RefSig} {κ : Kind} {sp : Space} {s : Shape} {e : EltTy} (v : View sig κ sp s e) (r : Rect s)
    (w : r.shape.Idx → Elt Ideal e) (L : List (View.Piece (Elt Ideal) s e)) (B : LoadRect s) (j : B.shape.Idx) (x : r.shape.Idx)
    (h : B.idx j = r.emb x) : v.readCov (⟨r, w⟩ :: L) B j = w x := by
  rw [View.readCov_eq_canon']
  exact (congrArg (View.canon _) h).trans (View.canon_cons_emb r w L x)

section fwd

variable (V : (c : Dev nD) → (b : Ref sig .tc) → Buf (Elt Ideal) ((c : Thread nD τ).loc b)) (c : Dev nD)
variable {X : ℕ → ℕ → EReal} {G : ℕ → EReal} {U : ℕ → ℕ → EReal} (t : Fin cfg0.N)
    (h0 : ∀ (i : Fin 1024) (q : Fin 1024), (iblk0 V c 0 t : Vec Ideal S1024x1024 .f32) (ix2 i q) = X i.val q.val)
    (h1 : ∀ q : Fin 1024, (iblk0 V c 1 t : Vec Ideal S1x1024 .f32) (ix2 0 q) = G q.val)
    (h2 : ∀ (j : Fin 3) (a : Fin 512) (q : Fin 1024), (iblk0 V c 2 t : Vec Ideal S3x512x1024 .bf16) (ix3 j a q) = (U q.val (j.val * 512 + a.val)))
include h0 h1

theorem hid_outs (i : Fin 1024) (q : Fin 1024) : (outsAt0 (F := Ideal) V c t).2.1 (ix2 i q) = hid X G i.val q.val := by
  unfold outsAt0
  frame_out
  obtain ⟨x0, hx0⟩ : ∃ x : Vec Ideal S1024x1024 .f32, x = iblk0 V c 0 t := ⟨_, rfl⟩
  obtain ⟨x1, hx1⟩ : ∃ x : Vec Ideal S1x1024 .f32, x = iblk0 V c 1 t := ⟨_, rfl⟩
  rw [← hx0] at h0 ⊢
  rw [← hx1] at h1 ⊢
  clear hx0 hx1
  canon_tiles x e
  all_goals
    obtain ⟨a, b, rfl⟩ : ∃ (a : Fin 512) (b : Fin 1024), x = (ix2 a b : S512x1024.Idx) := ⟨x 0, x 1, eq_ix2 x⟩
    obtain rfl : q = b := Fin.ext e1
    first
    | have hi : i.val = _ + a.val := e0
    | have hi : i.val = 0 + a.val := e0.trans (Nat.zero_add _).symm
    open_payloads
    pointwise
    simp only [h0, h1, div1024, rsqrt_row]
    rw [‹i.val = _ + a.val›]
    try rw [Nat.zero_add a.val]
    rfl

include h2

theorem prod_outs (i : Fin 1024) (f : Fin 1536) : (outsAt0 (F := Ideal) V c t).1 (ix2 i f) = In.prod X G U i.val f.val := by
  unfold outsAt0
  frame_out
  obtain ⟨x0, hx0⟩ : ∃ x : Vec Ideal S1024x1024 .f32, x = iblk0 V c 0 t := ⟨_, rfl⟩
  obtain ⟨x1, hx1⟩ : ∃ x : Vec Ideal S1x1024 .f32, x = iblk0 V c 1 t := ⟨_, rfl⟩
  obtain ⟨x2, hx2⟩ : ∃ x : Vec Ideal S3x512x1024 .bf16, x = iblk0 V c 2 t := ⟨_, rfl⟩
  rw [← hx0] at h0 ⊢
  rw [← hx1] at h1 ⊢
  rw [← hx2] at h2 ⊢
  clear hx0 hx1 hx2
  canon_tiles x e
  all_goals
    obtain ⟨a, b, rfl⟩ : ∃ (a : Fin 512) (b : Fin 512), x = (ix2 a b : S512x512.Idx) := ⟨x 0, x 1, eq_ix2 x⟩
    first
    | have hi : i.val = _ + a.val := e0
    | have hi : i.val = 0 + a.val := e0.trans (Nat.zero_add _).symm
    first
    | have hf : f.val = _ + b.val := e1
    | have hf : f.val = 0 + b.val := e1.trans (Nat.zero_add _).symm
    open_payloads
    pointwise
    simp only [h0, h1, h2, div1024, rsqrt_row]
    rw [‹i.val = _ + a.val›, ‹f.val = _ + b.val›]
    try rw [Nat.zero_add a.val]
    rfl

/-- The values: the last 256 products, read back from the block of products. -/
theorem v_outs (i : Fin 1024) (d : Fin 256) : (outsAt0 (F := Ideal) V c t).2.2.2.2 (ix2 i d) = In.prod X G U i.val (1280 + d.val) := by
  unfold outsAt0
  frame_out
  obtain ⟨x0, hx0⟩ : ∃ x : Vec Ideal S1024x1024 .f32, x = iblk0 V c 0 t := ⟨_, rfl⟩
  obtain ⟨x1, hx1⟩ : ∃ x : Vec Ideal S1x1024 .f32, x = iblk0 V c 1 t := ⟨_, rfl⟩
  obtain ⟨x2, hx2⟩ : ∃ x : Vec Ideal S3x512x1024 .bf16, x = iblk0 V c 2 t := ⟨_, rfl⟩
  rw [← hx0] at h0 ⊢
  rw [← hx1] at h1 ⊢
  rw [← hx2] at h2 ⊢
  clear hx0 hx1 hx2
  canon_tiles x e
  all_goals
    obtain ⟨a, b, rfl⟩ : ∃ (a : Fin 512) (b : Fin 256), x = (ix2 a b : S512x256.Idx) := ⟨x 0, x 1, eq_ix2 x⟩
    obtain rfl : d = b := Fin.ext e1
    first
    | have hi : i.val = _ + a.val := e0
    | have hi : i.val = 0 + a.val := e0.trans (Nat.zero_add _).symm
    first | unfold k0_pay2 | unfold k0_pay80
    pointwise
    refine (read_last _ _ _ _ _ _ (ix2 a ⟨256 + d.val, by omega⟩) ?_).trans ?_
    · funext k
      refine Fin.ext ?_
      fin_cases k
      · simp
      · simp
        omega
    open_payloads
    pointwise
    simp only [h0, h1, h2, div1024, rsqrt_row]
    rw [‹i.val = _ + a.val›]
    try rw [Nat.zero_add a.val]
    rw [show 1280 + d.val = 2 * 512 + (256 + d.val) by omega]
    rfl

end fwd

section wgt

variable {H E : ℕ → ℕ → EReal}
variable {x0 : Vec Ideal S4096x1536 .bf16} {x1 : Vec Ideal S1x4096x512 .bf16}

theorem dw_block (h0 : ∀ (p : Fin 4096) (f : Fin 1536), x0 (ix2 p f) = E p.val f.val)
    (h1 : ∀ (o : Fin 1) (p : Fin 4096) (b : Fin 512), x1 (ix3 o p b) = H p.val b.val) (f : Fin 1536) (b : Fin 512) :
    out1_2 (F := Ideal) x0 x1 (ix2 f b) = (∑ p : Fin 4096, H p.val b.val * E p.val f.val) := by
  unfold out1_2
  frame_out
  open_payloads
  pointwise
  simp only [h0, h1]
  rw [sum_runs4 (fun p => H p b.val * E p f.val)]
  simp only [Finset.sum_range_succ, Finset.sum_range_zero, zero_add]
  simp only [Nat.reduceMul, zero_mul, zero_add, one_mul, add_zero, mul_comm]

end wgt

end Cert.Kernel5Ideal.Value
-- ==== Proof.Qkv.Block2.lean ====
/- One block of rows through the backward call: the gradient of the rows and what the block's two halves add to the gradient of the
   gains. -/
module

public import proofs.«01_k».proof.Proof.Gen.Kernel5Ideal.Frame
public import proofs.«01_k».proof.Proof.Qkv.Qkv
public import Idealize.ShloMosaic.Lib.Pipeline.ValueKit

@[expose] public section

set_option maxRecDepth 16384

noncomputable section

open Idealize.ShloMosaic Idealize.ShloMosaic.TcCoe Idealize.SL.Sem

namespace Cert.Kernel5Ideal.Value

open Cert.Kernel5Ideal Cert.Kernel5Ideal.Gen Cert.Mlp Cert.Qkv

section

variable (x0 : Vec Ideal S1x1024x1536 .bf16) (x1 : Vec Ideal S3x512x1024 .bf16) (x2 : Vec Ideal S1024x1024 .f32) (x3 : Vec Ideal S1x1024 .f32)
  (x4 : Vec Ideal S1024x1024 .f32)

/-- The gradient of the scaled rows, the first half of the block. -/
def dhA : FVec Ideal S512x1024 .f32 :=
  k2_pay3 (View.ld x0 (Rect.unit ![0, 0, 0] ![1, 512, 512] inb_S1x1024x1536_S1x512x512_0_0_0))
    (View.ld x1 (Rect.unit ![0, 0, 0] ![1, 512, 1024] inb_S3x512x1024_S1x512x1024_0_0_0))
    (View.ld x0 (Rect.unit ![0, 0, 512] ![1, 512, 512] inb_S1x1024x1536_S1x512x512_0_0_512))
    (View.ld x1 (Rect.unit ![1, 0, 0] ![1, 512, 1024] inb_S3x512x1024_S1x512x1024_1_0_0))
    (View.ld x0 (Rect.unit ![0, 0, 1024] ![1, 512, 512] inb_S1x1024x1536_S1x512x512_0_0_1024))
    (View.ld x1 (Rect.unit ![2, 0, 0] ![1, 512, 1024] inb_S3x512x1024_S1x512x1024_2_0_0))

/-- The second half: the product of the first slice, and the slices of the products' gradient and of the weights that are left. -/
def dhTo1 : FVec Ideal S512x1024 .f32 :=
  k2_pay10 (View.ld x0 (Rect.unit ![0, 512, 0] ![1, 512, 512] inb_S1x1024x1536_S1x512x512_0_512_0))
    (View.ld x1 (Rect.unit ![0, 0, 0] ![1, 512, 1024] inb_S3x512x1024_S1x512x1024_0_0_0))
def z1 : FVec Ideal S512x512 .bf16 := k2_pay11 (View.ld x0 (Rect.unit ![0, 512, 512] ![1, 512, 512] inb_S1x1024x1536_S1x512x512_0_512_512))
def w1 : Vec Ideal S1x512x1024 .bf16 := View.ld x1 (Rect.unit ![1, 0, 0] ![1, 512, 1024] inb_S3x512x1024_S1x512x1024_1_0_0)
def z2 : Vec Ideal S1x512x512 .bf16 := View.ld x0 (Rect.unit ![0, 512, 1024] ![1, 512, 512] inb_S1x1024x1536_S1x512x512_0_512_1024)
def w2 : Vec Ideal S1x512x1024 .bf16 := View.ld x1 (Rect.unit ![2, 0, 0] ![1, 512, 1024] inb_S3x512x1024_S1x512x1024_2_0_0)

/-- The gradient of the scaled rows, the second half of the block. -/
def dhB : FVec Ideal S512x1024 .f32 := k2_pay12 (dhTo1 x0 x1) (z1 x0) (w1 x1) (z2 x0) (w2 x1)

/-- The two halves of the block's rows. -/
def rowsA (x : Vec Ideal S1024x1024 .f32) : Vec Ideal S512x1024 .f32 :=
  View.ld x (Rect.unit ![0, 0] ![512, 1024] inb_S1024x1024_S512x1024_0_0)
def rowsB (x : Vec Ideal S1024x1024 .f32) : Vec Ideal S512x1024 .f32 :=
  View.ld x (Rect.unit ![512, 0] ![512, 1024] inb_S1024x1024_S512x1024_512_0)

/-- The gradient of the rows, by halves. -/
def dxA : FVec Ideal S512x1024 .f32 :=
  k2_pay8 (dhA x0 x1) (rowsA x2) (k2_pay4 x3) (k2_pay5 (rowsA x2)) (FloatOps.ofBits .f32 0x358637BD#32) (rowsA x4)
def dxB : FVec Ideal S512x1024 .f32 :=
  k2_pay16 (dhTo1 x0 x1) (z1 x0) (w1 x1) (z2 x0) (w2 x1) (rowsB x2) x3 (rowsB x4)

/-- The gradient of the gains with what the block adds to it, from what it was. -/
def dgAB (prev : Vec Ideal S1x1024 .f32) : FVec Ideal S1x1024 .f32 :=
  k2_pay1 (k2_pay15 (dhTo1 x0 x1) (z1 x0) (w1 x1) (z2 x0) (w2 x1) (rowsB x2))
    (k2_pay9 (dhA x0 x1) (rowsA x2) (k2_pay5 (rowsA x2)) (FloatOps.ofBits .f32 0x358637BD#32) prev)

end

variable {X : ℕ → ℕ → EReal} {G : ℕ → EReal} {U D Z : ℕ → ℕ → EReal}
variable {x0 : Vec Ideal S1x1024x1536 .bf16} {x1 : Vec Ideal S3x512x1024 .bf16} {x2 : Vec Ideal S1024x1024 .f32} {x3 : Vec Ideal S1x1024 .f32}
  {x4 : Vec Ideal S1024x1024 .f32}

theorem rowsA_at (h2 : ∀ (i q : Fin 1024), x2 (ix2 i q) = X i.val q.val) (i : Fin 512) (q : Fin 1024) :
    rowsA x2 (ix2 i q) = X i.val q.val := by
  unfold rowsA
  pointwise
  simp only [h2]

theorem rowsB_at (h2 : ∀ (i q : Fin 1024), x2 (ix2 i q) = X i.val q.val) (i : Fin 512) (q : Fin 1024) :
    rowsB x2 (ix2 i q) = X (512 + i.val) q.val := by
  unfold rowsB
  pointwise
  simp only [h2]

section

variable (h0 : ∀ (o : Fin 1) (i : Fin 1024) (f : Fin 1536), x0 (ix3 o i f) = Z i.val f.val)
    (h1 : ∀ (j : Fin 3) (a : Fin 512) (q : Fin 1024), x1 (ix3 j a q) = (U q.val (j.val * 512 + a.val)))
include h0 h1

theorem dhA_block (i : Fin 512) (q : Fin 1024) : dhA x0 x1 (ix2 i q) = dhid U Z i.val q.val := by
  unfold dhA
  open_payloads
  pointwise
  simp only [h0, h1]
  rw [dhid_slices]
  simp only [Fin.isValue, Nat.reduceMul, zero_mul, one_mul, zero_add, Fin.val_zero, Fin.val_one, Fin.val_two]

theorem dhB_block (i : Fin 512) (q : Fin 1024) : dhB x0 x1 (ix2 i q) = dhid U Z (512 + i.val) q.val := by
  unfold dhB dhTo1 z1 w1 z2 w2
  open_payloads
  pointwise
  simp only [h0, h1]
  rw [dhid_slices]
  simp only [Fin.isValue, Nat.reduceMul, zero_mul, one_mul, zero_add, Fin.val_zero, Fin.val_one, Fin.val_two]

variable (h2 : ∀ (i q : Fin 1024), x2 (ix2 i q) = X i.val q.val)
include h2

theorem dg_block (prev : Vec Ideal S1x1024 .f32) (o : Fin 1) (q : Fin 1024) : dgAB x0 x1 x2 prev (ix2 o q)
    = prev (ix2 o q) + (∑ i : Fin 512, dhid U Z i.val q.val * xh X i.val q.val)
      + (∑ i : Fin 512, dhid U Z (512 + i.val) q.val * xh X (512 + i.val) q.val) := by
  unfold dgAB k2_pay15
  rw [show k2_pay12 (dhTo1 x0 x1) (z1 x0) (w1 x1) (z2 x0) (w2 x1) = dhB x0 x1 from rfl]
  unfold k2_pay1 k2_pay14 k2_pay13 k2_pay9 k2_pay7 k2_pay6 k2_pay5
  pointwise
  simp only [dhA_block h0 h1, dhB_block h0 h1, rowsA_at h2, rowsB_at h2, div1024, rsqrt_row]
  rfl

variable (h3 : ∀ q : Fin 1024, x3 (ix2 0 q) = G q.val) (h4 : ∀ (i q : Fin 1024), x4 (ix2 i q) = D i.val q.val)
include h3 h4

theorem dxA_block (i : Fin 512) (q : Fin 1024) : dxA x0 x1 x2 x3 x4 (ix2 i q) = drow X G U D Z i.val q.val := by
  unfold dxA k2_pay8 k2_pay7 k2_pay6 k2_pay5 k2_pay4
  pointwise
  simp only [dhA_block h0 h1, rowsA_at h2, rowsA_at h4, h3, div1024, rsqrt_row]
  rfl

theorem dxB_block (i : Fin 512) (q : Fin 1024) : dxB x0 x1 x2 x3 x4 (ix2 i q) = drow X G U D Z (512 + i.val) q.val := by
  unfold dxB k2_pay16
  rw [show k2_pay12 (dhTo1 x0 x1) (z1 x0) (w1 x1) (z2 x0) (w2 x1) = dhB x0 x1 from rfl]
  unfold k2_pay14 k2_pay13
  pointwise
  simp only [dhB_block h0 h1, rowsB_at h2, rowsB_at h4, h3, div1024, rsqrt_row]
  rfl

end

/-! One point of the grid: what it leaves in each output block. -/

variable (V : (c : Dev nD) → (b : Ref sig .tc) → Buf (Elt Ideal) ((c : Thread nD τ).loc b)) (c : Dev nD)

theorem dg_outs_A (t : Fin cfg2.N) (h0 : t.val % 4 = 0) : (outsAt2 (F := Ideal) V c t.val t.isLt).2
    = dgAB (iblk2 V c 0 t) (iblk2 V c 1 t) (iblk2 V c 2 t) (k2_pay2 (F := Ideal)) := by
  rw [outsAt2_A V c t h0]
  frame_out
  rfl

theorem dg_outs_B (t : Fin cfg2.N) (h0 : ¬t.val % 4 = 0) : (outsAt2 (F := Ideal) V c t.val t.isLt).2
    = dgAB (iblk2 V c 0 t) (iblk2 V c 1 t) (iblk2 V c 2 t) (outsAt2 (F := Ideal) V c (t.val - 1) (Nat.lt_of_le_of_lt (Nat.sub_le _ _) t.isLt)).2 := by
  rw [outsAt2_B V c t h0]
  frame_out
  rfl

theorem dx_outs (t : Fin cfg2.N)
    (h0 : ∀ (o : Fin 1) (i : Fin 1024) (f : Fin 1536), (iblk2 V c 0 t : Vec Ideal S1x1024x1536 .bf16) (ix3 o i f) = Z i.val f.val)
    (h1 : ∀ (j : Fin 3) (a : Fin 512) (q : Fin 1024), (iblk2 V c 1 t : Vec Ideal S3x512x1024 .bf16) (ix3 j a q) = (U q.val (j.val * 512 + a.val)))
    (h2 : ∀ (i q : Fin 1024), (iblk2 V c 2 t : Vec Ideal S1024x1024 .f32) (ix2 i q) = X i.val q.val)
    (h3 : ∀ q : Fin 1024, (iblk2 V c 3 t : Vec Ideal S1x1024 .f32) (ix2 0 q) = G q.val)
    (h4 : ∀ (i q : Fin 1024), (iblk2 V c 4 t : Vec Ideal S1024x1024 .f32) (ix2 i q) = D i.val q.val) (i q : Fin 1024) :
    (outsAt2 (F := Ideal) V c t.val t.isLt).1 (ix2 i q) = drow X G U D Z i.val q.val := by
  by_cases hc : t.val % 4 = 0
  on_goal 1 => rw [outsAt2_A V c t hc]
  on_goal 2 => rw [outsAt2_B V c t hc]
  all_goals
    frame_out
    canon_tiles x e
    all_goals
      obtain ⟨a, b, rfl⟩ : ∃ (a : Fin 512) (b : Fin 1024), x = (ix2 a b : S512x1024.Idx) := ⟨x 0, x 1, eq_ix2 x⟩
      obtain rfl : q = b := Fin.ext e1
      first
      | have hi : i.val = 512 + a.val := e0
        rw [hi]
        exact dxB_block h0 h1 h2 h3 h4 a q
      | have hi : i.val = a.val := e0
        rw [hi]
        exact dxA_block h0 h1 h2 h3 h4 a q

end Cert.Kernel5Ideal.Value
-- ==== Proof.Qkv.Array.lean ====
/- What the three calls leave in their output arrays. A grid point takes 1024 rows in the forward call and in the backward call,
   and the products of 512 entries of the scaled rows in the call for the weights'
   gradient. -/
module

public import proofs.«01_k».proof.Proof.Qkv.Block0
public import proofs.«01_k».proof.Proof.Qkv.Block2

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen Cert.Mlp Cert.Qkv

/-- The block each window of the forward call is at. -/
theorem idx0 : ∀ t : Fin cfg0.N, win0_0.index t = ![t.val, 0] ∧ win0_1.index t = ![0, 0] ∧ win0_2.index t = ![0, 0, 0]
    ∧ win0_7.index t = ![t.val, 0] ∧ win0_8.index t = ![t.val, 0] ∧ win0_11.index t = ![t.val, 0] :=
  (by decide +kernel : ∀ t : Fin grid0.N, _)

/-- The block each window of the call for the weights' gradient is at. -/
theorem idx1 : ∀ t : Fin cfg1.N, win1_0.index t = ![0, 0] ∧ win1_1.index t = ![0, 0, t.val] ∧ win1_2.index t = ![0, t.val] :=
  (by decide +kernel : ∀ t : Fin grid1.N, _)

/-- The block each window of the backward call is at. -/
theorem idx2 : ∀ t : Fin cfg2.N, win2_0.index t = ![0, t.val, 0] ∧ win2_1.index t = ![0, 0, 0] ∧ win2_2.index t = ![t.val, 0]
    ∧ win2_3.index t = ![0, 0] ∧ win2_4.index t = ![t.val, 0] ∧ win2_5.index t = ![t.val, 0] ∧ win2_6.index t = ![0, 0] :=
  (by decide +kernel : ∀ t : Fin grid2.N, _)

/-- Rows from the `t`-th block of 1024 on. -/
def rows (M : ℕ → ℕ → EReal) (t : ℕ) : ℕ → ℕ → EReal := fun p q => M (t * 1024 + p) q

/-- Columns from the `t`-th block of 512 on. -/
def cols (M : ℕ → ℕ → EReal) (t : ℕ) : ℕ → ℕ → EReal := fun p q => M p (t * 512 + q)

variable {V : (c : Dev nD) → (b : Ref sig .tc) → Buf (Elt Ideal) ((c : Thread nD τ).loc b)} {c : Dev nD}
variable {X D Z : ℕ → ℕ → EReal} {G : ℕ → EReal} {U : ℕ → ℕ → EReal}

/-! ## The forward call -/

section fwd

variable (V c X G U) in
/-- The arrays the forward call's products are made of. -/
structure Holds0 : Prop where
  x : ∀ i, (V c main_arg0 : Vec Ideal S4096x1024 .f32) i = X (i 0).val (i 1).val
  g : ∀ i, (V c main_v42 : Vec Ideal S1x1024 .f32) i = G (i 1).val
  u : ∀ i, (V c main_v2 : Vec Ideal S3x512x1024 .bf16) i = (U (i 2).val ((i 0).val * 512 + (i 1).val))

variable (H : Holds0 V c X G U) (t : Fin cfg0.N)
include H

theorem blk0_x (i : Fin 1024) (q : Fin 1024) : (iblk0 V c 0 t : Vec Ideal S1024x1024 .f32) (ix2 i q) = rows X t.val i.val q.val := by
  refine (H.x _).trans ?_
  refine congrArg₂ X ?_ ?_ <;> blk_simp [idx0 t]
theorem blk0_g (q : Fin 1024) : (iblk0 V c 1 t : Vec Ideal S1x1024 .f32) (ix2 0 q) = G q.val := by
  refine (H.g _).trans ?_
  refine congrArg G ?_
  blk_simp [idx0 t]
theorem blk0_u (j : Fin 3) (a : Fin 512) (q : Fin 1024) :
    (iblk0 V c 2 t : Vec Ideal S3x512x1024 .bf16) (ix3 j a q) = (U q.val (j.val * 512 + a.val)) := by
  refine (H.u _).trans ?_
  refine congrArg₂ U ?_ ?_ <;> blk_simp [idx0 t]

omit t in
/-- The products. -/
theorem prod_final : (dat0 (F := Ideal) V c).arrAt 7 cfg0.N
    = (fun i => In.prod X G U (i 0).val (i 1).val : Vec Ideal S4096x1536 .f32) := by
  refine (dat0 V c).arrAt_eq_of_covers 7 _ (by decide +kernel) fun t hf y => ?_
  blk_simp
  rw [after0_7]
  obtain ⟨i, f, rfl⟩ : ∃ (i : Fin 1024) (f : Fin 1536), y = (ix2 i f : S1024x1536.Idx) := ⟨y 0, y 1, eq_ix2 y⟩
  refine (prod_outs V c t (blk0_x H t) (blk0_g H t) (blk0_u H t) i f).trans ?_
  refine (show _ = In.prod X G U (t.val * 1024 + i.val) f.val from rfl).trans ?_
  refine congrArg₂ (In.prod X G U) ?_ ?_ <;> blk_simp [idx0 t]

omit t in
/-- The values. -/
theorem v_final : (dat0 (F := Ideal) V c).arrAt 11 cfg0.N
    = (fun i => In.prod X G U (i 0).val (1280 + (i 1).val) : Vec Ideal S4096x256 .bf16) := by
  refine (dat0 V c).arrAt_eq_of_covers 11 _ (by decide +kernel) fun t hf y => ?_
  blk_simp
  rw [after0_11]
  obtain ⟨i, d, rfl⟩ : ∃ (i : Fin 1024) (d : Fin 256), y = (ix2 i d : S1024x256.Idx) := ⟨y 0, y 1, eq_ix2 y⟩
  refine (v_outs V c t (blk0_x H t) (blk0_g H t) (blk0_u H t) i d).trans ?_
  refine (show _ = In.prod X G U (t.val * 1024 + i.val) (1280 + d.val) from rfl).trans ?_
  refine congrArg₂ (In.prod X G U) ?_ ?_ <;> blk_simp [idx0 t]

omit t in
/-- The scaled rows. -/
theorem hid_final : (dat0 (F := Ideal) V c).arrAt 8 cfg0.N
    = (fun i => hid X G (i 0).val (i 1).val : Vec Ideal S4096x1024 .bf16) := by
  refine (dat0 V c).arrAt_eq_of_covers 8 _ (by decide +kernel) fun t hf y => ?_
  blk_simp
  rw [after0_8]
  obtain ⟨i, q, rfl⟩ : ∃ (i : Fin 1024) (q : Fin 1024), y = (ix2 i q : S1024x1024.Idx) := ⟨y 0, y 1, eq_ix2 y⟩
  refine (hid_outs V c t (blk0_x H t) (blk0_g H t) i q).trans ?_
  refine (show _ = hid X G (t.val * 1024 + i.val) q.val from rfl).trans ?_
  refine congrArg₂ (hid X G) ?_ ?_ <;> blk_simp [idx0 t]

end fwd

/-! ## The call for the weights' gradient -/

section wgt

variable (V c X G Z) in
/-- The arrays the call for the weights' gradient reads. -/
structure Holds1 : Prop where
  z : ∀ i, (V c main_v46 : Vec Ideal S4096x1536 .bf16) i = Z (i 0).val (i 1).val
  h : ∀ i, (V c main_v47 : Vec Ideal S1x4096x1024 .bf16) i = hid X G (i 1).val (i 2).val

variable (H : Holds1 V c X Z G) (t : Fin cfg1.N)
include H

theorem blk1_z (p : Fin 4096) (f : Fin 1536) : (iblk1 V c 0 t : Vec Ideal S4096x1536 .bf16) (ix2 p f) = Z p.val f.val := by
  refine (H.z _).trans ?_
  refine congrArg₂ Z ?_ ?_ <;> blk_simp [idx1 t]
theorem blk1_h (o : Fin 1) (p : Fin 4096) (b : Fin 512) :
    (iblk1 V c 1 t : Vec Ideal S1x4096x512 .bf16) (ix3 o p b) = cols (hid X G) t.val p.val b.val := by
  refine (H.h _).trans ?_
  refine congrArg₂ (hid X G) ?_ ?_ <;> blk_simp [idx1 t]

omit t in
/-- The gradient of the weights, transposed. -/
theorem dw_final : (dat1 (F := Ideal) V c).arrAt 2 cfg1.N
    = (fun i => (In.dwgt X G Z (i 1).val (i 0).val) : Vec Ideal S1536x1024 .bf16) := by
  refine (dat1 V c).arrAt_eq_of_covers 2 _ (by decide +kernel) fun t hf y => ?_
  blk_simp
  rw [after1_2]
  obtain ⟨f, b, rfl⟩ : ∃ (f : Fin 1536) (b : Fin 512), y = (ix2 f b : S1536x512.Idx) := ⟨y 0, y 1, eq_ix2 y⟩
  refine (dw_block (blk1_z H t) (blk1_h H t) f b).trans ?_
  refine (show _ = In.dwgt X G Z (t.val * 512 + b.val) f.val from rfl).trans ?_
  refine congrArg₂ (In.dwgt X G Z) ?_ ?_ <;> blk_simp [idx1 t]

end wgt

/-! ## The backward call -/

section bwd

variable (V c X D Z G U) in
/-- The arrays the backward call reads. -/
structure Holds2 : Prop where
  z : ∀ i, (V c main_v49 : Vec Ideal S1x4096x1536 .bf16) i = Z (i 1).val (i 2).val
  u : ∀ i, (V c main_v2 : Vec Ideal S3x512x1024 .bf16) i = (U (i 2).val ((i 0).val * 512 + (i 1).val))
  x : ∀ i, (V c main_arg0 : Vec Ideal S4096x1024 .f32) i = X (i 0).val (i 1).val
  g : ∀ i, (V c main_v50 : Vec Ideal S1x1024 .f32) i = G (i 1).val
  d : ∀ i, (V c main_arg5 : Vec Ideal S4096x1024 .f32) i = D (i 0).val (i 1).val

variable (H : Holds2 V c X D Z G U) (t : Fin cfg2.N)
include H

theorem blk2_z (o : Fin 1) (i : Fin 1024) (f : Fin 1536) :
    (iblk2 V c 0 t : Vec Ideal S1x1024x1536 .bf16) (ix3 o i f) = rows Z t.val i.val f.val := by
  refine (H.z _).trans ?_
  refine congrArg₂ Z ?_ ?_ <;> blk_simp [idx2 t]
theorem blk2_u (j : Fin 3) (a : Fin 512) (q : Fin 1024) :
    (iblk2 V c 1 t : Vec Ideal S3x512x1024 .bf16) (ix3 j a q) = (U q.val (j.val * 512 + a.val)) := by
  refine (H.u _).trans ?_
  refine congrArg₂ U ?_ ?_ <;> blk_simp [idx2 t]
theorem blk2_x (i q : Fin 1024) : (iblk2 V c 2 t : Vec Ideal S1024x1024 .f32) (ix2 i q) = rows X t.val i.val q.val := by
  refine (H.x _).trans ?_
  refine congrArg₂ X ?_ ?_ <;> blk_simp [idx2 t]
theorem blk2_g (q : Fin 1024) : (iblk2 V c 3 t : Vec Ideal S1x1024 .f32) (ix2 0 q) = G q.val := by
  refine (H.g _).trans ?_
  refine congrArg G ?_
  blk_simp [idx2 t]
theorem blk2_d (i q : Fin 1024) : (iblk2 V c 4 t : Vec Ideal S1024x1024 .f32) (ix2 i q) = rows D t.val i.val q.val := by
  refine (H.d _).trans ?_
  refine congrArg₂ D ?_ ?_ <;> blk_simp [idx2 t]

omit t in
/-- The gradient of the rows. -/
theorem dx_final : (dat2 (F := Ideal) V c).arrAt 5 cfg2.N
    = (fun i => drow X G U D Z (i 0).val (i 1).val : Vec Ideal S4096x1024 .f32) := by
  refine (dat2 V c).arrAt_eq_of_covers 5 _ (by decide +kernel) fun t hf y => ?_
  blk_simp
  rw [after2_5]
  obtain ⟨i, q, rfl⟩ : ∃ (i : Fin 1024) (q : Fin 1024), y = (ix2 i q : S1024x1024.Idx) := ⟨y 0, y 1, eq_ix2 y⟩
  refine (dx_outs V c t (blk2_z H t) (blk2_u H t) (blk2_x H t) (blk2_g H t) (blk2_d H t) i q).trans ?_
  refine (show _ = drow X G U D Z (t.val * 1024 + i.val) q.val from rfl).trans ?_
  refine congrArg₂ (drow X G U D Z) ?_ ?_ <;> blk_simp [idx2 t]

omit H t in
/-- What the first half of block `n` adds to the gradient of gain `q`. -/
theorem half_first (n q : ℕ) : ∑ i : Fin 512, dhid U (rows Z n) i.val q * xh (rows X n) i.val q = dgPart X U Z q (2 * n) := by
  unfold dgPart
  refine Finset.sum_congr rfl fun i _ => ?_
  rw [show 2 * n * 512 + i.val = n * 1024 + i.val by omega]
  rfl

omit H t in
/-- What the second half adds. -/
theorem half_second (n q : ℕ) :
    ∑ i : Fin 512, dhid U (rows Z n) (512 + i.val) q * xh (rows X n) (512 + i.val) q = dgPart X U Z q (2 * n + 1) := by
  unfold dgPart
  refine Finset.sum_congr rfl fun i _ => ?_
  rw [show (2 * n + 1) * 512 + i.val = n * 1024 + (512 + i.val) by omega]
  rfl

omit t in
/-- The block of the gains' gradient holds the sum over the rows so far. -/
theorem dg_acc (q : Fin 1024) : ∀ (n : ℕ) (hn : n < cfg2.N), (outsAt2 (F := Ideal) V c n hn).2 (ix2 0 q)
    = (∑ u ∈ Finset.range (2 * n + 1 + 1), dgPart X U Z q.val u) := by
  intro n
  induction n with
  | zero =>
    intro hn
    rw [dg_outs_A V c ⟨0, hn⟩ (Nat.zero_mod _)]
    refine (dg_block (blk2_z H ⟨0, hn⟩) (blk2_u H ⟨0, hn⟩) (blk2_x H ⟨0, hn⟩) _ 0 q).trans ?_
    rw [Finset.sum_range_succ, Finset.sum_range_succ, half_first, half_second]
    refine congrArg (· + _ + _) ?_
    unfold k2_pay2
    pointwise
    rfl
  | succ m ih =>
    intro hn
    have hN : cfg2.N = 4 := N_2
    rw [dg_outs_B V c ⟨m + 1, hn⟩ (by simp only; omega)]
    refine (dg_block (blk2_z H ⟨m + 1, hn⟩) (blk2_u H ⟨m + 1, hn⟩) (blk2_x H ⟨m + 1, hn⟩) _ 0 q).trans ?_
    rw [Finset.sum_range_succ, Finset.sum_range_succ, half_first, half_second]
    refine congrArg (· + _ + _) ?_
    exact ih (by omega)

omit t in
/-- The gradient of the gains. -/
theorem dg_final : (dat2 (F := Ideal) V c).arrAt 6 cfg2.N
    = (fun i => dgain X U Z (i 1).val : Vec Ideal S1x1024 .f32) := by
  refine (dat2 V c).arrAt_eq_of_covers 6 _ (by decide +kernel) fun t hf y => ?_
  blk_simp
  have h3 := (flush2_6 t).mp hf
  rw [after2_6]
  obtain ⟨o, q, rfl⟩ : ∃ (o : Fin 1) (q : Fin 1024), y = (ix2 o q : S1x1024.Idx) := ⟨y 0, y 1, eq_ix2 y⟩
  obtain rfl : o = 0 := Subsingleton.elim _ _
  refine (dg_acc H q t.val t.isLt).trans ?_
  have hN : cfg2.N = 4 := N_2
  rw [show 2 * t.val + 1 + 1 = 8 by omega, dg_parts]
  refine congrArg (dgain X U Z) ?_
  blk_simp [idx2 t]

end bwd

end Cert.Kernel5Ideal.Value
-- ==== Proof.Qkv.Run.lean ====
/- The run of the three calls of the queries', keys' and values' projection, naming what every result array ends with, and the arrays each call reads as the host operations
   and the earlier calls leave them. -/
module

public import proofs.«01_k».proof.Proof.Gen.Kernel5Ideal.Frame
public import proofs.«01_k».proof.Proof.Qkv.Array

@[expose] public section

set_option maxRecDepth 16384

noncomputable section

namespace Cert.Kernel5Ideal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

section
variable {F : FTy → Type} [FloatOps F] [Named F]
variable (m : (ℓ : Loc nD τ sig) → Buf (Elt F) ℓ) (ρ : Dev nD → PrngReg)

set_option backward.isDefEq.respectTransparency.types false in
/-- From any memory with zero counters every weakly fair execution terminates with every result array at the last
    boundary's contents and the arguments as launched. -/
theorem run : θ_run defs (onTc (τ := τ) (main (F := F))) ⟨m, fun _ => 0, ρ⟩ (fun r => ∀ c : Dev nD,
      (r.2.mem ((c.tc : Thread nD τ).loc main_v45_0) = (dat0 (V5 m ρ) c).arrAt 7 cfg0.N
      ∧ r.2.mem ((c.tc : Thread nD τ).loc main_v45_4) = (dat0 (V5 m ρ) c).arrAt 11 cfg0.N
      ∧ r.2.mem ((c.tc : Thread nD τ).loc main_v51_0) = (dat2 (V9 m ρ) c).arrAt 5 cfg2.N
      ∧ r.2.mem ((c.tc : Thread nD τ).loc main_v52) = W11 m ρ c (Proc.devRef .tc main_v52)
      ∧ r.2.mem ((c.tc : Thread nD τ).loc main_v53) = W11 m ρ c (Proc.devRef .tc main_v53))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ => fun c =>
      ⟨⟨((((((h c _ (mem_uc main_v45_0 (by decide))).trans (W11_of m ρ c main_v45_0 (by decide +kernel))).trans
           (W10_of m ρ c main_v45_0 (by decide +kernel))).trans (W9_of m ρ c main_v45_0 (by decide +kernel))).trans
           (W8_of m ρ c main_v45_0 (by decide +kernel))).trans (W7_of m ρ c main_v45_0 (by decide +kernel))).trans (W6_arr m ρ c 7),
        ((((((h c _ (mem_uc main_v45_4 (by decide))).trans (W11_of m ρ c main_v45_4 (by decide +kernel))).trans
           (W10_of m ρ c main_v45_4 (by decide +kernel))).trans (W9_of m ρ c main_v45_4 (by decide +kernel))).trans
           (W8_of m ρ c main_v45_4 (by decide +kernel))).trans (W7_of m ρ c main_v45_4 (by decide +kernel))).trans (W6_arr m ρ c 11),
        ((h c _ (mem_uc main_v51_0 (by decide))).trans (W11_of m ρ c main_v51_0 (by decide +kernel))).trans (W10_arr m ρ c 5),
        h c _ (mem_uc main_v52 (by decide)),
        h c _ (mem_uc main_v53 (by decide))⟩,
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c)⟩)

/-! ## What the host operations leave -/

/-- The weights, rounded, transposed and cut into three slices of 512 rows. -/
theorem host_u (c : Dev nD) : W1 m ρ c (Proc.devRef .tc main_v2)
    = (shapeCast S3x512x1024 (transpose S1536x1024 [1, 0] (truncf .bf16 (m ((c.tc : Thread nD τ).loc main_arg2)
        : FVec F S1024x1536 .f32) bitsLt_bf16_f32 : FVec F S1024x1536 .bf16) transposes_S1024x1536_S1536x1024_1_0 : FVec F S1536x1024 .bf16)
        shapeCasts_S1536x1024_S3x512x1024 : FVec F S3x512x1024 .bf16) := by
  show StableHlo.after hostOps0 (W0 m ρ c) _ = _
  simp only [hostOps0, StableHlo.TRef.toBuf, StableHlo.TRef.ofBuf, cast_eq]
  after_results_simp <;> rfl

/-- The gains as a row, for the forward call. -/
theorem host_g (c : Dev nD) : W5 m ρ c (Proc.devRef .tc main_v42)
    = (broadcastInDim S1x1024 ![1] bcast_S1024_S1x1024_1 (W4 m ρ c (Proc.devRef .tc main_arg1) : FVec F S1024 .f32) : FVec F S1x1024 .f32) := by
  show StableHlo.after hostOps0_4 (W4 m ρ c) _ = _
  simp only [hostOps0_4, StableHlo.TRef.toBuf, StableHlo.TRef.ofBuf, cast_eq]
  after_results_simp <;> rfl

/-- The products' gradient, rounded. -/
theorem host_z (c : Dev nD) : W7 m ρ c (Proc.devRef .tc main_v46)
    = (truncf .bf16 (W6 m ρ c (Proc.devRef .tc main_arg6) : FVec F S4096x1536 .f32) bitsLt_bf16_f32 : FVec F S4096x1536 .bf16) := by
  show StableHlo.after hostOps1 (W6 m ρ c) _ = _
  simp only [hostOps1, StableHlo.TRef.toBuf, StableHlo.TRef.ofBuf, cast_eq]
  after_results_simp <;> rfl

/-- The scaled rows under one leading index. -/
theorem host_h (c : Dev nD) : W7 m ρ c (Proc.devRef .tc main_v47)
    = (broadcastInDim S1x4096x1024 ![1, 2] bcast_S4096x1024_S1x4096x1024_1_2 (W6 m ρ c (Proc.devRef .tc main_v45_1) : FVec F S4096x1024 .bf16)
        : FVec F S1x4096x1024 .bf16) := by
  show StableHlo.after hostOps1 (W6 m ρ c) _ = _
  simp only [hostOps1, StableHlo.TRef.toBuf, StableHlo.TRef.ofBuf, cast_eq]
  after_results_simp <;> rfl

/-- The products' gradient under one leading index. -/
theorem host_z' (c : Dev nD) : W9 m ρ c (Proc.devRef .tc main_v49)
    = (broadcastInDim S1x4096x1536 ![1, 2] bcast_S4096x1536_S1x4096x1536_1_2 (W8 m ρ c (Proc.devRef .tc main_v46) : FVec F S4096x1536 .bf16)
        : FVec F S1x4096x1536 .bf16) := by
  show StableHlo.after hostOps2 (W8 m ρ c) _ = _
  simp only [hostOps2, StableHlo.TRef.toBuf, StableHlo.TRef.ofBuf, cast_eq]
  after_results_simp <;> rfl

/-- The gains as a row, for the backward call. -/
theorem host_g' (c : Dev nD) : W9 m ρ c (Proc.devRef .tc main_v50)
    = (broadcastInDim S1x1024 ![1] bcast_S1024_S1x1024_1 (W8 m ρ c (Proc.devRef .tc main_arg1) : FVec F S1024 .f32) : FVec F S1x1024 .f32) := by
  show StableHlo.after hostOps2 (W8 m ρ c) _ = _
  simp only [hostOps2, StableHlo.TRef.toBuf, StableHlo.TRef.ofBuf, cast_eq]
  after_results_simp <;> rfl

/-- The gradient of the gains, as a vector. -/
theorem host_dg (c : Dev nD) : W11 m ρ c (Proc.devRef .tc main_v52)
    = (shapeCast S1024 (W10 m ρ c (Proc.devRef .tc main_v51_1) : FVec F S1x1024 .f32) shapeCasts_S1x1024_S1024 : FVec F S1024 .f32) := by
  show StableHlo.after hostOps3 (W10 m ρ c) _ = _
  simp only [hostOps3, StableHlo.TRef.toBuf, StableHlo.TRef.ofBuf, cast_eq]
  after_results_simp <;> rfl

/-- The gradient of the weights, transposed back. -/
theorem host_dw (c : Dev nD) : W11 m ρ c (Proc.devRef .tc main_v53)
    = (transpose S1024x1536 [1, 0] (W10 m ρ c (Proc.devRef .tc main_v48) : FVec F S1536x1024 .bf16) transposes_S1536x1024_S1024x1536_1_0
        : FVec F S1024x1536 .bf16) := by
  show StableHlo.after hostOps3 (W10 m ρ c) _ = _
  simp only [hostOps3, StableHlo.TRef.toBuf, StableHlo.TRef.ofBuf, cast_eq]
  after_results_simp <;> rfl

end

section
open Cert.Mlp Cert.Qkv
variable (m : (ℓ : Loc nD τ sig) → Buf (Elt Ideal) ℓ) (ρ : Dev nD → PrngReg)
variable (X D Z : ℕ → ℕ → EReal) (G : ℕ → EReal) (U : ℕ → ℕ → EReal) (c : Dev nD)

/-- The numbers the arguments hold. -/
structure Args : Prop where
  x : ∀ i, (m ((c.tc : Thread nD τ).loc main_arg0) : FVec Ideal S4096x1024 .f32) i = X (i 0).val (i 1).val
  g : ∀ i, (m ((c.tc : Thread nD τ).loc main_arg1) : FVec Ideal S1024 .f32) i = G (i 0).val
  u : ∀ i, (m ((c.tc : Thread nD τ).loc main_arg2) : FVec Ideal S1024x1536 .f32) i = U (i 0).val (i 1).val
  d : ∀ i, (m ((c.tc : Thread nD τ).loc main_arg5) : FVec Ideal S4096x1024 .f32) i = D (i 0).val (i 1).val
  z : ∀ i, (m ((c.tc : Thread nD τ).loc main_arg6) : FVec Ideal S4096x1536 .f32) i = Z (i 0).val (i 1).val

variable {m X D Z G U c}

/-- The gains read as a row. -/
theorem row_at {y : FVec Ideal S1024 .f32} (h : ∀ i, y i = G (i 0).val) (i : S1x1024.Idx) :
    (broadcastInDim S1x1024 ![1] bcast_S1024_S1x1024_1 y : FVec Ideal S1x1024 .f32) i = G (i 1).val :=
  (broadcastInDim_apply _ bcast_S1024_S1x1024_1 y i (fun a => match a with | ⟨0, _⟩ => ⟨(i 1).val, (i 1).isLt⟩) (fun a => match a with
    | ⟨0, _⟩ => by show (i 1).val = if (1024 : Nat) = 1 then 0 else (i 1).val; rw [if_neg (by decide)])).trans (h _)

/-- The sliced weights at an index. -/
theorem slices_at (H : Args m X D Z G U c) (i : S3x512x1024.Idx) :
    (W1 m ρ c (Proc.devRef .tc main_v2) : FVec Ideal S3x512x1024 .bf16) i = (U (i 2).val ((i 0).val * 512 + (i 1).val)) := by
  have b0 : (i 0).val < 3 := (i 0).isLt
  have b1 : (i 1).val < 512 := (i 1).isLt
  have b2 : (i 2).val < 1024 := (i 2).isLt
  refine (congrFun (host_u m ρ c) i).trans ?_
  refine (shapeCast_apply _ shapeCasts_S1536x1024_S3x512x1024 i
    (fun a => match a with | ⟨0, _⟩ => ⟨(i 0).val * 512 + (i 1).val, by show _ < 1536; omega⟩ | ⟨1, _⟩ => ⟨(i 2).val, (i 2).isLt⟩)
    (by rewrite [Shape.rowMajor_val_two, Shape.rowMajor_val_three]
        rfl)).trans ?_
  refine (transpose_apply [1, 0] _ transposes_S1024x1536_S1536x1024_1_0 _
    (fun a => match a with | ⟨0, _⟩ => ⟨(i 2).val, (i 2).isLt⟩ | ⟨1, _⟩ => ⟨(i 0).val * 512 + (i 1).val, by show _ < 1536; omega⟩)
    (fun b => match b with | ⟨0, _⟩ => rfl | ⟨1, _⟩ => rfl)).trans ?_
  exact H.u _

/-- The rounded gradient of the products at an index. -/
theorem grad_at (H : Args m X D Z G U c) (i : S4096x1536.Idx) :
    (W7 m ρ c (Proc.devRef .tc main_v46) : FVec Ideal S4096x1536 .bf16) i = Z (i 0).val (i 1).val :=
  (congrFun (host_z m ρ c) i).trans ((congrFun (W6_args m ρ c main_arg6 (by decide)) i).trans (H.z i))

/-- What the forward call reads. -/
theorem entry0 (H : Args m X D Z G U c) : Holds0 (V5 m ρ) c X G U where
  x i := (congrFun (W5_args m ρ c main_arg0 (by decide)) i).trans (H.x i)
  g i := (congrFun (host_g m ρ c) i).trans (row_at (fun j => (congrFun (W4_args m ρ c main_arg1 (by decide)) j).trans (H.g j)) i)
  u i := (congrFun (((((W5_of m ρ c main_v2 (by decide +kernel)).trans (W4_of m ρ c main_v2 (by decide +kernel))).trans (W3_of m ρ c main_v2 (by decide +kernel))).trans (W2_of m ρ c main_v2 (by decide +kernel)))) i).trans (slices_at ρ H i)

/-- What the call for the weights' gradient reads. -/
theorem entry1 (H : Args m X D Z G U c) : Holds1 (V7 m ρ) c X Z G where
  h i := (congrFun (host_h m ρ c) i).trans ((broadcastInDim_apply _ bcast_S4096x1024_S1x4096x1024_1_2 _ i
    (fun a => match a with | ⟨0, _⟩ => ⟨(i 1).val, (i 1).isLt⟩ | ⟨1, _⟩ => ⟨(i 2).val, (i 2).isLt⟩) (fun a => match a with
      | ⟨0, _⟩ => by show (i 1).val = if (4096 : Nat) = 1 then 0 else (i 1).val; rw [if_neg (by decide)]
      | ⟨1, _⟩ => by show (i 2).val = if (1024 : Nat) = 1 then 0 else (i 2).val; rw [if_neg (by decide)])).trans
    ((congrFun (W6_arr m ρ c 8) _).trans (congrFun (hid_final (entry0 ρ H)) _)))
  z i := grad_at ρ H i

/-- What the backward call reads. -/
theorem entry2 (H : Args m X D Z G U c) : Holds2 (V9 m ρ) c X D Z G U where
  z i := (congrFun (host_z' m ρ c) i).trans ((broadcastInDim_apply _ bcast_S4096x1536_S1x4096x1536_1_2 _ i
    (fun a => match a with | ⟨0, _⟩ => ⟨(i 1).val, (i 1).isLt⟩ | ⟨1, _⟩ => ⟨(i 2).val, (i 2).isLt⟩) (fun a => match a with
      | ⟨0, _⟩ => by show (i 1).val = if (4096 : Nat) = 1 then 0 else (i 1).val; rw [if_neg (by decide)]
      | ⟨1, _⟩ => by show (i 2).val = if (1536 : Nat) = 1 then 0 else (i 2).val; rw [if_neg (by decide)])).trans
    ((congrFun (W8_of m ρ c main_v46 (by decide +kernel)) _).trans (grad_at ρ H _)))
  u i := (congrFun (((((((((W9_of m ρ c main_v2 (by decide +kernel)).trans (W8_of m ρ c main_v2 (by decide +kernel))).trans
    (W7_of m ρ c main_v2 (by decide +kernel))).trans (W6_of m ρ c main_v2 (by decide +kernel))).trans
    (W5_of m ρ c main_v2 (by decide +kernel))).trans (W4_of m ρ c main_v2 (by decide +kernel))).trans (W3_of m ρ c main_v2 (by decide +kernel))).trans (W2_of m ρ c main_v2 (by decide +kernel)))) i).trans
    (slices_at ρ H i)
  x i := (congrFun (W9_args m ρ c main_arg0 (by decide)) i).trans (H.x i)
  g i := (congrFun (host_g' m ρ c) i).trans (row_at (fun j => (congrFun (W8_args m ρ c main_arg1 (by decide)) j).trans (H.g j)) i)
  d i := (congrFun (W9_args m ρ c main_arg5 (by decide)) i).trans (H.d i)

/-- The gradient of the gains at the end. -/
theorem dg_end (H : Args m X D Z G U c) (i : S1024.Idx) :
    (W11 m ρ c (Proc.devRef .tc main_v52) : FVec Ideal S1024 .f32) i = dgain X U Z (i 0).val := by
  refine (congrFun (host_dg m ρ c) i).trans ?_
  refine (shapeCast_apply _ shapeCasts_S1x1024_S1024 i
    (fun a => match a with | ⟨0, _⟩ => ⟨0, Nat.one_pos⟩ | ⟨1, _⟩ => ⟨(i 0).val, (i 0).isLt⟩)
    (by rewrite [Shape.rowMajor_val_two, Shape.rowMajor_val_one]
        show 0 * 1024 + (i 0).val = (i 0).val
        omega)).trans ?_
  exact (congrFun (W10_arr m ρ c 6) _).trans (congrFun (dg_final (entry2 ρ H)) _)

/-- The gradient of the weights at the end. -/
theorem dw_end (H : Args m X D Z G U c) (i : S1024x1536.Idx) :
    (W11 m ρ c (Proc.devRef .tc main_v53) : FVec Ideal S1024x1536 .bf16) i = In.dwgt X G Z (i 0).val (i 1).val := by
  refine (congrFun (host_dw m ρ c) i).trans ?_
  refine (transpose_apply [1, 0] _ transposes_S1536x1024_S1024x1536_1_0 _
    (fun a => match a with | ⟨0, _⟩ => ⟨(i 1).val, (i 1).isLt⟩ | ⟨1, _⟩ => ⟨(i 0).val, (i 0).isLt⟩)
    (fun b => match b with | ⟨0, _⟩ => rfl | ⟨1, _⟩ => rfl)).trans ?_
  exact (congrFun (((W10_of m ρ c main_v48 (by decide +kernel)).trans (W9_of m ρ c main_v48 (by decide +kernel))).trans
    (W8_arr m ρ c 2)) _).trans (congrFun (dw_final (entry1 ρ H)) _)

end

end Cert.Kernel5Ideal.Value

end
-- ==== Proof.Qkv.Ref.lean ====
/- The plain products and their gradient read at an index: each value a formula of the arguments' elements. -/
module

public import proofs.«01_k».proof.Proof.Qkv.Qkv
public import proofs.«01_k».proof.Proof.Gen.Reference5Ideal.Read

@[expose] public section

set_option maxRecDepth 16384

noncomputable section

open Idealize.ShloMosaic Idealize.ShloMosaic.TcCoe Idealize.SL.Sem

namespace Cert.Reference5Ideal.Read

open Cert.Reference5Ideal Cert.Reference5Ideal.Gen Cert.Mlp Cert.Qkv

variable {x0 x5 : (⟨S4096x1024, .f32⟩ : BufTy).Contents (Elt Ideal)} {x1 : (⟨S1024, .f32⟩ : BufTy).Contents (Elt Ideal)}
variable {x2 : (⟨S1024x1536, .f32⟩ : BufTy).Contents (Elt Ideal)} {x6 : (⟨S4096x1536, .f32⟩ : BufTy).Contents (Elt Ideal)}
variable {X U D Z : ℕ → ℕ → EReal} {G : ℕ → EReal}

/-- The literals. -/
theorem zero_bits : FloatOps.ofBits (F := Ideal) .f32 0x00000000#32 = (0 : EReal) := Ideal.ofBits_zero_f32
theorem half_bits : FloatOps.ofBits (F := Ideal) .f32 0xBF000000#32 = (((-(1 / 2) : ℝ)) : EReal) := lit_half
theorem eps_bits : FloatOps.ofBits (F := Ideal) .f32 0x358637BD#32 = eps := lit_eps

variable (h0 : ∀ i, x0 i = X (i 0).val (i 1).val) (h1 : ∀ i, x1 i = G (i 0).val)
variable (h2 : ∀ i, x2 i = U (i 0).val (i 1).val) (h3 : ∀ i, x5 i = D (i 0).val (i 1).val)
variable (h4 : ∀ i, x6 i = Z (i 0).val (i 1).val)

section
include h0

/-- The mean square. -/
theorem v6_at (i : S4096x1.Idx) : val_main_v6 (F := Ideal) x0 i = ms X (i 0).val := by
  rw [val_main_v6_apply, val_main_v4_apply, val_main_v2_apply, val_main_v3_apply, val_main_cst_0_apply, val_main_v5_apply,
    val_main_cst_1_apply, val_main_v1_apply, val_main_cst_apply, zero_bits, zero_add, eps_bits]
  refine congrArg (· + _) ((div1024 _).trans (congrArg (· / 1024) (Finset.sum_congr rfl fun q _ => ?_)))
  rw [val_main_v0_apply, h0]
  rfl

/-- Its inverse root. -/
theorem v7_at (i : S4096x1.Idx) : val_main_v7 (F := Ideal) x0 i = rinv X (i 0).val := by
  rw [val_main_v7_apply, v6_at h0]
  rfl

/-- The slope of the inverse root. -/
theorem v10_at (i : S4096x1.Idx) :
    val_main_v10 (F := Ideal) x0 i = ((((-(1 / 2) : ℝ)) : EReal) * (rinv X (i 0).val / ms X (i 0).val)) := by
  rw [val_main_v10_apply, val_main_v9_apply, val_main_cst_2_apply, val_main_v8_apply, v7_at h0, v6_at h0, half_bits]
  exact congrArg (_ * ·) (div_ne (ms_pos X _).ne')

/-- The row over its root mean square. -/
theorem v12_at (i : S4096x1024.Idx) : val_main_v12 (F := Ideal) x0 i = xh X (i 0).val (i 1).val := by
  rw [val_main_v12_apply, val_main_v11_apply, v7_at h0, h0]
  rfl

include h1

/-- The scaled row. -/
theorem v15_at (i : S4096x1024.Idx) : val_main_v15 (F := Ideal) x0 x1 i = hid X G (i 0).val (i 1).val := by
  rw [val_main_v15_apply, v12_at h0, val_main_v14_apply, val_main_v13_apply, h1]
  rfl

include h4 in
/-- The gradient of the weights. -/
theorem dw_at (i : S1024x1536.Idx) : val_main_v43 (F := Ideal) x0 x1 x6 i = In.dwgt X G Z (i 0).val (i 1).val := by
  refine (show _ = val_main_v18 (F := Ideal) x0 x1 x6 i from rfl).trans ?_
  rw [val_main_v18_apply, val_main_v17_apply]
  unfold In.dwgt
  refine Finset.sum_congr rfl fun p _ => ?_
  rw [v15_at h0 h1, h4, mul_comm]

include h2

/-- The products. -/
theorem prod_at (i : S4096x1536.Idx) : val_main_v16 (F := Ideal) x0 x1 x2 i = In.prod X G U (i 0).val (i 1).val := by
  rw [val_main_v16_apply]
  unfold In.prod
  refine Finset.sum_congr rfl fun q _ => ?_
  rw [v15_at h0 h1, h2]

/-- The values. -/
theorem v_at (i : S4096x256.Idx) : val_main_v42 (F := Ideal) x0 x1 x2 i = In.prod X G U (i 0).val (1280 + (i 1).val) := by
  refine (show _ = val_main_v41 (F := Ideal) x0 x1 x2 i from rfl).trans ?_
  rw [val_main_v41_apply]
  exact prod_at h0 h1 h2 _

include h4

omit h0 h1 in
/-- The gradient of the scaled row. -/
theorem v19_at (i : S4096x1024.Idx) : val_main_v19 (F := Ideal) x2 x6 i = dhid U Z (i 0).val (i 1).val := by
  rw [val_main_v19_apply]
  unfold dhid
  refine Finset.sum_congr rfl fun f _ => ?_
  rw [h4, h2]

omit h0 in
/-- The gradient of the row over its root mean square. -/
theorem v24_at (i : S4096x1024.Idx) :
    val_main_v24 (F := Ideal) x1 x2 x6 i = (dhid U Z (i 0).val (i 1).val * G (i 1).val) := by
  rw [val_main_v24_apply, v19_at h2 h4, val_main_v23_apply, val_main_v13_apply, h1]
  rfl

omit h1 in
/-- The gradient of the gains. -/
theorem dg_at (i : S1024.Idx) : val_main_v25 (F := Ideal) x0 x2 x6 i = dgain X U Z (i 0).val := by
  rw [val_main_v25_apply, val_main_cst_4_apply, zero_bits, zero_add, Fin.sum_univ_one, val_main_v22_apply, val_main_v21_apply,
    val_main_cst_3_apply, zero_bits, zero_add]
  refine (Finset.sum_congr rfl fun p _ => ?_).trans
    (congrArg (dgain X U Z) (show 0 * 1024 + (i 0).val = (i 0).val by omega))
  rw [val_main_v20_apply, v12_at h0, v19_at h2 h4]
  exact mul_comm _ _

/-- What a row and its gradient have in common. -/
theorem v28_at (i : S4096x1.Idx) : val_main_v28 (F := Ideal) x0 x1 x2 x6 i
    = (∑ q : Fin 1024, X (i 0).val q.val * (dhid U Z (i 0).val q.val * G q.val)) := by
  have b1 : (i 1).val < 1 := (i 1).isLt
  have e : ((idx_main_v28 i) 0).val = (i 0).val := by
    show (i 0).val * 1 + (i 1).val = (i 0).val
    omega
  rw [val_main_v28_apply, val_main_v27_apply, val_main_cst_5_apply, zero_bits, zero_add, ← e]
  refine Finset.sum_congr rfl fun q _ => ?_
  rw [val_main_v26_apply, h0, v24_at h1 h2 h4]
  rfl

/-- The gradient of the mean square, spread over the row. -/
theorem v36_at (i : S4096x1024.Idx) : val_main_v36 (F := Ideal) x0 x1 x2 x6 i
    = (∑ q : Fin 1024, X (i 0).val q.val * (dhid U Z (i 0).val q.val * G q.val))
        * ((((-(1 / 2) : ℝ)) : EReal) * (rinv X (i 0).val / ms X (i 0).val)) / 1024 := by
  rw [val_main_v36_apply, val_main_v35_apply, val_main_cst_7_apply, zero_bits, zero_add, Fin.sum_univ_one, val_main_v34_apply,
    val_main_v32_apply, v28_at h0 h1 h2 h4, val_main_v33_apply, val_main_cst_6_apply, v10_at h0]
  exact div1024 _

include h3

/-- The gradient of the rows. -/
theorem dx_at (i : S4096x1024.Idx) : val_main_v40 (F := Ideal) x0 x1 x2 x5 x6 i = drow X G U D Z (i 0).val (i 1).val := by
  rw [val_main_v40_apply, val_main_v38_apply, val_main_v31_apply, val_main_v30_apply, val_main_v29_apply, val_main_v37_apply,
    val_main_v39_apply, v36_at h0 h1 h2 h4, v24_at h1 h2 h4, v7_at h0, h0, h3]
  refine (show _ = ((_ + _ * _) + _ * _ + _ * _ : EReal) from rfl).trans ?_
  rw [add_assoc, add_assoc, ← add_assoc (_ * _)]
  exact congrArg (_ + ·) (dnorm_halves X (fun p q => dhid U Z p q * G q) _ _)

end

end Cert.Reference5Ideal.Read

end
-- ==== Proof.Qkv.Equation.lean ====
/- The equation of the queries', keys' and values' projection: the kernel's three calls and the plain products with their gradient end with the
   same five arrays. -/
module

public import proofs.«01_k».proof.Defs
public import proofs.«01_k».proof.Proof.Qkv.Run
public import proofs.«01_k».proof.Proof.Qkv.Ref
public import proofs.«01_k».proof.Proof.Mlp.Arr
public import proofs.«01_k».proof.Proof.Gen.Reference5Ideal.Run

@[expose] public section

set_option maxRecDepth 16384

noncomputable section

namespace Cert.Qkv

open Idealize.ShloMosaic Idealize.ShloMosaic.TcCoe Idealize.SL.Sem Cert.Mlp

/-- The plain products and their gradient end with their arguments as launched, and have no semaphore to leave set. -/
theorem reference_frame (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0) :=
  (θ_run _ _ _).mono (fun r h => ⟨fun c => (h c).2.2.2.2.2, sem_eq_zero_of_no_sems (by decide) r.2⟩) (Cert.Reference5Ideal.Value.run m g)

section
variable (m : (ℓ : Loc Cert.Kernel5Ideal.nD Cert.Kernel5Ideal.τ Cert.Kernel5Ideal.sig) → Buf (Elt Ideal) ℓ)

/-- The elements of the argument arrays on a device. -/
def argX (c : Dev Cert.Kernel5Ideal.nD) : ℕ → ℕ → EReal :=
  elem (n0 := 4096) (n1 := 1024) (m ((c.tc : Thread Cert.Kernel5Ideal.nD Cert.Kernel5Ideal.τ).loc Cert.Kernel5Ideal.main_arg0))
def argG (c : Dev Cert.Kernel5Ideal.nD) : ℕ → EReal :=
  elem1 (n := 1024) (m ((c.tc : Thread Cert.Kernel5Ideal.nD Cert.Kernel5Ideal.τ).loc Cert.Kernel5Ideal.main_arg1))
def argU (c : Dev Cert.Kernel5Ideal.nD) : ℕ → ℕ → EReal :=
  elem (n0 := 1024) (n1 := 1536) (m ((c.tc : Thread Cert.Kernel5Ideal.nD Cert.Kernel5Ideal.τ).loc Cert.Kernel5Ideal.main_arg2))
def argD (c : Dev Cert.Kernel5Ideal.nD) : ℕ → ℕ → EReal :=
  elem (n0 := 4096) (n1 := 1024) (m ((c.tc : Thread Cert.Kernel5Ideal.nD Cert.Kernel5Ideal.τ).loc Cert.Kernel5Ideal.main_arg5))
def argZ (c : Dev Cert.Kernel5Ideal.nD) : ℕ → ℕ → EReal :=
  elem (n0 := 4096) (n1 := 1536) (m ((c.tc : Thread Cert.Kernel5Ideal.nD Cert.Kernel5Ideal.τ).loc Cert.Kernel5Ideal.main_arg6))

/-- The arguments are the arrays of those elements. -/
theorem args (c : Dev Cert.Kernel5Ideal.nD) : Cert.Kernel5Ideal.Value.Args m (argX m c) (argD m c) (argZ m c) (argG m c) (argU m c) c where
  x := elem_at _
  g := elem1_at _
  u := elem_at _
  d := elem_at _
  z := elem_at _

end

/-- Both programs end with the products, the values and the three gradients. -/
theorem equation : Cert.algebraic_Kernel5Ideal_Reference5Ideal (hKernel5Ideal := Cert.Kernel5Ideal.Gen.facts)
    (hReference5Ideal := Cert.Reference5Ideal.Gen.facts) := by
  intro m g m' g' _ ha
  have H := args m
  refine ⟨fun c => arr (In.prod (argX m c) (argG m c) (argU m c)),
    fun c => arr (fun p d => In.prod (argX m c) (argG m c) (argU m c) p (1280 + d)), fun c => arr (drow (argX m c) (argG m c) (argU m c) (argD m c) (argZ m c)),
    fun c => arr1 (dgain (argX m c) (argU m c) (argZ m c)), fun c => arr (In.dwgt (argX m c) (argG m c) (argZ m c)), ?_, ?_⟩
  · refine (θ_run _ _ _).mono (fun r h c => ?_) (Cert.Kernel5Ideal.Value.run m g)
    exact ⟨(h c).1.1.trans (Cert.Kernel5Ideal.Value.prod_final (Cert.Kernel5Ideal.Value.entry0 g (H c))),
      (h c).1.2.1.trans (Cert.Kernel5Ideal.Value.v_final (Cert.Kernel5Ideal.Value.entry0 g (H c))),
      (h c).1.2.2.1.trans (Cert.Kernel5Ideal.Value.dx_final (Cert.Kernel5Ideal.Value.entry2 g (H c))),
      (h c).1.2.2.2.1.trans (funext fun i => Cert.Kernel5Ideal.Value.dg_end g (H c) i),
      (h c).1.2.2.2.2.trans (funext fun i => Cert.Kernel5Ideal.Value.dw_end g (H c) i), (h c).2⟩
  · refine (θ_run _ _ _).mono (fun r h c => ?_) (Cert.Reference5Ideal.Value.run m' g')
    have e0 : ∀ i : Cert.Reference5Ideal.S4096x1024.Idx, m' ((c.tc : Thread Cert.Reference5Ideal.nD Cert.Reference5Ideal.τ).loc Cert.Reference5Ideal.main_arg0) i
        = argX m c (i 0).val (i 1).val := fun i => (congrFun (ha c).1 i).trans ((H c).x i)
    have e1 : ∀ i : Cert.Reference5Ideal.S1024.Idx, m' ((c.tc : Thread Cert.Reference5Ideal.nD Cert.Reference5Ideal.τ).loc Cert.Reference5Ideal.main_arg1) i
        = argG m c (i 0).val := fun i => (congrFun (ha c).2.1 i).trans ((H c).g i)
    have e2 : ∀ i : Cert.Reference5Ideal.S1024x1536.Idx, m' ((c.tc : Thread Cert.Reference5Ideal.nD Cert.Reference5Ideal.τ).loc Cert.Reference5Ideal.main_arg2) i
        = argU m c (i 0).val (i 1).val := fun i => (congrFun (ha c).2.2.1 i).trans ((H c).u i)
    have e3 : ∀ i : Cert.Reference5Ideal.S4096x1024.Idx, m' ((c.tc : Thread Cert.Reference5Ideal.nD Cert.Reference5Ideal.τ).loc Cert.Reference5Ideal.main_arg5) i
        = argD m c (i 0).val (i 1).val := fun i => (congrFun (ha c).2.2.2.2.2.1 i).trans ((H c).d i)
    have e4 : ∀ i : Cert.Reference5Ideal.S4096x1536.Idx, m' ((c.tc : Thread Cert.Reference5Ideal.nD Cert.Reference5Ideal.τ).loc Cert.Reference5Ideal.main_arg6) i
        = argZ m c (i 0).val (i 1).val := fun i => (congrFun (ha c).2.2.2.2.2.2 i).trans ((H c).z i)
    refine ⟨(h c).1.trans ?_, (h c).2.1.trans ?_, (h c).2.2.1.trans ?_, (h c).2.2.2.1.trans ?_, (h c).2.2.2.2.1.trans ?_, (h c).2.2.2.2.2⟩
    · exact (Cert.Reference5Ideal.Read.val_main_v16_eq _ _ _).trans (funext fun i => Cert.Reference5Ideal.Read.prod_at e0 e1 e2 i)
    · exact (Cert.Reference5Ideal.Read.val_main_v42_eq _ _ _).trans (funext fun i => Cert.Reference5Ideal.Read.v_at e0 e1 e2 i)
    · exact (Cert.Reference5Ideal.Read.val_main_v40_eq m' c).trans (funext fun i => Cert.Reference5Ideal.Read.dx_at e0 e1 e2 e3 e4 i)
    · exact (Cert.Reference5Ideal.Read.val_main_v25_eq _ _ _).trans (funext fun i => Cert.Reference5Ideal.Read.dg_at e0 e2 e4 i)
    · exact (Cert.Reference5Ideal.Read.val_main_v43_eq _ _ _).trans (funext fun i => Cert.Reference5Ideal.Read.dw_at e0 e1 e4 i)

end Cert.Qkv

end
-- ==== Proof.Out.Weights.lean ====
/- The gradient of an output projection's weights: what one grid point computes, what the array holds at the end, the reference's
   gradient read at an index, and the equation. A grid point takes 512 columns of the rows' gradient. -/
module

public import proofs.«01_k».proof.Defs
public import proofs.«01_k».proof.Proof.Gen.Kernel6Ideal.Frame
public import proofs.«01_k».proof.Proof.Gen.Reference6Ideal.Read
public import proofs.«01_k».proof.Proof.Gen.Reference6Ideal.Run
public import proofs.«01_k».proof.Proof.Qkv.Qkv
public import proofs.«01_k».proof.Proof.Mlp.Arr
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Out

/-- The gradient of the weights, where `O` are the rows multiplied and `D` the gradient of the products. -/
def dwgt (O D : ℕ → ℕ → EReal) (q f : ℕ) : EReal := ∑ p : Fin 4096, O p q * D p f

end Cert.Out

namespace Cert.Kernel6Ideal.Value

open Cert.Kernel6Ideal Cert.Kernel6Ideal.Gen Cert.Mlp Cert.Out

section block

variable {O D : ℕ → ℕ → EReal}
variable {x0 : Vec Ideal S4096x1024 .bf16} {x1 : Vec Ideal S1x4096x512 .bf16}

/-- One block of 512 columns of the gradient. -/
theorem dw_block (h0 : ∀ (p : Fin 4096) (q : Fin 1024), x0 (ix2 p q) = O p.val q.val)
    (h1 : ∀ (o : Fin 1) (p : Fin 4096) (b : Fin 512), x1 (ix3 o p b) = D p.val b.val) (q : Fin 1024) (b : Fin 512) :
    out0_2 (F := Ideal) x0 x1 (ix2 q b) = (∑ p : Fin 4096, O p.val q.val * D p.val b.val) := by
  unfold out0_2
  frame_out
  open_payloads
  pointwise
  simp only [h0, h1]
  rw [sum_runs4 (fun p => O p q.val * D p b.val)]
  simp only [Finset.sum_range_succ, Finset.sum_range_zero, zero_add]
  simp only [Nat.reduceMul, zero_mul, zero_add, one_mul, add_zero]

end block

/-- The block each window is at. -/
theorem idx0 : ∀ t : Fin cfg0.N, win0_0.index t = ![0, 0] ∧ win0_1.index t = ![0, 0, t.val] ∧ win0_2.index t = ![0, t.val] :=
  (by decide +kernel : ∀ t : Fin grid0.N, _)

/-- Columns from the `t`-th block of 512 on. -/
def cols (M : ℕ → ℕ → EReal) (t : ℕ) : ℕ → ℕ → EReal := fun p q => M p (t * 512 + q)

variable (m : (ℓ : Loc nD τ sig) → Buf (Elt Ideal) ℓ) (ρ : Dev nD → PrngReg) (O D : ℕ → ℕ → EReal) (c : Dev nD)

/-- The numbers the arguments hold. -/
structure Args : Prop where
  o : ∀ i, (m ((c.tc : Thread nD τ).loc main_arg0) : FVec Ideal S4096x1024 .bf16) i = O (i 0).val (i 1).val
  d : ∀ i, (m ((c.tc : Thread nD τ).loc main_arg2) : FVec Ideal S4096x1024 .f32) i = D (i 0).val (i 1).val

/-- The rows' gradient, rounded, under one leading index. -/
theorem host_d : V m c main_v1
    = (broadcastInDim S1x4096x1024 ![1, 2] bcast_S4096x1024_S1x4096x1024_1_2 (truncf .bf16 (m ((c.tc : Thread nD τ).loc main_arg2)
        : FVec Ideal S4096x1024 .f32) bitsLt_bf16_f32 : FVec Ideal S4096x1024 .bf16) : FVec Ideal S1x4096x1024 .bf16) := by
  show StableHlo.after hostOps0 _ _ = _
  simp only [hostOps0, StableHlo.TRef.toBuf, StableHlo.TRef.ofBuf, cast_eq]
  after_results_simp <;> rfl

variable {m O D c} (H : Args m O D c) (t : Fin cfg0.N)
include H

omit t in
/-- What the call reads. -/
theorem entry_d (i : S1x4096x1024.Idx) : (V m c main_v1 : FVec Ideal S1x4096x1024 .bf16) i = D (i 1).val (i 2).val :=
  (congrFun (host_d m c) i).trans ((broadcastInDim_apply _ bcast_S4096x1024_S1x4096x1024_1_2 _ i
    (fun a => match a with | ⟨0, _⟩ => ⟨(i 1).val, (i 1).isLt⟩ | ⟨1, _⟩ => ⟨(i 2).val, (i 2).isLt⟩) (fun a => match a with
      | ⟨0, _⟩ => by show (i 1).val = if (4096 : Nat) = 1 then 0 else (i 1).val; rw [if_neg (by decide)]
      | ⟨1, _⟩ => by show (i 2).val = if (1024 : Nat) = 1 then 0 else (i 2).val; rw [if_neg (by decide)])).trans (H.d _))

theorem blk_o (p : Fin 4096) (q : Fin 1024) : (iblk m c 0 t : Vec Ideal S4096x1024 .bf16) (ix2 p q) = O p.val q.val := by
  refine (congrFun (V_main_arg0 m c) _).trans ((H.o _).trans ?_)
  refine congrArg₂ O ?_ ?_ <;> blk_simp [idx0 t]
theorem blk_d (o : Fin 1) (p : Fin 4096) (b : Fin 512) : (iblk m c 1 t : Vec Ideal S1x4096x512 .bf16) (ix3 o p b) = cols D t.val p.val b.val := by
  refine (entry_d H _).trans ?_
  refine congrArg₂ D ?_ ?_ <;> blk_simp [idx0 t]

omit t in
/-- The gradient of the weights. -/
theorem dw_final : (dats (F := Ideal) m 0 c).arrAt 2 cfg0.N = (fun i => dwgt O D (i 0).val (i 1).val : Vec Ideal S1024x1024 .bf16) := by
  refine (dats m 0 c).arrAt_eq_of_covers 2 _ (by decide +kernel) fun t hf y => ?_
  blk_simp
  rw [after0_2]
  obtain ⟨q, b, rfl⟩ : ∃ (q : Fin 1024) (b : Fin 512), y = (ix2 q b : S1024x512.Idx) := ⟨y 0, y 1, eq_ix2 y⟩
  refine (dw_block (blk_o H t) (blk_d H t) q b).trans ?_
  refine (show _ = dwgt O D q.val (t.val * 512 + b.val) from rfl).trans ?_
  refine congrArg₂ (dwgt O D) ?_ ?_ <;> blk_simp [idx0 t]

omit H t in
variable (m) in
/-- From any memory with zero counters every weakly fair execution terminates with the result at the call's array and the arguments as
    launched. -/
theorem run : θ_run defs (onTc (τ := τ) (main (F := Ideal))) ⟨m, fun _ => 0, ρ⟩ (fun r => ∀ c : Dev nD,
      r.2.mem ((c.tc : Thread nD τ).loc main_v2) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1 2, h.2 c⟩) (θ_run_and (run_main m ρ) (unchanged m ρ))

end Cert.Kernel6Ideal.Value

namespace Cert.Reference6Ideal.Read

open Cert.Reference6Ideal Cert.Reference6Ideal.Gen Cert.Out

variable {x0 : (⟨S4096x1024, .bf16⟩ : BufTy).Contents (Elt Ideal)} {x2 : (⟨S4096x1024, .f32⟩ : BufTy).Contents (Elt Ideal)}
variable {O D : ℕ → ℕ → EReal}

/-- The gradient of the weights. -/
theorem dw_at (h0 : ∀ i, x0 i = O (i 0).val (i 1).val) (h2 : ∀ i, x2 i = D (i 0).val (i 1).val) (i : S1024x1024.Idx) :
    val_main_v5 (F := Ideal) x0 x2 i = dwgt O D (i 0).val (i 1).val := by
  refine (show _ = val_main_v3 (F := Ideal) x0 x2 i from rfl).trans ?_
  rw [val_main_v3_apply, val_main_v2_apply]
  unfold dwgt
  refine Finset.sum_congr rfl fun p _ => ?_
  rw [h2, mul_comm]
  refine congrArg (· * _) ?_
  exact h0 _

end Cert.Reference6Ideal.Read

namespace Cert.Out

open Cert.Mlp

/-- The plain gradient ends with its arguments as launched, and has no semaphore to leave set. -/
theorem reference_frame (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0) :=
  (θ_run _ _ _).mono (fun r h => ⟨fun c => (h c).2, sem_eq_zero_of_no_sems (by decide) r.2⟩) (Cert.Reference6Ideal.Value.run m g)

section
variable (m : (ℓ : Loc Cert.Kernel6Ideal.nD Cert.Kernel6Ideal.τ Cert.Kernel6Ideal.sig) → Buf (Elt Ideal) ℓ)

/-- The elements of the argument arrays on a device. -/
def argO (c : Dev Cert.Kernel6Ideal.nD) : ℕ → ℕ → EReal :=
  elem (n0 := 4096) (n1 := 1024) (m ((c.tc : Thread Cert.Kernel6Ideal.nD Cert.Kernel6Ideal.τ).loc Cert.Kernel6Ideal.main_arg0))
def argD (c : Dev Cert.Kernel6Ideal.nD) : ℕ → ℕ → EReal :=
  elem (n0 := 4096) (n1 := 1024) (m ((c.tc : Thread Cert.Kernel6Ideal.nD Cert.Kernel6Ideal.τ).loc Cert.Kernel6Ideal.main_arg2))

/-- The arguments are the arrays of those elements. -/
theorem args (c : Dev Cert.Kernel6Ideal.nD) : Cert.Kernel6Ideal.Value.Args m (argO m c) (argD m c) c where
  o := elem_at _
  d := elem_at _

end

/-- Both programs end with the gradient of the weights. -/
theorem equation : Cert.algebraic_Kernel6Ideal_Reference6Ideal (hKernel6Ideal := Cert.Kernel6Ideal.Gen.facts)
    (hReference6Ideal := Cert.Reference6Ideal.Gen.facts) := by
  intro m g m' g' _ ha
  have H := args m
  refine ⟨fun c => arr (dwgt (argO m c) (argD m c)), ?_, ?_⟩
  · refine (θ_run _ _ _).mono (fun r h c => ?_) (Cert.Kernel6Ideal.Value.run m g)
    exact ⟨(h c).1.trans (Cert.Kernel6Ideal.Value.dw_final (H c)), (h c).2⟩
  · refine (θ_run _ _ _).mono (fun r h c => ?_) (Cert.Reference6Ideal.Value.run m' g')
    have e0 : ∀ i : Cert.Reference6Ideal.S4096x1024.Idx, m' ((c.tc : Thread Cert.Reference6Ideal.nD Cert.Reference6Ideal.τ).loc Cert.Reference6Ideal.main_arg0) i
        = argO m c (i 0).val (i 1).val := fun i => (congrFun (ha c).1 i).trans ((H c).o i)
    have e2 : ∀ i : Cert.Reference6Ideal.S4096x1024.Idx, m' ((c.tc : Thread Cert.Reference6Ideal.nD Cert.Reference6Ideal.τ).loc Cert.Reference6Ideal.main_arg2) i
        = argD m c (i 0).val (i 1).val := fun i => (congrFun (ha c).2.2 i).trans ((H c).d i)
    refine ⟨(h c).1.trans ?_, (h c).2⟩
    exact (Cert.Reference6Ideal.Read.val_main_v5_eq _ _).trans (funext fun i => Cert.Reference6Ideal.Read.dw_at e0 e2 i)

end Cert.Out

end
-- ==== Proof.Out.Roles.lean ====
/- A ring of three slots through which eight blocks pass, three of them under way at a time: what each slot is doing before each step.
   The first step starts blocks 0, 1 and 2. Step `t` waits for block `t`, and starts block `t + 3` in the slot it freed while there is
   one. -/
module

public import Idealize.ShloMosaic.Lib.Ring
public import Idealize.ShloMosaic.Lib.Tactic

@[expose] public section

noncomputable section

open Idealize.ShloMosaic Idealize.ShloMosaic.Ring
open Idealize.SL Idealize.SL.RA Idealize.SL.BI
open scoped Idealize.SL.BI
open Idealize.SL.BI.BIBase Idealize.SL.BI.Laws Idealize.SL.ProofMode Idealize.SL.Sem

namespace Cert.Out

/-- The slot after the next three is the slot itself. -/
theorem sl_three (t : ℕ) : sl 3 (t + 3) = sl 3 t := Fin.ext (by simp [sl, Fin.ofNat])

/-- A block and the block three on are not the same. -/
theorem bk_three {t : ℕ} (h : t + 3 < 8) : bk 8 t ≠ bk 8 (t + 3) := fun e => by
  have := congrArg Fin.val e
  rw [bk_val (show t < 8 by omega), bk_val h] at this
  omega

variable {M : Type _} [URA M] (idle : Fin 3 → sProp M) (busy : Fin 3 → Fin 8 → sProp M)

/-- The slot block `k` passes through: busy with it if there is one. -/
def role (k : ℕ) : sProp M := if k < 8 then busy (sl 3 k) (bk 8 k) else idle (sl 3 k)

/-- The three slots before step `t`. -/
def slots (t : ℕ) : sProp M :=
  if t = 0 then iprop(idle (sl 3 t) ∗ idle (sl 3 (t + 1)) ∗ idle (sl 3 (t + 2)))
  else iprop(role idle busy t ∗ role idle busy (t + 1) ∗ role idle busy (t + 2))

/-- Before the first step every slot is idle; -/
theorem slots_first {t : ℕ} (h : t = 0) : slots idle busy t = iprop(idle (sl 3 t) ∗ idle (sl 3 (t + 1)) ∗ idle (sl 3 (t + 2))) := if_pos h

/-- before any later one the slot of the step is busy. -/
theorem slots_here {t : ℕ} (h : t ≠ 0) (h' : t < 8) :
    slots idle busy t = iprop(busy (sl 3 t) (bk 8 t) ∗ role idle busy (t + 1) ∗ role idle busy (t + 2)) := by
  unfold slots; rw [if_neg h]; conv_lhs => unfold role
  rw [if_pos h']; rfl

/-- After a step the slot it freed is busy with the block three on, -/
theorem slots_more {t : ℕ} (h : t + 3 < 8) :
    slots idle busy (t + 1) = iprop(role idle busy (t + 1) ∗ role idle busy (t + 2) ∗ busy (sl 3 t) (bk 8 (t + 3))) := by
  have e : role idle busy (t + 3) = busy (sl 3 t) (bk 8 (t + 3)) := by unfold role; rw [if_pos h, sl_three]
  rw [← e]; unfold slots; rw [if_neg (Nat.succ_ne_zero t)]

/-- or idle where there is none. -/
theorem slots_less {t : ℕ} (h : ¬t + 3 < 8) :
    slots idle busy (t + 1) = iprop(role idle busy (t + 1) ∗ role idle busy (t + 2) ∗ idle (sl 3 t)) := by
  have e : role idle busy (t + 3) = idle (sl 3 t) := by unfold role; rw [if_neg h, sl_three]
  rw [← e]; unfold slots; rw [if_neg (Nat.succ_ne_zero t)]

/-- A slot whose block there is is busy. -/
theorem role_busy {k : ℕ} (h : k < 8) : role idle busy k = busy (sl 3 k) (bk 8 k) := if_pos h

/-- The three slots by number, before the first step -/
theorem slots_in : iprop(idle 0 ∗ idle 1 ∗ idle 2) ⊢ slots idle busy 0 := by rw [slots_first idle busy rfl]; exact .rfl

/-- and after the last. -/
theorem slots_out : slots idle busy 8 ⊢ iprop(idle 0 ∗ idle 1 ∗ idle 2) := by
  unfold slots role
  rw [if_neg (by decide), if_neg (by decide), if_neg (by decide), if_neg (by decide),
    show sl 3 8 = 2 from rfl, show sl 3 (8 + 1) = 0 from rfl, show sl 3 (8 + 2) = 1 from rfl]
  iintro ⟨H2, H0, H1⟩
  isplitl [H0]; · iexact H0
  isplitl [H1]; · iexact H1
  iexact H2

end Cert.Out

end
-- ==== Proof.Out.Ring.lean ====
/- A ring of three buffers of 512 rows through which an array of 4096 rows passes, block by block, copied in by the kernel itself: the
   slots, the blocks, and what is held of them while a slot is idle and while a block is on its way to it. -/
module

public import Idealize.ShloMosaic.Lib.Ring
public import Idealize.ShloMosaic.Lib.Tactic
public import Idealize.ShloMosaic.Lib.Pipeline.FrameBody
public import Idealize.ShloMosaic.Lib.ViewIndex
public import Idealize.ShloMosaic.Lib.Claim
public import proofs.«01_k».proof.Proof.Out.Roles

@[expose] public section

set_option maxRecDepth 16384

noncomputable section

namespace Cert.Out.Ring

open Idealize.ShloMosaic Idealize.ShloMosaic.TcCoe Idealize.ShloMosaic.Tactic Idealize.ShloMosaic.Ring
open Idealize.SL Idealize.SL.RA Idealize.SL.BI
open scoped Idealize.SL.BI
open Idealize.SL.BI.BIBase Idealize.SL.BI.Laws Idealize.SL.ProofMode Idealize.SL.Sem
open Idealize.ShloMosaic.Rounds

abbrev Scalar : Shape := ⟨0, ![]⟩
abbrev Rows : Shape := ⟨2, ![512, 1024]⟩
abbrev All : Shape := ⟨2, ![4096, 1024]⟩
abbrev One : Shape := ⟨3, ![1, 512, 1024]⟩
abbrev Three : Shape := ⟨3, ![3, 512, 1024]⟩

theorem one_rows : One.Squeezes Rows := by decide

variable {nD : ℕ} {τ : Topo} {sig : RefSig} {F : FTy → Type} {e : EltTy}
  (B : Memref sig .tc .vmem Three e) (C : Memref sig .tc .hbm All e) (cell : Fin 3 → DmaSems sig Scalar)

local notation "𝕄" => MT nD τ sig Unit (Elt F) ℕ (Pipeline.UD sig nD τ) ℕ

/-! ## The slots and the blocks -/

theorem slot_inb (s : Fin 3) : ∀ a, (![s.val, 0, 0] : Fin 3 → Nat) a + One.size a ≤ Three.size a := by
  have := s.isLt; intro a; fin_cases a <;> simp <;> omega
theorem rows_inb (b : Fin 8) : ∀ a, (![512 * b.val, 0] : Fin 2 → Nat) a + Rows.size a ≤ All.size a := by
  have := b.isLt; intro a; fin_cases a <;> simp <;> omega

/-- Slot `s` of the buffers. -/
def slot (s : Fin 3) : Memref sig .tc .vmem Rows e :=
  (B.slice (Rect.unit (s := Three) ![s.val, 0, 0] One.size (slot_inb s)) (fun _ => rfl)).squeeze Rows one_rows

/-- Block `b` of the array: its rows `512 b` and on. -/
def rows (b : Fin 8) : Memref sig .tc .hbm Rows e :=
  C.slice (Rect.unit (s := All) ![512 * b.val, 0] Rows.size (rows_inb b)) (fun _ => rfl)

/-- A slice at an offset that is slot `s`'s is slot `s`, -/
theorem slot_named {o : Fin 3 → Nat} (s : Fin 3) (h : o = ![s.val, 0, 0]) (hb : ∀ a, o a + One.size a ≤ Three.size a) :
    (B.slice (Rect.unit (s := Three) o One.size hb) (fun _ => rfl)).squeeze Rows one_rows = slot B s :=
  congrArg (fun M : Memref sig .tc .vmem One e => M.squeeze Rows one_rows)
    (Memref.slice_unit_congr _ h _ _ (fun _ => rfl) (fun _ => rfl))

/-- and one at an offset that is block `b`'s is block `b`. -/
theorem rows_named {o : Fin 2 → Nat} (b : Fin 8) (h : o = ![512 * b.val, 0]) (hb : ∀ a, o a + Rows.size a ≤ All.size a) :
    C.slice (Rect.unit (s := All) o Rows.size hb) (fun _ => rfl) = rows C b :=
  Memref.slice_unit_congr _ h _ _ (fun _ => rfl) (fun _ => rfl)

abbrev slotRect (s : Fin 3) : Rect Three := Rect.unit (s := Three) ![s.val, 0, 0] One.size (slot_inb s)

/-- The elements of slot `s`. -/
def slotSet (s : Fin 3) : Finset B.view.ty.Idx := (slotRect s).set.map B.view.emb

theorem slot_set (s : Fin 3) : (slot B s).view.set = slotSet B s := by
  simp only [slot, Memref.view_squeeze, View.set_reshape]; exact View.set_slice _ _

theorem slots_disjoint (s s' : Fin 3) (h : s ≠ s') : Disjoint (slotSet B s) (slotSet B s') :=
  (Finset.disjoint_map B.view.emb).mpr (lead_disjoint (s := Three) (0 : Fin 3) 1 (fun s : Fin 3 => (![s.val, 0, 0] : Fin 3 → Nat))
    One.size slot_inb (fun s => by simp) rfl s s' h)

theorem slots_cover (hB : B.IsWhole) : Finset.univ.biUnion (slotSet B) = Finset.univ := by
  have hc : Finset.univ.biUnion (fun s => (slotRect s).set) = Finset.univ :=
    lead_cover (s := Three) (0 : Fin 3) 1 (fun s : Fin 3 => (![s.val, 0, 0] : Fin 3 → Nat)) One.size slot_inb
      (fun s => by simp) (fun s a ha => by fin_cases a <;> first | exact absurd rfl ha | rfl) rfl
      (fun a ha => by fin_cases a <;> first | exact absurd rfl ha | rfl) rfl
  refine Finset.eq_univ_iff_forall.mpr fun i => ?_
  obtain ⟨x, -, rfl⟩ := Finset.mem_map.mp (show i ∈ B.view.set by rw [hB.set_eq_univ]; exact Finset.mem_univ i)
  obtain ⟨s, -, hs⟩ := Finset.mem_biUnion.mp (show x ∈ Finset.univ.biUnion (fun s => (slotRect s).set) by rw [hc]; exact Finset.mem_univ x)
  exact Finset.mem_biUnion.mpr ⟨s, Finset.mem_univ s, Finset.mem_map_of_mem _ hs⟩

theorem rows_disjoint (b b' : Fin 8) (h : b ≠ b') : Disjoint (rows C b).view.set (rows C b').view.set :=
  View.disjoint_slice (lead_disjoint (s := All) (0 : Fin 2) 512 (fun b : Fin 8 => (![512 * b.val, 0] : Fin 2 → Nat)) Rows.size rows_inb
    (fun b => by simp) rfl b b' h)

/-! ## What is held of them -/

/-- What the buffer behind `M` holds. -/
abbrev Held (F : FTy → Type) (c : Dev nD) {sp : Space} {S : Shape} {e : EltTy} (M : Memref sig .tc sp S e) : Type :=
  Buf (Elt F) (M.view.loc (c : Thread nD τ))

variable (c : Dev nD) (A : Held (τ := τ) F c C)

/-- The array is held in three shares, one for each slot's copies to read from. -/
abbrev share (s : Fin 3) : PosShare TreeShare :=
  if s.val = 0 then fullShare.left else if s.val = 1 then fullShare.right.left else fullShare.right.right

abbrev slotAt (s : Fin 3) (f : Held (τ := τ) F c (slot B s)) : sProp 𝕄 :=
  (slot B s).view.loc (c : Thread nD τ) ↦[(slot B s).view.set]{fullShare} f
abbrev sem (s : Fin 3) : SemLoc sig := SemLoc.dma (cell s).sem
abbrev semAt (s : Fin 3) : sProp 𝕄 := semVal ((c : Thread nD τ), sem cell s) 0
/-- Block `b` in slot `s`'s share, -/
abbrev lent (s : Fin 3) (b : Fin 8) : sProp 𝕄 := (rows C b).view.loc (c : Thread nD τ) ↦[(rows C b).view.set]{share s} A
/-- the rest of that share, -/
def rest (s : Fin 3) (b : Fin 8) : sProp 𝕄 := C.view.loc (c : Thread nD τ) ↦[Finset.univ \ (rows C b).view.set]{share s} A
/-- what is neither block `b` nor block `b'`, -/
def others (s : Fin 3) (b b' : Fin 8) : sProp 𝕄 :=
  C.view.loc (c : Thread nD τ) ↦[(Finset.univ \ (rows C b).view.set) \ (rows C b').view.set]{share s} A
/-- and all of it. -/
abbrev whole (s : Fin 3) : sProp 𝕄 := C.view.loc (c : Thread nD τ) ↦[Finset.univ]{share s} A

/-- The slot with block `b` copied over `f`. -/
abbrev filled (s : Fin 3) (b : Fin 8) (f : Held (τ := τ) F c (slot B s)) : Held (τ := τ) F c (slot B s) :=
  (slot B s).view.writes (Elt F) f [⟨Rect.whole Rows, ReadAs.same.apply ((rows C b).view.read (Elt F) A)⟩]

abbrev copying (s : Fin 3) (b : Fin 8) (f : Held (τ := τ) F c (slot B s)) : sProp 𝕄 :=
  Transfers.Flight countersEmb (c : Thread nD τ) (sem cell s) default ((slot B s).view.amount (sem cell s))
    iprop(slotAt B c s (filled B C c A s b f) ∗ lent C c A s b)

/-- A slot nothing is copied to: its semaphore at zero, its buffer, its share of the array. -/
def idle (s : Fin 3) : sProp 𝕄 := iprop(semAt cell c s ∗ (∃ f, slotAt B c s f) ∗ whole C c A s)
/-- A slot block `b` is being copied to. -/
def busy (s : Fin 3) (b : Fin 8) : sProp 𝕄 := iprop((∃ f, copying B C cell c A s b f) ∗ rest C c A s b)

theorem lend (s : Fin 3) (b : Fin 8) : whole (F := F) C c A s ⊣⊢ iprop(lent C c A s b ∗ rest C c A s b) := by
  unfold rest; exact pointsTo_split_subset (Finset.subset_univ _)

theorem lend_more (s : Fin 3) (b b' : Fin 8) (h : b ≠ b') : rest (F := F) C c A s b ⊣⊢ iprop(lent C c A s b' ∗ others C c A s b b') := by
  unfold rest others
  refine pointsTo_split_subset fun x hx => Finset.mem_sdiff.mpr ⟨Finset.mem_univ _, fun hx' => ?_⟩
  exact Finset.disjoint_left.mp (rows_disjoint C b b' h) hx' hx

/-- One block given back and another kept: what is left is the rest of the one kept. -/
theorem lend_other (s : Fin 3) (b b' : Fin 8) (h : b ≠ b') : iprop(lent (F := F) C c A s b ∗ others C c A s b b') ⊢ rest C c A s b' := by
  have e : others (F := F) C c A s b b' = others C c A s b' b := by
    unfold others
    exact congrArg (fun I : Finset (Idx (C.view.loc (c : Thread nD τ))) => (C.view.loc (c : Thread nD τ) ↦[I]{share s} A : sProp 𝕄))
      (sdiff_right_comm _ _ _)
  rw [e]; exact (lend_more C c A s b' b h.symm).2

theorem whole_shares : (C.view.loc (c : Thread nD τ) ↦{fullShare} A : sProp 𝕄) ⊣⊢ iprop(whole C c A 0 ∗ whole C c A 1 ∗ whole C c A 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2

theorem slotAt_eq (s : Fin 3) (f) :
    slotAt (F := F) B c s f = (B.view.loc (c : Thread nD τ) ↦[slotSet B s]{fullShare} f : sProp 𝕄) := by
  unfold slotAt; rw [slot_set]; rfl

theorem buffers_split (hB : B.IsWhole) : iprop(∃ d, owns (c : Thread nD τ) B fullShare d)
    ⊢ (iprop((∃ f, slotAt (F := F) B c 0 f) ∗ (∃ f, slotAt (F := F) B c 1 f) ∗ ∃ f, slotAt (F := F) B c 2 f) : sProp 𝕄) := by
  unfold owns
  rw [hB.set_eq_univ]
  iintro ⟨%d, %f, -, H⟩
  iapply (slots3_split (U := Pipeline.UD sig nD τ) (ℓ := B.view.loc (c : Thread nD τ)) (q := fullShare) (slotSet B)
    (slots_disjoint B) (slots_cover B hB) (slotAt B c 0) (slotAt B c 1) (slotAt B c 2) (slotAt_eq B c 0) (slotAt_eq B c 1) (slotAt_eq B c 2))
  iexists f; iexact H

theorem buffers_join (hB : B.IsWhole) : (iprop((∃ f, slotAt (F := F) B c 0 f) ∗ (∃ f, slotAt (F := F) B c 1 f) ∗ ∃ f, slotAt (F := F) B c 2 f) : sProp 𝕄)
    ⊢ iprop(∃ d, owns (c : Thread nD τ) B fullShare d) := by
  unfold owns
  rw [hB.set_eq_univ]
  refine (slots3_join (U := Pipeline.UD sig nD τ) (ℓ := B.view.loc (c : Thread nD τ)) (q := fullShare) (slotSet B)
    (slots_disjoint B) (slots_cover B hB) (slotAt B c 0) (slotAt B c 1) (slotAt B c 2) (slotAt_eq B c 0) (slotAt_eq B c 1) (slotAt_eq B c 2)).trans ?_
  iintro ⟨%g, H⟩
  iexists _; iexists g; isplitr; · ipureintro; rfl
  iexact H

/-- What the launch hands over is three idle slots, -/
theorem idle_in (hB : B.IsWhole) :
    iprop((∃ d, owns (c : Thread nD τ) B fullShare d) ∗ (semAt cell c 0 ∗ semAt cell c 1 ∗ semAt cell c 2) ∗ (C.view.loc (c : Thread nD τ) ↦{fullShare} A))
      ⊢ (iprop(idle B C cell c A 0 ∗ idle B C cell c A 1 ∗ idle B C cell c A 2) : sProp 𝕄) := by
  iintro ⟨HS, ⟨H0, H1, H2⟩, HW⟩
  ihave HS' := (buffers_split (F := F) B c hB) $$ HS
  icases HS' with ⟨HS0, HS1, HS2⟩
  ihave HW' := (whole_shares (F := F) C c A).1 $$ HW
  icases HW' with ⟨HW0, HW1, HW2⟩
  unfold idle
  isplitl [H0 HS0 HW0]
  · isplitl [H0]; · iexact H0
    isplitl [HS0]; · iexact HS0
    iexact HW0
  isplitl [H1 HS1 HW1]
  · isplitl [H1]; · iexact H1
    isplitl [HS1]; · iexact HS1
    iexact HW1
  isplitl [H2]; · iexact H2
  isplitl [HS2]; · iexact HS2
  iexact HW2

/-- and three idle slots give it back. -/
theorem idle_out (hB : B.IsWhole) :
    iprop(idle B C cell c A 0 ∗ idle B C cell c A 1 ∗ idle B C cell c A 2)
      ⊢ (iprop((∃ d, owns (c : Thread nD τ) B fullShare d) ∗ (semAt cell c 0 ∗ semAt cell c 1 ∗ semAt cell c 2) ∗ (C.view.loc (c : Thread nD τ) ↦{fullShare} A)) : sProp 𝕄) := by
  unfold idle
  iintro ⟨⟨H0, HS0, HW0⟩, ⟨H1, HS1, HW1⟩, ⟨H2, HS2, HW2⟩⟩
  isplitl [HS0 HS1 HS2]
  · iapply (buffers_join (F := F) B c hB); isplitl [HS0]; · iexact HS0
    isplitl [HS1]; · iexact HS1
    iexact HS2
  isplitl [H0 H1 H2]
  · isplitl [H0]; · iexact H0
    isplitl [H1]; · iexact H1
    iexact H2
  iapply (whole_shares (F := F) C c A).2
  isplitl [HW0]; · iexact HW0
  isplitl [HW1]; · iexact HW1
  iexact HW2

/-! ## What a step loads -/

/-- What a step loads is what the slot holds, -/
theorem load_slot {o : Fin 3 → Nat} (s : Fin 3) (h : o = ![s.val, 0, 0]) (hb : ∀ a, o a + One.size a ≤ Three.size a)
    (hc : One.ShapeCasts Rows) (g : Held (τ := τ) F c (slot B s)) :
    shapeCast Rows (View.readAt (Elt F) B.view (Rect.unit (s := Three) o One.size hb).toLoadRect g : Vec F One e) hc
      = (slot B s).view.read (Elt F) g := by
  subst h; rfl

/-- the block copied to it, whatever it held before. -/
theorem load_block {o : Fin 3 → Nat} (s : Fin 3) (h : o = ![s.val, 0, 0]) (hb : ∀ a, o a + One.size a ≤ Three.size a)
    (hc : One.ShapeCasts Rows) (b : Fin 8) (f : Held (τ := τ) F c (slot B s)) :
    shapeCast Rows (View.readAt (Elt F) B.view (Rect.unit (s := Three) o One.size hb).toLoadRect (filled B C c A s b f) : Vec F One e) hc
      = (rows C b).view.read (Elt F) A :=
  (load_slot B c s h hb hc _).trans (View.read_writes_whole _ _ _)

end Cert.Out.Ring

end
-- ==== Proof.Out.Nt.lean ====
/- The gradient of what an output projection multiplies: the cotangent's rows pass through a ring of three buffers, copied in by the
   kernel itself three blocks ahead, while each block is rounded and multiplied by the transposed weights. Here: the ring, and the
   names the step has for its slots and blocks. -/
module

public import proofs.«01_k».proof.Proof.Gen.Kernel7Ideal.Frame
public import proofs.«01_k».proof.Proof.Gen.Kernel7Ideal.Skeleton
public import proofs.«01_k».proof.Proof.Out.Ring

@[expose] public section

set_option maxRecDepth 16384

noncomputable section

namespace Cert.Kernel7Ideal.Rows

open Cert.Kernel7Ideal Cert.Kernel7Ideal.Gen Cert.Out
open Idealize.ShloMosaic Idealize.ShloMosaic.TcCoe Idealize.ShloMosaic.Tactic Idealize.ShloMosaic.Ring
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ (Pipeline.UD sig nD τ) ℕ

/-! ## The ring -/

abbrev buffers : Memref sig .tc .vmem S3x512x1024 .f32 := Memref.whole cc0_scratch0
abbrev cot : Memref sig .tc .hbm S4096x1024 .f32 := Memref.whole main_arg1

theorem cell_inb (s : Fin 3) : ∀ a, (![s.val] : Fin 1 → Nat) a + S1.size a ≤ S3.size a := by
  have := s.isLt; intro a; fin_cases a <;> simp <;> omega

/-- The semaphore of slot `s`. -/
def cell (s : Fin 3) : DmaSems sig S_ :=
  (cc0_scratch1.slice (Rect.unit (s := S3) ![s.val] S1.size (cell_inb s))).squeeze S_ squeezes_S1_S_

section Held
variable (c : Dev nD) (A : Ring.Held (τ := τ) F c cot)

/-- A slot that is idle, -/
abbrev idle (s : Fin 3) : sProp 𝕄 := Ring.idle buffers cot cell c A s
/-- one that block `b` is being copied to, -/
abbrev busy (s : Fin 3) (b : Fin 8) : sProp 𝕄 := Ring.busy buffers cot cell c A s b
/-- and the ring before step `t`. -/
abbrev ring (t : ℕ) : sProp 𝕄 := slots (idle c A) (busy c A) t

/-- What the launch hands over of it. -/
abbrev held : sProp 𝕄 :=
  iprop((∃ d, owns (c : Thread nD τ) buffers fullShare d) ∗ (Ring.semAt cell c 0 ∗ Ring.semAt cell c 1 ∗ Ring.semAt cell c 2)
    ∗ (cot.view.loc (c : Thread nD τ) ↦{fullShare} A))

/-- That is the ring before the first step, -/
theorem ring_in : held c A ⊢ ring c A 0 :=
  (Ring.idle_in buffers cot cell c A (Memref.isWhole_whole _)).trans (slots_in (idle c A) (busy c A))

/-- and the ring after the last step gives it back. -/
theorem ring_out : ring c A 8 ⊢ held c A :=
  (slots_out (idle c A) (busy c A)).trans (Ring.idle_out buffers cot cell c A (Memref.isWhole_whole _))

end Held

/-! ## The step's own names for them -/

/-- The first step is the one that starts the first three blocks; -/
theorem starts : ∀ t : Fin grid0.N, k0_cond1 (grid0.coords t) = 1#1 ↔ t.val = 0 := by decide +kernel
/-- a step starts the block three on while there is one. -/
theorem continues : ∀ t : Fin grid0.N, k0_cond2 (grid0.coords t) = 1#1 ↔ t.val + 3 < 8 := by decide +kernel

instance : NeZero grid0.N := ⟨by rw [N_0]; decide⟩

section Names

theorem slot_named {o : Fin 3 → Nat} (s : Fin 3) (e : o = ![s.val, 0, 0])
    (h : ∀ a, o a + S1x512x1024.size a ≤ S3x512x1024.size a) :
    (buffers.slice (Rect.unit (s := S3x512x1024) o S1x512x1024.size h) (fun _ => rfl)).squeeze S512x1024 squeezes_S1x512x1024_S512x1024
      = Ring.slot buffers s := Ring.slot_named buffers s e h

theorem cell_named {o : Fin 1 → Nat} (s : Fin 3) (e : o = ![s.val]) (h : ∀ a, o a + S1.size a ≤ S3.size a) :
    (cc0_scratch1.slice (Rect.unit (s := S3) o S1.size h)).squeeze S_ squeezes_S1_S_ = cell s :=
  congrArg (fun A : DmaSems sig S1 => A.squeeze S_ squeezes_S1_S_) (SemArray.slice_unit_congr _ e _ _)

theorem rows_named {o : Fin 2 → Nat} (b : Fin 8) (e : o = ![512 * b.val, 0])
    (h : ∀ a, o a + S512x1024.size a ≤ S4096x1024.size a) :
    cot.slice (Rect.unit (s := S4096x1024) o S512x1024.size h) (fun _ => rfl) = Ring.rows cot b := Ring.rows_named cot b e h

set_option synthInstance.maxSize 4096

theorem off1 : ∀ t : Fin grid0.N, k0_off1 (grid0.coords t) = ![(sl 3 t.val).val] := by decide +kernel
theorem off2 : ∀ t : Fin grid0.N, k0_off2 (grid0.coords t) = ![(sl 3 t.val).val, 0, 0] := by decide +kernel
theorem off3 : ∀ t : Fin grid0.N, k0_off3 (grid0.coords t) = ![512 * (bk 8 t.val).val, 0] := by decide +kernel
theorem off4 : ∀ t : Fin grid0.N, k0_off4 (grid0.coords t) = ![(sl 3 t.val).val, 0, 0] := by decide +kernel
theorem off5 : ∀ t : Fin grid0.N, k0_off5 (grid0.coords t) = ![(sl 3 t.val).val] := by decide +kernel
theorem off6 : ∀ t : Fin grid0.N, k0_off6 (grid0.coords t) = ![(sl 3 t.val).val, 0, 0] := by decide +kernel
theorem off7 : ∀ t : Fin grid0.N, k0_cond2 (grid0.coords t) = 1#1 → k0_off7 (grid0.coords t) = ![512 * (bk 8 (t.val + 3)).val, 0] := by decide +kernel

@[sl_canon] theorem wait_cell (t : Fin grid0.N) :
    (cc0_scratch1.slice (Rect.unit (s := S3) (k0_off1 (grid0.coords t)) S1.size (k0_off1_inb (grid0.coords t)))).squeeze S_ squeezes_S1_S_
      = cell (sl 3 t.val) := cell_named _ (off1 t) _
@[sl_canon] theorem wait_slot (t : Fin grid0.N) :
    (buffers.slice (Rect.unit (s := S3x512x1024) (k0_off2 (grid0.coords t)) S1x512x1024.size (k0_off2_inb (grid0.coords t))) (fun _ => rfl)).squeeze
      S512x1024 squeezes_S1x512x1024_S512x1024 = Ring.slot buffers (sl 3 t.val) := slot_named _ (off2 t) _
@[sl_canon] theorem wait_rows (t : Fin grid0.N) :
    cot.slice (Rect.unit (s := S4096x1024) (k0_off3 (grid0.coords t)) S512x1024.size (k0_off3_inb (grid0.coords t))) (fun _ => rfl)
      = Ring.rows cot (bk 8 t.val) := rows_named _ (off3 t) _
@[sl_canon] theorem next_cell (t : Fin grid0.N) (h : k0_cond2 (grid0.coords t) = 1#1) :
    (cc0_scratch1.slice (Rect.unit (s := S3) (k0_off5 (grid0.coords t)) S1.size (k0_off5_inb (grid0.coords t) h))).squeeze S_ squeezes_S1_S_
      = cell (sl 3 t.val) := cell_named _ (off5 t) _
@[sl_canon] theorem next_slot (t : Fin grid0.N) (h : k0_cond2 (grid0.coords t) = 1#1) :
    (buffers.slice (Rect.unit (s := S3x512x1024) (k0_off6 (grid0.coords t)) S1x512x1024.size (k0_off6_inb (grid0.coords t) h)) (fun _ => rfl)).squeeze
      S512x1024 squeezes_S1x512x1024_S512x1024 = Ring.slot buffers (sl 3 t.val) := slot_named _ (off6 t) _
@[sl_canon] theorem next_rows (t : Fin grid0.N) (h : k0_cond2 (grid0.coords t) = 1#1) :
    cot.slice (Rect.unit (s := S4096x1024) (k0_off7 (grid0.coords t)) S512x1024.size (k0_off7_inb (grid0.coords t) h)) (fun _ => rfl)
      = Ring.rows cot (bk 8 (t.val + 3)) := rows_named _ (off7 t h) _

instance (priority := high) (t : Fin grid0.N) : ClosedOff (k0_off4 (grid0.coords t)) := ⟨![(sl 3 t.val).val, 0, 0], off4 t⟩

end Names

end Cert.Kernel7Ideal.Rows

end
-- ==== Proof.Out.NtSteps.lean ====
/- The steps of that ring: the first, the ones that start another block, the last three. -/
module

public import proofs.«01_k».proof.Proof.Out.Nt
public import Idealize.ShloMosaic.Lib.VecWindow

@[expose] public section

set_option maxRecDepth 16384

noncomputable section

namespace Cert.Kernel7Ideal.Rows

open Cert.Kernel7Ideal Cert.Kernel7Ideal.Gen Cert.Out
open Idealize.ShloMosaic Idealize.ShloMosaic.TcCoe Idealize.ShloMosaic.Tactic Idealize.ShloMosaic.Ring
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (t : Fin cfg0.N) (A : Ring.Held (τ := τ) F c cot) (w : Vec F S1024x1024 .bf16)
  (arg2 : Memref sig .tc .vmem S1024x1024 .bf16) (harg2 : arg2.IsWhole) (arg3 : Memref sig .tc .vmem S512x1024 .bf16) (harg3 : arg3.IsWhole)
  (arg4 : Memref sig .tc .vmem S512x1024 .bf16) (harg4 : arg4.IsWhole)

/-- The body at step `t`. -/
abbrev body : Prog (TpuEff nD τ sig (Elt F) Λ₀ .tc) PUnit :=
  cc0_at_out_bwd (grid0.coords t) (Memref.whole main_arg1) (Memref.isWhole_whole _) arg2 harg2 arg3 harg3 arg4 harg4 buffers
    (Memref.isWhole_whole _) cc0_scratch1

/-- Block `b` of the cotangent, rounded, -/
def rounded (b : Fin 8) : FVec F S512x1024 .bf16 := truncf .bf16 ((Ring.rows cot b).view.read (Elt F) A : FVec F S512x1024 .f32) bitsLt_bf16_f32
/-- and multiplied by the transposed weights. -/
def product (b : Fin 8) : FVec F S512x1024 .bf16 :=
  truncf .bf16 (matmul dot_S512x1024_S1024x1024_S512x1024_1_1_0_0_n_n none (rounded c A b)
    (shapeCast S1024x1024 w shapeCasts_S1024x1024_S1024x1024) (constant S512x1024 .f32 0x00000000#32)) bitsLt_bf16_f32

/-- What the step loads, rounded and multiplied, is that. -/
theorem pay1_eq (f : Ring.Held (τ := τ) F c (Ring.slot buffers (sl 3 t.val))) :
    k0_pay1 (View.readAt (Elt F) buffers.view (Rect.unit (s := S3x512x1024) (k0_off4 (grid0.coords t)) S1x512x1024.size
      (k0_off4_inb (grid0.coords t))).toLoadRect (Ring.filled buffers cot c A (sl 3 t.val) (bk 8 t.val) f)) = rounded c A (bk 8 t.val) :=
  congrArg (fun v : FVec F S512x1024 .f32 => truncf .bf16 v bitsLt_bf16_f32) (Ring.load_block buffers cot c A _ (off4 t) _ _ _ f)

theorem pay2_eq (f : Ring.Held (τ := τ) F c (Ring.slot buffers (sl 3 t.val))) :
    k0_pay2 (View.readAt (Elt F) buffers.view (Rect.unit (s := S3x512x1024) (k0_off4 (grid0.coords t)) S1x512x1024.size
        (k0_off4_inb (grid0.coords t))).toLoadRect (Ring.filled buffers cot c A (sl 3 t.val) (bk 8 t.val) f))
      (View.readAt (Elt F) arg2.view (Rect.unit (s := S1024x1024) ![0, 0] S1024x1024.size inb_S1024x1024_S1024x1024_0_0).toLoadRect (harg2.unread w))
      = product c A w (bk 8 t.val) := by
  rw [View.readAt_full, harg2.read_unread]
  exact congrArg (fun v : FVec F S512x1024 .bf16 => truncf .bf16 (matmul dot_S512x1024_S1024x1024_S512x1024_1_1_0_0_n_n none v
    (shapeCast S1024x1024 w shapeCasts_S1024x1024_S1024x1024) (constant S512x1024 .f32 0x00000000#32)) bitsLt_bf16_f32) (pay1_eq c t A f)

set_option maxHeartbeats 1000000 in
theorem last_step (h1 : ¬k0_cond1 (grid0.coords t) = 1#1) (h2 : ¬k0_cond2 (grid0.coords t) = 1#1) (W : Waits sig Unit) (K : PUnit → sProp 𝕄) :
    iprop(owns (c : Thread nD τ) arg2 fullShare w ∗ (∃ d, owns (c : Thread nD τ) arg3 fullShare d) ∗ (∃ d, owns (c : Thread nD τ) arg4 fullShare d)
        ∗ busy c A (sl 3 t.val) (bk 8 t.val) ∗ owes (c : Thread nD τ) 0 W
        ∗ (iprop(owns (c : Thread nD τ) arg2 fullShare w ∗ owns (c : Thread nD τ) arg3 fullShare (product c A w (bk 8 t.val))
            ∗ owns (c : Thread nD τ) arg4 fullShare (rounded c A (bk 8 t.val)) ∗ idle c A (sl 3 t.val) ∗ (∃ W', owes (c : Thread nD τ) 0 W')) -∗ K ⟨⟩))
      ⊢ wp frame (wpE (defs₀ (F := F)) Variants.none c none) Set.univ (body t arg2 harg2 arg3 harg3 arg4 harg4) K := by
  haveI : Fact (¬k0_cond1 (grid0.coords t) = 1#1) := ⟨h1⟩
  haveI : Fact (¬k0_cond2 (grid0.coords t) = 1#1) := ⟨h2⟩
  unfold body
  simp only [cc0_at_out_bwd_eq_skeleton]; unfold cc0_at_out_bwd_skel
  simp only [k0_part1_eq_skeleton]
  unfold owns busy idle Ring.busy Ring.idle
  iintro ⟨⟨%f0, %hf0, H0⟩, ⟨%d1, %f1, -, H1⟩, ⟨%d2, %f2, -, H2⟩, ⟨⟨%ff, Hf⟩, Hr⟩, HW, Hk⟩
  obtain rfl := harg2.eq_unread hf0
  sl_exec (disch := first | sl_exact h1 | sl_exact h2)
  sl_step
  iapply Hk
  isplitl [H0]
  · iexists _; isplitr; · ipureintro; exact harg2.read_unread _
    iexact H0
  isplitl [H1]
  · iexists _; isplitr
    swap; · iexact H1
    ipureintro; exact (View.read_writes_full _ _ _ _ _).trans (pay2_eq c t A w arg2 harg2 _)
  isplitl [H2]
  · iexists _; isplitr
    swap; · iexact H2
    ipureintro; exact (View.read_writes_full _ _ _ _ _).trans (pay1_eq c t A _)
  isplitl [Hf Hf_dst Hf_src Hr]
  · isplitl [Hf]; · iexact Hf
    isplitl [Hf_dst]; · iexists _; iexact Hf_dst
    iapply (Ring.lend cot c A (sl 3 t.val) (bk 8 t.val)).2; isplitl [Hf_src]; · iexact Hf_src
    iexact Hr
  iexists _; iexact HW

set_option maxHeartbeats 1000000 in
theorem next_step (h1 : ¬k0_cond1 (grid0.coords t) = 1#1) (h2 : k0_cond2 (grid0.coords t) = 1#1) (W : Waits sig Unit) (K : PUnit → sProp 𝕄) :
    iprop(owns (c : Thread nD τ) arg2 fullShare w ∗ (∃ d, owns (c : Thread nD τ) arg3 fullShare d) ∗ (∃ d, owns (c : Thread nD τ) arg4 fullShare d)
        ∗ busy c A (sl 3 t.val) (bk 8 t.val) ∗ owes (c : Thread nD τ) 0 W
        ∗ (iprop(owns (c : Thread nD τ) arg2 fullShare w ∗ owns (c : Thread nD τ) arg3 fullShare (product c A w (bk 8 t.val))
            ∗ owns (c : Thread nD τ) arg4 fullShare (rounded c A (bk 8 t.val)) ∗ busy c A (sl 3 t.val) (bk 8 (t.val + 3)) ∗ (∃ W', owes (c : Thread nD τ) 0 W')) -∗ K ⟨⟩))
      ⊢ wp frame (wpE (defs₀ (F := F)) Variants.none c none) Set.univ (body t arg2 harg2 arg3 harg3 arg4 harg4) K := by
  haveI : Fact (¬k0_cond1 (grid0.coords t) = 1#1) := ⟨h1⟩
  haveI : Fact (k0_cond2 (grid0.coords t) = 1#1) := ⟨h2⟩
  have hne : bk 8 t.val ≠ bk 8 (t.val + 3) := bk_three ((continues t).mp h2)
  unfold body
  simp only [cc0_at_out_bwd_eq_skeleton]; unfold cc0_at_out_bwd_skel
  simp only [k0_part1_eq_skeleton]
  unfold owns busy Ring.busy
  iintro ⟨⟨%f0, %hf0, H0⟩, ⟨%d1, %f1, -, H1⟩, ⟨%d2, %f2, -, H2⟩, ⟨⟨%ff, Hf⟩, Hr⟩, HW, Hk⟩
  ihave Hs := (Ring.lend_more cot c A (sl 3 t.val) (bk 8 t.val) (bk 8 (t.val + 3)) hne).1 $$ Hr
  icases Hs with ⟨Hn, Ho⟩
  obtain rfl := harg2.eq_unread hf0
  have hcanon1 := next_cell t h2
  have hcanon2 := next_slot t h2
  have hcanon3 := next_rows t h2
  sl_exec (disch := first | sl_exact h1 | sl_exact h2)
  sl_step
  iapply Hk
  isplitl [H0]
  · iexists _; isplitr; · ipureintro; exact harg2.read_unread _
    iexact H0
  isplitl [H1]
  · iexists _; isplitr
    swap; · iexact H1
    ipureintro; exact (View.read_writes_full _ _ _ _ _).trans (pay2_eq c t A w arg2 harg2 _)
  isplitl [H2]
  · iexists _; isplitr
    swap; · iexact H2
    ipureintro; exact (View.read_writes_full _ _ _ _ _).trans (pay1_eq c t A _)
  isplitl [Hf Hf_src Ho]
  · isplitl [Hf]; · iexists _; iexact Hf
    iapply (Ring.lend_other cot c A (sl 3 t.val) (bk 8 t.val) (bk 8 (t.val + 3)) hne); isplitl [Hf_src]; · iexact Hf_src
    iexact Ho
  iexists _; iexact HW

set_option maxHeartbeats 1000000 in
theorem first_step (h1 : k0_cond1 (grid0.coords t) = 1#1) (h2 : k0_cond2 (grid0.coords t) = 1#1) (W : Waits sig Unit) (K : PUnit → sProp 𝕄) :
    iprop(owns (c : Thread nD τ) arg2 fullShare w ∗ (∃ d, owns (c : Thread nD τ) arg3 fullShare d) ∗ (∃ d, owns (c : Thread nD τ) arg4 fullShare d)
        ∗ idle c A (sl 3 t.val) ∗ idle c A (sl 3 (t.val + 1)) ∗ idle c A (sl 3 (t.val + 2)) ∗ owes (c : Thread nD τ) 0 W
        ∗ (iprop(owns (c : Thread nD τ) arg2 fullShare w ∗ owns (c : Thread nD τ) arg3 fullShare (product c A w (bk 8 t.val))
            ∗ owns (c : Thread nD τ) arg4 fullShare (rounded c A (bk 8 t.val)) ∗ busy c A (sl 3 (t.val + 1)) (bk 8 (t.val + 1))
            ∗ busy c A (sl 3 (t.val + 2)) (bk 8 (t.val + 2)) ∗ busy c A (sl 3 t.val) (bk 8 (t.val + 3)) ∗ (∃ W', owes (c : Thread nD τ) 0 W')) -∗ K ⟨⟩))
      ⊢ wp frame (wpE (defs₀ (F := F)) Variants.none c none) Set.univ (body t arg2 harg2 arg3 harg3 arg4 harg4) K := by
  haveI : Fact (k0_cond1 (grid0.coords t) = 1#1) := ⟨h1⟩
  haveI : Fact (k0_cond2 (grid0.coords t) = 1#1) := ⟨h2⟩
  have h0 : t.val = 0 := (starts t).mp h1
  have hne : bk 8 t.val ≠ bk 8 (t.val + 3) := bk_three ((continues t).mp h2)
  unfold body
  simp only [cc0_at_out_bwd_eq_skeleton]; unfold cc0_at_out_bwd_skel
  simp only [k0_part1_eq_skeleton]
  unfold owns busy idle Ring.busy Ring.idle
  iintro ⟨⟨%f0, %hf0, H0⟩, ⟨%d1, %f1, -, H1⟩, ⟨%d2, %f2, -, H2⟩, ⟨Hf, ⟨%fs, Hs⟩, Hw⟩, ⟨Hf', ⟨%fs', Hs'⟩, Hw'⟩, ⟨Hf'', ⟨%fs'', Hs''⟩, Hw''⟩, HW, Hk⟩
  ihave Hl := (Ring.lend cot c A (sl 3 t.val) (bk 8 t.val)).1 $$ Hw
  icases Hl with ⟨Hl, Hr⟩
  ihave Hl' := (Ring.lend cot c A (sl 3 (t.val + 1)) (bk 8 (t.val + 1))).1 $$ Hw'
  icases Hl' with ⟨Hl', Hr'⟩
  ihave Hl'' := (Ring.lend cot c A (sl 3 (t.val + 2)) (bk 8 (t.val + 2))).1 $$ Hw''
  icases Hl'' with ⟨Hl'', Hr''⟩
  ihave Hm := (Ring.lend_more cot c A (sl 3 t.val) (bk 8 t.val) (bk 8 (t.val + 3)) hne).1 $$ Hr
  icases Hm with ⟨Hn, Ho⟩
  obtain rfl := harg2.eq_unread hf0
  have hcanonc0 := cell_named (o := ![0]) (sl 3 (t.val)) (by rw [h0]; rfl) inb_S3_S1_0
  have hcanons0 := slot_named (o := ![0, 0, 0]) (sl 3 (t.val)) (by rw [h0]; rfl) inb_S3x512x1024_S1x512x1024_0_0_0
  have hcanonr0 := rows_named (o := ![0, 0]) (bk 8 (t.val)) (by rw [h0]; rfl) inb_S4096x1024_S512x1024_0_0
  have hcanonc1 := cell_named (o := ![1]) (sl 3 (t.val + 1)) (by rw [h0]; rfl) inb_S3_S1_1
  have hcanons1 := slot_named (o := ![1, 0, 0]) (sl 3 (t.val + 1)) (by rw [h0]; rfl) inb_S3x512x1024_S1x512x1024_1_0_0
  have hcanonr1 := rows_named (o := ![512, 0]) (bk 8 (t.val + 1)) (by rw [h0]; rfl) inb_S4096x1024_S512x1024_512_0
  have hcanonc2 := cell_named (o := ![2]) (sl 3 (t.val + 2)) (by rw [h0]; rfl) inb_S3_S1_2
  have hcanons2 := slot_named (o := ![2, 0, 0]) (sl 3 (t.val + 2)) (by rw [h0]; rfl) inb_S3x512x1024_S1x512x1024_2_0_0
  have hcanonr2 := rows_named (o := ![1024, 0]) (bk 8 (t.val + 2)) (by rw [h0]; rfl) inb_S4096x1024_S512x1024_1024_0
  have hcanon1 := next_cell t h2
  have hcanon2 := next_slot t h2
  have hcanon3 := next_rows t h2
  sl_exec (disch := first | sl_exact h1 | sl_exact h2)
  sl_step
  iapply Hk
  isplitl [H0]
  · iexists _; isplitr; · ipureintro; exact harg2.read_unread _
    iexact H0
  isplitl [H1]
  · iexists _; isplitr
    swap; · iexact H1
    ipureintro; exact (View.read_writes_full _ _ _ _ _).trans (pay2_eq c t A w arg2 harg2 _)
  isplitl [H2]
  · iexists _; isplitr
    swap; · iexact H2
    ipureintro; exact (View.read_writes_full _ _ _ _ _).trans (pay1_eq c t A _)
  isplitl [Hf' Hr']
  · isplitl [Hf']; · iexists _; iexact Hf'
    iexact Hr'
  isplitl [Hf'' Hr'']
  · isplitl [Hf'']; · iexists _; iexact Hf''
    iexact Hr''
  isplitl [Hf Hl Ho]
  · isplitl [Hf]; · iexists _; iexact Hf
    iapply (Ring.lend_other cot c A (sl 3 t.val) (bk 8 t.val) (bk 8 (t.val + 3)) hne); isplitl [Hl]; · iexact Hl
    iexact Ho
  iexists _; iexact HW

end Cert.Kernel7Ideal.Rows

end
-- ==== Proof.Out.NtFrame.lean ====
/- The run of the call: what the pipeline keeps from step to step, the body at any step, the launch, and the frame, printed and over the
   reals. -/
module

public import proofs.«01_k».proof.Proof.Out.NtSteps
public import proofs.«01_k».proof.Proof.Gen.Kernel7.Frame
public import Idealize.ShloMosaic.Lib.Claim

@[expose] public section

set_option maxRecDepth 16384

noncomputable section

namespace Cert.Kernel7Ideal.Rows

open Cert.Kernel7Ideal Cert.Kernel7Ideal.Gen Cert.Out
open Idealize.ShloMosaic Idealize.ShloMosaic.TcCoe Idealize.ShloMosaic.Tactic Idealize.ShloMosaic.Ring
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

/-! ## What the launch hands over -/

/-- The three semaphores of the slots, -/
abbrev cells : Fin 3 → SemLoc sig := fun j => (![SemLoc.dma 5, SemLoc.dma 6, SemLoc.dma 7] : Fin 3 → SemLoc sig) j
theorem cells_own : Pipeline.OwnSemFacts spec0 cells := by decide
/-- and the array the body reads by itself. -/
abbrev left : Finset (Ref sig .tc) := {main_arg1}
theorem left_sub : left ⊆ Pipeline.restRefs sig spec0 := by decide

variable (m : (ℓ : Loc nD τ sig) → Buf (Elt F) ℓ) (ρ : Dev nD → PrngReg) (c : Dev nD)

theorem cells_at : (Pipeline.ownSems0 (Ix := Unit) (Name := ℕ) (U := Pipeline.UD sig nD τ) (Lvl := ℕ) (Val := Elt F) (τ := τ) cells c : sProp 𝕄)
    = iprop(Ring.semAt cell c 0 ∗ Ring.semAt cell c 1 ∗ Ring.semAt cell c 2) := by
  rw [Pipeline.ownSems0_eq_of_list c cells [0, 1, 2] (by decide) (by decide)]
  unfold Ring.semAt
  rw [show Ring.sem cell 0 = SemLoc.dma 5 by decide, show Ring.sem cell 1 = SemLoc.dma 6 by decide, show Ring.sem cell 2 = SemLoc.dma 7 by decide]
  rfl

theorem handed : (Pipeline.ΦD cells spec0 left (V m) c : sProp 𝕄)
    = iprop((∃ d, owns (c : Thread nD τ) buffers fullShare d) ∗ (∃ r, prngReg c r)
        ∗ (Ring.semAt cell c 0 ∗ Ring.semAt cell c 1 ∗ Ring.semAt cell c 2) ∗ (cot.view.loc (c : Thread nD τ) ↦{fullShare} V m c main_arg1)) := by
  rw [Pipeline.ΦD_eq, scopedRest0_eq, cells_at,
    show (bigSep left fun b => (((c : Thread nD τ).loc b) ↦{fullShare} V m c b : sProp 𝕄)) = (((c : Thread nD τ).loc main_arg1) ↦{fullShare} V m c main_arg1) by
      rw [BI.bigSep_eq_bigSepL_of_eq [main_arg1] (by decide) (by decide)]; rfl]
  simp only [buffers, owns_whole]; rfl

/-! ## The body at any step -/

/-- The register and the ring, before step `k`. -/
def kept (k : ℕ) : sProp 𝕄 := iprop((∃ r, prngReg c r) ∗ ring c (V m c main_arg1) k)

/-- What each window holds after the body at step `t`: the weights, block `t` of the product, block `t` of the cotangent rounded. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => product c (V m c main_arg1) (iblk m c 0 t) (bk 8 t.val)
    | ⟨2, _⟩ => rounded c (V m c main_arg1) (bk 8 t.val)
  Φ t := kept m c t.val
  q _ := fullShare
  owed _ := 0

theorem A_eq (c : Dev nD) (w : Fin cfg0.W) : (dats m 0 c).A w = V m c (Pipeline.arrRef spec0 w) := by dsimp only [dats]
theorem after_0 (t : Fin cfg0.N) : (dats m 0 c).after 0 t = iblk m c 0 t := by dsimp only [dats]
theorem after_1 (t : Fin cfg0.N) : (dats m 0 c).after 1 t = product c (V m c main_arg1) (iblk m c 0 t) (bk 8 t.val) := by dsimp only [dats]
theorem after_2 (t : Fin cfg0.N) : (dats m 0 c).after 2 t = rounded c (V m c main_arg1) (bk 8 t.val) := by dsimp only [dats]
theorem kept_here (t : Fin cfg0.N) : (dats m 0 c).Φ t.castSucc = kept m c t.val := by dsimp only [dats]; simp only [Fin.val_castSucc]
theorem kept_next (t : Fin cfg0.N) : (dats m 0 c).Φ t.succ = kept m c (t.val + 1) := by dsimp only [dats]; simp only [Fin.val_succ]

/-- The weights' buffer holds the weights at every step. -/
theorem before_0 (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

abbrev st0 (t : Fin cfg0.N) : Memref sig .tc .vmem S1024x1024 .bf16 := win0_0.stage (cfg0.slots t 0)
abbrev st1 (t : Fin cfg0.N) : Memref sig .tc .vmem S512x1024 .bf16 := win0_1.stage (cfg0.slots t 1)
abbrev st2 (t : Fin cfg0.N) : Memref sig .tc .vmem S512x1024 .bf16 := win0_2.stage (cfg0.slots t 2)

/-- What the body is called with, -/
def called (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d)))
/-- and what it gives back. -/
def given (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t))

set_option maxHeartbeats 1000000 in
theorem step (t : Fin cfg0.N) :
    called m c t ⊢ wp frame (wpE (defs₀ (F := F)) Variants.none c none) Set.univ (bodyAt0 t) (fun _ => given m c t) := by
  unfold called given bodyAt0
  simp only [before_0]
  rw [after_0, after_1, after_2, kept_here, kept_next]
  unfold Dat.owesAt Pipeline.owesWithin
  rw [show (dats m 0 c).owed t.castSucc = 0 from rfl, show (dats m 0 c).owed t.succ = 0 from rfl]
  unfold kept ring
  have hN : t.val < 8 := lt_of_lt_of_eq t.isLt (show cfg0.N = 8 from N_0)
  by_cases h0 : t.val = 0
  · have h3 : t.val + 3 < 8 := by omega
    rw [slots_first _ _ h0, slots_more _ _ h3, role_busy _ _ (show t.val + 1 < 8 by omega), role_busy _ _ (show t.val + 2 < 8 by omega)]
    iintro ⟨⟨Hg, Ha, Hb, Hc⟩, ⟨%W, -, HW⟩, ⟨%d0, H0⟩, ⟨%d1, H1⟩, ⟨%d2, H2⟩⟩
    iapply (first_step c t (V m c main_arg1) (iblk m c 0 t) (st0 t) _ (st1 t) _ (st2 t) _ ((starts t).mpr h0) ((continues t).mpr h3) W _)
    isplitl [H0]; · iexact H0
    isplitl [H1]; · iexists _; iexact H1
    isplitl [H2]; · iexists _; iexact H2
    isplitl [Ha]; · iexact Ha
    isplitl [Hb]; · iexact Hb
    isplitl [Hc]; · iexact Hc
    isplitl [HW]; · iexact HW
    iintro ⟨H0, H1, H2, Hb, Hc, Ha, ⟨%W', HW'⟩⟩
    isplitl [Hg Ha Hb Hc]
    · isplitl [Hg]; · iexact Hg
      isplitl [Hb]; · iexact Hb
      isplitl [Hc]; · iexact Hc
      iexact Ha
    isplitl [HW']
    · iexists W'; isplitr; · ipureintro; exact fun _ _ => Or.inl trivial
      iexact HW'
    isplitl [H0]; · iexact H0
    isplitl [H1]; · iexact H1
    iexact H2
  · by_cases h3 : t.val + 3 < 8
    · rw [slots_here _ _ h0 hN, slots_more _ _ h3]
      iintro ⟨⟨Hg, Ha, Hb, Hc⟩, ⟨%W, -, HW⟩, ⟨%d0, H0⟩, ⟨%d1, H1⟩, ⟨%d2, H2⟩⟩
      iapply (next_step c t (V m c main_arg1) (iblk m c 0 t) (st0 t) _ (st1 t) _ (st2 t) _ (fun h => h0 ((starts t).mp h)) ((continues t).mpr h3) W _)
      isplitl [H0]; · iexact H0
      isplitl [H1]; · iexists _; iexact H1
      isplitl [H2]; · iexists _; iexact H2
      isplitl [Ha]; · iexact Ha
      isplitl [HW]; · iexact HW
      iintro ⟨H0, H1, H2, Ha, ⟨%W', HW'⟩⟩
      isplitl [Hg Ha Hb Hc]
      · isplitl [Hg]; · iexact Hg
        isplitl [Hb]; · iexact Hb
        isplitl [Hc]; · iexact Hc
        iexact Ha
      isplitl [HW']
      · iexists W'; isplitr; · ipureintro; exact fun _ _ => Or.inl trivial
        iexact HW'
      isplitl [H0]; · iexact H0
      isplitl [H1]; · iexact H1
      iexact H2
    · rw [slots_here _ _ h0 hN, slots_less _ _ h3]
      iintro ⟨⟨Hg, Ha, Hb, Hc⟩, ⟨%W, -, HW⟩, ⟨%d0, H0⟩, ⟨%d1, H1⟩, ⟨%d2, H2⟩⟩
      iapply (last_step c t (V m c main_arg1) (iblk m c 0 t) (st0 t) _ (st1 t) _ (st2 t) _ (fun h => h0 ((starts t).mp h)) (fun h => h3 ((continues t).mp h)) W _)
      isplitl [H0]; · iexact H0
      isplitl [H1]; · iexists _; iexact H1
      isplitl [H2]; · iexists _; iexact H2
      isplitl [Ha]; · iexact Ha
      isplitl [HW]; · iexact HW
      iintro ⟨H0, H1, H2, Ha, ⟨%W', HW'⟩⟩
      isplitl [Hg Ha Hb Hc]
      · isplitl [Hg]; · iexact Hg
        isplitl [Hb]; · iexact Hb
        isplitl [Hc]; · iexact Hc
        iexact Ha
      isplitl [HW']
      · iexists W'; isplitr; · ipureintro; exact fun _ _ => Or.inl trivial
        iexact HW'
      isplitl [H0]; · iexact H0
      isplitl [H1]; · iexact H1
      iexact H2

theorem row (t : Fin cfg0.N) : defs₀ (F := F) .tc cfg0.body (cfg0.bodyArgs t (cfg0.slots t)) = bodyAt0 t := by
  unfold defs₀; rw [Defs.onTc_tc]

/-- The body does, at every step, what the pipeline asks of it. -/
theorem obliged (c : Dev nD) : BodyObligation (dats (F := F) m 0 c) (defs₀ (F := F)) Variants.none () Set.univ := fun t => by
  rw [bigSep_W0, bigSep_W0, row]
  exact triple_restated (step m c t) rfl .rfl fun _ => .rfl

/-! ## The launch and the frame -/

theorem hands (c : Dev nD) : Pipeline.ΦD cells spec0 left (V m) c ⊢ (dats m 0 c).Φ 0 := by
  rw [handed, show (dats m 0 c).Φ 0 = kept m c 0 from rfl]
  unfold kept
  iintro ⟨HS, Hg, Hq, HW⟩
  isplitl [Hg]; · iexact Hg
  iapply (ring_in c (V m c main_arg1))
  isplitl [HS]; · iexact HS
  isplitl [Hq]; · iexact Hq
  iexact HW

theorem returns (c : Dev nD) : (dats m 0 c).Φ (Fin.last cfg0.N) ⊢ Pipeline.ΦD cells spec0 left (V m) c := by
  rw [handed, show (dats m 0 c).Φ (Fin.last cfg0.N) = kept m c grid0.N from rfl]
  unfold kept
  rw [show grid0.N = 8 by rw [N_0]]
  iintro ⟨Hg, HR⟩
  ihave H := (ring_out c (V m c main_arg1)) $$ HR
  icases H with ⟨HS, Hq, HW⟩
  isplitl [HS]; · iexact HS
  isplitl [Hg]; · iexact Hg
  isplitl [Hq]; · iexact Hq
  iexact HW

theorem enters : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- Every weakly fair execution terminates, with the pipeline's arrays as the blocks say and every semaphore at zero. -/
theorem launched : θ_run defs (onTc (τ := τ) (main (F := F))) (s₀ m ρ)
    (fun r => (Pipeline.FramePost cfgs (dats m) 0 (V m)) r ∧ r.2.sem = fun _ => 0) :=
  Pipeline.θ_run_frame_dma (Q' := _) cfgs (dats m) (0 : Fin 1) launch0 cells defs₀ Variants.none cells_own left left_sub m ρ main
    (hbody := fun c => (obliged m c).loose) (hshare := fun c => (dats m 0 c).share_full fun _ => rfl)
    (howed := fun _ _ => rfl) (V := V m) (hmain := enters m) (hA := A_eq m) (hin := hands m) (hout := returns m)

/-- The run: the two results at the pipeline's arrays, the arguments as launched, every semaphore at zero. -/
theorem run : θ_run defs (onTc (τ := τ) (main (F := F))) ⟨m, fun _ => 0, ρ⟩ (fun r => (∀ c : Dev nD,
      r.2.mem ((c.tc : Thread nD τ).loc main_v1_0) = (dats m 0 c).arrAt 1 cfg0.N
      ∧ r.2.mem ((c.tc : Thread nD τ).loc main_v1_1) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1 1, (h.1 c).1 2,
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c)⟩, h.2⟩) (launched m ρ)

/-- The frame. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2.2, h.2⟩) (run m ρ)

end Cert.Kernel7Ideal.Rows

/-! ## The printed call -/

namespace Cert.Kernel7.Rows

open Cert.Kernel7
open Idealize.ShloMosaic Idealize.ShloMosaic.TcCoe Idealize.SL.Sem

variable {F : FTy → Type} [FloatOps F]

/-- The printed call and the one over the reals have the same body, -/
theorem bodies : Cert.Kernel7.defs₀ (F := F) = Cert.Kernel7Ideal.defs₀ (F := F) := by
  unfold Cert.Kernel7.defs₀ Cert.Kernel7Ideal.defs₀
  refine congrArg Defs.onTc ?_
  funext b x
  match b, x with
  | 0, _ => rfl
  | ⟨_ + 1, h⟩, _ => exact absurd h (Nat.not_lt.2 (Nat.le_add_left _ _))

/-- pipelined the same way: the same run is a run of both. -/
theorem pipelines : Cert.Kernel7.defs (F := F) = Cert.Kernel7Ideal.defs (F := F) := congrArg (Pipeline.defs Cert.Kernel7.pcfgs) bodies

theorem unchanged (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [pipelines]; exact Cert.Kernel7Ideal.Rows.unchanged m ρ

end Cert.Kernel7.Rows

end
-- ==== Proof.Out.NtEquation.lean ====
/- The gradient of what an output projection multiplies: what one step computes, what the arrays hold at the end, the reference's
   gradient read at an index, and the equation. A step takes 512 rows of the gradient of the products. -/
module

public import proofs.«01_k».proof.Defs
public import proofs.«01_k».proof.Proof.Out.NtFrame
public import proofs.«01_k».proof.Proof.Gen.Reference7Ideal.Read
public import proofs.«01_k».proof.Proof.Gen.Reference7Ideal.Run
public import proofs.«01_k».proof.Proof.Qkv.Qkv
public import proofs.«01_k».proof.Proof.Mlp.Arr
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Out

/-- The gradient of the rows, where `W` are the weights and `D` the gradient of the products. -/
def drows (W D : ℕ → ℕ → EReal) (r k : ℕ) : EReal := ∑ j : Fin 1024, D r j * W k j

end Cert.Out

namespace Cert.Kernel7Ideal.Value

open Cert.Kernel7Ideal Cert.Kernel7Ideal.Gen Cert.Kernel7Ideal.Rows Cert.Mlp Cert.Out Idealize.ShloMosaic.Ring

/-- The block each window is at. -/
theorem idx0 : ∀ t : Fin cfg0.N, win0_0.index t = ![0, 0] ∧ win0_1.index t = ![t.val, 0] ∧ win0_2.index t = ![t.val, 0] :=
  (by decide +kernel : ∀ t : Fin grid0.N, _)

variable (m : (ℓ : Loc nD τ sig) → Buf (Elt Ideal) ℓ) (ρ : Dev nD → PrngReg) (W D : ℕ → ℕ → EReal) (c : Dev nD)

/-- The numbers the arguments hold. -/
structure Args : Prop where
  w : ∀ i, (m ((c.tc : Thread nD τ).loc main_arg0) : FVec Ideal S1024x1024 .f32) i = W (i 0).val (i 1).val
  d : ∀ i, (m ((c.tc : Thread nD τ).loc main_arg1) : FVec Ideal S4096x1024 .f32) i = D (i 0).val (i 1).val

/-- The weights, rounded. -/
theorem host_w : V m c main_v0
    = (truncf .bf16 (m ((c.tc : Thread nD τ).loc main_arg0) : FVec Ideal S1024x1024 .f32) bitsLt_bf16_f32 : FVec Ideal S1024x1024 .bf16) := by
  show StableHlo.after hostOps0 _ _ = _
  simp only [hostOps0, StableHlo.TRef.toBuf, StableHlo.TRef.ofBuf, cast_eq]
  after_results_simp <;> rfl

variable {m W D c} (H : Args m W D c) (t : Fin cfg0.N)
include H

theorem blk_w (p q : Fin 1024) : (iblk m c 0 t : Vec Ideal S1024x1024 .bf16) (ix2 p q) = W p.val q.val := by
  refine (congrFun (host_w m c) _).trans ((H.w _).trans ?_)
  refine congrArg₂ W ?_ ?_ <;> blk_simp [idx0 t]

omit t in
/-- Row `p` of block `b`. -/
theorem block_d (b : Fin 8) (p : Fin 512) (q : Fin 1024) :
    ((Ring.rows cot b).view.read (Elt Ideal) (V m c main_arg1) : FVec Ideal S512x1024 .f32) (ix2 p q) = D (b.val * 512 + p.val) q.val := by
  refine (congrFun (V_main_arg1 m c) _).trans ((H.d _).trans ?_)
  refine congrArg₂ D ?_ ?_
  · show 512 * b.val + 1 * p.val = _; ring
  · show 0 + 1 * q.val = _; ring

omit t in
theorem rounded_at (b : Fin 8) (p : Fin 512) (q : Fin 1024) :
    rounded (F := Ideal) c (V m c main_arg1) b (ix2 p q) = D (b.val * 512 + p.val) q.val := block_d H b p q

theorem product_at (b : Fin 8) (p : Fin 512) (q : Fin 1024) :
    product (F := Ideal) c (V m c main_arg1) (iblk m c 0 t) b (ix2 p q) = drows W D (b.val * 512 + p.val) q.val := by
  unfold product
  pointwise
  simp only [rounded_at H, blk_w H]
  rfl

omit t in
theorem product_final : (Rows.dats (F := Ideal) m 0 c).arrAt 1 cfg0.N = (fun i => drows W D (i 0).val (i 1).val : Vec Ideal S4096x1024 .bf16) := by
  refine (Rows.dats m 0 c).arrAt_eq_of_covers 1 _ (by decide +kernel) fun t hf y => ?_
  blk_simp
  rw [after_1]
  obtain ⟨p, q, rfl⟩ : ∃ (p : Fin 512) (q : Fin 1024), y = (ix2 p q : S512x1024.Idx) := ⟨y 0, y 1, eq_ix2 y⟩
  refine (product_at H t _ p q).trans ?_
  rw [bk_val (lt_of_lt_of_eq t.isLt (show cfg0.N = 8 from N_0))]
  refine congrArg₂ (drows W D) ?_ ?_ <;> blk_simp [idx0 t]

omit t in
theorem rounded_final : (Rows.dats (F := Ideal) m 0 c).arrAt 2 cfg0.N = (fun i => D (i 0).val (i 1).val : Vec Ideal S4096x1024 .bf16) := by
  refine (Rows.dats m 0 c).arrAt_eq_of_covers 2 _ (by decide +kernel) fun t hf y => ?_
  blk_simp
  rw [after_2]
  obtain ⟨p, q, rfl⟩ : ∃ (p : Fin 512) (q : Fin 1024), y = (ix2 p q : S512x1024.Idx) := ⟨y 0, y 1, eq_ix2 y⟩
  refine (rounded_at H _ p q).trans ?_
  rw [bk_val (lt_of_lt_of_eq t.isLt (show cfg0.N = 8 from N_0))]
  refine congrArg₂ D ?_ ?_ <;> blk_simp [idx0 t]

end Cert.Kernel7Ideal.Value

namespace Cert.Reference7Ideal.Read

open Cert.Reference7Ideal Cert.Reference7Ideal.Gen Cert.Out

variable {x0 : (⟨S1024x1024, .f32⟩ : BufTy).Contents (Elt Ideal)} {x1 : (⟨S4096x1024, .f32⟩ : BufTy).Contents (Elt Ideal)}
variable {W D : ℕ → ℕ → EReal}

/-- The gradient of the rows. -/
theorem drows_at (h0 : ∀ i, x0 i = W (i 0).val (i 1).val) (h1 : ∀ i, x1 i = D (i 0).val (i 1).val) (i : S4096x1024.Idx) :
    val_main_v3 (F := Ideal) x0 x1 i = drows W D (i 0).val (i 1).val := by
  refine (show _ = val_main_v2 (F := Ideal) x0 x1 i from rfl).trans ?_
  rw [val_main_v2_apply]
  unfold drows
  exact Finset.sum_congr rfl fun p _ => by rw [h0, h1]

end Cert.Reference7Ideal.Read

namespace Cert.Out.Nt

open Cert.Mlp

/-- The plain gradient ends with its arguments as launched, and has no semaphore to leave set. -/
theorem reference_frame (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0) :=
  (θ_run _ _ _).mono (fun r h => ⟨fun c => (h c).2.2, sem_eq_zero_of_no_sems (by decide) r.2⟩) (Cert.Reference7Ideal.Value.run m g)

section
variable (m : (ℓ : Loc Cert.Kernel7Ideal.nD Cert.Kernel7Ideal.τ Cert.Kernel7Ideal.sig) → Buf (Elt Ideal) ℓ)

/-- The elements of the argument arrays on a device. -/
def argW (c : Dev Cert.Kernel7Ideal.nD) : ℕ → ℕ → EReal :=
  elem (n0 := 1024) (n1 := 1024) (m ((c.tc : Thread Cert.Kernel7Ideal.nD Cert.Kernel7Ideal.τ).loc Cert.Kernel7Ideal.main_arg0))
def argD (c : Dev Cert.Kernel7Ideal.nD) : ℕ → ℕ → EReal :=
  elem (n0 := 4096) (n1 := 1024) (m ((c.tc : Thread Cert.Kernel7Ideal.nD Cert.Kernel7Ideal.τ).loc Cert.Kernel7Ideal.main_arg1))

/-- The arguments are the arrays of those elements. -/
theorem args (c : Dev Cert.Kernel7Ideal.nD) : Cert.Kernel7Ideal.Value.Args m (argW m c) (argD m c) c where
  w := elem_at _
  d := elem_at _

end

/-- Both programs end with the gradient of the rows and, beside it, the gradient of the products rounded. -/
theorem equation : Cert.algebraic_Kernel7Ideal_Reference7Ideal (hKernel7Ideal := Cert.Kernel7Ideal.Gen.facts)
    (hReference7Ideal := Cert.Reference7Ideal.Gen.facts) := by
  intro m g m' g' _ ha
  have H := args m
  refine ⟨fun c => arr (drows (argW m c) (argD m c)), fun c => arr (argD m c), ?_, ?_⟩
  · refine (θ_run _ _ _).mono (fun r h c => ?_) (Cert.Kernel7Ideal.Rows.run m g)
    exact ⟨(h.1 c).1.trans (Cert.Kernel7Ideal.Value.product_final (H c)), (h.1 c).2.1.trans (Cert.Kernel7Ideal.Value.rounded_final (H c)), (h.1 c).2.2⟩
  · refine (θ_run _ _ _).mono (fun r h c => ?_) (Cert.Reference7Ideal.Value.run m' g')
    have e0 : ∀ i : Cert.Reference7Ideal.S1024x1024.Idx, m' ((c.tc : Thread Cert.Reference7Ideal.nD Cert.Reference7Ideal.τ).loc Cert.Reference7Ideal.main_arg0) i
        = argW m c (i 0).val (i 1).val := fun i => (congrFun (ha c).1 i).trans ((H c).w i)
    have e1 : ∀ i : Cert.Reference7Ideal.S4096x1024.Idx, m' ((c.tc : Thread Cert.Reference7Ideal.nD Cert.Reference7Ideal.τ).loc Cert.Reference7Ideal.main_arg1) i
        = argD m c (i 0).val (i 1).val := fun i => (congrFun (ha c).2 i).trans ((H c).d i)
    refine ⟨(h c).1.trans ?_, (h c).2.1.trans ?_, (h c).2.2⟩
    · exact (Cert.Reference7Ideal.Read.val_main_v3_eq _ _).trans (funext fun i => Cert.Reference7Ideal.Read.drows_at e0 e1 i)
    · exact (Cert.Reference7Ideal.Read.val_main_v4_eq _).trans (funext fun i => e1 i)

end Cert.Out.Nt

end
-- ==== Proof.Out.Res.lean ====
/- An output projection: the rows it multiplies and the rows it adds to each pass through a ring of three buffers of their own, copied in
   by the kernel itself three blocks ahead. Here: the two rings, and the names the step has for their slots and blocks. -/
module

public import proofs.«01_k».proof.Proof.Gen.Kernel8Ideal.Frame
public import proofs.«01_k».proof.Proof.Gen.Kernel8Ideal.Skeleton
public import proofs.«01_k».proof.Proof.Out.Ring

@[expose] public section

set_option maxRecDepth 16384

noncomputable section

namespace Cert.Kernel8Ideal.Rows

open Cert.Kernel8Ideal Cert.Kernel8Ideal.Gen Cert.Out
open Idealize.ShloMosaic Idealize.ShloMosaic.TcCoe Idealize.ShloMosaic.Tactic Idealize.ShloMosaic.Ring
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ (Pipeline.UD sig nD τ) ℕ

/-! ## The two rings -/

abbrev bufO : Memref sig .tc .vmem S3x512x1024 .bf16 := Memref.whole cc0_scratch0
abbrev bufX : Memref sig .tc .vmem S3x512x1024 .f32 := Memref.whole cc0_scratch1
abbrev rowsO : Memref sig .tc .hbm S4096x1024 .bf16 := Memref.whole main_arg0
abbrev rowsX : Memref sig .tc .hbm S4096x1024 .f32 := Memref.whole main_arg2

theorem cell_inb (k : Fin 2) (s : Fin 3) : ∀ a, (![k.val, s.val] : Fin 2 → Nat) a + S1x1.size a ≤ S2x3.size a := by
  have := k.isLt; have := s.isLt; intro a; fin_cases a <;> simp <;> omega

/-- The semaphore of slot `s` of ring `k`. -/
def cell (k : Fin 2) (s : Fin 3) : DmaSems sig S_ :=
  (cc0_scratch2.slice (Rect.unit (s := S2x3) ![k.val, s.val] S1x1.size (cell_inb k s))).squeeze S_ squeezes_S1x1_S_

section Held
variable (c : Dev nD) (O : Ring.Held (τ := τ) F c rowsO) (X : Ring.Held (τ := τ) F c rowsX)

abbrev idleO (s : Fin 3) : sProp 𝕄 := Ring.idle bufO rowsO (cell 0) c O s
abbrev idleX (s : Fin 3) : sProp 𝕄 := Ring.idle bufX rowsX (cell 1) c X s
abbrev busyO (s : Fin 3) (b : Fin 8) : sProp 𝕄 := Ring.busy bufO rowsO (cell 0) c O s b
abbrev busyX (s : Fin 3) (b : Fin 8) : sProp 𝕄 := Ring.busy bufX rowsX (cell 1) c X s b

/-- The same slot of both rings, idle -/
def idle (s : Fin 3) : sProp 𝕄 := iprop(idleO c O s ∗ idleX c X s)
/-- and with block `b` of each array on its way. -/
def busy (s : Fin 3) (b : Fin 8) : sProp 𝕄 := iprop(busyO c O s b ∗ busyX c X s b)

/-- The rings before step `t`. -/
abbrev ring (t : ℕ) : sProp 𝕄 := slots (idle c O X) (busy c O X) t

/-- What the launch hands over of one ring. -/
abbrev heldO : sProp 𝕄 :=
  iprop((∃ d, owns (c : Thread nD τ) bufO fullShare d) ∗ (Ring.semAt (cell 0) c 0 ∗ Ring.semAt (cell 0) c 1 ∗ Ring.semAt (cell 0) c 2)
    ∗ (rowsO.view.loc (c : Thread nD τ) ↦{fullShare} O))
abbrev heldX : sProp 𝕄 :=
  iprop((∃ d, owns (c : Thread nD τ) bufX fullShare d) ∗ (Ring.semAt (cell 1) c 0 ∗ Ring.semAt (cell 1) c 1 ∗ Ring.semAt (cell 1) c 2)
    ∗ (rowsX.view.loc (c : Thread nD τ) ↦{fullShare} X))

/-- What the launch hands over is the rings before the first step, -/
theorem ring_in : iprop(heldO c O ∗ heldX c X) ⊢ ring c O X 0 := by
  iintro ⟨HO, HX⟩
  iapply (slots_in (idle c O X) (busy c O X))
  ihave HO' := (Ring.idle_in bufO rowsO (cell 0) c O (Memref.isWhole_whole _)) $$ HO
  icases HO' with ⟨HO0, HO1, HO2⟩
  ihave HX' := (Ring.idle_in bufX rowsX (cell 1) c X (Memref.isWhole_whole _)) $$ HX
  icases HX' with ⟨HX0, HX1, HX2⟩
  unfold idle
  isplitl [HO0 HX0]
  · isplitl [HO0]; · iexact HO0
    iexact HX0
  isplitl [HO1 HX1]
  · isplitl [HO1]; · iexact HO1
    iexact HX1
  isplitl [HO2]; · iexact HO2
  iexact HX2

/-- and the rings after the last step give it back. -/
theorem ring_out : ring c O X 8 ⊢ iprop(heldO c O ∗ heldX c X) := by
  iintro H
  ihave H' := (slots_out (idle c O X) (busy c O X)) $$ H
  unfold idle
  icases H' with ⟨⟨HO0, HX0⟩, ⟨HO1, HX1⟩, ⟨HO2, HX2⟩⟩
  isplitl [HO0 HO1 HO2]
  · iapply (Ring.idle_out bufO rowsO (cell 0) c O (Memref.isWhole_whole _))
    isplitl [HO0]; · iexact HO0
    isplitl [HO1]; · iexact HO1
    iexact HO2
  iapply (Ring.idle_out bufX rowsX (cell 1) c X (Memref.isWhole_whole _))
  isplitl [HX0]; · iexact HX0
  isplitl [HX1]; · iexact HX1
  iexact HX2

end Held

/-! ## The step's own names for them -/

/-- The first step is the one that starts the first three blocks; -/
theorem starts : ∀ t : Fin grid0.N, k0_cond1 (grid0.coords t) = 1#1 ↔ t.val = 0 := by decide +kernel
/-- a step starts the block three on while there is one. -/
theorem continues : ∀ t : Fin grid0.N, k0_cond2 (grid0.coords t) = 1#1 ↔ t.val + 3 < 8 := by decide +kernel

instance : NeZero grid0.N := ⟨by rw [N_0]; decide⟩

section Names

theorem cell_named {o : Fin 2 → Nat} (k : Fin 2) (s : Fin 3) (e : o = ![k.val, s.val]) (h : ∀ a, o a + S1x1.size a ≤ S2x3.size a) :
    (cc0_scratch2.slice (Rect.unit (s := S2x3) o S1x1.size h)).squeeze S_ squeezes_S1x1_S_ = cell k s :=
  congrArg (fun A : DmaSems sig S1x1 => A.squeeze S_ squeezes_S1x1_S_) (SemArray.slice_unit_congr _ e _ _)
theorem slotO_named {o : Fin 3 → Nat} (s : Fin 3) (e : o = ![s.val, 0, 0]) (h : ∀ a, o a + S1x512x1024.size a ≤ S3x512x1024.size a) :
    (bufO.slice (Rect.unit (s := S3x512x1024) o S1x512x1024.size h) (fun _ => rfl)).squeeze S512x1024 squeezes_S1x512x1024_S512x1024
      = Ring.slot bufO s := Ring.slot_named bufO s e h
theorem slotX_named {o : Fin 3 → Nat} (s : Fin 3) (e : o = ![s.val, 0, 0]) (h : ∀ a, o a + S1x512x1024.size a ≤ S3x512x1024.size a) :
    (bufX.slice (Rect.unit (s := S3x512x1024) o S1x512x1024.size h) (fun _ => rfl)).squeeze S512x1024 squeezes_S1x512x1024_S512x1024
      = Ring.slot bufX s := Ring.slot_named bufX s e h
theorem rowsO_named {o : Fin 2 → Nat} (b : Fin 8) (e : o = ![512 * b.val, 0]) (h : ∀ a, o a + S512x1024.size a ≤ S4096x1024.size a) :
    rowsO.slice (Rect.unit (s := S4096x1024) o S512x1024.size h) (fun _ => rfl) = Ring.rows rowsO b := Ring.rows_named rowsO b e h
theorem rowsX_named {o : Fin 2 → Nat} (b : Fin 8) (e : o = ![512 * b.val, 0]) (h : ∀ a, o a + S512x1024.size a ≤ S4096x1024.size a) :
    rowsX.slice (Rect.unit (s := S4096x1024) o S512x1024.size h) (fun _ => rfl) = Ring.rows rowsX b := Ring.rows_named rowsX b e h

set_option synthInstance.maxSize 4096

theorem off1 : ∀ t : Fin grid0.N, k0_off1 (grid0.coords t) = ![(0 : Fin 2).val, (sl 3 t.val).val] := by decide +kernel
theorem off2 : ∀ t : Fin grid0.N, k0_off2 (grid0.coords t) = ![(sl 3 t.val).val, 0, 0] := by decide +kernel
theorem off3 : ∀ t : Fin grid0.N, k0_off3 (grid0.coords t) = ![512 * (bk 8 t.val).val, 0] := by decide +kernel
theorem off4 : ∀ t : Fin grid0.N, k0_off4 (grid0.coords t) = ![(1 : Fin 2).val, (sl 3 t.val).val] := by decide +kernel
theorem off5 : ∀ t : Fin grid0.N, k0_off5 (grid0.coords t) = ![(sl 3 t.val).val, 0, 0] := by decide +kernel
theorem off6 : ∀ t : Fin grid0.N, k0_off6 (grid0.coords t) = ![(0 : Fin 2).val, (sl 3 t.val).val] := by decide +kernel
theorem off7 : ∀ t : Fin grid0.N, k0_off7 (grid0.coords t) = ![(sl 3 t.val).val, 0, 0] := by decide +kernel
theorem off8 : ∀ t : Fin grid0.N, k0_cond2 (grid0.coords t) = 1#1 → k0_off8 (grid0.coords t) = ![512 * (bk 8 (t.val + 3)).val, 0] := by decide +kernel
theorem off9 : ∀ t : Fin grid0.N, k0_off9 (grid0.coords t) = ![(1 : Fin 2).val, (sl 3 t.val).val] := by decide +kernel

@[sl_canon] theorem wait_cellO (t : Fin grid0.N) :
    (cc0_scratch2.slice (Rect.unit (s := S2x3) (k0_off1 (grid0.coords t)) S1x1.size (k0_off1_inb (grid0.coords t)))).squeeze S_ squeezes_S1x1_S_
      = cell 0 (sl 3 t.val) := cell_named _ _ (off1 t) _
@[sl_canon] theorem wait_cellX (t : Fin grid0.N) :
    (cc0_scratch2.slice (Rect.unit (s := S2x3) (k0_off4 (grid0.coords t)) S1x1.size (k0_off4_inb (grid0.coords t)))).squeeze S_ squeezes_S1x1_S_
      = cell 1 (sl 3 t.val) := cell_named _ _ (off4 t) _
@[sl_canon] theorem wait_slotO (t : Fin grid0.N) :
    (bufO.slice (Rect.unit (s := S3x512x1024) (k0_off2 (grid0.coords t)) S1x512x1024.size (k0_off2_inb (grid0.coords t))) (fun _ => rfl)).squeeze
      S512x1024 squeezes_S1x512x1024_S512x1024 = Ring.slot bufO (sl 3 t.val) := slotO_named _ (off2 t) _
@[sl_canon] theorem wait_slotX (t : Fin grid0.N) :
    (bufX.slice (Rect.unit (s := S3x512x1024) (k0_off2 (grid0.coords t)) S1x512x1024.size (k0_off2_inb (grid0.coords t))) (fun _ => rfl)).squeeze
      S512x1024 squeezes_S1x512x1024_S512x1024 = Ring.slot bufX (sl 3 t.val) := slotX_named _ (off2 t) _
@[sl_canon] theorem wait_rowsO (t : Fin grid0.N) :
    rowsO.slice (Rect.unit (s := S4096x1024) (k0_off3 (grid0.coords t)) S512x1024.size (k0_off3_inb (grid0.coords t))) (fun _ => rfl)
      = Ring.rows rowsO (bk 8 t.val) := rowsO_named _ (off3 t) _
@[sl_canon] theorem wait_rowsX (t : Fin grid0.N) :
    rowsX.slice (Rect.unit (s := S4096x1024) (k0_off3 (grid0.coords t)) S512x1024.size (k0_off3_inb (grid0.coords t))) (fun _ => rfl)
      = Ring.rows rowsX (bk 8 t.val) := rowsX_named _ (off3 t) _

instance (priority := high) (t : Fin grid0.N) : ClosedOff (k0_off5 (grid0.coords t)) := ⟨![(sl 3 t.val).val, 0, 0], off5 t⟩

end Names

end Cert.Kernel8Ideal.Rows

end
-- ==== Proof.Out.ResSteps.lean ====
/- The steps of an output projection: the first, the ones that start another block, the last three. -/
module

public import proofs.«01_k».proof.Proof.Out.Res
public import Idealize.ShloMosaic.Lib.VecWindow

@[expose] public section

set_option maxRecDepth 16384

noncomputable section

namespace Cert.Kernel8Ideal.Rows

open Cert.Kernel8Ideal Cert.Kernel8Ideal.Gen Cert.Out
open Idealize.ShloMosaic Idealize.ShloMosaic.TcCoe Idealize.ShloMosaic.Tactic Idealize.ShloMosaic.Ring
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (t : Fin cfg0.N) (O : Ring.Held (τ := τ) F c rowsO) (X : Ring.Held (τ := τ) F c rowsX) (w : Vec F S1024x1024 .bf16)
  (arg2 : Memref sig .tc .vmem S1024x1024 .bf16) (harg2 : arg2.IsWhole) (arg4 : Memref sig .tc .vmem S512x1024 .f32) (harg4 : arg4.IsWhole)

/-- The body at step `t`. -/
abbrev body : Prog (TpuEff nD τ sig (Elt F) Λ₀ .tc) PUnit :=
  cc0_at_out (grid0.coords t) rowsO (Memref.isWhole_whole _) arg2 harg2 rowsX (Memref.isWhole_whole _) arg4 harg4 bufO
    (Memref.isWhole_whole _) bufX (Memref.isWhole_whole _) cc0_scratch2

/-- Block `b` of the rows added to, plus block `b` of the rows multiplied by the weights. -/
def result (b : Fin 8) : FVec F S512x1024 .f32 :=
  addf ((Ring.rows rowsX b).view.read (Elt F) X : FVec F S512x1024 .f32)
    (matmul dot_S512x1024_S1024x1024_S512x1024_1_0_0_1_n_n none ((Ring.rows rowsO b).view.read (Elt F) O : FVec F S512x1024 .bf16)
      (shapeCast S1024x1024 w shapeCasts_S1024x1024_S1024x1024) (constant S512x1024 .f32 0x00000000#32))

/-- What the step stores, of the slots' blocks, is that. -/
theorem stored (fO : Ring.Held (τ := τ) F c (Ring.slot bufO (sl 3 t.val))) (fX : Ring.Held (τ := τ) F c (Ring.slot bufX (sl 3 t.val))) :
    k0_pay1
      (k0_pay2 (View.readAt (Elt F) bufX.view (Rect.unit (s := S3x512x1024) (k0_off5 (grid0.coords t)) S1x512x1024.size
        (k0_off5_inb (grid0.coords t))).toLoadRect (Ring.filled bufX rowsX c X (sl 3 t.val) (bk 8 t.val) fX)))
      (k0_pay3 (View.readAt (Elt F) bufO.view (Rect.unit (s := S3x512x1024) (k0_off5 (grid0.coords t)) S1x512x1024.size
        (k0_off5_inb (grid0.coords t))).toLoadRect (Ring.filled bufO rowsO c O (sl 3 t.val) (bk 8 t.val) fO)))
      (k0_pay4 (View.readAt (Elt F) arg2.view (Rect.unit (s := S1024x1024) ![0, 0] S1024x1024.size inb_S1024x1024_S1024x1024_0_0).toLoadRect (harg2.unread w)))
      = result c O X w (bk 8 t.val) := by
  rw [View.readAt_full, harg2.read_unread]
  exact congrArg₂ (fun (x : FVec F S512x1024 .f32) (o : FVec F S512x1024 .bf16) =>
      addf x (matmul dot_S512x1024_S1024x1024_S512x1024_1_0_0_1_n_n none o
        (shapeCast S1024x1024 w shapeCasts_S1024x1024_S1024x1024) (constant S512x1024 .f32 0x00000000#32)))
    (Ring.load_block bufX rowsX c X _ (off5 t) _ _ _ fX) (Ring.load_block bufO rowsO c O _ (off5 t) _ _ _ fO)

set_option maxHeartbeats 1000000 in
theorem last_step (h1 : ¬k0_cond1 (grid0.coords t) = 1#1) (h2 : ¬k0_cond2 (grid0.coords t) = 1#1) (W : Waits sig Unit) (K : PUnit → sProp 𝕄) :
    iprop(owns (c : Thread nD τ) arg2 fullShare w ∗ (∃ d, owns (c : Thread nD τ) arg4 fullShare d)
        ∗ busy c O X (sl 3 t.val) (bk 8 t.val) ∗ owes (c : Thread nD τ) 0 W
        ∗ (iprop(owns (c : Thread nD τ) arg2 fullShare w ∗ owns (c : Thread nD τ) arg4 fullShare (result c O X w (bk 8 t.val))
            ∗ idle c O X (sl 3 t.val) ∗ (∃ W', owes (c : Thread nD τ) 0 W')) -∗ K ⟨⟩))
      ⊢ wp frame (wpE (defs₀ (F := F)) Variants.none c none) Set.univ (body t arg2 harg2 arg4 harg4) K := by
  haveI : Fact (¬k0_cond1 (grid0.coords t) = 1#1) := ⟨h1⟩
  haveI : Fact (¬k0_cond2 (grid0.coords t) = 1#1) := ⟨h2⟩
  unfold body
  simp only [cc0_at_out_eq_skeleton]; unfold cc0_at_out_skel
  simp only [k0_part2_eq_skeleton]
  unfold owns busy idle busyO busyX idleO idleX Ring.busy Ring.idle
  iintro ⟨⟨%f0, %hf0, H0⟩, ⟨%d1, %f1, -, H1⟩, ⟨⟨⟨%fO, HO⟩, HOr⟩, ⟨⟨%fX, HX⟩, HXr⟩⟩, HW, Hk⟩
  obtain rfl := harg2.eq_unread hf0
  sl_exec (disch := first | sl_exact h1 | sl_exact h2)
  sl_step
  iapply Hk
  isplitl [H0]
  · iexists _; isplitr; · ipureintro; exact harg2.read_unread _
    iexact H0
  isplitl [H1]
  · iexists _; isplitr
    swap; · iexact H1
    ipureintro; exact (View.read_writes_full _ _ _ _ _).trans (stored c t O X w arg2 harg2 _ _)
  isplitl [HO HO_dst HO_src HOr HX HX_dst HX_src HXr]
  · isplitl [HO HO_dst HO_src HOr]
    · isplitl [HO]; · iexact HO
      isplitl [HO_dst]; · iexists _; iexact HO_dst
      iapply (Ring.lend rowsO c O (sl 3 t.val) (bk 8 t.val)).2; isplitl [HO_src]; · iexact HO_src
      iexact HOr
    isplitl [HX]; · iexact HX
    isplitl [HX_dst]; · iexists _; iexact HX_dst
    iapply (Ring.lend rowsX c X (sl 3 t.val) (bk 8 t.val)).2; isplitl [HX_src]; · iexact HX_src
    iexact HXr
  iexists _; iexact HW

set_option maxHeartbeats 1000000 in
theorem next_step (h1 : ¬k0_cond1 (grid0.coords t) = 1#1) (h2 : k0_cond2 (grid0.coords t) = 1#1) (W : Waits sig Unit) (K : PUnit → sProp 𝕄) :
    iprop(owns (c : Thread nD τ) arg2 fullShare w ∗ (∃ d, owns (c : Thread nD τ) arg4 fullShare d)
        ∗ busy c O X (sl 3 t.val) (bk 8 t.val) ∗ owes (c : Thread nD τ) 0 W
        ∗ (iprop(owns (c : Thread nD τ) arg2 fullShare w ∗ owns (c : Thread nD τ) arg4 fullShare (result c O X w (bk 8 t.val))
            ∗ busy c O X (sl 3 t.val) (bk 8 (t.val + 3)) ∗ (∃ W', owes (c : Thread nD τ) 0 W')) -∗ K ⟨⟩))
      ⊢ wp frame (wpE (defs₀ (F := F)) Variants.none c none) Set.univ (body t arg2 harg2 arg4 harg4) K := by
  haveI : Fact (¬k0_cond1 (grid0.coords t) = 1#1) := ⟨h1⟩
  haveI : Fact (k0_cond2 (grid0.coords t) = 1#1) := ⟨h2⟩
  have hne : bk 8 t.val ≠ bk 8 (t.val + 3) := bk_three ((continues t).mp h2)
  unfold body
  simp only [cc0_at_out_eq_skeleton]; unfold cc0_at_out_skel
  simp only [k0_part2_eq_skeleton]
  unfold owns busy busyO busyX Ring.busy
  iintro ⟨⟨%f0, %hf0, H0⟩, ⟨%d1, %f1, -, H1⟩, ⟨⟨⟨%fO, HO⟩, HOr⟩, ⟨⟨%fX, HX⟩, HXr⟩⟩, HW, Hk⟩
  ihave HOs := (Ring.lend_more rowsO c O (sl 3 t.val) (bk 8 t.val) (bk 8 (t.val + 3)) hne).1 $$ HOr
  icases HOs with ⟨HOn, HOo⟩
  ihave HXs := (Ring.lend_more rowsX c X (sl 3 t.val) (bk 8 t.val) (bk 8 (t.val + 3)) hne).1 $$ HXr
  icases HXs with ⟨HXn, HXo⟩
  obtain rfl := harg2.eq_unread hf0
  have hcanon1 := cell_named 0 (sl 3 t.val) (off6 t) (k0_off6_inb _ h2)
  have hcanon2 := cell_named 1 (sl 3 t.val) (off9 t) (k0_off9_inb _ h2)
  have hcanon3 := slotO_named (sl 3 t.val) (off7 t) (k0_off7_inb _ h2)
  have hcanon4 := slotX_named (sl 3 t.val) (off7 t) (k0_off7_inb _ h2)
  have hcanon5 := rowsO_named (bk 8 (t.val + 3)) (off8 t h2) (k0_off8_inb _ h2)
  have hcanon6 := rowsX_named (bk 8 (t.val + 3)) (off8 t h2) (k0_off8_inb _ h2)
  sl_exec (disch := first | sl_exact h1 | sl_exact h2)
  sl_step
  iapply Hk
  isplitl [H0]
  · iexists _; isplitr; · ipureintro; exact harg2.read_unread _
    iexact H0
  isplitl [H1]
  · iexists _; isplitr
    swap; · iexact H1
    ipureintro; exact (View.read_writes_full _ _ _ _ _).trans (stored c t O X w arg2 harg2 _ _)
  isplitl [HO HO_src HOo HX HX_src HXo]
  · isplitl [HO HO_src HOo]
    · isplitl [HO]; · iexists _; iexact HO
      iapply (Ring.lend_other rowsO c O (sl 3 t.val) (bk 8 t.val) (bk 8 (t.val + 3)) hne); isplitl [HO_src]; · iexact HO_src
      iexact HOo
    isplitl [HX]; · iexists _; iexact HX
    iapply (Ring.lend_other rowsX c X (sl 3 t.val) (bk 8 t.val) (bk 8 (t.val + 3)) hne); isplitl [HX_src]; · iexact HX_src
    iexact HXo
  iexists _; iexact HW

set_option maxHeartbeats 2000000 in
theorem first_step (h1 : k0_cond1 (grid0.coords t) = 1#1) (h2 : k0_cond2 (grid0.coords t) = 1#1) (W : Waits sig Unit) (K : PUnit → sProp 𝕄) :
    iprop(owns (c : Thread nD τ) arg2 fullShare w ∗ (∃ d, owns (c : Thread nD τ) arg4 fullShare d)
        ∗ idle c O X (sl 3 t.val) ∗ idle c O X (sl 3 (t.val + 1)) ∗ idle c O X (sl 3 (t.val + 2)) ∗ owes (c : Thread nD τ) 0 W
        ∗ (iprop(owns (c : Thread nD τ) arg2 fullShare w ∗ owns (c : Thread nD τ) arg4 fullShare (result c O X w (bk 8 t.val))
            ∗ busy c O X (sl 3 (t.val + 1)) (bk 8 (t.val + 1)) ∗ busy c O X (sl 3 (t.val + 2)) (bk 8 (t.val + 2))
            ∗ busy c O X (sl 3 t.val) (bk 8 (t.val + 3)) ∗ (∃ W', owes (c : Thread nD τ) 0 W')) -∗ K ⟨⟩))
      ⊢ wp frame (wpE (defs₀ (F := F)) Variants.none c none) Set.univ (body t arg2 harg2 arg4 harg4) K := by
  haveI : Fact (k0_cond1 (grid0.coords t) = 1#1) := ⟨h1⟩
  haveI : Fact (k0_cond2 (grid0.coords t) = 1#1) := ⟨h2⟩
  have h0 : t.val = 0 := (starts t).mp h1
  have hne : bk 8 t.val ≠ bk 8 (t.val + 3) := bk_three ((continues t).mp h2)
  unfold body
  simp only [cc0_at_out_eq_skeleton]; unfold cc0_at_out_skel
  simp only [k0_part2_eq_skeleton, k0_part1_eq_skeleton]
  unfold owns busy idle busyO busyX idleO idleX Ring.busy Ring.idle
  iintro ⟨⟨%f0, %hf0, H0⟩, ⟨%d1, %f1, -, H1⟩, ⟨⟨HO, ⟨%gO, HOs⟩, HOw⟩, ⟨HX, ⟨%gX, HXs⟩, HXw⟩⟩, ⟨⟨HO', ⟨%gO', HOs'⟩, HOw'⟩, ⟨HX', ⟨%gX', HXs'⟩, HXw'⟩⟩, ⟨⟨HO'', ⟨%gO'', HOs''⟩, HOw''⟩, ⟨HX'', ⟨%gX'', HXs''⟩, HXw''⟩⟩, HW, Hk⟩
  ihave HOl := (Ring.lend rowsO c O (sl 3 t.val) (bk 8 t.val)).1 $$ HOw
  icases HOl with ⟨HOl, HOr⟩
  ihave HXl := (Ring.lend rowsX c X (sl 3 t.val) (bk 8 t.val)).1 $$ HXw
  icases HXl with ⟨HXl, HXr⟩
  ihave HOl' := (Ring.lend rowsO c O (sl 3 (t.val + 1)) (bk 8 (t.val + 1))).1 $$ HOw'
  icases HOl' with ⟨HOl', HOr'⟩
  ihave HXl' := (Ring.lend rowsX c X (sl 3 (t.val + 1)) (bk 8 (t.val + 1))).1 $$ HXw'
  icases HXl' with ⟨HXl', HXr'⟩
  ihave HOl'' := (Ring.lend rowsO c O (sl 3 (t.val + 2)) (bk 8 (t.val + 2))).1 $$ HOw''
  icases HOl'' with ⟨HOl'', HOr''⟩
  ihave HXl'' := (Ring.lend rowsX c X (sl 3 (t.val + 2)) (bk 8 (t.val + 2))).1 $$ HXw''
  icases HXl'' with ⟨HXl'', HXr''⟩
  ihave HOm := (Ring.lend_more rowsO c O (sl 3 t.val) (bk 8 t.val) (bk 8 (t.val + 3)) hne).1 $$ HOr
  icases HOm with ⟨HOn, HOo⟩
  ihave HXm := (Ring.lend_more rowsX c X (sl 3 t.val) (bk 8 t.val) (bk 8 (t.val + 3)) hne).1 $$ HXr
  icases HXm with ⟨HXn, HXo⟩
  obtain rfl := harg2.eq_unread hf0
  have hcanona0 := cell_named (o := ![0, 0]) 0 (sl 3 t.val) (by rw [h0]; rfl) inb_S2x3_S1x1_0_0
  have hcanona1 := cell_named (o := ![0, 1]) 0 (sl 3 (t.val + 1)) (by rw [h0]; rfl) inb_S2x3_S1x1_0_1
  have hcanona2 := cell_named (o := ![0, 2]) 0 (sl 3 (t.val + 2)) (by rw [h0]; rfl) inb_S2x3_S1x1_0_2
  have hcanonb0 := cell_named (o := ![1, 0]) 1 (sl 3 t.val) (by rw [h0]; rfl) inb_S2x3_S1x1_1_0
  have hcanonb1 := cell_named (o := ![1, 1]) 1 (sl 3 (t.val + 1)) (by rw [h0]; rfl) inb_S2x3_S1x1_1_1
  have hcanonb2 := cell_named (o := ![1, 2]) 1 (sl 3 (t.val + 2)) (by rw [h0]; rfl) inb_S2x3_S1x1_1_2
  have hcanons0 := slotO_named (o := ![0, 0, 0]) (sl 3 t.val) (by rw [h0]; rfl) inb_S3x512x1024_S1x512x1024_0_0_0
  have hcanons1 := slotO_named (o := ![1, 0, 0]) (sl 3 (t.val + 1)) (by rw [h0]; rfl) inb_S3x512x1024_S1x512x1024_1_0_0
  have hcanons2 := slotO_named (o := ![2, 0, 0]) (sl 3 (t.val + 2)) (by rw [h0]; rfl) inb_S3x512x1024_S1x512x1024_2_0_0
  have hcanonu0 := slotX_named (o := ![0, 0, 0]) (sl 3 t.val) (by rw [h0]; rfl) inb_S3x512x1024_S1x512x1024_0_0_0
  have hcanonu1 := slotX_named (o := ![1, 0, 0]) (sl 3 (t.val + 1)) (by rw [h0]; rfl) inb_S3x512x1024_S1x512x1024_1_0_0
  have hcanonu2 := slotX_named (o := ![2, 0, 0]) (sl 3 (t.val + 2)) (by rw [h0]; rfl) inb_S3x512x1024_S1x512x1024_2_0_0
  have hcanonr0 := rowsO_named (o := ![0, 0]) (bk 8 t.val) (by rw [h0]; rfl) inb_S4096x1024_S512x1024_0_0
  have hcanonr1 := rowsO_named (o := ![512, 0]) (bk 8 (t.val + 1)) (by rw [h0]; rfl) inb_S4096x1024_S512x1024_512_0
  have hcanonr2 := rowsO_named (o := ![1024, 0]) (bk 8 (t.val + 2)) (by rw [h0]; rfl) inb_S4096x1024_S512x1024_1024_0
  have hcanonx0 := rowsX_named (o := ![0, 0]) (bk 8 t.val) (by rw [h0]; rfl) inb_S4096x1024_S512x1024_0_0
  have hcanonx1 := rowsX_named (o := ![512, 0]) (bk 8 (t.val + 1)) (by rw [h0]; rfl) inb_S4096x1024_S512x1024_512_0
  have hcanonx2 := rowsX_named (o := ![1024, 0]) (bk 8 (t.val + 2)) (by rw [h0]; rfl) inb_S4096x1024_S512x1024_1024_0
  have hcanon1 := cell_named 0 (sl 3 t.val) (off6 t) (k0_off6_inb _ h2)
  have hcanon2 := cell_named 1 (sl 3 t.val) (off9 t) (k0_off9_inb _ h2)
  have hcanon3 := slotO_named (sl 3 t.val) (off7 t) (k0_off7_inb _ h2)
  have hcanon4 := slotX_named (sl 3 t.val) (off7 t) (k0_off7_inb _ h2)
  have hcanon5 := rowsO_named (bk 8 (t.val + 3)) (off8 t h2) (k0_off8_inb _ h2)
  have hcanon6 := rowsX_named (bk 8 (t.val + 3)) (off8 t h2) (k0_off8_inb _ h2)
  sl_exec (disch := first | sl_exact h1 | sl_exact h2)
  sl_step
  iapply Hk
  isplitl [H0]
  · iexists _; isplitr; · ipureintro; exact harg2.read_unread _
    iexact H0
  isplitl [H1]
  · iexists _; isplitr
    swap; · iexact H1
    ipureintro; exact (View.read_writes_full _ _ _ _ _).trans (stored c t O X w arg2 harg2 _ _)
  isplitl [HO' HOr' HX' HXr']
  · isplitl [HO' HOr']
    · isplitl [HO']; · iexists _; iexact HO'
      iexact HOr'
    isplitl [HX']; · iexists _; iexact HX'
    iexact HXr'
  isplitl [HO'' HOr'' HX'' HXr'']
  · isplitl [HO'' HOr'']
    · isplitl [HO'']; · iexists _; iexact HO''
      iexact HOr''
    isplitl [HX'']; · iexists _; iexact HX''
    iexact HXr''
  isplitl [HO HOl HOo HX HXl HXo]
  · isplitl [HO HOl HOo]
    · isplitl [HO]; · iexists _; iexact HO
      iapply (Ring.lend_other rowsO c O (sl 3 t.val) (bk 8 t.val) (bk 8 (t.val + 3)) hne); isplitl [HOl]; · iexact HOl
      iexact HOo
    isplitl [HX]; · iexists _; iexact HX
    iapply (Ring.lend_other rowsX c X (sl 3 t.val) (bk 8 t.val) (bk 8 (t.val + 3)) hne); isplitl [HXl]; · iexact HXl
    iexact HXo
  iexists _; iexact HW

end Cert.Kernel8Ideal.Rows

end
-- ==== Proof.Out.ResFrame.lean ====
/- The run of the call: what the pipeline keeps from step to step, the body at any step, the launch, and the frame, printed and over the
   reals. -/
module

public import proofs.«01_k».proof.Proof.Out.ResSteps
public import proofs.«01_k».proof.Proof.Gen.Kernel8.Frame
public import Idealize.ShloMosaic.Lib.Claim

@[expose] public section

set_option maxRecDepth 16384

noncomputable section

namespace Cert.Kernel8Ideal.Rows

open Cert.Kernel8Ideal Cert.Kernel8Ideal.Gen Cert.Out
open Idealize.ShloMosaic Idealize.ShloMosaic.TcCoe Idealize.ShloMosaic.Tactic Idealize.ShloMosaic.Ring
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

/-! ## What the launch hands over -/

/-- The semaphores of the slots of both rings, -/
abbrev cells : Fin 6 → SemLoc sig := fun j =>
  (![SemLoc.dma 3, SemLoc.dma 4, SemLoc.dma 5, SemLoc.dma 6, SemLoc.dma 7, SemLoc.dma 8] : Fin 6 → SemLoc sig) j
theorem cells_own : Pipeline.OwnSemFacts spec0 cells := by decide
/-- and the arrays the body reads by itself. -/
abbrev left : Finset (Ref sig .tc) := {main_arg0, main_arg2}
theorem left_sub : left ⊆ Pipeline.restRefs sig spec0 := by decide

variable (m : (ℓ : Loc nD τ sig) → Buf (Elt F) ℓ) (ρ : Dev nD → PrngReg) (c : Dev nD)

theorem cells_at : (Pipeline.ownSems0 (Ix := Unit) (Name := ℕ) (U := Pipeline.UD sig nD τ) (Lvl := ℕ) (Val := Elt F) (τ := τ) cells c : sProp 𝕄)
    = iprop(Ring.semAt (cell 0) c 0 ∗ Ring.semAt (cell 0) c 1 ∗ Ring.semAt (cell 0) c 2
        ∗ Ring.semAt (cell 1) c 0 ∗ Ring.semAt (cell 1) c 1 ∗ Ring.semAt (cell 1) c 2) := by
  rw [Pipeline.ownSems0_eq_of_list c cells [0, 1, 2, 3, 4, 5] (by decide) (by decide)]
  unfold Ring.semAt
  rw [show Ring.sem (cell 0) 0 = SemLoc.dma 3 by decide, show Ring.sem (cell 0) 1 = SemLoc.dma 4 by decide,
    show Ring.sem (cell 0) 2 = SemLoc.dma 5 by decide, show Ring.sem (cell 1) 0 = SemLoc.dma 6 by decide,
    show Ring.sem (cell 1) 1 = SemLoc.dma 7 by decide, show Ring.sem (cell 1) 2 = SemLoc.dma 8 by decide]
  rfl

theorem handed : (Pipeline.ΦD cells spec0 left (V m) c : sProp 𝕄)
    = iprop(((∃ d, owns (c : Thread nD τ) bufO fullShare d) ∗ (∃ d, owns (c : Thread nD τ) bufX fullShare d)) ∗ (∃ r, prngReg c r)
        ∗ (Ring.semAt (cell 0) c 0 ∗ Ring.semAt (cell 0) c 1 ∗ Ring.semAt (cell 0) c 2
          ∗ Ring.semAt (cell 1) c 0 ∗ Ring.semAt (cell 1) c 1 ∗ Ring.semAt (cell 1) c 2)
        ∗ (rowsO.view.loc (c : Thread nD τ) ↦{fullShare} V m c main_arg0) ∗ (rowsX.view.loc (c : Thread nD τ) ↦{fullShare} V m c main_arg2)) := by
  rw [Pipeline.ΦD_eq, scopedRest0_eq, cells_at,
    show (bigSep left fun b => (((c : Thread nD τ).loc b) ↦{fullShare} V m c b : sProp 𝕄))
        = iprop((((c : Thread nD τ).loc main_arg0) ↦{fullShare} V m c main_arg0) ∗ (((c : Thread nD τ).loc main_arg2) ↦{fullShare} V m c main_arg2)) by
      rw [BI.bigSep_eq_bigSepL_of_eq [main_arg0, main_arg2] (by decide) (by decide)]; rfl]
  simp only [bufO, bufX, owns_whole]; rfl

/-! ## The body at any step -/

/-- The register and the rings, before step `k`. -/
def kept (k : ℕ) : sProp 𝕄 := iprop((∃ r, prngReg c r) ∗ ring c (V m c main_arg0) (V m c main_arg2) k)

/-- What each window holds after the body at step `t`: the weights, block `t` of the result. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => result c (V m c main_arg0) (V m c main_arg2) (iblk m c 0 t) (bk 8 t.val)
  Φ t := kept m c t.val
  q _ := fullShare
  owed _ := 0

theorem A_eq (c : Dev nD) (w : Fin cfg0.W) : (dats m 0 c).A w = V m c (Pipeline.arrRef spec0 w) := by dsimp only [dats]
theorem after_0 (t : Fin cfg0.N) : (dats m 0 c).after 0 t = iblk m c 0 t := by dsimp only [dats]
theorem after_1 (t : Fin cfg0.N) : (dats m 0 c).after 1 t = result c (V m c main_arg0) (V m c main_arg2) (iblk m c 0 t) (bk 8 t.val) := by dsimp only [dats]
theorem kept_here (t : Fin cfg0.N) : (dats m 0 c).Φ t.castSucc = kept m c t.val := by dsimp only [dats]; simp only [Fin.val_castSucc]
theorem kept_next (t : Fin cfg0.N) : (dats m 0 c).Φ t.succ = kept m c (t.val + 1) := by dsimp only [dats]; simp only [Fin.val_succ]

/-- The weights' buffer holds the weights at every step. -/
theorem before_0 (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

abbrev st0 (t : Fin cfg0.N) : Memref sig .tc .vmem S1024x1024 .bf16 := win0_0.stage (cfg0.slots t 0)
abbrev st1 (t : Fin cfg0.N) : Memref sig .tc .vmem S512x1024 .f32 := win0_1.stage (cfg0.slots t 1)

/-- What the body is called with, -/
def called (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d)))
/-- and what it gives back. -/
def given (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t))

set_option maxHeartbeats 1000000 in
theorem step (t : Fin cfg0.N) :
    called m c t ⊢ wp frame (wpE (defs₀ (F := F)) Variants.none c none) Set.univ (bodyAt0 t) (fun _ => given m c t) := by
  unfold called given bodyAt0
  simp only [before_0]
  rw [after_0, after_1, kept_here, kept_next]
  unfold Dat.owesAt Pipeline.owesWithin
  rw [show (dats m 0 c).owed t.castSucc = 0 from rfl, show (dats m 0 c).owed t.succ = 0 from rfl]
  unfold kept ring
  have hN : t.val < 8 := lt_of_lt_of_eq t.isLt (show cfg0.N = 8 from N_0)
  by_cases h0 : t.val = 0
  · have h3 : t.val + 3 < 8 := by omega
    rw [slots_first _ _ h0, slots_more _ _ h3, role_busy _ _ (show t.val + 1 < 8 by omega), role_busy _ _ (show t.val + 2 < 8 by omega)]
    iintro ⟨⟨Hg, Ha, Hb, Hc⟩, ⟨%W, -, HW⟩, ⟨%d0, H0⟩, ⟨%d1, H1⟩⟩
    iapply (first_step c t (V m c main_arg0) (V m c main_arg2) (iblk m c 0 t) (st0 t) _ (st1 t) _ ((starts t).mpr h0) ((continues t).mpr h3) W _)
    isplitl [H0]; · iexact H0
    isplitl [H1]; · iexists _; iexact H1
    isplitl [Ha]; · iexact Ha
    isplitl [Hb]; · iexact Hb
    isplitl [Hc]; · iexact Hc
    isplitl [HW]; · iexact HW
    iintro ⟨H0, H1, Hb, Hc, Ha, ⟨%W', HW'⟩⟩
    isplitl [Hg Ha Hb Hc]
    · isplitl [Hg]; · iexact Hg
      isplitl [Hb]; · iexact Hb
      isplitl [Hc]; · iexact Hc
      iexact Ha
    isplitl [HW']
    · iexists W'; isplitr; · ipureintro; exact fun _ _ => Or.inl trivial
      iexact HW'
    isplitl [H0]; · iexact H0
    iexact H1
  · by_cases h3 : t.val + 3 < 8
    · rw [slots_here _ _ h0 hN, slots_more _ _ h3]
      iintro ⟨⟨Hg, Ha, Hb, Hc⟩, ⟨%W, -, HW⟩, ⟨%d0, H0⟩, ⟨%d1, H1⟩⟩
      iapply (next_step c t (V m c main_arg0) (V m c main_arg2) (iblk m c 0 t) (st0 t) _ (st1 t) _ (fun h => h0 ((starts t).mp h)) ((continues t).mpr h3) W _)
      isplitl [H0]; · iexact H0
      isplitl [H1]; · iexists _; iexact H1
      isplitl [Ha]; · iexact Ha
      isplitl [HW]; · iexact HW
      iintro ⟨H0, H1, Ha, ⟨%W', HW'⟩⟩
      isplitl [Hg Ha Hb Hc]
      · isplitl [Hg]; · iexact Hg
        isplitl [Hb]; · iexact Hb
        isplitl [Hc]; · iexact Hc
        iexact Ha
      isplitl [HW']
      · iexists W'; isplitr; · ipureintro; exact fun _ _ => Or.inl trivial
        iexact HW'
      isplitl [H0]; · iexact H0
      iexact H1
    · rw [slots_here _ _ h0 hN, slots_less _ _ h3]
      iintro ⟨⟨Hg, Ha, Hb, Hc⟩, ⟨%W, -, HW⟩, ⟨%d0, H0⟩, ⟨%d1, H1⟩⟩
      iapply (last_step c t (V m c main_arg0) (V m c main_arg2) (iblk m c 0 t) (st0 t) _ (st1 t) _ (fun h => h0 ((starts t).mp h)) (fun h => h3 ((continues t).mp h)) W _)
      isplitl [H0]; · iexact H0
      isplitl [H1]; · iexists _; iexact H1
      isplitl [Ha]; · iexact Ha
      isplitl [HW]; · iexact HW
      iintro ⟨H0, H1, Ha, ⟨%W', HW'⟩⟩
      isplitl [Hg Ha Hb Hc]
      · isplitl [Hg]; · iexact Hg
        isplitl [Hb]; · iexact Hb
        isplitl [Hc]; · iexact Hc
        iexact Ha
      isplitl [HW']
      · iexists W'; isplitr; · ipureintro; exact fun _ _ => Or.inl trivial
        iexact HW'
      isplitl [H0]; · iexact H0
      iexact H1

theorem row (t : Fin cfg0.N) : defs₀ (F := F) .tc cfg0.body (cfg0.bodyArgs t (cfg0.slots t)) = bodyAt0 t := by
  unfold defs₀; rw [Defs.onTc_tc]

/-- The body does, at every step, what the pipeline asks of it. -/
theorem obliged (c : Dev nD) : BodyObligation (dats (F := F) m 0 c) (defs₀ (F := F)) Variants.none () Set.univ := fun t => by
  rw [bigSep_W0, bigSep_W0, row]
  exact triple_restated (step m c t) rfl .rfl fun _ => .rfl

/-! ## The launch and the frame -/

theorem hands (c : Dev nD) : Pipeline.ΦD cells spec0 left (V m) c ⊢ (dats m 0 c).Φ 0 := by
  rw [handed, show (dats m 0 c).Φ 0 = kept m c 0 from rfl]
  unfold kept
  iintro ⟨⟨HSO, HSX⟩, Hg, ⟨HO0, HO1, HO2, HX0, HX1, HX2⟩, HO, HX⟩
  isplitl [Hg]; · iexact Hg
  iapply (ring_in c (V m c main_arg0) (V m c main_arg2))
  isplitl [HSO HO0 HO1 HO2 HO]
  · isplitl [HSO]; · iexact HSO
    isplitl [HO0 HO1 HO2]
    · isplitl [HO0]; · iexact HO0
      isplitl [HO1]; · iexact HO1
      iexact HO2
    iexact HO
  isplitl [HSX]; · iexact HSX
  isplitl [HX0 HX1 HX2]
  · isplitl [HX0]; · iexact HX0
    isplitl [HX1]; · iexact HX1
    iexact HX2
  iexact HX

theorem returns (c : Dev nD) : (dats m 0 c).Φ (Fin.last cfg0.N) ⊢ Pipeline.ΦD cells spec0 left (V m) c := by
  rw [handed, show (dats m 0 c).Φ (Fin.last cfg0.N) = kept m c grid0.N from rfl]
  unfold kept
  rw [show grid0.N = 8 by rw [N_0]]
  iintro ⟨Hg, HR⟩
  ihave H := (ring_out c (V m c main_arg0) (V m c main_arg2)) $$ HR
  icases H with ⟨⟨HSO, ⟨HO0, HO1, HO2⟩, HO⟩, HSX, ⟨HX0, HX1, HX2⟩, HX⟩
  isplitl [HSO HSX]
  · isplitl [HSO]; · iexact HSO
    iexact HSX
  isplitl [Hg]; · iexact Hg
  isplitl [HO0 HO1 HO2 HX0 HX1 HX2]
  · isplitl [HO0]; · iexact HO0
    isplitl [HO1]; · iexact HO1
    isplitl [HO2]; · iexact HO2
    isplitl [HX0]; · iexact HX0
    isplitl [HX1]; · iexact HX1
    iexact HX2
  isplitl [HO]; · iexact HO
  iexact HX

theorem enters : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- Every weakly fair execution terminates, with the pipeline's arrays as the blocks say and every semaphore at zero. -/
theorem launched : θ_run defs (onTc (τ := τ) (main (F := F))) (s₀ m ρ)
    (fun r => (Pipeline.FramePost cfgs (dats m) 0 (V m)) r ∧ r.2.sem = fun _ => 0) :=
  Pipeline.θ_run_frame_dma (Q' := _) cfgs (dats m) (0 : Fin 1) launch0 cells defs₀ Variants.none cells_own left left_sub m ρ main
    (hbody := fun c => (obliged m c).loose) (hshare := fun c => (dats m 0 c).share_full fun _ => rfl)
    (howed := fun _ _ => rfl) (V := V m) (hmain := enters m) (hA := A_eq m) (hin := hands m) (hout := returns m)

/-- The run: the result at the pipeline's array, the arguments as launched, every semaphore at zero. -/
theorem run : θ_run defs (onTc (τ := τ) (main (F := F))) ⟨m, fun _ => 0, ρ⟩ (fun r => (∀ c : Dev nD,
      r.2.mem ((c.tc : Thread nD τ).loc main_v1) = (dats m 0 c).arrAt 1 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1 1,
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c)⟩, h.2⟩) (launched m ρ)

/-- The frame. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run m ρ)

end Cert.Kernel8Ideal.Rows

/-! ## The printed call -/

namespace Cert.Kernel8.Rows

open Cert.Kernel8
open Idealize.ShloMosaic Idealize.ShloMosaic.TcCoe Idealize.SL.Sem

variable {F : FTy → Type} [FloatOps F]

/-- The printed call and the one over the reals have the same body, -/
theorem bodies : Cert.Kernel8.defs₀ (F := F) = Cert.Kernel8Ideal.defs₀ (F := F) := by
  unfold Cert.Kernel8.defs₀ Cert.Kernel8Ideal.defs₀
  refine congrArg Defs.onTc ?_
  funext b x
  match b, x with
  | 0, _ => rfl
  | ⟨_ + 1, h⟩, _ => exact absurd h (Nat.not_lt.2 (Nat.le_add_left _ _))

/-- pipelined the same way: the same run is a run of both. -/
theorem pipelines : Cert.Kernel8.defs (F := F) = Cert.Kernel8Ideal.defs (F := F) := congrArg (Pipeline.defs Cert.Kernel8.pcfgs) bodies

theorem unchanged (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [pipelines]; exact Cert.Kernel8Ideal.Rows.unchanged m ρ

end Cert.Kernel8.Rows

end
-- ==== Proof.Out.ResEquation.lean ====
/- An output projection: what one step computes, what the array holds at the end, the reference read at an index, and the equation. A
   step takes 512 rows. -/
module

public import proofs.«01_k».proof.Defs
public import proofs.«01_k».proof.Proof.Out.ResFrame
public import proofs.«01_k».proof.Proof.Gen.Reference8Ideal.Read
public import proofs.«01_k».proof.Proof.Gen.Reference8Ideal.Run
public import proofs.«01_k».proof.Proof.Qkv.Qkv
public import proofs.«01_k».proof.Proof.Mlp.Arr
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Out

/-- The rows `X`, plus the rows `O` multiplied by the weights `W`. -/
def projected (O W X : ℕ → ℕ → EReal) (r k : ℕ) : EReal := X r k + ∑ j : Fin 1024, O r j * W j k

end Cert.Out

namespace Cert.Kernel8Ideal.Value

open Cert.Kernel8Ideal Cert.Kernel8Ideal.Gen Cert.Kernel8Ideal.Rows Cert.Mlp Cert.Out Idealize.ShloMosaic.Ring

/-- The block each window is at. -/
theorem idx0 : ∀ t : Fin cfg0.N, win0_0.index t = ![0, 0] ∧ win0_1.index t = ![t.val, 0] :=
  (by decide +kernel : ∀ t : Fin grid0.N, _)

variable (m : (ℓ : Loc nD τ sig) → Buf (Elt Ideal) ℓ) (ρ : Dev nD → PrngReg) (O W X : ℕ → ℕ → EReal) (c : Dev nD)

/-- The numbers the arguments hold. -/
structure Args : Prop where
  o : ∀ i, (m ((c.tc : Thread nD τ).loc main_arg0) : FVec Ideal S4096x1024 .bf16) i = O (i 0).val (i 1).val
  w : ∀ i, (m ((c.tc : Thread nD τ).loc main_arg1) : FVec Ideal S1024x1024 .f32) i = W (i 0).val (i 1).val
  x : ∀ i, (m ((c.tc : Thread nD τ).loc main_arg2) : FVec Ideal S4096x1024 .f32) i = X (i 0).val (i 1).val

/-- The weights, rounded. -/
theorem host_w : V m c main_v0
    = (truncf .bf16 (m ((c.tc : Thread nD τ).loc main_arg1) : FVec Ideal S1024x1024 .f32) bitsLt_bf16_f32 : FVec Ideal S1024x1024 .bf16) := by
  show StableHlo.after hostOps0 _ _ = _
  simp only [hostOps0, StableHlo.TRef.toBuf, StableHlo.TRef.ofBuf, cast_eq]
  after_results_simp <;> rfl

variable {m O W X c} (H : Args m O W X c) (t : Fin cfg0.N)
include H

theorem blk_w (p q : Fin 1024) : (iblk m c 0 t : Vec Ideal S1024x1024 .bf16) (ix2 p q) = W p.val q.val := by
  refine (congrFun (host_w m c) _).trans ((H.w _).trans ?_)
  refine congrArg₂ W ?_ ?_ <;> blk_simp [idx0 t]

omit t in
/-- Row `p` of block `b` of the rows multiplied -/
theorem block_o (b : Fin 8) (p : Fin 512) (q : Fin 1024) :
    ((Ring.rows rowsO b).view.read (Elt Ideal) (V m c main_arg0) : FVec Ideal S512x1024 .bf16) (ix2 p q) = O (b.val * 512 + p.val) q.val := by
  refine (congrFun (V_main_arg0 m c) _).trans ((H.o _).trans ?_)
  refine congrArg₂ O ?_ ?_
  · show 512 * b.val + 1 * p.val = _; ring
  · show 0 + 1 * q.val = _; ring

omit t in
/-- and of the rows added to. -/
theorem block_x (b : Fin 8) (p : Fin 512) (q : Fin 1024) :
    ((Ring.rows rowsX b).view.read (Elt Ideal) (V m c main_arg2) : FVec Ideal S512x1024 .f32) (ix2 p q) = X (b.val * 512 + p.val) q.val := by
  refine (congrFun (V_main_arg2 m c) _).trans ((H.x _).trans ?_)
  refine congrArg₂ X ?_ ?_
  · show 512 * b.val + 1 * p.val = _; ring
  · show 0 + 1 * q.val = _; ring

theorem result_at (b : Fin 8) (p : Fin 512) (q : Fin 1024) :
    result (F := Ideal) c (V m c main_arg0) (V m c main_arg2) (iblk m c 0 t) b (ix2 p q) = projected O W X (b.val * 512 + p.val) q.val := by
  unfold result
  pointwise
  simp only [block_o H, block_x H, blk_w H]
  rfl

omit t in
theorem result_final : (Rows.dats (F := Ideal) m 0 c).arrAt 1 cfg0.N = (fun i => projected O W X (i 0).val (i 1).val : Vec Ideal S4096x1024 .f32) := by
  refine (Rows.dats m 0 c).arrAt_eq_of_covers 1 _ (by decide +kernel) fun t hf y => ?_
  blk_simp
  rw [after_1]
  obtain ⟨p, q, rfl⟩ : ∃ (p : Fin 512) (q : Fin 1024), y = (ix2 p q : S512x1024.Idx) := ⟨y 0, y 1, eq_ix2 y⟩
  refine (result_at H t _ p q).trans ?_
  rw [bk_val (lt_of_lt_of_eq t.isLt (show cfg0.N = 8 from N_0))]
  refine congrArg₂ (projected O W X) ?_ ?_ <;> blk_simp [idx0 t]

end Cert.Kernel8Ideal.Value

namespace Cert.Reference8Ideal.Read

open Cert.Reference8Ideal Cert.Reference8Ideal.Gen Cert.Out

variable {x0 : (⟨S4096x1024, .bf16⟩ : BufTy).Contents (Elt Ideal)} {x1 : (⟨S1024x1024, .f32⟩ : BufTy).Contents (Elt Ideal)}
  {x2 : (⟨S4096x1024, .f32⟩ : BufTy).Contents (Elt Ideal)} {O W X : ℕ → ℕ → EReal}

theorem projected_at (h0 : ∀ i, x0 i = O (i 0).val (i 1).val) (h1 : ∀ i, x1 i = W (i 0).val (i 1).val)
    (h2 : ∀ i, x2 i = X (i 0).val (i 1).val) (i : S4096x1024.Idx) :
    val_main_v2 (F := Ideal) x0 x1 x2 i = projected O W X (i 0).val (i 1).val := by
  refine (val_main_v2_apply _ _ _ _).trans (congrArg₂ (· + ·) (h2 i) ?_)
  rw [val_main_v1_apply]
  exact Finset.sum_congr rfl fun p _ => congrArg₂ (· * ·) (h0 _) (h1 _)

end Cert.Reference8Ideal.Read

namespace Cert.Out.Res

open Cert.Mlp

/-- The plain projection ends with its arguments as launched, and has no semaphore to leave set. -/
theorem reference_frame (m : (ℓ : Loc Cert.Reference8Ideal.nD Cert.Reference8Ideal.τ Cert.Reference8Ideal.sig) → Buf (Elt Ideal) ℓ) (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0) :=
  (θ_run _ _ _).mono (fun r h => ⟨fun c => (h c).2, sem_eq_zero_of_no_sems (by decide) r.2⟩) (Cert.Reference8Ideal.Value.run m g)

section
variable (m : (ℓ : Loc Cert.Kernel8Ideal.nD Cert.Kernel8Ideal.τ Cert.Kernel8Ideal.sig) → Buf (Elt Ideal) ℓ)

/-- The elements of the argument arrays on a device. -/
def argO (c : Dev Cert.Kernel8Ideal.nD) : ℕ → ℕ → EReal :=
  elem (n0 := 4096) (n1 := 1024) (m ((c.tc : Thread Cert.Kernel8Ideal.nD Cert.Kernel8Ideal.τ).loc Cert.Kernel8Ideal.main_arg0))
def argW (c : Dev Cert.Kernel8Ideal.nD) : ℕ → ℕ → EReal :=
  elem (n0 := 1024) (n1 := 1024) (m ((c.tc : Thread Cert.Kernel8Ideal.nD Cert.Kernel8Ideal.τ).loc Cert.Kernel8Ideal.main_arg1))
def argX (c : Dev Cert.Kernel8Ideal.nD) : ℕ → ℕ → EReal :=
  elem (n0 := 4096) (n1 := 1024) (m ((c.tc : Thread Cert.Kernel8Ideal.nD Cert.Kernel8Ideal.τ).loc Cert.Kernel8Ideal.main_arg2))

/-- The arguments are the arrays of those elements. -/
theorem args (c : Dev Cert.Kernel8Ideal.nD) : Cert.Kernel8Ideal.Value.Args m (argO m c) (argW m c) (argX m c) c where
  o := elem_at _
  w := elem_at _
  x := elem_at _

end

/-- Both programs end with the rows plus the products. -/
theorem equation : Cert.algebraic_Kernel8Ideal_Reference8Ideal (hKernel8Ideal := Cert.Kernel8Ideal.Gen.facts)
    (hReference8Ideal := Cert.Reference8Ideal.Gen.facts) := by
  intro m g m' g' _ ha
  have H := args m
  refine ⟨fun c => arr (projected (argO m c) (argW m c) (argX m c)), ?_, ?_⟩
  · refine (θ_run _ _ _).mono (fun r h c => ?_) (Cert.Kernel8Ideal.Rows.run m g)
    exact ⟨(h.1 c).1.trans (Cert.Kernel8Ideal.Value.result_final (H c)), (h.1 c).2⟩
  · refine (θ_run _ _ _).mono (fun r h c => ?_) (Cert.Reference8Ideal.Value.run m' g')
    refine ⟨(h c).1.trans ?_, (h c).2⟩
    exact (Cert.Reference8Ideal.Read.val_main_v2_eq _ _ _).trans (funext fun i => Cert.Reference8Ideal.Read.projected_at
      (fun i => (congrFun (ha c).1 i).trans ((H c).o i)) (fun i => (congrFun (ha c).2.1 i).trans ((H c).w i))
      (fun i => (congrFun (ha c).2.2 i).trans ((H c).x i)) i)

end Cert.Out.Res

end
-- ==== Proof.Out.Rg.lean ====
/- The gradient of what the recurrence's output projection multiplies: as for the attention's, the cotangent's rows pass through a ring of
   three buffers, each block rounded and multiplied by the transposed weights, the product kept in float32. Here: the ring, and the names
   the step has for its slots and blocks. -/
module

public import proofs.«01_k».proof.Proof.Gen.Kernel9Ideal.Frame
public import proofs.«01_k».proof.Proof.Gen.Kernel9Ideal.Skeleton
public import proofs.«01_k».proof.Proof.Out.Ring

@[expose] public section

set_option maxRecDepth 16384

noncomputable section

namespace Cert.Kernel9Ideal.Rows

open Cert.Kernel9Ideal Cert.Kernel9Ideal.Gen Cert.Out
open Idealize.ShloMosaic Idealize.ShloMosaic.TcCoe Idealize.ShloMosaic.Tactic Idealize.ShloMosaic.Ring
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ (Pipeline.UD sig nD τ) ℕ

/-! ## The ring -/

abbrev buffers : Memref sig .tc .vmem S3x512x1024 .f32 := Memref.whole cc0_scratch0
abbrev cot : Memref sig .tc .hbm S4096x1024 .f32 := Memref.whole main_arg1

theorem cell_inb (s : Fin 3) : ∀ a, (![s.val] : Fin 1 → Nat) a + S1.size a ≤ S3.size a := by
  have := s.isLt; intro a; fin_cases a <;> simp <;> omega

/-- The semaphore of slot `s`. -/
def cell (s : Fin 3) : DmaSems sig S_ :=
  (cc0_scratch1.slice (Rect.unit (s := S3) ![s.val] S1.size (cell_inb s))).squeeze S_ squeezes_S1_S_

section Held
variable (c : Dev nD) (A : Ring.Held (τ := τ) F c cot)

/-- A slot that is idle, -/
abbrev idle (s : Fin 3) : sProp 𝕄 := Ring.idle buffers cot cell c A s
/-- one that block `b` is being copied to, -/
abbrev busy (s : Fin 3) (b : Fin 8) : sProp 𝕄 := Ring.busy buffers cot cell c A s b
/-- and the ring before step `t`. -/
abbrev ring (t : ℕ) : sProp 𝕄 := slots (idle c A) (busy c A) t

/-- What the launch hands over of it. -/
abbrev held : sProp 𝕄 :=
  iprop((∃ d, owns (c : Thread nD τ) buffers fullShare d) ∗ (Ring.semAt cell c 0 ∗ Ring.semAt cell c 1 ∗ Ring.semAt cell c 2)
    ∗ (cot.view.loc (c : Thread nD τ) ↦{fullShare} A))

/-- That is the ring before the first step, -/
theorem ring_in : held c A ⊢ ring c A 0 :=
  (Ring.idle_in buffers cot cell c A (Memref.isWhole_whole _)).trans (slots_in (idle c A) (busy c A))

/-- and the ring after the last step gives it back. -/
theorem ring_out : ring c A 8 ⊢ held c A :=
  (slots_out (idle c A) (busy c A)).trans (Ring.idle_out buffers cot cell c A (Memref.isWhole_whole _))

end Held

/-! ## The step's own names for them -/

/-- The first step is the one that starts the first three blocks; -/
theorem starts : ∀ t : Fin grid0.N, k0_cond1 (grid0.coords t) = 1#1 ↔ t.val = 0 := by decide +kernel
/-- a step starts the block three on while there is one. -/
theorem continues : ∀ t : Fin grid0.N, k0_cond2 (grid0.coords t) = 1#1 ↔ t.val + 3 < 8 := by decide +kernel

instance : NeZero grid0.N := ⟨by rw [N_0]; decide⟩

section Names

theorem slot_named {o : Fin 3 → Nat} (s : Fin 3) (e : o = ![s.val, 0, 0])
    (h : ∀ a, o a + S1x512x1024.size a ≤ S3x512x1024.size a) :
    (buffers.slice (Rect.unit (s := S3x512x1024) o S1x512x1024.size h) (fun _ => rfl)).squeeze S512x1024 squeezes_S1x512x1024_S512x1024
      = Ring.slot buffers s := Ring.slot_named buffers s e h

theorem cell_named {o : Fin 1 → Nat} (s : Fin 3) (e : o = ![s.val]) (h : ∀ a, o a + S1.size a ≤ S3.size a) :
    (cc0_scratch1.slice (Rect.unit (s := S3) o S1.size h)).squeeze S_ squeezes_S1_S_ = cell s :=
  congrArg (fun A : DmaSems sig S1 => A.squeeze S_ squeezes_S1_S_) (SemArray.slice_unit_congr _ e _ _)

theorem rows_named {o : Fin 2 → Nat} (b : Fin 8) (e : o = ![512 * b.val, 0])
    (h : ∀ a, o a + S512x1024.size a ≤ S4096x1024.size a) :
    cot.slice (Rect.unit (s := S4096x1024) o S512x1024.size h) (fun _ => rfl) = Ring.rows cot b := Ring.rows_named cot b e h

set_option synthInstance.maxSize 4096

theorem off1 : ∀ t : Fin grid0.N, k0_off1 (grid0.coords t) = ![(sl 3 t.val).val] := by decide +kernel
theorem off2 : ∀ t : Fin grid0.N, k0_off2 (grid0.coords t) = ![(sl 3 t.val).val, 0, 0] := by decide +kernel
theorem off3 : ∀ t : Fin grid0.N, k0_off3 (grid0.coords t) = ![512 * (bk 8 t.val).val, 0] := by decide +kernel
theorem off4 : ∀ t : Fin grid0.N, k0_off4 (grid0.coords t) = ![(sl 3 t.val).val, 0, 0] := by decide +kernel
theorem off5 : ∀ t : Fin grid0.N, k0_off5 (grid0.coords t) = ![(sl 3 t.val).val] := by decide +kernel
theorem off6 : ∀ t : Fin grid0.N, k0_off6 (grid0.coords t) = ![(sl 3 t.val).val, 0, 0] := by decide +kernel
theorem off7 : ∀ t : Fin grid0.N, k0_cond2 (grid0.coords t) = 1#1 → k0_off7 (grid0.coords t) = ![512 * (bk 8 (t.val + 3)).val, 0] := by decide +kernel

@[sl_canon] theorem wait_cell (t : Fin grid0.N) :
    (cc0_scratch1.slice (Rect.unit (s := S3) (k0_off1 (grid0.coords t)) S1.size (k0_off1_inb (grid0.coords t)))).squeeze S_ squeezes_S1_S_
      = cell (sl 3 t.val) := cell_named _ (off1 t) _
@[sl_canon] theorem wait_slot (t : Fin grid0.N) :
    (buffers.slice (Rect.unit (s := S3x512x1024) (k0_off2 (grid0.coords t)) S1x512x1024.size (k0_off2_inb (grid0.coords t))) (fun _ => rfl)).squeeze
      S512x1024 squeezes_S1x512x1024_S512x1024 = Ring.slot buffers (sl 3 t.val) := slot_named _ (off2 t) _
@[sl_canon] theorem wait_rows (t : Fin grid0.N) :
    cot.slice (Rect.unit (s := S4096x1024) (k0_off3 (grid0.coords t)) S512x1024.size (k0_off3_inb (grid0.coords t))) (fun _ => rfl)
      = Ring.rows cot (bk 8 t.val) := rows_named _ (off3 t) _
@[sl_canon] theorem next_cell (t : Fin grid0.N) (h : k0_cond2 (grid0.coords t) = 1#1) :
    (cc0_scratch1.slice (Rect.unit (s := S3) (k0_off5 (grid0.coords t)) S1.size (k0_off5_inb (grid0.coords t) h))).squeeze S_ squeezes_S1_S_
      = cell (sl 3 t.val) := cell_named _ (off5 t) _
@[sl_canon] theorem next_slot (t : Fin grid0.N) (h : k0_cond2 (grid0.coords t) = 1#1) :
    (buffers.slice (Rect.unit (s := S3x512x1024) (k0_off6 (grid0.coords t)) S1x512x1024.size (k0_off6_inb (grid0.coords t) h)) (fun _ => rfl)).squeeze
      S512x1024 squeezes_S1x512x1024_S512x1024 = Ring.slot buffers (sl 3 t.val) := slot_named _ (off6 t) _
@[sl_canon] theorem next_rows (t : Fin grid0.N) (h : k0_cond2 (grid0.coords t) = 1#1) :
    cot.slice (Rect.unit (s := S4096x1024) (k0_off7 (grid0.coords t)) S512x1024.size (k0_off7_inb (grid0.coords t) h)) (fun _ => rfl)
      = Ring.rows cot (bk 8 (t.val + 3)) := rows_named _ (off7 t h) _

instance (priority := high) (t : Fin grid0.N) : ClosedOff (k0_off4 (grid0.coords t)) := ⟨![(sl 3 t.val).val, 0, 0], off4 t⟩

end Names

end Cert.Kernel9Ideal.Rows

end
-- ==== Proof.Out.RgSteps.lean ====
/- The steps of that ring: the first, the ones that start another block, the last three. -/
module

public import proofs.«01_k».proof.Proof.Out.Rg
public import Idealize.ShloMosaic.Lib.VecWindow

@[expose] public section

set_option maxRecDepth 16384

noncomputable section

namespace Cert.Kernel9Ideal.Rows

open Cert.Kernel9Ideal Cert.Kernel9Ideal.Gen Cert.Out
open Idealize.ShloMosaic Idealize.ShloMosaic.TcCoe Idealize.ShloMosaic.Tactic Idealize.ShloMosaic.Ring
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (t : Fin cfg0.N) (A : Ring.Held (τ := τ) F c cot) (w : Vec F S1024x1024 .bf16)
  (arg2 : Memref sig .tc .vmem S1024x1024 .bf16) (harg2 : arg2.IsWhole) (arg3 : Memref sig .tc .vmem S512x1024 .f32) (harg3 : arg3.IsWhole)
  (arg4 : Memref sig .tc .vmem S512x1024 .bf16) (harg4 : arg4.IsWhole)

/-- The body at step `t`. -/
abbrev body : Prog (TpuEff nD τ sig (Elt F) Λ₀ .tc) PUnit :=
  cc0_rg_out_bwd (grid0.coords t) (Memref.whole main_arg1) (Memref.isWhole_whole _) arg2 harg2 arg3 harg3 arg4 harg4 buffers
    (Memref.isWhole_whole _) cc0_scratch1

/-- Block `b` of the cotangent, rounded, -/
def rounded (b : Fin 8) : FVec F S512x1024 .bf16 := truncf .bf16 ((Ring.rows cot b).view.read (Elt F) A : FVec F S512x1024 .f32) bitsLt_bf16_f32
/-- and multiplied by the transposed weights. -/
def product (b : Fin 8) : FVec F S512x1024 .f32 :=
  matmul dot_S512x1024_S1024x1024_S512x1024_1_1_0_0_n_n none (rounded c A b)
    (shapeCast S1024x1024 w shapeCasts_S1024x1024_S1024x1024) (constant S512x1024 .f32 0x00000000#32)

/-- What the step loads, rounded and multiplied, is that. -/
theorem pay1_eq (f : Ring.Held (τ := τ) F c (Ring.slot buffers (sl 3 t.val))) :
    k0_pay1 (View.readAt (Elt F) buffers.view (Rect.unit (s := S3x512x1024) (k0_off4 (grid0.coords t)) S1x512x1024.size
      (k0_off4_inb (grid0.coords t))).toLoadRect (Ring.filled buffers cot c A (sl 3 t.val) (bk 8 t.val) f)) = rounded c A (bk 8 t.val) :=
  congrArg (fun v : FVec F S512x1024 .f32 => truncf .bf16 v bitsLt_bf16_f32) (Ring.load_block buffers cot c A _ (off4 t) _ _ _ f)

theorem pay2_eq (f : Ring.Held (τ := τ) F c (Ring.slot buffers (sl 3 t.val))) :
    k0_pay2 (View.readAt (Elt F) buffers.view (Rect.unit (s := S3x512x1024) (k0_off4 (grid0.coords t)) S1x512x1024.size
        (k0_off4_inb (grid0.coords t))).toLoadRect (Ring.filled buffers cot c A (sl 3 t.val) (bk 8 t.val) f))
      (View.readAt (Elt F) arg2.view (Rect.unit (s := S1024x1024) ![0, 0] S1024x1024.size inb_S1024x1024_S1024x1024_0_0).toLoadRect (harg2.unread w))
      = product c A w (bk 8 t.val) := by
  rw [View.readAt_full, harg2.read_unread]
  exact congrArg (fun v : FVec F S512x1024 .bf16 => matmul dot_S512x1024_S1024x1024_S512x1024_1_1_0_0_n_n none v
    (shapeCast S1024x1024 w shapeCasts_S1024x1024_S1024x1024) (constant S512x1024 .f32 0x00000000#32)) (pay1_eq c t A f)

set_option maxHeartbeats 1000000 in
theorem last_step (h1 : ¬k0_cond1 (grid0.coords t) = 1#1) (h2 : ¬k0_cond2 (grid0.coords t) = 1#1) (W : Waits sig Unit) (K : PUnit → sProp 𝕄) :
    iprop(owns (c : Thread nD τ) arg2 fullShare w ∗ (∃ d, owns (c : Thread nD τ) arg3 fullShare d) ∗ (∃ d, owns (c : Thread nD τ) arg4 fullShare d)
        ∗ busy c A (sl 3 t.val) (bk 8 t.val) ∗ owes (c : Thread nD τ) 0 W
        ∗ (iprop(owns (c : Thread nD τ) arg2 fullShare w ∗ owns (c : Thread nD τ) arg3 fullShare (product c A w (bk 8 t.val))
            ∗ owns (c : Thread nD τ) arg4 fullShare (rounded c A (bk 8 t.val)) ∗ idle c A (sl 3 t.val) ∗ (∃ W', owes (c : Thread nD τ) 0 W')) -∗ K ⟨⟩))
      ⊢ wp frame (wpE (defs₀ (F := F)) Variants.none c none) Set.univ (body t arg2 harg2 arg3 harg3 arg4 harg4) K := by
  haveI : Fact (¬k0_cond1 (grid0.coords t) = 1#1) := ⟨h1⟩
  haveI : Fact (¬k0_cond2 (grid0.coords t) = 1#1) := ⟨h2⟩
  unfold body
  simp only [cc0_rg_out_bwd_eq_skeleton]; unfold cc0_rg_out_bwd_skel
  simp only [k0_part1_eq_skeleton]
  unfold owns busy idle Ring.busy Ring.idle
  iintro ⟨⟨%f0, %hf0, H0⟩, ⟨%d1, %f1, -, H1⟩, ⟨%d2, %f2, -, H2⟩, ⟨⟨%ff, Hf⟩, Hr⟩, HW, Hk⟩
  obtain rfl := harg2.eq_unread hf0
  sl_exec (disch := first | sl_exact h1 | sl_exact h2)
  sl_step
  iapply Hk
  isplitl [H0]
  · iexists _; isplitr; · ipureintro; exact harg2.read_unread _
    iexact H0
  isplitl [H1]
  · iexists _; isplitr
    swap; · iexact H1
    ipureintro; exact (View.read_writes_full _ _ _ _ _).trans (pay2_eq c t A w arg2 harg2 _)
  isplitl [H2]
  · iexists _; isplitr
    swap; · iexact H2
    ipureintro; exact (View.read_writes_full _ _ _ _ _).trans (pay1_eq c t A _)
  isplitl [Hf Hf_dst Hf_src Hr]
  · isplitl [Hf]; · iexact Hf
    isplitl [Hf_dst]; · iexists _; iexact Hf_dst
    iapply (Ring.lend cot c A (sl 3 t.val) (bk 8 t.val)).2; isplitl [Hf_src]; · iexact Hf_src
    iexact Hr
  iexists _; iexact HW

set_option maxHeartbeats 1000000 in
theorem next_step (h1 : ¬k0_cond1 (grid0.coords t) = 1#1) (h2 : k0_cond2 (grid0.coords t) = 1#1) (W : Waits sig Unit) (K : PUnit → sProp 𝕄) :
    iprop(owns (c : Thread nD τ) arg2 fullShare w ∗ (∃ d, owns (c : Thread nD τ) arg3 fullShare d) ∗ (∃ d, owns (c : Thread nD τ) arg4 fullShare d)
        ∗ busy c A (sl 3 t.val) (bk 8 t.val) ∗ owes (c : Thread nD τ) 0 W
        ∗ (iprop(owns (c : Thread nD τ) arg2 fullShare w ∗ owns (c : Thread nD τ) arg3 fullShare (product c A w (bk 8 t.val))
            ∗ owns (c : Thread nD τ) arg4 fullShare (rounded c A (bk 8 t.val)) ∗ busy c A (sl 3 t.val) (bk 8 (t.val + 3)) ∗ (∃ W', owes (c : Thread nD τ) 0 W')) -∗ K ⟨⟩))
      ⊢ wp frame (wpE (defs₀ (F := F)) Variants.none c none) Set.univ (body t arg2 harg2 arg3 harg3 arg4 harg4) K := by
  haveI : Fact (¬k0_cond1 (grid0.coords t) = 1#1) := ⟨h1⟩
  haveI : Fact (k0_cond2 (grid0.coords t) = 1#1) := ⟨h2⟩
  have hne : bk 8 t.val ≠ bk 8 (t.val + 3) := bk_three ((continues t).mp h2)
  unfold body
  simp only [cc0_rg_out_bwd_eq_skeleton]; unfold cc0_rg_out_bwd_skel
  simp only [k0_part1_eq_skeleton]
  unfold owns busy Ring.busy
  iintro ⟨⟨%f0, %hf0, H0⟩, ⟨%d1, %f1, -, H1⟩, ⟨%d2, %f2, -, H2⟩, ⟨⟨%ff, Hf⟩, Hr⟩, HW, Hk⟩
  ihave Hs := (Ring.lend_more cot c A (sl 3 t.val) (bk 8 t.val) (bk 8 (t.val + 3)) hne).1 $$ Hr
  icases Hs with ⟨Hn, Ho⟩
  obtain rfl := harg2.eq_unread hf0
  have hcanon1 := next_cell t h2
  have hcanon2 := next_slot t h2
  have hcanon3 := next_rows t h2
  sl_exec (disch := first | sl_exact h1 | sl_exact h2)
  sl_step
  iapply Hk
  isplitl [H0]
  · iexists _; isplitr; · ipureintro; exact harg2.read_unread _
    iexact H0
  isplitl [H1]
  · iexists _; isplitr
    swap; · iexact H1
    ipureintro; exact (View.read_writes_full _ _ _ _ _).trans (pay2_eq c t A w arg2 harg2 _)
  isplitl [H2]
  · iexists _; isplitr
    swap; · iexact H2
    ipureintro; exact (View.read_writes_full _ _ _ _ _).trans (pay1_eq c t A _)
  isplitl [Hf Hf_src Ho]
  · isplitl [Hf]; · iexists _; iexact Hf
    iapply (Ring.lend_other cot c A (sl 3 t.val) (bk 8 t.val) (bk 8 (t.val + 3)) hne); isplitl [Hf_src]; · iexact Hf_src
    iexact Ho
  iexists _; iexact HW

set_option maxHeartbeats 1000000 in
theorem first_step (h1 : k0_cond1 (grid0.coords t) = 1#1) (h2 : k0_cond2 (grid0.coords t) = 1#1) (W : Waits sig Unit) (K : PUnit → sProp 𝕄) :
    iprop(owns (c : Thread nD τ) arg2 fullShare w ∗ (∃ d, owns (c : Thread nD τ) arg3 fullShare d) ∗ (∃ d, owns (c : Thread nD τ) arg4 fullShare d)
        ∗ idle c A (sl 3 t.val) ∗ idle c A (sl 3 (t.val + 1)) ∗ idle c A (sl 3 (t.val + 2)) ∗ owes (c : Thread nD τ) 0 W
        ∗ (iprop(owns (c : Thread nD τ) arg2 fullShare w ∗ owns (c : Thread nD τ) arg3 fullShare (product c A w (bk 8 t.val))
            ∗ owns (c : Thread nD τ) arg4 fullShare (rounded c A (bk 8 t.val)) ∗ busy c A (sl 3 (t.val + 1)) (bk 8 (t.val + 1))
            ∗ busy c A (sl 3 (t.val + 2)) (bk 8 (t.val + 2)) ∗ busy c A (sl 3 t.val) (bk 8 (t.val + 3)) ∗ (∃ W', owes (c : Thread nD τ) 0 W')) -∗ K ⟨⟩))
      ⊢ wp frame (wpE (defs₀ (F := F)) Variants.none c none) Set.univ (body t arg2 harg2 arg3 harg3 arg4 harg4) K := by
  haveI : Fact (k0_cond1 (grid0.coords t) = 1#1) := ⟨h1⟩
  haveI : Fact (k0_cond2 (grid0.coords t) = 1#1) := ⟨h2⟩
  have h0 : t.val = 0 := (starts t).mp h1
  have hne : bk 8 t.val ≠ bk 8 (t.val + 3) := bk_three ((continues t).mp h2)
  unfold body
  simp only [cc0_rg_out_bwd_eq_skeleton]; unfold cc0_rg_out_bwd_skel
  simp only [k0_part1_eq_skeleton]
  unfold owns busy idle Ring.busy Ring.idle
  iintro ⟨⟨%f0, %hf0, H0⟩, ⟨%d1, %f1, -, H1⟩, ⟨%d2, %f2, -, H2⟩, ⟨Hf, ⟨%fs, Hs⟩, Hw⟩, ⟨Hf', ⟨%fs', Hs'⟩, Hw'⟩, ⟨Hf'', ⟨%fs'', Hs''⟩, Hw''⟩, HW, Hk⟩
  ihave Hl := (Ring.lend cot c A (sl 3 t.val) (bk 8 t.val)).1 $$ Hw
  icases Hl with ⟨Hl, Hr⟩
  ihave Hl' := (Ring.lend cot c A (sl 3 (t.val + 1)) (bk 8 (t.val + 1))).1 $$ Hw'
  icases Hl' with ⟨Hl', Hr'⟩
  ihave Hl'' := (Ring.lend cot c A (sl 3 (t.val + 2)) (bk 8 (t.val + 2))).1 $$ Hw''
  icases Hl'' with ⟨Hl'', Hr''⟩
  ihave Hm := (Ring.lend_more cot c A (sl 3 t.val) (bk 8 t.val) (bk 8 (t.val + 3)) hne).1 $$ Hr
  icases Hm with ⟨Hn, Ho⟩
  obtain rfl := harg2.eq_unread hf0
  have hcanonc0 := cell_named (o := ![0]) (sl 3 (t.val)) (by rw [h0]; rfl) inb_S3_S1_0
  have hcanons0 := slot_named (o := ![0, 0, 0]) (sl 3 (t.val)) (by rw [h0]; rfl) inb_S3x512x1024_S1x512x1024_0_0_0
  have hcanonr0 := rows_named (o := ![0, 0]) (bk 8 (t.val)) (by rw [h0]; rfl) inb_S4096x1024_S512x1024_0_0
  have hcanonc1 := cell_named (o := ![1]) (sl 3 (t.val + 1)) (by rw [h0]; rfl) inb_S3_S1_1
  have hcanons1 := slot_named (o := ![1, 0, 0]) (sl 3 (t.val + 1)) (by rw [h0]; rfl) inb_S3x512x1024_S1x512x1024_1_0_0
  have hcanonr1 := rows_named (o := ![512, 0]) (bk 8 (t.val + 1)) (by rw [h0]; rfl) inb_S4096x1024_S512x1024_512_0
  have hcanonc2 := cell_named (o := ![2]) (sl 3 (t.val + 2)) (by rw [h0]; rfl) inb_S3_S1_2
  have hcanons2 := slot_named (o := ![2, 0, 0]) (sl 3 (t.val + 2)) (by rw [h0]; rfl) inb_S3x512x1024_S1x512x1024_2_0_0
  have hcanonr2 := rows_named (o := ![1024, 0]) (bk 8 (t.val + 2)) (by rw [h0]; rfl) inb_S4096x1024_S512x1024_1024_0
  have hcanon1 := next_cell t h2
  have hcanon2 := next_slot t h2
  have hcanon3 := next_rows t h2
  sl_exec (disch := first | sl_exact h1 | sl_exact h2)
  sl_step
  iapply Hk
  isplitl [H0]
  · iexists _; isplitr; · ipureintro; exact harg2.read_unread _
    iexact H0
  isplitl [H1]
  · iexists _; isplitr
    swap; · iexact H1
    ipureintro; exact (View.read_writes_full _ _ _ _ _).trans (pay2_eq c t A w arg2 harg2 _)
  isplitl [H2]
  · iexists _; isplitr
    swap; · iexact H2
    ipureintro; exact (View.read_writes_full _ _ _ _ _).trans (pay1_eq c t A _)
  isplitl [Hf' Hr']
  · isplitl [Hf']; · iexists _; iexact Hf'
    iexact Hr'
  isplitl [Hf'' Hr'']
  · isplitl [Hf'']; · iexists _; iexact Hf''
    iexact Hr''
  isplitl [Hf Hl Ho]
  · isplitl [Hf]; · iexists _; iexact Hf
    iapply (Ring.lend_other cot c A (sl 3 t.val) (bk 8 t.val) (bk 8 (t.val + 3)) hne); isplitl [Hl]; · iexact Hl
    iexact Ho
  iexists _; iexact HW

end Cert.Kernel9Ideal.Rows

end
-- ==== Proof.Out.RgFrame.lean ====
/- The run of the call: what the pipeline keeps from step to step, the body at any step, the launch, and the frame, printed and over the
   reals. -/
module

public import proofs.«01_k».proof.Proof.Out.RgSteps
public import proofs.«01_k».proof.Proof.Gen.Kernel9.Frame
public import Idealize.ShloMosaic.Lib.Claim

@[expose] public section

set_option maxRecDepth 16384

noncomputable section

namespace Cert.Kernel9Ideal.Rows

open Cert.Kernel9Ideal Cert.Kernel9Ideal.Gen Cert.Out
open Idealize.ShloMosaic Idealize.ShloMosaic.TcCoe Idealize.ShloMosaic.Tactic Idealize.ShloMosaic.Ring
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

/-! ## What the launch hands over -/

/-- The three semaphores of the slots, -/
abbrev cells : Fin 3 → SemLoc sig := fun j => (![SemLoc.dma 5, SemLoc.dma 6, SemLoc.dma 7] : Fin 3 → SemLoc sig) j
theorem cells_own : Pipeline.OwnSemFacts spec0 cells := by decide
/-- and the array the body reads by itself. -/
abbrev left : Finset (Ref sig .tc) := {main_arg1}
theorem left_sub : left ⊆ Pipeline.restRefs sig spec0 := by decide

variable (m : (ℓ : Loc nD τ sig) → Buf (Elt F) ℓ) (ρ : Dev nD → PrngReg) (c : Dev nD)

theorem cells_at : (Pipeline.ownSems0 (Ix := Unit) (Name := ℕ) (U := Pipeline.UD sig nD τ) (Lvl := ℕ) (Val := Elt F) (τ := τ) cells c : sProp 𝕄)
    = iprop(Ring.semAt cell c 0 ∗ Ring.semAt cell c 1 ∗ Ring.semAt cell c 2) := by
  rw [Pipeline.ownSems0_eq_of_list c cells [0, 1, 2] (by decide) (by decide)]
  unfold Ring.semAt
  rw [show Ring.sem cell 0 = SemLoc.dma 5 by decide, show Ring.sem cell 1 = SemLoc.dma 6 by decide, show Ring.sem cell 2 = SemLoc.dma 7 by decide]
  rfl

theorem handed : (Pipeline.ΦD cells spec0 left (V m) c : sProp 𝕄)
    = iprop((∃ d, owns (c : Thread nD τ) buffers fullShare d) ∗ (∃ r, prngReg c r)
        ∗ (Ring.semAt cell c 0 ∗ Ring.semAt cell c 1 ∗ Ring.semAt cell c 2) ∗ (cot.view.loc (c : Thread nD τ) ↦{fullShare} V m c main_arg1)) := by
  rw [Pipeline.ΦD_eq, scopedRest0_eq, cells_at,
    show (bigSep left fun b => (((c : Thread nD τ).loc b) ↦{fullShare} V m c b : sProp 𝕄)) = (((c : Thread nD τ).loc main_arg1) ↦{fullShare} V m c main_arg1) by
      rw [BI.bigSep_eq_bigSepL_of_eq [main_arg1] (by decide) (by decide)]; rfl]
  simp only [buffers, owns_whole]; rfl

/-! ## The body at any step -/

/-- The register and the ring, before step `k`. -/
def kept (k : ℕ) : sProp 𝕄 := iprop((∃ r, prngReg c r) ∗ ring c (V m c main_arg1) k)

/-- What each window holds after the body at step `t`: the weights, block `t` of the product, block `t` of the cotangent rounded. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => product c (V m c main_arg1) (iblk m c 0 t) (bk 8 t.val)
    | ⟨2, _⟩ => rounded c (V m c main_arg1) (bk 8 t.val)
  Φ t := kept m c t.val
  q _ := fullShare
  owed _ := 0

theorem A_eq (c : Dev nD) (w : Fin cfg0.W) : (dats m 0 c).A w = V m c (Pipeline.arrRef spec0 w) := by dsimp only [dats]
theorem after_0 (t : Fin cfg0.N) : (dats m 0 c).after 0 t = iblk m c 0 t := by dsimp only [dats]
theorem after_1 (t : Fin cfg0.N) : (dats m 0 c).after 1 t = product c (V m c main_arg1) (iblk m c 0 t) (bk 8 t.val) := by dsimp only [dats]
theorem after_2 (t : Fin cfg0.N) : (dats m 0 c).after 2 t = rounded c (V m c main_arg1) (bk 8 t.val) := by dsimp only [dats]
theorem kept_here (t : Fin cfg0.N) : (dats m 0 c).Φ t.castSucc = kept m c t.val := by dsimp only [dats]; simp only [Fin.val_castSucc]
theorem kept_next (t : Fin cfg0.N) : (dats m 0 c).Φ t.succ = kept m c (t.val + 1) := by dsimp only [dats]; simp only [Fin.val_succ]

/-- The weights' buffer holds the weights at every step. -/
theorem before_0 (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

abbrev st0 (t : Fin cfg0.N) : Memref sig .tc .vmem S1024x1024 .bf16 := win0_0.stage (cfg0.slots t 0)
abbrev st1 (t : Fin cfg0.N) : Memref sig .tc .vmem S512x1024 .f32 := win0_1.stage (cfg0.slots t 1)
abbrev st2 (t : Fin cfg0.N) : Memref sig .tc .vmem S512x1024 .bf16 := win0_2.stage (cfg0.slots t 2)

/-- What the body is called with, -/
def called (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d)))
/-- and what it gives back. -/
def given (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t))

set_option maxHeartbeats 1000000 in
theorem step (t : Fin cfg0.N) :
    called m c t ⊢ wp frame (wpE (defs₀ (F := F)) Variants.none c none) Set.univ (bodyAt0 t) (fun _ => given m c t) := by
  unfold called given bodyAt0
  simp only [before_0]
  rw [after_0, after_1, after_2, kept_here, kept_next]
  unfold Dat.owesAt Pipeline.owesWithin
  rw [show (dats m 0 c).owed t.castSucc = 0 from rfl, show (dats m 0 c).owed t.succ = 0 from rfl]
  unfold kept ring
  have hN : t.val < 8 := lt_of_lt_of_eq t.isLt (show cfg0.N = 8 from N_0)
  by_cases h0 : t.val = 0
  · have h3 : t.val + 3 < 8 := by omega
    rw [slots_first _ _ h0, slots_more _ _ h3, role_busy _ _ (show t.val + 1 < 8 by omega), role_busy _ _ (show t.val + 2 < 8 by omega)]
    iintro ⟨⟨Hg, Ha, Hb, Hc⟩, ⟨%W, -, HW⟩, ⟨%d0, H0⟩, ⟨%d1, H1⟩, ⟨%d2, H2⟩⟩
    iapply (first_step c t (V m c main_arg1) (iblk m c 0 t) (st0 t) _ (st1 t) _ (st2 t) _ ((starts t).mpr h0) ((continues t).mpr h3) W _)
    isplitl [H0]; · iexact H0
    isplitl [H1]; · iexists _; iexact H1
    isplitl [H2]; · iexists _; iexact H2
    isplitl [Ha]; · iexact Ha
    isplitl [Hb]; · iexact Hb
    isplitl [Hc]; · iexact Hc
    isplitl [HW]; · iexact HW
    iintro ⟨H0, H1, H2, Hb, Hc, Ha, ⟨%W', HW'⟩⟩
    isplitl [Hg Ha Hb Hc]
    · isplitl [Hg]; · iexact Hg
      isplitl [Hb]; · iexact Hb
      isplitl [Hc]; · iexact Hc
      iexact Ha
    isplitl [HW']
    · iexists W'; isplitr; · ipureintro; exact fun _ _ => Or.inl trivial
      iexact HW'
    isplitl [H0]; · iexact H0
    isplitl [H1]; · iexact H1
    iexact H2
  · by_cases h3 : t.val + 3 < 8
    · rw [slots_here _ _ h0 hN, slots_more _ _ h3]
      iintro ⟨⟨Hg, Ha, Hb, Hc⟩, ⟨%W, -, HW⟩, ⟨%d0, H0⟩, ⟨%d1, H1⟩, ⟨%d2, H2⟩⟩
      iapply (next_step c t (V m c main_arg1) (iblk m c 0 t) (st0 t) _ (st1 t) _ (st2 t) _ (fun h => h0 ((starts t).mp h)) ((continues t).mpr h3) W _)
      isplitl [H0]; · iexact H0
      isplitl [H1]; · iexists _; iexact H1
      isplitl [H2]; · iexists _; iexact H2
      isplitl [Ha]; · iexact Ha
      isplitl [HW]; · iexact HW
      iintro ⟨H0, H1, H2, Ha, ⟨%W', HW'⟩⟩
      isplitl [Hg Ha Hb Hc]
      · isplitl [Hg]; · iexact Hg
        isplitl [Hb]; · iexact Hb
        isplitl [Hc]; · iexact Hc
        iexact Ha
      isplitl [HW']
      · iexists W'; isplitr; · ipureintro; exact fun _ _ => Or.inl trivial
        iexact HW'
      isplitl [H0]; · iexact H0
      isplitl [H1]; · iexact H1
      iexact H2
    · rw [slots_here _ _ h0 hN, slots_less _ _ h3]
      iintro ⟨⟨Hg, Ha, Hb, Hc⟩, ⟨%W, -, HW⟩, ⟨%d0, H0⟩, ⟨%d1, H1⟩, ⟨%d2, H2⟩⟩
      iapply (last_step c t (V m c main_arg1) (iblk m c 0 t) (st0 t) _ (st1 t) _ (st2 t) _ (fun h => h0 ((starts t).mp h)) (fun h => h3 ((continues t).mp h)) W _)
      isplitl [H0]; · iexact H0
      isplitl [H1]; · iexists _; iexact H1
      isplitl [H2]; · iexists _; iexact H2
      isplitl [Ha]; · iexact Ha
      isplitl [HW]; · iexact HW
      iintro ⟨H0, H1, H2, Ha, ⟨%W', HW'⟩⟩
      isplitl [Hg Ha Hb Hc]
      · isplitl [Hg]; · iexact Hg
        isplitl [Hb]; · iexact Hb
        isplitl [Hc]; · iexact Hc
        iexact Ha
      isplitl [HW']
      · iexists W'; isplitr; · ipureintro; exact fun _ _ => Or.inl trivial
        iexact HW'
      isplitl [H0]; · iexact H0
      isplitl [H1]; · iexact H1
      iexact H2

theorem row (t : Fin cfg0.N) : defs₀ (F := F) .tc cfg0.body (cfg0.bodyArgs t (cfg0.slots t)) = bodyAt0 t := by
  unfold defs₀; rw [Defs.onTc_tc]

/-- The body does, at every step, what the pipeline asks of it. -/
theorem obliged (c : Dev nD) : BodyObligation (dats (F := F) m 0 c) (defs₀ (F := F)) Variants.none () Set.univ := fun t => by
  rw [bigSep_W0, bigSep_W0, row]
  exact triple_restated (step m c t) rfl .rfl fun _ => .rfl

/-! ## The launch and the frame -/

theorem hands (c : Dev nD) : Pipeline.ΦD cells spec0 left (V m) c ⊢ (dats m 0 c).Φ 0 := by
  rw [handed, show (dats m 0 c).Φ 0 = kept m c 0 from rfl]
  unfold kept
  iintro ⟨HS, Hg, Hq, HW⟩
  isplitl [Hg]; · iexact Hg
  iapply (ring_in c (V m c main_arg1))
  isplitl [HS]; · iexact HS
  isplitl [Hq]; · iexact Hq
  iexact HW

theorem returns (c : Dev nD) : (dats m 0 c).Φ (Fin.last cfg0.N) ⊢ Pipeline.ΦD cells spec0 left (V m) c := by
  rw [handed, show (dats m 0 c).Φ (Fin.last cfg0.N) = kept m c grid0.N from rfl]
  unfold kept
  rw [show grid0.N = 8 by rw [N_0]]
  iintro ⟨Hg, HR⟩
  ihave H := (ring_out c (V m c main_arg1)) $$ HR
  icases H with ⟨HS, Hq, HW⟩
  isplitl [HS]; · iexact HS
  isplitl [Hg]; · iexact Hg
  isplitl [Hq]; · iexact Hq
  iexact HW

theorem enters : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- Every weakly fair execution terminates, with the pipeline's arrays as the blocks say and every semaphore at zero. -/
theorem launched : θ_run defs (onTc (τ := τ) (main (F := F))) (s₀ m ρ)
    (fun r => (Pipeline.FramePost cfgs (dats m) 0 (V m)) r ∧ r.2.sem = fun _ => 0) :=
  Pipeline.θ_run_frame_dma (Q' := _) cfgs (dats m) (0 : Fin 1) launch0 cells defs₀ Variants.none cells_own left left_sub m ρ main
    (hbody := fun c => (obliged m c).loose) (hshare := fun c => (dats m 0 c).share_full fun _ => rfl)
    (howed := fun _ _ => rfl) (V := V m) (hmain := enters m) (hA := A_eq m) (hin := hands m) (hout := returns m)

/-- The run: the two results at the pipeline's arrays, the arguments as launched, every semaphore at zero. -/
theorem run : θ_run defs (onTc (τ := τ) (main (F := F))) ⟨m, fun _ => 0, ρ⟩ (fun r => (∀ c : Dev nD,
      r.2.mem ((c.tc : Thread nD τ).loc main_v1_0) = (dats m 0 c).arrAt 1 cfg0.N
      ∧ r.2.mem ((c.tc : Thread nD τ).loc main_v1_1) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1 1, (h.1 c).1 2,
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c)⟩, h.2⟩) (launched m ρ)

/-- The frame. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2.2, h.2⟩) (run m ρ)

end Cert.Kernel9Ideal.Rows

/-! ## The printed call -/

namespace Cert.Kernel9.Rows

open Cert.Kernel9
open Idealize.ShloMosaic Idealize.ShloMosaic.TcCoe Idealize.SL.Sem

variable {F : FTy → Type} [FloatOps F]

/-- The printed call and the one over the reals have the same body, -/
theorem bodies : Cert.Kernel9.defs₀ (F := F) = Cert.Kernel9Ideal.defs₀ (F := F) := by
  unfold Cert.Kernel9.defs₀ Cert.Kernel9Ideal.defs₀
  refine congrArg Defs.onTc ?_
  funext b x
  match b, x with
  | 0, _ => rfl
  | ⟨_ + 1, h⟩, _ => exact absurd h (Nat.not_lt.2 (Nat.le_add_left _ _))

/-- pipelined the same way: the same run is a run of both. -/
theorem pipelines : Cert.Kernel9.defs (F := F) = Cert.Kernel9Ideal.defs (F := F) := congrArg (Pipeline.defs Cert.Kernel9.pcfgs) bodies

theorem unchanged (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [pipelines]; exact Cert.Kernel9Ideal.Rows.unchanged m ρ

end Cert.Kernel9.Rows

end
-- ==== Proof.Out.RgEquation.lean ====
/- The gradient of what the recurrence's output projection multiplies: what one step computes, what the arrays hold at the end, the reference's
   gradient read at an index, and the equation. A step takes 512 rows of the gradient of the products. -/
module

public import proofs.«01_k».proof.Defs
public import proofs.«01_k».proof.Proof.Out.RgFrame
public import proofs.«01_k».proof.Proof.Gen.Reference9Ideal.Read
public import proofs.«01_k».proof.Proof.Gen.Reference9Ideal.Run
public import proofs.«01_k».proof.Proof.Out.NtEquation
public import proofs.«01_k».proof.Proof.Qkv.Qkv
public import proofs.«01_k».proof.Proof.Mlp.Arr
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel9Ideal.Value

open Cert.Kernel9Ideal Cert.Kernel9Ideal.Gen Cert.Kernel9Ideal.Rows Cert.Mlp Cert.Out Idealize.ShloMosaic.Ring

/-- The block each window is at. -/
theorem idx0 : ∀ t : Fin cfg0.N, win0_0.index t = ![0, 0] ∧ win0_1.index t = ![t.val, 0] ∧ win0_2.index t = ![t.val, 0] :=
  (by decide +kernel : ∀ t : Fin grid0.N, _)

variable (m : (ℓ : Loc nD τ sig) → Buf (Elt Ideal) ℓ) (ρ : Dev nD → PrngReg) (W D : ℕ → ℕ → EReal) (c : Dev nD)

/-- The numbers the arguments hold. -/
structure Args : Prop where
  w : ∀ i, (m ((c.tc : Thread nD τ).loc main_arg0) : FVec Ideal S1024x1024 .f32) i = W (i 0).val (i 1).val
  d : ∀ i, (m ((c.tc : Thread nD τ).loc main_arg1) : FVec Ideal S4096x1024 .f32) i = D (i 0).val (i 1).val

/-- The weights, rounded. -/
theorem host_w : V m c main_v0
    = (truncf .bf16 (m ((c.tc : Thread nD τ).loc main_arg0) : FVec Ideal S1024x1024 .f32) bitsLt_bf16_f32 : FVec Ideal S1024x1024 .bf16) := by
  show StableHlo.after hostOps0 _ _ = _
  simp only [hostOps0, StableHlo.TRef.toBuf, StableHlo.TRef.ofBuf, cast_eq]
  after_results_simp <;> rfl

variable {m W D c} (H : Args m W D c) (t : Fin cfg0.N)
include H

theorem blk_w (p q : Fin 1024) : (iblk m c 0 t : Vec Ideal S1024x1024 .bf16) (ix2 p q) = W p.val q.val := by
  refine (congrFun (host_w m c) _).trans ((H.w _).trans ?_)
  refine congrArg₂ W ?_ ?_ <;> blk_simp [idx0 t]

omit t in
/-- Row `p` of block `b`. -/
theorem block_d (b : Fin 8) (p : Fin 512) (q : Fin 1024) :
    ((Ring.rows cot b).view.read (Elt Ideal) (V m c main_arg1) : FVec Ideal S512x1024 .f32) (ix2 p q) = D (b.val * 512 + p.val) q.val := by
  refine (congrFun (V_main_arg1 m c) _).trans ((H.d _).trans ?_)
  refine congrArg₂ D ?_ ?_
  · show 512 * b.val + 1 * p.val = _; ring
  · show 0 + 1 * q.val = _; ring

omit t in
theorem rounded_at (b : Fin 8) (p : Fin 512) (q : Fin 1024) :
    rounded (F := Ideal) c (V m c main_arg1) b (ix2 p q) = D (b.val * 512 + p.val) q.val := block_d H b p q

theorem product_at (b : Fin 8) (p : Fin 512) (q : Fin 1024) :
    product (F := Ideal) c (V m c main_arg1) (iblk m c 0 t) b (ix2 p q) = drows W D (b.val * 512 + p.val) q.val := by
  unfold product
  pointwise
  simp only [rounded_at H, blk_w H]
  rfl

omit t in
theorem product_final : (Rows.dats (F := Ideal) m 0 c).arrAt 1 cfg0.N = (fun i => drows W D (i 0).val (i 1).val : Vec Ideal S4096x1024 .f32) := by
  refine (Rows.dats m 0 c).arrAt_eq_of_covers 1 _ (by decide +kernel) fun t hf y => ?_
  blk_simp
  rw [after_1]
  obtain ⟨p, q, rfl⟩ : ∃ (p : Fin 512) (q : Fin 1024), y = (ix2 p q : S512x1024.Idx) := ⟨y 0, y 1, eq_ix2 y⟩
  refine (product_at H t _ p q).trans ?_
  rw [bk_val (lt_of_lt_of_eq t.isLt (show cfg0.N = 8 from N_0))]
  refine congrArg₂ (drows W D) ?_ ?_ <;> blk_simp [idx0 t]

omit t in
theorem rounded_final : (Rows.dats (F := Ideal) m 0 c).arrAt 2 cfg0.N = (fun i => D (i 0).val (i 1).val : Vec Ideal S4096x1024 .bf16) := by
  refine (Rows.dats m 0 c).arrAt_eq_of_covers 2 _ (by decide +kernel) fun t hf y => ?_
  blk_simp
  rw [after_2]
  obtain ⟨p, q, rfl⟩ : ∃ (p : Fin 512) (q : Fin 1024), y = (ix2 p q : S512x1024.Idx) := ⟨y 0, y 1, eq_ix2 y⟩
  refine (rounded_at H _ p q).trans ?_
  rw [bk_val (lt_of_lt_of_eq t.isLt (show cfg0.N = 8 from N_0))]
  refine congrArg₂ D ?_ ?_ <;> blk_simp [idx0 t]

end Cert.Kernel9Ideal.Value

namespace Cert.Reference9Ideal.Read

open Cert.Reference9Ideal Cert.Reference9Ideal.Gen Cert.Out

variable {x0 : (⟨S1024x1024, .f32⟩ : BufTy).Contents (Elt Ideal)} {x1 : (⟨S4096x1024, .f32⟩ : BufTy).Contents (Elt Ideal)}
variable {W D : ℕ → ℕ → EReal}

/-- The gradient of the rows. -/
theorem drows_at (h0 : ∀ i, x0 i = W (i 0).val (i 1).val) (h1 : ∀ i, x1 i = D (i 0).val (i 1).val) (i : S4096x1024.Idx) :
    val_main_v2 (F := Ideal) x0 x1 i = drows W D (i 0).val (i 1).val := by
  rw [val_main_v2_apply]
  unfold drows
  exact Finset.sum_congr rfl fun p _ => by rw [h0, h1]

end Cert.Reference9Ideal.Read

namespace Cert.Out.Rg

open Cert.Mlp

/-- The plain gradient ends with its arguments as launched, and has no semaphore to leave set. -/
theorem reference_frame (m : (ℓ : Loc Cert.Reference9Ideal.nD Cert.Reference9Ideal.τ Cert.Reference9Ideal.sig) → Buf (Elt Ideal) ℓ) (g : Dev Cert.Reference9Ideal.nD → PrngReg) :
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0) :=
  (θ_run _ _ _).mono (fun r h => ⟨fun c => (h c).2.2, sem_eq_zero_of_no_sems (by decide) r.2⟩) (Cert.Reference9Ideal.Value.run m g)

section
variable (m : (ℓ : Loc Cert.Kernel9Ideal.nD Cert.Kernel9Ideal.τ Cert.Kernel9Ideal.sig) → Buf (Elt Ideal) ℓ)

/-- The elements of the argument arrays on a device. -/
def argW (c : Dev Cert.Kernel9Ideal.nD) : ℕ → ℕ → EReal :=
  elem (n0 := 1024) (n1 := 1024) (m ((c.tc : Thread Cert.Kernel9Ideal.nD Cert.Kernel9Ideal.τ).loc Cert.Kernel9Ideal.main_arg0))
def argD (c : Dev Cert.Kernel9Ideal.nD) : ℕ → ℕ → EReal :=
  elem (n0 := 4096) (n1 := 1024) (m ((c.tc : Thread Cert.Kernel9Ideal.nD Cert.Kernel9Ideal.τ).loc Cert.Kernel9Ideal.main_arg1))

/-- The arguments are the arrays of those elements. -/
theorem args (c : Dev Cert.Kernel9Ideal.nD) : Cert.Kernel9Ideal.Value.Args m (argW m c) (argD m c) c where
  w := elem_at _
  d := elem_at _

end

/-- Both programs end with the gradient of the rows and, beside it, the gradient of the products rounded. -/
theorem equation : Cert.algebraic_Kernel9Ideal_Reference9Ideal (hKernel9Ideal := Cert.Kernel9Ideal.Gen.facts)
    (hReference9Ideal := Cert.Reference9Ideal.Gen.facts) := by
  intro m g m' g' _ ha
  have H := args m
  refine ⟨fun c => arr (drows (argW m c) (argD m c)), fun c => arr (argD m c), ?_, ?_⟩
  · refine (θ_run _ _ _).mono (fun r h c => ?_) (Cert.Kernel9Ideal.Rows.run m g)
    exact ⟨(h.1 c).1.trans (Cert.Kernel9Ideal.Value.product_final (H c)), (h.1 c).2.1.trans (Cert.Kernel9Ideal.Value.rounded_final (H c)), (h.1 c).2.2⟩
  · refine (θ_run _ _ _).mono (fun r h c => ?_) (Cert.Reference9Ideal.Value.run m' g')
    have e0 : ∀ i : Cert.Reference9Ideal.S1024x1024.Idx, m' ((c.tc : Thread Cert.Reference9Ideal.nD Cert.Reference9Ideal.τ).loc Cert.Reference9Ideal.main_arg0) i
        = argW m c (i 0).val (i 1).val := fun i => (congrFun (ha c).1 i).trans ((H c).w i)
    have e1 : ∀ i : Cert.Reference9Ideal.S4096x1024.Idx, m' ((c.tc : Thread Cert.Reference9Ideal.nD Cert.Reference9Ideal.τ).loc Cert.Reference9Ideal.main_arg1) i
        = argD m c (i 0).val (i 1).val := fun i => (congrFun (ha c).2 i).trans ((H c).d i)
    refine ⟨(h c).1.trans ?_, (h c).2.1.trans ?_, (h c).2.2⟩
    · exact (Cert.Reference9Ideal.Read.val_main_v2_eq _ _).trans (funext fun i => Cert.Reference9Ideal.Read.drows_at e0 e1 i)
    · exact (Cert.Reference9Ideal.Read.val_main_v3_eq _).trans (funext fun i => e1 i)

end Cert.Out.Rg

end
-- ==== Proof.Prep.Prep.lean ====
/- What lies between the projection and the attention, over the extended real numbers: heads of 128 columns, each scaled by its
   root mean square and turned by the angles of its row's place on the grid, and the gradients. Nothing here mentions a program. -/
module

public import proofs.«01_k».proof.Proof.Mlp.Mixer

@[expose] public section

noncomputable section

namespace Cert.Prep

open Finset Idealize.ShloMosaic Cert.Mlp

/-! ## One head of one row -/

/-- The mean square of a head. -/
def hms (x : ℕ → EReal) : EReal := (∑ c : Fin 128, x c * x c) / 128 + eps

/-- Its inverse root. -/
def hinv (x : ℕ → EReal) : EReal := Ideal.rsqrt (hms x)

/-- The gradient of a head through its mean square, from the gradient `b` of the head over its root mean square. -/
def hnorm (x b : ℕ → EReal) (q : ℕ) : EReal :=
  hinv x * (b q - x q * hinv x * ((∑ c : Fin 128, b c * (x c * hinv x)) / 128))

/-- The column each column of a half of a head is turned with. -/
def other (q : ℕ) : ℕ := if q % 64 < 32 then q + 32 else q - 32

/-- The gradient of a head through the turn by the angles with cosines `C` and signed sines `S`. -/
def turn (C S d : ℕ → EReal) (q : ℕ) : EReal := d q * C q - d (other q) * S q

/-- The gradient of a head, from that of the scaled and turned head. -/
def dhead (C S x g d : ℕ → EReal) : ℕ → EReal := hnorm x fun c => turn C S d c * g c

/-- What a head adds to the gradient of the gains. -/
def dgh (C S x d : ℕ → EReal) (q : ℕ) : EReal := turn C S d q * (x q * hinv x)

theorem hms_pos (x : ℕ → EReal) : 0 < hms x :=
  eps_pos.trans_le (le_add_of_nonneg_left (EReal.div_nonneg (Finset.sum_nonneg fun _ _ => sq_nonneg' _) (by norm_num)))

theorem hms_cases (x : ℕ → EReal) :
    (hms x = ⊤ ∧ hinv x = 0) ∨ ∃ m : ℝ, 0 < m ∧ hms x = (m : EReal) ∧ hinv x = (((Real.sqrt m)⁻¹ : ℝ) : EReal) := by
  have h := hms_pos x
  unfold hinv
  generalize hms x = a at h
  induction a with
  | bot => exact absurd h (by simp)
  | top => exact Or.inl ⟨rfl, rfl⟩
  | coe m =>
    have hm : 0 < m := EReal.coe_pos.mp h
    exact Or.inr ⟨m, hm, rfl, (Ideal.rsqrt_coe m).trans ((if_neg hm.not_gt).trans (if_neg hm.ne'))⟩

/-- The gradient of a head in the two equal halves the rule for a product gives. -/
theorem hnorm_halves (x b : ℕ → EReal) (q : ℕ) :
    b q * hinv x + x q * ((∑ c : Fin 128, x c * b c) * (((-(1 / 2) : ℝ) : EReal) * (hinv x / hms x)) / 128)
        + ((∑ c : Fin 128, x c * b c) * (((-(1 / 2) : ℝ) : EReal) * (hinv x / hms x)) / 128) * x q
      = hnorm x b q := by
  unfold hnorm
  rw [sum_mul_inv (fun c : Fin 128 => x c) (fun c => b c)
    ((hms_cases x).imp And.right fun ⟨m, _, _, h⟩ => ⟨_, inv_nonneg.mpr (Real.sqrt_nonneg m), h⟩)]
  exact halves (k := 128) (by norm_num) (hms_cases x)

theorem lit128 : Ideal.ofBits .f32 0x43000000#32 = (128 : EReal) := by
  rw [show (128 : EReal) = ((128 : ℝ) : EReal) from rfl]
  simp [Ideal.ofBits, Ideal.ieee]
  rw [← EReal.coe_mul]
  norm_num

theorem div128 (a : EReal) : Ideal.div a (Ideal.ofBits .f32 0x43000000#32) = a / 128 := by
  rw [lit128]
  exact div_ne (by norm_num)

/-- The inverse root of a head's mean square. -/
theorem rsqrt_head (x : ℕ → EReal) :
    Ideal.rsqrt ((∑ c : Fin 128, x c * x c) / 128 + Ideal.ofBits .f32 0x358637BD#32) = hinv x := by
  rw [lit_eps]
  rfl

/-! ## The angles -/

/-- A small number as a program counts it. -/
def num (n : ℕ) : EReal := FloatOps.sitofp (F := Ideal) .f32 (BitVec.ofNat 32 n)

/-- The frequency of the `d`-th pair of columns: the base to the power of minus `d` thirty-secondths. -/
def freq (d : ℕ) : EReal :=
  FloatOps.powf (F := Ideal) (FloatOps.ofBits .f32 0x461C4000#32)
    (FloatOps.divf (FloatOps.negf (num d)) (FloatOps.ofBits .f32 0x42000000#32))

/-- The angle of column `q` of a head in the row at place `l` of its sequence: the first half of the columns goes by the line of the
    grid, the second by the place in the line. -/
def angle (l q : ℕ) : EReal := num (if q < 64 then l / 64 else l % 64) * freq (q % 32)

/-- The cosines and the signed sines of row `p`. -/
def cosT (p q : ℕ) : EReal := FloatOps.cos (F := Ideal) (φ := .f32) (angle (p % 2048) q)
def sinT (p q : ℕ) : EReal := FloatOps.sin (F := Ideal) (φ := .f32) (angle (p % 2048) q)
def sgnT (p q : ℕ) : EReal := if q % 64 < 32 then -sinT p q else sinT p q

/-! ## All rows -/

section

variable (C S X : ℕ → ℕ → EReal) (G K : ℕ → EReal) (DQ DK DV : ℕ → ℕ → EReal)

/-- The `o / 128`-th head of row `p`. -/
def head (M : ℕ → ℕ → EReal) (p o : ℕ) : ℕ → EReal := fun q => M p (o + q)

/-- The gradient of the products: eight heads of queries, two of keys, and the values. -/
def dz (p f : ℕ) : EReal :=
  if f < 1024 then dhead (C p) (S p) (head X p (f / 128 * 128)) G (head DQ p (f / 128 * 128)) (f % 128)
  else if f < 1280 then dhead (C p) (S p) (head X p (f / 128 * 128)) K (head DK p (f / 128 * 128 - 1024)) (f % 128)
  else DV p (f - 1280)

/-- What the `h`-th head of row `p` adds to the gradient of the queries' gains, and of the keys'. -/
def gq (p h q : ℕ) : EReal := dgh (C p) (S p) (head X p (h * 128)) (head DQ p (h * 128)) q
def gk (p h q : ℕ) : EReal := dgh (C p) (S p) (head X p (1024 + h * 128)) (head DK p (h * 128)) q

end

/-! ## The order of the rows -/

/-- The place, in the order of the sequence, of the row that the kernel has at `p`. -/
def nat (p : ℕ) : ℕ := p / 2048 * 2048 + p % 8 * 256 + p % 2048 / 8

/-- Its inverse. -/
def inter (p : ℕ) : ℕ := p / 2048 * 2048 + p % 256 * 8 + p % 2048 / 256

theorem nat_lt {p : ℕ} (h : p < 4096) : nat p < 4096 := by unfold nat; omega
theorem inter_lt {p : ℕ} (h : p < 4096) : inter p < 4096 := by unfold inter; omega
theorem nat_of {a b c : ℕ} (hb : b < 8) (hc : c < 256) : nat (a * 2048 + c * 8 + b) = a * 2048 + b * 256 + c := by unfold nat; omega
theorem inter_of {a b c : ℕ} (hb : b < 8) (hc : c < 256) : inter (a * 2048 + b * 256 + c) = a * 2048 + c * 8 + b := by unfold inter; omega
theorem nat_inter (p : ℕ) : nat (inter p) = p := by
  obtain ⟨a, b, c, hb, hc, rfl⟩ : ∃ a b c, b < 8 ∧ c < 256 ∧ p = a * 2048 + b * 256 + c :=
    ⟨p / 2048, p % 2048 / 256, p % 256, by omega, by omega, by omega⟩
  rw [inter_of hb hc, nat_of hb hc]
theorem inter_nat (p : ℕ) : inter (nat p) = p := by
  obtain ⟨a, b, c, hb, hc, rfl⟩ : ∃ a b c, b < 8 ∧ c < 256 ∧ p = a * 2048 + c * 8 + b :=
    ⟨p / 2048, p % 8, p % 2048 / 8, by omega, by omega, by omega⟩
  rw [nat_of hb hc, inter_of hb hc]

/-- A sum over the rows in either order. -/
theorem sum_nat (φ : ℕ → EReal) : ∑ p : Fin 4096, φ (nat p.val) = ∑ p : Fin 4096, φ p.val :=
  Fintype.sum_equiv
    ⟨fun p => ⟨nat p.val, nat_lt p.isLt⟩, fun p => ⟨inter p.val, inter_lt p.isLt⟩,
      fun p => Fin.ext (inter_nat p.val), fun p => Fin.ext (nat_inter p.val)⟩ _ _ fun _ => rfl

end Cert.Prep
-- ==== Proof.Prep.Block.lean ====
/- One block of rows through the call between the projection and the attention: a head at a time. -/
module

public import proofs.«01_k».proof.Proof.Gen.Kernel10Ideal.Frame
public import proofs.«01_k».proof.Proof.Prep.Prep
public import Idealize.ShloMosaic.Lib.Pipeline.ValueKit

@[expose] public section

set_option maxRecDepth 16384

noncomputable section

open Idealize.ShloMosaic Idealize.ShloMosaic.TcCoe Idealize.SL.Sem

namespace Cert.Kernel10Ideal.Value

open Cert.Kernel10Ideal Cert.Kernel10Ideal.Gen Cert.Mlp Cert.Prep

section

variable (g : Vec Ideal S1x128 .f32) (c s d x : Vec Ideal S1024x128 .f32)

/-- The gradient of a head through the turn. -/
def turnB : FVec Ideal S1024x128 .f32 := k0_pay9 c s d

/-- The gradient of a head. -/
def headB : FVec Ideal S1024x128 .bf16 := k0_pay14 (k0_pay8 g) (turnB c s d) x

/-- What a head adds to the gradient of the gains, from what it was. -/
def gainB (prev : Vec Ideal S1x128 .f32) : FVec Ideal S1x128 .f32 := k0_pay13 (turnB c s d) x prev

end

variable {C S D X : ℕ → ℕ → EReal} {G : ℕ → EReal}
variable {g : Vec Ideal S1x128 .f32} {c s d x : Vec Ideal S1024x128 .f32}
variable (hc : ∀ (i : Fin 1024) (q : Fin 128), c (ix2 i q) = C i.val q.val)
  (hs : ∀ (i : Fin 1024) (q : Fin 128), s (ix2 i q) = S i.val q.val)
  (hd : ∀ (i : Fin 1024) (q : Fin 128), d (ix2 i q) = D i.val q.val)
include hc hs hd

omit hc hs hd in
/-- The test for the first half of either half of a head. -/
theorem low_columns : ∀ q : Fin 128,
    IntOp.cmpi CmpIPredicate.slt
      (Scalar.select
        (IntOp.andi
          (IntOp.xori
            (IntOp.cmpi CmpIPredicate.slt
              (IntOp.remsi ArithUnit.vector (BitVec.ofNat 32 q.val) (Scalar.select (Scalar.cmpi CmpIPredicate.eq 64#32 0#32) 1#32 64#32)) 0#32)
            (Scalar.cmpi CmpIPredicate.slt (Scalar.select (Scalar.cmpi CmpIPredicate.eq 64#32 0#32) 1#32 64#32) 0#32))
          (IntOp.cmpi CmpIPredicate.ne
            (IntOp.remsi ArithUnit.vector (BitVec.ofNat 32 q.val) (Scalar.select (Scalar.cmpi CmpIPredicate.eq 64#32 0#32) 1#32 64#32)) 0#32))
        (IntOp.addi
          (IntOp.remsi ArithUnit.vector (BitVec.ofNat 32 q.val) (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 q.val) (Scalar.select (Scalar.cmpi CmpIPredicate.eq 64#32 0#32) 1#32 64#32)))
      32#32 = if q.val % 64 < 32 then 1#1 else 0#1 := by
  decide +kernel

theorem turn_block (i : Fin 1024) (q : Fin 128) : turnB c s d (ix2 i q) = turn (C i.val) (S i.val) (D i.val) q.val := by
  unfold turnB k0_pay9 k0_pay6 k0_pay7
  pointwise
  have hq : q.val < 128 := q.isLt
  have e := low_columns q
  generalize IntOp.cmpi CmpIPredicate.slt (Scalar.select _ _ _) 32#32 = z at e ⊢
  subst e
  rw [hc, hs, hd]
  unfold turn other
  split
  · refine congrArg (fun y : EReal => D i.val q.val * C i.val q.val - y * S i.val q.val) ?_
    refine (hd _ _).trans (congrArg (D i.val) ?_)
    show (q.val + 128 - 96) % 128 = q.val + 32
    omega
  · refine congrArg (fun y : EReal => D i.val q.val * C i.val q.val - y * S i.val q.val) ?_
    refine (hd _ _).trans (congrArg (D i.val) ?_)
    show (q.val + 128 - 32) % 128 = q.val - 32
    omega

variable (hx : ∀ (i : Fin 1024) (q : Fin 128), x (ix2 i q) = X i.val q.val)
include hx

theorem gain_block (prev : Vec Ideal S1x128 .f32) (o : Fin 1) (q : Fin 128) : gainB c s d x prev (ix2 o q)
    = prev (ix2 o q) + (∑ i : Fin 1024, dgh (C i.val) (S i.val) (X i.val) (D i.val) q.val) := by
  unfold gainB k0_pay13 k0_pay12 k0_pay11 k0_pay10
  pointwise
  simp only [turn_block hc hs hd, hx, div128, rsqrt_head]
  rfl

variable (hg : ∀ q : Fin 128, g (ix2 0 q) = G q.val)
include hg

theorem head_block (i : Fin 1024) (q : Fin 128) : headB g c s d x (ix2 i q)
    = dhead (C i.val) (S i.val) (X i.val) G (D i.val) q.val := by
  unfold headB k0_pay14 k0_pay12 k0_pay11 k0_pay10 k0_pay8
  pointwise
  simp only [turn_block hc hs hd, hx, hg, div128, rsqrt_head]
  rfl

omit hc hs hd hx hg

/-! ## A block of rows -/

section

variable (x0 : Vec Ideal S1024x1536 .f32) (x1 : Vec Ideal S1024x1024 .f32) (x2 x3 : Vec Ideal S1024x256 .f32) (x4 x5 : Vec Ideal S1x128 .f32)
  (x6 x7 : Vec Ideal S1024x128 .f32)

/-- A head of the products' block, of the queries' gradient, and of the keys'. -/
def colX (o : ℕ) (h : ∀ a, (![0, o] : Fin 2 → ℕ) a + (![1024, 128] : Fin 2 → ℕ) a ≤ S1024x1536.size a) : Vec Ideal S1024x128 .f32 :=
  View.ld x0 (Rect.unit ![0, o] ![1024, 128] h)
def colQ (o : ℕ) (h : ∀ a, (![0, o] : Fin 2 → ℕ) a + (![1024, 128] : Fin 2 → ℕ) a ≤ S1024x1024.size a) : Vec Ideal S1024x128 .f32 :=
  View.ld x1 (Rect.unit ![0, o] ![1024, 128] h)
def colK (o : ℕ) (h : ∀ a, (![0, o] : Fin 2 → ℕ) a + (![1024, 128] : Fin 2 → ℕ) a ≤ S1024x256.size a) : Vec Ideal S1024x128 .f32 :=
  View.ld x2 (Rect.unit ![0, o] ![1024, 128] h)

/-- The gradient of the queries' gains with what the block's eight heads add to it. -/
def gainsQ (prev : Vec Ideal S1x128 .f32) : Vec Ideal S1x128 .f32 :=
  gainB x6 x7 (colQ x1 896 inb_S1024x1024_S1024x128_0_896) (colX x0 896 inb_S1024x1536_S1024x128_0_896) <|
  gainB x6 x7 (colQ x1 768 inb_S1024x1024_S1024x128_0_768) (colX x0 768 inb_S1024x1536_S1024x128_0_768) <|
  gainB x6 x7 (colQ x1 640 inb_S1024x1024_S1024x128_0_640) (colX x0 640 inb_S1024x1536_S1024x128_0_640) <|
  gainB x6 x7 (colQ x1 512 inb_S1024x1024_S1024x128_0_512) (colX x0 512 inb_S1024x1536_S1024x128_0_512) <|
  gainB x6 x7 (colQ x1 384 inb_S1024x1024_S1024x128_0_384) (colX x0 384 inb_S1024x1536_S1024x128_0_384) <|
  gainB x6 x7 (colQ x1 256 inb_S1024x1024_S1024x128_0_256) (colX x0 256 inb_S1024x1536_S1024x128_0_256) <|
  gainB x6 x7 (colQ x1 128 inb_S1024x1024_S1024x128_0_128) (colX x0 128 inb_S1024x1536_S1024x128_0_128) <|
  gainB x6 x7 (colQ x1 0 inb_S1024x1024_S1024x128_0_0) (colX x0 0 inb_S1024x1536_S1024x128_0_0) prev

/-- The gradient of the keys' gains with what the block's two heads add to it. -/
def gainsK (prev : Vec Ideal S1x128 .f32) : Vec Ideal S1x128 .f32 :=
  gainB x6 x7 (colK x2 128 inb_S1024x256_S1024x128_0_128) (colX x0 1152 inb_S1024x1536_S1024x128_0_1152) <|
  gainB x6 x7 (colK x2 0 inb_S1024x256_S1024x128_0_0) (colX x0 1024 inb_S1024x1536_S1024x128_0_1024) prev

variable (C S X : ℕ → ℕ → EReal) (G K : ℕ → EReal) (DQ DK DV : ℕ → ℕ → EReal)

/-- The arrays of a block of rows. -/
structure Rows : Prop where
  x : ∀ (i : Fin 1024) (f : Fin 1536), x0 (ix2 i f) = X i.val f.val
  dq : ∀ (i f : Fin 1024), x1 (ix2 i f) = DQ i.val f.val
  dk : ∀ (i : Fin 1024) (f : Fin 256), x2 (ix2 i f) = DK i.val f.val
  dv : ∀ (i : Fin 1024) (f : Fin 256), x3 (ix2 i f) = DV i.val f.val
  g : ∀ q : Fin 128, x4 (ix2 0 q) = G q.val
  k : ∀ q : Fin 128, x5 (ix2 0 q) = K q.val
  c : ∀ (i : Fin 1024) (q : Fin 128), x6 (ix2 i q) = C i.val q.val
  s : ∀ (i : Fin 1024) (q : Fin 128), x7 (ix2 i q) = S i.val q.val

end

variable {x0 : Vec Ideal S1024x1536 .f32} {x1 : Vec Ideal S1024x1024 .f32} {x2 x3 : Vec Ideal S1024x256 .f32} {x4 x5 : Vec Ideal S1x128 .f32}
  {x6 x7 : Vec Ideal S1024x128 .f32} {C S X : ℕ → ℕ → EReal} {G K : ℕ → EReal} {DQ DK DV : ℕ → ℕ → EReal}
  (R : Rows x0 x1 x2 x3 x4 x5 x6 x7 C S X G K DQ DK DV)
include R

theorem colX_at (o : ℕ) (h) (i : Fin 1024) (q : Fin 128) : colX x0 o h (ix2 i q) = head X i.val o q.val := by
  have hq : o + q.val < 1536 := by
    have h1 : o + 128 ≤ 1536 := h 1
    omega
  refine (View.ld_unit_apply_of x0 _ _ h (ix2 i q) (ix2 i ⟨o + q.val, hq⟩) fun a => ?_).trans (R.x i ⟨o + q.val, hq⟩)
  match a with
  | ⟨0, _⟩ => exact (Nat.zero_add _).symm
  | ⟨1, _⟩ => rfl

theorem colQ_at (o : ℕ) (h) (i : Fin 1024) (q : Fin 128) : colQ x1 o h (ix2 i q) = head DQ i.val o q.val := by
  have hq : o + q.val < 1024 := by
    have h1 : o + 128 ≤ 1024 := h 1
    omega
  refine (View.ld_unit_apply_of x1 _ _ h (ix2 i q) (ix2 i ⟨o + q.val, hq⟩) fun a => ?_).trans (R.dq i ⟨o + q.val, hq⟩)
  match a with
  | ⟨0, _⟩ => exact (Nat.zero_add _).symm
  | ⟨1, _⟩ => rfl

theorem colK_at (o : ℕ) (h) (i : Fin 1024) (q : Fin 128) : colK x2 o h (ix2 i q) = head DK i.val o q.val := by
  have hq : o + q.val < 256 := by
    have h1 : o + 128 ≤ 256 := h 1
    omega
  refine (View.ld_unit_apply_of x2 _ _ h (ix2 i q) (ix2 i ⟨o + q.val, hq⟩) fun a => ?_).trans (R.dk i ⟨o + q.val, hq⟩)
  match a with
  | ⟨0, _⟩ => exact (Nat.zero_add _).symm
  | ⟨1, _⟩ => rfl

/-- What a head of queries adds to the gradient of the gains. -/
theorem gainQ_at (n : ℕ) (o : ℕ) (e : o = n * 128) (h h') (prev : Vec Ideal S1x128 .f32) (q : Fin 128) :
    gainB x6 x7 (colQ x1 o h) (colX x0 o h') prev (ix2 0 q)
      = prev (ix2 0 q) + (∑ i : Fin 1024, gq C S X DQ i.val n q.val) := by
  subst e
  exact gain_block (X := fun p => head X p (n * 128)) (D := fun p => head DQ p (n * 128)) R.c R.s (colQ_at R _ h) (colX_at R _ h') prev 0 q
theorem gainK_at (n : ℕ) (o o' : ℕ) (e : o = n * 128) (e' : o' = 1024 + n * 128) (h h') (prev : Vec Ideal S1x128 .f32) (q : Fin 128) :
    gainB x6 x7 (colK x2 o h) (colX x0 o' h') prev (ix2 0 q)
      = prev (ix2 0 q) + (∑ i : Fin 1024, gk C S X DK i.val n q.val) := by
  subst e e'
  exact gain_block (X := fun p => head X p (1024 + n * 128)) (D := fun p => head DK p (n * 128)) R.c R.s (colK_at R _ h) (colX_at R _ h') prev 0 q

theorem gainsQ_at (prev : Vec Ideal S1x128 .f32) (q : Fin 128) : gainsQ x0 x1 x6 x7 prev (ix2 0 q)
    = prev (ix2 0 q) + ∑ n ∈ Finset.range 8, ∑ i : Fin 1024, gq C S X DQ i.val n q.val := by
  unfold gainsQ
  rw [gainQ_at R 7 896 rfl, gainQ_at R 6 768 rfl, gainQ_at R 5 640 rfl, gainQ_at R 4 512 rfl, gainQ_at R 3 384 rfl,
    gainQ_at R 2 256 rfl, gainQ_at R 1 128 rfl, gainQ_at R 0 0 rfl]
  simp only [Finset.sum_range_succ, Finset.sum_range_zero, zero_add, add_assoc]

theorem gainsK_at (prev : Vec Ideal S1x128 .f32) (q : Fin 128) : gainsK x0 x2 x6 x7 prev (ix2 0 q)
    = prev (ix2 0 q) + ∑ n ∈ Finset.range 2, ∑ i : Fin 1024, gk C S X DK i.val n q.val := by
  unfold gainsK
  rw [gainK_at R 1 128 1152 rfl rfl, gainK_at R 0 0 1024 rfl rfl]
  simp only [Finset.sum_range_succ, Finset.sum_range_zero, zero_add, add_assoc]

/-- A head of queries in the block of the products' gradient. -/
theorem dzQ_at (n : ℕ) (hn : n < 8) (o : ℕ) (e : o = n * 128) (h h') (i : Fin 1024) (q : Fin 128) {f : ℕ} (hf : f = o + q.val) :
    headB x4 x6 x7 (colQ x1 o h) (colX x0 o h') (ix2 i q) = dz C S X G K DQ DK DV i.val f := by
  have := q.isLt
  refine (head_block (X := fun p => head X p o) (D := fun p => head DQ p o) R.c R.s (colQ_at R _ h) (colX_at R _ h') R.g i q).trans ?_
  unfold dz
  rw [if_pos (by omega), show f / 128 * 128 = o by omega, show f % 128 = q.val by omega]
theorem dzK_at (n : ℕ) (hn : n < 2) (o o' : ℕ) (e : o = n * 128) (e' : o' = 1024 + n * 128) (h h') (i : Fin 1024) (q : Fin 128) {f : ℕ}
    (hf : f = o' + q.val) :
    headB x5 x6 x7 (colK x2 o h) (colX x0 o' h') (ix2 i q) = dz C S X G K DQ DK DV i.val f := by
  have := q.isLt
  refine (head_block (X := fun p => head X p o') (D := fun p => head DK p o) R.c R.s (colK_at R _ h) (colX_at R _ h') R.k i q).trans ?_
  unfold dz
  rw [if_neg (by omega), if_pos (by omega), show f / 128 * 128 = o' by omega, show o' - 1024 = o by omega, show f % 128 = q.val by omega]

omit R

/-! One point of the grid: what it leaves in the gains' blocks. -/

variable (m : (ℓ : Loc nD τ sig) → Buf (Elt Ideal) ℓ) (c : Dev nD)

theorem dq_outs_A (t : Fin cfg0.N) (h0 : t.val % 4 = 0) : (outsAt0 (F := Ideal) m c t.val t.isLt).2.1
    = gainsQ (iblk m c 0 t) (iblk m c 1 t) (iblk m c 6 t) (iblk m c 7 t) (k0_pay4 (F := Ideal)) := by
  rw [outsAt0_A m c t h0]
  frame_out
  rfl

theorem dq_outs_B (t : Fin cfg0.N) (h0 : ¬t.val % 4 = 0) : (outsAt0 (F := Ideal) m c t.val t.isLt).2.1
    = gainsQ (iblk m c 0 t) (iblk m c 1 t) (iblk m c 6 t) (iblk m c 7 t)
        (outsAt0 (F := Ideal) m c (t.val - 1) (Nat.lt_of_le_of_lt (Nat.sub_le _ _) t.isLt)).2.1 := by
  rw [outsAt0_B m c t h0]
  frame_out
  rfl

theorem dk_outs_A (t : Fin cfg0.N) (h0 : t.val % 4 = 0) : (outsAt0 (F := Ideal) m c t.val t.isLt).2.2
    = gainsK (iblk m c 0 t) (iblk m c 2 t) (iblk m c 6 t) (iblk m c 7 t) (k0_pay5 (F := Ideal)) := by
  rw [outsAt0_A m c t h0]
  frame_out
  rfl

theorem dk_outs_B (t : Fin cfg0.N) (h0 : ¬t.val % 4 = 0) : (outsAt0 (F := Ideal) m c t.val t.isLt).2.2
    = gainsK (iblk m c 0 t) (iblk m c 2 t) (iblk m c 6 t) (iblk m c 7 t)
        (outsAt0 (F := Ideal) m c (t.val - 1) (Nat.lt_of_le_of_lt (Nat.sub_le _ _) t.isLt)).2.2 := by
  rw [outsAt0_B m c t h0]
  frame_out
  rfl

end Cert.Kernel10Ideal.Value
-- ==== Proof.Prep.Block2.lean ====
/- One block of rows through the call between the projection and the attention: what it leaves in the block of the products' gradient. -/
module

public import proofs.«01_k».proof.Proof.Prep.Block

@[expose] public section

set_option maxRecDepth 16384

noncomputable section

open Idealize.ShloMosaic Idealize.ShloMosaic.TcCoe Idealize.SL.Sem

namespace Cert.Kernel10Ideal.Value

open Cert.Kernel10Ideal Cert.Kernel10Ideal.Gen Cert.Mlp Cert.Prep

section

variable (x0 : Vec Ideal S1024x1536 .f32) (x1 : Vec Ideal S1024x1024 .f32) (x2 x3 : Vec Ideal S1024x256 .f32) (x4 x5 : Vec Ideal S1x128 .f32)
  (x6 x7 : Vec Ideal S1024x128 .f32)

/-- A head of queries and a head of keys, as the kernel computes them. -/
def tileQ (o : ℕ) (h : ∀ a, (![0, o] : Fin 2 → ℕ) a + (![1024, 128] : Fin 2 → ℕ) a ≤ S1024x1024.size a)
    (h' : ∀ a, (![0, o] : Fin 2 → ℕ) a + (![1024, 128] : Fin 2 → ℕ) a ≤ S1024x1536.size a) : FVec Ideal S1024x128 .bf16 := headB x4 x6 x7 (colQ x1 o h) (colX x0 o h')
def tileK (o o' : ℕ) (h : ∀ a, (![0, o] : Fin 2 → ℕ) a + (![1024, 128] : Fin 2 → ℕ) a ≤ S1024x256.size a)
    (h' : ∀ a, (![0, o'] : Fin 2 → ℕ) a + (![1024, 128] : Fin 2 → ℕ) a ≤ S1024x1536.size a) : FVec Ideal S1024x128 .bf16 := headB x5 x6 x7 (colK x2 o h) (colX x0 o' h')

/-- What is stored in the block: the values, two heads of keys and eight of queries, the last store first. -/
def pieces : List (View.Piece (Elt Ideal) S1024x1536 .bf16) :=
  [⟨Rect.unit ![0, 1280] ![1024, 256] inb_S1024x1536_S1024x256_0_1280, k0_pay3 x3⟩,
    ⟨Rect.unit ![0, 1152] ![1024, 128] inb_S1024x1536_S1024x128_0_1152,
      tileK x0 x2 x5 x6 x7 128 1152 inb_S1024x256_S1024x128_0_128 inb_S1024x1536_S1024x128_0_1152⟩,
    ⟨Rect.unit ![0, 1024] ![1024, 128] inb_S1024x1536_S1024x128_0_1024,
      tileK x0 x2 x5 x6 x7 0 1024 inb_S1024x256_S1024x128_0_0 inb_S1024x1536_S1024x128_0_1024⟩,
    ⟨Rect.unit ![0, 896] ![1024, 128] inb_S1024x1536_S1024x128_0_896,
      tileQ x0 x1 x4 x6 x7 896 inb_S1024x1024_S1024x128_0_896 inb_S1024x1536_S1024x128_0_896⟩,
    ⟨Rect.unit ![0, 768] ![1024, 128] inb_S1024x1536_S1024x128_0_768,
      tileQ x0 x1 x4 x6 x7 768 inb_S1024x1024_S1024x128_0_768 inb_S1024x1536_S1024x128_0_768⟩,
    ⟨Rect.unit ![0, 640] ![1024, 128] inb_S1024x1536_S1024x128_0_640,
      tileQ x0 x1 x4 x6 x7 640 inb_S1024x1024_S1024x128_0_640 inb_S1024x1536_S1024x128_0_640⟩,
    ⟨Rect.unit ![0, 512] ![1024, 128] inb_S1024x1536_S1024x128_0_512,
      tileQ x0 x1 x4 x6 x7 512 inb_S1024x1024_S1024x128_0_512 inb_S1024x1536_S1024x128_0_512⟩,
    ⟨Rect.unit ![0, 384] ![1024, 128] inb_S1024x1536_S1024x128_0_384,
      tileQ x0 x1 x4 x6 x7 384 inb_S1024x1024_S1024x128_0_384 inb_S1024x1536_S1024x128_0_384⟩,
    ⟨Rect.unit ![0, 256] ![1024, 128] inb_S1024x1536_S1024x128_0_256,
      tileQ x0 x1 x4 x6 x7 256 inb_S1024x1024_S1024x128_0_256 inb_S1024x1536_S1024x128_0_256⟩,
    ⟨Rect.unit ![0, 128] ![1024, 128] inb_S1024x1536_S1024x128_0_128,
      tileQ x0 x1 x4 x6 x7 128 inb_S1024x1024_S1024x128_0_128 inb_S1024x1536_S1024x128_0_128⟩,
    ⟨Rect.unit ![0, 0] ![1024, 128] inb_S1024x1536_S1024x128_0_0,
      tileQ x0 x1 x4 x6 x7 0 inb_S1024x1024_S1024x128_0_0 inb_S1024x1536_S1024x128_0_0⟩]

end

variable {x0 : Vec Ideal S1024x1536 .f32} {x1 : Vec Ideal S1024x1024 .f32} {x2 x3 : Vec Ideal S1024x256 .f32} {x4 x5 : Vec Ideal S1x128 .f32}
  {x6 x7 : Vec Ideal S1024x128 .f32} {C S X : ℕ → ℕ → EReal} {G K : ℕ → EReal} {DQ DK DV : ℕ → ℕ → EReal}

theorem values_at (R : Rows x0 x1 x2 x3 x4 x5 x6 x7 C S X G K DQ DK DV) (i : Fin 1024) (q : Fin 256) {f : ℕ} (hf : f = 1280 + q.val) :
    k0_pay3 x3 (ix2 i q) = dz C S X G K DQ DK DV i.val f := by
  have := q.isLt
  unfold dz
  rw [if_neg (by omega), if_neg (by omega), show f - 1280 = q.val by omega]
  unfold k0_pay3
  pointwise
  exact R.dv i q

theorem pieces_cover (y : S1024x1536.Idx) : ∃ p ∈ pieces x0 x1 x2 x3 x4 x5 x6 x7, y ∈ p.1.set :=
  View.cover_of_tiledBy (pieces x0 x1 x2 x3 x4 x5 x6 x7) ![1024, 128] (by sl_kernel_rfl) y

theorem pieces_at (R : Rows x0 x1 x2 x3 x4 x5 x6 x7 C S X G K DQ DK DV) (i : Fin 1024) (f : Fin 1536) :
    View.canon (pieces x0 x1 x2 x3 x4 x5 x6 x7) (ix2 i f) = dz C S X G K DQ DK DV i.val f.val := by
  have cover := pieces_cover (x0 := x0) (x1 := x1) (x2 := x2) (x3 := x3) (x4 := x4) (x5 := x5) (x6 := x6) (x7 := x7) (ix2 i f)
  unfold pieces at cover ⊢
  canon_tiles x e using cover
  all_goals
    first
    | obtain ⟨a, b, rfl⟩ : ∃ (a : Fin 1024) (b : Fin 128), x = (ix2 a b : S1024x128.Idx) := ⟨x 0, x 1, eq_ix2 x⟩
    | obtain ⟨a, b, rfl⟩ : ∃ (a : Fin 1024) (b : Fin 256), x = (ix2 a b : S1024x256.Idx) := ⟨x 0, x 1, eq_ix2 x⟩
    have hf := e1
    obtain rfl : i = a := Fin.ext e0
  · exact values_at R i b hf
  · exact dzK_at R 1 (by decide) 128 1152 rfl rfl _ _ i b hf
  · exact dzK_at R 0 (by decide) 0 1024 rfl rfl _ _ i b hf
  · exact dzQ_at R 7 (by decide) 896 rfl _ _ i b hf
  · exact dzQ_at R 6 (by decide) 768 rfl _ _ i b hf
  · exact dzQ_at R 5 (by decide) 640 rfl _ _ i b hf
  · exact dzQ_at R 4 (by decide) 512 rfl _ _ i b hf
  · exact dzQ_at R 3 (by decide) 384 rfl _ _ i b hf
  · exact dzQ_at R 2 (by decide) 256 rfl _ _ i b hf
  · exact dzQ_at R 1 (by decide) 128 rfl _ _ i b hf
  · exact dzQ_at R 0 (by decide) 0 rfl _ _ i b (hf.trans (Nat.zero_add _).symm)

variable (m : (ℓ : Loc nD τ sig) → Buf (Elt Ideal) ℓ) (c : Dev nD)

theorem dz_outs (t : Fin cfg0.N)
    (R : Rows (iblk m c 0 t) (iblk m c 1 t) (iblk m c 2 t) (iblk m c 3 t) (iblk m c 4 t) (iblk m c 5 t) (iblk m c 6 t) (iblk m c 7 t)
      C S X G K DQ DK DV) (i : Fin 1024) (f : Fin 1536) :
    (outsAt0 (F := Ideal) m c t.val t.isLt).1 (ix2 i f) = dz C S X G K DQ DK DV i.val f.val := by
  refine Eq.trans ?_ (pieces_at R i f)
  refine congrFun ?_ (ix2 i f)
  by_cases hc : t.val % 4 = 0
  · rw [outsAt0_A m c t hc]
    frame_out
    rfl
  · rw [outsAt0_B m c t hc]
    frame_out
    rfl

end Cert.Kernel10Ideal.Value
-- ==== Proof.Prep.Rows.lean ====
/- The rows between the projection and the attention in blocks, in the kernel's order. -/
module

public import proofs.«01_k».proof.Proof.Prep.Prep

@[expose] public section

noncomputable section

namespace Cert.Prep

open Finset Idealize.ShloMosaic Cert.Mlp

/-- The angles repeat from one sequence to the next. -/
theorem nat_mod (p : ℕ) : nat (p % 2048) % 2048 = nat p % 2048 := by
  obtain ⟨a, b, c, hb, hc, rfl⟩ : ∃ a b c, b < 8 ∧ c < 256 ∧ p = a * 2048 + c * 8 + b :=
    ⟨p / 2048, p % 8, p % 2048 / 8, by omega, by omega, by omega⟩
  rw [show (a * 2048 + c * 8 + b) % 2048 = 0 * 2048 + c * 8 + b by omega, nat_of hb hc, nat_of hb hc]
  omega
theorem cosT_mod {p r : ℕ} (h : p % 2048 = r % 2048) (q : ℕ) : cosT p q = cosT r q := by unfold cosT; rw [h]
theorem sinT_mod {p r : ℕ} (h : p % 2048 = r % 2048) (q : ℕ) : sinT p q = sinT r q := by unfold sinT; rw [h]
theorem sgnT_mod {p r : ℕ} (h : p % 2048 = r % 2048) (q : ℕ) : sgnT p q = sgnT r q := by unfold sgnT; rw [sinT_mod h]

/-- What `n` heads of all rows add up to. -/
def gains (g : ℕ → ℕ → ℕ → EReal) (n q : ℕ) : EReal := ∑ h ∈ Finset.range n, ∑ p : Fin 4096, g p.val h q

/-- The same by blocks of rows in the kernel's order. -/
theorem gains_blocks (g : ℕ → ℕ → ℕ → EReal) (n q : ℕ) :
    ∑ u ∈ Finset.range 4, ∑ h ∈ Finset.range n, ∑ i : Fin 1024, g (nat (u * 1024 + i.val)) h q = gains g n q := by
  rw [Finset.sum_comm]
  exact Finset.sum_congr rfl fun h _ => (sum_runs4 fun p => g (nat p) h q).symm.trans (sum_nat fun p => g p h q)

end Cert.Prep
-- ==== Proof.Prep.Array.lean ====
/- What the call between the projection and the attention leaves in its output arrays. A grid point takes 1024 rows. -/
module

public import proofs.«01_k».proof.Proof.Prep.Block2
public import proofs.«01_k».proof.Proof.Prep.Rows

@[expose] public section

set_option maxRecDepth 16384

noncomputable section

open Idealize.ShloMosaic Idealize.ShloMosaic.TcCoe Idealize.SL.Sem
open Idealize.ShloMosaic.Pipeline (Dat)

namespace Cert.Kernel10Ideal.Value

open Cert.Kernel10Ideal Cert.Kernel10Ideal.Gen Cert.Mlp Cert.Prep

/-- The block of rows and columns each window is at. -/
theorem idx0 : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val % 2, 0]
    ∧ win0_7.index t = ![t.val % 2, 0] ∧ win0_8.index t = ![t.val, 0] ∧ win0_9.index t = ![0, 0] ∧ win0_10.index t = ![0, 0] :=
  (by decide +kernel : ∀ t : Fin grid0.N, _)

/-- The rows of the `t`-th block, in the order the kernel has them. -/
def rows (M : ℕ → ℕ → EReal) (t : ℕ) : ℕ → ℕ → EReal := fun p q => M (nat (t * 1024 + p)) q

variable {m : (ℓ : Loc nD τ sig) → Buf (Elt Ideal) ℓ} {c : Dev nD}
variable {X DQ DK DV : ℕ → ℕ → EReal} {G K : ℕ → EReal}

variable (m c X DQ DK DV G K) in
/-- The arrays the kernel reads. -/
structure Holds : Prop where
  x : ∃ A : Vec Ideal S4096x1536 .f32, V m c main_v43 = A ∧ ∀ i, A i = X (nat (i 0).val) (i 1).val
  dq : ∃ A : Vec Ideal S4096x1024 .f32, V m c main_v48 = A ∧ ∀ i, A i = DQ (nat (i 0).val) (i 1).val
  dk : ∃ A : Vec Ideal S4096x256 .f32, V m c main_v53 = A ∧ ∀ i, A i = DK (nat (i 0).val) (i 1).val
  dv : ∃ A : Vec Ideal S4096x256 .f32, V m c main_v58 = A ∧ ∀ i, A i = DV (nat (i 0).val) (i 1).val
  g : ∃ A : Vec Ideal S1x128 .f32, V m c main_v59 = A ∧ ∀ i, A i = G (i 1).val
  k : ∃ A : Vec Ideal S1x128 .f32, V m c main_v60 = A ∧ ∀ i, A i = K (i 1).val
  cs : ∃ A : Vec Ideal S2048x128 .f32, V m c main_v35 = A ∧ ∀ i, A i = cosT (nat (i 0).val) (i 1).val
  sn : ∃ A : Vec Ideal S2048x128 .f32, V m c main_v38 = A ∧ ∀ i, A i = sgnT (nat (i 0).val) (i 1).val

variable (H : Holds m c X DQ DK DV G K) (t : Fin cfg0.N)
include H

omit H in
/-- An element of the rows of a block, from its place in the whole array. -/
theorem at_rows (M : ℕ → ℕ → EReal) {p t i q f : ℕ} (hp : p = t * 1024 + i) (hq : q = f) : M (nat p) q = rows M t i f := by
  subst hp hq
  rfl

omit H in
/-- The same of a table whose rows repeat from sequence to sequence. -/
theorem at_table {M : ℕ → ℕ → EReal} (hM : ∀ {p r : ℕ}, p % 2048 = r % 2048 → ∀ q, M p q = M r q) {p t i q f : ℕ}
    (hp : p = t % 2 * 1024 + i) (hq : q = f) : M (nat p) q = rows M t i f := by
  subst hp hq
  refine hM ?_ _
  rw [← nat_mod (t % 2 * 1024 + i), ← nat_mod (t * 1024 + i), show (t % 2 * 1024 + i) % 2048 = (t * 1024 + i) % 2048 by omega]

omit H in
/-- A block of a window is read from the array of the window. -/
theorem blk_of (w : Fin cfg0.W) (y) {A} (h : V m c (Pipeline.arrRef spec0 w) = A) :
    iblk m c w t y = ((cfg0.win w).blk t).view.read (Elt Ideal) A y := congrFun (congrArg _ h) y

/-- The blocks of a grid point. -/
theorem blk_x (i : Fin 1024) (f : Fin 1536) : (iblk m c 0 t : Vec Ideal S1024x1536 .f32) (ix2 i f) = rows X t.val i.val f.val := by
  obtain ⟨A, e, h⟩ := H.x
  refine (blk_of t 0 (ix2 i f) e).trans ((h _).trans ?_)
  refine at_rows X ?_ ?_ <;> blk_simp [idx0 t]
theorem blk_dq (i : Fin 1024) (f : Fin 1024) : (iblk m c 1 t : Vec Ideal S1024x1024 .f32) (ix2 i f) = rows DQ t.val i.val f.val := by
  obtain ⟨A, e, h⟩ := H.dq
  refine (blk_of t 1 (ix2 i f) e).trans ((h _).trans ?_)
  refine at_rows DQ ?_ ?_ <;> blk_simp [idx0 t]
theorem blk_dk (i : Fin 1024) (f : Fin 256) : (iblk m c 2 t : Vec Ideal S1024x256 .f32) (ix2 i f) = rows DK t.val i.val f.val := by
  obtain ⟨A, e, h⟩ := H.dk
  refine (blk_of t 2 (ix2 i f) e).trans ((h _).trans ?_)
  refine at_rows DK ?_ ?_ <;> blk_simp [idx0 t]
theorem blk_dv (i : Fin 1024) (f : Fin 256) : (iblk m c 3 t : Vec Ideal S1024x256 .f32) (ix2 i f) = rows DV t.val i.val f.val := by
  obtain ⟨A, e, h⟩ := H.dv
  refine (blk_of t 3 (ix2 i f) e).trans ((h _).trans ?_)
  refine at_rows DV ?_ ?_ <;> blk_simp [idx0 t]
theorem blk_g (q : Fin 128) : (iblk m c 4 t : Vec Ideal S1x128 .f32) (ix2 0 q) = G q.val := by
  obtain ⟨A, e, h⟩ := H.g
  refine (blk_of t 4 (ix2 0 q) e).trans ((h _).trans ?_)
  refine congrArg G ?_
  blk_simp [idx0 t]
theorem blk_k (q : Fin 128) : (iblk m c 5 t : Vec Ideal S1x128 .f32) (ix2 0 q) = K q.val := by
  obtain ⟨A, e, h⟩ := H.k
  refine (blk_of t 5 (ix2 0 q) e).trans ((h _).trans ?_)
  refine congrArg K ?_
  blk_simp [idx0 t]
theorem blk_cs (i : Fin 1024) (q : Fin 128) : (iblk m c 6 t : Vec Ideal S1024x128 .f32) (ix2 i q) = rows cosT t.val i.val q.val := by
  obtain ⟨A, e, h⟩ := H.cs
  refine (blk_of t 6 (ix2 i q) e).trans ((h _).trans ?_)
  refine at_table cosT_mod ?_ ?_ <;> blk_simp [idx0 t]
theorem blk_sn (i : Fin 1024) (q : Fin 128) : (iblk m c 7 t : Vec Ideal S1024x128 .f32) (ix2 i q) = rows sgnT t.val i.val q.val := by
  obtain ⟨A, e, h⟩ := H.sn
  refine (blk_of t 7 (ix2 i q) e).trans ((h _).trans ?_)
  refine at_table sgnT_mod ?_ ?_ <;> blk_simp [idx0 t]

theorem blocks : Rows (iblk m c 0 t) (iblk m c 1 t) (iblk m c 2 t) (iblk m c 3 t) (iblk m c 4 t) (iblk m c 5 t) (iblk m c 6 t) (iblk m c 7 t)
    (rows cosT t.val) (rows sgnT t.val) (rows X t.val) G K (rows DQ t.val) (rows DK t.val) (rows DV t.val) :=
  ⟨blk_x H t, blk_dq H t, blk_dk H t, blk_dv H t, blk_g H t, blk_k H t, blk_cs H t, blk_sn H t⟩

omit t in
/-- The gradient of the products. -/
theorem dz_final : (dats (F := Ideal) m 0 c).arrAt 8 cfg0.N
    = (fun i => dz cosT sgnT X G K DQ DK DV (nat (i 0).val) (i 1).val : Vec Ideal S4096x1536 .bf16) := by
  refine (dats m 0 c).arrAt_eq_of_covers 8 _ (by decide +kernel) fun t hf y => ?_
  blk_simp
  rw [after0_8]
  obtain ⟨i, q, rfl⟩ : ∃ (i : Fin 1024) (q : Fin 1536), y = (ix2 i q : S1024x1536.Idx) := ⟨y 0, y 1, eq_ix2 y⟩
  refine (dz_outs m c t (blocks H t) i q).trans ?_
  refine (show _ = dz cosT sgnT X G K DQ DK DV (nat (t.val * 1024 + i.val)) q.val from rfl).trans ?_
  refine congrArg₂ (fun p => dz cosT sgnT X G K DQ DK DV (nat p)) ?_ ?_ <;> blk_simp [idx0 t]

omit t in
/-- The blocks of the gains' gradients hold the sums over the rows so far. -/
theorem dq_acc (q : Fin 128) : ∀ (n : ℕ) (hn : n < cfg0.N), (outsAt0 (F := Ideal) m c n hn).2.1 (ix2 0 q)
    = ∑ u ∈ Finset.range (n + 1), ∑ h ∈ Finset.range 8, ∑ i : Fin 1024, gq cosT sgnT X DQ (nat (u * 1024 + i.val)) h q.val := by
  intro n
  induction n with
  | zero =>
    intro hn
    rw [dq_outs_A m c ⟨0, hn⟩ (Nat.zero_mod _), gainsQ_at (blocks H ⟨0, hn⟩), Finset.sum_range_one]
    unfold k0_pay4
    pointwise
    refine Finset.sum_congr rfl fun h _ => Finset.sum_congr rfl fun i _ => ?_
    refine (show _ = gq cosT sgnT X DQ (nat (0 * 1024 + i.val)) h q.val from rfl).trans ?_
    rw [zero_mul, zero_add]
  | succ n ih =>
    intro hn
    have hN : cfg0.N = 4 := N_0
    rw [dq_outs_B m c ⟨n + 1, hn⟩ (by simp only; omega), gainsQ_at (blocks H ⟨n + 1, hn⟩), Finset.sum_range_succ _ (n + 1)]
    exact congrArg (· + _) (ih (by omega))

omit t in
theorem dk_acc (q : Fin 128) : ∀ (n : ℕ) (hn : n < cfg0.N), (outsAt0 (F := Ideal) m c n hn).2.2 (ix2 0 q)
    = ∑ u ∈ Finset.range (n + 1), ∑ h ∈ Finset.range 2, ∑ i : Fin 1024, gk cosT sgnT X DK (nat (u * 1024 + i.val)) h q.val := by
  intro n
  induction n with
  | zero =>
    intro hn
    rw [dk_outs_A m c ⟨0, hn⟩ (Nat.zero_mod _), gainsK_at (blocks H ⟨0, hn⟩), Finset.sum_range_one]
    unfold k0_pay5
    pointwise
    refine Finset.sum_congr rfl fun h _ => Finset.sum_congr rfl fun i _ => ?_
    refine (show _ = gk cosT sgnT X DK (nat (0 * 1024 + i.val)) h q.val from rfl).trans ?_
    rw [zero_mul, zero_add]
  | succ n ih =>
    intro hn
    have hN : cfg0.N = 4 := N_0
    rw [dk_outs_B m c ⟨n + 1, hn⟩ (by simp only; omega), gainsK_at (blocks H ⟨n + 1, hn⟩), Finset.sum_range_succ _ (n + 1)]
    exact congrArg (· + _) (ih (by omega))

omit t in
/-- The gradient of the queries' gains. -/
theorem dqg_final : (dats (F := Ideal) m 0 c).arrAt 9 cfg0.N
    = (fun i => gains (gq cosT sgnT X DQ) 8 (i 1).val : Vec Ideal S1x128 .f32) := by
  refine (dats m 0 c).arrAt_eq_of_covers 9 _ (by decide +kernel) fun t hf y => ?_
  blk_simp
  have h3 := (flush0_9 t).mp hf
  rw [after0_9]
  obtain ⟨o, q, rfl⟩ : ∃ (o : Fin 1) (q : Fin 128), y = (ix2 o q : S1x128.Idx) := ⟨y 0, y 1, eq_ix2 y⟩
  obtain rfl : o = 0 := Subsingleton.elim _ _
  refine (dq_acc H q t.val t.isLt).trans ?_
  have hN : cfg0.N = 4 := N_0
  rw [show t.val + 1 = 4 by omega]
  refine (gains_blocks _ _ _).trans ?_
  refine congrArg (gains (gq cosT sgnT X DQ) 8) ?_
  blk_simp [idx0 t]

omit t in
/-- The gradient of the keys' gains. -/
theorem dkg_final : (dats (F := Ideal) m 0 c).arrAt 10 cfg0.N
    = (fun i => gains (gk cosT sgnT X DK) 2 (i 1).val : Vec Ideal S1x128 .f32) := by
  refine (dats m 0 c).arrAt_eq_of_covers 10 _ (by decide +kernel) fun t hf y => ?_
  blk_simp
  have h3 := (flush0_10 t).mp hf
  rw [after0_10]
  obtain ⟨o, q, rfl⟩ : ∃ (o : Fin 1) (q : Fin 128), y = (ix2 o q : S1x128.Idx) := ⟨y 0, y 1, eq_ix2 y⟩
  obtain rfl : o = 0 := Subsingleton.elim _ _
  refine (dk_acc H q t.val t.isLt).trans ?_
  have hN : cfg0.N = 4 := N_0
  rw [show t.val + 1 = 4 by omega]
  refine (gains_blocks _ _ _).trans ?_
  refine congrArg (gains (gk cosT sgnT X DK) 2) ?_
  blk_simp [idx0 t]

end Cert.Kernel10Ideal.Value

end
-- ==== Proof.Prep.Host.lean ====
/- The arrays the gradient of the norms and rotations reads, as the host operations before the call leave them. -/
module

public import proofs.«01_k».proof.Proof.Prep.Array

@[expose] public section

set_option maxRecDepth 16384

noncomputable section

namespace Cert.Kernel10Ideal.Value

open Idealize.ShloMosaic Idealize.ShloMosaic.TcCoe Idealize.SL.Sem
open Cert.Kernel10Ideal Cert.Kernel10Ideal.Gen

section
variable {F : FTy → Type} [FloatOps F]

/-- The numbers of the rows of a sequence, and a number for each of them. -/
abbrev places : IVec S2048 32 := iotaInDim S2048 32 0
abbrev each (n : BitVec 32) : IVec S2048 32 := broadcastInDim S2048 ![] bcast_S_S2048 (constantI S_ 32 n)

/-- The line of the grid a row is in: the quotient by 64, lowered where the signs differ and it is not whole. -/
def lines : IVec S2048 32 :=
  select (andi (cmpi .ne (signi places) (broadcastInDim S2048 ![] bcast_S_S2048 (signi (constantI S_ 32 64#32))))
      (cmpi .ne (Host.remsi places (each 64#32)) (each 0#32)))
    (subi (Host.divsi places (each 64#32)) (each 1#32)) (Host.divsi places (each 64#32))

/-- The divisor, one where it is zero. -/
abbrev divisor : IVec S_ 32 := select (cmpi .eq (constantI S_ 32 64#32) (constantI S_ 32 0#32)) (constantI S_ 32 1#32) (constantI S_ 32 64#32)

/-- The remainder by it, and the place in the line: the remainder, raised where the signs differ and it is not zero. -/
abbrev rest : IVec S2048 32 := Host.remsi places (broadcastInDim S2048 ![] bcast_S_S2048 divisor)
def columns : IVec S2048 32 :=
  select (andi (cmpi .ne (cmpi .slt rest (each 0#32)) (broadcastInDim S2048 ![] bcast_S_S2048 (cmpi .slt divisor (constantI S_ 32 0#32))))
      (cmpi .ne rest (each 0#32)))
    (addi rest (broadcastInDim S2048 ![] bcast_S_S2048 divisor)) rest

/-- The frequencies. -/
def freqs : FVec F S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))

/-- The angles of numbers of rows. -/
def angles (n : FVec F S2048 .f32) : FVec F S2048x32 .f32 :=
  mulf (broadcastInDim S2048x32 ![0, 1] bcast_S2048x1_S2048x32_0_1 (broadcastInDim S2048x1 ![0] bcast_S2048_S2048x1_0 n))
    (broadcastInDim S2048x32 ![0, 1] bcast_S1x32_S2048x32_0_1 (broadcastInDim S1x32 ![1] bcast_S32_S1x32_1 freqs))

/-- Four runs of columns, side by side. -/
def four (a b d e : FVec F S2048x32 .f32) : FVec F S2048x128 .f32 :=
  concatenate S2048x128 1 [⟨S2048x32, a⟩, ⟨S2048x32, b⟩, ⟨S2048x32, d⟩, ⟨S2048x32, e⟩] concatenates_S2048x32_S2048x32_S2048x32_S2048x32_S2048x128_d1

/-- A table in the kernel's order of rows. -/
def ordered (x : FVec F S2048x128 .f32) : FVec F S2048x128 .f32 :=
  shapeCast S2048x128 (transpose S256x8x128 [1, 0, 2] (shapeCast S8x256x128 x shapeCasts_S2048x128_S8x256x128)
    transposes_S8x256x128_S256x8x128_1_0_2) shapeCasts_S256x8x128_S2048x128

variable (m : (ℓ : Loc nD τ sig) → Buf (Elt F) ℓ) (c : Dev nD)

/-- The operations one run after another. -/
theorem after_join (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih (op.result W)

/-- The buffers after the quotients, and after the remainders. -/
abbrev V1 : Valuation τ sig (Elt F) := StableHlo.after (hostOps0 ++ hostOps0_1) fun b => m (c, b)
abbrev V2 : Valuation τ sig (Elt F) := StableHlo.after (hostOps0_2 ++ hostOps0_3) (V1 m c)

theorem stages (b : Ref sig .tc) : V m c b = StableHlo.after hostOps0_4 (V2 m c) (Proc.devRef .tc b) := by
  rw [V2, V1, ← after_join, ← after_join]
  rfl

theorem host_lines : (V1 m c (Proc.devRef .tc main_v1) : IVec S2048 32) = lines := by
  simp only [V1, hostOps0, hostOps0_1, List.cons_append, List.nil_append, StableHlo.TRef.toBuf, StableHlo.TRef.ofBuf, cast_eq, lines]
  after_results_simp <;> rfl

theorem host_places : (V1 m c (Proc.devRef .tc main_v0) : IVec S2048 32) = places := by
  simp only [V1, hostOps0, hostOps0_1, List.cons_append, List.nil_append, StableHlo.TRef.toBuf, StableHlo.TRef.ofBuf, cast_eq]
  after_results_simp <;> rfl

section
variable (W : Valuation τ sig (Elt F))

theorem after_columns (h : (W (Proc.devRef .tc main_v0) : IVec S2048 32) = places) :
    (StableHlo.after (hostOps0_2 ++ hostOps0_3) W (Proc.devRef .tc main_v3) : IVec S2048 32) = columns := by
  unfold columns rest
  rw [← h]
  simp only [hostOps0_2, hostOps0_3, main_call1_call0, List.cons_append, List.nil_append, StableHlo.TRef.toBuf, StableHlo.TRef.ofBuf, cast_eq]
  after_results_simp <;> rfl

theorem after_lines : (StableHlo.after (hostOps0_2 ++ hostOps0_3) W (Proc.devRef .tc main_v2) : FVec F S2048 .f32)
    = sitofp .f32 (W (Proc.devRef .tc main_v1) : IVec S2048 32) := by
  simp only [hostOps0_2, hostOps0_3, main_call1_call0, List.cons_append, List.nil_append, StableHlo.TRef.toBuf, StableHlo.TRef.ofBuf, cast_eq]
  after_results_simp <;> rfl

theorem after_cs {a b : FVec F S2048x32 .f32} (ha : a = angles (W (Proc.devRef .tc main_v2)))
    (hb : b = angles (sitofp .f32 (W (Proc.devRef .tc main_v3) : IVec S2048 32))) :
    (StableHlo.after hostOps0_4 W (Proc.devRef .tc main_v35) : FVec F S2048x128 .f32)
      = ordered (four (Host.cos a) (Host.cos a) (Host.cos b) (Host.cos b)) := by
  subst ha hb
  simp only [hostOps0_4, StableHlo.TRef.toBuf, StableHlo.TRef.ofBuf, cast_eq, ordered, four, angles, freqs]
  after_results_simp <;> rfl

theorem after_sn {a b : FVec F S2048x32 .f32} (ha : a = angles (W (Proc.devRef .tc main_v2)))
    (hb : b = angles (sitofp .f32 (W (Proc.devRef .tc main_v3) : IVec S2048 32))) :
    (StableHlo.after hostOps0_4 W (Proc.devRef .tc main_v38) : FVec F S2048x128 .f32)
      = ordered (four (Host.negf (Host.sin a)) (Host.sin a) (Host.negf (Host.sin b)) (Host.sin b)) := by
  subst ha hb
  simp only [hostOps0_4, StableHlo.TRef.toBuf, StableHlo.TRef.ofBuf, cast_eq, ordered, four, angles, freqs]
  after_results_simp <;> rfl

end

/-- The tables of cosines and of signed sines. -/
theorem host_cs : V m c main_v35 = ordered (four (Host.cos (angles (sitofp .f32 lines))) (Host.cos (angles (sitofp .f32 lines)))
    (Host.cos (angles (sitofp .f32 columns))) (Host.cos (angles (sitofp .f32 columns))) : FVec F S2048x128 .f32) := by
  rw [stages]
  exact after_cs (V2 m c) (congrArg angles ((after_lines _).trans (congrArg (sitofp .f32) (host_lines m c))).symm)
    (congrArg (fun n => angles (sitofp .f32 n)) (after_columns _ (host_places m c)).symm)

theorem host_sn : V m c main_v38 = ordered (four (Host.negf (Host.sin (angles (sitofp .f32 lines)))) (Host.sin (angles (sitofp .f32 lines)))
    (Host.negf (Host.sin (angles (sitofp .f32 columns)))) (Host.sin (angles (sitofp .f32 columns))) : FVec F S2048x128 .f32) := by
  rw [stages]
  exact after_sn (V2 m c) (congrArg angles ((after_lines _).trans (congrArg (sitofp .f32) (host_lines m c))).symm)
    (congrArg (fun n => angles (sitofp .f32 n)) (after_columns _ (host_places m c)).symm)

/-- The rows, in the kernel's order. -/
theorem host_x : V m c main_v43
    = (shapeCast S4096x1536 (shapeCast S2x2048x1536 (transpose S2x256x8x1536 [0, 2, 1, 3] (shapeCast S2x8x256x1536 (shapeCast S2x2048x1536
        (m ((c.tc : Thread nD τ).loc main_arg0) : FVec F S4096x1536 .f32) shapeCasts_S4096x1536_S2x2048x1536) shapeCasts_S2x2048x1536_S2x8x256x1536)
        transposes_S2x8x256x1536_S2x256x8x1536_0_2_1_3) shapeCasts_S2x256x8x1536_S2x2048x1536) shapeCasts_S2x2048x1536_S4096x1536 : FVec F S4096x1536 .f32) := by
  rw [stages]
  simp only [hostOps0_4, StableHlo.TRef.toBuf, StableHlo.TRef.ofBuf, cast_eq]
  after_results_simp <;> rfl

theorem host_dq : V m c main_v48
    = (shapeCast S4096x1024 (shapeCast S2x2048x1024 (transpose S2x256x8x1024 [0, 2, 1, 3] (shapeCast S2x8x256x1024 (shapeCast S2x2048x1024
        (m ((c.tc : Thread nD τ).loc main_arg3) : FVec F S4096x1024 .f32) shapeCasts_S4096x1024_S2x2048x1024) shapeCasts_S2x2048x1024_S2x8x256x1024)
        transposes_S2x8x256x1024_S2x256x8x1024_0_2_1_3) shapeCasts_S2x256x8x1024_S2x2048x1024) shapeCasts_S2x2048x1024_S4096x1024 : FVec F S4096x1024 .f32) := by
  rw [stages]
  simp only [hostOps0_4, StableHlo.TRef.toBuf, StableHlo.TRef.ofBuf, cast_eq]
  after_results_simp <;> rfl

theorem host_dk : V m c main_v53
    = (shapeCast S4096x256 (shapeCast S2x2048x256 (transpose S2x256x8x256 [0, 2, 1, 3] (shapeCast S2x8x256x256 (shapeCast S2x2048x256
        (m ((c.tc : Thread nD τ).loc main_arg4) : FVec F S4096x256 .f32) shapeCasts_S4096x256_S2x2048x256) shapeCasts_S2x2048x256_S2x8x256x256)
        transposes_S2x8x256x256_S2x256x8x256_0_2_1_3) shapeCasts_S2x256x8x256_S2x2048x256) shapeCasts_S2x2048x256_S4096x256 : FVec F S4096x256 .f32) := by
  rw [stages]
  simp only [hostOps0_4, StableHlo.TRef.toBuf, StableHlo.TRef.ofBuf, cast_eq]
  after_results_simp <;> rfl

theorem host_dv : V m c main_v58
    = (shapeCast S4096x256 (shapeCast S2x2048x256 (transpose S2x256x8x256 [0, 2, 1, 3] (shapeCast S2x8x256x256 (shapeCast S2x2048x256
        (m ((c.tc : Thread nD τ).loc main_arg5) : FVec F S4096x256 .f32) shapeCasts_S4096x256_S2x2048x256) shapeCasts_S2x2048x256_S2x8x256x256)
        transposes_S2x8x256x256_S2x256x8x256_0_2_1_3) shapeCasts_S2x256x8x256_S2x2048x256) shapeCasts_S2x2048x256_S4096x256 : FVec F S4096x256 .f32) := by
  rw [stages]
  simp only [hostOps0_4, StableHlo.TRef.toBuf, StableHlo.TRef.ofBuf, cast_eq]
  after_results_simp <;> rfl

/-- The gains as rows. -/
theorem host_g : V m c main_v59
    = (broadcastInDim S1x128 ![1] bcast_S128_S1x128_1 (m ((c.tc : Thread nD τ).loc main_arg1) : FVec F S128 .f32) : FVec F S1x128 .f32) := by
  rw [stages]
  simp only [hostOps0_4, StableHlo.TRef.toBuf, StableHlo.TRef.ofBuf, cast_eq]
  after_results_simp <;> rfl

theorem host_k : V m c main_v60
    = (broadcastInDim S1x128 ![1] bcast_S128_S1x128_1 (m ((c.tc : Thread nD τ).loc main_arg2) : FVec F S128 .f32) : FVec F S1x128 .f32) := by
  rw [stages]
  simp only [hostOps0_4, StableHlo.TRef.toBuf, StableHlo.TRef.ofBuf, cast_eq]
  after_results_simp <;> rfl

end

end Cert.Kernel10Ideal.Value

end
-- ==== Proof.Prep.Order.lean ====
/- The two orders of the rows, as the reshapes and the transposes have them. -/
module

public import proofs.«01_k».proof.Proof.Prep.Host

@[expose] public section

set_option maxRecDepth 16384

noncomputable section

namespace Cert.Prep

open Idealize.ShloMosaic Idealize.ShloMosaic.TcCoe

section
variable {w : ℕ} {α : Type} (x : (⟨2, ![4096, w]⟩ : Shape).Idx → α) {M : ℕ → ℕ → α} (hx : ∀ i, x i = M (i 0).val (i 1).val)
  (i : (⟨2, ![4096, w]⟩ : Shape).Idx)
  (h₁ : (⟨2, ![4096, w]⟩ : Shape).ShapeCasts ⟨3, ![2, 2048, w]⟩) (h₅ : (⟨3, ![2, 2048, w]⟩ : Shape).ShapeCasts ⟨2, ![4096, w]⟩)
include hx

/-- Rows put in the kernel's order: the row in place `p` is row `nat p`. -/
theorem to_kernel (h₂ : (⟨3, ![2, 2048, w]⟩ : Shape).ShapeCasts ⟨4, ![2, 8, 256, w]⟩)
    (h₃ : (⟨4, ![2, 8, 256, w]⟩ : Shape).Transposes [0, 2, 1, 3] ⟨4, ![2, 256, 8, w]⟩)
    (h₄ : (⟨4, ![2, 256, 8, w]⟩ : Shape).ShapeCasts ⟨3, ![2, 2048, w]⟩) :
    shapeCast _ (shapeCast _ (transpose _ [0, 2, 1, 3] (shapeCast _ (shapeCast _ x h₁) h₂) h₃) h₄) h₅ i = M (nat (i 0).val) (i 1).val := by
  have h0 : (i 0).val < 4096 := (i 0).isLt
  refine (shapeCast_apply _ h₅ i (ix3 ⟨(i 0).val / 2048, by omega⟩ ⟨(i 0).val % 2048, by omega⟩ (i 1)) (by
    rewrite [Shape.rowMajor_val_two, Shape.rowMajor_val_three]
    show ((i 0).val / 2048 * 2048 + (i 0).val % 2048) * w + (i 1).val = (i 0).val * w + (i 1).val
    rw [show (i 0).val / 2048 * 2048 + (i 0).val % 2048 = (i 0).val by omega])).trans ?_
  refine (shapeCast_apply _ h₄ _ (ix4 ⟨(i 0).val / 2048, by omega⟩ ⟨(i 0).val % 2048 / 8, by omega⟩ ⟨(i 0).val % 8, by omega⟩ (i 1)) (by
    rewrite [Shape.rowMajor_val_three, Shape.rowMajor_val_four]
    show (((i 0).val / 2048 * 256 + (i 0).val % 2048 / 8) * 8 + (i 0).val % 8) * w + (i 1).val
      = ((i 0).val / 2048 * 2048 + (i 0).val % 2048) * w + (i 1).val
    rw [show ((i 0).val / 2048 * 256 + (i 0).val % 2048 / 8) * 8 + (i 0).val % 8 = (i 0).val / 2048 * 2048 + (i 0).val % 2048 by omega])).trans ?_
  refine (transpose_apply [0, 2, 1, 3] _ h₃ _ (ix4 ⟨(i 0).val / 2048, by omega⟩ ⟨(i 0).val % 8, by omega⟩ ⟨(i 0).val % 2048 / 8, by omega⟩ (i 1))
    (fun b => match b with | ⟨0, _⟩ => rfl | ⟨1, _⟩ => rfl | ⟨2, _⟩ => rfl | ⟨3, _⟩ => rfl)).trans ?_
  refine (shapeCast_apply _ h₂ _ (ix3 ⟨(i 0).val / 2048, by omega⟩ ⟨(i 0).val % 8 * 256 + (i 0).val % 2048 / 8, by omega⟩ (i 1)) (by
    rewrite [Shape.rowMajor_val_three, Shape.rowMajor_val_four]
    show ((i 0).val / 2048 * 2048 + ((i 0).val % 8 * 256 + (i 0).val % 2048 / 8)) * w + (i 1).val
      = (((i 0).val / 2048 * 8 + (i 0).val % 8) * 256 + (i 0).val % 2048 / 8) * w + (i 1).val
    rw [show (i 0).val / 2048 * 2048 + ((i 0).val % 8 * 256 + (i 0).val % 2048 / 8)
      = ((i 0).val / 2048 * 8 + (i 0).val % 8) * 256 + (i 0).val % 2048 / 8 by omega])).trans ?_
  refine (shapeCast_apply _ h₁ _ (ix2 ⟨nat (i 0).val, nat_lt h0⟩ (i 1)) (by
    rewrite [Shape.rowMajor_val_two, Shape.rowMajor_val_three]
    show nat (i 0).val * w + (i 1).val = ((i 0).val / 2048 * 2048 + ((i 0).val % 8 * 256 + (i 0).val % 2048 / 8)) * w + (i 1).val
    rw [← Nat.add_assoc]
    rfl)).trans ?_
  exact hx _

/-- Rows put back: the row in place `p` is row `inter p`. -/
theorem from_kernel (h₂ : (⟨3, ![2, 2048, w]⟩ : Shape).ShapeCasts ⟨4, ![2, 256, 8, w]⟩)
    (h₃ : (⟨4, ![2, 256, 8, w]⟩ : Shape).Transposes [0, 2, 1, 3] ⟨4, ![2, 8, 256, w]⟩)
    (h₄ : (⟨4, ![2, 8, 256, w]⟩ : Shape).ShapeCasts ⟨3, ![2, 2048, w]⟩) :
    shapeCast _ (shapeCast _ (transpose _ [0, 2, 1, 3] (shapeCast _ (shapeCast _ x h₁) h₂) h₃) h₄) h₅ i = M (inter (i 0).val) (i 1).val := by
  have h0 : (i 0).val < 4096 := (i 0).isLt
  refine (shapeCast_apply _ h₅ i (ix3 ⟨(i 0).val / 2048, by omega⟩ ⟨(i 0).val % 2048, by omega⟩ (i 1)) (by
    rewrite [Shape.rowMajor_val_two, Shape.rowMajor_val_three]
    show ((i 0).val / 2048 * 2048 + (i 0).val % 2048) * w + (i 1).val = (i 0).val * w + (i 1).val
    rw [show (i 0).val / 2048 * 2048 + (i 0).val % 2048 = (i 0).val by omega])).trans ?_
  refine (shapeCast_apply _ h₄ _ (ix4 ⟨(i 0).val / 2048, by omega⟩ ⟨(i 0).val % 2048 / 256, by omega⟩ ⟨(i 0).val % 256, by omega⟩ (i 1)) (by
    rewrite [Shape.rowMajor_val_three, Shape.rowMajor_val_four]
    show (((i 0).val / 2048 * 8 + (i 0).val % 2048 / 256) * 256 + (i 0).val % 256) * w + (i 1).val
      = ((i 0).val / 2048 * 2048 + (i 0).val % 2048) * w + (i 1).val
    rw [show ((i 0).val / 2048 * 8 + (i 0).val % 2048 / 256) * 256 + (i 0).val % 256 = (i 0).val / 2048 * 2048 + (i 0).val % 2048 by omega])).trans ?_
  refine (transpose_apply [0, 2, 1, 3] _ h₃ _ (ix4 ⟨(i 0).val / 2048, by omega⟩ ⟨(i 0).val % 256, by omega⟩ ⟨(i 0).val % 2048 / 256, by omega⟩ (i 1))
    (fun b => match b with | ⟨0, _⟩ => rfl | ⟨1, _⟩ => rfl | ⟨2, _⟩ => rfl | ⟨3, _⟩ => rfl)).trans ?_
  refine (shapeCast_apply _ h₂ _ (ix3 ⟨(i 0).val / 2048, by omega⟩ ⟨(i 0).val % 256 * 8 + (i 0).val % 2048 / 256, by omega⟩ (i 1)) (by
    rewrite [Shape.rowMajor_val_three, Shape.rowMajor_val_four]
    show ((i 0).val / 2048 * 2048 + ((i 0).val % 256 * 8 + (i 0).val % 2048 / 256)) * w + (i 1).val
      = (((i 0).val / 2048 * 256 + (i 0).val % 256) * 8 + (i 0).val % 2048 / 256) * w + (i 1).val
    rw [show (i 0).val / 2048 * 2048 + ((i 0).val % 256 * 8 + (i 0).val % 2048 / 256)
      = ((i 0).val / 2048 * 256 + (i 0).val % 256) * 8 + (i 0).val % 2048 / 256 by omega])).trans ?_
  refine (shapeCast_apply _ h₁ _ (ix2 ⟨inter (i 0).val, inter_lt h0⟩ (i 1)) (by
    rewrite [Shape.rowMajor_val_two, Shape.rowMajor_val_three]
    show inter (i 0).val * w + (i 1).val = ((i 0).val / 2048 * 2048 + ((i 0).val % 256 * 8 + (i 0).val % 2048 / 256)) * w + (i 1).val
    rw [← Nat.add_assoc]
    rfl)).trans ?_
  exact hx _

end

end Cert.Prep

end
-- ==== Proof.Prep.Tables.lean ====
/- The tables of cosines and of signed sines, read at a row and a column. -/
module

public import proofs.«01_k».proof.Proof.Prep.Host

@[expose] public section

set_option maxRecDepth 16384

noncomputable section

namespace Cert.Kernel10Ideal.Value

open Idealize.ShloMosaic Idealize.ShloMosaic.TcCoe
open Cert.Kernel10Ideal Cert.Kernel10Ideal.Gen Cert.Prep

/-- The line and the place of each row. -/
theorem lines_all : ∀ t : Fin 2048, lines (fun a => match a with | ⟨0, _⟩ => t) = BitVec.ofNat 32 (t.val / 64) := by decide +kernel
theorem columns_all : ∀ t : Fin 2048, columns (fun a => match a with | ⟨0, _⟩ => t) = BitVec.ofNat 32 (t.val % 64) := by decide +kernel

theorem lines_at (i : S2048.Idx) : lines i = BitVec.ofNat 32 ((i 0).val / 64) :=
  (congrArg lines (funext fun a => match a with | ⟨0, _⟩ => rfl)).trans (lines_all (i 0))
theorem columns_at (i : S2048.Idx) : columns i = BitVec.ofNat 32 ((i 0).val % 64) :=
  (congrArg columns (funext fun a => match a with | ⟨0, _⟩ => rfl)).trans (columns_all (i 0))

/-- The frequencies. -/
theorem freqs_at (i : S32.Idx) : (freqs : FVec Ideal S32 .f32) i = freq (i 0).val := rfl

/-- The angle at a row and a pair of columns. -/
theorem angles_at (n : FVec Ideal S2048 .f32) {N : ℕ → EReal} (hn : ∀ i, n i = N (i 0).val) (i : S2048x32.Idx) :
    angles n i = N (i 0).val * freq (i 1).val := by
  have e₁ : (broadcastInDim S2048x32 ![0, 1] bcast_S2048x1_S2048x32_0_1 (broadcastInDim S2048x1 ![0] bcast_S2048_S2048x1_0 n) : FVec Ideal S2048x32 .f32) i
      = N (i 0).val :=
    (broadcastInDim_apply _ bcast_S2048x1_S2048x32_0_1 _ i (ix2 (i 0) 0) (fun a => match a with | ⟨0, _⟩ => rfl | ⟨1, _⟩ => rfl)).trans
      ((broadcastInDim_apply _ bcast_S2048_S2048x1_0 n _ (fun a => match a with | ⟨0, _⟩ => i 0) (fun a => match a with | ⟨0, _⟩ => rfl)).trans (hn _))
  have e₂ : (broadcastInDim S2048x32 ![0, 1] bcast_S1x32_S2048x32_0_1 (broadcastInDim S1x32 ![1] bcast_S32_S1x32_1 freqs) : FVec Ideal S2048x32 .f32) i
      = freq (i 1).val :=
    (broadcastInDim_apply _ bcast_S1x32_S2048x32_0_1 _ i (ix2 0 (i 1)) (fun a => match a with | ⟨0, _⟩ => rfl | ⟨1, _⟩ => rfl)).trans
      ((broadcastInDim_apply _ bcast_S32_S1x32_1 freqs _ (fun a => match a with | ⟨0, _⟩ => i 1) (fun a => match a with | ⟨0, _⟩ => rfl)).trans (freqs_at _))
  exact congrArg₂ (· * ·) e₁ e₂

/-- The angles by the line of the grid, and by the place in the line. -/
theorem line_at (i : S2048x32.Idx) : (angles (sitofp .f32 lines) : FVec Ideal S2048x32 .f32) i = num ((i 0).val / 64) * freq (i 1).val :=
  angles_at _ (N := fun l => num (l / 64)) (fun i => congrArg (FloatOps.sitofp (F := Ideal) .f32) (lines_at i)) i
theorem place_at (i : S2048x32.Idx) : (angles (sitofp .f32 columns) : FVec Ideal S2048x32 .f32) i = num ((i 0).val % 64) * freq (i 1).val :=
  angles_at _ (N := fun l => num (l % 64)) (fun i => congrArg (FloatOps.sitofp (F := Ideal) .f32) (columns_at i)) i

/-- A run of columns, read at a row and a column. -/
theorem four_at (a b d e : FVec Ideal S2048x32 .f32) (i : S2048x128.Idx) {r : EReal}
    (ha : ∀ h : (i 1).val < 32, a (ix2 (i 0) ⟨(i 1).val, h⟩) = r)
    (hb : ∀ (h : 32 ≤ (i 1).val) (h' : (i 1).val - 32 < 32), b (ix2 (i 0) ⟨(i 1).val - 32, h'⟩) = r)
    (hd : ∀ (h : 64 ≤ (i 1).val) (h' : (i 1).val - 64 < 32), d (ix2 (i 0) ⟨(i 1).val - 64, h'⟩) = r)
    (he : ∀ (h : 96 ≤ (i 1).val) (h' : (i 1).val - 96 < 32), e (ix2 (i 0) ⟨(i 1).val - 96, h'⟩) = r) : four a b d e i = r := by
  have hi : (i 1).val < 128 := (i 1).isLt
  unfold four
  by_cases c₁ : (i 1).val < 32
  · exact (concatenate_apply_piece 1 _ _ i 0 (by exact (by decide : 0 < 4)) S2048x32 a rfl rfl 0 rfl (ix2 (i 0) ⟨(i 1).val, c₁⟩)
      (fun b hb => match b, hb with | ⟨0, _⟩, _ => rfl | ⟨1, _⟩, hb => absurd (Fin.ext rfl) hb) (Nat.zero_add _)).trans (ha _)
  by_cases c₂ : (i 1).val < 64
  · exact (concatenate_apply_piece 1 _ _ i 1 (by exact (by decide : 1 < 4)) S2048x32 b rfl rfl 32 rfl (ix2 (i 0) ⟨(i 1).val - 32, by omega⟩)
      (fun b hb => match b, hb with | ⟨0, _⟩, _ => rfl | ⟨1, _⟩, hb => absurd (Fin.ext rfl) hb)
      (Nat.add_sub_cancel' (Nat.le_of_not_lt c₁))).trans (hb (by omega) _)
  by_cases c₃ : (i 1).val < 96
  · exact (concatenate_apply_piece 1 _ _ i 2 (by exact (by decide : 2 < 4)) S2048x32 d rfl rfl 64 rfl (ix2 (i 0) ⟨(i 1).val - 64, by omega⟩)
      (fun b hb => match b, hb with | ⟨0, _⟩, _ => rfl | ⟨1, _⟩, hb => absurd (Fin.ext rfl) hb)
      (Nat.add_sub_cancel' (Nat.le_of_not_lt c₂))).trans (hd (by omega) _)
  · exact (concatenate_apply_piece 1 _ _ i 3 (by exact (by decide : 3 < 4)) S2048x32 e rfl rfl 96 rfl (ix2 (i 0) ⟨(i 1).val - 96, by omega⟩)
      (fun b hb => match b, hb with | ⟨0, _⟩, _ => rfl | ⟨1, _⟩, hb => absurd (Fin.ext rfl) hb)
      (Nat.add_sub_cancel' (Nat.le_of_not_lt c₃))).trans (he (by omega) _)

/-- A table in the kernel's order of rows. -/
theorem ordered_at (x : FVec Ideal S2048x128 .f32) (i : S2048x128.Idx) (h : nat (i 0).val < 2048) :
    ordered x i = x (ix2 ⟨nat (i 0).val, h⟩ (i 1)) := by
  have h0 : (i 0).val < 2048 := (i 0).isLt
  unfold ordered
  refine (shapeCast_apply _ shapeCasts_S256x8x128_S2048x128 i (ix3 ⟨(i 0).val / 8, by omega⟩ ⟨(i 0).val % 8, by omega⟩ (i 1)) (by
    rewrite [Shape.rowMajor_val_two, Shape.rowMajor_val_three]
    show ((i 0).val / 8 * 8 + (i 0).val % 8) * 128 + (i 1).val = (i 0).val * 128 + (i 1).val
    omega)).trans ?_
  refine (transpose_apply [1, 0, 2] _ transposes_S8x256x128_S256x8x128_1_0_2 _ (ix3 ⟨(i 0).val % 8, by omega⟩ ⟨(i 0).val / 8, by omega⟩ (i 1))
    (fun b => match b with | ⟨0, _⟩ => rfl | ⟨1, _⟩ => rfl | ⟨2, _⟩ => rfl)).trans ?_
  exact shapeCast_apply _ shapeCasts_S2048x128_S8x256x128 _ _ (by
    rewrite [Shape.rowMajor_val_two, Shape.rowMajor_val_three]
    show nat (i 0).val * 128 + (i 1).val = ((i 0).val % 8 * 256 + (i 0).val / 8) * 128 + (i 1).val
    unfold nat
    omega)

theorem nat_row {p : ℕ} (h : p < 2048) : nat p < 2048 := by unfold nat; omega

/-- The cosines and the signed sines by the line and by the place, at the columns of each. -/
theorem angle_line {l q : ℕ} (hl : l < 2048) (hq : q < 64) : num (l / 64) * freq (q % 32) = angle (l % 2048) q := by
  unfold angle
  rw [if_pos hq, Nat.mod_eq_of_lt hl]
theorem angle_place {l q : ℕ} (hl : l < 2048) (hq : ¬q < 64) : num (l % 64) * freq (q % 32) = angle (l % 2048) q := by
  unfold angle
  rw [if_neg hq, Nat.mod_eq_of_lt hl]

/-- A table of two functions of the angles, the first at the first half of the columns that go by the line and of those that go by the place. -/
theorem table_at (f g : EReal → EReal) (a b d e : FVec Ideal S2048x32 .f32)
    (ha : ∀ i, a i = f ((angles (sitofp .f32 lines) : FVec Ideal S2048x32 .f32) i))
    (hb : ∀ i, b i = g ((angles (sitofp .f32 lines) : FVec Ideal S2048x32 .f32) i))
    (hd : ∀ i, d i = f ((angles (sitofp .f32 columns) : FVec Ideal S2048x32 .f32) i))
    (he : ∀ i, e i = g ((angles (sitofp .f32 columns) : FVec Ideal S2048x32 .f32) i)) (i : S2048x128.Idx) :
    ordered (four a b d e) i = if (i 1).val % 64 < 32 then f (angle (nat (i 0).val % 2048) (i 1).val) else g (angle (nat (i 0).val % 2048) (i 1).val) := by
  have hl := nat_row (i 0).isLt
  refine (ordered_at _ i hl).trans ?_
  have at_line {n : ℕ} (hn : n < 32) (h : (i 1).val < 64) (e : n = (i 1).val % 32) :
      (angles (sitofp .f32 lines) : FVec Ideal S2048x32 .f32) (ix2 ⟨nat (i 0).val, hl⟩ ⟨n, hn⟩) = angle (nat (i 0).val % 2048) (i 1).val := by
    refine (line_at _).trans ?_
    subst e
    exact angle_line hl h
  have at_place {n : ℕ} (hn : n < 32) (h : ¬(i 1).val < 64) (e : n = (i 1).val % 32) :
      (angles (sitofp .f32 columns) : FVec Ideal S2048x32 .f32) (ix2 ⟨nat (i 0).val, hl⟩ ⟨n, hn⟩) = angle (nat (i 0).val % 2048) (i 1).val := by
    refine (place_at _).trans ?_
    subst e
    exact angle_place hl h
  refine four_at _ _ _ _ _ (fun h => ?_) (fun h h' => ?_) (fun h h' => ?_) (fun h h' => ?_)
  · change (i 1).val < 32 at h
    rw [if_pos (by omega), ha]
    exact congrArg f (at_line _ (by omega) (by show (i 1).val = _; omega))
  · change 32 ≤ (i 1).val at h
    change (i 1).val - 32 < 32 at h'
    rw [if_neg (by omega), hb]
    exact congrArg g (at_line _ (by omega) (by show (i 1).val - 32 = _; omega))
  · change 64 ≤ (i 1).val at h
    change (i 1).val - 64 < 32 at h'
    rw [if_pos (by omega), hd]
    exact congrArg f (at_place _ (by omega) (by show (i 1).val - 64 = _; omega))
  · change 96 ≤ (i 1).val at h
    change (i 1).val - 96 < 32 at h'
    rw [if_neg (by omega), he]
    exact congrArg g (at_place _ (by omega) (by show (i 1).val - 96 = _; omega))

/-- The table of cosines. -/
theorem cs_at (i : S2048x128.Idx) : (ordered (four (Host.cos (angles (sitofp .f32 lines))) (Host.cos (angles (sitofp .f32 lines)))
    (Host.cos (angles (sitofp .f32 columns))) (Host.cos (angles (sitofp .f32 columns)))) : FVec Ideal S2048x128 .f32) i
      = cosT (nat (i 0).val) (i 1).val :=
  (table_at (FloatOps.cos (F := Ideal) (φ := .f32)) (FloatOps.cos (F := Ideal) (φ := .f32)) _ _ _ _ (fun _ => rfl) (fun _ => rfl) (fun _ => rfl)
    (fun _ => rfl) i).trans (ite_self _)

/-- The table of signed sines. -/
theorem sn_at (i : S2048x128.Idx) : (ordered (four (Host.negf (Host.sin (angles (sitofp .f32 lines)))) (Host.sin (angles (sitofp .f32 lines)))
    (Host.negf (Host.sin (angles (sitofp .f32 columns)))) (Host.sin (angles (sitofp .f32 columns)))) : FVec Ideal S2048x128 .f32) i
      = sgnT (nat (i 0).val) (i 1).val :=
  table_at (fun x => -FloatOps.sin (F := Ideal) (φ := .f32) x) (FloatOps.sin (F := Ideal) (φ := .f32)) _ _ _ _ (fun _ => rfl) (fun _ => rfl)
    (fun _ => rfl) (fun _ => rfl) i

end Cert.Kernel10Ideal.Value

end
-- ==== Proof.Prep.Run.lean ====
/- The run of the gradient of the norms and rotations, naming what its three results end with. -/
module

public import proofs.«01_k».proof.Proof.Prep.Order
public import proofs.«01_k».proof.Proof.Prep.Tables

@[expose] public section

set_option maxRecDepth 16384

noncomputable section

namespace Cert.Kernel10Ideal.Value

open Idealize.ShloMosaic Idealize.ShloMosaic.TcCoe Idealize.SL.Sem
open Idealize.ShloMosaic.Pipeline (Dat)
open Cert.Kernel10Ideal Cert.Kernel10Ideal.Gen

section
variable {F : FTy → Type} [FloatOps F]
variable (m : (ℓ : Loc nD τ sig) → Buf (Elt F) ℓ) (ρ : Dev nD → PrngReg)

/-- What a buffer holds at the end: what the host operations after the call make of the call's arrays. -/
abbrev atEnd (c : Dev nD) (b : Ref sig .tc) : Buf (Elt F) ((c.tc : Thread nD τ).loc b) :=
  Pipeline.afterTail₀ cfgs (dats m) 0 (V0 m) [hostOps1] c b

/-- From any memory with zero counters every weakly fair execution terminates with the results at `atEnd` and the arguments as
    launched. -/
theorem run : θ_run defs (onTc (τ := τ) (main (F := F))) ⟨m, fun _ => 0, ρ⟩ (fun r => ∀ c : Dev nD,
      (r.2.mem ((c.tc : Thread nD τ).loc main_v66) = atEnd m c main_v66
      ∧ r.2.mem ((c.tc : Thread nD τ).loc main_v67) = atEnd m c main_v67
      ∧ r.2.mem ((c.tc : Thread nD τ).loc main_v68) = atEnd m c main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨⟨(h.1 c).2 main_v66 (Pipeline.mem_restRefs_of main_v66 (by decide) (by decide)),
      (h.1 c).2 main_v67 (Pipeline.mem_restRefs_of main_v67 (by decide) (by decide)),
      (h.1 c).2 main_v68 (Pipeline.mem_restRefs_of main_v68 (by decide) (by decide))⟩, h.2 c⟩)
    (θ_run_and (run_main m ρ) (unchanged m ρ))

variable (c : Dev nD)

/-- The buffers after the call. -/
abbrev exits : Valuation τ sig (Elt F) := Pipeline.withArrays spec0 c (V0 m c) fun w => (dats m 0 c).arrAt w cfg0.N

/-- Each array of the call holds what the call leaves in it. -/
theorem exits_arr (w : Fin cfg0.W) : exits m c (Proc.devRef .tc (Pipeline.arrRef spec0 w)) = (dats m 0 c).arrAt w cfg0.N :=
  Pipeline.withArrays_arr spec0 launch0.win.arr_inj c _ _ w

section
variable (W : Valuation τ sig (Elt F))

/-- The gradient of the products, its rows put back in their order. -/
theorem after_dz {A : FVec F S4096x1536 .bf16} (h : W (Proc.devRef .tc main_v61_0) = A) :
    StableHlo.after hostOps1 W (Proc.devRef .tc main_v66)
    = (shapeCast S4096x1536 (shapeCast S2x2048x1536 (transpose S2x8x256x1536 [0, 2, 1, 3] (shapeCast S2x256x8x1536 (shapeCast S2x2048x1536
        A shapeCasts_S4096x1536_S2x2048x1536) shapeCasts_S2x2048x1536_S2x256x8x1536)
        transposes_S2x256x8x1536_S2x8x256x1536_0_2_1_3) shapeCasts_S2x8x256x1536_S2x2048x1536) shapeCasts_S2x2048x1536_S4096x1536
        : FVec F S4096x1536 .bf16) := by
  subst h
  simp only [hostOps1, StableHlo.TRef.toBuf, StableHlo.TRef.ofBuf, cast_eq]
  after_results_simp <;> rfl

/-- The gradients of the gains, as vectors. -/
theorem after_dq {A : FVec F S1x128 .f32} (h : W (Proc.devRef .tc main_v61_1) = A) :
    StableHlo.after hostOps1 W (Proc.devRef .tc main_v67) = (shapeCast S128 A shapeCasts_S1x128_S128 : FVec F S128 .f32) := by
  subst h
  simp only [hostOps1, StableHlo.TRef.toBuf, StableHlo.TRef.ofBuf, cast_eq]
  after_results_simp <;> rfl
theorem after_dk {A : FVec F S1x128 .f32} (h : W (Proc.devRef .tc main_v61_2) = A) :
    StableHlo.after hostOps1 W (Proc.devRef .tc main_v68) = (shapeCast S128 A shapeCasts_S1x128_S128 : FVec F S128 .f32) := by
  subst h
  simp only [hostOps1, StableHlo.TRef.toBuf, StableHlo.TRef.ofBuf, cast_eq]
  after_results_simp <;> rfl

end

end

section
open Cert.Mlp Cert.Prep
variable (m : (ℓ : Loc nD τ sig) → Buf (Elt Ideal) ℓ)
variable (X DQ DK DV : ℕ → ℕ → EReal) (G K : ℕ → EReal) (c : Dev nD)

/-- The numbers the arguments hold. -/
structure Args : Prop where
  x : ∀ i, (m ((c.tc : Thread nD τ).loc main_arg0) : FVec Ideal S4096x1536 .f32) i = X (i 0).val (i 1).val
  g : ∀ i, (m ((c.tc : Thread nD τ).loc main_arg1) : FVec Ideal S128 .f32) i = G (i 0).val
  k : ∀ i, (m ((c.tc : Thread nD τ).loc main_arg2) : FVec Ideal S128 .f32) i = K (i 0).val
  dq : ∀ i, (m ((c.tc : Thread nD τ).loc main_arg3) : FVec Ideal S4096x1024 .f32) i = DQ (i 0).val (i 1).val
  dk : ∀ i, (m ((c.tc : Thread nD τ).loc main_arg4) : FVec Ideal S4096x256 .f32) i = DK (i 0).val (i 1).val
  dv : ∀ i, (m ((c.tc : Thread nD τ).loc main_arg5) : FVec Ideal S4096x256 .f32) i = DV (i 0).val (i 1).val

variable {m X DQ DK DV G K c}

/-- Gains read as a row. -/
theorem row_at {G : ℕ → EReal} {y : FVec Ideal S128 .f32} (h : ∀ i, y i = G (i 0).val) (i : S1x128.Idx) :
    (broadcastInDim S1x128 ![1] bcast_S128_S1x128_1 y : FVec Ideal S1x128 .f32) i = G (i 1).val :=
  (broadcastInDim_apply _ bcast_S128_S1x128_1 y i (fun a => match a with | ⟨0, _⟩ => ⟨(i 1).val, (i 1).isLt⟩) (fun a => match a with
    | ⟨0, _⟩ => rfl)).trans (h _)

/-- A row read as gains. -/
theorem gains_at {M : ℕ → EReal} {y : FVec Ideal S1x128 .f32} (h : ∀ i, y i = M (i 1).val) (i : S128.Idx) :
    (shapeCast S128 y shapeCasts_S1x128_S128 : FVec Ideal S128 .f32) i = M (i 0).val :=
  (shapeCast_apply _ shapeCasts_S1x128_S128 i (ix2 0 (i 0)) (by
    rewrite [Shape.rowMajor_val_two, Shape.rowMajor_val_one]
    show 0 * 128 + (i 0).val = (i 0).val
    omega)).trans (h _)

/-- What the call reads. -/
theorem entry (H : Args m X DQ DK DV G K c) : Holds m c X DQ DK DV G K where
  x := ⟨_, host_x m c, fun i => to_kernel _ H.x i _ _ _ _ _⟩
  dq := ⟨_, host_dq m c, fun i => to_kernel _ H.dq i _ _ _ _ _⟩
  dk := ⟨_, host_dk m c, fun i => to_kernel _ H.dk i _ _ _ _ _⟩
  dv := ⟨_, host_dv m c, fun i => to_kernel _ H.dv i _ _ _ _ _⟩
  g := ⟨_, host_g m c, fun i => row_at H.g i⟩
  k := ⟨_, host_k m c, fun i => row_at H.k i⟩
  cs := ⟨_, host_cs m c, fun i => cs_at i⟩
  sn := ⟨_, host_sn m c, fun i => sn_at i⟩

/-- The results at the end. -/
theorem dz_end (H : Args m X DQ DK DV G K c) (i : S4096x1536.Idx) :
    (atEnd m c main_v66 : FVec Ideal S4096x1536 .bf16) i = dz cosT sgnT X G K DQ DK DV (i 0).val (i 1).val := by
  refine (congrFun (after_dz (exits m c) ((exits_arr m c 8).trans (dz_final (entry H)))) i).trans ?_
  refine (from_kernel (M := fun p q => dz cosT sgnT X G K DQ DK DV (nat p) q) _ (fun _ => rfl) i _ _ _ _ _).trans ?_
  exact congrArg (fun p => dz cosT sgnT X G K DQ DK DV p (i 1).val) (nat_inter _)

theorem dqg_end (H : Args m X DQ DK DV G K c) (i : S128.Idx) :
    (atEnd m c main_v67 : FVec Ideal S128 .f32) i = gains (gq cosT sgnT X DQ) 8 (i 0).val :=
  (congrFun (after_dq (exits m c) ((exits_arr m c 9).trans (dqg_final (entry H)))) i).trans (gains_at (M := gains (gq cosT sgnT X DQ) 8) (fun _ => rfl) i)

theorem dkg_end (H : Args m X DQ DK DV G K c) (i : S128.Idx) :
    (atEnd m c main_v68 : FVec Ideal S128 .f32) i = gains (gk cosT sgnT X DK) 2 (i 0).val :=
  (congrFun (after_dk (exits m c) ((exits_arr m c 10).trans (dkg_final (entry H)))) i).trans (gains_at (M := gains (gk cosT sgnT X DK) 2) (fun _ => rfl) i)

end

end Cert.Kernel10Ideal.Value

end
-- ==== Proof.Prep.Axes.lean ====
/- Arrays of four axes: a sum over the first three, and two arrays joined along the last. Nothing here mentions a program. -/
module

public import proofs.«01_k».proof.Proof.Prep.Rows
public import Idealize.ShloMosaic.Lib.Pipeline.Value
public import Idealize.ShloMosaic.Lib.Pointwise.Reduce

@[expose] public section

noncomputable section

open Idealize.ShloMosaic

namespace Cert.Prep

variable {a b c d : ℕ}

/-- An index of an array of four axes. -/
abbrev at4 (i : Fin a) (j : Fin b) (k : Fin c) (l : Fin d) : (⟨4, ![a, b, c, d]⟩ : Shape).Idx := fun x => match x with
  | ⟨0, _⟩ => i
  | ⟨1, _⟩ => j
  | ⟨2, _⟩ => k
  | ⟨3, _⟩ => l

/-- The sum over the first three axes. -/
theorem sum_three (h : (⟨4, ![a, b, c, d]⟩ : Shape).ReducesTo [0, 1, 2] ⟨1, ![d]⟩) (v : (⟨4, ![a, b, c, d]⟩ : Shape).Idx → EReal)
    (z : EReal) (j : (⟨1, ![d]⟩ : Shape).Idx) :
    Ideal.hostReduceAdd h v z j = z + ∑ i : Fin a, ∑ k : Fin b, ∑ l : Fin c, v (at4 i k l (j 0)) := by
  classical
  refine congrArg (z + ·) ?_
  have fiber (i : (⟨4, ![a, b, c, d]⟩ : Shape).Idx) :
      h.drop i = j ↔ ∃ k : Fin a × Fin b × Fin c, at4 k.1 k.2.1 k.2.2 (j 0) = i := by
    refine ⟨fun e => ⟨⟨i 0, i 1, i 2⟩, funext fun x => ?_⟩, ?_⟩
    · match x with
      | ⟨0, _⟩ => rfl
      | ⟨1, _⟩ => rfl
      | ⟨2, _⟩ => rfl
      | ⟨3, _⟩ => exact Fin.ext (congrArg Fin.val (congrFun e 0)).symm
    · rintro ⟨k, rfl⟩
      funext x
      match x with
      | ⟨0, _⟩ => exact Fin.ext rfl
  have along := Finset.sum_filter_eq_sum_of_fiber (fun i => h.drop i = j) (fun k : Fin a × Fin b × Fin c => at4 k.1 k.2.1 k.2.2 (j 0))
    (fun x y e => Prod.ext (congrFun e 0) (Prod.ext (congrFun e 1) (congrFun e 2))) fiber v
  rw [Fintype.sum_prod_type] at along
  refine Eq.trans ?_ (along.trans (Finset.sum_congr rfl fun _ _ => Fintype.sum_prod_type _))
  exact Finset.sum_congr (Finset.ext fun i => by simp only [Finset.mem_filter]) fun _ _ => rfl

variable {n₁ n₂ n : ℕ}
variable (x₁ : (⟨4, ![a, b, c, n₁]⟩ : Shape).Idx → EReal) (x₂ : (⟨4, ![a, b, c, n₂]⟩ : Shape).Idx → EReal)
variable (h : Shape.Concatenates [⟨4, ![a, b, c, n₁]⟩, ⟨4, ![a, b, c, n₂]⟩] ⟨4, ![a, b, c, n]⟩ 3) (i : (⟨4, ![a, b, c, n]⟩ : Shape).Idx)

/-- Two arrays joined along the last axis. -/
theorem join_left (hi : (i 3).val < n₁) :
    concatenate ⟨4, ![a, b, c, n]⟩ 3 [⟨⟨4, ![a, b, c, n₁]⟩, x₁⟩, ⟨⟨4, ![a, b, c, n₂]⟩, x₂⟩] h i = x₁ (at4 (i 0) (i 1) (i 2) ⟨(i 3).val, hi⟩) :=
  concatenate_pair_apply_left 3 x₁ x₂ h i rfl _ fun x => match x with
    | ⟨0, _⟩ => rfl
    | ⟨1, _⟩ => rfl
    | ⟨2, _⟩ => rfl
    | ⟨3, _⟩ => rfl

theorem join_right (h₁ : n₁ ≤ (i 3).val) (h₂ : (i 3).val - n₁ < n₂) :
    concatenate ⟨4, ![a, b, c, n]⟩ 3 [⟨⟨4, ![a, b, c, n₁]⟩, x₁⟩, ⟨⟨4, ![a, b, c, n₂]⟩, x₂⟩] h i
      = x₂ (at4 (i 0) (i 1) (i 2) ⟨(i 3).val - n₁, h₂⟩) :=
  concatenate_pair_apply_right 3 x₁ x₂ h i rfl rfl _
    (fun x hx => match x, hx with
      | ⟨0, _⟩, _ => rfl
      | ⟨1, _⟩, _ => rfl
      | ⟨2, _⟩, _ => rfl
      | ⟨3, _⟩, hx => absurd (Fin.ext rfl) hx)
    (Nat.sub_add_cancel h₁)

/-- The sums over the sequences, their rows and the heads, in either order. -/
theorem gains_seqs (g : ℕ → ℕ → ℕ → EReal) (m q : ℕ) :
    ∑ s : Fin 2, ∑ p : Fin 2048, ∑ h : Fin m, g (s.val * 2048 + p.val) h.val q = gains g m q := by
  unfold gains
  rw [Finset.sum_range, ← Fintype.sum_prod_type' fun (s : Fin 2) (p : Fin 2048) => ∑ h : Fin m, g (s.val * 2048 + p.val) h.val q,
    Finset.sum_comm]
  refine Finset.sum_congr rfl fun h _ => ?_
  refine Fintype.sum_equiv (finProdFinEquiv (m := 2) (n := 2048)) _ (fun p : Fin (2 * 2048) => g p.val h.val q) fun x => ?_
  refine congrArg (fun p => g p h.val q) ?_
  show x.1.val * 2048 + x.2.val = x.2.val + 2048 * x.1.val
  omega

/-- The turned column, the first of a pair and the second. -/
theorem turn_fst {C S d : ℕ → EReal} {q : ℕ} {s : EReal} (h : q % 64 < 32) (hs : S q = -s) :
    d (q + 32) * s + d q * C q = turn C S d q := by
  unfold turn other
  rw [if_pos h, hs, mul_neg, sub_eq_add_neg, neg_neg, add_comm]

theorem turn_snd {C S d : ℕ → EReal} {q : ℕ} (h : ¬q % 64 < 32) : d q * C q + -d (q - 32) * S q = turn C S d q := by
  unfold turn other
  rw [if_neg h, neg_mul, sub_eq_add_neg]

end Cert.Prep

end
-- ==== Proof.Prep.Turn.lean ====
/- The plain gradient of the norms and rotations, read at an index: the angles and the turned gradients. -/
module

public import proofs.«01_k».proof.Proof.Prep.Axes
public import proofs.«01_k».proof.Proof.Gen.Reference10Ideal.Read

@[expose] public section

set_option maxRecDepth 16384

noncomputable section

open Idealize.ShloMosaic Idealize.ShloMosaic.TcCoe Idealize.SL.Sem

namespace Cert.Reference10Ideal.Read

open Cert.Reference10Ideal Cert.Reference10Ideal.Gen Cert.Mlp Cert.Prep

/-! ## The angles -/

/-- The frequencies. -/
theorem v50_at (i : S32.Idx) : val_main_v50 (F := Ideal) i = freq (i 0).val := by
  simp only [val_main_v50_apply, val_main_v49_apply, val_main_v48_apply, val_main_v47_apply, val_main_v46_apply, val_main_cst_7_apply,
    val_main_cst_8_apply]
  rfl

/-- The angles by the line of the grid, and by the place in the line. -/
theorem v55_at (i : S2048x32.Idx) : val_main_v55 (F := Ideal) i = num ((i 0).val / 64) * freq (i 1).val := by
  simp only [val_main_v55_apply, val_main_v54_apply, val_main_v53_apply, val_main_v52_apply, val_main_v51_apply, v50_at,
    val_main_v40_apply, val_main_v39_apply]
  rfl
theorem v60_at (i : S2048x32.Idx) : val_main_v60 (F := Ideal) i = num ((i 0).val % 64) * freq (i 1).val := by
  simp only [val_main_v60_apply, val_main_v59_apply, val_main_v58_apply, val_main_v57_apply, val_main_v56_apply, v50_at,
    val_main_v44_apply, val_main_v43_apply, val_main_v42_apply]
  refine congrArg (fun n => num n * _) ?_
  show 0 * 64 + (i 0).val % 64 = _
  omega

/-- The cosine and the sine of the angles, at the columns of a head that go by the line and by the place. -/
theorem cos_line {p q d : ℕ} (hq : q < 64) (hd : q % 32 = d) :
    FloatOps.cos (F := Ideal) (φ := .f32) (num (p % 2048 / 64) * freq d) = cosT p q := by
  unfold cosT angle
  rw [if_pos hq, hd]
theorem sin_line {p q d : ℕ} (hq : q < 64) (hd : q % 32 = d) :
    FloatOps.sin (F := Ideal) (φ := .f32) (num (p % 2048 / 64) * freq d) = sinT p q := by
  unfold sinT angle
  rw [if_pos hq, hd]
theorem cos_place {p q d : ℕ} (hq : ¬q < 64) (hd : q % 32 = d) :
    FloatOps.cos (F := Ideal) (φ := .f32) (num (p % 2048 % 64) * freq d) = cosT p q := by
  unfold cosT angle
  rw [if_neg hq, hd]
theorem sin_place {p q d : ℕ} (hq : ¬q < 64) (hd : q % 32 = d) :
    FloatOps.sin (F := Ideal) (φ := .f32) (num (p % 2048 % 64) * freq d) = sinT p q := by
  unfold sinT angle
  rw [if_neg hq, hd]

/-- A row of a sequence. -/
abbrev row (s l : ℕ) : ℕ := s * 2048 + l

theorem row_mod (s : ℕ) {l : ℕ} (h : l < 2048) : row s l % 2048 = l := by unfold row; omega

/-! ## The gradient of the queries through the turn -/

section

variable {x3 : (⟨S4096x1024, .f32⟩ : BufTy).Contents (Elt Ideal)} {DQ : ℕ → ℕ → EReal} (h3 : ∀ i, x3 i = DQ (i 0).val (i 1).val)
include h3

theorem v148_at (i : S2x2048x8x128.Idx) :
    val_main_v148 (F := Ideal) x3 i = head DQ (row (i 0).val (i 1).val) ((i 2).val * 128) (i 3).val := by
  rw [val_main_v148_apply, h3]
  have h0 : (i 0).val < 2 := (i 0).isLt
  have h1 : (i 1).val < 2048 := (i 1).isLt
  have h2 : (i 2).val < 8 := (i 2).isLt
  have h3 : (i 3).val < 128 := (i 3).isLt
  unfold head row
  refine congrArg₂ DQ ?_ ?_
  · show ((((i 0).val * 2048 + (i 1).val) * 8 + (i 2).val) * 128 + (i 3).val) / 1024 = _
    omega
  · show ((((i 0).val * 2048 + (i 1).val) * 8 + (i 2).val) * 128 + (i 3).val) % 1024 = _
    omega

/-- The four runs of columns. -/
theorem v208_at (i : S2x2048x8x32.Idx) : val_main_v208 (F := Ideal) x3 i
    = turn (cosT (row (i 0).val (i 1).val)) (sgnT (row (i 0).val (i 1).val)) (head DQ (row (i 0).val (i 1).val) ((i 2).val * 128)) (i 3).val := by
  have hr := row_mod (i 0).val (show (i 1).val < 2048 from (i 1).isLt)
  have hq : (i 3).val < 32 := (i 3).isLt
  refine Eq.trans ?_ (turn_fst (s := sinT (row (i 0).val (i 1).val) (i 3).val) (by omega) (by unfold sgnT; rw [if_pos (by omega)]))
  rw [← sin_line (d := (i 3).val) (by omega) (by omega), ← cos_line (d := (i 3).val) (by omega) (by omega), hr]
  simp only [val_main_v208_apply, val_main_v207_apply, val_main_v206_apply, val_main_v199_apply, val_main_v198_apply, val_main_v197_apply,
    val_main_v196_apply, val_main_v180_apply, v148_at h3, val_main_v83_apply, val_main_v73_apply, val_main_v62_apply, val_main_v64_apply,
    val_main_v61_apply, val_main_v63_apply, v55_at, Nat.add_comm 32]
  rfl
theorem v205_at (i : S2x2048x8x32.Idx) : val_main_v205 (F := Ideal) x3 i
    = turn (cosT (row (i 0).val (i 1).val)) (sgnT (row (i 0).val (i 1).val)) (head DQ (row (i 0).val (i 1).val) ((i 2).val * 128))
        (32 + (i 3).val) := by
  have hr := row_mod (i 0).val (show (i 1).val < 2048 from (i 1).isLt)
  have hq : (i 3).val < 32 := (i 3).isLt
  refine Eq.trans ?_ (turn_snd (by omega))
  rw [show sgnT (row (i 0).val (i 1).val) (32 + (i 3).val) = sinT (row (i 0).val (i 1).val) (32 + (i 3).val) from if_neg (by omega),
    ← sin_line (d := (i 3).val) (by omega) (by omega), ← cos_line (d := (i 3).val) (by omega) (by omega), hr, Nat.add_sub_cancel_left]
  simp only [val_main_v205_apply, val_main_v204_apply, val_main_v203_apply, val_main_v202_apply, val_main_v201_apply, val_main_v200_apply,
    val_main_v197_apply, val_main_v196_apply, val_main_v180_apply, v148_at h3, val_main_v80_apply, val_main_v76_apply, val_main_v62_apply,
    val_main_v64_apply, val_main_v61_apply, val_main_v63_apply, v55_at]
  rfl
theorem v194_at (i : S2x2048x8x32.Idx) : val_main_v194 (F := Ideal) x3 i
    = turn (cosT (row (i 0).val (i 1).val)) (sgnT (row (i 0).val (i 1).val)) (head DQ (row (i 0).val (i 1).val) ((i 2).val * 128))
        (64 + (i 3).val) := by
  have hr := row_mod (i 0).val (show (i 1).val < 2048 from (i 1).isLt)
  have hq : (i 3).val < 32 := (i 3).isLt
  refine Eq.trans ?_ (turn_fst (s := sinT (row (i 0).val (i 1).val) (64 + (i 3).val)) (by omega) (by unfold sgnT; rw [if_pos (by omega)]))
  rw [← sin_place (d := (i 3).val) (by omega) (by omega), ← cos_place (d := (i 3).val) (by omega) (by omega), hr,
    show 64 + (i 3).val + 32 = 64 + (32 + (i 3).val) by omega]
  simp only [val_main_v194_apply, val_main_v193_apply, val_main_v192_apply, val_main_v185_apply, val_main_v184_apply, val_main_v183_apply,
    val_main_v182_apply, val_main_v181_apply, v148_at h3, val_main_v100_apply, val_main_v90_apply, val_main_v66_apply, val_main_v68_apply,
    val_main_v65_apply, val_main_v67_apply, v60_at]
  rfl
theorem v191_at (i : S2x2048x8x32.Idx) : val_main_v191 (F := Ideal) x3 i
    = turn (cosT (row (i 0).val (i 1).val)) (sgnT (row (i 0).val (i 1).val)) (head DQ (row (i 0).val (i 1).val) ((i 2).val * 128))
        (64 + (32 + (i 3).val)) := by
  have hr := row_mod (i 0).val (show (i 1).val < 2048 from (i 1).isLt)
  have hq : (i 3).val < 32 := (i 3).isLt
  refine Eq.trans ?_ (turn_snd (by omega))
  rw [show sgnT (row (i 0).val (i 1).val) (64 + (32 + (i 3).val)) = sinT (row (i 0).val (i 1).val) (64 + (32 + (i 3).val)) from
      if_neg (by omega),
    ← sin_place (d := (i 3).val) (by omega) (by omega), ← cos_place (d := (i 3).val) (by omega) (by omega), hr,
    show 64 + (32 + (i 3).val) - 32 = 64 + (i 3).val by omega]
  simp only [val_main_v191_apply, val_main_v190_apply, val_main_v189_apply, val_main_v188_apply, val_main_v187_apply, val_main_v186_apply,
    val_main_v183_apply, val_main_v182_apply, val_main_v181_apply, v148_at h3, val_main_v97_apply, val_main_v93_apply, val_main_v66_apply,
    val_main_v68_apply, val_main_v65_apply, val_main_v67_apply, v60_at]
  rfl

/-- A head, its runs of columns joined. -/
theorem v210_at (i : S2x2048x8x128.Idx) : val_main_v210 (F := Ideal) x3 i
    = turn (cosT (row (i 0).val (i 1).val)) (sgnT (row (i 0).val (i 1).val)) (head DQ (row (i 0).val (i 1).val) ((i 2).val * 128)) (i 3).val := by
  have hq : (i 3).val < 128 := (i 3).isLt
  have along {q : ℕ} (e : q = (i 3).val) := congrArg
    (turn (cosT (row (i 0).val (i 1).val)) (sgnT (row (i 0).val (i 1).val)) (head DQ (row (i 0).val (i 1).val) ((i 2).val * 128))) e
  unfold val_main_v210
  by_cases h₁ : (i 3).val < 64
  · refine (join_left _ _ _ i h₁).trans ?_
    unfold val_main_v209
    by_cases h₂ : (i 3).val < 32
    · refine (join_left _ _ _ (at4 (i 0) (i 1) (i 2) ⟨(i 3).val, h₁⟩) h₂).trans ?_
      exact v208_at h3 _
    · refine (join_right _ _ _ _ (by show 32 ≤ (i 3).val; omega) (by show (i 3).val - 32 < 32; omega)).trans ?_
      exact (v205_at h3 _).trans (along (by show 32 + ((i 3).val - 32) = _; omega))
  · refine (join_right _ _ _ i (by omega) (by omega)).trans ?_
    unfold val_main_v195
    by_cases h₂ : (i 3).val - 64 < 32
    · refine (join_left _ _ _ _ h₂).trans ?_
      exact (v194_at h3 _).trans (along (by show 64 + ((i 3).val - 64) = _; omega))
    · refine (join_right _ _ _ _ (by show 32 ≤ (i 3).val - 64; omega) (by show (i 3).val - 64 - 32 < 32; omega)).trans ?_
      exact (v191_at h3 _).trans (along (by show 64 + (32 + ((i 3).val - 64 - 32)) = _; omega))

end

/-! ## The gradient of the keys through the turn -/

section

variable {x4 : (⟨S4096x256, .f32⟩ : BufTy).Contents (Elt Ideal)} {DK : ℕ → ℕ → EReal} (h4 : ∀ i, x4 i = DK (i 0).val (i 1).val)
include h4

theorem v147_at (i : S2x2048x2x128.Idx) :
    val_main_v147 (F := Ideal) x4 i = head DK (row (i 0).val (i 1).val) ((i 2).val * 128) (i 3).val := by
  rw [val_main_v147_apply, h4]
  have h0 : (i 0).val < 2 := (i 0).isLt
  have h1 : (i 1).val < 2048 := (i 1).isLt
  have h2 : (i 2).val < 2 := (i 2).isLt
  have h3 : (i 3).val < 128 := (i 3).isLt
  unfold head row
  refine congrArg₂ DK ?_ ?_
  · show ((((i 0).val * 2048 + (i 1).val) * 2 + (i 2).val) * 128 + (i 3).val) / 256 = _
    omega
  · show ((((i 0).val * 2048 + (i 1).val) * 2 + (i 2).val) * 128 + (i 3).val) % 256 = _
    omega

/-- The four runs of columns. -/
theorem v177_at (i : S2x2048x2x32.Idx) : val_main_v177 (F := Ideal) x4 i
    = turn (cosT (row (i 0).val (i 1).val)) (sgnT (row (i 0).val (i 1).val)) (head DK (row (i 0).val (i 1).val) ((i 2).val * 128)) (i 3).val := by
  have hr := row_mod (i 0).val (show (i 1).val < 2048 from (i 1).isLt)
  have hq : (i 3).val < 32 := (i 3).isLt
  refine Eq.trans ?_ (turn_fst (s := sinT (row (i 0).val (i 1).val) (i 3).val) (by omega) (by unfold sgnT; rw [if_pos (by omega)]))
  rw [← sin_line (d := (i 3).val) (by omega) (by omega), ← cos_line (d := (i 3).val) (by omega) (by omega), hr]
  simp only [val_main_v177_apply, val_main_v176_apply, val_main_v175_apply, val_main_v168_apply, val_main_v167_apply, val_main_v166_apply,
    val_main_v165_apply, val_main_v149_apply, v147_at h4, val_main_v120_apply, val_main_v110_apply, val_main_v62_apply, val_main_v64_apply,
    val_main_v61_apply, val_main_v63_apply, v55_at, Nat.add_comm 32]
  rfl
theorem v174_at (i : S2x2048x2x32.Idx) : val_main_v174 (F := Ideal) x4 i
    = turn (cosT (row (i 0).val (i 1).val)) (sgnT (row (i 0).val (i 1).val)) (head DK (row (i 0).val (i 1).val) ((i 2).val * 128))
        (32 + (i 3).val) := by
  have hr := row_mod (i 0).val (show (i 1).val < 2048 from (i 1).isLt)
  have hq : (i 3).val < 32 := (i 3).isLt
  refine Eq.trans ?_ (turn_snd (by omega))
  rw [show sgnT (row (i 0).val (i 1).val) (32 + (i 3).val) = sinT (row (i 0).val (i 1).val) (32 + (i 3).val) from if_neg (by omega),
    ← sin_line (d := (i 3).val) (by omega) (by omega), ← cos_line (d := (i 3).val) (by omega) (by omega), hr, Nat.add_sub_cancel_left]
  simp only [val_main_v174_apply, val_main_v173_apply, val_main_v172_apply, val_main_v171_apply, val_main_v170_apply, val_main_v169_apply,
    val_main_v166_apply, val_main_v165_apply, val_main_v149_apply, v147_at h4, val_main_v117_apply, val_main_v113_apply, val_main_v62_apply,
    val_main_v64_apply, val_main_v61_apply, val_main_v63_apply, v55_at]
  rfl
theorem v163_at (i : S2x2048x2x32.Idx) : val_main_v163 (F := Ideal) x4 i
    = turn (cosT (row (i 0).val (i 1).val)) (sgnT (row (i 0).val (i 1).val)) (head DK (row (i 0).val (i 1).val) ((i 2).val * 128))
        (64 + (i 3).val) := by
  have hr := row_mod (i 0).val (show (i 1).val < 2048 from (i 1).isLt)
  have hq : (i 3).val < 32 := (i 3).isLt
  refine Eq.trans ?_ (turn_fst (s := sinT (row (i 0).val (i 1).val) (64 + (i 3).val)) (by omega) (by unfold sgnT; rw [if_pos (by omega)]))
  rw [← sin_place (d := (i 3).val) (by omega) (by omega), ← cos_place (d := (i 3).val) (by omega) (by omega), hr,
    show 64 + (i 3).val + 32 = 64 + (32 + (i 3).val) by omega]
  simp only [val_main_v163_apply, val_main_v162_apply, val_main_v161_apply, val_main_v154_apply, val_main_v153_apply, val_main_v152_apply,
    val_main_v151_apply, val_main_v150_apply, v147_at h4, val_main_v137_apply, val_main_v127_apply, val_main_v66_apply, val_main_v68_apply,
    val_main_v65_apply, val_main_v67_apply, v60_at]
  rfl
theorem v160_at (i : S2x2048x2x32.Idx) : val_main_v160 (F := Ideal) x4 i
    = turn (cosT (row (i 0).val (i 1).val)) (sgnT (row (i 0).val (i 1).val)) (head DK (row (i 0).val (i 1).val) ((i 2).val * 128))
        (64 + (32 + (i 3).val)) := by
  have hr := row_mod (i 0).val (show (i 1).val < 2048 from (i 1).isLt)
  have hq : (i 3).val < 32 := (i 3).isLt
  refine Eq.trans ?_ (turn_snd (by omega))
  rw [show sgnT (row (i 0).val (i 1).val) (64 + (32 + (i 3).val)) = sinT (row (i 0).val (i 1).val) (64 + (32 + (i 3).val)) from
      if_neg (by omega),
    ← sin_place (d := (i 3).val) (by omega) (by omega), ← cos_place (d := (i 3).val) (by omega) (by omega), hr,
    show 64 + (32 + (i 3).val) - 32 = 64 + (i 3).val by omega]
  simp only [val_main_v160_apply, val_main_v159_apply, val_main_v158_apply, val_main_v157_apply, val_main_v156_apply, val_main_v155_apply,
    val_main_v152_apply, val_main_v151_apply, val_main_v150_apply, v147_at h4, val_main_v134_apply, val_main_v130_apply, val_main_v66_apply,
    val_main_v68_apply, val_main_v65_apply, val_main_v67_apply, v60_at]
  rfl

/-- A head, its runs of columns joined. -/
theorem v179_at (i : S2x2048x2x128.Idx) : val_main_v179 (F := Ideal) x4 i
    = turn (cosT (row (i 0).val (i 1).val)) (sgnT (row (i 0).val (i 1).val)) (head DK (row (i 0).val (i 1).val) ((i 2).val * 128)) (i 3).val := by
  have hq : (i 3).val < 128 := (i 3).isLt
  have along {q : ℕ} (e : q = (i 3).val) := congrArg
    (turn (cosT (row (i 0).val (i 1).val)) (sgnT (row (i 0).val (i 1).val)) (head DK (row (i 0).val (i 1).val) ((i 2).val * 128))) e
  unfold val_main_v179
  by_cases h₁ : (i 3).val < 64
  · refine (join_left _ _ _ i h₁).trans ?_
    unfold val_main_v178
    by_cases h₂ : (i 3).val < 32
    · refine (join_left _ _ _ (at4 (i 0) (i 1) (i 2) ⟨(i 3).val, h₁⟩) h₂).trans ?_
      exact v177_at h4 _
    · refine (join_right _ _ _ _ (by show 32 ≤ (i 3).val; omega) (by show (i 3).val - 32 < 32; omega)).trans ?_
      exact (v174_at h4 _).trans (along (by show 32 + ((i 3).val - 32) = _; omega))
  · refine (join_right _ _ _ i (by omega) (by omega)).trans ?_
    unfold val_main_v164
    by_cases h₂ : (i 3).val - 64 < 32
    · refine (join_left _ _ _ _ h₂).trans ?_
      exact (v163_at h4 _).trans (along (by show 64 + ((i 3).val - 64) = _; omega))
    · refine (join_right _ _ _ _ (by show 32 ≤ (i 3).val - 64; omega) (by show (i 3).val - 64 - 32 < 32; omega)).trans ?_
      exact (v160_at h4 _).trans (along (by show 64 + (32 + ((i 3).val - 64 - 32)) = _; omega))

end

end Cert.Reference10Ideal.Read

end
-- ==== Proof.Prep.Ref.lean ====
/- The plain gradient of the norms and rotations, read at an index: each result a formula of the arguments' elements. -/
module

public import proofs.«01_k».proof.Proof.Prep.Turn

@[expose] public section

set_option maxRecDepth 16384

noncomputable section

open Idealize.ShloMosaic Idealize.ShloMosaic.TcCoe Idealize.SL.Sem

namespace Cert.Reference10Ideal.Read

open Cert.Reference10Ideal Cert.Reference10Ideal.Gen Cert.Mlp Cert.Prep

/-- The literals. -/
theorem zero_bits : FloatOps.ofBits (F := Ideal) .f32 0x00000000#32 = (0 : EReal) := Ideal.ofBits_zero_f32
theorem half_bits : FloatOps.ofBits (F := Ideal) .f32 0xBF000000#32 = (((-(1 / 2) : ℝ)) : EReal) := lit_half
theorem eps_bits : FloatOps.ofBits (F := Ideal) .f32 0x358637BD#32 = eps := lit_eps

variable {x0 : (⟨S4096x1536, .f32⟩ : BufTy).Contents (Elt Ideal)} {x1 x2 : (⟨S128, .f32⟩ : BufTy).Contents (Elt Ideal)}
variable {x3 : (⟨S4096x1024, .f32⟩ : BufTy).Contents (Elt Ideal)} {x4 x5 : (⟨S4096x256, .f32⟩ : BufTy).Contents (Elt Ideal)}
variable {X DQ DK DV : ℕ → ℕ → EReal} {G K : ℕ → EReal}
variable (h0 : ∀ i, x0 i = X (i 0).val (i 1).val) (h1 : ∀ i, x1 i = G (i 0).val) (h2 : ∀ i, x2 i = K (i 0).val)
variable (h3 : ∀ i, x3 i = DQ (i 0).val (i 1).val) (h4 : ∀ i, x4 i = DK (i 0).val (i 1).val) (h5 : ∀ i, x5 i = DV (i 0).val (i 1).val)

/-! ## The queries -/

section
include h0

theorem v4_at (i : S2x2048x8x128.Idx) :
    val_main_v4 (F := Ideal) x0 i = head X (row (i 0).val (i 1).val) ((i 2).val * 128) (i 3).val := by
  rw [val_main_v4_apply, val_main_v1_apply, val_main_v0_apply, h0]
  have a0 : (i 0).val < 2 := (i 0).isLt
  have a1 : (i 1).val < 2048 := (i 1).isLt
  have a2 : (i 2).val < 8 := (i 2).isLt
  have a3 : (i 3).val < 128 := (i 3).isLt
  have e0 : ((((i 0).val * 2048 + (i 1).val) * 8 + (i 2).val) * 128 + (i 3).val) / 2097152 = (i 0).val := by omega
  have e1 : ((((i 0).val * 2048 + (i 1).val) * 8 + (i 2).val) * 128 + (i 3).val) / 1024 % 2048 = (i 1).val := by omega
  have e2 : ((((i 0).val * 2048 + (i 1).val) * 8 + (i 2).val) * 128 + (i 3).val) % 1024 = (i 2).val * 128 + (i 3).val := by omega
  simp only [e0, e1, e2]
  unfold head row
  refine congrArg₂ X ?_ ?_ <;> omega

/-- The mean square of a head, its inverse root, and the slope of the inverse root. -/
theorem v11_at (i : S2x2048x8x1.Idx) : val_main_v11 (F := Ideal) x0 i = hms (head X (row (i 0).val (i 1).val) ((i 2).val * 128)) := by
  simp only [val_main_v11_apply, val_main_v10_apply, val_main_cst_1_apply, val_main_v9_apply, val_main_v8_apply, val_main_cst_0_apply,
    val_main_v7_apply, val_main_v6_apply, val_main_cst_apply, val_main_v5_apply, v4_at h0, zero_bits, zero_add, eps_bits]
  exact congrArg (· + eps) (div128 _)
theorem v12_at (i : S2x2048x8x1.Idx) : val_main_v12 (F := Ideal) x0 i = hinv (head X (row (i 0).val (i 1).val) ((i 2).val * 128)) := by
  rw [val_main_v12_apply, v11_at h0]
  rfl
theorem v15_at (i : S2x2048x8x1.Idx) : val_main_v15 (F := Ideal) x0 i
    = ((-(1 / 2) : ℝ) : EReal) * (hinv (head X (row (i 0).val (i 1).val) ((i 2).val * 128))
        / hms (head X (row (i 0).val (i 1).val) ((i 2).val * 128))) := by
  rw [val_main_v15_apply, val_main_v14_apply, val_main_cst_2_apply, val_main_v13_apply, v12_at h0, v11_at h0, half_bits]
  exact congrArg (_ * ·) (div_ne (hms_pos _).ne')

include h3

/-- The gradient of the gains. -/
theorem dqg_at (i : S128.Idx) : val_main_v237 (F := Ideal) x0 x3 i = gains (gq cosT sgnT X DQ) 8 (i 0).val := by
  unfold val_main_v237
  refine (sum_three _ _ _ _).trans ?_
  simp only [val_main_cst_15_apply, zero_bits, zero_add, Finset.univ_unique, Finset.sum_singleton, val_main_v234_apply]
  unfold val_main_v233
  refine (sum_three _ _ _ _).trans ?_
  simp only [val_main_cst_14_apply, zero_bits, zero_add]
  refine Eq.trans ?_ (gains_seqs (gq cosT sgnT X DQ) 8 (i 0).val)
  refine Finset.sum_congr rfl fun s _ => Finset.sum_congr rfl fun l _ => Finset.sum_congr rfl fun h _ => ?_
  rw [val_main_v232_apply, val_main_v17_apply, val_main_v16_apply, v12_at h0, v4_at h0, v210_at h3]
  refine (mul_comm _ _).trans ?_
  refine congrArg (dgh (cosT (row s.val l.val)) (sgnT (row s.val l.val)) (head X (row s.val l.val) (h.val * 128))
    (head DQ (row s.val l.val) (h.val * 128))) ?_
  show ((0 * 1 + 0) * 1 + 0) * 128 + (i 0).val = _
  omega

include h1

omit h0 in
/-- The gradient of a head over its root mean square. -/
theorem v236_at (i : S2x2048x8x128.Idx) : val_main_v236 (F := Ideal) x1 x3 i
    = turn (cosT (row (i 0).val (i 1).val)) (sgnT (row (i 0).val (i 1).val)) (head DQ (row (i 0).val (i 1).val) ((i 2).val * 128)) (i 3).val
        * G (i 3).val := by
  rw [val_main_v236_apply, v210_at h3, val_main_v235_apply, val_main_v18_apply, h1]
  rfl

/-- The gradient of a head. -/
theorem v251_at (i : S2x2048x8x128.Idx) : val_main_v251 (F := Ideal) x0 x1 x3 i
    = dhead (cosT (row (i 0).val (i 1).val)) (sgnT (row (i 0).val (i 1).val)) (head X (row (i 0).val (i 1).val) ((i 2).val * 128)) G
        (head DQ (row (i 0).val (i 1).val) ((i 2).val * 128)) (i 3).val := by
  have a0 : (i 0).val < 2 := (i 0).isLt
  have a1 : (i 1).val < 2048 := (i 1).isLt
  have a2 : (i 2).val < 8 := (i 2).isLt
  have e0 : ((((i 0).val * 2048 + (i 1).val) * 8 + (i 2).val) * 1 + 0) / 16384 = (i 0).val := by omega
  have e1 : ((((i 0).val * 2048 + (i 1).val) * 8 + (i 2).val) * 1 + 0) / 8 % 2048 = (i 1).val := by omega
  have e2 : ((((i 0).val * 2048 + (i 1).val) * 8 + (i 2).val) * 1 + 0) % 8 = (i 2).val := by omega
  unfold dhead
  rw [← hnorm_halves]
  simp only [val_main_v251_apply, val_main_v250_apply, val_main_v249_apply, val_main_v248_apply, val_main_v247_apply, val_main_v246_apply,
    val_main_v245_apply, val_main_v244_apply, val_main_cst_17_apply, val_main_cst_18_apply, val_main_v243_apply, val_main_v242_apply,
    val_main_v241_apply, val_main_v240_apply, val_main_v239_apply, val_main_cst_16_apply, val_main_v238_apply, v236_at h1 h3, v4_at h0,
    v12_at h0, v15_at h0, zero_bits, zero_add, Finset.univ_unique, Finset.sum_singleton, Fin.default_eq_zero, Fin.val_zero, e0, e1, e2]
  rw [← div128]
  rfl

theorem v252_at (i : S2x2048x1024.Idx) : val_main_v252 (F := Ideal) x0 x1 x3 i
    = dhead (cosT (row (i 0).val (i 1).val)) (sgnT (row (i 0).val (i 1).val))
        (head X (row (i 0).val (i 1).val) ((i 2).val / 128 * 128)) G
        (head DQ (row (i 0).val (i 1).val) ((i 2).val / 128 * 128)) ((i 2).val % 128) := by
  rw [val_main_v252_apply, v251_at h0 h1 h3]
  have a0 : (i 0).val < 2 := (i 0).isLt
  have a1 : (i 1).val < 2048 := (i 1).isLt
  have a2 : (i 2).val < 1024 := (i 2).isLt
  have e0 : (((i 0).val * 2048 + (i 1).val) * 1024 + (i 2).val) / 2097152 = (i 0).val := by omega
  have e1 : (((i 0).val * 2048 + (i 1).val) * 1024 + (i 2).val) / 1024 % 2048 = (i 1).val := by omega
  have e2 : (((i 0).val * 2048 + (i 1).val) * 1024 + (i 2).val) / 128 % 8 = (i 2).val / 128 := by omega
  have e3 : (((i 0).val * 2048 + (i 1).val) * 1024 + (i 2).val) % 128 = (i 2).val % 128 := by omega
  simp only [e0, e1, e2, e3]

end

/-! ## The keys -/

section
include h0

theorem v21_at (i : S2x2048x2x128.Idx) :
    val_main_v21 (F := Ideal) x0 i = head X (row (i 0).val (i 1).val) (1024 + (i 2).val * 128) (i 3).val := by
  rw [val_main_v21_apply, val_main_v2_apply, val_main_v0_apply, h0]
  have a0 : (i 0).val < 2 := (i 0).isLt
  have a1 : (i 1).val < 2048 := (i 1).isLt
  have a2 : (i 2).val < 2 := (i 2).isLt
  have a3 : (i 3).val < 128 := (i 3).isLt
  have e0 : ((((i 0).val * 2048 + (i 1).val) * 2 + (i 2).val) * 128 + (i 3).val) / 524288 = (i 0).val := by omega
  have e1 : ((((i 0).val * 2048 + (i 1).val) * 2 + (i 2).val) * 128 + (i 3).val) / 256 % 2048 = (i 1).val := by omega
  have e2 : ((((i 0).val * 2048 + (i 1).val) * 2 + (i 2).val) * 128 + (i 3).val) % 256 = (i 2).val * 128 + (i 3).val := by omega
  simp only [e0, e1, e2]
  unfold head row
  refine congrArg₂ X ?_ ?_ <;> omega

/-- The mean square of a head, its inverse root, and the slope of the inverse root. -/
theorem v28_at (i : S2x2048x2x1.Idx) : val_main_v28 (F := Ideal) x0 i = hms (head X (row (i 0).val (i 1).val) (1024 + (i 2).val * 128)) := by
  simp only [val_main_v28_apply, val_main_v27_apply, val_main_cst_5_apply, val_main_v26_apply, val_main_v25_apply, val_main_cst_4_apply,
    val_main_v24_apply, val_main_v23_apply, val_main_cst_3_apply, val_main_v22_apply, v21_at h0, zero_bits, zero_add, eps_bits]
  exact congrArg (· + eps) (div128 _)
theorem v29_at (i : S2x2048x2x1.Idx) : val_main_v29 (F := Ideal) x0 i = hinv (head X (row (i 0).val (i 1).val) (1024 + (i 2).val * 128)) := by
  rw [val_main_v29_apply, v28_at h0]
  rfl
theorem v32_at (i : S2x2048x2x1.Idx) : val_main_v32 (F := Ideal) x0 i
    = ((-(1 / 2) : ℝ) : EReal) * (hinv (head X (row (i 0).val (i 1).val) (1024 + (i 2).val * 128))
        / hms (head X (row (i 0).val (i 1).val) (1024 + (i 2).val * 128))) := by
  rw [val_main_v32_apply, val_main_v31_apply, val_main_cst_6_apply, val_main_v30_apply, v29_at h0, v28_at h0, half_bits]
  exact congrArg (_ * ·) (div_ne (hms_pos _).ne')

include h4

/-- The gradient of the gains. -/
theorem dkg_at (i : S128.Idx) : val_main_v216 (F := Ideal) x0 x4 i = gains (gk cosT sgnT X DK) 2 (i 0).val := by
  unfold val_main_v216
  refine (sum_three _ _ _ _).trans ?_
  simp only [val_main_cst_10_apply, zero_bits, zero_add, Finset.univ_unique, Finset.sum_singleton, val_main_v213_apply]
  unfold val_main_v212
  refine (sum_three _ _ _ _).trans ?_
  simp only [val_main_cst_9_apply, zero_bits, zero_add]
  refine Eq.trans ?_ (gains_seqs (gk cosT sgnT X DK) 2 (i 0).val)
  refine Finset.sum_congr rfl fun s _ => Finset.sum_congr rfl fun l _ => Finset.sum_congr rfl fun h _ => ?_
  rw [val_main_v211_apply, val_main_v34_apply, val_main_v33_apply, v29_at h0, v21_at h0, v179_at h4]
  refine (mul_comm _ _).trans ?_
  refine congrArg (dgh (cosT (row s.val l.val)) (sgnT (row s.val l.val)) (head X (row s.val l.val) (1024 + h.val * 128))
    (head DK (row s.val l.val) (h.val * 128))) ?_
  show ((0 * 1 + 0) * 1 + 0) * 128 + (i 0).val = _
  omega

include h2

omit h0 in
/-- The gradient of a head over its root mean square. -/
theorem v215_at (i : S2x2048x2x128.Idx) : val_main_v215 (F := Ideal) x2 x4 i
    = turn (cosT (row (i 0).val (i 1).val)) (sgnT (row (i 0).val (i 1).val)) (head DK (row (i 0).val (i 1).val) ((i 2).val * 128)) (i 3).val
        * K (i 3).val := by
  rw [val_main_v215_apply, v179_at h4, val_main_v214_apply, val_main_v35_apply, h2]
  rfl

/-- The gradient of a head. -/
theorem v230_at (i : S2x2048x2x128.Idx) : val_main_v230 (F := Ideal) x0 x2 x4 i
    = dhead (cosT (row (i 0).val (i 1).val)) (sgnT (row (i 0).val (i 1).val)) (head X (row (i 0).val (i 1).val) (1024 + (i 2).val * 128)) K
        (head DK (row (i 0).val (i 1).val) ((i 2).val * 128)) (i 3).val := by
  have a0 : (i 0).val < 2 := (i 0).isLt
  have a1 : (i 1).val < 2048 := (i 1).isLt
  have a2 : (i 2).val < 2 := (i 2).isLt
  have e0 : ((((i 0).val * 2048 + (i 1).val) * 2 + (i 2).val) * 1 + 0) / 4096 = (i 0).val := by omega
  have e1 : ((((i 0).val * 2048 + (i 1).val) * 2 + (i 2).val) * 1 + 0) / 2 % 2048 = (i 1).val := by omega
  have e2 : ((((i 0).val * 2048 + (i 1).val) * 2 + (i 2).val) * 1 + 0) % 2 = (i 2).val := by omega
  unfold dhead
  rw [← hnorm_halves]
  simp only [val_main_v230_apply, val_main_v229_apply, val_main_v228_apply, val_main_v227_apply, val_main_v226_apply, val_main_v225_apply,
    val_main_v224_apply, val_main_v223_apply, val_main_cst_12_apply, val_main_cst_13_apply, val_main_v222_apply, val_main_v221_apply,
    val_main_v220_apply, val_main_v219_apply, val_main_v218_apply, val_main_cst_11_apply, val_main_v217_apply, v215_at h2 h4, v21_at h0,
    v29_at h0, v32_at h0, zero_bits, zero_add, Finset.univ_unique, Finset.sum_singleton, Fin.default_eq_zero, Fin.val_zero, e0, e1, e2]
  rw [← div128]
  rfl

theorem v231_at (i : S2x2048x256.Idx) : val_main_v231 (F := Ideal) x0 x2 x4 i
    = dhead (cosT (row (i 0).val (i 1).val)) (sgnT (row (i 0).val (i 1).val))
        (head X (row (i 0).val (i 1).val) (1024 + (i 2).val / 128 * 128)) K
        (head DK (row (i 0).val (i 1).val) ((i 2).val / 128 * 128)) ((i 2).val % 128) := by
  rw [val_main_v231_apply, v230_at h0 h2 h4]
  have a0 : (i 0).val < 2 := (i 0).isLt
  have a1 : (i 1).val < 2048 := (i 1).isLt
  have a2 : (i 2).val < 256 := (i 2).isLt
  have e0 : (((i 0).val * 2048 + (i 1).val) * 256 + (i 2).val) / 524288 = (i 0).val := by omega
  have e1 : (((i 0).val * 2048 + (i 1).val) * 256 + (i 2).val) / 256 % 2048 = (i 1).val := by omega
  have e2 : (((i 0).val * 2048 + (i 1).val) * 256 + (i 2).val) / 128 % 2 = (i 2).val / 128 := by omega
  have e3 : (((i 0).val * 2048 + (i 1).val) * 256 + (i 2).val) % 128 = (i 2).val % 128 := by omega
  simp only [e0, e1, e2, e3]

end

/-! ## The whole gradient -/

include h5 in
theorem v146_at (i : S2x2048x256.Idx) : val_main_v146 (F := Ideal) x5 i = DV (row (i 0).val (i 1).val) (i 2).val := by
  rw [val_main_v146_apply, h5]
  have a2 : (i 2).val < 256 := (i 2).isLt
  unfold row
  refine congrArg₂ DV ?_ ?_
  · show (((i 0).val * 2048 + (i 1).val) * 256 + (i 2).val) / 256 = _
    omega
  · show (((i 0).val * 2048 + (i 1).val) * 256 + (i 2).val) % 256 = _
    omega

include h0 h1 h2 h3 h4 h5 in
theorem v253_at (i : S2x2048x1536.Idx) : val_main_v253 (F := Ideal) x0 x1 x2 x3 x4 x5 i
    = dz cosT sgnT X G K DQ DK DV (row (i 0).val (i 1).val) (i 2).val := by
  have a2 : (i 2).val < 1536 := (i 2).isLt
  unfold val_main_v253 dz
  by_cases c₁ : (i 2).val < 1024
  · rw [if_pos c₁]
    refine (concatenate_apply_piece 2 _ _ i 0 (by exact (by decide : 0 < 3)) S2x2048x1024 (val_main_v252 (F := Ideal) x0 x1 x3) rfl rfl 0 rfl
      (ix3 (i 0) (i 1) ⟨(i 2).val, c₁⟩) (fun b hb => match b, hb with
        | ⟨0, _⟩, _ => rfl
        | ⟨1, _⟩, _ => rfl
        | ⟨2, _⟩, hb => absurd (Fin.ext rfl) hb) (Nat.zero_add _)).trans ?_
    exact v252_at h0 h1 h3 _
  · rw [if_neg c₁]
    by_cases c₂ : (i 2).val < 1280
    · rw [if_pos c₂]
      refine (concatenate_apply_piece 2 _ _ i 1 (by exact (by decide : 1 < 3)) S2x2048x256 (val_main_v231 (F := Ideal) x0 x2 x4) rfl rfl 1024 rfl
        (ix3 (i 0) (i 1) ⟨(i 2).val - 1024, by omega⟩) (fun b hb => match b, hb with
          | ⟨0, _⟩, _ => rfl
          | ⟨1, _⟩, _ => rfl
          | ⟨2, _⟩, hb => absurd (Fin.ext rfl) hb) (Nat.add_sub_cancel' (Nat.le_of_not_lt c₁))).trans ?_
      refine (v231_at h0 h2 h4 _).trans ?_
      show dhead (cosT (row (i 0).val (i 1).val)) (sgnT (row (i 0).val (i 1).val))
        (head X (row (i 0).val (i 1).val) (1024 + ((i 2).val - 1024) / 128 * 128)) K
        (head DK (row (i 0).val (i 1).val) (((i 2).val - 1024) / 128 * 128)) (((i 2).val - 1024) % 128) = _
      rw [show 1024 + ((i 2).val - 1024) / 128 * 128 = (i 2).val / 128 * 128 by omega,
        show ((i 2).val - 1024) / 128 * 128 = (i 2).val / 128 * 128 - 1024 by omega,
        show ((i 2).val - 1024) % 128 = (i 2).val % 128 by omega]
    · rw [if_neg c₂]
      refine (concatenate_apply_piece 2 _ _ i 2 (by exact (by decide : 2 < 3)) S2x2048x256 (val_main_v146 (F := Ideal) x5) rfl rfl 1280 rfl
        (ix3 (i 0) (i 1) ⟨(i 2).val - 1280, by omega⟩) (fun b hb => match b, hb with
          | ⟨0, _⟩, _ => rfl
          | ⟨1, _⟩, _ => rfl
          | ⟨2, _⟩, hb => absurd (Fin.ext rfl) hb) (Nat.add_sub_cancel' (Nat.le_of_not_lt c₂))).trans ?_
      exact v146_at h5 _

include h0 h1 h2 h3 h4 h5 in
/-- The gradient of the products. -/
theorem dz_at (i : S4096x1536.Idx) : val_main_v255 (F := Ideal) x0 x1 x2 x3 x4 x5 i
    = dz cosT sgnT X G K DQ DK DV (i 0).val (i 1).val := by
  rw [val_main_v255_apply, val_main_v254_apply, v253_at h0 h1 h2 h3 h4 h5]
  have a0 : (i 0).val < 4096 := (i 0).isLt
  have a1 : (i 1).val < 1536 := (i 1).isLt
  have e0 : ((i 0).val * 1536 + (i 1).val) / 3145728 = (i 0).val / 2048 := by omega
  have e1 : ((i 0).val * 1536 + (i 1).val) / 1536 % 2048 = (i 0).val % 2048 := by omega
  have e2 : ((i 0).val * 1536 + (i 1).val) % 1536 = (i 1).val := by omega
  have e3 : row ((i 0).val / 2048) ((i 0).val % 2048) = (i 0).val := Nat.div_add_mod' _ _
  simp only [e0, e1, e2, e3]
  rfl

end Cert.Reference10Ideal.Read

end
-- ==== Proof.Prep.Equation.lean ====
/- The equation of the norms' and rotations' gradient: the kernel's call and the plain gradient end with the same three arrays. -/
module

public import proofs.«01_k».proof.Defs
public import proofs.«01_k».proof.Proof.Prep.Run
public import proofs.«01_k».proof.Proof.Prep.Ref
public import proofs.«01_k».proof.Proof.Mlp.Arr
public import proofs.«01_k».proof.Proof.Gen.Reference10Ideal.Run

@[expose] public section

set_option maxRecDepth 16384

noncomputable section

namespace Cert.Prep

open Idealize.ShloMosaic Idealize.ShloMosaic.TcCoe Idealize.SL.Sem Cert.Mlp

/-- The plain gradient ends with its arguments as launched, and has no semaphore to leave set. -/
theorem reference_frame (m : (ℓ : Loc Cert.Reference10Ideal.nD Cert.Reference10Ideal.τ Cert.Reference10Ideal.sig) → Buf (Elt Ideal) ℓ) (g : Dev Cert.Reference10Ideal.nD → PrngReg) :
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0) :=
  (θ_run _ _ _).mono (fun r h => ⟨fun c => (h c).2.2.2, sem_eq_zero_of_no_sems (by decide) r.2⟩) (Cert.Reference10Ideal.Value.run m g)

section
variable (m : (ℓ : Loc Cert.Kernel10Ideal.nD Cert.Kernel10Ideal.τ Cert.Kernel10Ideal.sig) → Buf (Elt Ideal) ℓ)

/-- The elements of the argument arrays on a device. -/
def argX (c : Dev Cert.Kernel10Ideal.nD) : ℕ → ℕ → EReal :=
  elem (n0 := 4096) (n1 := 1536) (m ((c.tc : Thread Cert.Kernel10Ideal.nD Cert.Kernel10Ideal.τ).loc Cert.Kernel10Ideal.main_arg0))
def argQ (c : Dev Cert.Kernel10Ideal.nD) : ℕ → ℕ → EReal :=
  elem (n0 := 4096) (n1 := 1024) (m ((c.tc : Thread Cert.Kernel10Ideal.nD Cert.Kernel10Ideal.τ).loc Cert.Kernel10Ideal.main_arg3))
def argD (c : Dev Cert.Kernel10Ideal.nD) : ℕ → ℕ → EReal :=
  elem (n0 := 4096) (n1 := 256) (m ((c.tc : Thread Cert.Kernel10Ideal.nD Cert.Kernel10Ideal.τ).loc Cert.Kernel10Ideal.main_arg4))
def argV (c : Dev Cert.Kernel10Ideal.nD) : ℕ → ℕ → EReal :=
  elem (n0 := 4096) (n1 := 256) (m ((c.tc : Thread Cert.Kernel10Ideal.nD Cert.Kernel10Ideal.τ).loc Cert.Kernel10Ideal.main_arg5))
def argG (c : Dev Cert.Kernel10Ideal.nD) : ℕ → EReal :=
  elem1 (n := 128) (m ((c.tc : Thread Cert.Kernel10Ideal.nD Cert.Kernel10Ideal.τ).loc Cert.Kernel10Ideal.main_arg1))
def argK (c : Dev Cert.Kernel10Ideal.nD) : ℕ → EReal :=
  elem1 (n := 128) (m ((c.tc : Thread Cert.Kernel10Ideal.nD Cert.Kernel10Ideal.τ).loc Cert.Kernel10Ideal.main_arg2))

/-- The arguments are the arrays of those elements. -/
theorem args (c : Dev Cert.Kernel10Ideal.nD) : Cert.Kernel10Ideal.Value.Args m (argX m c) (argQ m c) (argD m c) (argV m c) (argG m c) (argK m c) c where
  x := elem_at _
  g := elem1_at _
  k := elem1_at _
  dq := elem_at _
  dk := elem_at _
  dv := elem_at _

end

/-- Both programs end with the gradient of the products and the gradients of the two gains. -/
theorem equation : Cert.algebraic_Kernel10Ideal_Reference10Ideal (hKernel10Ideal := Cert.Kernel10Ideal.Gen.facts)
    (hReference10Ideal := Cert.Reference10Ideal.Gen.facts) := by
  intro m g m' g' _ ha
  have H := args m
  refine ⟨fun c => arr (dz cosT sgnT (argX m c) (argG m c) (argK m c) (argQ m c) (argD m c) (argV m c)),
    fun c => arr1 (gains (gq cosT sgnT (argX m c) (argQ m c)) 8), fun c => arr1 (gains (gk cosT sgnT (argX m c) (argD m c)) 2), ?_, ?_⟩
  · refine (θ_run _ _ _).mono (fun r h c => ?_) (Cert.Kernel10Ideal.Value.run m g)
    exact ⟨(h c).1.1.trans (funext fun i => Cert.Kernel10Ideal.Value.dz_end (H c) i), (h c).1.2.1.trans (funext fun i => Cert.Kernel10Ideal.Value.dqg_end (H c) i),
      (h c).1.2.2.trans (funext fun i => Cert.Kernel10Ideal.Value.dkg_end (H c) i), (h c).2⟩
  · refine (θ_run _ _ _).mono (fun r h c => ?_) (Cert.Reference10Ideal.Value.run m' g')
    have e0 : ∀ i : Cert.Reference10Ideal.S4096x1536.Idx, m' ((c.tc : Thread Cert.Reference10Ideal.nD Cert.Reference10Ideal.τ).loc Cert.Reference10Ideal.main_arg0) i
        = argX m c (i 0).val (i 1).val := fun i => (congrFun (ha c).1 i).trans ((H c).x i)
    have e1 : ∀ i : Cert.Reference10Ideal.S128.Idx, m' ((c.tc : Thread Cert.Reference10Ideal.nD Cert.Reference10Ideal.τ).loc Cert.Reference10Ideal.main_arg1) i
        = argG m c (i 0).val := fun i => (congrFun (ha c).2.1 i).trans ((H c).g i)
    have e2 : ∀ i : Cert.Reference10Ideal.S128.Idx, m' ((c.tc : Thread Cert.Reference10Ideal.nD Cert.Reference10Ideal.τ).loc Cert.Reference10Ideal.main_arg2) i
        = argK m c (i 0).val := fun i => (congrFun (ha c).2.2.1 i).trans ((H c).k i)
    have e3 : ∀ i : Cert.Reference10Ideal.S4096x1024.Idx, m' ((c.tc : Thread Cert.Reference10Ideal.nD Cert.Reference10Ideal.τ).loc Cert.Reference10Ideal.main_arg3) i
        = argQ m c (i 0).val (i 1).val := fun i => (congrFun (ha c).2.2.2.1 i).trans ((H c).dq i)
    have e4 : ∀ i : Cert.Reference10Ideal.S4096x256.Idx, m' ((c.tc : Thread Cert.Reference10Ideal.nD Cert.Reference10Ideal.τ).loc Cert.Reference10Ideal.main_arg4) i
        = argD m c (i 0).val (i 1).val := fun i => (congrFun (ha c).2.2.2.2.1 i).trans ((H c).dk i)
    have e5 : ∀ i : Cert.Reference10Ideal.S4096x256.Idx, m' ((c.tc : Thread Cert.Reference10Ideal.nD Cert.Reference10Ideal.τ).loc Cert.Reference10Ideal.main_arg5) i
        = argV m c (i 0).val (i 1).val := fun i => (congrFun (ha c).2.2.2.2.2 i).trans ((H c).dv i)
    refine ⟨(h c).1.trans ?_, (h c).2.1.trans ?_, (h c).2.2.1.trans ?_, (h c).2.2.2⟩
    · exact (Cert.Reference10Ideal.Read.val_main_v255_eq _).trans (funext fun i => Cert.Reference10Ideal.Read.dz_at e0 e1 e2 e3 e4 e5 i)
    · exact (Cert.Reference10Ideal.Read.val_main_v237_eq _).trans (funext fun i => Cert.Reference10Ideal.Read.dqg_at e0 e3 i)
    · exact (Cert.Reference10Ideal.Read.val_main_v216_eq _).trans (funext fun i => Cert.Reference10Ideal.Read.dkg_at e0 e4 i)

end Cert.Prep

end
-- ==== Proof.lean ====
module

public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7.Skeleton
public import proofs.«01_k».proof.Proof.Gen.Kernel7Ideal.Frame
public import proofs.«01_k».proof.Proof.Gen.Kernel7Ideal.Skeleton
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8.Skeleton
public import proofs.«01_k».proof.Proof.Gen.Kernel8Ideal.Frame
public import proofs.«01_k».proof.Proof.Gen.Kernel8Ideal.Skeleton
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9.Skeleton
public import proofs.«01_k».proof.Proof.Gen.Kernel9Ideal.Frame
public import proofs.«01_k».proof.Proof.Gen.Kernel9Ideal.Skeleton
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10.Skeleton
public import proofs.«01_k».proof.Proof.Gen.Kernel10Ideal.Points
public import proofs.«01_k».proof.Proof.Gen.Kernel10Ideal.Launch
public import proofs.«01_k».proof.Proof.Gen.Kernel10Ideal.Frame
public import proofs.«01_k».proof.Proof.Gen.Kernel10Ideal.Skeleton
public import proofs.«01_k».proof.Proof.Gen.Reference10Ideal.Run
public import proofs.«01_k».proof.Proof.Gen.Reference10Ideal.Read
public import proofs.«01_k».proof.Proof.Gen.Reference6Ideal.Run
public import proofs.«01_k».proof.Proof.Gen.Reference6Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Attn.Equation
public import proofs.«01_k».proof.Proof.Mlp.Equation
public import proofs.«01_k».proof.Proof.Head.Equation
public import proofs.«01_k».proof.Proof.In.Equation
public import proofs.«01_k».proof.Proof.Qkv.Equation
public import proofs.«01_k».proof.Proof.Out.Weights
public import proofs.«01_k».proof.Proof.Out.NtEquation
public import proofs.«01_k».proof.Proof.Out.ResEquation
public import proofs.«01_k».proof.Proof.Out.RgEquation
public import proofs.«01_k».proof.Proof.Prep.Equation
public import Idealize.ShloMosaic.Adequacy
public import Idealize.ShloMosaic.Init

@[expose] public section

noncomputable section

namespace Cert.Proof

open Idealize.ShloMosaic Idealize.SL.Sem Cert.Kernel

/-- Every claim. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts, Cert.Pre_finite.facts,
    fun m ρ _ => Cert.Kernel.Gen.frame m ρ,
    fun m ρ _ => Cert.KernelIdeal.Gen.frame m ρ,
    fun m ρ _ => Cert.KernelIdeal.Gen.frame m ρ,
    fun m ρ _ => Cert.Attn.reference_frame m ρ,
    fun m ρ _ => Cert.Attn.reference_frame m ρ,
    fun m ρ _ => Cert.Kernel2.Gen.frame m ρ,
    fun m ρ _ => Cert.Kernel2Ideal.Gen.frame m ρ,
    fun m ρ _ => Cert.Mlp.reference_frame m ρ,
    fun m ρ _ => Cert.Kernel3.Gen.frame m ρ,
    fun m ρ _ => Cert.Kernel3Ideal.Gen.frame m ρ,
    fun m ρ _ => Cert.Head.reference_frame m ρ,
    fun m ρ _ => Cert.Kernel4.Gen.frame m ρ,
    fun m ρ _ => Cert.Kernel4Ideal.Gen.frame m ρ,
    fun m ρ _ => Cert.In.reference_frame m ρ,
    fun m ρ _ => Cert.Kernel5.Gen.frame m ρ,
    fun m ρ _ => Cert.Kernel5Ideal.Gen.frame m ρ,
    fun m ρ _ => Cert.Qkv.reference_frame m ρ,
    fun m ρ _ => Cert.Kernel6.Gen.frame m ρ,
    fun m ρ _ => Cert.Kernel6Ideal.Gen.frame m ρ,
    fun m ρ _ => Cert.Out.reference_frame m ρ,
    fun m ρ _ => Cert.Kernel7.Rows.unchanged m ρ,
    fun m ρ _ => Cert.Kernel7Ideal.Rows.unchanged m ρ,
    fun m ρ _ => Cert.Out.Nt.reference_frame m ρ,
    fun m ρ _ => Cert.Kernel8.Rows.unchanged m ρ,
    fun m ρ _ => Cert.Kernel8Ideal.Rows.unchanged m ρ,
    fun m ρ _ => Cert.Out.Res.reference_frame m ρ,
    fun m ρ _ => Cert.Kernel9.Rows.unchanged m ρ,
    fun m ρ _ => Cert.Kernel9Ideal.Rows.unchanged m ρ,
    fun m ρ _ => Cert.Out.Rg.reference_frame m ρ,
    fun m ρ _ => Cert.Kernel10.Gen.frame m ρ,
    fun m ρ _ => Cert.Kernel10Ideal.Gen.frame m ρ,
    fun m ρ _ => Cert.Prep.reference_frame m ρ,
    ⟨IdealRules.named_const.statement Cert.KernelIdeal.κ "exp2_scale" .f32 0x3E0293EE#32 _ rfl,
      IdealRules.named_const.statement Cert.KernelIdeal.κ "scale" .f32 0x3DB504F3#32 _ rfl⟩,
    Cert.Attn.equation,
    trivial,
    Cert.Mlp.equation,
    trivial,
    Cert.Head.equation,
    trivial,
    Cert.In.equation,
    trivial,
    Cert.Qkv.equation,
    trivial,
    Cert.Out.equation,
    trivial,
    Cert.Out.Nt.equation,
    trivial,
    Cert.Out.Res.equation,
    trivial,
    Cert.Out.Rg.equation,
    trivial,
    Cert.Prep.equation⟩

end Cert.Proof

end
